-- ==== Defs.lean ====
def Pre_ShareHalves (m : (ℓ : Loc Cert.ShareHalves.nD Cert.ShareHalves.τ Cert.ShareHalves.sig) → Buf (Elt Bits) ℓ) : Prop :=
  True

def Pre_ShareHalvesIdeal (m : (ℓ : Loc Cert.ShareHalvesIdeal.nD Cert.ShareHalvesIdeal.τ Cert.ShareHalvesIdeal.sig) → Buf (Elt Ideal) ℓ) : Prop :=
  True

def Pre_ShareHalvesRefIdeal (m : (ℓ : Loc Cert.ShareHalvesRefIdeal.nD Cert.ShareHalvesRefIdeal.τ Cert.ShareHalvesRefIdeal.sig) → Buf (Elt Ideal) ℓ) : Prop :=
  True

def Pre_ShareHalvesRef (m : (ℓ : Loc Cert.ShareHalvesRef.nD Cert.ShareHalvesRef.τ Cert.ShareHalvesRef.sig) → Buf (Elt Bits) ℓ) : Prop :=
  True

def Pre_ExchangeChips (m : (ℓ : Loc Cert.ExchangeChips.nD Cert.ExchangeChips.τ Cert.ExchangeChips.sig) → Buf (Elt Bits) ℓ) : Prop :=
  True

def Pre_ExchangeChipsIdeal (m : (ℓ : Loc Cert.ExchangeChipsIdeal.nD Cert.ExchangeChipsIdeal.τ Cert.ExchangeChipsIdeal.sig) → Buf (Elt Ideal) ℓ) : Prop :=
  True

def Pre_ExchangeChipsRefIdeal (m : (ℓ : Loc Cert.ExchangeChipsRefIdeal.nD Cert.ExchangeChipsRefIdeal.τ Cert.ExchangeChipsRefIdeal.sig) → Buf (Elt Ideal) ℓ) : Prop :=
  True

def Pre_ExchangeChipsRef (m : (ℓ : Loc Cert.ExchangeChipsRef.nD Cert.ExchangeChipsRef.τ Cert.ExchangeChipsRef.sig) → Buf (Elt Bits) ℓ) : Prop :=
  True

def Pre_ExchangeSiblings (m : (ℓ : Loc Cert.ExchangeSiblings.nD Cert.ExchangeSiblings.τ Cert.ExchangeSiblings.sig) → Buf (Elt Bits) ℓ) : Prop :=
  True

def Pre_ExchangeSiblingsIdeal (m : (ℓ : Loc Cert.ExchangeSiblingsIdeal.nD Cert.ExchangeSiblingsIdeal.τ Cert.ExchangeSiblingsIdeal.sig) → Buf (Elt Ideal) ℓ) : Prop :=
  True

def Pre_ExchangeSiblingsRefIdeal (m : (ℓ : Loc Cert.ExchangeSiblingsRefIdeal.nD Cert.ExchangeSiblingsRefIdeal.τ Cert.ExchangeSiblingsRefIdeal.sig) → Buf (Elt Ideal) ℓ) : Prop :=
  True

def Pre_ExchangeSiblingsRef (m : (ℓ : Loc Cert.ExchangeSiblingsRef.nD Cert.ExchangeSiblingsRef.τ Cert.ExchangeSiblingsRef.sig) → Buf (Elt Bits) ℓ) : Prop :=
  True

def Pre_GatherWeights (m : (ℓ : Loc Cert.GatherWeights.nD Cert.GatherWeights.τ Cert.GatherWeights.sig) → Buf (Elt Bits) ℓ) : Prop :=
  True

def Pre_GatherWeightsIdeal (m : (ℓ : Loc Cert.GatherWeightsIdeal.nD Cert.GatherWeightsIdeal.τ Cert.GatherWeightsIdeal.sig) → Buf (Elt Ideal) ℓ) : Prop :=
  True

def Pre_GatherWeightsRefIdeal (m : (ℓ : Loc Cert.GatherWeightsRefIdeal.nD Cert.GatherWeightsRefIdeal.τ Cert.GatherWeightsRefIdeal.sig) → Buf (Elt Ideal) ℓ) : Prop :=
  True

def Pre_GatherWeightsRef (m : (ℓ : Loc Cert.GatherWeightsRef.nD Cert.GatherWeightsRef.τ Cert.GatherWeightsRef.sig) → Buf (Elt Bits) ℓ) : Prop :=
  True

def Pre_SharePieces (m : (ℓ : Loc Cert.SharePieces.nD Cert.SharePieces.τ Cert.SharePieces.sig) → Buf (Elt Bits) ℓ) : Prop :=
  True

def Pre_SharePiecesIdeal (m : (ℓ : Loc Cert.SharePiecesIdeal.nD Cert.SharePiecesIdeal.τ Cert.SharePiecesIdeal.sig) → Buf (Elt Ideal) ℓ) : Prop :=
  True

def Pre_SharePiecesRefIdeal (m : (ℓ : Loc Cert.SharePiecesRefIdeal.nD Cert.SharePiecesRefIdeal.τ Cert.SharePiecesRefIdeal.sig) → Buf (Elt Ideal) ℓ) : Prop :=
  True

def Pre_ReduceSmall (m : (ℓ : Loc Cert.ReduceSmall.nD Cert.ReduceSmall.τ Cert.ReduceSmall.sig) → Buf (Elt Bits) ℓ) : Prop :=
  True

def Pre_ReduceSmallIdeal (m : (ℓ : Loc Cert.ReduceSmallIdeal.nD Cert.ReduceSmallIdeal.τ Cert.ReduceSmallIdeal.sig) → Buf (Elt Ideal) ℓ) : Prop :=
  True

def Pre_ReduceSmallRefIdeal (m : (ℓ : Loc Cert.ReduceSmallRefIdeal.nD Cert.ReduceSmallRefIdeal.τ Cert.ReduceSmallRefIdeal.sig) → Buf (Elt Ideal) ℓ) : Prop :=
  True

def Pre_MetaStep (m : (ℓ : Loc Cert.MetaStep.nD Cert.MetaStep.τ Cert.MetaStep.sig) → Buf (Elt Bits) ℓ) : Prop :=
  True

def Pre_MetaStepIdeal (m : (ℓ : Loc Cert.MetaStepIdeal.nD Cert.MetaStepIdeal.τ Cert.MetaStepIdeal.sig) → Buf (Elt Ideal) ℓ) : Prop :=
  True

def Pre_MetaStepRefIdeal (m : (ℓ : Loc Cert.MetaStepRefIdeal.nD Cert.MetaStepRefIdeal.τ Cert.MetaStepRefIdeal.sig) → Buf (Elt Ideal) ℓ) : Prop :=
  True

def Pre_NormStep (m : (ℓ : Loc Cert.NormStep.nD Cert.NormStep.τ Cert.NormStep.sig) → Buf (Elt Bits) ℓ) : Prop :=
  True

def Pre_NormStepIdeal (m : (ℓ : Loc Cert.NormStepIdeal.nD Cert.NormStepIdeal.τ Cert.NormStepIdeal.sig) → Buf (Elt Ideal) ℓ) : Prop :=
  True

def Pre_NormStepRefIdeal (m : (ℓ : Loc Cert.NormStepRefIdeal.nD Cert.NormStepRefIdeal.τ Cert.NormStepRefIdeal.sig) → Buf (Elt Ideal) ℓ) : Prop :=
  True

def Pre_WInStep (m : (ℓ : Loc Cert.WInStep.nD Cert.WInStep.τ Cert.WInStep.sig) → Buf (Elt Bits) ℓ) : Prop :=
  True

def Pre_WInStepIdeal (m : (ℓ : Loc Cert.WInStepIdeal.nD Cert.WInStepIdeal.τ Cert.WInStepIdeal.sig) → Buf (Elt Ideal) ℓ) : Prop :=
  True

def Pre_WInStepRefIdeal (m : (ℓ : Loc Cert.WInStepRefIdeal.nD Cert.WInStepRefIdeal.τ Cert.WInStepRefIdeal.sig) → Buf (Elt Ideal) ℓ) : Prop :=
  True

def Pre_ConvQkvStep (m : (ℓ : Loc Cert.ConvQkvStep.nD Cert.ConvQkvStep.τ Cert.ConvQkvStep.sig) → Buf (Elt Bits) ℓ) : Prop :=
  True

def Pre_ConvQkvStepIdeal (m : (ℓ : Loc Cert.ConvQkvStepIdeal.nD Cert.ConvQkvStepIdeal.τ Cert.ConvQkvStepIdeal.sig) → Buf (Elt Ideal) ℓ) : Prop :=
  True

def Pre_ConvQkvStepRefIdeal (m : (ℓ : Loc Cert.ConvQkvStepRefIdeal.nD Cert.ConvQkvStepRefIdeal.τ Cert.ConvQkvStepRefIdeal.sig) → Buf (Elt Ideal) ℓ) : Prop :=
  True

def Pre_ALogStep (m : (ℓ : Loc Cert.ALogStep.nD Cert.ALogStep.τ Cert.ALogStep.sig) → Buf (Elt Bits) ℓ) : Prop :=
  True

def Pre_ALogStepIdeal (m : (ℓ : Loc Cert.ALogStepIdeal.nD Cert.ALogStepIdeal.τ Cert.ALogStepIdeal.sig) → Buf (Elt Ideal) ℓ) : Prop :=
  True

def Pre_ALogStepRefIdeal (m : (ℓ : Loc Cert.ALogStepRefIdeal.nD Cert.ALogStepRefIdeal.τ Cert.ALogStepRefIdeal.sig) → Buf (Elt Ideal) ℓ) : Prop :=
  True

def Pre_GdnNormStep (m : (ℓ : Loc Cert.GdnNormStep.nD Cert.GdnNormStep.τ Cert.GdnNormStep.sig) → Buf (Elt Bits) ℓ) : Prop :=
  True

def Pre_GdnNormStepIdeal (m : (ℓ : Loc Cert.GdnNormStepIdeal.nD Cert.GdnNormStepIdeal.τ Cert.GdnNormStepIdeal.sig) → Buf (Elt Ideal) ℓ) : Prop :=
  True

def Pre_GdnNormStepRefIdeal (m : (ℓ : Loc Cert.GdnNormStepRefIdeal.nD Cert.GdnNormStepRefIdeal.τ Cert.GdnNormStepRefIdeal.sig) → Buf (Elt Ideal) ℓ) : Prop :=
  True

def Pre_ConvScStep (m : (ℓ : Loc Cert.ConvScStep.nD Cert.ConvScStep.τ Cert.ConvScStep.sig) → Buf (Elt Bits) ℓ) : Prop :=
  True

def Pre_ConvScStepIdeal (m : (ℓ : Loc Cert.ConvScStepIdeal.nD Cert.ConvScStepIdeal.τ Cert.ConvScStepIdeal.sig) → Buf (Elt Ideal) ℓ) : Prop :=
  True

def Pre_ConvScStepRefIdeal (m : (ℓ : Loc Cert.ConvScStepRefIdeal.nD Cert.ConvScStepRefIdeal.τ Cert.ConvScStepRefIdeal.sig) → Buf (Elt Ideal) ℓ) : Prop :=
  True

def Pre_WOutStep (m : (ℓ : Loc Cert.WOutStep.nD Cert.WOutStep.τ Cert.WOutStep.sig) → Buf (Elt Bits) ℓ) : Prop :=
  True

def Pre_WOutStepIdeal (m : (ℓ : Loc Cert.WOutStepIdeal.nD Cert.WOutStepIdeal.τ Cert.WOutStepIdeal.sig) → Buf (Elt Ideal) ℓ) : Prop :=
  True

def Pre_WOutStepRefIdeal (m : (ℓ : Loc Cert.WOutStepRefIdeal.nD Cert.WOutStepRefIdeal.τ Cert.WOutStepRefIdeal.sig) → Buf (Elt Ideal) ℓ) : Prop :=
  True

def Pre_WGateStep (m : (ℓ : Loc Cert.WGateStep.nD Cert.WGateStep.τ Cert.WGateStep.sig) → Buf (Elt Bits) ℓ) : Prop :=
  True

def Pre_WGateStepIdeal (m : (ℓ : Loc Cert.WGateStepIdeal.nD Cert.WGateStepIdeal.τ Cert.WGateStepIdeal.sig) → Buf (Elt Ideal) ℓ) : Prop :=
  True

def Pre_WGateStepRefIdeal (m : (ℓ : Loc Cert.WGateStepRefIdeal.nD Cert.WGateStepRefIdeal.τ Cert.WGateStepRefIdeal.sig) → Buf (Elt Ideal) ℓ) : Prop :=
  True

def Pre_WDownStep (m : (ℓ : Loc Cert.WDownStep.nD Cert.WDownStep.τ Cert.WDownStep.sig) → Buf (Elt Bits) ℓ) : Prop :=
  True

def Pre_WDownStepIdeal (m : (ℓ : Loc Cert.WDownStepIdeal.nD Cert.WDownStepIdeal.τ Cert.WDownStepIdeal.sig) → Buf (Elt Ideal) ℓ) : Prop :=
  True

def Pre_WDownStepRefIdeal (m : (ℓ : Loc Cert.WDownStepRefIdeal.nD Cert.WDownStepRefIdeal.τ Cert.WDownStepRefIdeal.sig) → Buf (Elt Ideal) ℓ) : Prop :=
  True

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradRefIdeal (m : (ℓ : Loc Cert.InputGradRefIdeal.nD Cert.InputGradRefIdeal.τ Cert.InputGradRefIdeal.sig) → Buf (Elt Ideal) ℓ) : Prop :=
  True

def Pre_MidGrad (m : (ℓ : Loc Cert.MidGrad.nD Cert.MidGrad.τ Cert.MidGrad.sig) → Buf (Elt Bits) ℓ) : Prop :=
  True

def Pre_MidGradIdeal (m : (ℓ : Loc Cert.MidGradIdeal.nD Cert.MidGradIdeal.τ Cert.MidGradIdeal.sig) → Buf (Elt Ideal) ℓ) : Prop :=
  True

def Pre_MidGradRefIdeal (m : (ℓ : Loc Cert.MidGradRefIdeal.nD Cert.MidGradRefIdeal.τ Cert.MidGradRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SwigluGrad (m : (ℓ : Loc Cert.SwigluGrad.nD Cert.SwigluGrad.τ Cert.SwigluGrad.sig) → Buf (Elt Bits) ℓ) : Prop :=
  True

def Pre_SwigluGradIdeal (m : (ℓ : Loc Cert.SwigluGradIdeal.nD Cert.SwigluGradIdeal.τ Cert.SwigluGradIdeal.sig) → Buf (Elt Ideal) ℓ) : Prop :=
  True

def Pre_SwigluGradRefIdeal (m : (ℓ : Loc Cert.SwigluGradRefIdeal.nD Cert.SwigluGradRefIdeal.τ Cert.SwigluGradRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_ConvV (m : (ℓ : Loc Cert.ConvV.nD Cert.ConvV.τ Cert.ConvV.sig) → Buf (Elt Bits) ℓ) : Prop :=
  True

def Pre_ConvVIdeal (m : (ℓ : Loc Cert.ConvVIdeal.nD Cert.ConvVIdeal.τ Cert.ConvVIdeal.sig) → Buf (Elt Ideal) ℓ) : Prop :=
  True

def Pre_ConvVRefIdeal (m : (ℓ : Loc Cert.ConvVRefIdeal.nD Cert.ConvVRefIdeal.τ Cert.ConvVRefIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKRefIdeal (m : (ℓ : Loc Cert.ConvKRefIdeal.nD Cert.ConvKRefIdeal.τ Cert.ConvKRefIdeal.sig) → Buf (Elt Ideal) ℓ) : Prop :=
  True

def Pre_ConvQ (m : (ℓ : Loc Cert.ConvQ.nD Cert.ConvQ.τ Cert.ConvQ.sig) → Buf (Elt Bits) ℓ) : Prop :=
  True

def Pre_ConvQIdeal (m : (ℓ : Loc Cert.ConvQIdeal.nD Cert.ConvQIdeal.τ Cert.ConvQIdeal.sig) → Buf (Elt Ideal) ℓ) : Prop :=
  True

def Pre_ConvQRefIdeal (m : (ℓ : Loc Cert.ConvQRefIdeal.nD Cert.ConvQRefIdeal.τ Cert.ConvQRefIdeal.sig) → Buf (Elt Ideal) ℓ) : Prop :=
  True

def Pre_MmProj (m : (ℓ : Loc Cert.MmProj.nD Cert.MmProj.τ Cert.MmProj.sig) → Buf (Elt Bits) ℓ) : Prop :=
  True

def Pre_MmProjIdeal (m : (ℓ : Loc Cert.MmProjIdeal.nD Cert.MmProjIdeal.τ Cert.MmProjIdeal.sig) → Buf (Elt Ideal) ℓ) : Prop :=
  True

def Pre_MmProjRefIdeal (m : (ℓ : Loc Cert.MmProjRefIdeal.nD Cert.MmProjRefIdeal.τ Cert.MmProjRefIdeal.sig) → Buf (Elt Ideal) ℓ) : Prop :=
  True

def Pre_MmMix (m : (ℓ : Loc Cert.MmMix.nD Cert.MmMix.τ Cert.MmMix.sig) → Buf (Elt Bits) ℓ) : Prop :=
  True

def Pre_MmMixIdeal (m : (ℓ : Loc Cert.MmMixIdeal.nD Cert.MmMixIdeal.τ Cert.MmMixIdeal.sig) → Buf (Elt Ideal) ℓ) : Prop :=
  True

def Pre_MmMixRefIdeal (m : (ℓ : Loc Cert.MmMixRefIdeal.nD Cert.MmMixRefIdeal.τ Cert.MmMixRefIdeal.sig) → Buf (Elt Ideal) ℓ) : Prop :=
  True

def Pre_MmGateUp (m : (ℓ : Loc Cert.MmGateUp.nD Cert.MmGateUp.τ Cert.MmGateUp.sig) → Buf (Elt Bits) ℓ) : Prop :=
  True

def Pre_MmGateUpIdeal (m : (ℓ : Loc Cert.MmGateUpIdeal.nD Cert.MmGateUpIdeal.τ Cert.MmGateUpIdeal.sig) → Buf (Elt Ideal) ℓ) : Prop :=
  True

def Pre_MmGateUpRefIdeal (m : (ℓ : Loc Cert.MmGateUpRefIdeal.nD Cert.MmGateUpRefIdeal.τ Cert.MmGateUpRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_MmDact (m : (ℓ : Loc Cert.MmDact.nD Cert.MmDact.τ Cert.MmDact.sig) → Buf (Elt Bits) ℓ) : Prop :=
  True

def Pre_MmDactIdeal (m : (ℓ : Loc Cert.MmDactIdeal.nD Cert.MmDactIdeal.τ Cert.MmDactIdeal.sig) → Buf (Elt Ideal) ℓ) : Prop :=
  True

def Pre_MmDactRefIdeal (m : (ℓ : Loc Cert.MmDactRefIdeal.nD Cert.MmDactRefIdeal.τ Cert.MmDactRefIdeal.sig) → Buf (Elt Ideal) ℓ) : Prop :=
  True

def Pre_MmDwDown (m : (ℓ : Loc Cert.MmDwDown.nD Cert.MmDwDown.τ Cert.MmDwDown.sig) → Buf (Elt Bits) ℓ) : Prop :=
  True

def Pre_MmDwDownIdeal (m : (ℓ : Loc Cert.MmDwDownIdeal.nD Cert.MmDwDownIdeal.τ Cert.MmDwDownIdeal.sig) → Buf (Elt Ideal) ℓ) : Prop :=
  True

def Pre_MmDwDownRefIdeal (m : (ℓ : Loc Cert.MmDwDownRefIdeal.nD Cert.MmDwDownRefIdeal.τ Cert.MmDwDownRefIdeal.sig) → Buf (Elt Ideal) ℓ) : Prop :=
  True

def Pre_MmDwGateUp (m : (ℓ : Loc Cert.MmDwGateUp.nD Cert.MmDwGateUp.τ Cert.MmDwGateUp.sig) → Buf (Elt Bits) ℓ) : Prop :=
  True

def Pre_MmDwGateUpIdeal (m : (ℓ : Loc Cert.MmDwGateUpIdeal.nD Cert.MmDwGateUpIdeal.τ Cert.MmDwGateUpIdeal.sig) → Buf (Elt Ideal) ℓ) : Prop :=
  True

def Pre_MmDwGateUpRefIdeal (m : (ℓ : Loc Cert.MmDwGateUpRefIdeal.nD Cert.MmDwGateUpRefIdeal.τ Cert.MmDwGateUpRefIdeal.sig) → Buf (Elt Ideal) ℓ) : Prop :=
  True

def Pre_MmDu2 (m : (ℓ : Loc Cert.MmDu2.nD Cert.MmDu2.τ Cert.MmDu2.sig) → Buf (Elt Bits) ℓ) : Prop :=
  True

def Pre_MmDu2Ideal (m : (ℓ : Loc Cert.MmDu2Ideal.nD Cert.MmDu2Ideal.τ Cert.MmDu2Ideal.sig) → Buf (Elt Ideal) ℓ) : Prop :=
  True

def Pre_MmDu2RefIdeal (m : (ℓ : Loc Cert.MmDu2RefIdeal.nD Cert.MmDu2RefIdeal.τ Cert.MmDu2RefIdeal.sig) → Buf (Elt Ideal) ℓ) : Prop :=
  True

def Pre_MmDcat (m : (ℓ : Loc Cert.MmDcat.nD Cert.MmDcat.τ Cert.MmDcat.sig) → Buf (Elt Bits) ℓ) : Prop :=
  True

def Pre_MmDcatIdeal (m : (ℓ : Loc Cert.MmDcatIdeal.nD Cert.MmDcatIdeal.τ Cert.MmDcatIdeal.sig) → Buf (Elt Ideal) ℓ) : Prop :=
  True

def Pre_MmDcatRefIdeal (m : (ℓ : Loc Cert.MmDcatRefIdeal.nD Cert.MmDcatRefIdeal.τ Cert.MmDcatRefIdeal.sig) → Buf (Elt Ideal) ℓ) : Prop :=
  True

def Pre_MmDwOut (m : (ℓ : Loc Cert.MmDwOut.nD Cert.MmDwOut.τ Cert.MmDwOut.sig) → Buf (Elt Bits) ℓ) : Prop :=
  True

def Pre_MmDwOutIdeal (m : (ℓ : Loc Cert.MmDwOutIdeal.nD Cert.MmDwOutIdeal.τ Cert.MmDwOutIdeal.sig) → Buf (Elt Ideal) ℓ) : Prop :=
  True

def Pre_MmDwOutRefIdeal (m : (ℓ : Loc Cert.MmDwOutRefIdeal.nD Cert.MmDwOutRefIdeal.τ Cert.MmDwOutRefIdeal.sig) → Buf (Elt Ideal) ℓ) : Prop :=
  True

def Pre_MmDwIn (m : (ℓ : Loc Cert.MmDwIn.nD Cert.MmDwIn.τ Cert.MmDwIn.sig) → Buf (Elt Bits) ℓ) : Prop :=
  True

def Pre_MmDwInIdeal (m : (ℓ : Loc Cert.MmDwInIdeal.nD Cert.MmDwInIdeal.τ Cert.MmDwInIdeal.sig) → Buf (Elt Ideal) ℓ) : Prop :=
  True

def Pre_MmDwInRefIdeal (m : (ℓ : Loc Cert.MmDwInRefIdeal.nD Cert.MmDwInRefIdeal.τ Cert.MmDwInRefIdeal.sig) → Buf (Elt Ideal) ℓ) : Prop :=
  True

def Pre_MmDu1 (m : (ℓ : Loc Cert.MmDu1.nD Cert.MmDu1.τ Cert.MmDu1.sig) → Buf (Elt Bits) ℓ) : Prop :=
  True

def Pre_MmDu1Ideal (m : (ℓ : Loc Cert.MmDu1Ideal.nD Cert.MmDu1Ideal.τ Cert.MmDu1Ideal.sig) → Buf (Elt Ideal) ℓ) : Prop :=
  True

def Pre_MmDu1RefIdeal (m : (ℓ : Loc Cert.MmDu1RefIdeal.nD Cert.MmDu1RefIdeal.τ Cert.MmDu1RefIdeal.sig) → Buf (Elt Ideal) ℓ) : Prop :=
  True

def quiescent_ShareHalves [hShareHalves : Cert.ShareHalves.Facts] : Prop :=
  ∀ (m : (ℓ : Loc Cert.ShareHalves.nD Cert.ShareHalves.τ Cert.ShareHalves.sig) → Buf (Elt Bits) ℓ) (g : Dev Cert.ShareHalves.nD → PrngReg), Pre_ShareHalves m →
    θ_run (Cert.ShareHalves.defs (F := Bits)) (onTc (τ := Cert.ShareHalves.τ) (Cert.ShareHalves.main (F := Bits))) ⟨m, fun _ => 0, g⟩ (fun r => (∀ c : Dev Cert.ShareHalves.nD,
      r.2.mem ((c.tc : Thread Cert.ShareHalves.nD Cert.ShareHalves.τ).loc Cert.ShareHalves.main_arg0) = m ((c.tc : Thread Cert.ShareHalves.nD Cert.ShareHalves.τ).loc Cert.ShareHalves.main_arg0))
      ∧ r.2.sem = fun _ => 0)

def quiescent_ShareHalvesIdeal [hShareHalvesIdeal : Cert.ShareHalvesIdeal.Facts] : Prop :=
  ∀ (m : (ℓ : Loc Cert.ShareHalvesIdeal.nD Cert.ShareHalvesIdeal.τ Cert.ShareHalvesIdeal.sig) → Buf (Elt Ideal) ℓ) (g : Dev Cert.ShareHalvesIdeal.nD → PrngReg), Pre_ShareHalvesIdeal m →
    θ_run (Cert.ShareHalvesIdeal.defs (F := Ideal)) (onTc (τ := Cert.ShareHalvesIdeal.τ) (Cert.ShareHalvesIdeal.main (F := Ideal))) ⟨m, fun _ => 0, g⟩ (fun r => (∀ c : Dev Cert.ShareHalvesIdeal.nD,
      r.2.mem ((c.tc : Thread Cert.ShareHalvesIdeal.nD Cert.ShareHalvesIdeal.τ).loc Cert.ShareHalvesIdeal.main_arg0) = m ((c.tc : Thread Cert.ShareHalvesIdeal.nD Cert.ShareHalvesIdeal.τ).loc Cert.ShareHalvesIdeal.main_arg0))
      ∧ r.2.sem = fun _ => 0)

def quiescent_ShareHalvesRefIdeal [hShareHalvesRefIdeal : Cert.ShareHalvesRefIdeal.Facts] : Prop :=
  ∀ (m : (ℓ : Loc Cert.ShareHalvesRefIdeal.nD Cert.ShareHalvesRefIdeal.τ Cert.ShareHalvesRefIdeal.sig) → Buf (Elt Ideal) ℓ) (g : Dev Cert.ShareHalvesRefIdeal.nD → PrngReg), Pre_ShareHalvesRefIdeal m →
    θ_run (Cert.ShareHalvesRefIdeal.defs (F := Ideal)) (onTc (τ := Cert.ShareHalvesRefIdeal.τ) (Cert.ShareHalvesRefIdeal.main (F := Ideal))) ⟨m, fun _ => 0, g⟩ (fun r => (∀ c : Dev Cert.ShareHalvesRefIdeal.nD,
      r.2.mem ((c.tc : Thread Cert.ShareHalvesRefIdeal.nD Cert.ShareHalvesRefIdeal.τ).loc Cert.ShareHalvesRefIdeal.main_arg0) = m ((c.tc : Thread Cert.ShareHalvesRefIdeal.nD Cert.ShareHalvesRefIdeal.τ).loc Cert.ShareHalvesRefIdeal.main_arg0))
      ∧ r.2.sem = fun _ => 0)

def quiescent_ShareHalvesRef [hShareHalvesRef : Cert.ShareHalvesRef.Facts] : Prop :=
  ∀ (m : (ℓ : Loc Cert.ShareHalvesRef.nD Cert.ShareHalvesRef.τ Cert.ShareHalvesRef.sig) → Buf (Elt Bits) ℓ) (g : Dev Cert.ShareHalvesRef.nD → PrngReg), Pre_ShareHalvesRef m →
    θ_run (Cert.ShareHalvesRef.defs (F := Bits)) (onTc (τ := Cert.ShareHalvesRef.τ) (Cert.ShareHalvesRef.main (F := Bits))) ⟨m, fun _ => 0, g⟩ (fun r => (∀ c : Dev Cert.ShareHalvesRef.nD,
      r.2.mem ((c.tc : Thread Cert.ShareHalvesRef.nD Cert.ShareHalvesRef.τ).loc Cert.ShareHalvesRef.main_arg0) = m ((c.tc : Thread Cert.ShareHalvesRef.nD Cert.ShareHalvesRef.τ).loc Cert.ShareHalvesRef.main_arg0))
      ∧ r.2.sem = fun _ => 0)

def quiescent_ExchangeChips [hExchangeChips : Cert.ExchangeChips.Facts] : Prop :=
  ∀ (m : (ℓ : Loc Cert.ExchangeChips.nD Cert.ExchangeChips.τ Cert.ExchangeChips.sig) → Buf (Elt Bits) ℓ) (g : Dev Cert.ExchangeChips.nD → PrngReg), Pre_ExchangeChips m →
    θ_run (Cert.ExchangeChips.defs (F := Bits)) (onTc (τ := Cert.ExchangeChips.τ) (Cert.ExchangeChips.main (F := Bits))) ⟨m, fun _ => 0, g⟩ (fun r => (∀ c : Dev Cert.ExchangeChips.nD,
      r.2.mem ((c.tc : Thread Cert.ExchangeChips.nD Cert.ExchangeChips.τ).loc Cert.ExchangeChips.main_arg0) = m ((c.tc : Thread Cert.ExchangeChips.nD Cert.ExchangeChips.τ).loc Cert.ExchangeChips.main_arg0))
      ∧ r.2.sem = fun _ => 0)

def quiescent_ExchangeChipsIdeal [hExchangeChipsIdeal : Cert.ExchangeChipsIdeal.Facts] : Prop :=
  ∀ (m : (ℓ : Loc Cert.ExchangeChipsIdeal.nD Cert.ExchangeChipsIdeal.τ Cert.ExchangeChipsIdeal.sig) → Buf (Elt Ideal) ℓ) (g : Dev Cert.ExchangeChipsIdeal.nD → PrngReg), Pre_ExchangeChipsIdeal m →
    θ_run (Cert.ExchangeChipsIdeal.defs (F := Ideal)) (onTc (τ := Cert.ExchangeChipsIdeal.τ) (Cert.ExchangeChipsIdeal.main (F := Ideal))) ⟨m, fun _ => 0, g⟩ (fun r => (∀ c : Dev Cert.ExchangeChipsIdeal.nD,
      r.2.mem ((c.tc : Thread Cert.ExchangeChipsIdeal.nD Cert.ExchangeChipsIdeal.τ).loc Cert.ExchangeChipsIdeal.main_arg0) = m ((c.tc : Thread Cert.ExchangeChipsIdeal.nD Cert.ExchangeChipsIdeal.τ).loc Cert.ExchangeChipsIdeal.main_arg0))
      ∧ r.2.sem = fun _ => 0)

def quiescent_ExchangeChipsRefIdeal [hExchangeChipsRefIdeal : Cert.ExchangeChipsRefIdeal.Facts] : Prop :=
  ∀ (m : (ℓ : Loc Cert.ExchangeChipsRefIdeal.nD Cert.ExchangeChipsRefIdeal.τ Cert.ExchangeChipsRefIdeal.sig) → Buf (Elt Ideal) ℓ) (g : Dev Cert.ExchangeChipsRefIdeal.nD → PrngReg), Pre_ExchangeChipsRefIdeal m →
    θ_run (Cert.ExchangeChipsRefIdeal.defs (F := Ideal)) (onTc (τ := Cert.ExchangeChipsRefIdeal.τ) (Cert.ExchangeChipsRefIdeal.main (F := Ideal))) ⟨m, fun _ => 0, g⟩ (fun r => (∀ c : Dev Cert.ExchangeChipsRefIdeal.nD,
      r.2.mem ((c.tc : Thread Cert.ExchangeChipsRefIdeal.nD Cert.ExchangeChipsRefIdeal.τ).loc Cert.ExchangeChipsRefIdeal.main_arg0) = m ((c.tc : Thread Cert.ExchangeChipsRefIdeal.nD Cert.ExchangeChipsRefIdeal.τ).loc Cert.ExchangeChipsRefIdeal.main_arg0))
      ∧ r.2.sem = fun _ => 0)

def quiescent_ExchangeChipsRef [hExchangeChipsRef : Cert.ExchangeChipsRef.Facts] : Prop :=
  ∀ (m : (ℓ : Loc Cert.ExchangeChipsRef.nD Cert.ExchangeChipsRef.τ Cert.ExchangeChipsRef.sig) → Buf (Elt Bits) ℓ) (g : Dev Cert.ExchangeChipsRef.nD → PrngReg), Pre_ExchangeChipsRef m →
    θ_run (Cert.ExchangeChipsRef.defs (F := Bits)) (onTc (τ := Cert.ExchangeChipsRef.τ) (Cert.ExchangeChipsRef.main (F := Bits))) ⟨m, fun _ => 0, g⟩ (fun r => (∀ c : Dev Cert.ExchangeChipsRef.nD,
      r.2.mem ((c.tc : Thread Cert.ExchangeChipsRef.nD Cert.ExchangeChipsRef.τ).loc Cert.ExchangeChipsRef.main_arg0) = m ((c.tc : Thread Cert.ExchangeChipsRef.nD Cert.ExchangeChipsRef.τ).loc Cert.ExchangeChipsRef.main_arg0))
      ∧ r.2.sem = fun _ => 0)

def quiescent_ExchangeSiblings [hExchangeSiblings : Cert.ExchangeSiblings.Facts] : Prop :=
  ∀ (m : (ℓ : Loc Cert.ExchangeSiblings.nD Cert.ExchangeSiblings.τ Cert.ExchangeSiblings.sig) → Buf (Elt Bits) ℓ) (g : Dev Cert.ExchangeSiblings.nD → PrngReg), Pre_ExchangeSiblings m →
    θ_run (Cert.ExchangeSiblings.defs (F := Bits)) (onTc (τ := Cert.ExchangeSiblings.τ) (Cert.ExchangeSiblings.main (F := Bits))) ⟨m, fun _ => 0, g⟩ (fun r => (∀ c : Dev Cert.ExchangeSiblings.nD,
      r.2.mem ((c.tc : Thread Cert.ExchangeSiblings.nD Cert.ExchangeSiblings.τ).loc Cert.ExchangeSiblings.main_arg0) = m ((c.tc : Thread Cert.ExchangeSiblings.nD Cert.ExchangeSiblings.τ).loc Cert.ExchangeSiblings.main_arg0)
      ∧ r.2.mem ((c.tc : Thread Cert.ExchangeSiblings.nD Cert.ExchangeSiblings.τ).loc Cert.ExchangeSiblings.main_arg1) = m ((c.tc : Thread Cert.ExchangeSiblings.nD Cert.ExchangeSiblings.τ).loc Cert.ExchangeSiblings.main_arg1))
      ∧ r.2.sem = fun _ => 0)

def quiescent_ExchangeSiblingsIdeal [hExchangeSiblingsIdeal : Cert.ExchangeSiblingsIdeal.Facts] : Prop :=
  ∀ (m : (ℓ : Loc Cert.ExchangeSiblingsIdeal.nD Cert.ExchangeSiblingsIdeal.τ Cert.ExchangeSiblingsIdeal.sig) → Buf (Elt Ideal) ℓ) (g : Dev Cert.ExchangeSiblingsIdeal.nD → PrngReg), Pre_ExchangeSiblingsIdeal m →
    θ_run (Cert.ExchangeSiblingsIdeal.defs (F := Ideal)) (onTc (τ := Cert.ExchangeSiblingsIdeal.τ) (Cert.ExchangeSiblingsIdeal.main (F := Ideal))) ⟨m, fun _ => 0, g⟩ (fun r => (∀ c : Dev Cert.ExchangeSiblingsIdeal.nD,
      r.2.mem ((c.tc : Thread Cert.ExchangeSiblingsIdeal.nD Cert.ExchangeSiblingsIdeal.τ).loc Cert.ExchangeSiblingsIdeal.main_arg0) = m ((c.tc : Thread Cert.ExchangeSiblingsIdeal.nD Cert.ExchangeSiblingsIdeal.τ).loc Cert.ExchangeSiblingsIdeal.main_arg0)
      ∧ r.2.mem ((c.tc : Thread Cert.ExchangeSiblingsIdeal.nD Cert.ExchangeSiblingsIdeal.τ).loc Cert.ExchangeSiblingsIdeal.main_arg1) = m ((c.tc : Thread Cert.ExchangeSiblingsIdeal.nD Cert.ExchangeSiblingsIdeal.τ).loc Cert.ExchangeSiblingsIdeal.main_arg1))
      ∧ r.2.sem = fun _ => 0)

def quiescent_ExchangeSiblingsRefIdeal [hExchangeSiblingsRefIdeal : Cert.ExchangeSiblingsRefIdeal.Facts] : Prop :=
  ∀ (m : (ℓ : Loc Cert.ExchangeSiblingsRefIdeal.nD Cert.ExchangeSiblingsRefIdeal.τ Cert.ExchangeSiblingsRefIdeal.sig) → Buf (Elt Ideal) ℓ) (g : Dev Cert.ExchangeSiblingsRefIdeal.nD → PrngReg), Pre_ExchangeSiblingsRefIdeal m →
    θ_run (Cert.ExchangeSiblingsRefIdeal.defs (F := Ideal)) (onTc (τ := Cert.ExchangeSiblingsRefIdeal.τ) (Cert.ExchangeSiblingsRefIdeal.main (F := Ideal))) ⟨m, fun _ => 0, g⟩ (fun r => (∀ c : Dev Cert.ExchangeSiblingsRefIdeal.nD,
      r.2.mem ((c.tc : Thread Cert.ExchangeSiblingsRefIdeal.nD Cert.ExchangeSiblingsRefIdeal.τ).loc Cert.ExchangeSiblingsRefIdeal.main_arg0) = m ((c.tc : Thread Cert.ExchangeSiblingsRefIdeal.nD Cert.ExchangeSiblingsRefIdeal.τ).loc Cert.ExchangeSiblingsRefIdeal.main_arg0)
      ∧ r.2.mem ((c.tc : Thread Cert.ExchangeSiblingsRefIdeal.nD Cert.ExchangeSiblingsRefIdeal.τ).loc Cert.ExchangeSiblingsRefIdeal.main_arg1) = m ((c.tc : Thread Cert.ExchangeSiblingsRefIdeal.nD Cert.ExchangeSiblingsRefIdeal.τ).loc Cert.ExchangeSiblingsRefIdeal.main_arg1))
      ∧ r.2.sem = fun _ => 0)

def quiescent_ExchangeSiblingsRef [hExchangeSiblingsRef : Cert.ExchangeSiblingsRef.Facts] : Prop :=
  ∀ (m : (ℓ : Loc Cert.ExchangeSiblingsRef.nD Cert.ExchangeSiblingsRef.τ Cert.ExchangeSiblingsRef.sig) → Buf (Elt Bits) ℓ) (g : Dev Cert.ExchangeSiblingsRef.nD → PrngReg), Pre_ExchangeSiblingsRef m →
    θ_run (Cert.ExchangeSiblingsRef.defs (F := Bits)) (onTc (τ := Cert.ExchangeSiblingsRef.τ) (Cert.ExchangeSiblingsRef.main (F := Bits))) ⟨m, fun _ => 0, g⟩ (fun r => (∀ c : Dev Cert.ExchangeSiblingsRef.nD,
      r.2.mem ((c.tc : Thread Cert.ExchangeSiblingsRef.nD Cert.ExchangeSiblingsRef.τ).loc Cert.ExchangeSiblingsRef.main_arg0) = m ((c.tc : Thread Cert.ExchangeSiblingsRef.nD Cert.ExchangeSiblingsRef.τ).loc Cert.ExchangeSiblingsRef.main_arg0)
      ∧ r.2.mem ((c.tc : Thread Cert.ExchangeSiblingsRef.nD Cert.ExchangeSiblingsRef.τ).loc Cert.ExchangeSiblingsRef.main_arg1) = m ((c.tc : Thread Cert.ExchangeSiblingsRef.nD Cert.ExchangeSiblingsRef.τ).loc Cert.ExchangeSiblingsRef.main_arg1))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0)
      ∧ r.2.mem ((c.tc : Thread Cert.GatherWeights.nD Cert.GatherWeights.τ).loc Cert.GatherWeights.main_arg1) = m ((c.tc : Thread Cert.GatherWeights.nD Cert.GatherWeights.τ).loc Cert.GatherWeights.main_arg1))
      ∧ r.2.sem = fun _ => 0)

def quiescent_GatherWeightsIdeal [hGatherWeightsIdeal : Cert.GatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg), Pre_GatherWeightsIdeal m →
    θ_run (Cert.GatherWeightsIdeal.defs (F := Ideal)) (onTc (τ := Cert.GatherWeightsIdeal.τ) (Cert.GatherWeightsIdeal.main (F := Ideal))) ⟨m, fun _ => 0, g⟩ (fun r => (∀ c : Dev Cert.GatherWeightsIdeal.nD,
      r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
      ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1))
      ∧ r.2.sem = fun _ => 0)

def quiescent_GatherWeightsRefIdeal [hGatherWeightsRefIdeal : Cert.GatherWeightsRefIdeal.Facts] : Prop :=
  ∀ (m : (ℓ : Loc Cert.GatherWeightsRefIdeal.nD Cert.GatherWeightsRefIdeal.τ Cert.GatherWeightsRefIdeal.sig) → Buf (Elt Ideal) ℓ) (g : Dev Cert.GatherWeightsRefIdeal.nD → PrngReg), Pre_GatherWeightsRefIdeal m →
    θ_run (Cert.GatherWeightsRefIdeal.defs (F := Ideal)) (onTc (τ := Cert.GatherWeightsRefIdeal.τ) (Cert.GatherWeightsRefIdeal.main (F := Ideal))) ⟨m, fun _ => 0, g⟩ (fun r => (∀ c : Dev Cert.GatherWeightsRefIdeal.nD,
      r.2.mem ((c.tc : Thread Cert.GatherWeightsRefIdeal.nD Cert.GatherWeightsRefIdeal.τ).loc Cert.GatherWeightsRefIdeal.main_arg0) = m ((c.tc : Thread Cert.GatherWeightsRefIdeal.nD Cert.GatherWeightsRefIdeal.τ).loc Cert.GatherWeightsRefIdeal.main_arg0)
      ∧ r.2.mem ((c.tc : Thread Cert.GatherWeightsRefIdeal.nD Cert.GatherWeightsRefIdeal.τ).loc Cert.GatherWeightsRefIdeal.main_arg1) = m ((c.tc : Thread Cert.GatherWeightsRefIdeal.nD Cert.GatherWeightsRefIdeal.τ).loc Cert.GatherWeightsRefIdeal.main_arg1))
      ∧ r.2.sem = fun _ => 0)

def quiescent_GatherWeightsRef [hGatherWeightsRef : Cert.GatherWeightsRef.Facts] : Prop :=
  ∀ (m : (ℓ : Loc Cert.GatherWeightsRef.nD Cert.GatherWeightsRef.τ Cert.GatherWeightsRef.sig) → Buf (Elt Bits) ℓ) (g : Dev Cert.GatherWeightsRef.nD → PrngReg), Pre_GatherWeightsRef m →
    θ_run (Cert.GatherWeightsRef.defs (F := Bits)) (onTc (τ := Cert.GatherWeightsRef.τ) (Cert.GatherWeightsRef.main (F := Bits))) ⟨m, fun _ => 0, g⟩ (fun r => (∀ c : Dev Cert.GatherWeightsRef.nD,
      r.2.mem ((c.tc : Thread Cert.GatherWeightsRef.nD Cert.GatherWeightsRef.τ).loc Cert.GatherWeightsRef.main_arg0) = m ((c.tc : Thread Cert.GatherWeightsRef.nD Cert.GatherWeightsRef.τ).loc Cert.GatherWeightsRef.main_arg0)
      ∧ r.2.mem ((c.tc : Thread Cert.GatherWeightsRef.nD Cert.GatherWeightsRef.τ).loc Cert.GatherWeightsRef.main_arg1) = m ((c.tc : Thread Cert.GatherWeightsRef.nD Cert.GatherWeightsRef.τ).loc Cert.GatherWeightsRef.main_arg1))
      ∧ r.2.sem = fun _ => 0)

def quiescent_SharePieces [hSharePieces : Cert.SharePieces.Facts] : Prop :=
  ∀ (m : (ℓ : Loc Cert.SharePieces.nD Cert.SharePieces.τ Cert.SharePieces.sig) → Buf (Elt Bits) ℓ) (g : Dev Cert.SharePieces.nD → PrngReg), Pre_SharePieces m →
    θ_run (Cert.SharePieces.defs (F := Bits)) (onTc (τ := Cert.SharePieces.τ) (Cert.SharePieces.main (F := Bits))) ⟨m, fun _ => 0, g⟩ (fun r => (∀ c : Dev Cert.SharePieces.nD,
      r.2.mem ((c.tc : Thread Cert.SharePieces.nD Cert.SharePieces.τ).loc Cert.SharePieces.main_arg0) = m ((c.tc : Thread Cert.SharePieces.nD Cert.SharePieces.τ).loc Cert.SharePieces.main_arg0))
      ∧ r.2.sem = fun _ => 0)

def quiescent_SharePiecesIdeal [hSharePiecesIdeal : Cert.SharePiecesIdeal.Facts] : Prop :=
  ∀ (m : (ℓ : Loc Cert.SharePiecesIdeal.nD Cert.SharePiecesIdeal.τ Cert.SharePiecesIdeal.sig) → Buf (Elt Ideal) ℓ) (g : Dev Cert.SharePiecesIdeal.nD → PrngReg), Pre_SharePiecesIdeal m →
    θ_run (Cert.SharePiecesIdeal.defs (F := Ideal)) (onTc (τ := Cert.SharePiecesIdeal.τ) (Cert.SharePiecesIdeal.main (F := Ideal))) ⟨m, fun _ => 0, g⟩ (fun r => (∀ c : Dev Cert.SharePiecesIdeal.nD,
      r.2.mem ((c.tc : Thread Cert.SharePiecesIdeal.nD Cert.SharePiecesIdeal.τ).loc Cert.SharePiecesIdeal.main_arg0) = m ((c.tc : Thread Cert.SharePiecesIdeal.nD Cert.SharePiecesIdeal.τ).loc Cert.SharePiecesIdeal.main_arg0))
      ∧ r.2.sem = fun _ => 0)

def quiescent_SharePiecesRefIdeal [hSharePiecesRefIdeal : Cert.SharePiecesRefIdeal.Facts] : Prop :=
  ∀ (m : (ℓ : Loc Cert.SharePiecesRefIdeal.nD Cert.SharePiecesRefIdeal.τ Cert.SharePiecesRefIdeal.sig) → Buf (Elt Ideal) ℓ) (g : Dev Cert.SharePiecesRefIdeal.nD → PrngReg), Pre_SharePiecesRefIdeal m →
    θ_run (Cert.SharePiecesRefIdeal.defs (F := Ideal)) (onTc (τ := Cert.SharePiecesRefIdeal.τ) (Cert.SharePiecesRefIdeal.main (F := Ideal))) ⟨m, fun _ => 0, g⟩ (fun r => (∀ c : Dev Cert.SharePiecesRefIdeal.nD,
      r.2.mem ((c.tc : Thread Cert.SharePiecesRefIdeal.nD Cert.SharePiecesRefIdeal.τ).loc Cert.SharePiecesRefIdeal.main_arg0) = m ((c.tc : Thread Cert.SharePiecesRefIdeal.nD Cert.SharePiecesRefIdeal.τ).loc Cert.SharePiecesRefIdeal.main_arg0))
      ∧ r.2.sem = fun _ => 0)

def quiescent_ReduceSmall [hReduceSmall : Cert.ReduceSmall.Facts] : Prop :=
  ∀ (m : (ℓ : Loc Cert.ReduceSmall.nD Cert.ReduceSmall.τ Cert.ReduceSmall.sig) → Buf (Elt Bits) ℓ) (g : Dev Cert.ReduceSmall.nD → PrngReg), Pre_ReduceSmall m →
    θ_run (Cert.ReduceSmall.defs (F := Bits)) (onTc (τ := Cert.ReduceSmall.τ) (Cert.ReduceSmall.main (F := Bits))) ⟨m, fun _ => 0, g⟩ (fun r => (∀ c : Dev Cert.ReduceSmall.nD,
      r.2.mem ((c.tc : Thread Cert.ReduceSmall.nD Cert.ReduceSmall.τ).loc Cert.ReduceSmall.main_arg0) = m ((c.tc : Thread Cert.ReduceSmall.nD Cert.ReduceSmall.τ).loc Cert.ReduceSmall.main_arg0)
      ∧ r.2.mem ((c.tc : Thread Cert.ReduceSmall.nD Cert.ReduceSmall.τ).loc Cert.ReduceSmall.main_arg1) = m ((c.tc : Thread Cert.ReduceSmall.nD Cert.ReduceSmall.τ).loc Cert.ReduceSmall.main_arg1))
      ∧ r.2.sem = fun _ => 0)

def quiescent_ReduceSmallIdeal [hReduceSmallIdeal : Cert.ReduceSmallIdeal.Facts] : Prop :=
  ∀ (m : (ℓ : Loc Cert.ReduceSmallIdeal.nD Cert.ReduceSmallIdeal.τ Cert.ReduceSmallIdeal.sig) → Buf (Elt Ideal) ℓ) (g : Dev Cert.ReduceSmallIdeal.nD → PrngReg), Pre_ReduceSmallIdeal m →
    θ_run (Cert.ReduceSmallIdeal.defs (F := Ideal)) (onTc (τ := Cert.ReduceSmallIdeal.τ) (Cert.ReduceSmallIdeal.main (F := Ideal))) ⟨m, fun _ => 0, g⟩ (fun r => (∀ c : Dev Cert.ReduceSmallIdeal.nD,
      r.2.mem ((c.tc : Thread Cert.ReduceSmallIdeal.nD Cert.ReduceSmallIdeal.τ).loc Cert.ReduceSmallIdeal.main_arg0) = m ((c.tc : Thread Cert.ReduceSmallIdeal.nD Cert.ReduceSmallIdeal.τ).loc Cert.ReduceSmallIdeal.main_arg0)
      ∧ r.2.mem ((c.tc : Thread Cert.ReduceSmallIdeal.nD Cert.ReduceSmallIdeal.τ).loc Cert.ReduceSmallIdeal.main_arg1) = m ((c.tc : Thread Cert.ReduceSmallIdeal.nD Cert.ReduceSmallIdeal.τ).loc Cert.ReduceSmallIdeal.main_arg1))
      ∧ r.2.sem = fun _ => 0)

def quiescent_ReduceSmallRefIdeal [hReduceSmallRefIdeal : Cert.ReduceSmallRefIdeal.Facts] : Prop :=
  ∀ (m : (ℓ : Loc Cert.ReduceSmallRefIdeal.nD Cert.ReduceSmallRefIdeal.τ Cert.ReduceSmallRefIdeal.sig) → Buf (Elt Ideal) ℓ) (g : Dev Cert.ReduceSmallRefIdeal.nD → PrngReg), Pre_ReduceSmallRefIdeal m →
    θ_run (Cert.ReduceSmallRefIdeal.defs (F := Ideal)) (onTc (τ := Cert.ReduceSmallRefIdeal.τ) (Cert.ReduceSmallRefIdeal.main (F := Ideal))) ⟨m, fun _ => 0, g⟩ (fun r => (∀ c : Dev Cert.ReduceSmallRefIdeal.nD,
      r.2.mem ((c.tc : Thread Cert.ReduceSmallRefIdeal.nD Cert.ReduceSmallRefIdeal.τ).loc Cert.ReduceSmallRefIdeal.main_arg0) = m ((c.tc : Thread Cert.ReduceSmallRefIdeal.nD Cert.ReduceSmallRefIdeal.τ).loc Cert.ReduceSmallRefIdeal.main_arg0)
      ∧ r.2.mem ((c.tc : Thread Cert.ReduceSmallRefIdeal.nD Cert.ReduceSmallRefIdeal.τ).loc Cert.ReduceSmallRefIdeal.main_arg1) = m ((c.tc : Thread Cert.ReduceSmallRefIdeal.nD Cert.ReduceSmallRefIdeal.τ).loc Cert.ReduceSmallRefIdeal.main_arg1))
      ∧ r.2.sem = fun _ => 0)

def quiescent_MetaStep [hMetaStep : Cert.MetaStep.Facts] : Prop :=
  ∀ (m : (ℓ : Loc Cert.MetaStep.nD Cert.MetaStep.τ Cert.MetaStep.sig) → Buf (Elt Bits) ℓ) (g : Dev Cert.MetaStep.nD → PrngReg), Pre_MetaStep m →
    θ_run (Cert.MetaStep.defs (F := Bits)) (onTc (τ := Cert.MetaStep.τ) (Cert.MetaStep.main (F := Bits))) ⟨m, fun _ => 0, g⟩ (fun r => (∀ c : Dev Cert.MetaStep.nD,
      r.2.mem ((c.tc : Thread Cert.MetaStep.nD Cert.MetaStep.τ).loc Cert.MetaStep.main_arg0) = m ((c.tc : Thread Cert.MetaStep.nD Cert.MetaStep.τ).loc Cert.MetaStep.main_arg0)
      ∧ r.2.mem ((c.tc : Thread Cert.MetaStep.nD Cert.MetaStep.τ).loc Cert.MetaStep.main_arg1) = m ((c.tc : Thread Cert.MetaStep.nD Cert.MetaStep.τ).loc Cert.MetaStep.main_arg1)
      ∧ r.2.mem ((c.tc : Thread Cert.MetaStep.nD Cert.MetaStep.τ).loc Cert.MetaStep.main_arg2) = m ((c.tc : Thread Cert.MetaStep.nD Cert.MetaStep.τ).loc Cert.MetaStep.main_arg2)
      ∧ r.2.mem ((c.tc : Thread Cert.MetaStep.nD Cert.MetaStep.τ).loc Cert.MetaStep.main_arg3) = m ((c.tc : Thread Cert.MetaStep.nD Cert.MetaStep.τ).loc Cert.MetaStep.main_arg3))
      ∧ r.2.sem = fun _ => 0)

def quiescent_MetaStepIdeal [hMetaStepIdeal : Cert.MetaStepIdeal.Facts] : Prop :=
  ∀ (m : (ℓ : Loc Cert.MetaStepIdeal.nD Cert.MetaStepIdeal.τ Cert.MetaStepIdeal.sig) → Buf (Elt Ideal) ℓ) (g : Dev Cert.MetaStepIdeal.nD → PrngReg), Pre_MetaStepIdeal m →
    θ_run (Cert.MetaStepIdeal.defs (F := Ideal)) (onTc (τ := Cert.MetaStepIdeal.τ) (Cert.MetaStepIdeal.main (F := Ideal))) ⟨m, fun _ => 0, g⟩ (fun r => (∀ c : Dev Cert.MetaStepIdeal.nD,
      r.2.mem ((c.tc : Thread Cert.MetaStepIdeal.nD Cert.MetaStepIdeal.τ).loc Cert.MetaStepIdeal.main_arg0) = m ((c.tc : Thread Cert.MetaStepIdeal.nD Cert.MetaStepIdeal.τ).loc Cert.MetaStepIdeal.main_arg0)
      ∧ r.2.mem ((c.tc : Thread Cert.MetaStepIdeal.nD Cert.MetaStepIdeal.τ).loc Cert.MetaStepIdeal.main_arg1) = m ((c.tc : Thread Cert.MetaStepIdeal.nD Cert.MetaStepIdeal.τ).loc Cert.MetaStepIdeal.main_arg1)
      ∧ r.2.mem ((c.tc : Thread Cert.MetaStepIdeal.nD Cert.MetaStepIdeal.τ).loc Cert.MetaStepIdeal.main_arg2) = m ((c.tc : Thread Cert.MetaStepIdeal.nD Cert.MetaStepIdeal.τ).loc Cert.MetaStepIdeal.main_arg2)
      ∧ r.2.mem ((c.tc : Thread Cert.MetaStepIdeal.nD Cert.MetaStepIdeal.τ).loc Cert.MetaStepIdeal.main_arg3) = m ((c.tc : Thread Cert.MetaStepIdeal.nD Cert.MetaStepIdeal.τ).loc Cert.MetaStepIdeal.main_arg3))
      ∧ r.2.sem = fun _ => 0)

def quiescent_MetaStepRefIdeal [hMetaStepRefIdeal : Cert.MetaStepRefIdeal.Facts] : Prop :=
  ∀ (m : (ℓ : Loc Cert.MetaStepRefIdeal.nD Cert.MetaStepRefIdeal.τ Cert.MetaStepRefIdeal.sig) → Buf (Elt Ideal) ℓ) (g : Dev Cert.MetaStepRefIdeal.nD → PrngReg), Pre_MetaStepRefIdeal m →
    θ_run (Cert.MetaStepRefIdeal.defs (F := Ideal)) (onTc (τ := Cert.MetaStepRefIdeal.τ) (Cert.MetaStepRefIdeal.main (F := Ideal))) ⟨m, fun _ => 0, g⟩ (fun r => (∀ c : Dev Cert.MetaStepRefIdeal.nD,
      r.2.mem ((c.tc : Thread Cert.MetaStepRefIdeal.nD Cert.MetaStepRefIdeal.τ).loc Cert.MetaStepRefIdeal.main_arg0) = m ((c.tc : Thread Cert.MetaStepRefIdeal.nD Cert.MetaStepRefIdeal.τ).loc Cert.MetaStepRefIdeal.main_arg0)
      ∧ r.2.mem ((c.tc : Thread Cert.MetaStepRefIdeal.nD Cert.MetaStepRefIdeal.τ).loc Cert.MetaStepRefIdeal.main_arg1) = m ((c.tc : Thread Cert.MetaStepRefIdeal.nD Cert.MetaStepRefIdeal.τ).loc Cert.MetaStepRefIdeal.main_arg1)
      ∧ r.2.mem ((c.tc : Thread Cert.MetaStepRefIdeal.nD Cert.MetaStepRefIdeal.τ).loc Cert.MetaStepRefIdeal.main_arg2) = m ((c.tc : Thread Cert.MetaStepRefIdeal.nD Cert.MetaStepRefIdeal.τ).loc Cert.MetaStepRefIdeal.main_arg2)
      ∧ r.2.mem ((c.tc : Thread Cert.MetaStepRefIdeal.nD Cert.MetaStepRefIdeal.τ).loc Cert.MetaStepRefIdeal.main_arg3) = m ((c.tc : Thread Cert.MetaStepRefIdeal.nD Cert.MetaStepRefIdeal.τ).loc Cert.MetaStepRefIdeal.main_arg3))
      ∧ r.2.sem = fun _ => 0)

def quiescent_NormStep [hNormStep : Cert.NormStep.Facts] : Prop :=
  ∀ (m : (ℓ : Loc Cert.NormStep.nD Cert.NormStep.τ Cert.NormStep.sig) → Buf (Elt Bits) ℓ) (g : Dev Cert.NormStep.nD → PrngReg), Pre_NormStep m →
    θ_run (Cert.NormStep.defs (F := Bits)) (onTc (τ := Cert.NormStep.τ) (Cert.NormStep.main (F := Bits))) ⟨m, fun _ => 0, g⟩ (fun r => (∀ c : Dev Cert.NormStep.nD,
      r.2.mem ((c.tc : Thread Cert.NormStep.nD Cert.NormStep.τ).loc Cert.NormStep.main_arg0) = m ((c.tc : Thread Cert.NormStep.nD Cert.NormStep.τ).loc Cert.NormStep.main_arg0)
      ∧ r.2.mem ((c.tc : Thread Cert.NormStep.nD Cert.NormStep.τ).loc Cert.NormStep.main_arg1) = m ((c.tc : Thread Cert.NormStep.nD Cert.NormStep.τ).loc Cert.NormStep.main_arg1)
      ∧ r.2.mem ((c.tc : Thread Cert.NormStep.nD Cert.NormStep.τ).loc Cert.NormStep.main_arg2) = m ((c.tc : Thread Cert.NormStep.nD Cert.NormStep.τ).loc Cert.NormStep.main_arg2)
      ∧ r.2.mem ((c.tc : Thread Cert.NormStep.nD Cert.NormStep.τ).loc Cert.NormStep.main_arg3) = m ((c.tc : Thread Cert.NormStep.nD Cert.NormStep.τ).loc Cert.NormStep.main_arg3))
      ∧ r.2.sem = fun _ => 0)

def quiescent_NormStepIdeal [hNormStepIdeal : Cert.NormStepIdeal.Facts] : Prop :=
  ∀ (m : (ℓ : Loc Cert.NormStepIdeal.nD Cert.NormStepIdeal.τ Cert.NormStepIdeal.sig) → Buf (Elt Ideal) ℓ) (g : Dev Cert.NormStepIdeal.nD → PrngReg), Pre_NormStepIdeal m →
    θ_run (Cert.NormStepIdeal.defs (F := Ideal)) (onTc (τ := Cert.NormStepIdeal.τ) (Cert.NormStepIdeal.main (F := Ideal))) ⟨m, fun _ => 0, g⟩ (fun r => (∀ c : Dev Cert.NormStepIdeal.nD,
      r.2.mem ((c.tc : Thread Cert.NormStepIdeal.nD Cert.NormStepIdeal.τ).loc Cert.NormStepIdeal.main_arg0) = m ((c.tc : Thread Cert.NormStepIdeal.nD Cert.NormStepIdeal.τ).loc Cert.NormStepIdeal.main_arg0)
      ∧ r.2.mem ((c.tc : Thread Cert.NormStepIdeal.nD Cert.NormStepIdeal.τ).loc Cert.NormStepIdeal.main_arg1) = m ((c.tc : Thread Cert.NormStepIdeal.nD Cert.NormStepIdeal.τ).loc Cert.NormStepIdeal.main_arg1)
      ∧ r.2.mem ((c.tc : Thread Cert.NormStepIdeal.nD Cert.NormStepIdeal.τ).loc Cert.NormStepIdeal.main_arg2) = m ((c.tc : Thread Cert.NormStepIdeal.nD Cert.NormStepIdeal.τ).loc Cert.NormStepIdeal.main_arg2)
      ∧ r.2.mem ((c.tc : Thread Cert.NormStepIdeal.nD Cert.NormStepIdeal.τ).loc Cert.NormStepIdeal.main_arg3) = m ((c.tc : Thread Cert.NormStepIdeal.nD Cert.NormStepIdeal.τ).loc Cert.NormStepIdeal.main_arg3))
      ∧ r.2.sem = fun _ => 0)

def quiescent_NormStepRefIdeal [hNormStepRefIdeal : Cert.NormStepRefIdeal.Facts] : Prop :=
  ∀ (m : (ℓ : Loc Cert.NormStepRefIdeal.nD Cert.NormStepRefIdeal.τ Cert.NormStepRefIdeal.sig) → Buf (Elt Ideal) ℓ) (g : Dev Cert.NormStepRefIdeal.nD → PrngReg), Pre_NormStepRefIdeal m →
    θ_run (Cert.NormStepRefIdeal.defs (F := Ideal)) (onTc (τ := Cert.NormStepRefIdeal.τ) (Cert.NormStepRefIdeal.main (F := Ideal))) ⟨m, fun _ => 0, g⟩ (fun r => (∀ c : Dev Cert.NormStepRefIdeal.nD,
      r.2.mem ((c.tc : Thread Cert.NormStepRefIdeal.nD Cert.NormStepRefIdeal.τ).loc Cert.NormStepRefIdeal.main_arg0) = m ((c.tc : Thread Cert.NormStepRefIdeal.nD Cert.NormStepRefIdeal.τ).loc Cert.NormStepRefIdeal.main_arg0)
      ∧ r.2.mem ((c.tc : Thread Cert.NormStepRefIdeal.nD Cert.NormStepRefIdeal.τ).loc Cert.NormStepRefIdeal.main_arg1) = m ((c.tc : Thread Cert.NormStepRefIdeal.nD Cert.NormStepRefIdeal.τ).loc Cert.NormStepRefIdeal.main_arg1)
      ∧ r.2.mem ((c.tc : Thread Cert.NormStepRefIdeal.nD Cert.NormStepRefIdeal.τ).loc Cert.NormStepRefIdeal.main_arg2) = m ((c.tc : Thread Cert.NormStepRefIdeal.nD Cert.NormStepRefIdeal.τ).loc Cert.NormStepRefIdeal.main_arg2)
      ∧ r.2.mem ((c.tc : Thread Cert.NormStepRefIdeal.nD Cert.NormStepRefIdeal.τ).loc Cert.NormStepRefIdeal.main_arg3) = m ((c.tc : Thread Cert.NormStepRefIdeal.nD Cert.NormStepRefIdeal.τ).loc Cert.NormStepRefIdeal.main_arg3))
      ∧ r.2.sem = fun _ => 0)

def quiescent_WInStep [hWInStep : Cert.WInStep.Facts] : Prop :=
  ∀ (m : (ℓ : Loc Cert.WInStep.nD Cert.WInStep.τ Cert.WInStep.sig) → Buf (Elt Bits) ℓ) (g : Dev Cert.WInStep.nD → PrngReg), Pre_WInStep m →
    θ_run (Cert.WInStep.defs (F := Bits)) (onTc (τ := Cert.WInStep.τ) (Cert.WInStep.main (F := Bits))) ⟨m, fun _ => 0, g⟩ (fun r => (∀ c : Dev Cert.WInStep.nD,
      r.2.mem ((c.tc : Thread Cert.WInStep.nD Cert.WInStep.τ).loc Cert.WInStep.main_arg0) = m ((c.tc : Thread Cert.WInStep.nD Cert.WInStep.τ).loc Cert.WInStep.main_arg0)
      ∧ r.2.mem ((c.tc : Thread Cert.WInStep.nD Cert.WInStep.τ).loc Cert.WInStep.main_arg1) = m ((c.tc : Thread Cert.WInStep.nD Cert.WInStep.τ).loc Cert.WInStep.main_arg1)
      ∧ r.2.mem ((c.tc : Thread Cert.WInStep.nD Cert.WInStep.τ).loc Cert.WInStep.main_arg2) = m ((c.tc : Thread Cert.WInStep.nD Cert.WInStep.τ).loc Cert.WInStep.main_arg2)
      ∧ r.2.mem ((c.tc : Thread Cert.WInStep.nD Cert.WInStep.τ).loc Cert.WInStep.main_arg3) = m ((c.tc : Thread Cert.WInStep.nD Cert.WInStep.τ).loc Cert.WInStep.main_arg3))
      ∧ r.2.sem = fun _ => 0)

def quiescent_WInStepIdeal [hWInStepIdeal : Cert.WInStepIdeal.Facts] : Prop :=
  ∀ (m : (ℓ : Loc Cert.WInStepIdeal.nD Cert.WInStepIdeal.τ Cert.WInStepIdeal.sig) → Buf (Elt Ideal) ℓ) (g : Dev Cert.WInStepIdeal.nD → PrngReg), Pre_WInStepIdeal m →
    θ_run (Cert.WInStepIdeal.defs (F := Ideal)) (onTc (τ := Cert.WInStepIdeal.τ) (Cert.WInStepIdeal.main (F := Ideal))) ⟨m, fun _ => 0, g⟩ (fun r => (∀ c : Dev Cert.WInStepIdeal.nD,
      r.2.mem ((c.tc : Thread Cert.WInStepIdeal.nD Cert.WInStepIdeal.τ).loc Cert.WInStepIdeal.main_arg0) = m ((c.tc : Thread Cert.WInStepIdeal.nD Cert.WInStepIdeal.τ).loc Cert.WInStepIdeal.main_arg0)
      ∧ r.2.mem ((c.tc : Thread Cert.WInStepIdeal.nD Cert.WInStepIdeal.τ).loc Cert.WInStepIdeal.main_arg1) = m ((c.tc : Thread Cert.WInStepIdeal.nD Cert.WInStepIdeal.τ).loc Cert.WInStepIdeal.main_arg1)
      ∧ r.2.mem ((c.tc : Thread Cert.WInStepIdeal.nD Cert.WInStepIdeal.τ).loc Cert.WInStepIdeal.main_arg2) = m ((c.tc : Thread Cert.WInStepIdeal.nD Cert.WInStepIdeal.τ).loc Cert.WInStepIdeal.main_arg2)
      ∧ r.2.mem ((c.tc : Thread Cert.WInStepIdeal.nD Cert.WInStepIdeal.τ).loc Cert.WInStepIdeal.main_arg3) = m ((c.tc : Thread Cert.WInStepIdeal.nD Cert.WInStepIdeal.τ).loc Cert.WInStepIdeal.main_arg3))
      ∧ r.2.sem = fun _ => 0)

def quiescent_WInStepRefIdeal [hWInStepRefIdeal : Cert.WInStepRefIdeal.Facts] : Prop :=
  ∀ (m : (ℓ : Loc Cert.WInStepRefIdeal.nD Cert.WInStepRefIdeal.τ Cert.WInStepRefIdeal.sig) → Buf (Elt Ideal) ℓ) (g : Dev Cert.WInStepRefIdeal.nD → PrngReg), Pre_WInStepRefIdeal m →
    θ_run (Cert.WInStepRefIdeal.defs (F := Ideal)) (onTc (τ := Cert.WInStepRefIdeal.τ) (Cert.WInStepRefIdeal.main (F := Ideal))) ⟨m, fun _ => 0, g⟩ (fun r => (∀ c : Dev Cert.WInStepRefIdeal.nD,
      r.2.mem ((c.tc : Thread Cert.WInStepRefIdeal.nD Cert.WInStepRefIdeal.τ).loc Cert.WInStepRefIdeal.main_arg0) = m ((c.tc : Thread Cert.WInStepRefIdeal.nD Cert.WInStepRefIdeal.τ).loc Cert.WInStepRefIdeal.main_arg0)
      ∧ r.2.mem ((c.tc : Thread Cert.WInStepRefIdeal.nD Cert.WInStepRefIdeal.τ).loc Cert.WInStepRefIdeal.main_arg1) = m ((c.tc : Thread Cert.WInStepRefIdeal.nD Cert.WInStepRefIdeal.τ).loc Cert.WInStepRefIdeal.main_arg1)
      ∧ r.2.mem ((c.tc : Thread Cert.WInStepRefIdeal.nD Cert.WInStepRefIdeal.τ).loc Cert.WInStepRefIdeal.main_arg2) = m ((c.tc : Thread Cert.WInStepRefIdeal.nD Cert.WInStepRefIdeal.τ).loc Cert.WInStepRefIdeal.main_arg2)
      ∧ r.2.mem ((c.tc : Thread Cert.WInStepRefIdeal.nD Cert.WInStepRefIdeal.τ).loc Cert.WInStepRefIdeal.main_arg3) = m ((c.tc : Thread Cert.WInStepRefIdeal.nD Cert.WInStepRefIdeal.τ).loc Cert.WInStepRefIdeal.main_arg3))
      ∧ r.2.sem = fun _ => 0)

def quiescent_ConvQkvStep [hConvQkvStep : Cert.ConvQkvStep.Facts] : Prop :=
  ∀ (m : (ℓ : Loc Cert.ConvQkvStep.nD Cert.ConvQkvStep.τ Cert.ConvQkvStep.sig) → Buf (Elt Bits) ℓ) (g : Dev Cert.ConvQkvStep.nD → PrngReg), Pre_ConvQkvStep m →
    θ_run (Cert.ConvQkvStep.defs (F := Bits)) (onTc (τ := Cert.ConvQkvStep.τ) (Cert.ConvQkvStep.main (F := Bits))) ⟨m, fun _ => 0, g⟩ (fun r => (∀ c : Dev Cert.ConvQkvStep.nD,
      r.2.mem ((c.tc : Thread Cert.ConvQkvStep.nD Cert.ConvQkvStep.τ).loc Cert.ConvQkvStep.main_arg0) = m ((c.tc : Thread Cert.ConvQkvStep.nD Cert.ConvQkvStep.τ).loc Cert.ConvQkvStep.main_arg0)
      ∧ r.2.mem ((c.tc : Thread Cert.ConvQkvStep.nD Cert.ConvQkvStep.τ).loc Cert.ConvQkvStep.main_arg1) = m ((c.tc : Thread Cert.ConvQkvStep.nD Cert.ConvQkvStep.τ).loc Cert.ConvQkvStep.main_arg1)
      ∧ r.2.mem ((c.tc : Thread Cert.ConvQkvStep.nD Cert.ConvQkvStep.τ).loc Cert.ConvQkvStep.main_arg2) = m ((c.tc : Thread Cert.ConvQkvStep.nD Cert.ConvQkvStep.τ).loc Cert.ConvQkvStep.main_arg2)
      ∧ r.2.mem ((c.tc : Thread Cert.ConvQkvStep.nD Cert.ConvQkvStep.τ).loc Cert.ConvQkvStep.main_arg3) = m ((c.tc : Thread Cert.ConvQkvStep.nD Cert.ConvQkvStep.τ).loc Cert.ConvQkvStep.main_arg3))
      ∧ r.2.sem = fun _ => 0)

def quiescent_ConvQkvStepIdeal [hConvQkvStepIdeal : Cert.ConvQkvStepIdeal.Facts] : Prop :=
  ∀ (m : (ℓ : Loc Cert.ConvQkvStepIdeal.nD Cert.ConvQkvStepIdeal.τ Cert.ConvQkvStepIdeal.sig) → Buf (Elt Ideal) ℓ) (g : Dev Cert.ConvQkvStepIdeal.nD → PrngReg), Pre_ConvQkvStepIdeal m →
    θ_run (Cert.ConvQkvStepIdeal.defs (F := Ideal)) (onTc (τ := Cert.ConvQkvStepIdeal.τ) (Cert.ConvQkvStepIdeal.main (F := Ideal))) ⟨m, fun _ => 0, g⟩ (fun r => (∀ c : Dev Cert.ConvQkvStepIdeal.nD,
      r.2.mem ((c.tc : Thread Cert.ConvQkvStepIdeal.nD Cert.ConvQkvStepIdeal.τ).loc Cert.ConvQkvStepIdeal.main_arg0) = m ((c.tc : Thread Cert.ConvQkvStepIdeal.nD Cert.ConvQkvStepIdeal.τ).loc Cert.ConvQkvStepIdeal.main_arg0)
      ∧ r.2.mem ((c.tc : Thread Cert.ConvQkvStepIdeal.nD Cert.ConvQkvStepIdeal.τ).loc Cert.ConvQkvStepIdeal.main_arg1) = m ((c.tc : Thread Cert.ConvQkvStepIdeal.nD Cert.ConvQkvStepIdeal.τ).loc Cert.ConvQkvStepIdeal.main_arg1)
      ∧ r.2.mem ((c.tc : Thread Cert.ConvQkvStepIdeal.nD Cert.ConvQkvStepIdeal.τ).loc Cert.ConvQkvStepIdeal.main_arg2) = m ((c.tc : Thread Cert.ConvQkvStepIdeal.nD Cert.ConvQkvStepIdeal.τ).loc Cert.ConvQkvStepIdeal.main_arg2)
      ∧ r.2.mem ((c.tc : Thread Cert.ConvQkvStepIdeal.nD Cert.ConvQkvStepIdeal.τ).loc Cert.ConvQkvStepIdeal.main_arg3) = m ((c.tc : Thread Cert.ConvQkvStepIdeal.nD Cert.ConvQkvStepIdeal.τ).loc Cert.ConvQkvStepIdeal.main_arg3))
      ∧ r.2.sem = fun _ => 0)

def quiescent_ConvQkvStepRefIdeal [hConvQkvStepRefIdeal : Cert.ConvQkvStepRefIdeal.Facts] : Prop :=
  ∀ (m : (ℓ : Loc Cert.ConvQkvStepRefIdeal.nD Cert.ConvQkvStepRefIdeal.τ Cert.ConvQkvStepRefIdeal.sig) → Buf (Elt Ideal) ℓ) (g : Dev Cert.ConvQkvStepRefIdeal.nD → PrngReg), Pre_ConvQkvStepRefIdeal m →
    θ_run (Cert.ConvQkvStepRefIdeal.defs (F := Ideal)) (onTc (τ := Cert.ConvQkvStepRefIdeal.τ) (Cert.ConvQkvStepRefIdeal.main (F := Ideal))) ⟨m, fun _ => 0, g⟩ (fun r => (∀ c : Dev Cert.ConvQkvStepRefIdeal.nD,
      r.2.mem ((c.tc : Thread Cert.ConvQkvStepRefIdeal.nD Cert.ConvQkvStepRefIdeal.τ).loc Cert.ConvQkvStepRefIdeal.main_arg0) = m ((c.tc : Thread Cert.ConvQkvStepRefIdeal.nD Cert.ConvQkvStepRefIdeal.τ).loc Cert.ConvQkvStepRefIdeal.main_arg0)
      ∧ r.2.mem ((c.tc : Thread Cert.ConvQkvStepRefIdeal.nD Cert.ConvQkvStepRefIdeal.τ).loc Cert.ConvQkvStepRefIdeal.main_arg1) = m ((c.tc : Thread Cert.ConvQkvStepRefIdeal.nD Cert.ConvQkvStepRefIdeal.τ).loc Cert.ConvQkvStepRefIdeal.main_arg1)
      ∧ r.2.mem ((c.tc : Thread Cert.ConvQkvStepRefIdeal.nD Cert.ConvQkvStepRefIdeal.τ).loc Cert.ConvQkvStepRefIdeal.main_arg2) = m ((c.tc : Thread Cert.ConvQkvStepRefIdeal.nD Cert.ConvQkvStepRefIdeal.τ).loc Cert.ConvQkvStepRefIdeal.main_arg2)
      ∧ r.2.mem ((c.tc : Thread Cert.ConvQkvStepRefIdeal.nD Cert.ConvQkvStepRefIdeal.τ).loc Cert.ConvQkvStepRefIdeal.main_arg3) = m ((c.tc : Thread Cert.ConvQkvStepRefIdeal.nD Cert.ConvQkvStepRefIdeal.τ).loc Cert.ConvQkvStepRefIdeal.main_arg3))
      ∧ r.2.sem = fun _ => 0)

def quiescent_ALogStep [hALogStep : Cert.ALogStep.Facts] : Prop :=
  ∀ (m : (ℓ : Loc Cert.ALogStep.nD Cert.ALogStep.τ Cert.ALogStep.sig) → Buf (Elt Bits) ℓ) (g : Dev Cert.ALogStep.nD → PrngReg), Pre_ALogStep m →
    θ_run (Cert.ALogStep.defs (F := Bits)) (onTc (τ := Cert.ALogStep.τ) (Cert.ALogStep.main (F := Bits))) ⟨m, fun _ => 0, g⟩ (fun r => (∀ c : Dev Cert.ALogStep.nD,
      r.2.mem ((c.tc : Thread Cert.ALogStep.nD Cert.ALogStep.τ).loc Cert.ALogStep.main_arg0) = m ((c.tc : Thread Cert.ALogStep.nD Cert.ALogStep.τ).loc Cert.ALogStep.main_arg0)
      ∧ r.2.mem ((c.tc : Thread Cert.ALogStep.nD Cert.ALogStep.τ).loc Cert.ALogStep.main_arg1) = m ((c.tc : Thread Cert.ALogStep.nD Cert.ALogStep.τ).loc Cert.ALogStep.main_arg1)
      ∧ r.2.mem ((c.tc : Thread Cert.ALogStep.nD Cert.ALogStep.τ).loc Cert.ALogStep.main_arg2) = m ((c.tc : Thread Cert.ALogStep.nD Cert.ALogStep.τ).loc Cert.ALogStep.main_arg2)
      ∧ r.2.mem ((c.tc : Thread Cert.ALogStep.nD Cert.ALogStep.τ).loc Cert.ALogStep.main_arg3) = m ((c.tc : Thread Cert.ALogStep.nD Cert.ALogStep.τ).loc Cert.ALogStep.main_arg3))
      ∧ r.2.sem = fun _ => 0)

def quiescent_ALogStepIdeal [hALogStepIdeal : Cert.ALogStepIdeal.Facts] : Prop :=
  ∀ (m : (ℓ : Loc Cert.ALogStepIdeal.nD Cert.ALogStepIdeal.τ Cert.ALogStepIdeal.sig) → Buf (Elt Ideal) ℓ) (g : Dev Cert.ALogStepIdeal.nD → PrngReg), Pre_ALogStepIdeal m →
    θ_run (Cert.ALogStepIdeal.defs (F := Ideal)) (onTc (τ := Cert.ALogStepIdeal.τ) (Cert.ALogStepIdeal.main (F := Ideal))) ⟨m, fun _ => 0, g⟩ (fun r => (∀ c : Dev Cert.ALogStepIdeal.nD,
      r.2.mem ((c.tc : Thread Cert.ALogStepIdeal.nD Cert.ALogStepIdeal.τ).loc Cert.ALogStepIdeal.main_arg0) = m ((c.tc : Thread Cert.ALogStepIdeal.nD Cert.ALogStepIdeal.τ).loc Cert.ALogStepIdeal.main_arg0)
      ∧ r.2.mem ((c.tc : Thread Cert.ALogStepIdeal.nD Cert.ALogStepIdeal.τ).loc Cert.ALogStepIdeal.main_arg1) = m ((c.tc : Thread Cert.ALogStepIdeal.nD Cert.ALogStepIdeal.τ).loc Cert.ALogStepIdeal.main_arg1)
      ∧ r.2.mem ((c.tc : Thread Cert.ALogStepIdeal.nD Cert.ALogStepIdeal.τ).loc Cert.ALogStepIdeal.main_arg2) = m ((c.tc : Thread Cert.ALogStepIdeal.nD Cert.ALogStepIdeal.τ).loc Cert.ALogStepIdeal.main_arg2)
      ∧ r.2.mem ((c.tc : Thread Cert.ALogStepIdeal.nD Cert.ALogStepIdeal.τ).loc Cert.ALogStepIdeal.main_arg3) = m ((c.tc : Thread Cert.ALogStepIdeal.nD Cert.ALogStepIdeal.τ).loc Cert.ALogStepIdeal.main_arg3))
      ∧ r.2.sem = fun _ => 0)

def quiescent_ALogStepRefIdeal [hALogStepRefIdeal : Cert.ALogStepRefIdeal.Facts] : Prop :=
  ∀ (m : (ℓ : Loc Cert.ALogStepRefIdeal.nD Cert.ALogStepRefIdeal.τ Cert.ALogStepRefIdeal.sig) → Buf (Elt Ideal) ℓ) (g : Dev Cert.ALogStepRefIdeal.nD → PrngReg), Pre_ALogStepRefIdeal m →
    θ_run (Cert.ALogStepRefIdeal.defs (F := Ideal)) (onTc (τ := Cert.ALogStepRefIdeal.τ) (Cert.ALogStepRefIdeal.main (F := Ideal))) ⟨m, fun _ => 0, g⟩ (fun r => (∀ c : Dev Cert.ALogStepRefIdeal.nD,
      r.2.mem ((c.tc : Thread Cert.ALogStepRefIdeal.nD Cert.ALogStepRefIdeal.τ).loc Cert.ALogStepRefIdeal.main_arg0) = m ((c.tc : Thread Cert.ALogStepRefIdeal.nD Cert.ALogStepRefIdeal.τ).loc Cert.ALogStepRefIdeal.main_arg0)
      ∧ r.2.mem ((c.tc : Thread Cert.ALogStepRefIdeal.nD Cert.ALogStepRefIdeal.τ).loc Cert.ALogStepRefIdeal.main_arg1) = m ((c.tc : Thread Cert.ALogStepRefIdeal.nD Cert.ALogStepRefIdeal.τ).loc Cert.ALogStepRefIdeal.main_arg1)
      ∧ r.2.mem ((c.tc : Thread Cert.ALogStepRefIdeal.nD Cert.ALogStepRefIdeal.τ).loc Cert.ALogStepRefIdeal.main_arg2) = m ((c.tc : Thread Cert.ALogStepRefIdeal.nD Cert.ALogStepRefIdeal.τ).loc Cert.ALogStepRefIdeal.main_arg2)
      ∧ r.2.mem ((c.tc : Thread Cert.ALogStepRefIdeal.nD Cert.ALogStepRefIdeal.τ).loc Cert.ALogStepRefIdeal.main_arg3) = m ((c.tc : Thread Cert.ALogStepRefIdeal.nD Cert.ALogStepRefIdeal.τ).loc Cert.ALogStepRefIdeal.main_arg3))
      ∧ r.2.sem = fun _ => 0)

def quiescent_GdnNormStep [hGdnNormStep : Cert.GdnNormStep.Facts] : Prop :=
  ∀ (m : (ℓ : Loc Cert.GdnNormStep.nD Cert.GdnNormStep.τ Cert.GdnNormStep.sig) → Buf (Elt Bits) ℓ) (g : Dev Cert.GdnNormStep.nD → PrngReg), Pre_GdnNormStep m →
    θ_run (Cert.GdnNormStep.defs (F := Bits)) (onTc (τ := Cert.GdnNormStep.τ) (Cert.GdnNormStep.main (F := Bits))) ⟨m, fun _ => 0, g⟩ (fun r => (∀ c : Dev Cert.GdnNormStep.nD,
      r.2.mem ((c.tc : Thread Cert.GdnNormStep.nD Cert.GdnNormStep.τ).loc Cert.GdnNormStep.main_arg0) = m ((c.tc : Thread Cert.GdnNormStep.nD Cert.GdnNormStep.τ).loc Cert.GdnNormStep.main_arg0)
      ∧ r.2.mem ((c.tc : Thread Cert.GdnNormStep.nD Cert.GdnNormStep.τ).loc Cert.GdnNormStep.main_arg1) = m ((c.tc : Thread Cert.GdnNormStep.nD Cert.GdnNormStep.τ).loc Cert.GdnNormStep.main_arg1)
      ∧ r.2.mem ((c.tc : Thread Cert.GdnNormStep.nD Cert.GdnNormStep.τ).loc Cert.GdnNormStep.main_arg2) = m ((c.tc : Thread Cert.GdnNormStep.nD Cert.GdnNormStep.τ).loc Cert.GdnNormStep.main_arg2)
      ∧ r.2.mem ((c.tc : Thread Cert.GdnNormStep.nD Cert.GdnNormStep.τ).loc Cert.GdnNormStep.main_arg3) = m ((c.tc : Thread Cert.GdnNormStep.nD Cert.GdnNormStep.τ).loc Cert.GdnNormStep.main_arg3))
      ∧ r.2.sem = fun _ => 0)

def quiescent_GdnNormStepIdeal [hGdnNormStepIdeal : Cert.GdnNormStepIdeal.Facts] : Prop :=
  ∀ (m : (ℓ : Loc Cert.GdnNormStepIdeal.nD Cert.GdnNormStepIdeal.τ Cert.GdnNormStepIdeal.sig) → Buf (Elt Ideal) ℓ) (g : Dev Cert.GdnNormStepIdeal.nD → PrngReg), Pre_GdnNormStepIdeal m →
    θ_run (Cert.GdnNormStepIdeal.defs (F := Ideal)) (onTc (τ := Cert.GdnNormStepIdeal.τ) (Cert.GdnNormStepIdeal.main (F := Ideal))) ⟨m, fun _ => 0, g⟩ (fun r => (∀ c : Dev Cert.GdnNormStepIdeal.nD,
      r.2.mem ((c.tc : Thread Cert.GdnNormStepIdeal.nD Cert.GdnNormStepIdeal.τ).loc Cert.GdnNormStepIdeal.main_arg0) = m ((c.tc : Thread Cert.GdnNormStepIdeal.nD Cert.GdnNormStepIdeal.τ).loc Cert.GdnNormStepIdeal.main_arg0)
      ∧ r.2.mem ((c.tc : Thread Cert.GdnNormStepIdeal.nD Cert.GdnNormStepIdeal.τ).loc Cert.GdnNormStepIdeal.main_arg1) = m ((c.tc : Thread Cert.GdnNormStepIdeal.nD Cert.GdnNormStepIdeal.τ).loc Cert.GdnNormStepIdeal.main_arg1)
      ∧ r.2.mem ((c.tc : Thread Cert.GdnNormStepIdeal.nD Cert.GdnNormStepIdeal.τ).loc Cert.GdnNormStepIdeal.main_arg2) = m ((c.tc : Thread Cert.GdnNormStepIdeal.nD Cert.GdnNormStepIdeal.τ).loc Cert.GdnNormStepIdeal.main_arg2)
      ∧ r.2.mem ((c.tc : Thread Cert.GdnNormStepIdeal.nD Cert.GdnNormStepIdeal.τ).loc Cert.GdnNormStepIdeal.main_arg3) = m ((c.tc : Thread Cert.GdnNormStepIdeal.nD Cert.GdnNormStepIdeal.τ).loc Cert.GdnNormStepIdeal.main_arg3))
      ∧ r.2.sem = fun _ => 0)

def quiescent_GdnNormStepRefIdeal [hGdnNormStepRefIdeal : Cert.GdnNormStepRefIdeal.Facts] : Prop :=
  ∀ (m : (ℓ : Loc Cert.GdnNormStepRefIdeal.nD Cert.GdnNormStepRefIdeal.τ Cert.GdnNormStepRefIdeal.sig) → Buf (Elt Ideal) ℓ) (g : Dev Cert.GdnNormStepRefIdeal.nD → PrngReg), Pre_GdnNormStepRefIdeal m →
    θ_run (Cert.GdnNormStepRefIdeal.defs (F := Ideal)) (onTc (τ := Cert.GdnNormStepRefIdeal.τ) (Cert.GdnNormStepRefIdeal.main (F := Ideal))) ⟨m, fun _ => 0, g⟩ (fun r => (∀ c : Dev Cert.GdnNormStepRefIdeal.nD,
      r.2.mem ((c.tc : Thread Cert.GdnNormStepRefIdeal.nD Cert.GdnNormStepRefIdeal.τ).loc Cert.GdnNormStepRefIdeal.main_arg0) = m ((c.tc : Thread Cert.GdnNormStepRefIdeal.nD Cert.GdnNormStepRefIdeal.τ).loc Cert.GdnNormStepRefIdeal.main_arg0)
      ∧ r.2.mem ((c.tc : Thread Cert.GdnNormStepRefIdeal.nD Cert.GdnNormStepRefIdeal.τ).loc Cert.GdnNormStepRefIdeal.main_arg1) = m ((c.tc : Thread Cert.GdnNormStepRefIdeal.nD Cert.GdnNormStepRefIdeal.τ).loc Cert.GdnNormStepRefIdeal.main_arg1)
      ∧ r.2.mem ((c.tc : Thread Cert.GdnNormStepRefIdeal.nD Cert.GdnNormStepRefIdeal.τ).loc Cert.GdnNormStepRefIdeal.main_arg2) = m ((c.tc : Thread Cert.GdnNormStepRefIdeal.nD Cert.GdnNormStepRefIdeal.τ).loc Cert.GdnNormStepRefIdeal.main_arg2)
      ∧ r.2.mem ((c.tc : Thread Cert.GdnNormStepRefIdeal.nD Cert.GdnNormStepRefIdeal.τ).loc Cert.GdnNormStepRefIdeal.main_arg3) = m ((c.tc : Thread Cert.GdnNormStepRefIdeal.nD Cert.GdnNormStepRefIdeal.τ).loc Cert.GdnNormStepRefIdeal.main_arg3))
      ∧ r.2.sem = fun _ => 0)

def quiescent_ConvScStep [hConvScStep : Cert.ConvScStep.Facts] : Prop :=
  ∀ (m : (ℓ : Loc Cert.ConvScStep.nD Cert.ConvScStep.τ Cert.ConvScStep.sig) → Buf (Elt Bits) ℓ) (g : Dev Cert.ConvScStep.nD → PrngReg), Pre_ConvScStep m →
    θ_run (Cert.ConvScStep.defs (F := Bits)) (onTc (τ := Cert.ConvScStep.τ) (Cert.ConvScStep.main (F := Bits))) ⟨m, fun _ => 0, g⟩ (fun r => (∀ c : Dev Cert.ConvScStep.nD,
      r.2.mem ((c.tc : Thread Cert.ConvScStep.nD Cert.ConvScStep.τ).loc Cert.ConvScStep.main_arg0) = m ((c.tc : Thread Cert.ConvScStep.nD Cert.ConvScStep.τ).loc Cert.ConvScStep.main_arg0)
      ∧ r.2.mem ((c.tc : Thread Cert.ConvScStep.nD Cert.ConvScStep.τ).loc Cert.ConvScStep.main_arg1) = m ((c.tc : Thread Cert.ConvScStep.nD Cert.ConvScStep.τ).loc Cert.ConvScStep.main_arg1)
      ∧ r.2.mem ((c.tc : Thread Cert.ConvScStep.nD Cert.ConvScStep.τ).loc Cert.ConvScStep.main_arg2) = m ((c.tc : Thread Cert.ConvScStep.nD Cert.ConvScStep.τ).loc Cert.ConvScStep.main_arg2)
      ∧ r.2.mem ((c.tc : Thread Cert.ConvScStep.nD Cert.ConvScStep.τ).loc Cert.ConvScStep.main_arg3) = m ((c.tc : Thread Cert.ConvScStep.nD Cert.ConvScStep.τ).loc Cert.ConvScStep.main_arg3))
      ∧ r.2.sem = fun _ => 0)

def quiescent_ConvScStepIdeal [hConvScStepIdeal : Cert.ConvScStepIdeal.Facts] : Prop :=
  ∀ (m : (ℓ : Loc Cert.ConvScStepIdeal.nD Cert.ConvScStepIdeal.τ Cert.ConvScStepIdeal.sig) → Buf (Elt Ideal) ℓ) (g : Dev Cert.ConvScStepIdeal.nD → PrngReg), Pre_ConvScStepIdeal m →
    θ_run (Cert.ConvScStepIdeal.defs (F := Ideal)) (onTc (τ := Cert.ConvScStepIdeal.τ) (Cert.ConvScStepIdeal.main (F := Ideal))) ⟨m, fun _ => 0, g⟩ (fun r => (∀ c : Dev Cert.ConvScStepIdeal.nD,
      r.2.mem ((c.tc : Thread Cert.ConvScStepIdeal.nD Cert.ConvScStepIdeal.τ).loc Cert.ConvScStepIdeal.main_arg0) = m ((c.tc : Thread Cert.ConvScStepIdeal.nD Cert.ConvScStepIdeal.τ).loc Cert.ConvScStepIdeal.main_arg0)
      ∧ r.2.mem ((c.tc : Thread Cert.ConvScStepIdeal.nD Cert.ConvScStepIdeal.τ).loc Cert.ConvScStepIdeal.main_arg1) = m ((c.tc : Thread Cert.ConvScStepIdeal.nD Cert.ConvScStepIdeal.τ).loc Cert.ConvScStepIdeal.main_arg1)
      ∧ r.2.mem ((c.tc : Thread Cert.ConvScStepIdeal.nD Cert.ConvScStepIdeal.τ).loc Cert.ConvScStepIdeal.main_arg2) = m ((c.tc : Thread Cert.ConvScStepIdeal.nD Cert.ConvScStepIdeal.τ).loc Cert.ConvScStepIdeal.main_arg2)
      ∧ r.2.mem ((c.tc : Thread Cert.ConvScStepIdeal.nD Cert.ConvScStepIdeal.τ).loc Cert.ConvScStepIdeal.main_arg3) = m ((c.tc : Thread Cert.ConvScStepIdeal.nD Cert.ConvScStepIdeal.τ).loc Cert.ConvScStepIdeal.main_arg3))
      ∧ r.2.sem = fun _ => 0)

def quiescent_ConvScStepRefIdeal [hConvScStepRefIdeal : Cert.ConvScStepRefIdeal.Facts] : Prop :=
  ∀ (m : (ℓ : Loc Cert.ConvScStepRefIdeal.nD Cert.ConvScStepRefIdeal.τ Cert.ConvScStepRefIdeal.sig) → Buf (Elt Ideal) ℓ) (g : Dev Cert.ConvScStepRefIdeal.nD → PrngReg), Pre_ConvScStepRefIdeal m →
    θ_run (Cert.ConvScStepRefIdeal.defs (F := Ideal)) (onTc (τ := Cert.ConvScStepRefIdeal.τ) (Cert.ConvScStepRefIdeal.main (F := Ideal))) ⟨m, fun _ => 0, g⟩ (fun r => (∀ c : Dev Cert.ConvScStepRefIdeal.nD,
      r.2.mem ((c.tc : Thread Cert.ConvScStepRefIdeal.nD Cert.ConvScStepRefIdeal.τ).loc Cert.ConvScStepRefIdeal.main_arg0) = m ((c.tc : Thread Cert.ConvScStepRefIdeal.nD Cert.ConvScStepRefIdeal.τ).loc Cert.ConvScStepRefIdeal.main_arg0)
      ∧ r.2.mem ((c.tc : Thread Cert.ConvScStepRefIdeal.nD Cert.ConvScStepRefIdeal.τ).loc Cert.ConvScStepRefIdeal.main_arg1) = m ((c.tc : Thread Cert.ConvScStepRefIdeal.nD Cert.ConvScStepRefIdeal.τ).loc Cert.ConvScStepRefIdeal.main_arg1)
      ∧ r.2.mem ((c.tc : Thread Cert.ConvScStepRefIdeal.nD Cert.ConvScStepRefIdeal.τ).loc Cert.ConvScStepRefIdeal.main_arg2) = m ((c.tc : Thread Cert.ConvScStepRefIdeal.nD Cert.ConvScStepRefIdeal.τ).loc Cert.ConvScStepRefIdeal.main_arg2)
      ∧ r.2.mem ((c.tc : Thread Cert.ConvScStepRefIdeal.nD Cert.ConvScStepRefIdeal.τ).loc Cert.ConvScStepRefIdeal.main_arg3) = m ((c.tc : Thread Cert.ConvScStepRefIdeal.nD Cert.ConvScStepRefIdeal.τ).loc Cert.ConvScStepRefIdeal.main_arg3))
      ∧ r.2.sem = fun _ => 0)

def quiescent_WOutStep [hWOutStep : Cert.WOutStep.Facts] : Prop :=
  ∀ (m : (ℓ : Loc Cert.WOutStep.nD Cert.WOutStep.τ Cert.WOutStep.sig) → Buf (Elt Bits) ℓ) (g : Dev Cert.WOutStep.nD → PrngReg), Pre_WOutStep m →
    θ_run (Cert.WOutStep.defs (F := Bits)) (onTc (τ := Cert.WOutStep.τ) (Cert.WOutStep.main (F := Bits))) ⟨m, fun _ => 0, g⟩ (fun r => (∀ c : Dev Cert.WOutStep.nD,
      r.2.mem ((c.tc : Thread Cert.WOutStep.nD Cert.WOutStep.τ).loc Cert.WOutStep.main_arg0) = m ((c.tc : Thread Cert.WOutStep.nD Cert.WOutStep.τ).loc Cert.WOutStep.main_arg0)
      ∧ r.2.mem ((c.tc : Thread Cert.WOutStep.nD Cert.WOutStep.τ).loc Cert.WOutStep.main_arg1) = m ((c.tc : Thread Cert.WOutStep.nD Cert.WOutStep.τ).loc Cert.WOutStep.main_arg1)
      ∧ r.2.mem ((c.tc : Thread Cert.WOutStep.nD Cert.WOutStep.τ).loc Cert.WOutStep.main_arg2) = m ((c.tc : Thread Cert.WOutStep.nD Cert.WOutStep.τ).loc Cert.WOutStep.main_arg2)
      ∧ r.2.mem ((c.tc : Thread Cert.WOutStep.nD Cert.WOutStep.τ).loc Cert.WOutStep.main_arg3) = m ((c.tc : Thread Cert.WOutStep.nD Cert.WOutStep.τ).loc Cert.WOutStep.main_arg3))
      ∧ r.2.sem = fun _ => 0)

def quiescent_WOutStepIdeal [hWOutStepIdeal : Cert.WOutStepIdeal.Facts] : Prop :=
  ∀ (m : (ℓ : Loc Cert.WOutStepIdeal.nD Cert.WOutStepIdeal.τ Cert.WOutStepIdeal.sig) → Buf (Elt Ideal) ℓ) (g : Dev Cert.WOutStepIdeal.nD → PrngReg), Pre_WOutStepIdeal m →
    θ_run (Cert.WOutStepIdeal.defs (F := Ideal)) (onTc (τ := Cert.WOutStepIdeal.τ) (Cert.WOutStepIdeal.main (F := Ideal))) ⟨m, fun _ => 0, g⟩ (fun r => (∀ c : Dev Cert.WOutStepIdeal.nD,
      r.2.mem ((c.tc : Thread Cert.WOutStepIdeal.nD Cert.WOutStepIdeal.τ).loc Cert.WOutStepIdeal.main_arg0) = m ((c.tc : Thread Cert.WOutStepIdeal.nD Cert.WOutStepIdeal.τ).loc Cert.WOutStepIdeal.main_arg0)
      ∧ r.2.mem ((c.tc : Thread Cert.WOutStepIdeal.nD Cert.WOutStepIdeal.τ).loc Cert.WOutStepIdeal.main_arg1) = m ((c.tc : Thread Cert.WOutStepIdeal.nD Cert.WOutStepIdeal.τ).loc Cert.WOutStepIdeal.main_arg1)
      ∧ r.2.mem ((c.tc : Thread Cert.WOutStepIdeal.nD Cert.WOutStepIdeal.τ).loc Cert.WOutStepIdeal.main_arg2) = m ((c.tc : Thread Cert.WOutStepIdeal.nD Cert.WOutStepIdeal.τ).loc Cert.WOutStepIdeal.main_arg2)
      ∧ r.2.mem ((c.tc : Thread Cert.WOutStepIdeal.nD Cert.WOutStepIdeal.τ).loc Cert.WOutStepIdeal.main_arg3) = m ((c.tc : Thread Cert.WOutStepIdeal.nD Cert.WOutStepIdeal.τ).loc Cert.WOutStepIdeal.main_arg3))
      ∧ r.2.sem = fun _ => 0)

def quiescent_WOutStepRefIdeal [hWOutStepRefIdeal : Cert.WOutStepRefIdeal.Facts] : Prop :=
  ∀ (m : (ℓ : Loc Cert.WOutStepRefIdeal.nD Cert.WOutStepRefIdeal.τ Cert.WOutStepRefIdeal.sig) → Buf (Elt Ideal) ℓ) (g : Dev Cert.WOutStepRefIdeal.nD → PrngReg), Pre_WOutStepRefIdeal m →
    θ_run (Cert.WOutStepRefIdeal.defs (F := Ideal)) (onTc (τ := Cert.WOutStepRefIdeal.τ) (Cert.WOutStepRefIdeal.main (F := Ideal))) ⟨m, fun _ => 0, g⟩ (fun r => (∀ c : Dev Cert.WOutStepRefIdeal.nD,
      r.2.mem ((c.tc : Thread Cert.WOutStepRefIdeal.nD Cert.WOutStepRefIdeal.τ).loc Cert.WOutStepRefIdeal.main_arg0) = m ((c.tc : Thread Cert.WOutStepRefIdeal.nD Cert.WOutStepRefIdeal.τ).loc Cert.WOutStepRefIdeal.main_arg0)
      ∧ r.2.mem ((c.tc : Thread Cert.WOutStepRefIdeal.nD Cert.WOutStepRefIdeal.τ).loc Cert.WOutStepRefIdeal.main_arg1) = m ((c.tc : Thread Cert.WOutStepRefIdeal.nD Cert.WOutStepRefIdeal.τ).loc Cert.WOutStepRefIdeal.main_arg1)
      ∧ r.2.mem ((c.tc : Thread Cert.WOutStepRefIdeal.nD Cert.WOutStepRefIdeal.τ).loc Cert.WOutStepRefIdeal.main_arg2) = m ((c.tc : Thread Cert.WOutStepRefIdeal.nD Cert.WOutStepRefIdeal.τ).loc Cert.WOutStepRefIdeal.main_arg2)
      ∧ r.2.mem ((c.tc : Thread Cert.WOutStepRefIdeal.nD Cert.WOutStepRefIdeal.τ).loc Cert.WOutStepRefIdeal.main_arg3) = m ((c.tc : Thread Cert.WOutStepRefIdeal.nD Cert.WOutStepRefIdeal.τ).loc Cert.WOutStepRefIdeal.main_arg3))
      ∧ r.2.sem = fun _ => 0)

def quiescent_WGateStep [hWGateStep : Cert.WGateStep.Facts] : Prop :=
  ∀ (m : (ℓ : Loc Cert.WGateStep.nD Cert.WGateStep.τ Cert.WGateStep.sig) → Buf (Elt Bits) ℓ) (g : Dev Cert.WGateStep.nD → PrngReg), Pre_WGateStep m →
    θ_run (Cert.WGateStep.defs (F := Bits)) (onTc (τ := Cert.WGateStep.τ) (Cert.WGateStep.main (F := Bits))) ⟨m, fun _ => 0, g⟩ (fun r => (∀ c : Dev Cert.WGateStep.nD,
      r.2.mem ((c.tc : Thread Cert.WGateStep.nD Cert.WGateStep.τ).loc Cert.WGateStep.main_arg0) = m ((c.tc : Thread Cert.WGateStep.nD Cert.WGateStep.τ).loc Cert.WGateStep.main_arg0)
      ∧ r.2.mem ((c.tc : Thread Cert.WGateStep.nD Cert.WGateStep.τ).loc Cert.WGateStep.main_arg1) = m ((c.tc : Thread Cert.WGateStep.nD Cert.WGateStep.τ).loc Cert.WGateStep.main_arg1)
      ∧ r.2.mem ((c.tc : Thread Cert.WGateStep.nD Cert.WGateStep.τ).loc Cert.WGateStep.main_arg2) = m ((c.tc : Thread Cert.WGateStep.nD Cert.WGateStep.τ).loc Cert.WGateStep.main_arg2)
      ∧ r.2.mem ((c.tc : Thread Cert.WGateStep.nD Cert.WGateStep.τ).loc Cert.WGateStep.main_arg3) = m ((c.tc : Thread Cert.WGateStep.nD Cert.WGateStep.τ).loc Cert.WGateStep.main_arg3))
      ∧ r.2.sem = fun _ => 0)

def quiescent_WGateStepIdeal [hWGateStepIdeal : Cert.WGateStepIdeal.Facts] : Prop :=
  ∀ (m : (ℓ : Loc Cert.WGateStepIdeal.nD Cert.WGateStepIdeal.τ Cert.WGateStepIdeal.sig) → Buf (Elt Ideal) ℓ) (g : Dev Cert.WGateStepIdeal.nD → PrngReg), Pre_WGateStepIdeal m →
    θ_run (Cert.WGateStepIdeal.defs (F := Ideal)) (onTc (τ := Cert.WGateStepIdeal.τ) (Cert.WGateStepIdeal.main (F := Ideal))) ⟨m, fun _ => 0, g⟩ (fun r => (∀ c : Dev Cert.WGateStepIdeal.nD,
      r.2.mem ((c.tc : Thread Cert.WGateStepIdeal.nD Cert.WGateStepIdeal.τ).loc Cert.WGateStepIdeal.main_arg0) = m ((c.tc : Thread Cert.WGateStepIdeal.nD Cert.WGateStepIdeal.τ).loc Cert.WGateStepIdeal.main_arg0)
      ∧ r.2.mem ((c.tc : Thread Cert.WGateStepIdeal.nD Cert.WGateStepIdeal.τ).loc Cert.WGateStepIdeal.main_arg1) = m ((c.tc : Thread Cert.WGateStepIdeal.nD Cert.WGateStepIdeal.τ).loc Cert.WGateStepIdeal.main_arg1)
      ∧ r.2.mem ((c.tc : Thread Cert.WGateStepIdeal.nD Cert.WGateStepIdeal.τ).loc Cert.WGateStepIdeal.main_arg2) = m ((c.tc : Thread Cert.WGateStepIdeal.nD Cert.WGateStepIdeal.τ).loc Cert.WGateStepIdeal.main_arg2)
      ∧ r.2.mem ((c.tc : Thread Cert.WGateStepIdeal.nD Cert.WGateStepIdeal.τ).loc Cert.WGateStepIdeal.main_arg3) = m ((c.tc : Thread Cert.WGateStepIdeal.nD Cert.WGateStepIdeal.τ).loc Cert.WGateStepIdeal.main_arg3))
      ∧ r.2.sem = fun _ => 0)

def quiescent_WGateStepRefIdeal [hWGateStepRefIdeal : Cert.WGateStepRefIdeal.Facts] : Prop :=
  ∀ (m : (ℓ : Loc Cert.WGateStepRefIdeal.nD Cert.WGateStepRefIdeal.τ Cert.WGateStepRefIdeal.sig) → Buf (Elt Ideal) ℓ) (g : Dev Cert.WGateStepRefIdeal.nD → PrngReg), Pre_WGateStepRefIdeal m →
    θ_run (Cert.WGateStepRefIdeal.defs (F := Ideal)) (onTc (τ := Cert.WGateStepRefIdeal.τ) (Cert.WGateStepRefIdeal.main (F := Ideal))) ⟨m, fun _ => 0, g⟩ (fun r => (∀ c : Dev Cert.WGateStepRefIdeal.nD,
      r.2.mem ((c.tc : Thread Cert.WGateStepRefIdeal.nD Cert.WGateStepRefIdeal.τ).loc Cert.WGateStepRefIdeal.main_arg0) = m ((c.tc : Thread Cert.WGateStepRefIdeal.nD Cert.WGateStepRefIdeal.τ).loc Cert.WGateStepRefIdeal.main_arg0)
      ∧ r.2.mem ((c.tc : Thread Cert.WGateStepRefIdeal.nD Cert.WGateStepRefIdeal.τ).loc Cert.WGateStepRefIdeal.main_arg1) = m ((c.tc : Thread Cert.WGateStepRefIdeal.nD Cert.WGateStepRefIdeal.τ).loc Cert.WGateStepRefIdeal.main_arg1)
      ∧ r.2.mem ((c.tc : Thread Cert.WGateStepRefIdeal.nD Cert.WGateStepRefIdeal.τ).loc Cert.WGateStepRefIdeal.main_arg2) = m ((c.tc : Thread Cert.WGateStepRefIdeal.nD Cert.WGateStepRefIdeal.τ).loc Cert.WGateStepRefIdeal.main_arg2)
      ∧ r.2.mem ((c.tc : Thread Cert.WGateStepRefIdeal.nD Cert.WGateStepRefIdeal.τ).loc Cert.WGateStepRefIdeal.main_arg3) = m ((c.tc : Thread Cert.WGateStepRefIdeal.nD Cert.WGateStepRefIdeal.τ).loc Cert.WGateStepRefIdeal.main_arg3))
      ∧ r.2.sem = fun _ => 0)

def quiescent_WDownStep [hWDownStep : Cert.WDownStep.Facts] : Prop :=
  ∀ (m : (ℓ : Loc Cert.WDownStep.nD Cert.WDownStep.τ Cert.WDownStep.sig) → Buf (Elt Bits) ℓ) (g : Dev Cert.WDownStep.nD → PrngReg), Pre_WDownStep m →
    θ_run (Cert.WDownStep.defs (F := Bits)) (onTc (τ := Cert.WDownStep.τ) (Cert.WDownStep.main (F := Bits))) ⟨m, fun _ => 0, g⟩ (fun r => (∀ c : Dev Cert.WDownStep.nD,
      r.2.mem ((c.tc : Thread Cert.WDownStep.nD Cert.WDownStep.τ).loc Cert.WDownStep.main_arg0) = m ((c.tc : Thread Cert.WDownStep.nD Cert.WDownStep.τ).loc Cert.WDownStep.main_arg0)
      ∧ r.2.mem ((c.tc : Thread Cert.WDownStep.nD Cert.WDownStep.τ).loc Cert.WDownStep.main_arg1) = m ((c.tc : Thread Cert.WDownStep.nD Cert.WDownStep.τ).loc Cert.WDownStep.main_arg1)
      ∧ r.2.mem ((c.tc : Thread Cert.WDownStep.nD Cert.WDownStep.τ).loc Cert.WDownStep.main_arg2) = m ((c.tc : Thread Cert.WDownStep.nD Cert.WDownStep.τ).loc Cert.WDownStep.main_arg2)
      ∧ r.2.mem ((c.tc : Thread Cert.WDownStep.nD Cert.WDownStep.τ).loc Cert.WDownStep.main_arg3) = m ((c.tc : Thread Cert.WDownStep.nD Cert.WDownStep.τ).loc Cert.WDownStep.main_arg3))
      ∧ r.2.sem = fun _ => 0)

def quiescent_WDownStepIdeal [hWDownStepIdeal : Cert.WDownStepIdeal.Facts] : Prop :=
  ∀ (m : (ℓ : Loc Cert.WDownStepIdeal.nD Cert.WDownStepIdeal.τ Cert.WDownStepIdeal.sig) → Buf (Elt Ideal) ℓ) (g : Dev Cert.WDownStepIdeal.nD → PrngReg), Pre_WDownStepIdeal m →
    θ_run (Cert.WDownStepIdeal.defs (F := Ideal)) (onTc (τ := Cert.WDownStepIdeal.τ) (Cert.WDownStepIdeal.main (F := Ideal))) ⟨m, fun _ => 0, g⟩ (fun r => (∀ c : Dev Cert.WDownStepIdeal.nD,
      r.2.mem ((c.tc : Thread Cert.WDownStepIdeal.nD Cert.WDownStepIdeal.τ).loc Cert.WDownStepIdeal.main_arg0) = m ((c.tc : Thread Cert.WDownStepIdeal.nD Cert.WDownStepIdeal.τ).loc Cert.WDownStepIdeal.main_arg0)
      ∧ r.2.mem ((c.tc : Thread Cert.WDownStepIdeal.nD Cert.WDownStepIdeal.τ).loc Cert.WDownStepIdeal.main_arg1) = m ((c.tc : Thread Cert.WDownStepIdeal.nD Cert.WDownStepIdeal.τ).loc Cert.WDownStepIdeal.main_arg1)
      ∧ r.2.mem ((c.tc : Thread Cert.WDownStepIdeal.nD Cert.WDownStepIdeal.τ).loc Cert.WDownStepIdeal.main_arg2) = m ((c.tc : Thread Cert.WDownStepIdeal.nD Cert.WDownStepIdeal.τ).loc Cert.WDownStepIdeal.main_arg2)
      ∧ r.2.mem ((c.tc : Thread Cert.WDownStepIdeal.nD Cert.WDownStepIdeal.τ).loc Cert.WDownStepIdeal.main_arg3) = m ((c.tc : Thread Cert.WDownStepIdeal.nD Cert.WDownStepIdeal.τ).loc Cert.WDownStepIdeal.main_arg3))
      ∧ r.2.sem = fun _ => 0)

def quiescent_WDownStepRefIdeal [hWDownStepRefIdeal : Cert.WDownStepRefIdeal.Facts] : Prop :=
  ∀ (m : (ℓ : Loc Cert.WDownStepRefIdeal.nD Cert.WDownStepRefIdeal.τ Cert.WDownStepRefIdeal.sig) → Buf (Elt Ideal) ℓ) (g : Dev Cert.WDownStepRefIdeal.nD → PrngReg), Pre_WDownStepRefIdeal m →
    θ_run (Cert.WDownStepRefIdeal.defs (F := Ideal)) (onTc (τ := Cert.WDownStepRefIdeal.τ) (Cert.WDownStepRefIdeal.main (F := Ideal))) ⟨m, fun _ => 0, g⟩ (fun r => (∀ c : Dev Cert.WDownStepRefIdeal.nD,
      r.2.mem ((c.tc : Thread Cert.WDownStepRefIdeal.nD Cert.WDownStepRefIdeal.τ).loc Cert.WDownStepRefIdeal.main_arg0) = m ((c.tc : Thread Cert.WDownStepRefIdeal.nD Cert.WDownStepRefIdeal.τ).loc Cert.WDownStepRefIdeal.main_arg0)
      ∧ r.2.mem ((c.tc : Thread Cert.WDownStepRefIdeal.nD Cert.WDownStepRefIdeal.τ).loc Cert.WDownStepRefIdeal.main_arg1) = m ((c.tc : Thread Cert.WDownStepRefIdeal.nD Cert.WDownStepRefIdeal.τ).loc Cert.WDownStepRefIdeal.main_arg1)
      ∧ r.2.mem ((c.tc : Thread Cert.WDownStepRefIdeal.nD Cert.WDownStepRefIdeal.τ).loc Cert.WDownStepRefIdeal.main_arg2) = m ((c.tc : Thread Cert.WDownStepRefIdeal.nD Cert.WDownStepRefIdeal.τ).loc Cert.WDownStepRefIdeal.main_arg2)
      ∧ r.2.mem ((c.tc : Thread Cert.WDownStepRefIdeal.nD Cert.WDownStepRefIdeal.τ).loc Cert.WDownStepRefIdeal.main_arg3) = m ((c.tc : Thread Cert.WDownStepRefIdeal.nD Cert.WDownStepRefIdeal.τ).loc Cert.WDownStepRefIdeal.main_arg3))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2)
      ∧ r.2.mem ((c.tc : Thread Cert.InputGrad.nD Cert.InputGrad.τ).loc Cert.InputGrad.main_arg3) = m ((c.tc : Thread Cert.InputGrad.nD Cert.InputGrad.τ).loc Cert.InputGrad.main_arg3))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3))
      ∧ r.2.sem = fun _ => 0)

def quiescent_InputGradRefIdeal [hInputGradRefIdeal : Cert.InputGradRefIdeal.Facts] : Prop :=
  ∀ (m : (ℓ : Loc Cert.InputGradRefIdeal.nD Cert.InputGradRefIdeal.τ Cert.InputGradRefIdeal.sig) → Buf (Elt Ideal) ℓ) (g : Dev Cert.InputGradRefIdeal.nD → PrngReg), Pre_InputGradRefIdeal m →
    θ_run (Cert.InputGradRefIdeal.defs (F := Ideal)) (onTc (τ := Cert.InputGradRefIdeal.τ) (Cert.InputGradRefIdeal.main (F := Ideal))) ⟨m, fun _ => 0, g⟩ (fun r => (∀ c : Dev Cert.InputGradRefIdeal.nD,
      r.2.mem ((c.tc : Thread Cert.InputGradRefIdeal.nD Cert.InputGradRefIdeal.τ).loc Cert.InputGradRefIdeal.main_arg0) = m ((c.tc : Thread Cert.InputGradRefIdeal.nD Cert.InputGradRefIdeal.τ).loc Cert.InputGradRefIdeal.main_arg0)
      ∧ r.2.mem ((c.tc : Thread Cert.InputGradRefIdeal.nD Cert.InputGradRefIdeal.τ).loc Cert.InputGradRefIdeal.main_arg1) = m ((c.tc : Thread Cert.InputGradRefIdeal.nD Cert.InputGradRefIdeal.τ).loc Cert.InputGradRefIdeal.main_arg1)
      ∧ r.2.mem ((c.tc : Thread Cert.InputGradRefIdeal.nD Cert.InputGradRefIdeal.τ).loc Cert.InputGradRefIdeal.main_arg2) = m ((c.tc : Thread Cert.InputGradRefIdeal.nD Cert.InputGradRefIdeal.τ).loc Cert.InputGradRefIdeal.main_arg2)
      ∧ r.2.mem ((c.tc : Thread Cert.InputGradRefIdeal.nD Cert.InputGradRefIdeal.τ).loc Cert.InputGradRefIdeal.main_arg3) = m ((c.tc : Thread Cert.InputGradRefIdeal.nD Cert.InputGradRefIdeal.τ).loc Cert.InputGradRefIdeal.main_arg3))
      ∧ r.2.sem = fun _ => 0)

def quiescent_MidGrad [hMidGrad : Cert.MidGrad.Facts] : Prop :=
  ∀ (m : (ℓ : Loc Cert.MidGrad.nD Cert.MidGrad.τ Cert.MidGrad.sig) → Buf (Elt Bits) ℓ) (g : Dev Cert.MidGrad.nD → PrngReg), Pre_MidGrad m →
    θ_run (Cert.MidGrad.defs (F := Bits)) (onTc (τ := Cert.MidGrad.τ) (Cert.MidGrad.main (F := Bits))) ⟨m, fun _ => 0, g⟩ (fun r => (∀ c : Dev Cert.MidGrad.nD,
      r.2.mem ((c.tc : Thread Cert.MidGrad.nD Cert.MidGrad.τ).loc Cert.MidGrad.main_arg0) = m ((c.tc : Thread Cert.MidGrad.nD Cert.MidGrad.τ).loc Cert.MidGrad.main_arg0)
      ∧ r.2.mem ((c.tc : Thread Cert.MidGrad.nD Cert.MidGrad.τ).loc Cert.MidGrad.main_arg1) = m ((c.tc : Thread Cert.MidGrad.nD Cert.MidGrad.τ).loc Cert.MidGrad.main_arg1)
      ∧ r.2.mem ((c.tc : Thread Cert.MidGrad.nD Cert.MidGrad.τ).loc Cert.MidGrad.main_arg2) = m ((c.tc : Thread Cert.MidGrad.nD Cert.MidGrad.τ).loc Cert.MidGrad.main_arg2)
      ∧ r.2.mem ((c.tc : Thread Cert.MidGrad.nD Cert.MidGrad.τ).loc Cert.MidGrad.main_arg3) = m ((c.tc : Thread Cert.MidGrad.nD Cert.MidGrad.τ).loc Cert.MidGrad.main_arg3)
      ∧ r.2.mem ((c.tc : Thread Cert.MidGrad.nD Cert.MidGrad.τ).loc Cert.MidGrad.main_arg4) = m ((c.tc : Thread Cert.MidGrad.nD Cert.MidGrad.τ).loc Cert.MidGrad.main_arg4)
      ∧ r.2.mem ((c.tc : Thread Cert.MidGrad.nD Cert.MidGrad.τ).loc Cert.MidGrad.main_arg5) = m ((c.tc : Thread Cert.MidGrad.nD Cert.MidGrad.τ).loc Cert.MidGrad.main_arg5))
      ∧ r.2.sem = fun _ => 0)

def quiescent_MidGradIdeal [hMidGradIdeal : Cert.MidGradIdeal.Facts] : Prop :=
  ∀ (m : (ℓ : Loc Cert.MidGradIdeal.nD Cert.MidGradIdeal.τ Cert.MidGradIdeal.sig) → Buf (Elt Ideal) ℓ) (g : Dev Cert.MidGradIdeal.nD → PrngReg), Pre_MidGradIdeal m →
    θ_run (Cert.MidGradIdeal.defs (F := Ideal)) (onTc (τ := Cert.MidGradIdeal.τ) (Cert.MidGradIdeal.main (F := Ideal))) ⟨m, fun _ => 0, g⟩ (fun r => (∀ c : Dev Cert.MidGradIdeal.nD,
      r.2.mem ((c.tc : Thread Cert.MidGradIdeal.nD Cert.MidGradIdeal.τ).loc Cert.MidGradIdeal.main_arg0) = m ((c.tc : Thread Cert.MidGradIdeal.nD Cert.MidGradIdeal.τ).loc Cert.MidGradIdeal.main_arg0)
      ∧ r.2.mem ((c.tc : Thread Cert.MidGradIdeal.nD Cert.MidGradIdeal.τ).loc Cert.MidGradIdeal.main_arg1) = m ((c.tc : Thread Cert.MidGradIdeal.nD Cert.MidGradIdeal.τ).loc Cert.MidGradIdeal.main_arg1)
      ∧ r.2.mem ((c.tc : Thread Cert.MidGradIdeal.nD Cert.MidGradIdeal.τ).loc Cert.MidGradIdeal.main_arg2) = m ((c.tc : Thread Cert.MidGradIdeal.nD Cert.MidGradIdeal.τ).loc Cert.MidGradIdeal.main_arg2)
      ∧ r.2.mem ((c.tc : Thread Cert.MidGradIdeal.nD Cert.MidGradIdeal.τ).loc Cert.MidGradIdeal.main_arg3) = m ((c.tc : Thread Cert.MidGradIdeal.nD Cert.MidGradIdeal.τ).loc Cert.MidGradIdeal.main_arg3)
      ∧ r.2.mem ((c.tc : Thread Cert.MidGradIdeal.nD Cert.MidGradIdeal.τ).loc Cert.MidGradIdeal.main_arg4) = m ((c.tc : Thread Cert.MidGradIdeal.nD Cert.MidGradIdeal.τ).loc Cert.MidGradIdeal.main_arg4)
      ∧ r.2.mem ((c.tc : Thread Cert.MidGradIdeal.nD Cert.MidGradIdeal.τ).loc Cert.MidGradIdeal.main_arg5) = m ((c.tc : Thread Cert.MidGradIdeal.nD Cert.MidGradIdeal.τ).loc Cert.MidGradIdeal.main_arg5))
      ∧ r.2.sem = fun _ => 0)

def quiescent_MidGradRefIdeal [hMidGradRefIdeal : Cert.MidGradRefIdeal.Facts] : Prop :=
  ∀ (m : (ℓ : Loc Cert.MidGradRefIdeal.nD Cert.MidGradRefIdeal.τ Cert.MidGradRefIdeal.sig) → Buf (Elt Ideal) ℓ) (g : Dev Cert.MidGradRefIdeal.nD → PrngReg), Pre_MidGradRefIdeal m →
    θ_run (Cert.MidGradRefIdeal.defs (F := Ideal)) (onTc (τ := Cert.MidGradRefIdeal.τ) (Cert.MidGradRefIdeal.main (F := Ideal))) ⟨m, fun _ => 0, g⟩ (fun r => (∀ c : Dev Cert.MidGradRefIdeal.nD,
      r.2.mem ((c.tc : Thread Cert.MidGradRefIdeal.nD Cert.MidGradRefIdeal.τ).loc Cert.MidGradRefIdeal.main_arg0) = m ((c.tc : Thread Cert.MidGradRefIdeal.nD Cert.MidGradRefIdeal.τ).loc Cert.MidGradRefIdeal.main_arg0)
      ∧ r.2.mem ((c.tc : Thread Cert.MidGradRefIdeal.nD Cert.MidGradRefIdeal.τ).loc Cert.MidGradRefIdeal.main_arg1) = m ((c.tc : Thread Cert.MidGradRefIdeal.nD Cert.MidGradRefIdeal.τ).loc Cert.MidGradRefIdeal.main_arg1)
      ∧ r.2.mem ((c.tc : Thread Cert.MidGradRefIdeal.nD Cert.MidGradRefIdeal.τ).loc Cert.MidGradRefIdeal.main_arg2) = m ((c.tc : Thread Cert.MidGradRefIdeal.nD Cert.MidGradRefIdeal.τ).loc Cert.MidGradRefIdeal.main_arg2)
      ∧ r.2.mem ((c.tc : Thread Cert.MidGradRefIdeal.nD Cert.MidGradRefIdeal.τ).loc Cert.MidGradRefIdeal.main_arg3) = m ((c.tc : Thread Cert.MidGradRefIdeal.nD Cert.MidGradRefIdeal.τ).loc Cert.MidGradRefIdeal.main_arg3)
      ∧ r.2.mem ((c.tc : Thread Cert.MidGradRefIdeal.nD Cert.MidGradRefIdeal.τ).loc Cert.MidGradRefIdeal.main_arg4) = m ((c.tc : Thread Cert.MidGradRefIdeal.nD Cert.MidGradRefIdeal.τ).loc Cert.MidGradRefIdeal.main_arg4)
      ∧ r.2.mem ((c.tc : Thread Cert.MidGradRefIdeal.nD Cert.MidGradRefIdeal.τ).loc Cert.MidGradRefIdeal.main_arg5) = m ((c.tc : Thread Cert.MidGradRefIdeal.nD Cert.MidGradRefIdeal.τ).loc Cert.MidGradRefIdeal.main_arg5))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_SwigluGrad [hSwigluGrad : Cert.SwigluGrad.Facts] : Prop :=
  ∀ (m : (ℓ : Loc Cert.SwigluGrad.nD Cert.SwigluGrad.τ Cert.SwigluGrad.sig) → Buf (Elt Bits) ℓ) (g : Dev Cert.SwigluGrad.nD → PrngReg), Pre_SwigluGrad m →
    θ_run (Cert.SwigluGrad.defs (F := Bits)) (onTc (τ := Cert.SwigluGrad.τ) (Cert.SwigluGrad.main (F := Bits))) ⟨m, fun _ => 0, g⟩ (fun r => (∀ c : Dev Cert.SwigluGrad.nD,
      r.2.mem ((c.tc : Thread Cert.SwigluGrad.nD Cert.SwigluGrad.τ).loc Cert.SwigluGrad.main_arg0) = m ((c.tc : Thread Cert.SwigluGrad.nD Cert.SwigluGrad.τ).loc Cert.SwigluGrad.main_arg0)
      ∧ r.2.mem ((c.tc : Thread Cert.SwigluGrad.nD Cert.SwigluGrad.τ).loc Cert.SwigluGrad.main_arg1) = m ((c.tc : Thread Cert.SwigluGrad.nD Cert.SwigluGrad.τ).loc Cert.SwigluGrad.main_arg1))
      ∧ r.2.sem = fun _ => 0)

def quiescent_SwigluGradIdeal [hSwigluGradIdeal : Cert.SwigluGradIdeal.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg), Pre_SwigluGradIdeal m →
    θ_run (Cert.SwigluGradIdeal.defs (F := Ideal)) (onTc (τ := Cert.SwigluGradIdeal.τ) (Cert.SwigluGradIdeal.main (F := Ideal))) ⟨m, fun _ => 0, g⟩ (fun r => (∀ c : Dev Cert.SwigluGradIdeal.nD,
      r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
      ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1))
      ∧ r.2.sem = fun _ => 0)

def quiescent_SwigluGradRefIdeal [hSwigluGradRefIdeal : Cert.SwigluGradRefIdeal.Facts] : Prop :=
  ∀ (m : (ℓ : Loc Cert.SwigluGradRefIdeal.nD Cert.SwigluGradRefIdeal.τ Cert.SwigluGradRefIdeal.sig) → Buf (Elt Ideal) ℓ) (g : Dev Cert.SwigluGradRefIdeal.nD → PrngReg), Pre_SwigluGradRefIdeal m →
    θ_run (Cert.SwigluGradRefIdeal.defs (F := Ideal)) (onTc (τ := Cert.SwigluGradRefIdeal.τ) (Cert.SwigluGradRefIdeal.main (F := Ideal))) ⟨m, fun _ => 0, g⟩ (fun r => (∀ c : Dev Cert.SwigluGradRefIdeal.nD,
      r.2.mem ((c.tc : Thread Cert.SwigluGradRefIdeal.nD Cert.SwigluGradRefIdeal.τ).loc Cert.SwigluGradRefIdeal.main_arg0) = m ((c.tc : Thread Cert.SwigluGradRefIdeal.nD Cert.SwigluGradRefIdeal.τ).loc Cert.SwigluGradRefIdeal.main_arg0)
      ∧ r.2.mem ((c.tc : Thread Cert.SwigluGradRefIdeal.nD Cert.SwigluGradRefIdeal.τ).loc Cert.SwigluGradRefIdeal.main_arg1) = m ((c.tc : Thread Cert.SwigluGradRefIdeal.nD Cert.SwigluGradRefIdeal.τ).loc Cert.SwigluGradRefIdeal.main_arg1))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_ConvV [hConvV : Cert.ConvV.Facts] : Prop :=
  ∀ (m : (ℓ : Loc Cert.ConvV.nD Cert.ConvV.τ Cert.ConvV.sig) → Buf (Elt Bits) ℓ) (g : Dev Cert.ConvV.nD → PrngReg), Pre_ConvV m →
    θ_run (Cert.ConvV.defs (F := Bits)) (onTc (τ := Cert.ConvV.τ) (Cert.ConvV.main (F := Bits))) ⟨m, fun _ => 0, g⟩ (fun r => (∀ c : Dev Cert.ConvV.nD,
      r.2.mem ((c.tc : Thread Cert.ConvV.nD Cert.ConvV.τ).loc Cert.ConvV.main_arg0) = m ((c.tc : Thread Cert.ConvV.nD Cert.ConvV.τ).loc Cert.ConvV.main_arg0)
      ∧ r.2.mem ((c.tc : Thread Cert.ConvV.nD Cert.ConvV.τ).loc Cert.ConvV.main_arg1) = m ((c.tc : Thread Cert.ConvV.nD Cert.ConvV.τ).loc Cert.ConvV.main_arg1))
      ∧ r.2.sem = fun _ => 0)

def quiescent_ConvVIdeal [hConvVIdeal : Cert.ConvVIdeal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1))
      ∧ r.2.sem = fun _ => 0)

def quiescent_ConvVRefIdeal [hConvVRefIdeal : Cert.ConvVRefIdeal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1))
      ∧ r.2.sem = fun _ => 0)

def quiescent_ConvKRefIdeal [hConvKRefIdeal : Cert.ConvKRefIdeal.Facts] : Prop :=
  ∀ (m : (ℓ : Loc Cert.ConvKRefIdeal.nD Cert.ConvKRefIdeal.τ Cert.ConvKRefIdeal.sig) → Buf (Elt Ideal) ℓ) (g : Dev Cert.ConvKRefIdeal.nD → PrngReg), Pre_ConvKRefIdeal m →
    θ_run (Cert.ConvKRefIdeal.defs (F := Ideal)) (onTc (τ := Cert.ConvKRefIdeal.τ) (Cert.ConvKRefIdeal.main (F := Ideal))) ⟨m, fun _ => 0, g⟩ (fun r => (∀ c : Dev Cert.ConvKRefIdeal.nD,
      r.2.mem ((c.tc : Thread Cert.ConvKRefIdeal.nD Cert.ConvKRefIdeal.τ).loc Cert.ConvKRefIdeal.main_arg0) = m ((c.tc : Thread Cert.ConvKRefIdeal.nD Cert.ConvKRefIdeal.τ).loc Cert.ConvKRefIdeal.main_arg0)
      ∧ r.2.mem ((c.tc : Thread Cert.ConvKRefIdeal.nD Cert.ConvKRefIdeal.τ).loc Cert.ConvKRefIdeal.main_arg1) = m ((c.tc : Thread Cert.ConvKRefIdeal.nD Cert.ConvKRefIdeal.τ).loc Cert.ConvKRefIdeal.main_arg1))
      ∧ r.2.sem = fun _ => 0)

def quiescent_ConvQ [hConvQ : Cert.ConvQ.Facts] : Prop :=
  ∀ (m : (ℓ : Loc Cert.ConvQ.nD Cert.ConvQ.τ Cert.ConvQ.sig) → Buf (Elt Bits) ℓ) (g : Dev Cert.ConvQ.nD → PrngReg), Pre_ConvQ m →
    θ_run (Cert.ConvQ.defs (F := Bits)) (onTc (τ := Cert.ConvQ.τ) (Cert.ConvQ.main (F := Bits))) ⟨m, fun _ => 0, g⟩ (fun r => (∀ c : Dev Cert.ConvQ.nD,
      r.2.mem ((c.tc : Thread Cert.ConvQ.nD Cert.ConvQ.τ).loc Cert.ConvQ.main_arg0) = m ((c.tc : Thread Cert.ConvQ.nD Cert.ConvQ.τ).loc Cert.ConvQ.main_arg0)
      ∧ r.2.mem ((c.tc : Thread Cert.ConvQ.nD Cert.ConvQ.τ).loc Cert.ConvQ.main_arg1) = m ((c.tc : Thread Cert.ConvQ.nD Cert.ConvQ.τ).loc Cert.ConvQ.main_arg1))
      ∧ r.2.sem = fun _ => 0)

def quiescent_ConvQIdeal [hConvQIdeal : Cert.ConvQIdeal.Facts] : Prop :=
  ∀ (m : (ℓ : Loc Cert.ConvQIdeal.nD Cert.ConvQIdeal.τ Cert.ConvQIdeal.sig) → Buf (Elt Ideal) ℓ) (g : Dev Cert.ConvQIdeal.nD → PrngReg), Pre_ConvQIdeal m →
    θ_run (Cert.ConvQIdeal.defs (F := Ideal)) (onTc (τ := Cert.ConvQIdeal.τ) (Cert.ConvQIdeal.main (F := Ideal))) ⟨m, fun _ => 0, g⟩ (fun r => (∀ c : Dev Cert.ConvQIdeal.nD,
      r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
      ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1))
      ∧ r.2.sem = fun _ => 0)

def quiescent_ConvQRefIdeal [hConvQRefIdeal : Cert.ConvQRefIdeal.Facts] : Prop :=
  ∀ (m : (ℓ : Loc Cert.ConvQRefIdeal.nD Cert.ConvQRefIdeal.τ Cert.ConvQRefIdeal.sig) → Buf (Elt Ideal) ℓ) (g : Dev Cert.ConvQRefIdeal.nD → PrngReg), Pre_ConvQRefIdeal m →
    θ_run (Cert.ConvQRefIdeal.defs (F := Ideal)) (onTc (τ := Cert.ConvQRefIdeal.τ) (Cert.ConvQRefIdeal.main (F := Ideal))) ⟨m, fun _ => 0, g⟩ (fun r => (∀ c : Dev Cert.ConvQRefIdeal.nD,
      r.2.mem ((c.tc : Thread Cert.ConvQRefIdeal.nD Cert.ConvQRefIdeal.τ).loc Cert.ConvQRefIdeal.main_arg0) = m ((c.tc : Thread Cert.ConvQRefIdeal.nD Cert.ConvQRefIdeal.τ).loc Cert.ConvQRefIdeal.main_arg0)
      ∧ r.2.mem ((c.tc : Thread Cert.ConvQRefIdeal.nD Cert.ConvQRefIdeal.τ).loc Cert.ConvQRefIdeal.main_arg1) = m ((c.tc : Thread Cert.ConvQRefIdeal.nD Cert.ConvQRefIdeal.τ).loc Cert.ConvQRefIdeal.main_arg1))
      ∧ r.2.sem = fun _ => 0)

def quiescent_MmProj [hMmProj : Cert.MmProj.Facts] : Prop :=
  ∀ (m : (ℓ : Loc Cert.MmProj.nD Cert.MmProj.τ Cert.MmProj.sig) → Buf (Elt Bits) ℓ) (g : Dev Cert.MmProj.nD → PrngReg), Pre_MmProj m →
    θ_run (Cert.MmProj.defs (F := Bits)) (onTc (τ := Cert.MmProj.τ) (Cert.MmProj.main (F := Bits))) ⟨m, fun _ => 0, g⟩ (fun r => (∀ c : Dev Cert.MmProj.nD,
      r.2.mem ((c.tc : Thread Cert.MmProj.nD Cert.MmProj.τ).loc Cert.MmProj.main_arg0) = m ((c.tc : Thread Cert.MmProj.nD Cert.MmProj.τ).loc Cert.MmProj.main_arg0)
      ∧ r.2.mem ((c.tc : Thread Cert.MmProj.nD Cert.MmProj.τ).loc Cert.MmProj.main_arg1) = m ((c.tc : Thread Cert.MmProj.nD Cert.MmProj.τ).loc Cert.MmProj.main_arg1))
      ∧ r.2.sem = fun _ => 0)

def quiescent_MmProjIdeal [hMmProjIdeal : Cert.MmProjIdeal.Facts] : Prop :=
  ∀ (m : (ℓ : Loc Cert.MmProjIdeal.nD Cert.MmProjIdeal.τ Cert.MmProjIdeal.sig) → Buf (Elt Ideal) ℓ) (g : Dev Cert.MmProjIdeal.nD → PrngReg), Pre_MmProjIdeal m →
    θ_run (Cert.MmProjIdeal.defs (F := Ideal)) (onTc (τ := Cert.MmProjIdeal.τ) (Cert.MmProjIdeal.main (F := Ideal))) ⟨m, fun _ => 0, g⟩ (fun r => (∀ c : Dev Cert.MmProjIdeal.nD,
      r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
      ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ r.2.sem = fun _ => 0)

def quiescent_MmProjRefIdeal [hMmProjRefIdeal : Cert.MmProjRefIdeal.Facts] : Prop :=
  ∀ (m : (ℓ : Loc Cert.MmProjRefIdeal.nD Cert.MmProjRefIdeal.τ Cert.MmProjRefIdeal.sig) → Buf (Elt Ideal) ℓ) (g : Dev Cert.MmProjRefIdeal.nD → PrngReg), Pre_MmProjRefIdeal m →
    θ_run (Cert.MmProjRefIdeal.defs (F := Ideal)) (onTc (τ := Cert.MmProjRefIdeal.τ) (Cert.MmProjRefIdeal.main (F := Ideal))) ⟨m, fun _ => 0, g⟩ (fun r => (∀ c : Dev Cert.MmProjRefIdeal.nD,
      r.2.mem ((c.tc : Thread Cert.MmProjRefIdeal.nD Cert.MmProjRefIdeal.τ).loc Cert.MmProjRefIdeal.main_arg0) = m ((c.tc : Thread Cert.MmProjRefIdeal.nD Cert.MmProjRefIdeal.τ).loc Cert.MmProjRefIdeal.main_arg0)
      ∧ r.2.mem ((c.tc : Thread Cert.MmProjRefIdeal.nD Cert.MmProjRefIdeal.τ).loc Cert.MmProjRefIdeal.main_arg1) = m ((c.tc : Thread Cert.MmProjRefIdeal.nD Cert.MmProjRefIdeal.τ).loc Cert.MmProjRefIdeal.main_arg1))
      ∧ r.2.sem = fun _ => 0)

def quiescent_MmMix [hMmMix : Cert.MmMix.Facts] : Prop :=
  ∀ (m : (ℓ : Loc Cert.MmMix.nD Cert.MmMix.τ Cert.MmMix.sig) → Buf (Elt Bits) ℓ) (g : Dev Cert.MmMix.nD → PrngReg), Pre_MmMix m →
    θ_run (Cert.MmMix.defs (F := Bits)) (onTc (τ := Cert.MmMix.τ) (Cert.MmMix.main (F := Bits))) ⟨m, fun _ => 0, g⟩ (fun r => (∀ c : Dev Cert.MmMix.nD,
      r.2.mem ((c.tc : Thread Cert.MmMix.nD Cert.MmMix.τ).loc Cert.MmMix.main_arg0) = m ((c.tc : Thread Cert.MmMix.nD Cert.MmMix.τ).loc Cert.MmMix.main_arg0)
      ∧ r.2.mem ((c.tc : Thread Cert.MmMix.nD Cert.MmMix.τ).loc Cert.MmMix.main_arg1) = m ((c.tc : Thread Cert.MmMix.nD Cert.MmMix.τ).loc Cert.MmMix.main_arg1))
      ∧ r.2.sem = fun _ => 0)

def quiescent_MmMixIdeal [hMmMixIdeal : Cert.MmMixIdeal.Facts] : Prop :=
  ∀ (m : (ℓ : Loc Cert.MmMixIdeal.nD Cert.MmMixIdeal.τ Cert.MmMixIdeal.sig) → Buf (Elt Ideal) ℓ) (g : Dev Cert.MmMixIdeal.nD → PrngReg), Pre_MmMixIdeal m →
    θ_run (Cert.MmMixIdeal.defs (F := Ideal)) (onTc (τ := Cert.MmMixIdeal.τ) (Cert.MmMixIdeal.main (F := Ideal))) ⟨m, fun _ => 0, g⟩ (fun r => (∀ c : Dev Cert.MmMixIdeal.nD,
      r.2.mem ((c.tc : Thread Cert.MmMixIdeal.nD Cert.MmMixIdeal.τ).loc Cert.MmMixIdeal.main_arg0) = m ((c.tc : Thread Cert.MmMixIdeal.nD Cert.MmMixIdeal.τ).loc Cert.MmMixIdeal.main_arg0)
      ∧ r.2.mem ((c.tc : Thread Cert.MmMixIdeal.nD Cert.MmMixIdeal.τ).loc Cert.MmMixIdeal.main_arg1) = m ((c.tc : Thread Cert.MmMixIdeal.nD Cert.MmMixIdeal.τ).loc Cert.MmMixIdeal.main_arg1))
      ∧ r.2.sem = fun _ => 0)

def quiescent_MmMixRefIdeal [hMmMixRefIdeal : Cert.MmMixRefIdeal.Facts] : Prop :=
  ∀ (m : (ℓ : Loc Cert.MmMixRefIdeal.nD Cert.MmMixRefIdeal.τ Cert.MmMixRefIdeal.sig) → Buf (Elt Ideal) ℓ) (g : Dev Cert.MmMixRefIdeal.nD → PrngReg), Pre_MmMixRefIdeal m →
    θ_run (Cert.MmMixRefIdeal.defs (F := Ideal)) (onTc (τ := Cert.MmMixRefIdeal.τ) (Cert.MmMixRefIdeal.main (F := Ideal))) ⟨m, fun _ => 0, g⟩ (fun r => (∀ c : Dev Cert.MmMixRefIdeal.nD,
      r.2.mem ((c.tc : Thread Cert.MmMixRefIdeal.nD Cert.MmMixRefIdeal.τ).loc Cert.MmMixRefIdeal.main_arg0) = m ((c.tc : Thread Cert.MmMixRefIdeal.nD Cert.MmMixRefIdeal.τ).loc Cert.MmMixRefIdeal.main_arg0)
      ∧ r.2.mem ((c.tc : Thread Cert.MmMixRefIdeal.nD Cert.MmMixRefIdeal.τ).loc Cert.MmMixRefIdeal.main_arg1) = m ((c.tc : Thread Cert.MmMixRefIdeal.nD Cert.MmMixRefIdeal.τ).loc Cert.MmMixRefIdeal.main_arg1))
      ∧ r.2.sem = fun _ => 0)

def quiescent_MmGateUp [hMmGateUp : Cert.MmGateUp.Facts] : Prop :=
  ∀ (m : (ℓ : Loc Cert.MmGateUp.nD Cert.MmGateUp.τ Cert.MmGateUp.sig) → Buf (Elt Bits) ℓ) (g : Dev Cert.MmGateUp.nD → PrngReg), Pre_MmGateUp m →
    θ_run (Cert.MmGateUp.defs (F := Bits)) (onTc (τ := Cert.MmGateUp.τ) (Cert.MmGateUp.main (F := Bits))) ⟨m, fun _ => 0, g⟩ (fun r => (∀ c : Dev Cert.MmGateUp.nD,
      r.2.mem ((c.tc : Thread Cert.MmGateUp.nD Cert.MmGateUp.τ).loc Cert.MmGateUp.main_arg0) = m ((c.tc : Thread Cert.MmGateUp.nD Cert.MmGateUp.τ).loc Cert.MmGateUp.main_arg0)
      ∧ r.2.mem ((c.tc : Thread Cert.MmGateUp.nD Cert.MmGateUp.τ).loc Cert.MmGateUp.main_arg1) = m ((c.tc : Thread Cert.MmGateUp.nD Cert.MmGateUp.τ).loc Cert.MmGateUp.main_arg1))
      ∧ r.2.sem = fun _ => 0)

def quiescent_MmGateUpIdeal [hMmGateUpIdeal : Cert.MmGateUpIdeal.Facts] : Prop :=
  ∀ (m : (ℓ : Loc Cert.MmGateUpIdeal.nD Cert.MmGateUpIdeal.τ Cert.MmGateUpIdeal.sig) → Buf (Elt Ideal) ℓ) (g : Dev Cert.MmGateUpIdeal.nD → PrngReg), Pre_MmGateUpIdeal m →
    θ_run (Cert.MmGateUpIdeal.defs (F := Ideal)) (onTc (τ := Cert.MmGateUpIdeal.τ) (Cert.MmGateUpIdeal.main (F := Ideal))) ⟨m, fun _ => 0, g⟩ (fun r => (∀ c : Dev Cert.MmGateUpIdeal.nD,
      r.2.mem ((c.tc : Thread Cert.MmGateUpIdeal.nD Cert.MmGateUpIdeal.τ).loc Cert.MmGateUpIdeal.main_arg0) = m ((c.tc : Thread Cert.MmGateUpIdeal.nD Cert.MmGateUpIdeal.τ).loc Cert.MmGateUpIdeal.main_arg0)
      ∧ r.2.mem ((c.tc : Thread Cert.MmGateUpIdeal.nD Cert.MmGateUpIdeal.τ).loc Cert.MmGateUpIdeal.main_arg1) = m ((c.tc : Thread Cert.MmGateUpIdeal.nD Cert.MmGateUpIdeal.τ).loc Cert.MmGateUpIdeal.main_arg1))
      ∧ r.2.sem = fun _ => 0)

def quiescent_MmGateUpRefIdeal [hMmGateUpRefIdeal : Cert.MmGateUpRefIdeal.Facts] : Prop :=
  ∀ (m : (ℓ : Loc Cert.MmGateUpRefIdeal.nD Cert.MmGateUpRefIdeal.τ Cert.MmGateUpRefIdeal.sig) → Buf (Elt Ideal) ℓ) (g : Dev Cert.MmGateUpRefIdeal.nD → PrngReg), Pre_MmGateUpRefIdeal m →
    θ_run (Cert.MmGateUpRefIdeal.defs (F := Ideal)) (onTc (τ := Cert.MmGateUpRefIdeal.τ) (Cert.MmGateUpRefIdeal.main (F := Ideal))) ⟨m, fun _ => 0, g⟩ (fun r => (∀ c : Dev Cert.MmGateUpRefIdeal.nD,
      r.2.mem ((c.tc : Thread Cert.MmGateUpRefIdeal.nD Cert.MmGateUpRefIdeal.τ).loc Cert.MmGateUpRefIdeal.main_arg0) = m ((c.tc : Thread Cert.MmGateUpRefIdeal.nD Cert.MmGateUpRefIdeal.τ).loc Cert.MmGateUpRefIdeal.main_arg0)
      ∧ r.2.mem ((c.tc : Thread Cert.MmGateUpRefIdeal.nD Cert.MmGateUpRefIdeal.τ).loc Cert.MmGateUpRefIdeal.main_arg1) = m ((c.tc : Thread Cert.MmGateUpRefIdeal.nD Cert.MmGateUpRefIdeal.τ).loc Cert.MmGateUpRefIdeal.main_arg1))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1))
      ∧ r.2.sem = fun _ => 0)

def quiescent_MmDact [hMmDact : Cert.MmDact.Facts] : Prop :=
  ∀ (m : (ℓ : Loc Cert.MmDact.nD Cert.MmDact.τ Cert.MmDact.sig) → Buf (Elt Bits) ℓ) (g : Dev Cert.MmDact.nD → PrngReg), Pre_MmDact m →
    θ_run (Cert.MmDact.defs (F := Bits)) (onTc (τ := Cert.MmDact.τ) (Cert.MmDact.main (F := Bits))) ⟨m, fun _ => 0, g⟩ (fun r => (∀ c : Dev Cert.MmDact.nD,
      r.2.mem ((c.tc : Thread Cert.MmDact.nD Cert.MmDact.τ).loc Cert.MmDact.main_arg0) = m ((c.tc : Thread Cert.MmDact.nD Cert.MmDact.τ).loc Cert.MmDact.main_arg0)
      ∧ r.2.mem ((c.tc : Thread Cert.MmDact.nD Cert.MmDact.τ).loc Cert.MmDact.main_arg1) = m ((c.tc : Thread Cert.MmDact.nD Cert.MmDact.τ).loc Cert.MmDact.main_arg1))
      ∧ r.2.sem = fun _ => 0)

def quiescent_MmDactIdeal [hMmDactIdeal : Cert.MmDactIdeal.Facts] : Prop :=
  ∀ (m : (ℓ : Loc Cert.MmDactIdeal.nD Cert.MmDactIdeal.τ Cert.MmDactIdeal.sig) → Buf (Elt Ideal) ℓ) (g : Dev Cert.MmDactIdeal.nD → PrngReg), Pre_MmDactIdeal m →
    θ_run (Cert.MmDactIdeal.defs (F := Ideal)) (onTc (τ := Cert.MmDactIdeal.τ) (Cert.MmDactIdeal.main (F := Ideal))) ⟨m, fun _ => 0, g⟩ (fun r => (∀ c : Dev Cert.MmDactIdeal.nD,
      r.2.mem ((c.tc : Thread Cert.MmDactIdeal.nD Cert.MmDactIdeal.τ).loc Cert.MmDactIdeal.main_arg0) = m ((c.tc : Thread Cert.MmDactIdeal.nD Cert.MmDactIdeal.τ).loc Cert.MmDactIdeal.main_arg0)
      ∧ r.2.mem ((c.tc : Thread Cert.MmDactIdeal.nD Cert.MmDactIdeal.τ).loc Cert.MmDactIdeal.main_arg1) = m ((c.tc : Thread Cert.MmDactIdeal.nD Cert.MmDactIdeal.τ).loc Cert.MmDactIdeal.main_arg1))
      ∧ r.2.sem = fun _ => 0)

def quiescent_MmDactRefIdeal [hMmDactRefIdeal : Cert.MmDactRefIdeal.Facts] : Prop :=
  ∀ (m : (ℓ : Loc Cert.MmDactRefIdeal.nD Cert.MmDactRefIdeal.τ Cert.MmDactRefIdeal.sig) → Buf (Elt Ideal) ℓ) (g : Dev Cert.MmDactRefIdeal.nD → PrngReg), Pre_MmDactRefIdeal m →
    θ_run (Cert.MmDactRefIdeal.defs (F := Ideal)) (onTc (τ := Cert.MmDactRefIdeal.τ) (Cert.MmDactRefIdeal.main (F := Ideal))) ⟨m, fun _ => 0, g⟩ (fun r => (∀ c : Dev Cert.MmDactRefIdeal.nD,
      r.2.mem ((c.tc : Thread Cert.MmDactRefIdeal.nD Cert.MmDactRefIdeal.τ).loc Cert.MmDactRefIdeal.main_arg0) = m ((c.tc : Thread Cert.MmDactRefIdeal.nD Cert.MmDactRefIdeal.τ).loc Cert.MmDactRefIdeal.main_arg0)
      ∧ r.2.mem ((c.tc : Thread Cert.MmDactRefIdeal.nD Cert.MmDactRefIdeal.τ).loc Cert.MmDactRefIdeal.main_arg1) = m ((c.tc : Thread Cert.MmDactRefIdeal.nD Cert.MmDactRefIdeal.τ).loc Cert.MmDactRefIdeal.main_arg1))
      ∧ r.2.sem = fun _ => 0)

def quiescent_MmDwDown [hMmDwDown : Cert.MmDwDown.Facts] : Prop :=
  ∀ (m : (ℓ : Loc Cert.MmDwDown.nD Cert.MmDwDown.τ Cert.MmDwDown.sig) → Buf (Elt Bits) ℓ) (g : Dev Cert.MmDwDown.nD → PrngReg), Pre_MmDwDown m →
    θ_run (Cert.MmDwDown.defs (F := Bits)) (onTc (τ := Cert.MmDwDown.τ) (Cert.MmDwDown.main (F := Bits))) ⟨m, fun _ => 0, g⟩ (fun r => (∀ c : Dev Cert.MmDwDown.nD,
      r.2.mem ((c.tc : Thread Cert.MmDwDown.nD Cert.MmDwDown.τ).loc Cert.MmDwDown.main_arg0) = m ((c.tc : Thread Cert.MmDwDown.nD Cert.MmDwDown.τ).loc Cert.MmDwDown.main_arg0)
      ∧ r.2.mem ((c.tc : Thread Cert.MmDwDown.nD Cert.MmDwDown.τ).loc Cert.MmDwDown.main_arg1) = m ((c.tc : Thread Cert.MmDwDown.nD Cert.MmDwDown.τ).loc Cert.MmDwDown.main_arg1))
      ∧ r.2.sem = fun _ => 0)

def quiescent_MmDwDownIdeal [hMmDwDownIdeal : Cert.MmDwDownIdeal.Facts] : Prop :=
  ∀ (m : (ℓ : Loc Cert.MmDwDownIdeal.nD Cert.MmDwDownIdeal.τ Cert.MmDwDownIdeal.sig) → Buf (Elt Ideal) ℓ) (g : Dev Cert.MmDwDownIdeal.nD → PrngReg), Pre_MmDwDownIdeal m →
    θ_run (Cert.MmDwDownIdeal.defs (F := Ideal)) (onTc (τ := Cert.MmDwDownIdeal.τ) (Cert.MmDwDownIdeal.main (F := Ideal))) ⟨m, fun _ => 0, g⟩ (fun r => (∀ c : Dev Cert.MmDwDownIdeal.nD,
      r.2.mem ((c.tc : Thread Cert.MmDwDownIdeal.nD Cert.MmDwDownIdeal.τ).loc Cert.MmDwDownIdeal.main_arg0) = m ((c.tc : Thread Cert.MmDwDownIdeal.nD Cert.MmDwDownIdeal.τ).loc Cert.MmDwDownIdeal.main_arg0)
      ∧ r.2.mem ((c.tc : Thread Cert.MmDwDownIdeal.nD Cert.MmDwDownIdeal.τ).loc Cert.MmDwDownIdeal.main_arg1) = m ((c.tc : Thread Cert.MmDwDownIdeal.nD Cert.MmDwDownIdeal.τ).loc Cert.MmDwDownIdeal.main_arg1))
      ∧ r.2.sem = fun _ => 0)

def quiescent_MmDwDownRefIdeal [hMmDwDownRefIdeal : Cert.MmDwDownRefIdeal.Facts] : Prop :=
  ∀ (m : (ℓ : Loc Cert.MmDwDownRefIdeal.nD Cert.MmDwDownRefIdeal.τ Cert.MmDwDownRefIdeal.sig) → Buf (Elt Ideal) ℓ) (g : Dev Cert.MmDwDownRefIdeal.nD → PrngReg), Pre_MmDwDownRefIdeal m →
    θ_run (Cert.MmDwDownRefIdeal.defs (F := Ideal)) (onTc (τ := Cert.MmDwDownRefIdeal.τ) (Cert.MmDwDownRefIdeal.main (F := Ideal))) ⟨m, fun _ => 0, g⟩ (fun r => (∀ c : Dev Cert.MmDwDownRefIdeal.nD,
      r.2.mem ((c.tc : Thread Cert.MmDwDownRefIdeal.nD Cert.MmDwDownRefIdeal.τ).loc Cert.MmDwDownRefIdeal.main_arg0) = m ((c.tc : Thread Cert.MmDwDownRefIdeal.nD Cert.MmDwDownRefIdeal.τ).loc Cert.MmDwDownRefIdeal.main_arg0)
      ∧ r.2.mem ((c.tc : Thread Cert.MmDwDownRefIdeal.nD Cert.MmDwDownRefIdeal.τ).loc Cert.MmDwDownRefIdeal.main_arg1) = m ((c.tc : Thread Cert.MmDwDownRefIdeal.nD Cert.MmDwDownRefIdeal.τ).loc Cert.MmDwDownRefIdeal.main_arg1))
      ∧ r.2.sem = fun _ => 0)

def quiescent_MmDwGateUp [hMmDwGateUp : Cert.MmDwGateUp.Facts] : Prop :=
  ∀ (m : (ℓ : Loc Cert.MmDwGateUp.nD Cert.MmDwGateUp.τ Cert.MmDwGateUp.sig) → Buf (Elt Bits) ℓ) (g : Dev Cert.MmDwGateUp.nD → PrngReg), Pre_MmDwGateUp m →
    θ_run (Cert.MmDwGateUp.defs (F := Bits)) (onTc (τ := Cert.MmDwGateUp.τ) (Cert.MmDwGateUp.main (F := Bits))) ⟨m, fun _ => 0, g⟩ (fun r => (∀ c : Dev Cert.MmDwGateUp.nD,
      r.2.mem ((c.tc : Thread Cert.MmDwGateUp.nD Cert.MmDwGateUp.τ).loc Cert.MmDwGateUp.main_arg0) = m ((c.tc : Thread Cert.MmDwGateUp.nD Cert.MmDwGateUp.τ).loc Cert.MmDwGateUp.main_arg0)
      ∧ r.2.mem ((c.tc : Thread Cert.MmDwGateUp.nD Cert.MmDwGateUp.τ).loc Cert.MmDwGateUp.main_arg1) = m ((c.tc : Thread Cert.MmDwGateUp.nD Cert.MmDwGateUp.τ).loc Cert.MmDwGateUp.main_arg1))
      ∧ r.2.sem = fun _ => 0)

def quiescent_MmDwGateUpIdeal [hMmDwGateUpIdeal : Cert.MmDwGateUpIdeal.Facts] : Prop :=
  ∀ (m : (ℓ : Loc Cert.MmDwGateUpIdeal.nD Cert.MmDwGateUpIdeal.τ Cert.MmDwGateUpIdeal.sig) → Buf (Elt Ideal) ℓ) (g : Dev Cert.MmDwGateUpIdeal.nD → PrngReg), Pre_MmDwGateUpIdeal m →
    θ_run (Cert.MmDwGateUpIdeal.defs (F := Ideal)) (onTc (τ := Cert.MmDwGateUpIdeal.τ) (Cert.MmDwGateUpIdeal.main (F := Ideal))) ⟨m, fun _ => 0, g⟩ (fun r => (∀ c : Dev Cert.MmDwGateUpIdeal.nD,
      r.2.mem ((c.tc : Thread Cert.MmDwGateUpIdeal.nD Cert.MmDwGateUpIdeal.τ).loc Cert.MmDwGateUpIdeal.main_arg0) = m ((c.tc : Thread Cert.MmDwGateUpIdeal.nD Cert.MmDwGateUpIdeal.τ).loc Cert.MmDwGateUpIdeal.main_arg0)
      ∧ r.2.mem ((c.tc : Thread Cert.MmDwGateUpIdeal.nD Cert.MmDwGateUpIdeal.τ).loc Cert.MmDwGateUpIdeal.main_arg1) = m ((c.tc : Thread Cert.MmDwGateUpIdeal.nD Cert.MmDwGateUpIdeal.τ).loc Cert.MmDwGateUpIdeal.main_arg1))
      ∧ r.2.sem = fun _ => 0)

def quiescent_MmDwGateUpRefIdeal [hMmDwGateUpRefIdeal : Cert.MmDwGateUpRefIdeal.Facts] : Prop :=
  ∀ (m : (ℓ : Loc Cert.MmDwGateUpRefIdeal.nD Cert.MmDwGateUpRefIdeal.τ Cert.MmDwGateUpRefIdeal.sig) → Buf (Elt Ideal) ℓ) (g : Dev Cert.MmDwGateUpRefIdeal.nD → PrngReg), Pre_MmDwGateUpRefIdeal m →
    θ_run (Cert.MmDwGateUpRefIdeal.defs (F := Ideal)) (onTc (τ := Cert.MmDwGateUpRefIdeal.τ) (Cert.MmDwGateUpRefIdeal.main (F := Ideal))) ⟨m, fun _ => 0, g⟩ (fun r => (∀ c : Dev Cert.MmDwGateUpRefIdeal.nD,
      r.2.mem ((c.tc : Thread Cert.MmDwGateUpRefIdeal.nD Cert.MmDwGateUpRefIdeal.τ).loc Cert.MmDwGateUpRefIdeal.main_arg0) = m ((c.tc : Thread Cert.MmDwGateUpRefIdeal.nD Cert.MmDwGateUpRefIdeal.τ).loc Cert.MmDwGateUpRefIdeal.main_arg0)
      ∧ r.2.mem ((c.tc : Thread Cert.MmDwGateUpRefIdeal.nD Cert.MmDwGateUpRefIdeal.τ).loc Cert.MmDwGateUpRefIdeal.main_arg1) = m ((c.tc : Thread Cert.MmDwGateUpRefIdeal.nD Cert.MmDwGateUpRefIdeal.τ).loc Cert.MmDwGateUpRefIdeal.main_arg1))
      ∧ r.2.sem = fun _ => 0)

def quiescent_MmDu2 [hMmDu2 : Cert.MmDu2.Facts] : Prop :=
  ∀ (m : (ℓ : Loc Cert.MmDu2.nD Cert.MmDu2.τ Cert.MmDu2.sig) → Buf (Elt Bits) ℓ) (g : Dev Cert.MmDu2.nD → PrngReg), Pre_MmDu2 m →
    θ_run (Cert.MmDu2.defs (F := Bits)) (onTc (τ := Cert.MmDu2.τ) (Cert.MmDu2.main (F := Bits))) ⟨m, fun _ => 0, g⟩ (fun r => (∀ c : Dev Cert.MmDu2.nD,
      r.2.mem ((c.tc : Thread Cert.MmDu2.nD Cert.MmDu2.τ).loc Cert.MmDu2.main_arg0) = m ((c.tc : Thread Cert.MmDu2.nD Cert.MmDu2.τ).loc Cert.MmDu2.main_arg0)
      ∧ r.2.mem ((c.tc : Thread Cert.MmDu2.nD Cert.MmDu2.τ).loc Cert.MmDu2.main_arg1) = m ((c.tc : Thread Cert.MmDu2.nD Cert.MmDu2.τ).loc Cert.MmDu2.main_arg1))
      ∧ r.2.sem = fun _ => 0)

def quiescent_MmDu2Ideal [hMmDu2Ideal : Cert.MmDu2Ideal.Facts] : Prop :=
  ∀ (m : (ℓ : Loc Cert.MmDu2Ideal.nD Cert.MmDu2Ideal.τ Cert.MmDu2Ideal.sig) → Buf (Elt Ideal) ℓ) (g : Dev Cert.MmDu2Ideal.nD → PrngReg), Pre_MmDu2Ideal m →
    θ_run (Cert.MmDu2Ideal.defs (F := Ideal)) (onTc (τ := Cert.MmDu2Ideal.τ) (Cert.MmDu2Ideal.main (F := Ideal))) ⟨m, fun _ => 0, g⟩ (fun r => (∀ c : Dev Cert.MmDu2Ideal.nD,
      r.2.mem ((c.tc : Thread Cert.MmDu2Ideal.nD Cert.MmDu2Ideal.τ).loc Cert.MmDu2Ideal.main_arg0) = m ((c.tc : Thread Cert.MmDu2Ideal.nD Cert.MmDu2Ideal.τ).loc Cert.MmDu2Ideal.main_arg0)
      ∧ r.2.mem ((c.tc : Thread Cert.MmDu2Ideal.nD Cert.MmDu2Ideal.τ).loc Cert.MmDu2Ideal.main_arg1) = m ((c.tc : Thread Cert.MmDu2Ideal.nD Cert.MmDu2Ideal.τ).loc Cert.MmDu2Ideal.main_arg1))
      ∧ r.2.sem = fun _ => 0)

def quiescent_MmDu2RefIdeal [hMmDu2RefIdeal : Cert.MmDu2RefIdeal.Facts] : Prop :=
  ∀ (m : (ℓ : Loc Cert.MmDu2RefIdeal.nD Cert.MmDu2RefIdeal.τ Cert.MmDu2RefIdeal.sig) → Buf (Elt Ideal) ℓ) (g : Dev Cert.MmDu2RefIdeal.nD → PrngReg), Pre_MmDu2RefIdeal m →
    θ_run (Cert.MmDu2RefIdeal.defs (F := Ideal)) (onTc (τ := Cert.MmDu2RefIdeal.τ) (Cert.MmDu2RefIdeal.main (F := Ideal))) ⟨m, fun _ => 0, g⟩ (fun r => (∀ c : Dev Cert.MmDu2RefIdeal.nD,
      r.2.mem ((c.tc : Thread Cert.MmDu2RefIdeal.nD Cert.MmDu2RefIdeal.τ).loc Cert.MmDu2RefIdeal.main_arg0) = m ((c.tc : Thread Cert.MmDu2RefIdeal.nD Cert.MmDu2RefIdeal.τ).loc Cert.MmDu2RefIdeal.main_arg0)
      ∧ r.2.mem ((c.tc : Thread Cert.MmDu2RefIdeal.nD Cert.MmDu2RefIdeal.τ).loc Cert.MmDu2RefIdeal.main_arg1) = m ((c.tc : Thread Cert.MmDu2RefIdeal.nD Cert.MmDu2RefIdeal.τ).loc Cert.MmDu2RefIdeal.main_arg1))
      ∧ r.2.sem = fun _ => 0)

def quiescent_MmDcat [hMmDcat : Cert.MmDcat.Facts] : Prop :=
  ∀ (m : (ℓ : Loc Cert.MmDcat.nD Cert.MmDcat.τ Cert.MmDcat.sig) → Buf (Elt Bits) ℓ) (g : Dev Cert.MmDcat.nD → PrngReg), Pre_MmDcat m →
    θ_run (Cert.MmDcat.defs (F := Bits)) (onTc (τ := Cert.MmDcat.τ) (Cert.MmDcat.main (F := Bits))) ⟨m, fun _ => 0, g⟩ (fun r => (∀ c : Dev Cert.MmDcat.nD,
      r.2.mem ((c.tc : Thread Cert.MmDcat.nD Cert.MmDcat.τ).loc Cert.MmDcat.main_arg0) = m ((c.tc : Thread Cert.MmDcat.nD Cert.MmDcat.τ).loc Cert.MmDcat.main_arg0)
      ∧ r.2.mem ((c.tc : Thread Cert.MmDcat.nD Cert.MmDcat.τ).loc Cert.MmDcat.main_arg1) = m ((c.tc : Thread Cert.MmDcat.nD Cert.MmDcat.τ).loc Cert.MmDcat.main_arg1))
      ∧ r.2.sem = fun _ => 0)

def quiescent_MmDcatIdeal [hMmDcatIdeal : Cert.MmDcatIdeal.Facts] : Prop :=
  ∀ (m : (ℓ : Loc Cert.MmDcatIdeal.nD Cert.MmDcatIdeal.τ Cert.MmDcatIdeal.sig) → Buf (Elt Ideal) ℓ) (g : Dev Cert.MmDcatIdeal.nD → PrngReg), Pre_MmDcatIdeal m →
    θ_run (Cert.MmDcatIdeal.defs (F := Ideal)) (onTc (τ := Cert.MmDcatIdeal.τ) (Cert.MmDcatIdeal.main (F := Ideal))) ⟨m, fun _ => 0, g⟩ (fun r => (∀ c : Dev Cert.MmDcatIdeal.nD,
      r.2.mem ((c.tc : Thread Cert.MmDcatIdeal.nD Cert.MmDcatIdeal.τ).loc Cert.MmDcatIdeal.main_arg0) = m ((c.tc : Thread Cert.MmDcatIdeal.nD Cert.MmDcatIdeal.τ).loc Cert.MmDcatIdeal.main_arg0)
      ∧ r.2.mem ((c.tc : Thread Cert.MmDcatIdeal.nD Cert.MmDcatIdeal.τ).loc Cert.MmDcatIdeal.main_arg1) = m ((c.tc : Thread Cert.MmDcatIdeal.nD Cert.MmDcatIdeal.τ).loc Cert.MmDcatIdeal.main_arg1))
      ∧ r.2.sem = fun _ => 0)

def quiescent_MmDcatRefIdeal [hMmDcatRefIdeal : Cert.MmDcatRefIdeal.Facts] : Prop :=
  ∀ (m : (ℓ : Loc Cert.MmDcatRefIdeal.nD Cert.MmDcatRefIdeal.τ Cert.MmDcatRefIdeal.sig) → Buf (Elt Ideal) ℓ) (g : Dev Cert.MmDcatRefIdeal.nD → PrngReg), Pre_MmDcatRefIdeal m →
    θ_run (Cert.MmDcatRefIdeal.defs (F := Ideal)) (onTc (τ := Cert.MmDcatRefIdeal.τ) (Cert.MmDcatRefIdeal.main (F := Ideal))) ⟨m, fun _ => 0, g⟩ (fun r => (∀ c : Dev Cert.MmDcatRefIdeal.nD,
      r.2.mem ((c.tc : Thread Cert.MmDcatRefIdeal.nD Cert.MmDcatRefIdeal.τ).loc Cert.MmDcatRefIdeal.main_arg0) = m ((c.tc : Thread Cert.MmDcatRefIdeal.nD Cert.MmDcatRefIdeal.τ).loc Cert.MmDcatRefIdeal.main_arg0)
      ∧ r.2.mem ((c.tc : Thread Cert.MmDcatRefIdeal.nD Cert.MmDcatRefIdeal.τ).loc Cert.MmDcatRefIdeal.main_arg1) = m ((c.tc : Thread Cert.MmDcatRefIdeal.nD Cert.MmDcatRefIdeal.τ).loc Cert.MmDcatRefIdeal.main_arg1))
      ∧ r.2.sem = fun _ => 0)

def quiescent_MmDwOut [hMmDwOut : Cert.MmDwOut.Facts] : Prop :=
  ∀ (m : (ℓ : Loc Cert.MmDwOut.nD Cert.MmDwOut.τ Cert.MmDwOut.sig) → Buf (Elt Bits) ℓ) (g : Dev Cert.MmDwOut.nD → PrngReg), Pre_MmDwOut m →
    θ_run (Cert.MmDwOut.defs (F := Bits)) (onTc (τ := Cert.MmDwOut.τ) (Cert.MmDwOut.main (F := Bits))) ⟨m, fun _ => 0, g⟩ (fun r => (∀ c : Dev Cert.MmDwOut.nD,
      r.2.mem ((c.tc : Thread Cert.MmDwOut.nD Cert.MmDwOut.τ).loc Cert.MmDwOut.main_arg0) = m ((c.tc : Thread Cert.MmDwOut.nD Cert.MmDwOut.τ).loc Cert.MmDwOut.main_arg0)
      ∧ r.2.mem ((c.tc : Thread Cert.MmDwOut.nD Cert.MmDwOut.τ).loc Cert.MmDwOut.main_arg1) = m ((c.tc : Thread Cert.MmDwOut.nD Cert.MmDwOut.τ).loc Cert.MmDwOut.main_arg1))
      ∧ r.2.sem = fun _ => 0)

def quiescent_MmDwOutIdeal [hMmDwOutIdeal : Cert.MmDwOutIdeal.Facts] : Prop :=
  ∀ (m : (ℓ : Loc Cert.MmDwOutIdeal.nD Cert.MmDwOutIdeal.τ Cert.MmDwOutIdeal.sig) → Buf (Elt Ideal) ℓ) (g : Dev Cert.MmDwOutIdeal.nD → PrngReg), Pre_MmDwOutIdeal m →
    θ_run (Cert.MmDwOutIdeal.defs (F := Ideal)) (onTc (τ := Cert.MmDwOutIdeal.τ) (Cert.MmDwOutIdeal.main (F := Ideal))) ⟨m, fun _ => 0, g⟩ (fun r => (∀ c : Dev Cert.MmDwOutIdeal.nD,
      r.2.mem ((c.tc : Thread Cert.MmDwOutIdeal.nD Cert.MmDwOutIdeal.τ).loc Cert.MmDwOutIdeal.main_arg0) = m ((c.tc : Thread Cert.MmDwOutIdeal.nD Cert.MmDwOutIdeal.τ).loc Cert.MmDwOutIdeal.main_arg0)
      ∧ r.2.mem ((c.tc : Thread Cert.MmDwOutIdeal.nD Cert.MmDwOutIdeal.τ).loc Cert.MmDwOutIdeal.main_arg1) = m ((c.tc : Thread Cert.MmDwOutIdeal.nD Cert.MmDwOutIdeal.τ).loc Cert.MmDwOutIdeal.main_arg1))
      ∧ r.2.sem = fun _ => 0)

def quiescent_MmDwOutRefIdeal [hMmDwOutRefIdeal : Cert.MmDwOutRefIdeal.Facts] : Prop :=
  ∀ (m : (ℓ : Loc Cert.MmDwOutRefIdeal.nD Cert.MmDwOutRefIdeal.τ Cert.MmDwOutRefIdeal.sig) → Buf (Elt Ideal) ℓ) (g : Dev Cert.MmDwOutRefIdeal.nD → PrngReg), Pre_MmDwOutRefIdeal m →
    θ_run (Cert.MmDwOutRefIdeal.defs (F := Ideal)) (onTc (τ := Cert.MmDwOutRefIdeal.τ) (Cert.MmDwOutRefIdeal.main (F := Ideal))) ⟨m, fun _ => 0, g⟩ (fun r => (∀ c : Dev Cert.MmDwOutRefIdeal.nD,
      r.2.mem ((c.tc : Thread Cert.MmDwOutRefIdeal.nD Cert.MmDwOutRefIdeal.τ).loc Cert.MmDwOutRefIdeal.main_arg0) = m ((c.tc : Thread Cert.MmDwOutRefIdeal.nD Cert.MmDwOutRefIdeal.τ).loc Cert.MmDwOutRefIdeal.main_arg0)
      ∧ r.2.mem ((c.tc : Thread Cert.MmDwOutRefIdeal.nD Cert.MmDwOutRefIdeal.τ).loc Cert.MmDwOutRefIdeal.main_arg1) = m ((c.tc : Thread Cert.MmDwOutRefIdeal.nD Cert.MmDwOutRefIdeal.τ).loc Cert.MmDwOutRefIdeal.main_arg1))
      ∧ r.2.sem = fun _ => 0)

def quiescent_MmDwIn [hMmDwIn : Cert.MmDwIn.Facts] : Prop :=
  ∀ (m : (ℓ : Loc Cert.MmDwIn.nD Cert.MmDwIn.τ Cert.MmDwIn.sig) → Buf (Elt Bits) ℓ) (g : Dev Cert.MmDwIn.nD → PrngReg), Pre_MmDwIn m →
    θ_run (Cert.MmDwIn.defs (F := Bits)) (onTc (τ := Cert.MmDwIn.τ) (Cert.MmDwIn.main (F := Bits))) ⟨m, fun _ => 0, g⟩ (fun r => (∀ c : Dev Cert.MmDwIn.nD,
      r.2.mem ((c.tc : Thread Cert.MmDwIn.nD Cert.MmDwIn.τ).loc Cert.MmDwIn.main_arg0) = m ((c.tc : Thread Cert.MmDwIn.nD Cert.MmDwIn.τ).loc Cert.MmDwIn.main_arg0)
      ∧ r.2.mem ((c.tc : Thread Cert.MmDwIn.nD Cert.MmDwIn.τ).loc Cert.MmDwIn.main_arg1) = m ((c.tc : Thread Cert.MmDwIn.nD Cert.MmDwIn.τ).loc Cert.MmDwIn.main_arg1))
      ∧ r.2.sem = fun _ => 0)

def quiescent_MmDwInIdeal [hMmDwInIdeal : Cert.MmDwInIdeal.Facts] : Prop :=
  ∀ (m : (ℓ : Loc Cert.MmDwInIdeal.nD Cert.MmDwInIdeal.τ Cert.MmDwInIdeal.sig) → Buf (Elt Ideal) ℓ) (g : Dev Cert.MmDwInIdeal.nD → PrngReg), Pre_MmDwInIdeal m →
    θ_run (Cert.MmDwInIdeal.defs (F := Ideal)) (onTc (τ := Cert.MmDwInIdeal.τ) (Cert.MmDwInIdeal.main (F := Ideal))) ⟨m, fun _ => 0, g⟩ (fun r => (∀ c : Dev Cert.MmDwInIdeal.nD,
      r.2.mem ((c.tc : Thread Cert.MmDwInIdeal.nD Cert.MmDwInIdeal.τ).loc Cert.MmDwInIdeal.main_arg0) = m ((c.tc : Thread Cert.MmDwInIdeal.nD Cert.MmDwInIdeal.τ).loc Cert.MmDwInIdeal.main_arg0)
      ∧ r.2.mem ((c.tc : Thread Cert.MmDwInIdeal.nD Cert.MmDwInIdeal.τ).loc Cert.MmDwInIdeal.main_arg1) = m ((c.tc : Thread Cert.MmDwInIdeal.nD Cert.MmDwInIdeal.τ).loc Cert.MmDwInIdeal.main_arg1))
      ∧ r.2.sem = fun _ => 0)

def quiescent_MmDwInRefIdeal [hMmDwInRefIdeal : Cert.MmDwInRefIdeal.Facts] : Prop :=
  ∀ (m : (ℓ : Loc Cert.MmDwInRefIdeal.nD Cert.MmDwInRefIdeal.τ Cert.MmDwInRefIdeal.sig) → Buf (Elt Ideal) ℓ) (g : Dev Cert.MmDwInRefIdeal.nD → PrngReg), Pre_MmDwInRefIdeal m →
    θ_run (Cert.MmDwInRefIdeal.defs (F := Ideal)) (onTc (τ := Cert.MmDwInRefIdeal.τ) (Cert.MmDwInRefIdeal.main (F := Ideal))) ⟨m, fun _ => 0, g⟩ (fun r => (∀ c : Dev Cert.MmDwInRefIdeal.nD,
      r.2.mem ((c.tc : Thread Cert.MmDwInRefIdeal.nD Cert.MmDwInRefIdeal.τ).loc Cert.MmDwInRefIdeal.main_arg0) = m ((c.tc : Thread Cert.MmDwInRefIdeal.nD Cert.MmDwInRefIdeal.τ).loc Cert.MmDwInRefIdeal.main_arg0)
      ∧ r.2.mem ((c.tc : Thread Cert.MmDwInRefIdeal.nD Cert.MmDwInRefIdeal.τ).loc Cert.MmDwInRefIdeal.main_arg1) = m ((c.tc : Thread Cert.MmDwInRefIdeal.nD Cert.MmDwInRefIdeal.τ).loc Cert.MmDwInRefIdeal.main_arg1))
      ∧ r.2.sem = fun _ => 0)

def quiescent_MmDu1 [hMmDu1 : Cert.MmDu1.Facts] : Prop :=
  ∀ (m : (ℓ : Loc Cert.MmDu1.nD Cert.MmDu1.τ Cert.MmDu1.sig) → Buf (Elt Bits) ℓ) (g : Dev Cert.MmDu1.nD → PrngReg), Pre_MmDu1 m →
    θ_run (Cert.MmDu1.defs (F := Bits)) (onTc (τ := Cert.MmDu1.τ) (Cert.MmDu1.main (F := Bits))) ⟨m, fun _ => 0, g⟩ (fun r => (∀ c : Dev Cert.MmDu1.nD,
      r.2.mem ((c.tc : Thread Cert.MmDu1.nD Cert.MmDu1.τ).loc Cert.MmDu1.main_arg0) = m ((c.tc : Thread Cert.MmDu1.nD Cert.MmDu1.τ).loc Cert.MmDu1.main_arg0)
      ∧ r.2.mem ((c.tc : Thread Cert.MmDu1.nD Cert.MmDu1.τ).loc Cert.MmDu1.main_arg1) = m ((c.tc : Thread Cert.MmDu1.nD Cert.MmDu1.τ).loc Cert.MmDu1.main_arg1))
      ∧ r.2.sem = fun _ => 0)

def quiescent_MmDu1Ideal [hMmDu1Ideal : Cert.MmDu1Ideal.Facts] : Prop :=
  ∀ (m : (ℓ : Loc Cert.MmDu1Ideal.nD Cert.MmDu1Ideal.τ Cert.MmDu1Ideal.sig) → Buf (Elt Ideal) ℓ) (g : Dev Cert.MmDu1Ideal.nD → PrngReg), Pre_MmDu1Ideal m →
    θ_run (Cert.MmDu1Ideal.defs (F := Ideal)) (onTc (τ := Cert.MmDu1Ideal.τ) (Cert.MmDu1Ideal.main (F := Ideal))) ⟨m, fun _ => 0, g⟩ (fun r => (∀ c : Dev Cert.MmDu1Ideal.nD,
      r.2.mem ((c.tc : Thread Cert.MmDu1Ideal.nD Cert.MmDu1Ideal.τ).loc Cert.MmDu1Ideal.main_arg0) = m ((c.tc : Thread Cert.MmDu1Ideal.nD Cert.MmDu1Ideal.τ).loc Cert.MmDu1Ideal.main_arg0)
      ∧ r.2.mem ((c.tc : Thread Cert.MmDu1Ideal.nD Cert.MmDu1Ideal.τ).loc Cert.MmDu1Ideal.main_arg1) = m ((c.tc : Thread Cert.MmDu1Ideal.nD Cert.MmDu1Ideal.τ).loc Cert.MmDu1Ideal.main_arg1))
      ∧ r.2.sem = fun _ => 0)

def quiescent_MmDu1RefIdeal [hMmDu1RefIdeal : Cert.MmDu1RefIdeal.Facts] : Prop :=
  ∀ (m : (ℓ : Loc Cert.MmDu1RefIdeal.nD Cert.MmDu1RefIdeal.τ Cert.MmDu1RefIdeal.sig) → Buf (Elt Ideal) ℓ) (g : Dev Cert.MmDu1RefIdeal.nD → PrngReg), Pre_MmDu1RefIdeal m →
    θ_run (Cert.MmDu1RefIdeal.defs (F := Ideal)) (onTc (τ := Cert.MmDu1RefIdeal.τ) (Cert.MmDu1RefIdeal.main (F := Ideal))) ⟨m, fun _ => 0, g⟩ (fun r => (∀ c : Dev Cert.MmDu1RefIdeal.nD,
      r.2.mem ((c.tc : Thread Cert.MmDu1RefIdeal.nD Cert.MmDu1RefIdeal.τ).loc Cert.MmDu1RefIdeal.main_arg0) = m ((c.tc : Thread Cert.MmDu1RefIdeal.nD Cert.MmDu1RefIdeal.τ).loc Cert.MmDu1RefIdeal.main_arg0)
      ∧ r.2.mem ((c.tc : Thread Cert.MmDu1RefIdeal.nD Cert.MmDu1RefIdeal.τ).loc Cert.MmDu1RefIdeal.main_arg1) = m ((c.tc : Thread Cert.MmDu1RefIdeal.nD Cert.MmDu1RefIdeal.τ).loc Cert.MmDu1RefIdeal.main_arg1))
      ∧ r.2.sem = fun _ => 0)

def preserves_ShareHalves_ShareHalvesIdeal : Prop :=
  True

def algebraic_ShareHalvesIdeal_ShareHalvesRefIdeal [hShareHalvesIdeal : Cert.ShareHalvesIdeal.Facts] [hShareHalvesRefIdeal : Cert.ShareHalvesRefIdeal.Facts] : Prop :=
  ∀ (m : (ℓ : Loc Cert.ShareHalvesIdeal.nD Cert.ShareHalvesIdeal.τ Cert.ShareHalvesIdeal.sig) → Buf (Elt Ideal) ℓ) (g : Dev Cert.ShareHalvesIdeal.nD → PrngReg)
    (m' : (ℓ : Loc Cert.ShareHalvesRefIdeal.nD Cert.ShareHalvesRefIdeal.τ Cert.ShareHalvesRefIdeal.sig) → Buf (Elt Ideal) ℓ) (g' : Dev Cert.ShareHalvesRefIdeal.nD → PrngReg), Pre_ShareHalvesIdeal m →
    (∀ c : Dev Cert.ShareHalvesIdeal.nD,
      m ((c.tc : Thread Cert.ShareHalvesIdeal.nD Cert.ShareHalvesIdeal.τ).loc Cert.ShareHalvesIdeal.main_arg0) = Layout.block ⟨2, ![13312, 128]⟩ ⟨2, ![106496, 128]⟩ 0 8 c (m' (((0 : Dev Cert.ShareHalvesRefIdeal.nD).tc : Thread Cert.ShareHalvesRefIdeal.nD Cert.ShareHalvesRefIdeal.τ).loc Cert.ShareHalvesRefIdeal.main_arg0))) →
    ∃ (v0 : Buf (Elt Ideal) (((0 : Dev Cert.ShareHalvesRefIdeal.nD).tc : Thread Cert.ShareHalvesRefIdeal.nD Cert.ShareHalvesRefIdeal.τ).loc Cert.ShareHalvesRefIdeal.main_v0)),
      θ_run (Cert.ShareHalvesIdeal.defs (F := Ideal)) (onTc (τ := Cert.ShareHalvesIdeal.τ) (Cert.ShareHalvesIdeal.main (F := Ideal))) ⟨m, fun _ => 0, g⟩ (fun r => ∀ c : Dev Cert.ShareHalvesIdeal.nD,
          r.2.mem ((c.tc : Thread Cert.ShareHalvesIdeal.nD Cert.ShareHalvesIdeal.τ).loc Cert.ShareHalvesIdeal.main_v1) = Layout.blockN ⟨3, ![2, 13312, 128]⟩ ⟨3, ![8, 13312, 128]⟩ (Layout.meshBlock [2, 2, 2] ![[0, 1], [], []] c) v0
          ∧ r.2.mem ((c.tc : Thread Cert.ShareHalvesIdeal.nD Cert.ShareHalvesIdeal.τ).loc Cert.ShareHalvesIdeal.main_arg0) = m ((c.tc : Thread Cert.ShareHalvesIdeal.nD Cert.ShareHalvesIdeal.τ).loc Cert.ShareHalvesIdeal.main_arg0))
      ∧ θ_run (Cert.ShareHalvesRefIdeal.defs (F := Ideal)) (onTc (τ := Cert.ShareHalvesRefIdeal.τ) (Cert.ShareHalvesRefIdeal.main (F := Ideal))) ⟨m', fun _ => 0, g'⟩ (fun r =>
          r.2.mem (((0 : Dev Cert.ShareHalvesRefIdeal.nD).tc : Thread Cert.ShareHalvesRefIdeal.nD Cert.ShareHalvesRefIdeal.τ).loc Cert.ShareHalvesRefIdeal.main_v0) = v0
          ∧ r.2.mem (((0 : Dev Cert.ShareHalvesRefIdeal.nD).tc : Thread Cert.ShareHalvesRefIdeal.nD Cert.ShareHalvesRefIdeal.τ).loc Cert.ShareHalvesRefIdeal.main_arg0) = m' (((0 : Dev Cert.ShareHalvesRefIdeal.nD).tc : Thread Cert.ShareHalvesRefIdeal.nD Cert.ShareHalvesRefIdeal.τ).loc Cert.ShareHalvesRefIdeal.main_arg0))

def bitexact_ShareHalves_ShareHalvesRef [hShareHalves : Cert.ShareHalves.Facts] [hShareHalvesRef : Cert.ShareHalvesRef.Facts] : Prop :=
  ∀ (m : (ℓ : Loc Cert.ShareHalves.nD Cert.ShareHalves.τ Cert.ShareHalves.sig) → Buf (Elt Bits) ℓ) (g : Dev Cert.ShareHalves.nD → PrngReg)
    (m' : (ℓ : Loc Cert.ShareHalvesRef.nD Cert.ShareHalvesRef.τ Cert.ShareHalvesRef.sig) → Buf (Elt Bits) ℓ) (g' : Dev Cert.ShareHalvesRef.nD → PrngReg), Pre_ShareHalves m →
    (∀ c : Dev Cert.ShareHalves.nD,
      m ((c.tc : Thread Cert.ShareHalves.nD Cert.ShareHalves.τ).loc Cert.ShareHalves.main_arg0) = Layout.block ⟨2, ![13312, 128]⟩ ⟨2, ![106496, 128]⟩ 0 8 c (m' (((0 : Dev Cert.ShareHalvesRef.nD).tc : Thread Cert.ShareHalvesRef.nD Cert.ShareHalvesRef.τ).loc Cert.ShareHalvesRef.main_arg0))) →
    ∃ (v0 : Buf (Elt Bits) (((0 : Dev Cert.ShareHalvesRef.nD).tc : Thread Cert.ShareHalvesRef.nD Cert.ShareHalvesRef.τ).loc Cert.ShareHalvesRef.main_v0)),
      θ_run (Cert.ShareHalves.defs (F := Bits)) (onTc (τ := Cert.ShareHalves.τ) (Cert.ShareHalves.main (F := Bits))) ⟨m, fun _ => 0, g⟩ (fun r => ∀ c : Dev Cert.ShareHalves.nD,
          r.2.mem ((c.tc : Thread Cert.ShareHalves.nD Cert.ShareHalves.τ).loc Cert.ShareHalves.main_v1) = Layout.blockN ⟨3, ![2, 13312, 128]⟩ ⟨3, ![8, 13312, 128]⟩ (Layout.meshBlock [2, 2, 2] ![[0, 1], [], []] c) v0
          ∧ r.2.mem ((c.tc : Thread Cert.ShareHalves.nD Cert.ShareHalves.τ).loc Cert.ShareHalves.main_arg0) = m ((c.tc : Thread Cert.ShareHalves.nD Cert.ShareHalves.τ).loc Cert.ShareHalves.main_arg0))
      ∧ θ_run (Cert.ShareHalvesRef.defs (F := Bits)) (onTc (τ := Cert.ShareHalvesRef.τ) (Cert.ShareHalvesRef.main (F := Bits))) ⟨m', fun _ => 0, g'⟩ (fun r =>
          r.2.mem (((0 : Dev Cert.ShareHalvesRef.nD).tc : Thread Cert.ShareHalvesRef.nD Cert.ShareHalvesRef.τ).loc Cert.ShareHalvesRef.main_v0) = v0
          ∧ r.2.mem (((0 : Dev Cert.ShareHalvesRef.nD).tc : Thread Cert.ShareHalvesRef.nD Cert.ShareHalvesRef.τ).loc Cert.ShareHalvesRef.main_arg0) = m' (((0 : Dev Cert.ShareHalvesRef.nD).tc : Thread Cert.ShareHalvesRef.nD Cert.ShareHalvesRef.τ).loc Cert.ShareHalvesRef.main_arg0))

def preserves_ExchangeChips_ExchangeChipsIdeal : Prop :=
  True

def algebraic_ExchangeChipsIdeal_ExchangeChipsRefIdeal [hExchangeChipsIdeal : Cert.ExchangeChipsIdeal.Facts] [hExchangeChipsRefIdeal : Cert.ExchangeChipsRefIdeal.Facts] : Prop :=
  ∀ (m : (ℓ : Loc Cert.ExchangeChipsIdeal.nD Cert.ExchangeChipsIdeal.τ Cert.ExchangeChipsIdeal.sig) → Buf (Elt Ideal) ℓ) (g : Dev Cert.ExchangeChipsIdeal.nD → PrngReg)
    (m' : (ℓ : Loc Cert.ExchangeChipsRefIdeal.nD Cert.ExchangeChipsRefIdeal.τ Cert.ExchangeChipsRefIdeal.sig) → Buf (Elt Ideal) ℓ) (g' : Dev Cert.ExchangeChipsRefIdeal.nD → PrngReg), Pre_ExchangeChipsIdeal m →
    (∀ c : Dev Cert.ExchangeChipsIdeal.nD,
      m ((c.tc : Thread Cert.ExchangeChipsIdeal.nD Cert.ExchangeChipsIdeal.τ).loc Cert.ExchangeChipsIdeal.main_arg0) = Layout.block ⟨3, ![4, 13312, 128]⟩ ⟨3, ![32, 13312, 128]⟩ 0 8 c (m' (((0 : Dev Cert.ExchangeChipsRefIdeal.nD).tc : Thread Cert.ExchangeChipsRefIdeal.nD Cert.ExchangeChipsRefIdeal.τ).loc Cert.ExchangeChipsRefIdeal.main_arg0))) →
    ∃ (v0 : Buf (Elt Ideal) (((0 : Dev Cert.ExchangeChipsRefIdeal.nD).tc : Thread Cert.ExchangeChipsRefIdeal.nD Cert.ExchangeChipsRefIdeal.τ).loc Cert.ExchangeChipsRefIdeal.main_v26)),
      θ_run (Cert.ExchangeChipsIdeal.defs (F := Ideal)) (onTc (τ := Cert.ExchangeChipsIdeal.τ) (Cert.ExchangeChipsIdeal.main (F := Ideal))) ⟨m, fun _ => 0, g⟩ (fun r => ∀ c : Dev Cert.ExchangeChipsIdeal.nD,
          r.2.mem ((c.tc : Thread Cert.ExchangeChipsIdeal.nD Cert.ExchangeChipsIdeal.τ).loc Cert.ExchangeChipsIdeal.main_v1) = Layout.block ⟨3, ![3, 13312, 128]⟩ ⟨3, ![24, 13312, 128]⟩ 0 8 c v0
          ∧ r.2.mem ((c.tc : Thread Cert.ExchangeChipsIdeal.nD Cert.ExchangeChipsIdeal.τ).loc Cert.ExchangeChipsIdeal.main_arg0) = m ((c.tc : Thread Cert.ExchangeChipsIdeal.nD Cert.ExchangeChipsIdeal.τ).loc Cert.ExchangeChipsIdeal.main_arg0))
      ∧ θ_run (Cert.ExchangeChipsRefIdeal.defs (F := Ideal)) (onTc (τ := Cert.ExchangeChipsRefIdeal.τ) (Cert.ExchangeChipsRefIdeal.main (F := Ideal))) ⟨m', fun _ => 0, g'⟩ (fun r =>
          r.2.mem (((0 : Dev Cert.ExchangeChipsRefIdeal.nD).tc : Thread Cert.ExchangeChipsRefIdeal.nD Cert.ExchangeChipsRefIdeal.τ).loc Cert.ExchangeChipsRefIdeal.main_v26) = v0
          ∧ r.2.mem (((0 : Dev Cert.ExchangeChipsRefIdeal.nD).tc : Thread Cert.ExchangeChipsRefIdeal.nD Cert.ExchangeChipsRefIdeal.τ).loc Cert.ExchangeChipsRefIdeal.main_arg0) = m' (((0 : Dev Cert.ExchangeChipsRefIdeal.nD).tc : Thread Cert.ExchangeChipsRefIdeal.nD Cert.ExchangeChipsRefIdeal.τ).loc Cert.ExchangeChipsRefIdeal.main_arg0))

def bitexact_ExchangeChips_ExchangeChipsRef [hExchangeChips : Cert.ExchangeChips.Facts] [hExchangeChipsRef : Cert.ExchangeChipsRef.Facts] : Prop :=
  ∀ (m : (ℓ : Loc Cert.ExchangeChips.nD Cert.ExchangeChips.τ Cert.ExchangeChips.sig) → Buf (Elt Bits) ℓ) (g : Dev Cert.ExchangeChips.nD → PrngReg)
    (m' : (ℓ : Loc Cert.ExchangeChipsRef.nD Cert.ExchangeChipsRef.τ Cert.ExchangeChipsRef.sig) → Buf (Elt Bits) ℓ) (g' : Dev Cert.ExchangeChipsRef.nD → PrngReg), Pre_ExchangeChips m →
    (∀ c : Dev Cert.ExchangeChips.nD,
      m ((c.tc : Thread Cert.ExchangeChips.nD Cert.ExchangeChips.τ).loc Cert.ExchangeChips.main_arg0) = Layout.block ⟨3, ![4, 13312, 128]⟩ ⟨3, ![32, 13312, 128]⟩ 0 8 c (m' (((0 : Dev Cert.ExchangeChipsRef.nD).tc : Thread Cert.ExchangeChipsRef.nD Cert.ExchangeChipsRef.τ).loc Cert.ExchangeChipsRef.main_arg0))) →
    ∃ (v0 : Buf (Elt Bits) (((0 : Dev Cert.ExchangeChipsRef.nD).tc : Thread Cert.ExchangeChipsRef.nD Cert.ExchangeChipsRef.τ).loc Cert.ExchangeChipsRef.main_v26)),
      θ_run (Cert.ExchangeChips.defs (F := Bits)) (onTc (τ := Cert.ExchangeChips.τ) (Cert.ExchangeChips.main (F := Bits))) ⟨m, fun _ => 0, g⟩ (fun r => ∀ c : Dev Cert.ExchangeChips.nD,
          r.2.mem ((c.tc : Thread Cert.ExchangeChips.nD Cert.ExchangeChips.τ).loc Cert.ExchangeChips.main_v1) = Layout.block ⟨3, ![3, 13312, 128]⟩ ⟨3, ![24, 13312, 128]⟩ 0 8 c v0
          ∧ r.2.mem ((c.tc : Thread Cert.ExchangeChips.nD Cert.ExchangeChips.τ).loc Cert.ExchangeChips.main_arg0) = m ((c.tc : Thread Cert.ExchangeChips.nD Cert.ExchangeChips.τ).loc Cert.ExchangeChips.main_arg0))
      ∧ θ_run (Cert.ExchangeChipsRef.defs (F := Bits)) (onTc (τ := Cert.ExchangeChipsRef.τ) (Cert.ExchangeChipsRef.main (F := Bits))) ⟨m', fun _ => 0, g'⟩ (fun r =>
          r.2.mem (((0 : Dev Cert.ExchangeChipsRef.nD).tc : Thread Cert.ExchangeChipsRef.nD Cert.ExchangeChipsRef.τ).loc Cert.ExchangeChipsRef.main_v26) = v0
          ∧ r.2.mem (((0 : Dev Cert.ExchangeChipsRef.nD).tc : Thread Cert.ExchangeChipsRef.nD Cert.ExchangeChipsRef.τ).loc Cert.ExchangeChipsRef.main_arg0) = m' (((0 : Dev Cert.ExchangeChipsRef.nD).tc : Thread Cert.ExchangeChipsRef.nD Cert.ExchangeChipsRef.τ).loc Cert.ExchangeChipsRef.main_arg0))

def preserves_ExchangeSiblings_ExchangeSiblingsIdeal : Prop :=
  True

def algebraic_ExchangeSiblingsIdeal_ExchangeSiblingsRefIdeal [hExchangeSiblingsIdeal : Cert.ExchangeSiblingsIdeal.Facts] [hExchangeSiblingsRefIdeal : Cert.ExchangeSiblingsRefIdeal.Facts] : Prop :=
  ∀ (m : (ℓ : Loc Cert.ExchangeSiblingsIdeal.nD Cert.ExchangeSiblingsIdeal.τ Cert.ExchangeSiblingsIdeal.sig) → Buf (Elt Ideal) ℓ) (g : Dev Cert.ExchangeSiblingsIdeal.nD → PrngReg)
    (m' : (ℓ : Loc Cert.ExchangeSiblingsRefIdeal.nD Cert.ExchangeSiblingsRefIdeal.τ Cert.ExchangeSiblingsRefIdeal.sig) → Buf (Elt Ideal) ℓ) (g' : Dev Cert.ExchangeSiblingsRefIdeal.nD → PrngReg), Pre_ExchangeSiblingsIdeal m →
    (∀ c : Dev Cert.ExchangeSiblingsIdeal.nD,
      m ((c.tc : Thread Cert.ExchangeSiblingsIdeal.nD Cert.ExchangeSiblingsIdeal.τ).loc Cert.ExchangeSiblingsIdeal.main_arg0) = Layout.block ⟨4, ![2, 4, 13312, 128]⟩ ⟨4, ![16, 4, 13312, 128]⟩ 0 8 c (m' (((0 : Dev Cert.ExchangeSiblingsRefIdeal.nD).tc : Thread Cert.ExchangeSiblingsRefIdeal.nD Cert.ExchangeSiblingsRefIdeal.τ).loc Cert.ExchangeSiblingsRefIdeal.main_arg0))
      ∧ m ((c.tc : Thread Cert.ExchangeSiblingsIdeal.nD Cert.ExchangeSiblingsIdeal.τ).loc Cert.ExchangeSiblingsIdeal.main_arg1) = Layout.block ⟨2, ![224, 128]⟩ ⟨2, ![1792, 128]⟩ 0 8 c (m' (((0 : Dev Cert.ExchangeSiblingsRefIdeal.nD).tc : Thread Cert.ExchangeSiblingsRefIdeal.nD Cert.ExchangeSiblingsRefIdeal.τ).loc Cert.ExchangeSiblingsRefIdeal.main_arg1))) →
    ∃ (v0 : Buf (Elt Ideal) (((0 : Dev Cert.ExchangeSiblingsRefIdeal.nD).tc : Thread Cert.ExchangeSiblingsRefIdeal.nD Cert.ExchangeSiblingsRefIdeal.τ).loc Cert.ExchangeSiblingsRefIdeal.main_v9)) (v1 : Buf (Elt Ideal) (((0 : Dev Cert.ExchangeSiblingsRefIdeal.nD).tc : Thread Cert.ExchangeSiblingsRefIdeal.nD Cert.ExchangeSiblingsRefIdeal.τ).loc Cert.ExchangeSiblingsRefIdeal.main_v10)),
      θ_run (Cert.ExchangeSiblingsIdeal.defs (F := Ideal)) (onTc (τ := Cert.ExchangeSiblingsIdeal.τ) (Cert.ExchangeSiblingsIdeal.main (F := Ideal))) ⟨m, fun _ => 0, g⟩ (fun r => ∀ c : Dev Cert.ExchangeSiblingsIdeal.nD,
          r.2.mem ((c.tc : Thread Cert.ExchangeSiblingsIdeal.nD Cert.ExchangeSiblingsIdeal.τ).loc Cert.ExchangeSiblingsIdeal.main_v1_0) = Layout.block ⟨3, ![4, 13312, 128]⟩ ⟨3, ![32, 13312, 128]⟩ 0 8 c v0
          ∧ r.2.mem ((c.tc : Thread Cert.ExchangeSiblingsIdeal.nD Cert.ExchangeSiblingsIdeal.τ).loc Cert.ExchangeSiblingsIdeal.main_v1_1) = v1
          ∧ r.2.mem ((c.tc : Thread Cert.ExchangeSiblingsIdeal.nD Cert.ExchangeSiblingsIdeal.τ).loc Cert.ExchangeSiblingsIdeal.main_arg0) = m ((c.tc : Thread Cert.ExchangeSiblingsIdeal.nD Cert.ExchangeSiblingsIdeal.τ).loc Cert.ExchangeSiblingsIdeal.main_arg0)
          ∧ r.2.mem ((c.tc : Thread Cert.ExchangeSiblingsIdeal.nD Cert.ExchangeSiblingsIdeal.τ).loc Cert.ExchangeSiblingsIdeal.main_arg1) = m ((c.tc : Thread Cert.ExchangeSiblingsIdeal.nD Cert.ExchangeSiblingsIdeal.τ).loc Cert.ExchangeSiblingsIdeal.main_arg1))
      ∧ θ_run (Cert.ExchangeSiblingsRefIdeal.defs (F := Ideal)) (onTc (τ := Cert.ExchangeSiblingsRefIdeal.τ) (Cert.ExchangeSiblingsRefIdeal.main (F := Ideal))) ⟨m', fun _ => 0, g'⟩ (fun r =>
          r.2.mem (((0 : Dev Cert.ExchangeSiblingsRefIdeal.nD).tc : Thread Cert.ExchangeSiblingsRefIdeal.nD Cert.ExchangeSiblingsRefIdeal.τ).loc Cert.ExchangeSiblingsRefIdeal.main_v9) = v0
          ∧ r.2.mem (((0 : Dev Cert.ExchangeSiblingsRefIdeal.nD).tc : Thread Cert.ExchangeSiblingsRefIdeal.nD Cert.ExchangeSiblingsRefIdeal.τ).loc Cert.ExchangeSiblingsRefIdeal.main_v10) = v1
          ∧ r.2.mem (((0 : Dev Cert.ExchangeSiblingsRefIdeal.nD).tc : Thread Cert.ExchangeSiblingsRefIdeal.nD Cert.ExchangeSiblingsRefIdeal.τ).loc Cert.ExchangeSiblingsRefIdeal.main_arg0) = m' (((0 : Dev Cert.ExchangeSiblingsRefIdeal.nD).tc : Thread Cert.ExchangeSiblingsRefIdeal.nD Cert.ExchangeSiblingsRefIdeal.τ).loc Cert.ExchangeSiblingsRefIdeal.main_arg0)
          ∧ r.2.mem (((0 : Dev Cert.ExchangeSiblingsRefIdeal.nD).tc : Thread Cert.ExchangeSiblingsRefIdeal.nD Cert.ExchangeSiblingsRefIdeal.τ).loc Cert.ExchangeSiblingsRefIdeal.main_arg1) = m' (((0 : Dev Cert.ExchangeSiblingsRefIdeal.nD).tc : Thread Cert.ExchangeSiblingsRefIdeal.nD Cert.ExchangeSiblingsRefIdeal.τ).loc Cert.ExchangeSiblingsRefIdeal.main_arg1))

def bitexact_ExchangeSiblings_ExchangeSiblingsRef [hExchangeSiblings : Cert.ExchangeSiblings.Facts] [hExchangeSiblingsRef : Cert.ExchangeSiblingsRef.Facts] : Prop :=
  ∀ (m : (ℓ : Loc Cert.ExchangeSiblings.nD Cert.ExchangeSiblings.τ Cert.ExchangeSiblings.sig) → Buf (Elt Bits) ℓ) (g : Dev Cert.ExchangeSiblings.nD → PrngReg)
    (m' : (ℓ : Loc Cert.ExchangeSiblingsRef.nD Cert.ExchangeSiblingsRef.τ Cert.ExchangeSiblingsRef.sig) → Buf (Elt Bits) ℓ) (g' : Dev Cert.ExchangeSiblingsRef.nD → PrngReg), Pre_ExchangeSiblings m →
    (∀ c : Dev Cert.ExchangeSiblings.nD,
      m ((c.tc : Thread Cert.ExchangeSiblings.nD Cert.ExchangeSiblings.τ).loc Cert.ExchangeSiblings.main_arg0) = Layout.block ⟨4, ![2, 4, 13312, 128]⟩ ⟨4, ![16, 4, 13312, 128]⟩ 0 8 c (m' (((0 : Dev Cert.ExchangeSiblingsRef.nD).tc : Thread Cert.ExchangeSiblingsRef.nD Cert.ExchangeSiblingsRef.τ).loc Cert.ExchangeSiblingsRef.main_arg0))
      ∧ m ((c.tc : Thread Cert.ExchangeSiblings.nD Cert.ExchangeSiblings.τ).loc Cert.ExchangeSiblings.main_arg1) = Layout.block ⟨2, ![224, 128]⟩ ⟨2, ![1792, 128]⟩ 0 8 c (m' (((0 : Dev Cert.ExchangeSiblingsRef.nD).tc : Thread Cert.ExchangeSiblingsRef.nD Cert.ExchangeSiblingsRef.τ).loc Cert.ExchangeSiblingsRef.main_arg1))) →
    ∃ (v0 : Buf (Elt Bits) (((0 : Dev Cert.ExchangeSiblingsRef.nD).tc : Thread Cert.ExchangeSiblingsRef.nD Cert.ExchangeSiblingsRef.τ).loc Cert.ExchangeSiblingsRef.main_v9)) (v1 : Buf (Elt Bits) (((0 : Dev Cert.ExchangeSiblingsRef.nD).tc : Thread Cert.ExchangeSiblingsRef.nD Cert.ExchangeSiblingsRef.τ).loc Cert.ExchangeSiblingsRef.main_v10)),
      θ_run (Cert.ExchangeSiblings.defs (F := Bits)) (onTc (τ := Cert.ExchangeSiblings.τ) (Cert.ExchangeSiblings.main (F := Bits))) ⟨m, fun _ => 0, g⟩ (fun r => ∀ c : Dev Cert.ExchangeSiblings.nD,
          r.2.mem ((c.tc : Thread Cert.ExchangeSiblings.nD Cert.ExchangeSiblings.τ).loc Cert.ExchangeSiblings.main_v1_0) = Layout.block ⟨3, ![4, 13312, 128]⟩ ⟨3, ![32, 13312, 128]⟩ 0 8 c v0
          ∧ r.2.mem ((c.tc : Thread Cert.ExchangeSiblings.nD Cert.ExchangeSiblings.τ).loc Cert.ExchangeSiblings.main_v1_1) = v1
          ∧ r.2.mem ((c.tc : Thread Cert.ExchangeSiblings.nD Cert.ExchangeSiblings.τ).loc Cert.ExchangeSiblings.main_arg0) = m ((c.tc : Thread Cert.ExchangeSiblings.nD Cert.ExchangeSiblings.τ).loc Cert.ExchangeSiblings.main_arg0)
          ∧ r.2.mem ((c.tc : Thread Cert.ExchangeSiblings.nD Cert.ExchangeSiblings.τ).loc Cert.ExchangeSiblings.main_arg1) = m ((c.tc : Thread Cert.ExchangeSiblings.nD Cert.ExchangeSiblings.τ).loc Cert.ExchangeSiblings.main_arg1))
      ∧ θ_run (Cert.ExchangeSiblingsRef.defs (F := Bits)) (onTc (τ := Cert.ExchangeSiblingsRef.τ) (Cert.ExchangeSiblingsRef.main (F := Bits))) ⟨m', fun _ => 0, g'⟩ (fun r =>
          r.2.mem (((0 : Dev Cert.ExchangeSiblingsRef.nD).tc : Thread Cert.ExchangeSiblingsRef.nD Cert.ExchangeSiblingsRef.τ).loc Cert.ExchangeSiblingsRef.main_v9) = v0
          ∧ r.2.mem (((0 : Dev Cert.ExchangeSiblingsRef.nD).tc : Thread Cert.ExchangeSiblingsRef.nD Cert.ExchangeSiblingsRef.τ).loc Cert.ExchangeSiblingsRef.main_v10) = v1
          ∧ r.2.mem (((0 : Dev Cert.ExchangeSiblingsRef.nD).tc : Thread Cert.ExchangeSiblingsRef.nD Cert.ExchangeSiblingsRef.τ).loc Cert.ExchangeSiblingsRef.main_arg0) = m' (((0 : Dev Cert.ExchangeSiblingsRef.nD).tc : Thread Cert.ExchangeSiblingsRef.nD Cert.ExchangeSiblingsRef.τ).loc Cert.ExchangeSiblingsRef.main_arg0)
          ∧ r.2.mem (((0 : Dev Cert.ExchangeSiblingsRef.nD).tc : Thread Cert.ExchangeSiblingsRef.nD Cert.ExchangeSiblingsRef.τ).loc Cert.ExchangeSiblingsRef.main_arg1) = m' (((0 : Dev Cert.ExchangeSiblingsRef.nD).tc : Thread Cert.ExchangeSiblingsRef.nD Cert.ExchangeSiblingsRef.τ).loc Cert.ExchangeSiblingsRef.main_arg1))

def preserves_GatherWeights_GatherWeightsIdeal : Prop :=
  True

def algebraic_GatherWeightsIdeal_GatherWeightsRefIdeal [hGatherWeightsIdeal : Cert.GatherWeightsIdeal.Facts] [hGatherWeightsRefIdeal : Cert.GatherWeightsRefIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg)
    (m' : (ℓ : Loc Cert.GatherWeightsRefIdeal.nD Cert.GatherWeightsRefIdeal.τ Cert.GatherWeightsRefIdeal.sig) → Buf (Elt Ideal) ℓ) (g' : Dev Cert.GatherWeightsRefIdeal.nD → PrngReg), Pre_GatherWeightsIdeal m →
    (∀ c : Dev Cert.GatherWeightsIdeal.nD,
      m ((c.tc : Thread Cert.GatherWeightsIdeal.nD Cert.GatherWeightsIdeal.τ).loc Cert.GatherWeightsIdeal.main_arg0) = Layout.blockN ⟨3, ![2, 13312, 128]⟩ ⟨3, ![8, 13312, 128]⟩ (Layout.meshBlock [2, 2, 2] ![[0, 1], [], []] c) (m' (((0 : Dev Cert.GatherWeightsRefIdeal.nD).tc : Thread Cert.GatherWeightsRefIdeal.nD Cert.GatherWeightsRefIdeal.τ).loc Cert.GatherWeightsRefIdeal.main_arg0))
      ∧ m ((c.tc : Thread Cert.GatherWeightsIdeal.nD Cert.GatherWeightsIdeal.τ).loc Cert.GatherWeightsIdeal.main_arg1) = Layout.blockN ⟨2, ![48, 128]⟩ ⟨2, ![192, 128]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg1))) →
    ∃ (v0 : Buf (Elt Ideal) (((0 : Dev Cert.GatherWeightsRefIdeal.nD).tc : Thread Cert.GatherWeightsRefIdeal.nD Cert.GatherWeightsRefIdeal.τ).loc Cert.GatherWeightsRefIdeal.main_v0)) (v1 : Buf (Elt Ideal) (((0 : Dev Cert.GatherWeightsRefIdeal.nD).tc : Thread Cert.GatherWeightsRefIdeal.nD Cert.GatherWeightsRefIdeal.τ).loc Cert.GatherWeightsRefIdeal.main_v1)),
      θ_run (Cert.GatherWeightsIdeal.defs (F := Ideal)) (onTc (τ := Cert.GatherWeightsIdeal.τ) (Cert.GatherWeightsIdeal.main (F := Ideal))) ⟨m, fun _ => 0, g⟩ (fun r => ∀ c : Dev Cert.GatherWeightsIdeal.nD,
          r.2.mem ((c.tc : Thread Cert.GatherWeightsIdeal.nD Cert.GatherWeightsIdeal.τ).loc Cert.GatherWeightsIdeal.main_v1_0) = v0
          ∧ r.2.mem ((c.tc : Thread Cert.GatherWeightsIdeal.nD Cert.GatherWeightsIdeal.τ).loc Cert.GatherWeightsIdeal.main_v1_1) = v1
          ∧ r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
          ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1))
      ∧ θ_run (Cert.GatherWeightsRefIdeal.defs (F := Ideal)) (onTc (τ := Cert.GatherWeightsRefIdeal.τ) (Cert.GatherWeightsRefIdeal.main (F := Ideal))) ⟨m', fun _ => 0, g'⟩ (fun r =>
          r.2.mem (((0 : Dev Cert.GatherWeightsRefIdeal.nD).tc : Thread Cert.GatherWeightsRefIdeal.nD Cert.GatherWeightsRefIdeal.τ).loc Cert.GatherWeightsRefIdeal.main_v0) = v0
          ∧ r.2.mem (((0 : Dev Cert.GatherWeightsRefIdeal.nD).tc : Thread Cert.GatherWeightsRefIdeal.nD Cert.GatherWeightsRefIdeal.τ).loc Cert.GatherWeightsRefIdeal.main_v1) = v1
          ∧ r.2.mem (((0 : Dev Cert.GatherWeightsRefIdeal.nD).tc : Thread Cert.GatherWeightsRefIdeal.nD Cert.GatherWeightsRefIdeal.τ).loc Cert.GatherWeightsRefIdeal.main_arg0) = m' (((0 : Dev Cert.GatherWeightsRefIdeal.nD).tc : Thread Cert.GatherWeightsRefIdeal.nD Cert.GatherWeightsRefIdeal.τ).loc Cert.GatherWeightsRefIdeal.main_arg0)
          ∧ r.2.mem (((0 : Dev Cert.GatherWeightsRefIdeal.nD).tc : Thread Cert.GatherWeightsRefIdeal.nD Cert.GatherWeightsRefIdeal.τ).loc Cert.GatherWeightsRefIdeal.main_arg1) = m' (((0 : Dev Cert.GatherWeightsRefIdeal.nD).tc : Thread Cert.GatherWeightsRefIdeal.nD Cert.GatherWeightsRefIdeal.τ).loc Cert.GatherWeightsRefIdeal.main_arg1))

def bitexact_GatherWeights_GatherWeightsRef [hGatherWeights : Cert.GatherWeights.Facts] [hGatherWeightsRef : Cert.GatherWeightsRef.Facts] : Prop :=
  ∀ (m : (ℓ : Loc Cert.GatherWeights.nD Cert.GatherWeights.τ Cert.GatherWeights.sig) → Buf (Elt Bits) ℓ) (g : Dev Cert.GatherWeights.nD → PrngReg)
    (m' : (ℓ : Loc Cert.GatherWeightsRef.nD Cert.GatherWeightsRef.τ Cert.GatherWeightsRef.sig) → Buf (Elt Bits) ℓ) (g' : Dev Cert.GatherWeightsRef.nD → PrngReg), Pre_GatherWeights m →
    (∀ c : Dev Cert.GatherWeights.nD,
      m ((c.tc : Thread Cert.GatherWeights.nD Cert.GatherWeights.τ).loc Cert.GatherWeights.main_arg0) = Layout.blockN ⟨3, ![2, 13312, 128]⟩ ⟨3, ![8, 13312, 128]⟩ (Layout.meshBlock [2, 2, 2] ![[0, 1], [], []] c) (m' (((0 : Dev Cert.GatherWeightsRef.nD).tc : Thread Cert.GatherWeightsRef.nD Cert.GatherWeightsRef.τ).loc Cert.GatherWeightsRef.main_arg0))
      ∧ m ((c.tc : Thread Cert.GatherWeights.nD Cert.GatherWeights.τ).loc Cert.GatherWeights.main_arg1) = Layout.blockN ⟨2, ![48, 128]⟩ ⟨2, ![192, 128]⟩ (Layout.meshBlock [2, 2, 2] ![[0, 1], []] c) (m' (((0 : Dev Cert.GatherWeightsRef.nD).tc : Thread Cert.GatherWeightsRef.nD Cert.GatherWeightsRef.τ).loc Cert.GatherWeightsRef.main_arg1))) →
    ∃ (v0 : Buf (Elt Bits) (((0 : Dev Cert.GatherWeightsRef.nD).tc : Thread Cert.GatherWeightsRef.nD Cert.GatherWeightsRef.τ).loc Cert.GatherWeightsRef.main_v0)) (v1 : Buf (Elt Bits) (((0 : Dev Cert.GatherWeightsRef.nD).tc : Thread Cert.GatherWeightsRef.nD Cert.GatherWeightsRef.τ).loc Cert.GatherWeightsRef.main_v1)),
      θ_run (Cert.GatherWeights.defs (F := Bits)) (onTc (τ := Cert.GatherWeights.τ) (Cert.GatherWeights.main (F := Bits))) ⟨m, fun _ => 0, g⟩ (fun r => ∀ c : Dev Cert.GatherWeights.nD,
          r.2.mem ((c.tc : Thread Cert.GatherWeights.nD Cert.GatherWeights.τ).loc Cert.GatherWeights.main_v1_0) = v0
          ∧ r.2.mem ((c.tc : Thread Cert.GatherWeights.nD Cert.GatherWeights.τ).loc Cert.GatherWeights.main_v1_1) = v1
          ∧ r.2.mem ((c.tc : Thread Cert.GatherWeights.nD Cert.GatherWeights.τ).loc Cert.GatherWeights.main_arg0) = m ((c.tc : Thread Cert.GatherWeights.nD Cert.GatherWeights.τ).loc Cert.GatherWeights.main_arg0)
          ∧ r.2.mem ((c.tc : Thread Cert.GatherWeights.nD Cert.GatherWeights.τ).loc Cert.GatherWeights.main_arg1) = m ((c.tc : Thread Cert.GatherWeights.nD Cert.GatherWeights.τ).loc Cert.GatherWeights.main_arg1))
      ∧ θ_run (Cert.GatherWeightsRef.defs (F := Bits)) (onTc (τ := Cert.GatherWeightsRef.τ) (Cert.GatherWeightsRef.main (F := Bits))) ⟨m', fun _ => 0, g'⟩ (fun r =>
          r.2.mem (((0 : Dev Cert.GatherWeightsRef.nD).tc : Thread Cert.GatherWeightsRef.nD Cert.GatherWeightsRef.τ).loc Cert.GatherWeightsRef.main_v0) = v0
          ∧ r.2.mem (((0 : Dev Cert.GatherWeightsRef.nD).tc : Thread Cert.GatherWeightsRef.nD Cert.GatherWeightsRef.τ).loc Cert.GatherWeightsRef.main_v1) = v1
          ∧ r.2.mem (((0 : Dev Cert.GatherWeightsRef.nD).tc : Thread Cert.GatherWeightsRef.nD Cert.GatherWeightsRef.τ).loc Cert.GatherWeightsRef.main_arg0) = m' (((0 : Dev Cert.GatherWeightsRef.nD).tc : Thread Cert.GatherWeightsRef.nD Cert.GatherWeightsRef.τ).loc Cert.GatherWeightsRef.main_arg0)
          ∧ r.2.mem (((0 : Dev Cert.GatherWeightsRef.nD).tc : Thread Cert.GatherWeightsRef.nD Cert.GatherWeightsRef.τ).loc Cert.GatherWeightsRef.main_arg1) = m' (((0 : Dev Cert.GatherWeightsRef.nD).tc : Thread Cert.GatherWeightsRef.nD Cert.GatherWeightsRef.τ).loc Cert.GatherWeightsRef.main_arg1))

def preserves_SharePieces_SharePiecesIdeal : Prop :=
  True

def algebraic_SharePiecesIdeal_SharePiecesRefIdeal [hSharePiecesIdeal : Cert.SharePiecesIdeal.Facts] [hSharePiecesRefIdeal : Cert.SharePiecesRefIdeal.Facts] : Prop :=
  ∀ (m : (ℓ : Loc Cert.SharePiecesIdeal.nD Cert.SharePiecesIdeal.τ Cert.SharePiecesIdeal.sig) → Buf (Elt Ideal) ℓ) (g : Dev Cert.SharePiecesIdeal.nD → PrngReg)
    (m' : (ℓ : Loc Cert.SharePiecesRefIdeal.nD Cert.SharePiecesRefIdeal.τ Cert.SharePiecesRefIdeal.sig) → Buf (Elt Ideal) ℓ) (g' : Dev Cert.SharePiecesRefIdeal.nD → PrngReg), Pre_SharePiecesIdeal m →
    (∀ c : Dev Cert.SharePiecesIdeal.nD,
      m ((c.tc : Thread Cert.SharePiecesIdeal.nD Cert.SharePiecesIdeal.τ).loc Cert.SharePiecesIdeal.main_arg0) = Layout.block ⟨2, ![13312, 128]⟩ ⟨2, ![106496, 128]⟩ 0 8 c (m' (((0 : Dev Cert.SharePiecesRefIdeal.nD).tc : Thread Cert.SharePiecesRefIdeal.nD Cert.SharePiecesRefIdeal.τ).loc Cert.SharePiecesRefIdeal.main_arg0))) →
    ∃ (v0 : Buf (Elt Ideal) (((0 : Dev Cert.SharePiecesRefIdeal.nD).tc : Thread Cert.SharePiecesRefIdeal.nD Cert.SharePiecesRefIdeal.τ).loc Cert.SharePiecesRefIdeal.main_v8)) (v1 : Buf (Elt Ideal) (((0 : Dev Cert.SharePiecesRefIdeal.nD).tc : Thread Cert.SharePiecesRefIdeal.nD Cert.SharePiecesRefIdeal.τ).loc Cert.SharePiecesRefIdeal.main_v9)) (v2 : Buf (Elt Ideal) (((0 : Dev Cert.SharePiecesRefIdeal.nD).tc : Thread Cert.SharePiecesRefIdeal.nD Cert.SharePiecesRefIdeal.τ).loc Cert.SharePiecesRefIdeal.main_v12)) (v3 : Buf (Elt Ideal) (((0 : Dev Cert.SharePiecesRefIdeal.nD).tc : Thread Cert.SharePiecesRefIdeal.nD Cert.SharePiecesRefIdeal.τ).loc Cert.SharePiecesRefIdeal.main_v15)) (v4 : Buf (Elt Ideal) (((0 : Dev Cert.SharePiecesRefIdeal.nD).tc : Thread Cert.SharePiecesRefIdeal.nD Cert.SharePiecesRefIdeal.τ).loc Cert.SharePiecesRefIdeal.main_v16)),
      θ_run (Cert.SharePiecesIdeal.defs (F := Ideal)) (onTc (τ := Cert.SharePiecesIdeal.τ) (Cert.SharePiecesIdeal.main (F := Ideal))) ⟨m, fun _ => 0, g⟩ (fun r => ∀ c : Dev Cert.SharePiecesIdeal.nD,
          r.2.mem ((c.tc : Thread Cert.SharePiecesIdeal.nD Cert.SharePiecesIdeal.τ).loc Cert.SharePiecesIdeal.main_v4) = Layout.blockN ⟨2, ![1024, 898]⟩ ⟨2, ![1024, 3592]⟩ (Layout.meshBlock [2, 2, 2] ![[], [0, 1]] c) v0
          ∧ r.2.mem ((c.tc : Thread Cert.SharePiecesIdeal.nD Cert.SharePiecesIdeal.τ).loc Cert.SharePiecesIdeal.main_v6) = Layout.blockN ⟨2, ![256, 1024]⟩ ⟨2, ![1024, 1024]⟩ (Layout.meshBlock [2, 2, 2] ![[0, 1], []] c) v1
          ∧ r.2.mem ((c.tc : Thread Cert.SharePiecesIdeal.nD Cert.SharePiecesIdeal.τ).loc Cert.SharePiecesIdeal.main_v8) = Layout.blockN ⟨2, ![1024, 704]⟩ ⟨2, ![1024, 2816]⟩ (Layout.meshBlock [2, 2, 2] ![[], [0, 1]] c) v2
          ∧ r.2.mem ((c.tc : Thread Cert.SharePiecesIdeal.nD Cert.SharePiecesIdeal.τ).loc Cert.SharePiecesIdeal.main_v10) = Layout.blockN ⟨2, ![1024, 704]⟩ ⟨2, ![1024, 2816]⟩ (Layout.meshBlock [2, 2, 2] ![[], [0, 1]] c) v3
          ∧ r.2.mem ((c.tc : Thread Cert.SharePiecesIdeal.nD Cert.SharePiecesIdeal.τ).loc Cert.SharePiecesIdeal.main_v12) = Layout.blockN ⟨2, ![704, 1024]⟩ ⟨2, ![2816, 1024]⟩ (Layout.meshBlock [2, 2, 2] ![[0, 1], []] c) v4
          ∧ r.2.mem ((c.tc : Thread Cert.SharePiecesIdeal.nD Cert.SharePiecesIdeal.τ).loc Cert.SharePiecesIdeal.main_arg0) = m ((c.tc : Thread Cert.SharePiecesIdeal.nD Cert.SharePiecesIdeal.τ).loc Cert.SharePiecesIdeal.main_arg0))
      ∧ θ_run (Cert.SharePiecesRefIdeal.defs (F := Ideal)) (onTc (τ := Cert.SharePiecesRefIdeal.τ) (Cert.SharePiecesRefIdeal.main (F := Ideal))) ⟨m', fun _ => 0, g'⟩ (fun r =>
          r.2.mem (((0 : Dev Cert.SharePiecesRefIdeal.nD).tc : Thread Cert.SharePiecesRefIdeal.nD Cert.SharePiecesRefIdeal.τ).loc Cert.SharePiecesRefIdeal.main_v8) = v0
          ∧ r.2.mem (((0 : Dev Cert.SharePiecesRefIdeal.nD).tc : Thread Cert.SharePiecesRefIdeal.nD Cert.SharePiecesRefIdeal.τ).loc Cert.SharePiecesRefIdeal.main_v9) = v1
          ∧ r.2.mem (((0 : Dev Cert.SharePiecesRefIdeal.nD).tc : Thread Cert.SharePiecesRefIdeal.nD Cert.SharePiecesRefIdeal.τ).loc Cert.SharePiecesRefIdeal.main_v12) = v2
          ∧ r.2.mem (((0 : Dev Cert.SharePiecesRefIdeal.nD).tc : Thread Cert.SharePiecesRefIdeal.nD Cert.SharePiecesRefIdeal.τ).loc Cert.SharePiecesRefIdeal.main_v15) = v3
          ∧ r.2.mem (((0 : Dev Cert.SharePiecesRefIdeal.nD).tc : Thread Cert.SharePiecesRefIdeal.nD Cert.SharePiecesRefIdeal.τ).loc Cert.SharePiecesRefIdeal.main_v16) = v4
          ∧ r.2.mem (((0 : Dev Cert.SharePiecesRefIdeal.nD).tc : Thread Cert.SharePiecesRefIdeal.nD Cert.SharePiecesRefIdeal.τ).loc Cert.SharePiecesRefIdeal.main_arg0) = m' (((0 : Dev Cert.SharePiecesRefIdeal.nD).tc : Thread Cert.SharePiecesRefIdeal.nD Cert.SharePiecesRefIdeal.τ).loc Cert.SharePiecesRefIdeal.main_arg0))

def preserves_ReduceSmall_ReduceSmallIdeal : Prop :=
  True

def algebraic_ReduceSmallIdeal_ReduceSmallRefIdeal [hReduceSmallIdeal : Cert.ReduceSmallIdeal.Facts] [hReduceSmallRefIdeal : Cert.ReduceSmallRefIdeal.Facts] : Prop :=
  ∀ (m : (ℓ : Loc Cert.ReduceSmallIdeal.nD Cert.ReduceSmallIdeal.τ Cert.ReduceSmallIdeal.sig) → Buf (Elt Ideal) ℓ) (g : Dev Cert.ReduceSmallIdeal.nD → PrngReg)
    (m' : (ℓ : Loc Cert.ReduceSmallRefIdeal.nD Cert.ReduceSmallRefIdeal.τ Cert.ReduceSmallRefIdeal.sig) → Buf (Elt Ideal) ℓ) (g' : Dev Cert.ReduceSmallRefIdeal.nD → PrngReg), Pre_ReduceSmallIdeal m →
    (∀ c : Dev Cert.ReduceSmallIdeal.nD,
      m ((c.tc : Thread Cert.ReduceSmallIdeal.nD Cert.ReduceSmallIdeal.τ).loc Cert.ReduceSmallIdeal.main_arg0) = Layout.block ⟨4, ![2, 4, 13312, 128]⟩ ⟨4, ![16, 4, 13312, 128]⟩ 0 8 c (m' (((0 : Dev Cert.ReduceSmallRefIdeal.nD).tc : Thread Cert.ReduceSmallRefIdeal.nD Cert.ReduceSmallRefIdeal.τ).loc Cert.ReduceSmallRefIdeal.main_arg0))
      ∧ m ((c.tc : Thread Cert.ReduceSmallIdeal.nD Cert.ReduceSmallIdeal.τ).loc Cert.ReduceSmallIdeal.main_arg1) = Layout.block ⟨2, ![224, 128]⟩ ⟨2, ![1792, 128]⟩ 0 8 c (m' (((0 : Dev Cert.ReduceSmallRefIdeal.nD).tc : Thread Cert.ReduceSmallRefIdeal.nD Cert.ReduceSmallRefIdeal.τ).loc Cert.ReduceSmallRefIdeal.main_arg1))) →
    ∃ (v0 : Buf (Elt Ideal) (((0 : Dev Cert.ReduceSmallRefIdeal.nD).tc : Thread Cert.ReduceSmallRefIdeal.nD Cert.ReduceSmallRefIdeal.τ).loc Cert.ReduceSmallRefIdeal.main_v5)) (v1 : Buf (Elt Ideal) (((0 : Dev Cert.ReduceSmallRefIdeal.nD).tc : Thread Cert.ReduceSmallRefIdeal.nD Cert.ReduceSmallRefIdeal.τ).loc Cert.ReduceSmallRefIdeal.main_v7)) (v2 : Buf (Elt Ideal) (((0 : Dev Cert.ReduceSmallRefIdeal.nD).tc : Thread Cert.ReduceSmallRefIdeal.nD Cert.ReduceSmallRefIdeal.τ).loc Cert.ReduceSmallRefIdeal.main_v9)) (v3 : Buf (Elt Ideal) (((0 : Dev Cert.ReduceSmallRefIdeal.nD).tc : Thread Cert.ReduceSmallRefIdeal.nD Cert.ReduceSmallRefIdeal.τ).loc Cert.ReduceSmallRefIdeal.main_v11)) (v4 : Buf (Elt Ideal) (((0 : Dev Cert.ReduceSmallRefIdeal.nD).tc : Thread Cert.ReduceSmallRefIdeal.nD Cert.ReduceSmallRefIdeal.τ).loc Cert.ReduceSmallRefIdeal.main_v13)) (v5 : Buf (Elt Ideal) (((0 : Dev Cert.ReduceSmallRefIdeal.nD).tc : Thread Cert.ReduceSmallRefIdeal.nD Cert.ReduceSmallRefIdeal.τ).loc Cert.ReduceSmallRefIdeal.main_v15)) (v6 : Buf (Elt Ideal) (((0 : Dev Cert.ReduceSmallRefIdeal.nD).tc : Thread Cert.ReduceSmallRefIdeal.nD Cert.ReduceSmallRefIdeal.τ).loc Cert.ReduceSmallRefIdeal.main_v17)) (v7 : Buf (Elt Ideal) (((0 : Dev Cert.ReduceSmallRefIdeal.nD).tc : Thread Cert.ReduceSmallRefIdeal.nD Cert.ReduceSmallRefIdeal.τ).loc Cert.ReduceSmallRefIdeal.main_v19)) (v8 : Buf (Elt Ideal) (((0 : Dev Cert.ReduceSmallRefIdeal.nD).tc : Thread Cert.ReduceSmallRefIdeal.nD Cert.ReduceSmallRefIdeal.τ).loc Cert.ReduceSmallRefIdeal.main_v21)) (v9 : Buf (Elt Ideal) (((0 : Dev Cert.ReduceSmallRefIdeal.nD).tc : Thread Cert.ReduceSmallRefIdeal.nD Cert.ReduceSmallRefIdeal.τ).loc Cert.ReduceSmallRefIdeal.main_v23)) (v10 : Buf (Elt Ideal) (((0 : Dev Cert.ReduceSmallRefIdeal.nD).tc : Thread Cert.ReduceSmallRefIdeal.nD Cert.ReduceSmallRefIdeal.τ).loc Cert.ReduceSmallRefIdeal.main_v25)),
      θ_run (Cert.ReduceSmallIdeal.defs (F := Ideal)) (onTc (τ := Cert.ReduceSmallIdeal.τ) (Cert.ReduceSmallIdeal.main (F := Ideal))) ⟨m, fun _ => 0, g⟩ (fun r => ∀ c : Dev Cert.ReduceSmallIdeal.nD,
          r.2.mem ((c.tc : Thread Cert.ReduceSmallIdeal.nD Cert.ReduceSmallIdeal.τ).loc Cert.ReduceSmallIdeal.main_v18) = v0
          ∧ r.2.mem ((c.tc : Thread Cert.ReduceSmallIdeal.nD Cert.ReduceSmallIdeal.τ).loc Cert.ReduceSmallIdeal.main_v5) = v1
          ∧ r.2.mem ((c.tc : Thread Cert.ReduceSmallIdeal.nD Cert.ReduceSmallIdeal.τ).loc Cert.ReduceSmallIdeal.main_v7) = v2
          ∧ r.2.mem ((c.tc : Thread Cert.ReduceSmallIdeal.nD Cert.ReduceSmallIdeal.τ).loc Cert.ReduceSmallIdeal.main_v9) = v3
          ∧ r.2.mem ((c.tc : Thread Cert.ReduceSmallIdeal.nD Cert.ReduceSmallIdeal.τ).loc Cert.ReduceSmallIdeal.main_v11) = v4
          ∧ r.2.mem ((c.tc : Thread Cert.ReduceSmallIdeal.nD Cert.ReduceSmallIdeal.τ).loc Cert.ReduceSmallIdeal.main_v13) = v5
          ∧ r.2.mem ((c.tc : Thread Cert.ReduceSmallIdeal.nD Cert.ReduceSmallIdeal.τ).loc Cert.ReduceSmallIdeal.main_v15) = v6
          ∧ r.2.mem ((c.tc : Thread Cert.ReduceSmallIdeal.nD Cert.ReduceSmallIdeal.τ).loc Cert.ReduceSmallIdeal.main_v20) = v7
          ∧ r.2.mem ((c.tc : Thread Cert.ReduceSmallIdeal.nD Cert.ReduceSmallIdeal.τ).loc Cert.ReduceSmallIdeal.main_v37) = Layout.blockN ⟨2, ![4, 384]⟩ ⟨2, ![4, 1536]⟩ (Layout.meshBlock [2, 2, 2] ![[], [0, 1]] c) v8
          ∧ r.2.mem ((c.tc : Thread Cert.ReduceSmallIdeal.nD Cert.ReduceSmallIdeal.τ).loc Cert.ReduceSmallIdeal.main_v44) = Layout.blockN ⟨2, ![3, 128]⟩ ⟨2, ![3, 512]⟩ (Layout.meshBlock [2, 2, 2] ![[], [0, 1]] c) v9
          ∧ r.2.mem ((c.tc : Thread Cert.ReduceSmallIdeal.nD Cert.ReduceSmallIdeal.τ).loc Cert.ReduceSmallIdeal.main_v51) = Layout.blockN ⟨2, ![16, 256]⟩ ⟨2, ![16, 1024]⟩ (Layout.meshBlock [2, 2, 2] ![[], [0, 1]] c) v10
          ∧ r.2.mem ((c.tc : Thread Cert.ReduceSmallIdeal.nD Cert.ReduceSmallIdeal.τ).loc Cert.ReduceSmallIdeal.main_arg0) = m ((c.tc : Thread Cert.ReduceSmallIdeal.nD Cert.ReduceSmallIdeal.τ).loc Cert.ReduceSmallIdeal.main_arg0)
          ∧ r.2.mem ((c.tc : Thread Cert.ReduceSmallIdeal.nD Cert.ReduceSmallIdeal.τ).loc Cert.ReduceSmallIdeal.main_arg1) = m ((c.tc : Thread Cert.ReduceSmallIdeal.nD Cert.ReduceSmallIdeal.τ).loc Cert.ReduceSmallIdeal.main_arg1))
      ∧ θ_run (Cert.ReduceSmallRefIdeal.defs (F := Ideal)) (onTc (τ := Cert.ReduceSmallRefIdeal.τ) (Cert.ReduceSmallRefIdeal.main (F := Ideal))) ⟨m', fun _ => 0, g'⟩ (fun r =>
          r.2.mem (((0 : Dev Cert.ReduceSmallRefIdeal.nD).tc : Thread Cert.ReduceSmallRefIdeal.nD Cert.ReduceSmallRefIdeal.τ).loc Cert.ReduceSmallRefIdeal.main_v5) = v0
          ∧ r.2.mem (((0 : Dev Cert.ReduceSmallRefIdeal.nD).tc : Thread Cert.ReduceSmallRefIdeal.nD Cert.ReduceSmallRefIdeal.τ).loc Cert.ReduceSmallRefIdeal.main_v7) = v1
          ∧ r.2.mem (((0 : Dev Cert.ReduceSmallRefIdeal.nD).tc : Thread Cert.ReduceSmallRefIdeal.nD Cert.ReduceSmallRefIdeal.τ).loc Cert.ReduceSmallRefIdeal.main_v9) = v2
          ∧ r.2.mem (((0 : Dev Cert.ReduceSmallRefIdeal.nD).tc : Thread Cert.ReduceSmallRefIdeal.nD Cert.ReduceSmallRefIdeal.τ).loc Cert.ReduceSmallRefIdeal.main_v11) = v3
          ∧ r.2.mem (((0 : Dev Cert.ReduceSmallRefIdeal.nD).tc : Thread Cert.ReduceSmallRefIdeal.nD Cert.ReduceSmallRefIdeal.τ).loc Cert.ReduceSmallRefIdeal.main_v13) = v4
          ∧ r.2.mem (((0 : Dev Cert.ReduceSmallRefIdeal.nD).tc : Thread Cert.ReduceSmallRefIdeal.nD Cert.ReduceSmallRefIdeal.τ).loc Cert.ReduceSmallRefIdeal.main_v15) = v5
          ∧ r.2.mem (((0 : Dev Cert.ReduceSmallRefIdeal.nD).tc : Thread Cert.ReduceSmallRefIdeal.nD Cert.ReduceSmallRefIdeal.τ).loc Cert.ReduceSmallRefIdeal.main_v17) = v6
          ∧ r.2.mem (((0 : Dev Cert.ReduceSmallRefIdeal.nD).tc : Thread Cert.ReduceSmallRefIdeal.nD Cert.ReduceSmallRefIdeal.τ).loc Cert.ReduceSmallRefIdeal.main_v19) = v7
          ∧ r.2.mem (((0 : Dev Cert.ReduceSmallRefIdeal.nD).tc : Thread Cert.ReduceSmallRefIdeal.nD Cert.ReduceSmallRefIdeal.τ).loc Cert.ReduceSmallRefIdeal.main_v21) = v8
          ∧ r.2.mem (((0 : Dev Cert.ReduceSmallRefIdeal.nD).tc : Thread Cert.ReduceSmallRefIdeal.nD Cert.ReduceSmallRefIdeal.τ).loc Cert.ReduceSmallRefIdeal.main_v23) = v9
          ∧ r.2.mem (((0 : Dev Cert.ReduceSmallRefIdeal.nD).tc : Thread Cert.ReduceSmallRefIdeal.nD Cert.ReduceSmallRefIdeal.τ).loc Cert.ReduceSmallRefIdeal.main_v25) = v10
          ∧ r.2.mem (((0 : Dev Cert.ReduceSmallRefIdeal.nD).tc : Thread Cert.ReduceSmallRefIdeal.nD Cert.ReduceSmallRefIdeal.τ).loc Cert.ReduceSmallRefIdeal.main_arg0) = m' (((0 : Dev Cert.ReduceSmallRefIdeal.nD).tc : Thread Cert.ReduceSmallRefIdeal.nD Cert.ReduceSmallRefIdeal.τ).loc Cert.ReduceSmallRefIdeal.main_arg0)
          ∧ r.2.mem (((0 : Dev Cert.ReduceSmallRefIdeal.nD).tc : Thread Cert.ReduceSmallRefIdeal.nD Cert.ReduceSmallRefIdeal.τ).loc Cert.ReduceSmallRefIdeal.main_arg1) = m' (((0 : Dev Cert.ReduceSmallRefIdeal.nD).tc : Thread Cert.ReduceSmallRefIdeal.nD Cert.ReduceSmallRefIdeal.τ).loc Cert.ReduceSmallRefIdeal.main_arg1))

def preserves_MetaStep_MetaStepIdeal : Prop :=
  True

def algebraic_MetaStepIdeal_MetaStepRefIdeal [hMetaStepIdeal : Cert.MetaStepIdeal.Facts] [hMetaStepRefIdeal : Cert.MetaStepRefIdeal.Facts] : Prop :=
  ∀ (m : (ℓ : Loc Cert.MetaStepIdeal.nD Cert.MetaStepIdeal.τ Cert.MetaStepIdeal.sig) → Buf (Elt Ideal) ℓ) (g : Dev Cert.MetaStepIdeal.nD → PrngReg)
    (m' : (ℓ : Loc Cert.MetaStepRefIdeal.nD Cert.MetaStepRefIdeal.τ Cert.MetaStepRefIdeal.sig) → Buf (Elt Ideal) ℓ) (g' : Dev Cert.MetaStepRefIdeal.nD → PrngReg), Pre_MetaStepIdeal m →
    (∀ c : Dev Cert.MetaStepIdeal.nD,
      m' ((c.tc : Thread Cert.MetaStepRefIdeal.nD Cert.MetaStepRefIdeal.τ).loc Cert.MetaStepRefIdeal.main_arg0) = m ((c.tc : Thread Cert.MetaStepIdeal.nD Cert.MetaStepIdeal.τ).loc Cert.MetaStepIdeal.main_arg0)
      ∧ m' ((c.tc : Thread Cert.MetaStepRefIdeal.nD Cert.MetaStepRefIdeal.τ).loc Cert.MetaStepRefIdeal.main_arg1) = m ((c.tc : Thread Cert.MetaStepIdeal.nD Cert.MetaStepIdeal.τ).loc Cert.MetaStepIdeal.main_arg1)
      ∧ m' ((c.tc : Thread Cert.MetaStepRefIdeal.nD Cert.MetaStepRefIdeal.τ).loc Cert.MetaStepRefIdeal.main_arg2) = m ((c.tc : Thread Cert.MetaStepIdeal.nD Cert.MetaStepIdeal.τ).loc Cert.MetaStepIdeal.main_arg2)
      ∧ m' ((c.tc : Thread Cert.MetaStepRefIdeal.nD Cert.MetaStepRefIdeal.τ).loc Cert.MetaStepRefIdeal.main_arg3) = m ((c.tc : Thread Cert.MetaStepIdeal.nD Cert.MetaStepIdeal.τ).loc Cert.MetaStepIdeal.main_arg3)) →
    ∃ (v0 : (c : Dev Cert.MetaStepIdeal.nD) → Buf (Elt Ideal) ((c.tc : Thread Cert.MetaStepIdeal.nD Cert.MetaStepIdeal.τ).loc Cert.MetaStepIdeal.main_v0_0)) (v1 : (c : Dev Cert.MetaStepIdeal.nD) → Buf (Elt Ideal) ((c.tc : Thread Cert.MetaStepIdeal.nD Cert.MetaStepIdeal.τ).loc Cert.MetaStepIdeal.main_v0_1)) (v2 : (c : Dev Cert.MetaStepIdeal.nD) → Buf (Elt Ideal) ((c.tc : Thread Cert.MetaStepIdeal.nD Cert.MetaStepIdeal.τ).loc Cert.MetaStepIdeal.main_v0_2)),
      θ_run (Cert.MetaStepIdeal.defs (F := Ideal)) (onTc (τ := Cert.MetaStepIdeal.τ) (Cert.MetaStepIdeal.main (F := Ideal))) ⟨m, fun _ => 0, g⟩ (fun r => ∀ c : Dev Cert.MetaStepIdeal.nD,
          r.2.mem ((c.tc : Thread Cert.MetaStepIdeal.nD Cert.MetaStepIdeal.τ).loc Cert.MetaStepIdeal.main_v0_0) = v0 c
          ∧ r.2.mem ((c.tc : Thread Cert.MetaStepIdeal.nD Cert.MetaStepIdeal.τ).loc Cert.MetaStepIdeal.main_v0_1) = v1 c
          ∧ r.2.mem ((c.tc : Thread Cert.MetaStepIdeal.nD Cert.MetaStepIdeal.τ).loc Cert.MetaStepIdeal.main_v0_2) = v2 c
          ∧ r.2.mem ((c.tc : Thread Cert.MetaStepIdeal.nD Cert.MetaStepIdeal.τ).loc Cert.MetaStepIdeal.main_arg0) = m ((c.tc : Thread Cert.MetaStepIdeal.nD Cert.MetaStepIdeal.τ).loc Cert.MetaStepIdeal.main_arg0)
          ∧ r.2.mem ((c.tc : Thread Cert.MetaStepIdeal.nD Cert.MetaStepIdeal.τ).loc Cert.MetaStepIdeal.main_arg1) = m ((c.tc : Thread Cert.MetaStepIdeal.nD Cert.MetaStepIdeal.τ).loc Cert.MetaStepIdeal.main_arg1)
          ∧ r.2.mem ((c.tc : Thread Cert.MetaStepIdeal.nD Cert.MetaStepIdeal.τ).loc Cert.MetaStepIdeal.main_arg2) = m ((c.tc : Thread Cert.MetaStepIdeal.nD Cert.MetaStepIdeal.τ).loc Cert.MetaStepIdeal.main_arg2)
          ∧ r.2.mem ((c.tc : Thread Cert.MetaStepIdeal.nD Cert.MetaStepIdeal.τ).loc Cert.MetaStepIdeal.main_arg3) = m ((c.tc : Thread Cert.MetaStepIdeal.nD Cert.MetaStepIdeal.τ).loc Cert.MetaStepIdeal.main_arg3))
      ∧ θ_run (Cert.MetaStepRefIdeal.defs (F := Ideal)) (onTc (τ := Cert.MetaStepRefIdeal.τ) (Cert.MetaStepRefIdeal.main (F := Ideal))) ⟨m', fun _ => 0, g'⟩ (fun r => ∀ c : Dev Cert.MetaStepRefIdeal.nD,
          r.2.mem ((c.tc : Thread Cert.MetaStepRefIdeal.nD Cert.MetaStepRefIdeal.τ).loc Cert.MetaStepRefIdeal.main_v23) = v0 c
          ∧ r.2.mem ((c.tc : Thread Cert.MetaStepRefIdeal.nD Cert.MetaStepRefIdeal.τ).loc Cert.MetaStepRefIdeal.main_v4) = v1 c
          ∧ r.2.mem ((c.tc : Thread Cert.MetaStepRefIdeal.nD Cert.MetaStepRefIdeal.τ).loc Cert.MetaStepRefIdeal.main_v10) = v2 c
          ∧ r.2.mem ((c.tc : Thread Cert.MetaStepRefIdeal.nD Cert.MetaStepRefIdeal.τ).loc Cert.MetaStepRefIdeal.main_arg0) = m' ((c.tc : Thread Cert.MetaStepRefIdeal.nD Cert.MetaStepRefIdeal.τ).loc Cert.MetaStepRefIdeal.main_arg0)
          ∧ r.2.mem ((c.tc : Thread Cert.MetaStepRefIdeal.nD Cert.MetaStepRefIdeal.τ).loc Cert.MetaStepRefIdeal.main_arg1) = m' ((c.tc : Thread Cert.MetaStepRefIdeal.nD Cert.MetaStepRefIdeal.τ).loc Cert.MetaStepRefIdeal.main_arg1)
          ∧ r.2.mem ((c.tc : Thread Cert.MetaStepRefIdeal.nD Cert.MetaStepRefIdeal.τ).loc Cert.MetaStepRefIdeal.main_arg2) = m' ((c.tc : Thread Cert.MetaStepRefIdeal.nD Cert.MetaStepRefIdeal.τ).loc Cert.MetaStepRefIdeal.main_arg2)
          ∧ r.2.mem ((c.tc : Thread Cert.MetaStepRefIdeal.nD Cert.MetaStepRefIdeal.τ).loc Cert.MetaStepRefIdeal.main_arg3) = m' ((c.tc : Thread Cert.MetaStepRefIdeal.nD Cert.MetaStepRefIdeal.τ).loc Cert.MetaStepRefIdeal.main_arg3))

def preserves_NormStep_NormStepIdeal : Prop :=
  True

def algebraic_NormStepIdeal_NormStepRefIdeal [hNormStepIdeal : Cert.NormStepIdeal.Facts] [hNormStepRefIdeal : Cert.NormStepRefIdeal.Facts] : Prop :=
  ∀ (m : (ℓ : Loc Cert.NormStepIdeal.nD Cert.NormStepIdeal.τ Cert.NormStepIdeal.sig) → Buf (Elt Ideal) ℓ) (g : Dev Cert.NormStepIdeal.nD → PrngReg)
    (m' : (ℓ : Loc Cert.NormStepRefIdeal.nD Cert.NormStepRefIdeal.τ Cert.NormStepRefIdeal.sig) → Buf (Elt Ideal) ℓ) (g' : Dev Cert.NormStepRefIdeal.nD → PrngReg), Pre_NormStepIdeal m →
    (∀ c : Dev Cert.NormStepIdeal.nD,
      m' ((c.tc : Thread Cert.NormStepRefIdeal.nD Cert.NormStepRefIdeal.τ).loc Cert.NormStepRefIdeal.main_arg0) = m ((c.tc : Thread Cert.NormStepIdeal.nD Cert.NormStepIdeal.τ).loc Cert.NormStepIdeal.main_arg0)
      ∧ m' ((c.tc : Thread Cert.NormStepRefIdeal.nD Cert.NormStepRefIdeal.τ).loc Cert.NormStepRefIdeal.main_arg1) = m ((c.tc : Thread Cert.NormStepIdeal.nD Cert.NormStepIdeal.τ).loc Cert.NormStepIdeal.main_arg1)
      ∧ m' ((c.tc : Thread Cert.NormStepRefIdeal.nD Cert.NormStepRefIdeal.τ).loc Cert.NormStepRefIdeal.main_arg2) = m ((c.tc : Thread Cert.NormStepIdeal.nD Cert.NormStepIdeal.τ).loc Cert.NormStepIdeal.main_arg2)
      ∧ m' ((c.tc : Thread Cert.NormStepRefIdeal.nD Cert.NormStepRefIdeal.τ).loc Cert.NormStepRefIdeal.main_arg3) = m ((c.tc : Thread Cert.NormStepIdeal.nD Cert.NormStepIdeal.τ).loc Cert.NormStepIdeal.main_arg3)) →
    ∃ (v0 : (c : Dev Cert.NormStepIdeal.nD) → Buf (Elt Ideal) ((c.tc : Thread Cert.NormStepIdeal.nD Cert.NormStepIdeal.τ).loc Cert.NormStepIdeal.main_v0_0)) (v1 : (c : Dev Cert.NormStepIdeal.nD) → Buf (Elt Ideal) ((c.tc : Thread Cert.NormStepIdeal.nD Cert.NormStepIdeal.τ).loc Cert.NormStepIdeal.main_v0_1)) (v2 : (c : Dev Cert.NormStepIdeal.nD) → Buf (Elt Ideal) ((c.tc : Thread Cert.NormStepIdeal.nD Cert.NormStepIdeal.τ).loc Cert.NormStepIdeal.main_v0_2)),
      θ_run (Cert.NormStepIdeal.defs (F := Ideal)) (onTc (τ := Cert.NormStepIdeal.τ) (Cert.NormStepIdeal.main (F := Ideal))) ⟨m, fun _ => 0, g⟩ (fun r => ∀ c : Dev Cert.NormStepIdeal.nD,
          r.2.mem ((c.tc : Thread Cert.NormStepIdeal.nD Cert.NormStepIdeal.τ).loc Cert.NormStepIdeal.main_v0_0) = v0 c
          ∧ r.2.mem ((c.tc : Thread Cert.NormStepIdeal.nD Cert.NormStepIdeal.τ).loc Cert.NormStepIdeal.main_v0_1) = v1 c
          ∧ r.2.mem ((c.tc : Thread Cert.NormStepIdeal.nD Cert.NormStepIdeal.τ).loc Cert.NormStepIdeal.main_v0_2) = v2 c
          ∧ r.2.mem ((c.tc : Thread Cert.NormStepIdeal.nD Cert.NormStepIdeal.τ).loc Cert.NormStepIdeal.main_arg0) = m ((c.tc : Thread Cert.NormStepIdeal.nD Cert.NormStepIdeal.τ).loc Cert.NormStepIdeal.main_arg0)
          ∧ r.2.mem ((c.tc : Thread Cert.NormStepIdeal.nD Cert.NormStepIdeal.τ).loc Cert.NormStepIdeal.main_arg1) = m ((c.tc : Thread Cert.NormStepIdeal.nD Cert.NormStepIdeal.τ).loc Cert.NormStepIdeal.main_arg1)
          ∧ r.2.mem ((c.tc : Thread Cert.NormStepIdeal.nD Cert.NormStepIdeal.τ).loc Cert.NormStepIdeal.main_arg2) = m ((c.tc : Thread Cert.NormStepIdeal.nD Cert.NormStepIdeal.τ).loc Cert.NormStepIdeal.main_arg2)
          ∧ r.2.mem ((c.tc : Thread Cert.NormStepIdeal.nD Cert.NormStepIdeal.τ).loc Cert.NormStepIdeal.main_arg3) = m ((c.tc : Thread Cert.NormStepIdeal.nD Cert.NormStepIdeal.τ).loc Cert.NormStepIdeal.main_arg3))
      ∧ θ_run (Cert.NormStepRefIdeal.defs (F := Ideal)) (onTc (τ := Cert.NormStepRefIdeal.τ) (Cert.NormStepRefIdeal.main (F := Ideal))) ⟨m', fun _ => 0, g'⟩ (fun r => ∀ c : Dev Cert.NormStepRefIdeal.nD,
          r.2.mem ((c.tc : Thread Cert.NormStepRefIdeal.nD Cert.NormStepRefIdeal.τ).loc Cert.NormStepRefIdeal.main_v23) = v0 c
          ∧ r.2.mem ((c.tc : Thread Cert.NormStepRefIdeal.nD Cert.NormStepRefIdeal.τ).loc Cert.NormStepRefIdeal.main_v4) = v1 c
          ∧ r.2.mem ((c.tc : Thread Cert.NormStepRefIdeal.nD Cert.NormStepRefIdeal.τ).loc Cert.NormStepRefIdeal.main_v10) = v2 c
          ∧ r.2.mem ((c.tc : Thread Cert.NormStepRefIdeal.nD Cert.NormStepRefIdeal.τ).loc Cert.NormStepRefIdeal.main_arg0) = m' ((c.tc : Thread Cert.NormStepRefIdeal.nD Cert.NormStepRefIdeal.τ).loc Cert.NormStepRefIdeal.main_arg0)
          ∧ r.2.mem ((c.tc : Thread Cert.NormStepRefIdeal.nD Cert.NormStepRefIdeal.τ).loc Cert.NormStepRefIdeal.main_arg1) = m' ((c.tc : Thread Cert.NormStepRefIdeal.nD Cert.NormStepRefIdeal.τ).loc Cert.NormStepRefIdeal.main_arg1)
          ∧ r.2.mem ((c.tc : Thread Cert.NormStepRefIdeal.nD Cert.NormStepRefIdeal.τ).loc Cert.NormStepRefIdeal.main_arg2) = m' ((c.tc : Thread Cert.NormStepRefIdeal.nD Cert.NormStepRefIdeal.τ).loc Cert.NormStepRefIdeal.main_arg2)
          ∧ r.2.mem ((c.tc : Thread Cert.NormStepRefIdeal.nD Cert.NormStepRefIdeal.τ).loc Cert.NormStepRefIdeal.main_arg3) = m' ((c.tc : Thread Cert.NormStepRefIdeal.nD Cert.NormStepRefIdeal.τ).loc Cert.NormStepRefIdeal.main_arg3))

def preserves_WInStep_WInStepIdeal : Prop :=
  True

def algebraic_WInStepIdeal_WInStepRefIdeal [hWInStepIdeal : Cert.WInStepIdeal.Facts] [hWInStepRefIdeal : Cert.WInStepRefIdeal.Facts] : Prop :=
  ∀ (m : (ℓ : Loc Cert.WInStepIdeal.nD Cert.WInStepIdeal.τ Cert.WInStepIdeal.sig) → Buf (Elt Ideal) ℓ) (g : Dev Cert.WInStepIdeal.nD → PrngReg)
    (m' : (ℓ : Loc Cert.WInStepRefIdeal.nD Cert.WInStepRefIdeal.τ Cert.WInStepRefIdeal.sig) → Buf (Elt Ideal) ℓ) (g' : Dev Cert.WInStepRefIdeal.nD → PrngReg), Pre_WInStepIdeal m →
    (∀ c : Dev Cert.WInStepIdeal.nD,
      m' ((c.tc : Thread Cert.WInStepRefIdeal.nD Cert.WInStepRefIdeal.τ).loc Cert.WInStepRefIdeal.main_arg0) = m ((c.tc : Thread Cert.WInStepIdeal.nD Cert.WInStepIdeal.τ).loc Cert.WInStepIdeal.main_arg0)
      ∧ m' ((c.tc : Thread Cert.WInStepRefIdeal.nD Cert.WInStepRefIdeal.τ).loc Cert.WInStepRefIdeal.main_arg1) = m ((c.tc : Thread Cert.WInStepIdeal.nD Cert.WInStepIdeal.τ).loc Cert.WInStepIdeal.main_arg1)
      ∧ m' ((c.tc : Thread Cert.WInStepRefIdeal.nD Cert.WInStepRefIdeal.τ).loc Cert.WInStepRefIdeal.main_arg2) = m ((c.tc : Thread Cert.WInStepIdeal.nD Cert.WInStepIdeal.τ).loc Cert.WInStepIdeal.main_arg2)
      ∧ m' ((c.tc : Thread Cert.WInStepRefIdeal.nD Cert.WInStepRefIdeal.τ).loc Cert.WInStepRefIdeal.main_arg3) = m ((c.tc : Thread Cert.WInStepIdeal.nD Cert.WInStepIdeal.τ).loc Cert.WInStepIdeal.main_arg3)) →
    ∃ (v0 : (c : Dev Cert.WInStepIdeal.nD) → Buf (Elt Ideal) ((c.tc : Thread Cert.WInStepIdeal.nD Cert.WInStepIdeal.τ).loc Cert.WInStepIdeal.main_v0_0)) (v1 : (c : Dev Cert.WInStepIdeal.nD) → Buf (Elt Ideal) ((c.tc : Thread Cert.WInStepIdeal.nD Cert.WInStepIdeal.τ).loc Cert.WInStepIdeal.main_v0_1)) (v2 : (c : Dev Cert.WInStepIdeal.nD) → Buf (Elt Ideal) ((c.tc : Thread Cert.WInStepIdeal.nD Cert.WInStepIdeal.τ).loc Cert.WInStepIdeal.main_v0_2)),
      θ_run (Cert.WInStepIdeal.defs (F := Ideal)) (onTc (τ := Cert.WInStepIdeal.τ) (Cert.WInStepIdeal.main (F := Ideal))) ⟨m, fun _ => 0, g⟩ (fun r => ∀ c : Dev Cert.WInStepIdeal.nD,
          r.2.mem ((c.tc : Thread Cert.WInStepIdeal.nD Cert.WInStepIdeal.τ).loc Cert.WInStepIdeal.main_v0_0) = v0 c
          ∧ r.2.mem ((c.tc : Thread Cert.WInStepIdeal.nD Cert.WInStepIdeal.τ).loc Cert.WInStepIdeal.main_v0_1) = v1 c
          ∧ r.2.mem ((c.tc : Thread Cert.WInStepIdeal.nD Cert.WInStepIdeal.τ).loc Cert.WInStepIdeal.main_v0_2) = v2 c
          ∧ r.2.mem ((c.tc : Thread Cert.WInStepIdeal.nD Cert.WInStepIdeal.τ).loc Cert.WInStepIdeal.main_arg0) = m ((c.tc : Thread Cert.WInStepIdeal.nD Cert.WInStepIdeal.τ).loc Cert.WInStepIdeal.main_arg0)
          ∧ r.2.mem ((c.tc : Thread Cert.WInStepIdeal.nD Cert.WInStepIdeal.τ).loc Cert.WInStepIdeal.main_arg1) = m ((c.tc : Thread Cert.WInStepIdeal.nD Cert.WInStepIdeal.τ).loc Cert.WInStepIdeal.main_arg1)
          ∧ r.2.mem ((c.tc : Thread Cert.WInStepIdeal.nD Cert.WInStepIdeal.τ).loc Cert.WInStepIdeal.main_arg2) = m ((c.tc : Thread Cert.WInStepIdeal.nD Cert.WInStepIdeal.τ).loc Cert.WInStepIdeal.main_arg2)
          ∧ r.2.mem ((c.tc : Thread Cert.WInStepIdeal.nD Cert.WInStepIdeal.τ).loc Cert.WInStepIdeal.main_arg3) = m ((c.tc : Thread Cert.WInStepIdeal.nD Cert.WInStepIdeal.τ).loc Cert.WInStepIdeal.main_arg3))
      ∧ θ_run (Cert.WInStepRefIdeal.defs (F := Ideal)) (onTc (τ := Cert.WInStepRefIdeal.τ) (Cert.WInStepRefIdeal.main (F := Ideal))) ⟨m', fun _ => 0, g'⟩ (fun r => ∀ c : Dev Cert.WInStepRefIdeal.nD,
          r.2.mem ((c.tc : Thread Cert.WInStepRefIdeal.nD Cert.WInStepRefIdeal.τ).loc Cert.WInStepRefIdeal.main_v23) = v0 c
          ∧ r.2.mem ((c.tc : Thread Cert.WInStepRefIdeal.nD Cert.WInStepRefIdeal.τ).loc Cert.WInStepRefIdeal.main_v4) = v1 c
          ∧ r.2.mem ((c.tc : Thread Cert.WInStepRefIdeal.nD Cert.WInStepRefIdeal.τ).loc Cert.WInStepRefIdeal.main_v10) = v2 c
          ∧ r.2.mem ((c.tc : Thread Cert.WInStepRefIdeal.nD Cert.WInStepRefIdeal.τ).loc Cert.WInStepRefIdeal.main_arg0) = m' ((c.tc : Thread Cert.WInStepRefIdeal.nD Cert.WInStepRefIdeal.τ).loc Cert.WInStepRefIdeal.main_arg0)
          ∧ r.2.mem ((c.tc : Thread Cert.WInStepRefIdeal.nD Cert.WInStepRefIdeal.τ).loc Cert.WInStepRefIdeal.main_arg1) = m' ((c.tc : Thread Cert.WInStepRefIdeal.nD Cert.WInStepRefIdeal.τ).loc Cert.WInStepRefIdeal.main_arg1)
          ∧ r.2.mem ((c.tc : Thread Cert.WInStepRefIdeal.nD Cert.WInStepRefIdeal.τ).loc Cert.WInStepRefIdeal.main_arg2) = m' ((c.tc : Thread Cert.WInStepRefIdeal.nD Cert.WInStepRefIdeal.τ).loc Cert.WInStepRefIdeal.main_arg2)
          ∧ r.2.mem ((c.tc : Thread Cert.WInStepRefIdeal.nD Cert.WInStepRefIdeal.τ).loc Cert.WInStepRefIdeal.main_arg3) = m' ((c.tc : Thread Cert.WInStepRefIdeal.nD Cert.WInStepRefIdeal.τ).loc Cert.WInStepRefIdeal.main_arg3))

def preserves_ConvQkvStep_ConvQkvStepIdeal : Prop :=
  True

def algebraic_ConvQkvStepIdeal_ConvQkvStepRefIdeal [hConvQkvStepIdeal : Cert.ConvQkvStepIdeal.Facts] [hConvQkvStepRefIdeal : Cert.ConvQkvStepRefIdeal.Facts] : Prop :=
  ∀ (m : (ℓ : Loc Cert.ConvQkvStepIdeal.nD Cert.ConvQkvStepIdeal.τ Cert.ConvQkvStepIdeal.sig) → Buf (Elt Ideal) ℓ) (g : Dev Cert.ConvQkvStepIdeal.nD → PrngReg)
    (m' : (ℓ : Loc Cert.ConvQkvStepRefIdeal.nD Cert.ConvQkvStepRefIdeal.τ Cert.ConvQkvStepRefIdeal.sig) → Buf (Elt Ideal) ℓ) (g' : Dev Cert.ConvQkvStepRefIdeal.nD → PrngReg), Pre_ConvQkvStepIdeal m →
    (∀ c : Dev Cert.ConvQkvStepIdeal.nD,
      m' ((c.tc : Thread Cert.ConvQkvStepRefIdeal.nD Cert.ConvQkvStepRefIdeal.τ).loc Cert.ConvQkvStepRefIdeal.main_arg0) = m ((c.tc : Thread Cert.ConvQkvStepIdeal.nD Cert.ConvQkvStepIdeal.τ).loc Cert.ConvQkvStepIdeal.main_arg0)
      ∧ m' ((c.tc : Thread Cert.ConvQkvStepRefIdeal.nD Cert.ConvQkvStepRefIdeal.τ).loc Cert.ConvQkvStepRefIdeal.main_arg1) = m ((c.tc : Thread Cert.ConvQkvStepIdeal.nD Cert.ConvQkvStepIdeal.τ).loc Cert.ConvQkvStepIdeal.main_arg1)
      ∧ m' ((c.tc : Thread Cert.ConvQkvStepRefIdeal.nD Cert.ConvQkvStepRefIdeal.τ).loc Cert.ConvQkvStepRefIdeal.main_arg2) = m ((c.tc : Thread Cert.ConvQkvStepIdeal.nD Cert.ConvQkvStepIdeal.τ).loc Cert.ConvQkvStepIdeal.main_arg2)
      ∧ m' ((c.tc : Thread Cert.ConvQkvStepRefIdeal.nD Cert.ConvQkvStepRefIdeal.τ).loc Cert.ConvQkvStepRefIdeal.main_arg3) = m ((c.tc : Thread Cert.ConvQkvStepIdeal.nD Cert.ConvQkvStepIdeal.τ).loc Cert.ConvQkvStepIdeal.main_arg3)) →
    ∃ (v0 : (c : Dev Cert.ConvQkvStepIdeal.nD) → Buf (Elt Ideal) ((c.tc : Thread Cert.ConvQkvStepIdeal.nD Cert.ConvQkvStepIdeal.τ).loc Cert.ConvQkvStepIdeal.main_v0_0)) (v1 : (c : Dev Cert.ConvQkvStepIdeal.nD) → Buf (Elt Ideal) ((c.tc : Thread Cert.ConvQkvStepIdeal.nD Cert.ConvQkvStepIdeal.τ).loc Cert.ConvQkvStepIdeal.main_v0_1)) (v2 : (c : Dev Cert.ConvQkvStepIdeal.nD) → Buf (Elt Ideal) ((c.tc : Thread Cert.ConvQkvStepIdeal.nD Cert.ConvQkvStepIdeal.τ).loc Cert.ConvQkvStepIdeal.main_v0_2)),
      θ_run (Cert.ConvQkvStepIdeal.defs (F := Ideal)) (onTc (τ := Cert.ConvQkvStepIdeal.τ) (Cert.ConvQkvStepIdeal.main (F := Ideal))) ⟨m, fun _ => 0, g⟩ (fun r => ∀ c : Dev Cert.ConvQkvStepIdeal.nD,
          r.2.mem ((c.tc : Thread Cert.ConvQkvStepIdeal.nD Cert.ConvQkvStepIdeal.τ).loc Cert.ConvQkvStepIdeal.main_v0_0) = v0 c
          ∧ r.2.mem ((c.tc : Thread Cert.ConvQkvStepIdeal.nD Cert.ConvQkvStepIdeal.τ).loc Cert.ConvQkvStepIdeal.main_v0_1) = v1 c
          ∧ r.2.mem ((c.tc : Thread Cert.ConvQkvStepIdeal.nD Cert.ConvQkvStepIdeal.τ).loc Cert.ConvQkvStepIdeal.main_v0_2) = v2 c
          ∧ r.2.mem ((c.tc : Thread Cert.ConvQkvStepIdeal.nD Cert.ConvQkvStepIdeal.τ).loc Cert.ConvQkvStepIdeal.main_arg0) = m ((c.tc : Thread Cert.ConvQkvStepIdeal.nD Cert.ConvQkvStepIdeal.τ).loc Cert.ConvQkvStepIdeal.main_arg0)
          ∧ r.2.mem ((c.tc : Thread Cert.ConvQkvStepIdeal.nD Cert.ConvQkvStepIdeal.τ).loc Cert.ConvQkvStepIdeal.main_arg1) = m ((c.tc : Thread Cert.ConvQkvStepIdeal.nD Cert.ConvQkvStepIdeal.τ).loc Cert.ConvQkvStepIdeal.main_arg1)
          ∧ r.2.mem ((c.tc : Thread Cert.ConvQkvStepIdeal.nD Cert.ConvQkvStepIdeal.τ).loc Cert.ConvQkvStepIdeal.main_arg2) = m ((c.tc : Thread Cert.ConvQkvStepIdeal.nD Cert.ConvQkvStepIdeal.τ).loc Cert.ConvQkvStepIdeal.main_arg2)
          ∧ r.2.mem ((c.tc : Thread Cert.ConvQkvStepIdeal.nD Cert.ConvQkvStepIdeal.τ).loc Cert.ConvQkvStepIdeal.main_arg3) = m ((c.tc : Thread Cert.ConvQkvStepIdeal.nD Cert.ConvQkvStepIdeal.τ).loc Cert.ConvQkvStepIdeal.main_arg3))
      ∧ θ_run (Cert.ConvQkvStepRefIdeal.defs (F := Ideal)) (onTc (τ := Cert.ConvQkvStepRefIdeal.τ) (Cert.ConvQkvStepRefIdeal.main (F := Ideal))) ⟨m', fun _ => 0, g'⟩ (fun r => ∀ c : Dev Cert.ConvQkvStepRefIdeal.nD,
          r.2.mem ((c.tc : Thread Cert.ConvQkvStepRefIdeal.nD Cert.ConvQkvStepRefIdeal.τ).loc Cert.ConvQkvStepRefIdeal.main_v23) = v0 c
          ∧ r.2.mem ((c.tc : Thread Cert.ConvQkvStepRefIdeal.nD Cert.ConvQkvStepRefIdeal.τ).loc Cert.ConvQkvStepRefIdeal.main_v4) = v1 c
          ∧ r.2.mem ((c.tc : Thread Cert.ConvQkvStepRefIdeal.nD Cert.ConvQkvStepRefIdeal.τ).loc Cert.ConvQkvStepRefIdeal.main_v10) = v2 c
          ∧ r.2.mem ((c.tc : Thread Cert.ConvQkvStepRefIdeal.nD Cert.ConvQkvStepRefIdeal.τ).loc Cert.ConvQkvStepRefIdeal.main_arg0) = m' ((c.tc : Thread Cert.ConvQkvStepRefIdeal.nD Cert.ConvQkvStepRefIdeal.τ).loc Cert.ConvQkvStepRefIdeal.main_arg0)
          ∧ r.2.mem ((c.tc : Thread Cert.ConvQkvStepRefIdeal.nD Cert.ConvQkvStepRefIdeal.τ).loc Cert.ConvQkvStepRefIdeal.main_arg1) = m' ((c.tc : Thread Cert.ConvQkvStepRefIdeal.nD Cert.ConvQkvStepRefIdeal.τ).loc Cert.ConvQkvStepRefIdeal.main_arg1)
          ∧ r.2.mem ((c.tc : Thread Cert.ConvQkvStepRefIdeal.nD Cert.ConvQkvStepRefIdeal.τ).loc Cert.ConvQkvStepRefIdeal.main_arg2) = m' ((c.tc : Thread Cert.ConvQkvStepRefIdeal.nD Cert.ConvQkvStepRefIdeal.τ).loc Cert.ConvQkvStepRefIdeal.main_arg2)
          ∧ r.2.mem ((c.tc : Thread Cert.ConvQkvStepRefIdeal.nD Cert.ConvQkvStepRefIdeal.τ).loc Cert.ConvQkvStepRefIdeal.main_arg3) = m' ((c.tc : Thread Cert.ConvQkvStepRefIdeal.nD Cert.ConvQkvStepRefIdeal.τ).loc Cert.ConvQkvStepRefIdeal.main_arg3))

def preserves_ALogStep_ALogStepIdeal : Prop :=
  True

def algebraic_ALogStepIdeal_ALogStepRefIdeal [hALogStepIdeal : Cert.ALogStepIdeal.Facts] [hALogStepRefIdeal : Cert.ALogStepRefIdeal.Facts] : Prop :=
  ∀ (m : (ℓ : Loc Cert.ALogStepIdeal.nD Cert.ALogStepIdeal.τ Cert.ALogStepIdeal.sig) → Buf (Elt Ideal) ℓ) (g : Dev Cert.ALogStepIdeal.nD → PrngReg)
    (m' : (ℓ : Loc Cert.ALogStepRefIdeal.nD Cert.ALogStepRefIdeal.τ Cert.ALogStepRefIdeal.sig) → Buf (Elt Ideal) ℓ) (g' : Dev Cert.ALogStepRefIdeal.nD → PrngReg), Pre_ALogStepIdeal m →
    (∀ c : Dev Cert.ALogStepIdeal.nD,
      m' ((c.tc : Thread Cert.ALogStepRefIdeal.nD Cert.ALogStepRefIdeal.τ).loc Cert.ALogStepRefIdeal.main_arg0) = m ((c.tc : Thread Cert.ALogStepIdeal.nD Cert.ALogStepIdeal.τ).loc Cert.ALogStepIdeal.main_arg0)
      ∧ m' ((c.tc : Thread Cert.ALogStepRefIdeal.nD Cert.ALogStepRefIdeal.τ).loc Cert.ALogStepRefIdeal.main_arg1) = m ((c.tc : Thread Cert.ALogStepIdeal.nD Cert.ALogStepIdeal.τ).loc Cert.ALogStepIdeal.main_arg1)
      ∧ m' ((c.tc : Thread Cert.ALogStepRefIdeal.nD Cert.ALogStepRefIdeal.τ).loc Cert.ALogStepRefIdeal.main_arg2) = m ((c.tc : Thread Cert.ALogStepIdeal.nD Cert.ALogStepIdeal.τ).loc Cert.ALogStepIdeal.main_arg2)
      ∧ m' ((c.tc : Thread Cert.ALogStepRefIdeal.nD Cert.ALogStepRefIdeal.τ).loc Cert.ALogStepRefIdeal.main_arg3) = m ((c.tc : Thread Cert.ALogStepIdeal.nD Cert.ALogStepIdeal.τ).loc Cert.ALogStepIdeal.main_arg3)) →
    ∃ (v0 : (c : Dev Cert.ALogStepIdeal.nD) → Buf (Elt Ideal) ((c.tc : Thread Cert.ALogStepIdeal.nD Cert.ALogStepIdeal.τ).loc Cert.ALogStepIdeal.main_v0_0)) (v1 : (c : Dev Cert.ALogStepIdeal.nD) → Buf (Elt Ideal) ((c.tc : Thread Cert.ALogStepIdeal.nD Cert.ALogStepIdeal.τ).loc Cert.ALogStepIdeal.main_v0_1)) (v2 : (c : Dev Cert.ALogStepIdeal.nD) → Buf (Elt Ideal) ((c.tc : Thread Cert.ALogStepIdeal.nD Cert.ALogStepIdeal.τ).loc Cert.ALogStepIdeal.main_v0_2)),
      θ_run (Cert.ALogStepIdeal.defs (F := Ideal)) (onTc (τ := Cert.ALogStepIdeal.τ) (Cert.ALogStepIdeal.main (F := Ideal))) ⟨m, fun _ => 0, g⟩ (fun r => ∀ c : Dev Cert.ALogStepIdeal.nD,
          r.2.mem ((c.tc : Thread Cert.ALogStepIdeal.nD Cert.ALogStepIdeal.τ).loc Cert.ALogStepIdeal.main_v0_0) = v0 c
          ∧ r.2.mem ((c.tc : Thread Cert.ALogStepIdeal.nD Cert.ALogStepIdeal.τ).loc Cert.ALogStepIdeal.main_v0_1) = v1 c
          ∧ r.2.mem ((c.tc : Thread Cert.ALogStepIdeal.nD Cert.ALogStepIdeal.τ).loc Cert.ALogStepIdeal.main_v0_2) = v2 c
          ∧ r.2.mem ((c.tc : Thread Cert.ALogStepIdeal.nD Cert.ALogStepIdeal.τ).loc Cert.ALogStepIdeal.main_arg0) = m ((c.tc : Thread Cert.ALogStepIdeal.nD Cert.ALogStepIdeal.τ).loc Cert.ALogStepIdeal.main_arg0)
          ∧ r.2.mem ((c.tc : Thread Cert.ALogStepIdeal.nD Cert.ALogStepIdeal.τ).loc Cert.ALogStepIdeal.main_arg1) = m ((c.tc : Thread Cert.ALogStepIdeal.nD Cert.ALogStepIdeal.τ).loc Cert.ALogStepIdeal.main_arg1)
          ∧ r.2.mem ((c.tc : Thread Cert.ALogStepIdeal.nD Cert.ALogStepIdeal.τ).loc Cert.ALogStepIdeal.main_arg2) = m ((c.tc : Thread Cert.ALogStepIdeal.nD Cert.ALogStepIdeal.τ).loc Cert.ALogStepIdeal.main_arg2)
          ∧ r.2.mem ((c.tc : Thread Cert.ALogStepIdeal.nD Cert.ALogStepIdeal.τ).loc Cert.ALogStepIdeal.main_arg3) = m ((c.tc : Thread Cert.ALogStepIdeal.nD Cert.ALogStepIdeal.τ).loc Cert.ALogStepIdeal.main_arg3))
      ∧ θ_run (Cert.ALogStepRefIdeal.defs (F := Ideal)) (onTc (τ := Cert.ALogStepRefIdeal.τ) (Cert.ALogStepRefIdeal.main (F := Ideal))) ⟨m', fun _ => 0, g'⟩ (fun r => ∀ c : Dev Cert.ALogStepRefIdeal.nD,
          r.2.mem ((c.tc : Thread Cert.ALogStepRefIdeal.nD Cert.ALogStepRefIdeal.τ).loc Cert.ALogStepRefIdeal.main_v23) = v0 c
          ∧ r.2.mem ((c.tc : Thread Cert.ALogStepRefIdeal.nD Cert.ALogStepRefIdeal.τ).loc Cert.ALogStepRefIdeal.main_v4) = v1 c
          ∧ r.2.mem ((c.tc : Thread Cert.ALogStepRefIdeal.nD Cert.ALogStepRefIdeal.τ).loc Cert.ALogStepRefIdeal.main_v10) = v2 c
          ∧ r.2.mem ((c.tc : Thread Cert.ALogStepRefIdeal.nD Cert.ALogStepRefIdeal.τ).loc Cert.ALogStepRefIdeal.main_arg0) = m' ((c.tc : Thread Cert.ALogStepRefIdeal.nD Cert.ALogStepRefIdeal.τ).loc Cert.ALogStepRefIdeal.main_arg0)
          ∧ r.2.mem ((c.tc : Thread Cert.ALogStepRefIdeal.nD Cert.ALogStepRefIdeal.τ).loc Cert.ALogStepRefIdeal.main_arg1) = m' ((c.tc : Thread Cert.ALogStepRefIdeal.nD Cert.ALogStepRefIdeal.τ).loc Cert.ALogStepRefIdeal.main_arg1)
          ∧ r.2.mem ((c.tc : Thread Cert.ALogStepRefIdeal.nD Cert.ALogStepRefIdeal.τ).loc Cert.ALogStepRefIdeal.main_arg2) = m' ((c.tc : Thread Cert.ALogStepRefIdeal.nD Cert.ALogStepRefIdeal.τ).loc Cert.ALogStepRefIdeal.main_arg2)
          ∧ r.2.mem ((c.tc : Thread Cert.ALogStepRefIdeal.nD Cert.ALogStepRefIdeal.τ).loc Cert.ALogStepRefIdeal.main_arg3) = m' ((c.tc : Thread Cert.ALogStepRefIdeal.nD Cert.ALogStepRefIdeal.τ).loc Cert.ALogStepRefIdeal.main_arg3))

def preserves_GdnNormStep_GdnNormStepIdeal : Prop :=
  True

def algebraic_GdnNormStepIdeal_GdnNormStepRefIdeal [hGdnNormStepIdeal : Cert.GdnNormStepIdeal.Facts] [hGdnNormStepRefIdeal : Cert.GdnNormStepRefIdeal.Facts] : Prop :=
  ∀ (m : (ℓ : Loc Cert.GdnNormStepIdeal.nD Cert.GdnNormStepIdeal.τ Cert.GdnNormStepIdeal.sig) → Buf (Elt Ideal) ℓ) (g : Dev Cert.GdnNormStepIdeal.nD → PrngReg)
    (m' : (ℓ : Loc Cert.GdnNormStepRefIdeal.nD Cert.GdnNormStepRefIdeal.τ Cert.GdnNormStepRefIdeal.sig) → Buf (Elt Ideal) ℓ) (g' : Dev Cert.GdnNormStepRefIdeal.nD → PrngReg), Pre_GdnNormStepIdeal m →
    (∀ c : Dev Cert.GdnNormStepIdeal.nD,
      m' ((c.tc : Thread Cert.GdnNormStepRefIdeal.nD Cert.GdnNormStepRefIdeal.τ).loc Cert.GdnNormStepRefIdeal.main_arg0) = m ((c.tc : Thread Cert.GdnNormStepIdeal.nD Cert.GdnNormStepIdeal.τ).loc Cert.GdnNormStepIdeal.main_arg0)
      ∧ m' ((c.tc : Thread Cert.GdnNormStepRefIdeal.nD Cert.GdnNormStepRefIdeal.τ).loc Cert.GdnNormStepRefIdeal.main_arg1) = m ((c.tc : Thread Cert.GdnNormStepIdeal.nD Cert.GdnNormStepIdeal.τ).loc Cert.GdnNormStepIdeal.main_arg1)
      ∧ m' ((c.tc : Thread Cert.GdnNormStepRefIdeal.nD Cert.GdnNormStepRefIdeal.τ).loc Cert.GdnNormStepRefIdeal.main_arg2) = m ((c.tc : Thread Cert.GdnNormStepIdeal.nD Cert.GdnNormStepIdeal.τ).loc Cert.GdnNormStepIdeal.main_arg2)
      ∧ m' ((c.tc : Thread Cert.GdnNormStepRefIdeal.nD Cert.GdnNormStepRefIdeal.τ).loc Cert.GdnNormStepRefIdeal.main_arg3) = m ((c.tc : Thread Cert.GdnNormStepIdeal.nD Cert.GdnNormStepIdeal.τ).loc Cert.GdnNormStepIdeal.main_arg3)) →
    ∃ (v0 : (c : Dev Cert.GdnNormStepIdeal.nD) → Buf (Elt Ideal) ((c.tc : Thread Cert.GdnNormStepIdeal.nD Cert.GdnNormStepIdeal.τ).loc Cert.GdnNormStepIdeal.main_v0_0)) (v1 : (c : Dev Cert.GdnNormStepIdeal.nD) → Buf (Elt Ideal) ((c.tc : Thread Cert.GdnNormStepIdeal.nD Cert.GdnNormStepIdeal.τ).loc Cert.GdnNormStepIdeal.main_v0_1)) (v2 : (c : Dev Cert.GdnNormStepIdeal.nD) → Buf (Elt Ideal) ((c.tc : Thread Cert.GdnNormStepIdeal.nD Cert.GdnNormStepIdeal.τ).loc Cert.GdnNormStepIdeal.main_v0_2)),
      θ_run (Cert.GdnNormStepIdeal.defs (F := Ideal)) (onTc (τ := Cert.GdnNormStepIdeal.τ) (Cert.GdnNormStepIdeal.main (F := Ideal))) ⟨m, fun _ => 0, g⟩ (fun r => ∀ c : Dev Cert.GdnNormStepIdeal.nD,
          r.2.mem ((c.tc : Thread Cert.GdnNormStepIdeal.nD Cert.GdnNormStepIdeal.τ).loc Cert.GdnNormStepIdeal.main_v0_0) = v0 c
          ∧ r.2.mem ((c.tc : Thread Cert.GdnNormStepIdeal.nD Cert.GdnNormStepIdeal.τ).loc Cert.GdnNormStepIdeal.main_v0_1) = v1 c
          ∧ r.2.mem ((c.tc : Thread Cert.GdnNormStepIdeal.nD Cert.GdnNormStepIdeal.τ).loc Cert.GdnNormStepIdeal.main_v0_2) = v2 c
          ∧ r.2.mem ((c.tc : Thread Cert.GdnNormStepIdeal.nD Cert.GdnNormStepIdeal.τ).loc Cert.GdnNormStepIdeal.main_arg0) = m ((c.tc : Thread Cert.GdnNormStepIdeal.nD Cert.GdnNormStepIdeal.τ).loc Cert.GdnNormStepIdeal.main_arg0)
          ∧ r.2.mem ((c.tc : Thread Cert.GdnNormStepIdeal.nD Cert.GdnNormStepIdeal.τ).loc Cert.GdnNormStepIdeal.main_arg1) = m ((c.tc : Thread Cert.GdnNormStepIdeal.nD Cert.GdnNormStepIdeal.τ).loc Cert.GdnNormStepIdeal.main_arg1)
          ∧ r.2.mem ((c.tc : Thread Cert.GdnNormStepIdeal.nD Cert.GdnNormStepIdeal.τ).loc Cert.GdnNormStepIdeal.main_arg2) = m ((c.tc : Thread Cert.GdnNormStepIdeal.nD Cert.GdnNormStepIdeal.τ).loc Cert.GdnNormStepIdeal.main_arg2)
          ∧ r.2.mem ((c.tc : Thread Cert.GdnNormStepIdeal.nD Cert.GdnNormStepIdeal.τ).loc Cert.GdnNormStepIdeal.main_arg3) = m ((c.tc : Thread Cert.GdnNormStepIdeal.nD Cert.GdnNormStepIdeal.τ).loc Cert.GdnNormStepIdeal.main_arg3))
      ∧ θ_run (Cert.GdnNormStepRefIdeal.defs (F := Ideal)) (onTc (τ := Cert.GdnNormStepRefIdeal.τ) (Cert.GdnNormStepRefIdeal.main (F := Ideal))) ⟨m', fun _ => 0, g'⟩ (fun r => ∀ c : Dev Cert.GdnNormStepRefIdeal.nD,
          r.2.mem ((c.tc : Thread Cert.GdnNormStepRefIdeal.nD Cert.GdnNormStepRefIdeal.τ).loc Cert.GdnNormStepRefIdeal.main_v23) = v0 c
          ∧ r.2.mem ((c.tc : Thread Cert.GdnNormStepRefIdeal.nD Cert.GdnNormStepRefIdeal.τ).loc Cert.GdnNormStepRefIdeal.main_v4) = v1 c
          ∧ r.2.mem ((c.tc : Thread Cert.GdnNormStepRefIdeal.nD Cert.GdnNormStepRefIdeal.τ).loc Cert.GdnNormStepRefIdeal.main_v10) = v2 c
          ∧ r.2.mem ((c.tc : Thread Cert.GdnNormStepRefIdeal.nD Cert.GdnNormStepRefIdeal.τ).loc Cert.GdnNormStepRefIdeal.main_arg0) = m' ((c.tc : Thread Cert.GdnNormStepRefIdeal.nD Cert.GdnNormStepRefIdeal.τ).loc Cert.GdnNormStepRefIdeal.main_arg0)
          ∧ r.2.mem ((c.tc : Thread Cert.GdnNormStepRefIdeal.nD Cert.GdnNormStepRefIdeal.τ).loc Cert.GdnNormStepRefIdeal.main_arg1) = m' ((c.tc : Thread Cert.GdnNormStepRefIdeal.nD Cert.GdnNormStepRefIdeal.τ).loc Cert.GdnNormStepRefIdeal.main_arg1)
          ∧ r.2.mem ((c.tc : Thread Cert.GdnNormStepRefIdeal.nD Cert.GdnNormStepRefIdeal.τ).loc Cert.GdnNormStepRefIdeal.main_arg2) = m' ((c.tc : Thread Cert.GdnNormStepRefIdeal.nD Cert.GdnNormStepRefIdeal.τ).loc Cert.GdnNormStepRefIdeal.main_arg2)
          ∧ r.2.mem ((c.tc : Thread Cert.GdnNormStepRefIdeal.nD Cert.GdnNormStepRefIdeal.τ).loc Cert.GdnNormStepRefIdeal.main_arg3) = m' ((c.tc : Thread Cert.GdnNormStepRefIdeal.nD Cert.GdnNormStepRefIdeal.τ).loc Cert.GdnNormStepRefIdeal.main_arg3))

def preserves_ConvScStep_ConvScStepIdeal : Prop :=
  True

def algebraic_ConvScStepIdeal_ConvScStepRefIdeal [hConvScStepIdeal : Cert.ConvScStepIdeal.Facts] [hConvScStepRefIdeal : Cert.ConvScStepRefIdeal.Facts] : Prop :=
  ∀ (m : (ℓ : Loc Cert.ConvScStepIdeal.nD Cert.ConvScStepIdeal.τ Cert.ConvScStepIdeal.sig) → Buf (Elt Ideal) ℓ) (g : Dev Cert.ConvScStepIdeal.nD → PrngReg)
    (m' : (ℓ : Loc Cert.ConvScStepRefIdeal.nD Cert.ConvScStepRefIdeal.τ Cert.ConvScStepRefIdeal.sig) → Buf (Elt Ideal) ℓ) (g' : Dev Cert.ConvScStepRefIdeal.nD → PrngReg), Pre_ConvScStepIdeal m →
    (∀ c : Dev Cert.ConvScStepIdeal.nD,
      m' ((c.tc : Thread Cert.ConvScStepRefIdeal.nD Cert.ConvScStepRefIdeal.τ).loc Cert.ConvScStepRefIdeal.main_arg0) = m ((c.tc : Thread Cert.ConvScStepIdeal.nD Cert.ConvScStepIdeal.τ).loc Cert.ConvScStepIdeal.main_arg0)
      ∧ m' ((c.tc : Thread Cert.ConvScStepRefIdeal.nD Cert.ConvScStepRefIdeal.τ).loc Cert.ConvScStepRefIdeal.main_arg1) = m ((c.tc : Thread Cert.ConvScStepIdeal.nD Cert.ConvScStepIdeal.τ).loc Cert.ConvScStepIdeal.main_arg1)
      ∧ m' ((c.tc : Thread Cert.ConvScStepRefIdeal.nD Cert.ConvScStepRefIdeal.τ).loc Cert.ConvScStepRefIdeal.main_arg2) = m ((c.tc : Thread Cert.ConvScStepIdeal.nD Cert.ConvScStepIdeal.τ).loc Cert.ConvScStepIdeal.main_arg2)
      ∧ m' ((c.tc : Thread Cert.ConvScStepRefIdeal.nD Cert.ConvScStepRefIdeal.τ).loc Cert.ConvScStepRefIdeal.main_arg3) = m ((c.tc : Thread Cert.ConvScStepIdeal.nD Cert.ConvScStepIdeal.τ).loc Cert.ConvScStepIdeal.main_arg3)) →
    ∃ (v0 : (c : Dev Cert.ConvScStepIdeal.nD) → Buf (Elt Ideal) ((c.tc : Thread Cert.ConvScStepIdeal.nD Cert.ConvScStepIdeal.τ).loc Cert.ConvScStepIdeal.main_v0_0)) (v1 : (c : Dev Cert.ConvScStepIdeal.nD) → Buf (Elt Ideal) ((c.tc : Thread Cert.ConvScStepIdeal.nD Cert.ConvScStepIdeal.τ).loc Cert.ConvScStepIdeal.main_v0_1)) (v2 : (c : Dev Cert.ConvScStepIdeal.nD) → Buf (Elt Ideal) ((c.tc : Thread Cert.ConvScStepIdeal.nD Cert.ConvScStepIdeal.τ).loc Cert.ConvScStepIdeal.main_v0_2)),
      θ_run (Cert.ConvScStepIdeal.defs (F := Ideal)) (onTc (τ := Cert.ConvScStepIdeal.τ) (Cert.ConvScStepIdeal.main (F := Ideal))) ⟨m, fun _ => 0, g⟩ (fun r => ∀ c : Dev Cert.ConvScStepIdeal.nD,
          r.2.mem ((c.tc : Thread Cert.ConvScStepIdeal.nD Cert.ConvScStepIdeal.τ).loc Cert.ConvScStepIdeal.main_v0_0) = v0 c
          ∧ r.2.mem ((c.tc : Thread Cert.ConvScStepIdeal.nD Cert.ConvScStepIdeal.τ).loc Cert.ConvScStepIdeal.main_v0_1) = v1 c
          ∧ r.2.mem ((c.tc : Thread Cert.ConvScStepIdeal.nD Cert.ConvScStepIdeal.τ).loc Cert.ConvScStepIdeal.main_v0_2) = v2 c
          ∧ r.2.mem ((c.tc : Thread Cert.ConvScStepIdeal.nD Cert.ConvScStepIdeal.τ).loc Cert.ConvScStepIdeal.main_arg0) = m ((c.tc : Thread Cert.ConvScStepIdeal.nD Cert.ConvScStepIdeal.τ).loc Cert.ConvScStepIdeal.main_arg0)
          ∧ r.2.mem ((c.tc : Thread Cert.ConvScStepIdeal.nD Cert.ConvScStepIdeal.τ).loc Cert.ConvScStepIdeal.main_arg1) = m ((c.tc : Thread Cert.ConvScStepIdeal.nD Cert.ConvScStepIdeal.τ).loc Cert.ConvScStepIdeal.main_arg1)
          ∧ r.2.mem ((c.tc : Thread Cert.ConvScStepIdeal.nD Cert.ConvScStepIdeal.τ).loc Cert.ConvScStepIdeal.main_arg2) = m ((c.tc : Thread Cert.ConvScStepIdeal.nD Cert.ConvScStepIdeal.τ).loc Cert.ConvScStepIdeal.main_arg2)
          ∧ r.2.mem ((c.tc : Thread Cert.ConvScStepIdeal.nD Cert.ConvScStepIdeal.τ).loc Cert.ConvScStepIdeal.main_arg3) = m ((c.tc : Thread Cert.ConvScStepIdeal.nD Cert.ConvScStepIdeal.τ).loc Cert.ConvScStepIdeal.main_arg3))
      ∧ θ_run (Cert.ConvScStepRefIdeal.defs (F := Ideal)) (onTc (τ := Cert.ConvScStepRefIdeal.τ) (Cert.ConvScStepRefIdeal.main (F := Ideal))) ⟨m', fun _ => 0, g'⟩ (fun r => ∀ c : Dev Cert.ConvScStepRefIdeal.nD,
          r.2.mem ((c.tc : Thread Cert.ConvScStepRefIdeal.nD Cert.ConvScStepRefIdeal.τ).loc Cert.ConvScStepRefIdeal.main_v23) = v0 c
          ∧ r.2.mem ((c.tc : Thread Cert.ConvScStepRefIdeal.nD Cert.ConvScStepRefIdeal.τ).loc Cert.ConvScStepRefIdeal.main_v4) = v1 c
          ∧ r.2.mem ((c.tc : Thread Cert.ConvScStepRefIdeal.nD Cert.ConvScStepRefIdeal.τ).loc Cert.ConvScStepRefIdeal.main_v10) = v2 c
          ∧ r.2.mem ((c.tc : Thread Cert.ConvScStepRefIdeal.nD Cert.ConvScStepRefIdeal.τ).loc Cert.ConvScStepRefIdeal.main_arg0) = m' ((c.tc : Thread Cert.ConvScStepRefIdeal.nD Cert.ConvScStepRefIdeal.τ).loc Cert.ConvScStepRefIdeal.main_arg0)
          ∧ r.2.mem ((c.tc : Thread Cert.ConvScStepRefIdeal.nD Cert.ConvScStepRefIdeal.τ).loc Cert.ConvScStepRefIdeal.main_arg1) = m' ((c.tc : Thread Cert.ConvScStepRefIdeal.nD Cert.ConvScStepRefIdeal.τ).loc Cert.ConvScStepRefIdeal.main_arg1)
          ∧ r.2.mem ((c.tc : Thread Cert.ConvScStepRefIdeal.nD Cert.ConvScStepRefIdeal.τ).loc Cert.ConvScStepRefIdeal.main_arg2) = m' ((c.tc : Thread Cert.ConvScStepRefIdeal.nD Cert.ConvScStepRefIdeal.τ).loc Cert.ConvScStepRefIdeal.main_arg2)
          ∧ r.2.mem ((c.tc : Thread Cert.ConvScStepRefIdeal.nD Cert.ConvScStepRefIdeal.τ).loc Cert.ConvScStepRefIdeal.main_arg3) = m' ((c.tc : Thread Cert.ConvScStepRefIdeal.nD Cert.ConvScStepRefIdeal.τ).loc Cert.ConvScStepRefIdeal.main_arg3))

def preserves_WOutStep_WOutStepIdeal : Prop :=
  True

def algebraic_WOutStepIdeal_WOutStepRefIdeal [hWOutStepIdeal : Cert.WOutStepIdeal.Facts] [hWOutStepRefIdeal : Cert.WOutStepRefIdeal.Facts] : Prop :=
  ∀ (m : (ℓ : Loc Cert.WOutStepIdeal.nD Cert.WOutStepIdeal.τ Cert.WOutStepIdeal.sig) → Buf (Elt Ideal) ℓ) (g : Dev Cert.WOutStepIdeal.nD → PrngReg)
    (m' : (ℓ : Loc Cert.WOutStepRefIdeal.nD Cert.WOutStepRefIdeal.τ Cert.WOutStepRefIdeal.sig) → Buf (Elt Ideal) ℓ) (g' : Dev Cert.WOutStepRefIdeal.nD → PrngReg), Pre_WOutStepIdeal m →
    (∀ c : Dev Cert.WOutStepIdeal.nD,
      m' ((c.tc : Thread Cert.WOutStepRefIdeal.nD Cert.WOutStepRefIdeal.τ).loc Cert.WOutStepRefIdeal.main_arg0) = m ((c.tc : Thread Cert.WOutStepIdeal.nD Cert.WOutStepIdeal.τ).loc Cert.WOutStepIdeal.main_arg0)
      ∧ m' ((c.tc : Thread Cert.WOutStepRefIdeal.nD Cert.WOutStepRefIdeal.τ).loc Cert.WOutStepRefIdeal.main_arg1) = m ((c.tc : Thread Cert.WOutStepIdeal.nD Cert.WOutStepIdeal.τ).loc Cert.WOutStepIdeal.main_arg1)
      ∧ m' ((c.tc : Thread Cert.WOutStepRefIdeal.nD Cert.WOutStepRefIdeal.τ).loc Cert.WOutStepRefIdeal.main_arg2) = m ((c.tc : Thread Cert.WOutStepIdeal.nD Cert.WOutStepIdeal.τ).loc Cert.WOutStepIdeal.main_arg2)
      ∧ m' ((c.tc : Thread Cert.WOutStepRefIdeal.nD Cert.WOutStepRefIdeal.τ).loc Cert.WOutStepRefIdeal.main_arg3) = m ((c.tc : Thread Cert.WOutStepIdeal.nD Cert.WOutStepIdeal.τ).loc Cert.WOutStepIdeal.main_arg3)) →
    ∃ (v0 : (c : Dev Cert.WOutStepIdeal.nD) → Buf (Elt Ideal) ((c.tc : Thread Cert.WOutStepIdeal.nD Cert.WOutStepIdeal.τ).loc Cert.WOutStepIdeal.main_v0_0)) (v1 : (c : Dev Cert.WOutStepIdeal.nD) → Buf (Elt Ideal) ((c.tc : Thread Cert.WOutStepIdeal.nD Cert.WOutStepIdeal.τ).loc Cert.WOutStepIdeal.main_v0_1)) (v2 : (c : Dev Cert.WOutStepIdeal.nD) → Buf (Elt Ideal) ((c.tc : Thread Cert.WOutStepIdeal.nD Cert.WOutStepIdeal.τ).loc Cert.WOutStepIdeal.main_v0_2)),
      θ_run (Cert.WOutStepIdeal.defs (F := Ideal)) (onTc (τ := Cert.WOutStepIdeal.τ) (Cert.WOutStepIdeal.main (F := Ideal))) ⟨m, fun _ => 0, g⟩ (fun r => ∀ c : Dev Cert.WOutStepIdeal.nD,
          r.2.mem ((c.tc : Thread Cert.WOutStepIdeal.nD Cert.WOutStepIdeal.τ).loc Cert.WOutStepIdeal.main_v0_0) = v0 c
          ∧ r.2.mem ((c.tc : Thread Cert.WOutStepIdeal.nD Cert.WOutStepIdeal.τ).loc Cert.WOutStepIdeal.main_v0_1) = v1 c
          ∧ r.2.mem ((c.tc : Thread Cert.WOutStepIdeal.nD Cert.WOutStepIdeal.τ).loc Cert.WOutStepIdeal.main_v0_2) = v2 c
          ∧ r.2.mem ((c.tc : Thread Cert.WOutStepIdeal.nD Cert.WOutStepIdeal.τ).loc Cert.WOutStepIdeal.main_arg0) = m ((c.tc : Thread Cert.WOutStepIdeal.nD Cert.WOutStepIdeal.τ).loc Cert.WOutStepIdeal.main_arg0)
          ∧ r.2.mem ((c.tc : Thread Cert.WOutStepIdeal.nD Cert.WOutStepIdeal.τ).loc Cert.WOutStepIdeal.main_arg1) = m ((c.tc : Thread Cert.WOutStepIdeal.nD Cert.WOutStepIdeal.τ).loc Cert.WOutStepIdeal.main_arg1)
          ∧ r.2.mem ((c.tc : Thread Cert.WOutStepIdeal.nD Cert.WOutStepIdeal.τ).loc Cert.WOutStepIdeal.main_arg2) = m ((c.tc : Thread Cert.WOutStepIdeal.nD Cert.WOutStepIdeal.τ).loc Cert.WOutStepIdeal.main_arg2)
          ∧ r.2.mem ((c.tc : Thread Cert.WOutStepIdeal.nD Cert.WOutStepIdeal.τ).loc Cert.WOutStepIdeal.main_arg3) = m ((c.tc : Thread Cert.WOutStepIdeal.nD Cert.WOutStepIdeal.τ).loc Cert.WOutStepIdeal.main_arg3))
      ∧ θ_run (Cert.WOutStepRefIdeal.defs (F := Ideal)) (onTc (τ := Cert.WOutStepRefIdeal.τ) (Cert.WOutStepRefIdeal.main (F := Ideal))) ⟨m', fun _ => 0, g'⟩ (fun r => ∀ c : Dev Cert.WOutStepRefIdeal.nD,
          r.2.mem ((c.tc : Thread Cert.WOutStepRefIdeal.nD Cert.WOutStepRefIdeal.τ).loc Cert.WOutStepRefIdeal.main_v23) = v0 c
          ∧ r.2.mem ((c.tc : Thread Cert.WOutStepRefIdeal.nD Cert.WOutStepRefIdeal.τ).loc Cert.WOutStepRefIdeal.main_v4) = v1 c
          ∧ r.2.mem ((c.tc : Thread Cert.WOutStepRefIdeal.nD Cert.WOutStepRefIdeal.τ).loc Cert.WOutStepRefIdeal.main_v10) = v2 c
          ∧ r.2.mem ((c.tc : Thread Cert.WOutStepRefIdeal.nD Cert.WOutStepRefIdeal.τ).loc Cert.WOutStepRefIdeal.main_arg0) = m' ((c.tc : Thread Cert.WOutStepRefIdeal.nD Cert.WOutStepRefIdeal.τ).loc Cert.WOutStepRefIdeal.main_arg0)
          ∧ r.2.mem ((c.tc : Thread Cert.WOutStepRefIdeal.nD Cert.WOutStepRefIdeal.τ).loc Cert.WOutStepRefIdeal.main_arg1) = m' ((c.tc : Thread Cert.WOutStepRefIdeal.nD Cert.WOutStepRefIdeal.τ).loc Cert.WOutStepRefIdeal.main_arg1)
          ∧ r.2.mem ((c.tc : Thread Cert.WOutStepRefIdeal.nD Cert.WOutStepRefIdeal.τ).loc Cert.WOutStepRefIdeal.main_arg2) = m' ((c.tc : Thread Cert.WOutStepRefIdeal.nD Cert.WOutStepRefIdeal.τ).loc Cert.WOutStepRefIdeal.main_arg2)
          ∧ r.2.mem ((c.tc : Thread Cert.WOutStepRefIdeal.nD Cert.WOutStepRefIdeal.τ).loc Cert.WOutStepRefIdeal.main_arg3) = m' ((c.tc : Thread Cert.WOutStepRefIdeal.nD Cert.WOutStepRefIdeal.τ).loc Cert.WOutStepRefIdeal.main_arg3))

def preserves_WGateStep_WGateStepIdeal : Prop :=
  True

def algebraic_WGateStepIdeal_WGateStepRefIdeal [hWGateStepIdeal : Cert.WGateStepIdeal.Facts] [hWGateStepRefIdeal : Cert.WGateStepRefIdeal.Facts] : Prop :=
  ∀ (m : (ℓ : Loc Cert.WGateStepIdeal.nD Cert.WGateStepIdeal.τ Cert.WGateStepIdeal.sig) → Buf (Elt Ideal) ℓ) (g : Dev Cert.WGateStepIdeal.nD → PrngReg)
    (m' : (ℓ : Loc Cert.WGateStepRefIdeal.nD Cert.WGateStepRefIdeal.τ Cert.WGateStepRefIdeal.sig) → Buf (Elt Ideal) ℓ) (g' : Dev Cert.WGateStepRefIdeal.nD → PrngReg), Pre_WGateStepIdeal m →
    (∀ c : Dev Cert.WGateStepIdeal.nD,
      m' ((c.tc : Thread Cert.WGateStepRefIdeal.nD Cert.WGateStepRefIdeal.τ).loc Cert.WGateStepRefIdeal.main_arg0) = m ((c.tc : Thread Cert.WGateStepIdeal.nD Cert.WGateStepIdeal.τ).loc Cert.WGateStepIdeal.main_arg0)
      ∧ m' ((c.tc : Thread Cert.WGateStepRefIdeal.nD Cert.WGateStepRefIdeal.τ).loc Cert.WGateStepRefIdeal.main_arg1) = m ((c.tc : Thread Cert.WGateStepIdeal.nD Cert.WGateStepIdeal.τ).loc Cert.WGateStepIdeal.main_arg1)
      ∧ m' ((c.tc : Thread Cert.WGateStepRefIdeal.nD Cert.WGateStepRefIdeal.τ).loc Cert.WGateStepRefIdeal.main_arg2) = m ((c.tc : Thread Cert.WGateStepIdeal.nD Cert.WGateStepIdeal.τ).loc Cert.WGateStepIdeal.main_arg2)
      ∧ m' ((c.tc : Thread Cert.WGateStepRefIdeal.nD Cert.WGateStepRefIdeal.τ).loc Cert.WGateStepRefIdeal.main_arg3) = m ((c.tc : Thread Cert.WGateStepIdeal.nD Cert.WGateStepIdeal.τ).loc Cert.WGateStepIdeal.main_arg3)) →
    ∃ (v0 : (c : Dev Cert.WGateStepIdeal.nD) → Buf (Elt Ideal) ((c.tc : Thread Cert.WGateStepIdeal.nD Cert.WGateStepIdeal.τ).loc Cert.WGateStepIdeal.main_v0_0)) (v1 : (c : Dev Cert.WGateStepIdeal.nD) → Buf (Elt Ideal) ((c.tc : Thread Cert.WGateStepIdeal.nD Cert.WGateStepIdeal.τ).loc Cert.WGateStepIdeal.main_v0_1)) (v2 : (c : Dev Cert.WGateStepIdeal.nD) → Buf (Elt Ideal) ((c.tc : Thread Cert.WGateStepIdeal.nD Cert.WGateStepIdeal.τ).loc Cert.WGateStepIdeal.main_v0_2)),
      θ_run (Cert.WGateStepIdeal.defs (F := Ideal)) (onTc (τ := Cert.WGateStepIdeal.τ) (Cert.WGateStepIdeal.main (F := Ideal))) ⟨m, fun _ => 0, g⟩ (fun r => ∀ c : Dev Cert.WGateStepIdeal.nD,
          r.2.mem ((c.tc : Thread Cert.WGateStepIdeal.nD Cert.WGateStepIdeal.τ).loc Cert.WGateStepIdeal.main_v0_0) = v0 c
          ∧ r.2.mem ((c.tc : Thread Cert.WGateStepIdeal.nD Cert.WGateStepIdeal.τ).loc Cert.WGateStepIdeal.main_v0_1) = v1 c
          ∧ r.2.mem ((c.tc : Thread Cert.WGateStepIdeal.nD Cert.WGateStepIdeal.τ).loc Cert.WGateStepIdeal.main_v0_2) = v2 c
          ∧ r.2.mem ((c.tc : Thread Cert.WGateStepIdeal.nD Cert.WGateStepIdeal.τ).loc Cert.WGateStepIdeal.main_arg0) = m ((c.tc : Thread Cert.WGateStepIdeal.nD Cert.WGateStepIdeal.τ).loc Cert.WGateStepIdeal.main_arg0)
          ∧ r.2.mem ((c.tc : Thread Cert.WGateStepIdeal.nD Cert.WGateStepIdeal.τ).loc Cert.WGateStepIdeal.main_arg1) = m ((c.tc : Thread Cert.WGateStepIdeal.nD Cert.WGateStepIdeal.τ).loc Cert.WGateStepIdeal.main_arg1)
          ∧ r.2.mem ((c.tc : Thread Cert.WGateStepIdeal.nD Cert.WGateStepIdeal.τ).loc Cert.WGateStepIdeal.main_arg2) = m ((c.tc : Thread Cert.WGateStepIdeal.nD Cert.WGateStepIdeal.τ).loc Cert.WGateStepIdeal.main_arg2)
          ∧ r.2.mem ((c.tc : Thread Cert.WGateStepIdeal.nD Cert.WGateStepIdeal.τ).loc Cert.WGateStepIdeal.main_arg3) = m ((c.tc : Thread Cert.WGateStepIdeal.nD Cert.WGateStepIdeal.τ).loc Cert.WGateStepIdeal.main_arg3))
      ∧ θ_run (Cert.WGateStepRefIdeal.defs (F := Ideal)) (onTc (τ := Cert.WGateStepRefIdeal.τ) (Cert.WGateStepRefIdeal.main (F := Ideal))) ⟨m', fun _ => 0, g'⟩ (fun r => ∀ c : Dev Cert.WGateStepRefIdeal.nD,
          r.2.mem ((c.tc : Thread Cert.WGateStepRefIdeal.nD Cert.WGateStepRefIdeal.τ).loc Cert.WGateStepRefIdeal.main_v23) = v0 c
          ∧ r.2.mem ((c.tc : Thread Cert.WGateStepRefIdeal.nD Cert.WGateStepRefIdeal.τ).loc Cert.WGateStepRefIdeal.main_v4) = v1 c
          ∧ r.2.mem ((c.tc : Thread Cert.WGateStepRefIdeal.nD Cert.WGateStepRefIdeal.τ).loc Cert.WGateStepRefIdeal.main_v10) = v2 c
          ∧ r.2.mem ((c.tc : Thread Cert.WGateStepRefIdeal.nD Cert.WGateStepRefIdeal.τ).loc Cert.WGateStepRefIdeal.main_arg0) = m' ((c.tc : Thread Cert.WGateStepRefIdeal.nD Cert.WGateStepRefIdeal.τ).loc Cert.WGateStepRefIdeal.main_arg0)
          ∧ r.2.mem ((c.tc : Thread Cert.WGateStepRefIdeal.nD Cert.WGateStepRefIdeal.τ).loc Cert.WGateStepRefIdeal.main_arg1) = m' ((c.tc : Thread Cert.WGateStepRefIdeal.nD Cert.WGateStepRefIdeal.τ).loc Cert.WGateStepRefIdeal.main_arg1)
          ∧ r.2.mem ((c.tc : Thread Cert.WGateStepRefIdeal.nD Cert.WGateStepRefIdeal.τ).loc Cert.WGateStepRefIdeal.main_arg2) = m' ((c.tc : Thread Cert.WGateStepRefIdeal.nD Cert.WGateStepRefIdeal.τ).loc Cert.WGateStepRefIdeal.main_arg2)
          ∧ r.2.mem ((c.tc : Thread Cert.WGateStepRefIdeal.nD Cert.WGateStepRefIdeal.τ).loc Cert.WGateStepRefIdeal.main_arg3) = m' ((c.tc : Thread Cert.WGateStepRefIdeal.nD Cert.WGateStepRefIdeal.τ).loc Cert.WGateStepRefIdeal.main_arg3))

def preserves_WDownStep_WDownStepIdeal : Prop :=
  True

def algebraic_WDownStepIdeal_WDownStepRefIdeal [hWDownStepIdeal : Cert.WDownStepIdeal.Facts] [hWDownStepRefIdeal : Cert.WDownStepRefIdeal.Facts] : Prop :=
  ∀ (m : (ℓ : Loc Cert.WDownStepIdeal.nD Cert.WDownStepIdeal.τ Cert.WDownStepIdeal.sig) → Buf (Elt Ideal) ℓ) (g : Dev Cert.WDownStepIdeal.nD → PrngReg)
    (m' : (ℓ : Loc Cert.WDownStepRefIdeal.nD Cert.WDownStepRefIdeal.τ Cert.WDownStepRefIdeal.sig) → Buf (Elt Ideal) ℓ) (g' : Dev Cert.WDownStepRefIdeal.nD → PrngReg), Pre_WDownStepIdeal m →
    (∀ c : Dev Cert.WDownStepIdeal.nD,
      m' ((c.tc : Thread Cert.WDownStepRefIdeal.nD Cert.WDownStepRefIdeal.τ).loc Cert.WDownStepRefIdeal.main_arg0) = m ((c.tc : Thread Cert.WDownStepIdeal.nD Cert.WDownStepIdeal.τ).loc Cert.WDownStepIdeal.main_arg0)
      ∧ m' ((c.tc : Thread Cert.WDownStepRefIdeal.nD Cert.WDownStepRefIdeal.τ).loc Cert.WDownStepRefIdeal.main_arg1) = m ((c.tc : Thread Cert.WDownStepIdeal.nD Cert.WDownStepIdeal.τ).loc Cert.WDownStepIdeal.main_arg1)
      ∧ m' ((c.tc : Thread Cert.WDownStepRefIdeal.nD Cert.WDownStepRefIdeal.τ).loc Cert.WDownStepRefIdeal.main_arg2) = m ((c.tc : Thread Cert.WDownStepIdeal.nD Cert.WDownStepIdeal.τ).loc Cert.WDownStepIdeal.main_arg2)
      ∧ m' ((c.tc : Thread Cert.WDownStepRefIdeal.nD Cert.WDownStepRefIdeal.τ).loc Cert.WDownStepRefIdeal.main_arg3) = m ((c.tc : Thread Cert.WDownStepIdeal.nD Cert.WDownStepIdeal.τ).loc Cert.WDownStepIdeal.main_arg3)) →
    ∃ (v0 : (c : Dev Cert.WDownStepIdeal.nD) → Buf (Elt Ideal) ((c.tc : Thread Cert.WDownStepIdeal.nD Cert.WDownStepIdeal.τ).loc Cert.WDownStepIdeal.main_v0_0)) (v1 : (c : Dev Cert.WDownStepIdeal.nD) → Buf (Elt Ideal) ((c.tc : Thread Cert.WDownStepIdeal.nD Cert.WDownStepIdeal.τ).loc Cert.WDownStepIdeal.main_v0_1)) (v2 : (c : Dev Cert.WDownStepIdeal.nD) → Buf (Elt Ideal) ((c.tc : Thread Cert.WDownStepIdeal.nD Cert.WDownStepIdeal.τ).loc Cert.WDownStepIdeal.main_v0_2)),
      θ_run (Cert.WDownStepIdeal.defs (F := Ideal)) (onTc (τ := Cert.WDownStepIdeal.τ) (Cert.WDownStepIdeal.main (F := Ideal))) ⟨m, fun _ => 0, g⟩ (fun r => ∀ c : Dev Cert.WDownStepIdeal.nD,
          r.2.mem ((c.tc : Thread Cert.WDownStepIdeal.nD Cert.WDownStepIdeal.τ).loc Cert.WDownStepIdeal.main_v0_0) = v0 c
          ∧ r.2.mem ((c.tc : Thread Cert.WDownStepIdeal.nD Cert.WDownStepIdeal.τ).loc Cert.WDownStepIdeal.main_v0_1) = v1 c
          ∧ r.2.mem ((c.tc : Thread Cert.WDownStepIdeal.nD Cert.WDownStepIdeal.τ).loc Cert.WDownStepIdeal.main_v0_2) = v2 c
          ∧ r.2.mem ((c.tc : Thread Cert.WDownStepIdeal.nD Cert.WDownStepIdeal.τ).loc Cert.WDownStepIdeal.main_arg0) = m ((c.tc : Thread Cert.WDownStepIdeal.nD Cert.WDownStepIdeal.τ).loc Cert.WDownStepIdeal.main_arg0)
          ∧ r.2.mem ((c.tc : Thread Cert.WDownStepIdeal.nD Cert.WDownStepIdeal.τ).loc Cert.WDownStepIdeal.main_arg1) = m ((c.tc : Thread Cert.WDownStepIdeal.nD Cert.WDownStepIdeal.τ).loc Cert.WDownStepIdeal.main_arg1)
          ∧ r.2.mem ((c.tc : Thread Cert.WDownStepIdeal.nD Cert.WDownStepIdeal.τ).loc Cert.WDownStepIdeal.main_arg2) = m ((c.tc : Thread Cert.WDownStepIdeal.nD Cert.WDownStepIdeal.τ).loc Cert.WDownStepIdeal.main_arg2)
          ∧ r.2.mem ((c.tc : Thread Cert.WDownStepIdeal.nD Cert.WDownStepIdeal.τ).loc Cert.WDownStepIdeal.main_arg3) = m ((c.tc : Thread Cert.WDownStepIdeal.nD Cert.WDownStepIdeal.τ).loc Cert.WDownStepIdeal.main_arg3))
      ∧ θ_run (Cert.WDownStepRefIdeal.defs (F := Ideal)) (onTc (τ := Cert.WDownStepRefIdeal.τ) (Cert.WDownStepRefIdeal.main (F := Ideal))) ⟨m', fun _ => 0, g'⟩ (fun r => ∀ c : Dev Cert.WDownStepRefIdeal.nD,
          r.2.mem ((c.tc : Thread Cert.WDownStepRefIdeal.nD Cert.WDownStepRefIdeal.τ).loc Cert.WDownStepRefIdeal.main_v23) = v0 c
          ∧ r.2.mem ((c.tc : Thread Cert.WDownStepRefIdeal.nD Cert.WDownStepRefIdeal.τ).loc Cert.WDownStepRefIdeal.main_v4) = v1 c
          ∧ r.2.mem ((c.tc : Thread Cert.WDownStepRefIdeal.nD Cert.WDownStepRefIdeal.τ).loc Cert.WDownStepRefIdeal.main_v10) = v2 c
          ∧ r.2.mem ((c.tc : Thread Cert.WDownStepRefIdeal.nD Cert.WDownStepRefIdeal.τ).loc Cert.WDownStepRefIdeal.main_arg0) = m' ((c.tc : Thread Cert.WDownStepRefIdeal.nD Cert.WDownStepRefIdeal.τ).loc Cert.WDownStepRefIdeal.main_arg0)
          ∧ r.2.mem ((c.tc : Thread Cert.WDownStepRefIdeal.nD Cert.WDownStepRefIdeal.τ).loc Cert.WDownStepRefIdeal.main_arg1) = m' ((c.tc : Thread Cert.WDownStepRefIdeal.nD Cert.WDownStepRefIdeal.τ).loc Cert.WDownStepRefIdeal.main_arg1)
          ∧ r.2.mem ((c.tc : Thread Cert.WDownStepRefIdeal.nD Cert.WDownStepRefIdeal.τ).loc Cert.WDownStepRefIdeal.main_arg2) = m' ((c.tc : Thread Cert.WDownStepRefIdeal.nD Cert.WDownStepRefIdeal.τ).loc Cert.WDownStepRefIdeal.main_arg2)
          ∧ r.2.mem ((c.tc : Thread Cert.WDownStepRefIdeal.nD Cert.WDownStepRefIdeal.τ).loc Cert.WDownStepRefIdeal.main_arg3) = m' ((c.tc : Thread Cert.WDownStepRefIdeal.nD Cert.WDownStepRefIdeal.τ).loc Cert.WDownStepRefIdeal.main_arg3))

def preserves_InputGrad_InputGradIdeal : Prop :=
  True

def algebraic_InputGradIdeal_InputGradRefIdeal [hInputGradIdeal : Cert.InputGradIdeal.Facts] [hInputGradRefIdeal : Cert.InputGradRefIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradRefIdeal.nD Cert.InputGradRefIdeal.τ Cert.InputGradRefIdeal.sig) → Buf (Elt Ideal) ℓ) (g' : Dev Cert.InputGradRefIdeal.nD → PrngReg), Pre_InputGradIdeal m →
    (∀ c : Dev Cert.InputGradIdeal.nD,
      m' ((c.tc : Thread Cert.InputGradRefIdeal.nD Cert.InputGradRefIdeal.τ).loc Cert.InputGradRefIdeal.main_arg0) = m ((c.tc : Thread Cert.InputGradIdeal.nD Cert.InputGradIdeal.τ).loc Cert.InputGradIdeal.main_arg0)
      ∧ m' ((c.tc : Thread Cert.InputGradRefIdeal.nD Cert.InputGradRefIdeal.τ).loc Cert.InputGradRefIdeal.main_arg1) = m ((c.tc : Thread Cert.InputGradIdeal.nD Cert.InputGradIdeal.τ).loc Cert.InputGradIdeal.main_arg1)
      ∧ m' ((c.tc : Thread Cert.InputGradRefIdeal.nD Cert.InputGradRefIdeal.τ).loc Cert.InputGradRefIdeal.main_arg2) = m ((c.tc : Thread Cert.InputGradIdeal.nD Cert.InputGradIdeal.τ).loc Cert.InputGradIdeal.main_arg2)
      ∧ m' ((c.tc : Thread Cert.InputGradRefIdeal.nD Cert.InputGradRefIdeal.τ).loc Cert.InputGradRefIdeal.main_arg3) = m ((c.tc : Thread Cert.InputGradIdeal.nD Cert.InputGradIdeal.τ).loc Cert.InputGradIdeal.main_arg3)) →
    ∃ (v0 : (c : Dev Cert.InputGradIdeal.nD) → Buf (Elt Ideal) ((c.tc : Thread Cert.InputGradIdeal.nD Cert.InputGradIdeal.τ).loc Cert.InputGradIdeal.main_v0_0)) (v1 : (c : Dev Cert.InputGradIdeal.nD) → Buf (Elt Ideal) ((c.tc : Thread Cert.InputGradIdeal.nD Cert.InputGradIdeal.τ).loc Cert.InputGradIdeal.main_v0_1)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0_0) = v0 c
          ∧ r.2.mem ((c.tc : Thread Cert.InputGradIdeal.nD Cert.InputGradIdeal.τ).loc Cert.InputGradIdeal.main_v0_1) = v1 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3))
      ∧ θ_run (Cert.InputGradRefIdeal.defs (F := Ideal)) (onTc (τ := Cert.InputGradRefIdeal.τ) (Cert.InputGradRefIdeal.main (F := Ideal))) ⟨m', fun _ => 0, g'⟩ (fun r => ∀ c : Dev Cert.InputGradRefIdeal.nD,
          r.2.mem ((c.tc : Thread Cert.InputGradRefIdeal.nD Cert.InputGradRefIdeal.τ).loc Cert.InputGradRefIdeal.main_v34) = v0 c
          ∧ r.2.mem ((c.tc : Thread Cert.InputGradRefIdeal.nD Cert.InputGradRefIdeal.τ).loc Cert.InputGradRefIdeal.main_v17) = v1 c
          ∧ r.2.mem ((c.tc : Thread Cert.InputGradRefIdeal.nD Cert.InputGradRefIdeal.τ).loc Cert.InputGradRefIdeal.main_arg0) = m' ((c.tc : Thread Cert.InputGradRefIdeal.nD Cert.InputGradRefIdeal.τ).loc Cert.InputGradRefIdeal.main_arg0)
          ∧ r.2.mem ((c.tc : Thread Cert.InputGradRefIdeal.nD Cert.InputGradRefIdeal.τ).loc Cert.InputGradRefIdeal.main_arg1) = m' ((c.tc : Thread Cert.InputGradRefIdeal.nD Cert.InputGradRefIdeal.τ).loc Cert.InputGradRefIdeal.main_arg1)
          ∧ r.2.mem ((c.tc : Thread Cert.InputGradRefIdeal.nD Cert.InputGradRefIdeal.τ).loc Cert.InputGradRefIdeal.main_arg2) = m' ((c.tc : Thread Cert.InputGradRefIdeal.nD Cert.InputGradRefIdeal.τ).loc Cert.InputGradRefIdeal.main_arg2)
          ∧ r.2.mem ((c.tc : Thread Cert.InputGradRefIdeal.nD Cert.InputGradRefIdeal.τ).loc Cert.InputGradRefIdeal.main_arg3) = m' ((c.tc : Thread Cert.InputGradRefIdeal.nD Cert.InputGradRefIdeal.τ).loc Cert.InputGradRefIdeal.main_arg3))

def preserves_MidGrad_MidGradIdeal : Prop :=
  True

def algebraic_MidGradIdeal_MidGradRefIdeal [hMidGradIdeal : Cert.MidGradIdeal.Facts] [hMidGradRefIdeal : Cert.MidGradRefIdeal.Facts] : Prop :=
  ∀ (m : (ℓ : Loc Cert.MidGradIdeal.nD Cert.MidGradIdeal.τ Cert.MidGradIdeal.sig) → Buf (Elt Ideal) ℓ) (g : Dev Cert.MidGradIdeal.nD → PrngReg)
    (m' : (ℓ : Loc Cert.MidGradRefIdeal.nD Cert.MidGradRefIdeal.τ Cert.MidGradRefIdeal.sig) → Buf (Elt Ideal) ℓ) (g' : Dev Cert.MidGradRefIdeal.nD → PrngReg), Pre_MidGradIdeal m →
    (∀ c : Dev Cert.MidGradIdeal.nD,
      m' ((c.tc : Thread Cert.MidGradRefIdeal.nD Cert.MidGradRefIdeal.τ).loc Cert.MidGradRefIdeal.main_arg0) = m ((c.tc : Thread Cert.MidGradIdeal.nD Cert.MidGradIdeal.τ).loc Cert.MidGradIdeal.main_arg0)
      ∧ m' ((c.tc : Thread Cert.MidGradRefIdeal.nD Cert.MidGradRefIdeal.τ).loc Cert.MidGradRefIdeal.main_arg1) = m ((c.tc : Thread Cert.MidGradIdeal.nD Cert.MidGradIdeal.τ).loc Cert.MidGradIdeal.main_arg1)
      ∧ m' ((c.tc : Thread Cert.MidGradRefIdeal.nD Cert.MidGradRefIdeal.τ).loc Cert.MidGradRefIdeal.main_arg2) = m ((c.tc : Thread Cert.MidGradIdeal.nD Cert.MidGradIdeal.τ).loc Cert.MidGradIdeal.main_arg2)
      ∧ m' ((c.tc : Thread Cert.MidGradRefIdeal.nD Cert.MidGradRefIdeal.τ).loc Cert.MidGradRefIdeal.main_arg3) = m ((c.tc : Thread Cert.MidGradIdeal.nD Cert.MidGradIdeal.τ).loc Cert.MidGradIdeal.main_arg3)
      ∧ m' ((c.tc : Thread Cert.MidGradRefIdeal.nD Cert.MidGradRefIdeal.τ).loc Cert.MidGradRefIdeal.main_arg4) = m ((c.tc : Thread Cert.MidGradIdeal.nD Cert.MidGradIdeal.τ).loc Cert.MidGradIdeal.main_arg4)
      ∧ m' ((c.tc : Thread Cert.MidGradRefIdeal.nD Cert.MidGradRefIdeal.τ).loc Cert.MidGradRefIdeal.main_arg5) = m ((c.tc : Thread Cert.MidGradIdeal.nD Cert.MidGradIdeal.τ).loc Cert.MidGradIdeal.main_arg5)) →
    ∃ (v0 : (c : Dev Cert.MidGradIdeal.nD) → Buf (Elt Ideal) ((c.tc : Thread Cert.MidGradIdeal.nD Cert.MidGradIdeal.τ).loc Cert.MidGradIdeal.main_v0_0)) (v1 : (c : Dev Cert.MidGradIdeal.nD) → Buf (Elt Ideal) ((c.tc : Thread Cert.MidGradIdeal.nD Cert.MidGradIdeal.τ).loc Cert.MidGradIdeal.main_v0_1)) (v2 : (c : Dev Cert.MidGradIdeal.nD) → Buf (Elt Ideal) ((c.tc : Thread Cert.MidGradIdeal.nD Cert.MidGradIdeal.τ).loc Cert.MidGradIdeal.main_v0_2)) (v3 : (c : Dev Cert.MidGradIdeal.nD) → Buf (Elt Ideal) ((c.tc : Thread Cert.MidGradIdeal.nD Cert.MidGradIdeal.τ).loc Cert.MidGradIdeal.main_v0_3)),
      θ_run (Cert.MidGradIdeal.defs (F := Ideal)) (onTc (τ := Cert.MidGradIdeal.τ) (Cert.MidGradIdeal.main (F := Ideal))) ⟨m, fun _ => 0, g⟩ (fun r => ∀ c : Dev Cert.MidGradIdeal.nD,
          r.2.mem ((c.tc : Thread Cert.MidGradIdeal.nD Cert.MidGradIdeal.τ).loc Cert.MidGradIdeal.main_v0_0) = v0 c
          ∧ r.2.mem ((c.tc : Thread Cert.MidGradIdeal.nD Cert.MidGradIdeal.τ).loc Cert.MidGradIdeal.main_v0_1) = v1 c
          ∧ r.2.mem ((c.tc : Thread Cert.MidGradIdeal.nD Cert.MidGradIdeal.τ).loc Cert.MidGradIdeal.main_v0_2) = v2 c
          ∧ r.2.mem ((c.tc : Thread Cert.MidGradIdeal.nD Cert.MidGradIdeal.τ).loc Cert.MidGradIdeal.main_v0_3) = v3 c
          ∧ r.2.mem ((c.tc : Thread Cert.MidGradIdeal.nD Cert.MidGradIdeal.τ).loc Cert.MidGradIdeal.main_arg0) = m ((c.tc : Thread Cert.MidGradIdeal.nD Cert.MidGradIdeal.τ).loc Cert.MidGradIdeal.main_arg0)
          ∧ r.2.mem ((c.tc : Thread Cert.MidGradIdeal.nD Cert.MidGradIdeal.τ).loc Cert.MidGradIdeal.main_arg1) = m ((c.tc : Thread Cert.MidGradIdeal.nD Cert.MidGradIdeal.τ).loc Cert.MidGradIdeal.main_arg1)
          ∧ r.2.mem ((c.tc : Thread Cert.MidGradIdeal.nD Cert.MidGradIdeal.τ).loc Cert.MidGradIdeal.main_arg2) = m ((c.tc : Thread Cert.MidGradIdeal.nD Cert.MidGradIdeal.τ).loc Cert.MidGradIdeal.main_arg2)
          ∧ r.2.mem ((c.tc : Thread Cert.MidGradIdeal.nD Cert.MidGradIdeal.τ).loc Cert.MidGradIdeal.main_arg3) = m ((c.tc : Thread Cert.MidGradIdeal.nD Cert.MidGradIdeal.τ).loc Cert.MidGradIdeal.main_arg3)
          ∧ r.2.mem ((c.tc : Thread Cert.MidGradIdeal.nD Cert.MidGradIdeal.τ).loc Cert.MidGradIdeal.main_arg4) = m ((c.tc : Thread Cert.MidGradIdeal.nD Cert.MidGradIdeal.τ).loc Cert.MidGradIdeal.main_arg4)
          ∧ r.2.mem ((c.tc : Thread Cert.MidGradIdeal.nD Cert.MidGradIdeal.τ).loc Cert.MidGradIdeal.main_arg5) = m ((c.tc : Thread Cert.MidGradIdeal.nD Cert.MidGradIdeal.τ).loc Cert.MidGradIdeal.main_arg5))
      ∧ θ_run (Cert.MidGradRefIdeal.defs (F := Ideal)) (onTc (τ := Cert.MidGradRefIdeal.τ) (Cert.MidGradRefIdeal.main (F := Ideal))) ⟨m', fun _ => 0, g'⟩ (fun r => ∀ c : Dev Cert.MidGradRefIdeal.nD,
          r.2.mem ((c.tc : Thread Cert.MidGradRefIdeal.nD Cert.MidGradRefIdeal.τ).loc Cert.MidGradRefIdeal.main_v34) = v0 c
          ∧ r.2.mem ((c.tc : Thread Cert.MidGradRefIdeal.nD Cert.MidGradRefIdeal.τ).loc Cert.MidGradRefIdeal.main_v69) = v1 c
          ∧ r.2.mem ((c.tc : Thread Cert.MidGradRefIdeal.nD Cert.MidGradRefIdeal.τ).loc Cert.MidGradRefIdeal.main_v17) = v2 c
          ∧ r.2.mem ((c.tc : Thread Cert.MidGradRefIdeal.nD Cert.MidGradRefIdeal.τ).loc Cert.MidGradRefIdeal.main_v52) = v3 c
          ∧ r.2.mem ((c.tc : Thread Cert.MidGradRefIdeal.nD Cert.MidGradRefIdeal.τ).loc Cert.MidGradRefIdeal.main_arg0) = m' ((c.tc : Thread Cert.MidGradRefIdeal.nD Cert.MidGradRefIdeal.τ).loc Cert.MidGradRefIdeal.main_arg0)
          ∧ r.2.mem ((c.tc : Thread Cert.MidGradRefIdeal.nD Cert.MidGradRefIdeal.τ).loc Cert.MidGradRefIdeal.main_arg1) = m' ((c.tc : Thread Cert.MidGradRefIdeal.nD Cert.MidGradRefIdeal.τ).loc Cert.MidGradRefIdeal.main_arg1)
          ∧ r.2.mem ((c.tc : Thread Cert.MidGradRefIdeal.nD Cert.MidGradRefIdeal.τ).loc Cert.MidGradRefIdeal.main_arg2) = m' ((c.tc : Thread Cert.MidGradRefIdeal.nD Cert.MidGradRefIdeal.τ).loc Cert.MidGradRefIdeal.main_arg2)
          ∧ r.2.mem ((c.tc : Thread Cert.MidGradRefIdeal.nD Cert.MidGradRefIdeal.τ).loc Cert.MidGradRefIdeal.main_arg3) = m' ((c.tc : Thread Cert.MidGradRefIdeal.nD Cert.MidGradRefIdeal.τ).loc Cert.MidGradRefIdeal.main_arg3)
          ∧ r.2.mem ((c.tc : Thread Cert.MidGradRefIdeal.nD Cert.MidGradRefIdeal.τ).loc Cert.MidGradRefIdeal.main_arg4) = m' ((c.tc : Thread Cert.MidGradRefIdeal.nD Cert.MidGradRefIdeal.τ).loc Cert.MidGradRefIdeal.main_arg4)
          ∧ r.2.mem ((c.tc : Thread Cert.MidGradRefIdeal.nD Cert.MidGradRefIdeal.τ).loc Cert.MidGradRefIdeal.main_arg5) = m' ((c.tc : Thread Cert.MidGradRefIdeal.nD Cert.MidGradRefIdeal.τ).loc Cert.MidGradRefIdeal.main_arg5))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v0)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v12) = v0 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)) →
    ∃ (v0 : (c : Dev Cert.ResidualIdeal.nD) → Buf (Elt Ideal) ((c.tc : Thread Cert.ResidualIdeal.nD Cert.ResidualIdeal.τ).loc Cert.ResidualIdeal.main_v0_0)) (v1 : (c : Dev Cert.ResidualIdeal.nD) → Buf (Elt Ideal) ((c.tc : Thread Cert.ResidualIdeal.nD Cert.ResidualIdeal.τ).loc Cert.ResidualIdeal.main_v0_1)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v0_0) = v0 c
          ∧ r.2.mem ((c.tc : Thread Cert.ResidualIdeal.nD Cert.ResidualIdeal.τ).loc Cert.ResidualIdeal.main_v0_1) = v1 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v12) = v0 c
          ∧ r.2.mem ((c.tc : Thread Cert.ResidualRefIdeal.nD Cert.ResidualRefIdeal.τ).loc Cert.ResidualRefIdeal.main_v25) = v1 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v38) = v0 c
          ∧ r.2.mem ((c.tc : Thread Cert.LossHeadRefIdeal.nD Cert.LossHeadRefIdeal.τ).loc Cert.LossHeadRefIdeal.main_v58) = v1 c
          ∧ r.2.mem ((c.tc : Thread Cert.LossHeadRefIdeal.nD Cert.LossHeadRefIdeal.τ).loc Cert.LossHeadRefIdeal.main_v41) = v2 c
          ∧ r.2.mem ((c.tc : Thread Cert.LossHeadRefIdeal.nD Cert.LossHeadRefIdeal.τ).loc Cert.LossHeadRefIdeal.main_v30) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_SwigluGrad_SwigluGradIdeal : Prop :=
  True

def algebraic_SwigluGradIdeal_SwigluGradRefIdeal [hSwigluGradIdeal : Cert.SwigluGradIdeal.Facts] [hSwigluGradRefIdeal : Cert.SwigluGradRefIdeal.Facts] : Prop :=
  ∀ (m : (ℓ : Loc Cert.SwigluGradIdeal.nD Cert.SwigluGradIdeal.τ Cert.SwigluGradIdeal.sig) → Buf (Elt Ideal) ℓ) (g : Dev Cert.SwigluGradIdeal.nD → PrngReg)
    (m' : (ℓ : Loc Cert.SwigluGradRefIdeal.nD Cert.SwigluGradRefIdeal.τ Cert.SwigluGradRefIdeal.sig) → Buf (Elt Ideal) ℓ) (g' : Dev Cert.SwigluGradRefIdeal.nD → PrngReg), Pre_SwigluGradIdeal m →
    (∀ c : Dev Cert.SwigluGradIdeal.nD,
      m' ((c.tc : Thread Cert.SwigluGradRefIdeal.nD Cert.SwigluGradRefIdeal.τ).loc Cert.SwigluGradRefIdeal.main_arg0) = m ((c.tc : Thread Cert.SwigluGradIdeal.nD Cert.SwigluGradIdeal.τ).loc Cert.SwigluGradIdeal.main_arg0)
      ∧ m' ((c.tc : Thread Cert.SwigluGradRefIdeal.nD Cert.SwigluGradRefIdeal.τ).loc Cert.SwigluGradRefIdeal.main_arg1) = m ((c.tc : Thread Cert.SwigluGradIdeal.nD Cert.SwigluGradIdeal.τ).loc Cert.SwigluGradIdeal.main_arg1)) →
    ∃ (v0 : (c : Dev Cert.SwigluGradIdeal.nD) → Buf (Elt Ideal) ((c.tc : Thread Cert.SwigluGradIdeal.nD Cert.SwigluGradIdeal.τ).loc Cert.SwigluGradIdeal.main_v0)),
      θ_run (Cert.SwigluGradIdeal.defs (F := Ideal)) (onTc (τ := Cert.SwigluGradIdeal.τ) (Cert.SwigluGradIdeal.main (F := Ideal))) ⟨m, fun _ => 0, g⟩ (fun r => ∀ c : Dev Cert.SwigluGradIdeal.nD,
          r.2.mem ((c.tc : Thread Cert.SwigluGradIdeal.nD Cert.SwigluGradIdeal.τ).loc Cert.SwigluGradIdeal.main_v0) = v0 c
          ∧ r.2.mem ((c.tc : Thread Cert.SwigluGradIdeal.nD Cert.SwigluGradIdeal.τ).loc Cert.SwigluGradIdeal.main_arg0) = m ((c.tc : Thread Cert.SwigluGradIdeal.nD Cert.SwigluGradIdeal.τ).loc Cert.SwigluGradIdeal.main_arg0)
          ∧ r.2.mem ((c.tc : Thread Cert.SwigluGradIdeal.nD Cert.SwigluGradIdeal.τ).loc Cert.SwigluGradIdeal.main_arg1) = m ((c.tc : Thread Cert.SwigluGradIdeal.nD Cert.SwigluGradIdeal.τ).loc Cert.SwigluGradIdeal.main_arg1))
      ∧ θ_run (Cert.SwigluGradRefIdeal.defs (F := Ideal)) (onTc (τ := Cert.SwigluGradRefIdeal.τ) (Cert.SwigluGradRefIdeal.main (F := Ideal))) ⟨m', fun _ => 0, g'⟩ (fun r => ∀ c : Dev Cert.SwigluGradRefIdeal.nD,
          r.2.mem ((c.tc : Thread Cert.SwigluGradRefIdeal.nD Cert.SwigluGradRefIdeal.τ).loc Cert.SwigluGradRefIdeal.main_v9) = v0 c
          ∧ r.2.mem ((c.tc : Thread Cert.SwigluGradRefIdeal.nD Cert.SwigluGradRefIdeal.τ).loc Cert.SwigluGradRefIdeal.main_arg0) = m' ((c.tc : Thread Cert.SwigluGradRefIdeal.nD Cert.SwigluGradRefIdeal.τ).loc Cert.SwigluGradRefIdeal.main_arg0)
          ∧ r.2.mem ((c.tc : Thread Cert.SwigluGradRefIdeal.nD Cert.SwigluGradRefIdeal.τ).loc Cert.SwigluGradRefIdeal.main_arg1) = m' ((c.tc : Thread Cert.SwigluGradRefIdeal.nD Cert.SwigluGradRefIdeal.τ).loc Cert.SwigluGradRefIdeal.main_arg1))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)) →
    ∃ (v0 : (c : Dev Cert.GatedIdeal.nD) → Buf (Elt Ideal) ((c.tc : Thread Cert.GatedIdeal.nD Cert.GatedIdeal.τ).loc Cert.GatedIdeal.main_v0)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v20) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v0)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v22) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_ConvV_ConvVIdeal : Prop :=
  True

def algebraic_ConvVIdeal_ConvVRefIdeal [hConvVIdeal : Cert.ConvVIdeal.Facts] [hConvVRefIdeal : Cert.ConvVRefIdeal.Facts] : Prop :=
  ∀ (m : (ℓ : Loc Cert.ConvVIdeal.nD Cert.ConvVIdeal.τ Cert.ConvVIdeal.sig) → Buf (Elt Ideal) ℓ) (g : Dev Cert.ConvVIdeal.nD → PrngReg)
    (m' : (ℓ : Loc Cert.ConvVRefIdeal.nD Cert.ConvVRefIdeal.τ Cert.ConvVRefIdeal.sig) → Buf (Elt Ideal) ℓ) (g' : Dev Cert.ConvVRefIdeal.nD → PrngReg), Pre_ConvVIdeal m →
    (∀ c : Dev Cert.ConvVIdeal.nD,
      m' ((c.tc : Thread Cert.ConvVRefIdeal.nD Cert.ConvVRefIdeal.τ).loc Cert.ConvVRefIdeal.main_arg0) = m ((c.tc : Thread Cert.ConvVIdeal.nD Cert.ConvVIdeal.τ).loc Cert.ConvVIdeal.main_arg0)
      ∧ m' ((c.tc : Thread Cert.ConvVRefIdeal.nD Cert.ConvVRefIdeal.τ).loc Cert.ConvVRefIdeal.main_arg1) = m ((c.tc : Thread Cert.ConvVIdeal.nD Cert.ConvVIdeal.τ).loc Cert.ConvVIdeal.main_arg1)) →
    ∃ (v0 : (c : Dev Cert.ConvVIdeal.nD) → Buf (Elt Ideal) ((c.tc : Thread Cert.ConvVIdeal.nD Cert.ConvVIdeal.τ).loc Cert.ConvVIdeal.main_v0)),
      θ_run (Cert.ConvVIdeal.defs (F := Ideal)) (onTc (τ := Cert.ConvVIdeal.τ) (Cert.ConvVIdeal.main (F := Ideal))) ⟨m, fun _ => 0, g⟩ (fun r => ∀ c : Dev Cert.ConvVIdeal.nD,
          r.2.mem ((c.tc : Thread Cert.ConvVIdeal.nD Cert.ConvVIdeal.τ).loc Cert.ConvVIdeal.main_v0) = v0 c
          ∧ r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
          ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1))
      ∧ θ_run (Cert.ConvVRefIdeal.defs (F := Ideal)) (onTc (τ := Cert.ConvVRefIdeal.τ) (Cert.ConvVRefIdeal.main (F := Ideal))) ⟨m', fun _ => 0, g'⟩ (fun r => ∀ c : Dev Cert.ConvVRefIdeal.nD,
          r.2.mem ((c.tc : Thread Cert.ConvVRefIdeal.nD Cert.ConvVRefIdeal.τ).loc Cert.ConvVRefIdeal.main_v37) = v0 c
          ∧ r.2.mem ((c.tc : Thread Cert.ConvVRefIdeal.nD Cert.ConvVRefIdeal.τ).loc Cert.ConvVRefIdeal.main_arg0) = m' ((c.tc : Thread Cert.ConvVRefIdeal.nD Cert.ConvVRefIdeal.τ).loc Cert.ConvVRefIdeal.main_arg0)
          ∧ r.2.mem ((c.tc : Thread Cert.ConvVRefIdeal.nD Cert.ConvVRefIdeal.τ).loc Cert.ConvVRefIdeal.main_arg1) = m' ((c.tc : Thread Cert.ConvVRefIdeal.nD Cert.ConvVRefIdeal.τ).loc Cert.ConvVRefIdeal.main_arg1))

def preserves_ConvK_ConvKIdeal : Prop :=
  True

def algebraic_ConvKIdeal_ConvKRefIdeal [hConvKIdeal : Cert.ConvKIdeal.Facts] [hConvKRefIdeal : Cert.ConvKRefIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvKRefIdeal.nD Cert.ConvKRefIdeal.τ Cert.ConvKRefIdeal.sig) → Buf (Elt Ideal) ℓ) (g' : Dev Cert.ConvKRefIdeal.nD → PrngReg), Pre_ConvKIdeal m →
    (∀ c : Dev Cert.ConvKIdeal.nD,
      m' ((c.tc : Thread Cert.ConvKRefIdeal.nD Cert.ConvKRefIdeal.τ).loc Cert.ConvKRefIdeal.main_arg0) = m ((c.tc : Thread Cert.ConvKIdeal.nD Cert.ConvKIdeal.τ).loc Cert.ConvKIdeal.main_arg0)
      ∧ m' ((c.tc : Thread Cert.ConvKRefIdeal.nD Cert.ConvKRefIdeal.τ).loc Cert.ConvKRefIdeal.main_arg1) = m ((c.tc : Thread Cert.ConvKIdeal.nD Cert.ConvKIdeal.τ).loc Cert.ConvKIdeal.main_arg1)) →
    ∃ (v0 : (c : Dev Cert.ConvKIdeal.nD) → Buf (Elt Ideal) ((c.tc : Thread Cert.ConvKIdeal.nD Cert.ConvKIdeal.τ).loc Cert.ConvKIdeal.main_v0)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v0) = v0 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1))
      ∧ θ_run (Cert.ConvKRefIdeal.defs (F := Ideal)) (onTc (τ := Cert.ConvKRefIdeal.τ) (Cert.ConvKRefIdeal.main (F := Ideal))) ⟨m', fun _ => 0, g'⟩ (fun r => ∀ c : Dev Cert.ConvKRefIdeal.nD,
          r.2.mem ((c.tc : Thread Cert.ConvKRefIdeal.nD Cert.ConvKRefIdeal.τ).loc Cert.ConvKRefIdeal.main_v45) = v0 c
          ∧ r.2.mem ((c.tc : Thread Cert.ConvKRefIdeal.nD Cert.ConvKRefIdeal.τ).loc Cert.ConvKRefIdeal.main_arg0) = m' ((c.tc : Thread Cert.ConvKRefIdeal.nD Cert.ConvKRefIdeal.τ).loc Cert.ConvKRefIdeal.main_arg0)
          ∧ r.2.mem ((c.tc : Thread Cert.ConvKRefIdeal.nD Cert.ConvKRefIdeal.τ).loc Cert.ConvKRefIdeal.main_arg1) = m' ((c.tc : Thread Cert.ConvKRefIdeal.nD Cert.ConvKRefIdeal.τ).loc Cert.ConvKRefIdeal.main_arg1))

def preserves_ConvQ_ConvQIdeal : Prop :=
  True

def algebraic_ConvQIdeal_ConvQRefIdeal [hConvQIdeal : Cert.ConvQIdeal.Facts] [hConvQRefIdeal : Cert.ConvQRefIdeal.Facts] : Prop :=
  ∀ (m : (ℓ : Loc Cert.ConvQIdeal.nD Cert.ConvQIdeal.τ Cert.ConvQIdeal.sig) → Buf (Elt Ideal) ℓ) (g : Dev Cert.ConvQIdeal.nD → PrngReg)
    (m' : (ℓ : Loc Cert.ConvQRefIdeal.nD Cert.ConvQRefIdeal.τ Cert.ConvQRefIdeal.sig) → Buf (Elt Ideal) ℓ) (g' : Dev Cert.ConvQRefIdeal.nD → PrngReg), Pre_ConvQIdeal m →
    (∀ c : Dev Cert.ConvQIdeal.nD,
      m' ((c.tc : Thread Cert.ConvQRefIdeal.nD Cert.ConvQRefIdeal.τ).loc Cert.ConvQRefIdeal.main_arg0) = m ((c.tc : Thread Cert.ConvQIdeal.nD Cert.ConvQIdeal.τ).loc Cert.ConvQIdeal.main_arg0)
      ∧ m' ((c.tc : Thread Cert.ConvQRefIdeal.nD Cert.ConvQRefIdeal.τ).loc Cert.ConvQRefIdeal.main_arg1) = m ((c.tc : Thread Cert.ConvQIdeal.nD Cert.ConvQIdeal.τ).loc Cert.ConvQIdeal.main_arg1)) →
    ∃ (v0 : (c : Dev Cert.ConvQIdeal.nD) → Buf (Elt Ideal) ((c.tc : Thread Cert.ConvQIdeal.nD Cert.ConvQIdeal.τ).loc Cert.ConvQIdeal.main_v0)),
      θ_run (Cert.ConvQIdeal.defs (F := Ideal)) (onTc (τ := Cert.ConvQIdeal.τ) (Cert.ConvQIdeal.main (F := Ideal))) ⟨m, fun _ => 0, g⟩ (fun r => ∀ c : Dev Cert.ConvQIdeal.nD,
          r.2.mem ((c.tc : Thread Cert.ConvQIdeal.nD Cert.ConvQIdeal.τ).loc Cert.ConvQIdeal.main_v0) = v0 c
          ∧ r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
          ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1))
      ∧ θ_run (Cert.ConvQRefIdeal.defs (F := Ideal)) (onTc (τ := Cert.ConvQRefIdeal.τ) (Cert.ConvQRefIdeal.main (F := Ideal))) ⟨m', fun _ => 0, g'⟩ (fun r => ∀ c : Dev Cert.ConvQRefIdeal.nD,
          r.2.mem ((c.tc : Thread Cert.ConvQRefIdeal.nD Cert.ConvQRefIdeal.τ).loc Cert.ConvQRefIdeal.main_v47) = v0 c
          ∧ r.2.mem ((c.tc : Thread Cert.ConvQRefIdeal.nD Cert.ConvQRefIdeal.τ).loc Cert.ConvQRefIdeal.main_arg0) = m' ((c.tc : Thread Cert.ConvQRefIdeal.nD Cert.ConvQRefIdeal.τ).loc Cert.ConvQRefIdeal.main_arg0)
          ∧ r.2.mem ((c.tc : Thread Cert.ConvQRefIdeal.nD Cert.ConvQRefIdeal.τ).loc Cert.ConvQRefIdeal.main_arg1) = m' ((c.tc : Thread Cert.ConvQRefIdeal.nD Cert.ConvQRefIdeal.τ).loc Cert.ConvQRefIdeal.main_arg1))

def preserves_MmProj_MmProjIdeal : Prop :=
  True

def algebraic_MmProjIdeal_MmProjRefIdeal [hMmProjIdeal : Cert.MmProjIdeal.Facts] [hMmProjRefIdeal : Cert.MmProjRefIdeal.Facts] : Prop :=
  ∀ (m : (ℓ : Loc Cert.MmProjIdeal.nD Cert.MmProjIdeal.τ Cert.MmProjIdeal.sig) → Buf (Elt Ideal) ℓ) (g : Dev Cert.MmProjIdeal.nD → PrngReg)
    (m' : (ℓ : Loc Cert.MmProjRefIdeal.nD Cert.MmProjRefIdeal.τ Cert.MmProjRefIdeal.sig) → Buf (Elt Ideal) ℓ) (g' : Dev Cert.MmProjRefIdeal.nD → PrngReg), Pre_MmProjIdeal m →
    (∀ c : Dev Cert.MmProjIdeal.nD,
      m' ((c.tc : Thread Cert.MmProjRefIdeal.nD Cert.MmProjRefIdeal.τ).loc Cert.MmProjRefIdeal.main_arg0) = m ((c.tc : Thread Cert.MmProjIdeal.nD Cert.MmProjIdeal.τ).loc Cert.MmProjIdeal.main_arg0)
      ∧ m' ((c.tc : Thread Cert.MmProjRefIdeal.nD Cert.MmProjRefIdeal.τ).loc Cert.MmProjRefIdeal.main_arg1) = m ((c.tc : Thread Cert.MmProjIdeal.nD Cert.MmProjIdeal.τ).loc Cert.MmProjIdeal.main_arg1)) →
    ∃ (v0 : (c : Dev Cert.MmProjIdeal.nD) → Buf (Elt Ideal) ((c.tc : Thread Cert.MmProjIdeal.nD Cert.MmProjIdeal.τ).loc Cert.MmProjIdeal.main_v0)),
      θ_run (Cert.MmProjIdeal.defs (F := Ideal)) (onTc (τ := Cert.MmProjIdeal.τ) (Cert.MmProjIdeal.main (F := Ideal))) ⟨m, fun _ => 0, g⟩ (fun r => ∀ c : Dev Cert.MmProjIdeal.nD,
          r.2.mem ((c.tc : Thread Cert.MmProjIdeal.nD Cert.MmProjIdeal.τ).loc Cert.MmProjIdeal.main_v0) = v0 c
          ∧ r.2.mem ((c.tc : Thread Cert.MmProjIdeal.nD Cert.MmProjIdeal.τ).loc Cert.MmProjIdeal.main_arg0) = m ((c.tc : Thread Cert.MmProjIdeal.nD Cert.MmProjIdeal.τ).loc Cert.MmProjIdeal.main_arg0)
          ∧ r.2.mem ((c.tc : Thread Cert.MmProjIdeal.nD Cert.MmProjIdeal.τ).loc Cert.MmProjIdeal.main_arg1) = m ((c.tc : Thread Cert.MmProjIdeal.nD Cert.MmProjIdeal.τ).loc Cert.MmProjIdeal.main_arg1))
      ∧ θ_run (Cert.MmProjRefIdeal.defs (F := Ideal)) (onTc (τ := Cert.MmProjRefIdeal.τ) (Cert.MmProjRefIdeal.main (F := Ideal))) ⟨m', fun _ => 0, g'⟩ (fun r => ∀ c : Dev Cert.MmProjRefIdeal.nD,
          r.2.mem ((c.tc : Thread Cert.MmProjRefIdeal.nD Cert.MmProjRefIdeal.τ).loc Cert.MmProjRefIdeal.main_v2) = v0 c
          ∧ r.2.mem ((c.tc : Thread Cert.MmProjRefIdeal.nD Cert.MmProjRefIdeal.τ).loc Cert.MmProjRefIdeal.main_arg0) = m' ((c.tc : Thread Cert.MmProjRefIdeal.nD Cert.MmProjRefIdeal.τ).loc Cert.MmProjRefIdeal.main_arg0)
          ∧ r.2.mem ((c.tc : Thread Cert.MmProjRefIdeal.nD Cert.MmProjRefIdeal.τ).loc Cert.MmProjRefIdeal.main_arg1) = m' ((c.tc : Thread Cert.MmProjRefIdeal.nD Cert.MmProjRefIdeal.τ).loc Cert.MmProjRefIdeal.main_arg1))

def preserves_MmMix_MmMixIdeal : Prop :=
  True

def algebraic_MmMixIdeal_MmMixRefIdeal [hMmMixIdeal : Cert.MmMixIdeal.Facts] [hMmMixRefIdeal : Cert.MmMixRefIdeal.Facts] : Prop :=
  ∀ (m : (ℓ : Loc Cert.MmMixIdeal.nD Cert.MmMixIdeal.τ Cert.MmMixIdeal.sig) → Buf (Elt Ideal) ℓ) (g : Dev Cert.MmMixIdeal.nD → PrngReg)
    (m' : (ℓ : Loc Cert.MmMixRefIdeal.nD Cert.MmMixRefIdeal.τ Cert.MmMixRefIdeal.sig) → Buf (Elt Ideal) ℓ) (g' : Dev Cert.MmMixRefIdeal.nD → PrngReg), Pre_MmMixIdeal m →
    (∀ c : Dev Cert.MmMixIdeal.nD,
      m' ((c.tc : Thread Cert.MmMixRefIdeal.nD Cert.MmMixRefIdeal.τ).loc Cert.MmMixRefIdeal.main_arg0) = m ((c.tc : Thread Cert.MmMixIdeal.nD Cert.MmMixIdeal.τ).loc Cert.MmMixIdeal.main_arg0)
      ∧ m' ((c.tc : Thread Cert.MmMixRefIdeal.nD Cert.MmMixRefIdeal.τ).loc Cert.MmMixRefIdeal.main_arg1) = m ((c.tc : Thread Cert.MmMixIdeal.nD Cert.MmMixIdeal.τ).loc Cert.MmMixIdeal.main_arg1)) →
    ∃ (v0 : (c : Dev Cert.MmMixIdeal.nD) → Buf (Elt Ideal) ((c.tc : Thread Cert.MmMixIdeal.nD Cert.MmMixIdeal.τ).loc Cert.MmMixIdeal.main_v0)),
      θ_run (Cert.MmMixIdeal.defs (F := Ideal)) (onTc (τ := Cert.MmMixIdeal.τ) (Cert.MmMixIdeal.main (F := Ideal))) ⟨m, fun _ => 0, g⟩ (fun r => ∀ c : Dev Cert.MmMixIdeal.nD,
          r.2.mem ((c.tc : Thread Cert.MmMixIdeal.nD Cert.MmMixIdeal.τ).loc Cert.MmMixIdeal.main_v0) = v0 c
          ∧ r.2.mem ((c.tc : Thread Cert.MmMixIdeal.nD Cert.MmMixIdeal.τ).loc Cert.MmMixIdeal.main_arg0) = m ((c.tc : Thread Cert.MmMixIdeal.nD Cert.MmMixIdeal.τ).loc Cert.MmMixIdeal.main_arg0)
          ∧ r.2.mem ((c.tc : Thread Cert.MmMixIdeal.nD Cert.MmMixIdeal.τ).loc Cert.MmMixIdeal.main_arg1) = m ((c.tc : Thread Cert.MmMixIdeal.nD Cert.MmMixIdeal.τ).loc Cert.MmMixIdeal.main_arg1))
      ∧ θ_run (Cert.MmMixRefIdeal.defs (F := Ideal)) (onTc (τ := Cert.MmMixRefIdeal.τ) (Cert.MmMixRefIdeal.main (F := Ideal))) ⟨m', fun _ => 0, g'⟩ (fun r => ∀ c : Dev Cert.MmMixRefIdeal.nD,
          r.2.mem ((c.tc : Thread Cert.MmMixRefIdeal.nD Cert.MmMixRefIdeal.τ).loc Cert.MmMixRefIdeal.main_v2) = v0 c
          ∧ r.2.mem ((c.tc : Thread Cert.MmMixRefIdeal.nD Cert.MmMixRefIdeal.τ).loc Cert.MmMixRefIdeal.main_arg0) = m' ((c.tc : Thread Cert.MmMixRefIdeal.nD Cert.MmMixRefIdeal.τ).loc Cert.MmMixRefIdeal.main_arg0)
          ∧ r.2.mem ((c.tc : Thread Cert.MmMixRefIdeal.nD Cert.MmMixRefIdeal.τ).loc Cert.MmMixRefIdeal.main_arg1) = m' ((c.tc : Thread Cert.MmMixRefIdeal.nD Cert.MmMixRefIdeal.τ).loc Cert.MmMixRefIdeal.main_arg1))

def preserves_MmGateUp_MmGateUpIdeal : Prop :=
  True

def algebraic_MmGateUpIdeal_MmGateUpRefIdeal [hMmGateUpIdeal : Cert.MmGateUpIdeal.Facts] [hMmGateUpRefIdeal : Cert.MmGateUpRefIdeal.Facts] : Prop :=
  ∀ (m : (ℓ : Loc Cert.MmGateUpIdeal.nD Cert.MmGateUpIdeal.τ Cert.MmGateUpIdeal.sig) → Buf (Elt Ideal) ℓ) (g : Dev Cert.MmGateUpIdeal.nD → PrngReg)
    (m' : (ℓ : Loc Cert.MmGateUpRefIdeal.nD Cert.MmGateUpRefIdeal.τ Cert.MmGateUpRefIdeal.sig) → Buf (Elt Ideal) ℓ) (g' : Dev Cert.MmGateUpRefIdeal.nD → PrngReg), Pre_MmGateUpIdeal m →
    (∀ c : Dev Cert.MmGateUpIdeal.nD,
      m' ((c.tc : Thread Cert.MmGateUpRefIdeal.nD Cert.MmGateUpRefIdeal.τ).loc Cert.MmGateUpRefIdeal.main_arg0) = m ((c.tc : Thread Cert.MmGateUpIdeal.nD Cert.MmGateUpIdeal.τ).loc Cert.MmGateUpIdeal.main_arg0)
      ∧ m' ((c.tc : Thread Cert.MmGateUpRefIdeal.nD Cert.MmGateUpRefIdeal.τ).loc Cert.MmGateUpRefIdeal.main_arg1) = m ((c.tc : Thread Cert.MmGateUpIdeal.nD Cert.MmGateUpIdeal.τ).loc Cert.MmGateUpIdeal.main_arg1)) →
    ∃ (v0 : (c : Dev Cert.MmGateUpIdeal.nD) → Buf (Elt Ideal) ((c.tc : Thread Cert.MmGateUpIdeal.nD Cert.MmGateUpIdeal.τ).loc Cert.MmGateUpIdeal.main_v0)),
      θ_run (Cert.MmGateUpIdeal.defs (F := Ideal)) (onTc (τ := Cert.MmGateUpIdeal.τ) (Cert.MmGateUpIdeal.main (F := Ideal))) ⟨m, fun _ => 0, g⟩ (fun r => ∀ c : Dev Cert.MmGateUpIdeal.nD,
          r.2.mem ((c.tc : Thread Cert.MmGateUpIdeal.nD Cert.MmGateUpIdeal.τ).loc Cert.MmGateUpIdeal.main_v0) = v0 c
          ∧ r.2.mem ((c.tc : Thread Cert.MmGateUpIdeal.nD Cert.MmGateUpIdeal.τ).loc Cert.MmGateUpIdeal.main_arg0) = m ((c.tc : Thread Cert.MmGateUpIdeal.nD Cert.MmGateUpIdeal.τ).loc Cert.MmGateUpIdeal.main_arg0)
          ∧ r.2.mem ((c.tc : Thread Cert.MmGateUpIdeal.nD Cert.MmGateUpIdeal.τ).loc Cert.MmGateUpIdeal.main_arg1) = m ((c.tc : Thread Cert.MmGateUpIdeal.nD Cert.MmGateUpIdeal.τ).loc Cert.MmGateUpIdeal.main_arg1))
      ∧ θ_run (Cert.MmGateUpRefIdeal.defs (F := Ideal)) (onTc (τ := Cert.MmGateUpRefIdeal.τ) (Cert.MmGateUpRefIdeal.main (F := Ideal))) ⟨m', fun _ => 0, g'⟩ (fun r => ∀ c : Dev Cert.MmGateUpRefIdeal.nD,
          r.2.mem ((c.tc : Thread Cert.MmGateUpRefIdeal.nD Cert.MmGateUpRefIdeal.τ).loc Cert.MmGateUpRefIdeal.main_v2) = v0 c
          ∧ r.2.mem ((c.tc : Thread Cert.MmGateUpRefIdeal.nD Cert.MmGateUpRefIdeal.τ).loc Cert.MmGateUpRefIdeal.main_arg0) = m' ((c.tc : Thread Cert.MmGateUpRefIdeal.nD Cert.MmGateUpRefIdeal.τ).loc Cert.MmGateUpRefIdeal.main_arg0)
          ∧ r.2.mem ((c.tc : Thread Cert.MmGateUpRefIdeal.nD Cert.MmGateUpRefIdeal.τ).loc Cert.MmGateUpRefIdeal.main_arg1) = m' ((c.tc : Thread Cert.MmGateUpRefIdeal.nD Cert.MmGateUpRefIdeal.τ).loc Cert.MmGateUpRefIdeal.main_arg1))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v2) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1))

def preserves_MmDact_MmDactIdeal : Prop :=
  True

def algebraic_MmDactIdeal_MmDactRefIdeal [hMmDactIdeal : Cert.MmDactIdeal.Facts] [hMmDactRefIdeal : Cert.MmDactRefIdeal.Facts] : Prop :=
  ∀ (m : (ℓ : Loc Cert.MmDactIdeal.nD Cert.MmDactIdeal.τ Cert.MmDactIdeal.sig) → Buf (Elt Ideal) ℓ) (g : Dev Cert.MmDactIdeal.nD → PrngReg)
    (m' : (ℓ : Loc Cert.MmDactRefIdeal.nD Cert.MmDactRefIdeal.τ Cert.MmDactRefIdeal.sig) → Buf (Elt Ideal) ℓ) (g' : Dev Cert.MmDactRefIdeal.nD → PrngReg), Pre_MmDactIdeal m →
    (∀ c : Dev Cert.MmDactIdeal.nD,
      m' ((c.tc : Thread Cert.MmDactRefIdeal.nD Cert.MmDactRefIdeal.τ).loc Cert.MmDactRefIdeal.main_arg0) = m ((c.tc : Thread Cert.MmDactIdeal.nD Cert.MmDactIdeal.τ).loc Cert.MmDactIdeal.main_arg0)
      ∧ m' ((c.tc : Thread Cert.MmDactRefIdeal.nD Cert.MmDactRefIdeal.τ).loc Cert.MmDactRefIdeal.main_arg1) = m ((c.tc : Thread Cert.MmDactIdeal.nD Cert.MmDactIdeal.τ).loc Cert.MmDactIdeal.main_arg1)) →
    ∃ (v0 : (c : Dev Cert.MmDactIdeal.nD) → Buf (Elt Ideal) ((c.tc : Thread Cert.MmDactIdeal.nD Cert.MmDactIdeal.τ).loc Cert.MmDactIdeal.main_v0)),
      θ_run (Cert.MmDactIdeal.defs (F := Ideal)) (onTc (τ := Cert.MmDactIdeal.τ) (Cert.MmDactIdeal.main (F := Ideal))) ⟨m, fun _ => 0, g⟩ (fun r => ∀ c : Dev Cert.MmDactIdeal.nD,
          r.2.mem ((c.tc : Thread Cert.MmDactIdeal.nD Cert.MmDactIdeal.τ).loc Cert.MmDactIdeal.main_v0) = v0 c
          ∧ r.2.mem ((c.tc : Thread Cert.MmDactIdeal.nD Cert.MmDactIdeal.τ).loc Cert.MmDactIdeal.main_arg0) = m ((c.tc : Thread Cert.MmDactIdeal.nD Cert.MmDactIdeal.τ).loc Cert.MmDactIdeal.main_arg0)
          ∧ r.2.mem ((c.tc : Thread Cert.MmDactIdeal.nD Cert.MmDactIdeal.τ).loc Cert.MmDactIdeal.main_arg1) = m ((c.tc : Thread Cert.MmDactIdeal.nD Cert.MmDactIdeal.τ).loc Cert.MmDactIdeal.main_arg1))
      ∧ θ_run (Cert.MmDactRefIdeal.defs (F := Ideal)) (onTc (τ := Cert.MmDactRefIdeal.τ) (Cert.MmDactRefIdeal.main (F := Ideal))) ⟨m', fun _ => 0, g'⟩ (fun r => ∀ c : Dev Cert.MmDactRefIdeal.nD,
          r.2.mem ((c.tc : Thread Cert.MmDactRefIdeal.nD Cert.MmDactRefIdeal.τ).loc Cert.MmDactRefIdeal.main_v3) = v0 c
          ∧ r.2.mem ((c.tc : Thread Cert.MmDactRefIdeal.nD Cert.MmDactRefIdeal.τ).loc Cert.MmDactRefIdeal.main_arg0) = m' ((c.tc : Thread Cert.MmDactRefIdeal.nD Cert.MmDactRefIdeal.τ).loc Cert.MmDactRefIdeal.main_arg0)
          ∧ r.2.mem ((c.tc : Thread Cert.MmDactRefIdeal.nD Cert.MmDactRefIdeal.τ).loc Cert.MmDactRefIdeal.main_arg1) = m' ((c.tc : Thread Cert.MmDactRefIdeal.nD Cert.MmDactRefIdeal.τ).loc Cert.MmDactRefIdeal.main_arg1))

def preserves_MmDwDown_MmDwDownIdeal : Prop :=
  True

def algebraic_MmDwDownIdeal_MmDwDownRefIdeal [hMmDwDownIdeal : Cert.MmDwDownIdeal.Facts] [hMmDwDownRefIdeal : Cert.MmDwDownRefIdeal.Facts] : Prop :=
  ∀ (m : (ℓ : Loc Cert.MmDwDownIdeal.nD Cert.MmDwDownIdeal.τ Cert.MmDwDownIdeal.sig) → Buf (Elt Ideal) ℓ) (g : Dev Cert.MmDwDownIdeal.nD → PrngReg)
    (m' : (ℓ : Loc Cert.MmDwDownRefIdeal.nD Cert.MmDwDownRefIdeal.τ Cert.MmDwDownRefIdeal.sig) → Buf (Elt Ideal) ℓ) (g' : Dev Cert.MmDwDownRefIdeal.nD → PrngReg), Pre_MmDwDownIdeal m →
    (∀ c : Dev Cert.MmDwDownIdeal.nD,
      m' ((c.tc : Thread Cert.MmDwDownRefIdeal.nD Cert.MmDwDownRefIdeal.τ).loc Cert.MmDwDownRefIdeal.main_arg0) = m ((c.tc : Thread Cert.MmDwDownIdeal.nD Cert.MmDwDownIdeal.τ).loc Cert.MmDwDownIdeal.main_arg0)
      ∧ m' ((c.tc : Thread Cert.MmDwDownRefIdeal.nD Cert.MmDwDownRefIdeal.τ).loc Cert.MmDwDownRefIdeal.main_arg1) = m ((c.tc : Thread Cert.MmDwDownIdeal.nD Cert.MmDwDownIdeal.τ).loc Cert.MmDwDownIdeal.main_arg1)) →
    ∃ (v0 : (c : Dev Cert.MmDwDownIdeal.nD) → Buf (Elt Ideal) ((c.tc : Thread Cert.MmDwDownIdeal.nD Cert.MmDwDownIdeal.τ).loc Cert.MmDwDownIdeal.main_v0)),
      θ_run (Cert.MmDwDownIdeal.defs (F := Ideal)) (onTc (τ := Cert.MmDwDownIdeal.τ) (Cert.MmDwDownIdeal.main (F := Ideal))) ⟨m, fun _ => 0, g⟩ (fun r => ∀ c : Dev Cert.MmDwDownIdeal.nD,
          r.2.mem ((c.tc : Thread Cert.MmDwDownIdeal.nD Cert.MmDwDownIdeal.τ).loc Cert.MmDwDownIdeal.main_v0) = v0 c
          ∧ r.2.mem ((c.tc : Thread Cert.MmDwDownIdeal.nD Cert.MmDwDownIdeal.τ).loc Cert.MmDwDownIdeal.main_arg0) = m ((c.tc : Thread Cert.MmDwDownIdeal.nD Cert.MmDwDownIdeal.τ).loc Cert.MmDwDownIdeal.main_arg0)
          ∧ r.2.mem ((c.tc : Thread Cert.MmDwDownIdeal.nD Cert.MmDwDownIdeal.τ).loc Cert.MmDwDownIdeal.main_arg1) = m ((c.tc : Thread Cert.MmDwDownIdeal.nD Cert.MmDwDownIdeal.τ).loc Cert.MmDwDownIdeal.main_arg1))
      ∧ θ_run (Cert.MmDwDownRefIdeal.defs (F := Ideal)) (onTc (τ := Cert.MmDwDownRefIdeal.τ) (Cert.MmDwDownRefIdeal.main (F := Ideal))) ⟨m', fun _ => 0, g'⟩ (fun r => ∀ c : Dev Cert.MmDwDownRefIdeal.nD,
          r.2.mem ((c.tc : Thread Cert.MmDwDownRefIdeal.nD Cert.MmDwDownRefIdeal.τ).loc Cert.MmDwDownRefIdeal.main_v3) = v0 c
          ∧ r.2.mem ((c.tc : Thread Cert.MmDwDownRefIdeal.nD Cert.MmDwDownRefIdeal.τ).loc Cert.MmDwDownRefIdeal.main_arg0) = m' ((c.tc : Thread Cert.MmDwDownRefIdeal.nD Cert.MmDwDownRefIdeal.τ).loc Cert.MmDwDownRefIdeal.main_arg0)
          ∧ r.2.mem ((c.tc : Thread Cert.MmDwDownRefIdeal.nD Cert.MmDwDownRefIdeal.τ).loc Cert.MmDwDownRefIdeal.main_arg1) = m' ((c.tc : Thread Cert.MmDwDownRefIdeal.nD Cert.MmDwDownRefIdeal.τ).loc Cert.MmDwDownRefIdeal.main_arg1))

def preserves_MmDwGateUp_MmDwGateUpIdeal : Prop :=
  True

def algebraic_MmDwGateUpIdeal_MmDwGateUpRefIdeal [hMmDwGateUpIdeal : Cert.MmDwGateUpIdeal.Facts] [hMmDwGateUpRefIdeal : Cert.MmDwGateUpRefIdeal.Facts] : Prop :=
  ∀ (m : (ℓ : Loc Cert.MmDwGateUpIdeal.nD Cert.MmDwGateUpIdeal.τ Cert.MmDwGateUpIdeal.sig) → Buf (Elt Ideal) ℓ) (g : Dev Cert.MmDwGateUpIdeal.nD → PrngReg)
    (m' : (ℓ : Loc Cert.MmDwGateUpRefIdeal.nD Cert.MmDwGateUpRefIdeal.τ Cert.MmDwGateUpRefIdeal.sig) → Buf (Elt Ideal) ℓ) (g' : Dev Cert.MmDwGateUpRefIdeal.nD → PrngReg), Pre_MmDwGateUpIdeal m →
    (∀ c : Dev Cert.MmDwGateUpIdeal.nD,
      m' ((c.tc : Thread Cert.MmDwGateUpRefIdeal.nD Cert.MmDwGateUpRefIdeal.τ).loc Cert.MmDwGateUpRefIdeal.main_arg0) = m ((c.tc : Thread Cert.MmDwGateUpIdeal.nD Cert.MmDwGateUpIdeal.τ).loc Cert.MmDwGateUpIdeal.main_arg0)
      ∧ m' ((c.tc : Thread Cert.MmDwGateUpRefIdeal.nD Cert.MmDwGateUpRefIdeal.τ).loc Cert.MmDwGateUpRefIdeal.main_arg1) = m ((c.tc : Thread Cert.MmDwGateUpIdeal.nD Cert.MmDwGateUpIdeal.τ).loc Cert.MmDwGateUpIdeal.main_arg1)) →
    ∃ (v0 : (c : Dev Cert.MmDwGateUpIdeal.nD) → Buf (Elt Ideal) ((c.tc : Thread Cert.MmDwGateUpIdeal.nD Cert.MmDwGateUpIdeal.τ).loc Cert.MmDwGateUpIdeal.main_v0)),
      θ_run (Cert.MmDwGateUpIdeal.defs (F := Ideal)) (onTc (τ := Cert.MmDwGateUpIdeal.τ) (Cert.MmDwGateUpIdeal.main (F := Ideal))) ⟨m, fun _ => 0, g⟩ (fun r => ∀ c : Dev Cert.MmDwGateUpIdeal.nD,
          r.2.mem ((c.tc : Thread Cert.MmDwGateUpIdeal.nD Cert.MmDwGateUpIdeal.τ).loc Cert.MmDwGateUpIdeal.main_v0) = v0 c
          ∧ r.2.mem ((c.tc : Thread Cert.MmDwGateUpIdeal.nD Cert.MmDwGateUpIdeal.τ).loc Cert.MmDwGateUpIdeal.main_arg0) = m ((c.tc : Thread Cert.MmDwGateUpIdeal.nD Cert.MmDwGateUpIdeal.τ).loc Cert.MmDwGateUpIdeal.main_arg0)
          ∧ r.2.mem ((c.tc : Thread Cert.MmDwGateUpIdeal.nD Cert.MmDwGateUpIdeal.τ).loc Cert.MmDwGateUpIdeal.main_arg1) = m ((c.tc : Thread Cert.MmDwGateUpIdeal.nD Cert.MmDwGateUpIdeal.τ).loc Cert.MmDwGateUpIdeal.main_arg1))
      ∧ θ_run (Cert.MmDwGateUpRefIdeal.defs (F := Ideal)) (onTc (τ := Cert.MmDwGateUpRefIdeal.τ) (Cert.MmDwGateUpRefIdeal.main (F := Ideal))) ⟨m', fun _ => 0, g'⟩ (fun r => ∀ c : Dev Cert.MmDwGateUpRefIdeal.nD,
          r.2.mem ((c.tc : Thread Cert.MmDwGateUpRefIdeal.nD Cert.MmDwGateUpRefIdeal.τ).loc Cert.MmDwGateUpRefIdeal.main_v3) = v0 c
          ∧ r.2.mem ((c.tc : Thread Cert.MmDwGateUpRefIdeal.nD Cert.MmDwGateUpRefIdeal.τ).loc Cert.MmDwGateUpRefIdeal.main_arg0) = m' ((c.tc : Thread Cert.MmDwGateUpRefIdeal.nD Cert.MmDwGateUpRefIdeal.τ).loc Cert.MmDwGateUpRefIdeal.main_arg0)
          ∧ r.2.mem ((c.tc : Thread Cert.MmDwGateUpRefIdeal.nD Cert.MmDwGateUpRefIdeal.τ).loc Cert.MmDwGateUpRefIdeal.main_arg1) = m' ((c.tc : Thread Cert.MmDwGateUpRefIdeal.nD Cert.MmDwGateUpRefIdeal.τ).loc Cert.MmDwGateUpRefIdeal.main_arg1))

def preserves_MmDu2_MmDu2Ideal : Prop :=
  True

def algebraic_MmDu2Ideal_MmDu2RefIdeal [hMmDu2Ideal : Cert.MmDu2Ideal.Facts] [hMmDu2RefIdeal : Cert.MmDu2RefIdeal.Facts] : Prop :=
  ∀ (m : (ℓ : Loc Cert.MmDu2Ideal.nD Cert.MmDu2Ideal.τ Cert.MmDu2Ideal.sig) → Buf (Elt Ideal) ℓ) (g : Dev Cert.MmDu2Ideal.nD → PrngReg)
    (m' : (ℓ : Loc Cert.MmDu2RefIdeal.nD Cert.MmDu2RefIdeal.τ Cert.MmDu2RefIdeal.sig) → Buf (Elt Ideal) ℓ) (g' : Dev Cert.MmDu2RefIdeal.nD → PrngReg), Pre_MmDu2Ideal m →
    (∀ c : Dev Cert.MmDu2Ideal.nD,
      m' ((c.tc : Thread Cert.MmDu2RefIdeal.nD Cert.MmDu2RefIdeal.τ).loc Cert.MmDu2RefIdeal.main_arg0) = m ((c.tc : Thread Cert.MmDu2Ideal.nD Cert.MmDu2Ideal.τ).loc Cert.MmDu2Ideal.main_arg0)
      ∧ m' ((c.tc : Thread Cert.MmDu2RefIdeal.nD Cert.MmDu2RefIdeal.τ).loc Cert.MmDu2RefIdeal.main_arg1) = m ((c.tc : Thread Cert.MmDu2Ideal.nD Cert.MmDu2Ideal.τ).loc Cert.MmDu2Ideal.main_arg1)) →
    ∃ (v0 : (c : Dev Cert.MmDu2Ideal.nD) → Buf (Elt Ideal) ((c.tc : Thread Cert.MmDu2Ideal.nD Cert.MmDu2Ideal.τ).loc Cert.MmDu2Ideal.main_v0)),
      θ_run (Cert.MmDu2Ideal.defs (F := Ideal)) (onTc (τ := Cert.MmDu2Ideal.τ) (Cert.MmDu2Ideal.main (F := Ideal))) ⟨m, fun _ => 0, g⟩ (fun r => ∀ c : Dev Cert.MmDu2Ideal.nD,
          r.2.mem ((c.tc : Thread Cert.MmDu2Ideal.nD Cert.MmDu2Ideal.τ).loc Cert.MmDu2Ideal.main_v0) = v0 c
          ∧ r.2.mem ((c.tc : Thread Cert.MmDu2Ideal.nD Cert.MmDu2Ideal.τ).loc Cert.MmDu2Ideal.main_arg0) = m ((c.tc : Thread Cert.MmDu2Ideal.nD Cert.MmDu2Ideal.τ).loc Cert.MmDu2Ideal.main_arg0)
          ∧ r.2.mem ((c.tc : Thread Cert.MmDu2Ideal.nD Cert.MmDu2Ideal.τ).loc Cert.MmDu2Ideal.main_arg1) = m ((c.tc : Thread Cert.MmDu2Ideal.nD Cert.MmDu2Ideal.τ).loc Cert.MmDu2Ideal.main_arg1))
      ∧ θ_run (Cert.MmDu2RefIdeal.defs (F := Ideal)) (onTc (τ := Cert.MmDu2RefIdeal.τ) (Cert.MmDu2RefIdeal.main (F := Ideal))) ⟨m', fun _ => 0, g'⟩ (fun r => ∀ c : Dev Cert.MmDu2RefIdeal.nD,
          r.2.mem ((c.tc : Thread Cert.MmDu2RefIdeal.nD Cert.MmDu2RefIdeal.τ).loc Cert.MmDu2RefIdeal.main_v3) = v0 c
          ∧ r.2.mem ((c.tc : Thread Cert.MmDu2RefIdeal.nD Cert.MmDu2RefIdeal.τ).loc Cert.MmDu2RefIdeal.main_arg0) = m' ((c.tc : Thread Cert.MmDu2RefIdeal.nD Cert.MmDu2RefIdeal.τ).loc Cert.MmDu2RefIdeal.main_arg0)
          ∧ r.2.mem ((c.tc : Thread Cert.MmDu2RefIdeal.nD Cert.MmDu2RefIdeal.τ).loc Cert.MmDu2RefIdeal.main_arg1) = m' ((c.tc : Thread Cert.MmDu2RefIdeal.nD Cert.MmDu2RefIdeal.τ).loc Cert.MmDu2RefIdeal.main_arg1))

def preserves_MmDcat_MmDcatIdeal : Prop :=
  True

def algebraic_MmDcatIdeal_MmDcatRefIdeal [hMmDcatIdeal : Cert.MmDcatIdeal.Facts] [hMmDcatRefIdeal : Cert.MmDcatRefIdeal.Facts] : Prop :=
  ∀ (m : (ℓ : Loc Cert.MmDcatIdeal.nD Cert.MmDcatIdeal.τ Cert.MmDcatIdeal.sig) → Buf (Elt Ideal) ℓ) (g : Dev Cert.MmDcatIdeal.nD → PrngReg)
    (m' : (ℓ : Loc Cert.MmDcatRefIdeal.nD Cert.MmDcatRefIdeal.τ Cert.MmDcatRefIdeal.sig) → Buf (Elt Ideal) ℓ) (g' : Dev Cert.MmDcatRefIdeal.nD → PrngReg), Pre_MmDcatIdeal m →
    (∀ c : Dev Cert.MmDcatIdeal.nD,
      m' ((c.tc : Thread Cert.MmDcatRefIdeal.nD Cert.MmDcatRefIdeal.τ).loc Cert.MmDcatRefIdeal.main_arg0) = m ((c.tc : Thread Cert.MmDcatIdeal.nD Cert.MmDcatIdeal.τ).loc Cert.MmDcatIdeal.main_arg0)
      ∧ m' ((c.tc : Thread Cert.MmDcatRefIdeal.nD Cert.MmDcatRefIdeal.τ).loc Cert.MmDcatRefIdeal.main_arg1) = m ((c.tc : Thread Cert.MmDcatIdeal.nD Cert.MmDcatIdeal.τ).loc Cert.MmDcatIdeal.main_arg1)) →
    ∃ (v0 : (c : Dev Cert.MmDcatIdeal.nD) → Buf (Elt Ideal) ((c.tc : Thread Cert.MmDcatIdeal.nD Cert.MmDcatIdeal.τ).loc Cert.MmDcatIdeal.main_v0)),
      θ_run (Cert.MmDcatIdeal.defs (F := Ideal)) (onTc (τ := Cert.MmDcatIdeal.τ) (Cert.MmDcatIdeal.main (F := Ideal))) ⟨m, fun _ => 0, g⟩ (fun r => ∀ c : Dev Cert.MmDcatIdeal.nD,
          r.2.mem ((c.tc : Thread Cert.MmDcatIdeal.nD Cert.MmDcatIdeal.τ).loc Cert.MmDcatIdeal.main_v0) = v0 c
          ∧ r.2.mem ((c.tc : Thread Cert.MmDcatIdeal.nD Cert.MmDcatIdeal.τ).loc Cert.MmDcatIdeal.main_arg0) = m ((c.tc : Thread Cert.MmDcatIdeal.nD Cert.MmDcatIdeal.τ).loc Cert.MmDcatIdeal.main_arg0)
          ∧ r.2.mem ((c.tc : Thread Cert.MmDcatIdeal.nD Cert.MmDcatIdeal.τ).loc Cert.MmDcatIdeal.main_arg1) = m ((c.tc : Thread Cert.MmDcatIdeal.nD Cert.MmDcatIdeal.τ).loc Cert.MmDcatIdeal.main_arg1))
      ∧ θ_run (Cert.MmDcatRefIdeal.defs (F := Ideal)) (onTc (τ := Cert.MmDcatRefIdeal.τ) (Cert.MmDcatRefIdeal.main (F := Ideal))) ⟨m', fun _ => 0, g'⟩ (fun r => ∀ c : Dev Cert.MmDcatRefIdeal.nD,
          r.2.mem ((c.tc : Thread Cert.MmDcatRefIdeal.nD Cert.MmDcatRefIdeal.τ).loc Cert.MmDcatRefIdeal.main_v3) = v0 c
          ∧ r.2.mem ((c.tc : Thread Cert.MmDcatRefIdeal.nD Cert.MmDcatRefIdeal.τ).loc Cert.MmDcatRefIdeal.main_arg0) = m' ((c.tc : Thread Cert.MmDcatRefIdeal.nD Cert.MmDcatRefIdeal.τ).loc Cert.MmDcatRefIdeal.main_arg0)
          ∧ r.2.mem ((c.tc : Thread Cert.MmDcatRefIdeal.nD Cert.MmDcatRefIdeal.τ).loc Cert.MmDcatRefIdeal.main_arg1) = m' ((c.tc : Thread Cert.MmDcatRefIdeal.nD Cert.MmDcatRefIdeal.τ).loc Cert.MmDcatRefIdeal.main_arg1))

def preserves_MmDwOut_MmDwOutIdeal : Prop :=
  True

def algebraic_MmDwOutIdeal_MmDwOutRefIdeal [hMmDwOutIdeal : Cert.MmDwOutIdeal.Facts] [hMmDwOutRefIdeal : Cert.MmDwOutRefIdeal.Facts] : Prop :=
  ∀ (m : (ℓ : Loc Cert.MmDwOutIdeal.nD Cert.MmDwOutIdeal.τ Cert.MmDwOutIdeal.sig) → Buf (Elt Ideal) ℓ) (g : Dev Cert.MmDwOutIdeal.nD → PrngReg)
    (m' : (ℓ : Loc Cert.MmDwOutRefIdeal.nD Cert.MmDwOutRefIdeal.τ Cert.MmDwOutRefIdeal.sig) → Buf (Elt Ideal) ℓ) (g' : Dev Cert.MmDwOutRefIdeal.nD → PrngReg), Pre_MmDwOutIdeal m →
    (∀ c : Dev Cert.MmDwOutIdeal.nD,
      m' ((c.tc : Thread Cert.MmDwOutRefIdeal.nD Cert.MmDwOutRefIdeal.τ).loc Cert.MmDwOutRefIdeal.main_arg0) = m ((c.tc : Thread Cert.MmDwOutIdeal.nD Cert.MmDwOutIdeal.τ).loc Cert.MmDwOutIdeal.main_arg0)
      ∧ m' ((c.tc : Thread Cert.MmDwOutRefIdeal.nD Cert.MmDwOutRefIdeal.τ).loc Cert.MmDwOutRefIdeal.main_arg1) = m ((c.tc : Thread Cert.MmDwOutIdeal.nD Cert.MmDwOutIdeal.τ).loc Cert.MmDwOutIdeal.main_arg1)) →
    ∃ (v0 : (c : Dev Cert.MmDwOutIdeal.nD) → Buf (Elt Ideal) ((c.tc : Thread Cert.MmDwOutIdeal.nD Cert.MmDwOutIdeal.τ).loc Cert.MmDwOutIdeal.main_v0)),
      θ_run (Cert.MmDwOutIdeal.defs (F := Ideal)) (onTc (τ := Cert.MmDwOutIdeal.τ) (Cert.MmDwOutIdeal.main (F := Ideal))) ⟨m, fun _ => 0, g⟩ (fun r => ∀ c : Dev Cert.MmDwOutIdeal.nD,
          r.2.mem ((c.tc : Thread Cert.MmDwOutIdeal.nD Cert.MmDwOutIdeal.τ).loc Cert.MmDwOutIdeal.main_v0) = v0 c
          ∧ r.2.mem ((c.tc : Thread Cert.MmDwOutIdeal.nD Cert.MmDwOutIdeal.τ).loc Cert.MmDwOutIdeal.main_arg0) = m ((c.tc : Thread Cert.MmDwOutIdeal.nD Cert.MmDwOutIdeal.τ).loc Cert.MmDwOutIdeal.main_arg0)
          ∧ r.2.mem ((c.tc : Thread Cert.MmDwOutIdeal.nD Cert.MmDwOutIdeal.τ).loc Cert.MmDwOutIdeal.main_arg1) = m ((c.tc : Thread Cert.MmDwOutIdeal.nD Cert.MmDwOutIdeal.τ).loc Cert.MmDwOutIdeal.main_arg1))
      ∧ θ_run (Cert.MmDwOutRefIdeal.defs (F := Ideal)) (onTc (τ := Cert.MmDwOutRefIdeal.τ) (Cert.MmDwOutRefIdeal.main (F := Ideal))) ⟨m', fun _ => 0, g'⟩ (fun r => ∀ c : Dev Cert.MmDwOutRefIdeal.nD,
          r.2.mem ((c.tc : Thread Cert.MmDwOutRefIdeal.nD Cert.MmDwOutRefIdeal.τ).loc Cert.MmDwOutRefIdeal.main_v3) = v0 c
          ∧ r.2.mem ((c.tc : Thread Cert.MmDwOutRefIdeal.nD Cert.MmDwOutRefIdeal.τ).loc Cert.MmDwOutRefIdeal.main_arg0) = m' ((c.tc : Thread Cert.MmDwOutRefIdeal.nD Cert.MmDwOutRefIdeal.τ).loc Cert.MmDwOutRefIdeal.main_arg0)
          ∧ r.2.mem ((c.tc : Thread Cert.MmDwOutRefIdeal.nD Cert.MmDwOutRefIdeal.τ).loc Cert.MmDwOutRefIdeal.main_arg1) = m' ((c.tc : Thread Cert.MmDwOutRefIdeal.nD Cert.MmDwOutRefIdeal.τ).loc Cert.MmDwOutRefIdeal.main_arg1))

def preserves_MmDwIn_MmDwInIdeal : Prop :=
  True

def algebraic_MmDwInIdeal_MmDwInRefIdeal [hMmDwInIdeal : Cert.MmDwInIdeal.Facts] [hMmDwInRefIdeal : Cert.MmDwInRefIdeal.Facts] : Prop :=
  ∀ (m : (ℓ : Loc Cert.MmDwInIdeal.nD Cert.MmDwInIdeal.τ Cert.MmDwInIdeal.sig) → Buf (Elt Ideal) ℓ) (g : Dev Cert.MmDwInIdeal.nD → PrngReg)
    (m' : (ℓ : Loc Cert.MmDwInRefIdeal.nD Cert.MmDwInRefIdeal.τ Cert.MmDwInRefIdeal.sig) → Buf (Elt Ideal) ℓ) (g' : Dev Cert.MmDwInRefIdeal.nD → PrngReg), Pre_MmDwInIdeal m →
    (∀ c : Dev Cert.MmDwInIdeal.nD,
      m' ((c.tc : Thread Cert.MmDwInRefIdeal.nD Cert.MmDwInRefIdeal.τ).loc Cert.MmDwInRefIdeal.main_arg0) = m ((c.tc : Thread Cert.MmDwInIdeal.nD Cert.MmDwInIdeal.τ).loc Cert.MmDwInIdeal.main_arg0)
      ∧ m' ((c.tc : Thread Cert.MmDwInRefIdeal.nD Cert.MmDwInRefIdeal.τ).loc Cert.MmDwInRefIdeal.main_arg1) = m ((c.tc : Thread Cert.MmDwInIdeal.nD Cert.MmDwInIdeal.τ).loc Cert.MmDwInIdeal.main_arg1)) →
    ∃ (v0 : (c : Dev Cert.MmDwInIdeal.nD) → Buf (Elt Ideal) ((c.tc : Thread Cert.MmDwInIdeal.nD Cert.MmDwInIdeal.τ).loc Cert.MmDwInIdeal.main_v0)),
      θ_run (Cert.MmDwInIdeal.defs (F := Ideal)) (onTc (τ := Cert.MmDwInIdeal.τ) (Cert.MmDwInIdeal.main (F := Ideal))) ⟨m, fun _ => 0, g⟩ (fun r => ∀ c : Dev Cert.MmDwInIdeal.nD,
          r.2.mem ((c.tc : Thread Cert.MmDwInIdeal.nD Cert.MmDwInIdeal.τ).loc Cert.MmDwInIdeal.main_v0) = v0 c
          ∧ r.2.mem ((c.tc : Thread Cert.MmDwInIdeal.nD Cert.MmDwInIdeal.τ).loc Cert.MmDwInIdeal.main_arg0) = m ((c.tc : Thread Cert.MmDwInIdeal.nD Cert.MmDwInIdeal.τ).loc Cert.MmDwInIdeal.main_arg0)
          ∧ r.2.mem ((c.tc : Thread Cert.MmDwInIdeal.nD Cert.MmDwInIdeal.τ).loc Cert.MmDwInIdeal.main_arg1) = m ((c.tc : Thread Cert.MmDwInIdeal.nD Cert.MmDwInIdeal.τ).loc Cert.MmDwInIdeal.main_arg1))
      ∧ θ_run (Cert.MmDwInRefIdeal.defs (F := Ideal)) (onTc (τ := Cert.MmDwInRefIdeal.τ) (Cert.MmDwInRefIdeal.main (F := Ideal))) ⟨m', fun _ => 0, g'⟩ (fun r => ∀ c : Dev Cert.MmDwInRefIdeal.nD,
          r.2.mem ((c.tc : Thread Cert.MmDwInRefIdeal.nD Cert.MmDwInRefIdeal.τ).loc Cert.MmDwInRefIdeal.main_v3) = v0 c
          ∧ r.2.mem ((c.tc : Thread Cert.MmDwInRefIdeal.nD Cert.MmDwInRefIdeal.τ).loc Cert.MmDwInRefIdeal.main_arg0) = m' ((c.tc : Thread Cert.MmDwInRefIdeal.nD Cert.MmDwInRefIdeal.τ).loc Cert.MmDwInRefIdeal.main_arg0)
          ∧ r.2.mem ((c.tc : Thread Cert.MmDwInRefIdeal.nD Cert.MmDwInRefIdeal.τ).loc Cert.MmDwInRefIdeal.main_arg1) = m' ((c.tc : Thread Cert.MmDwInRefIdeal.nD Cert.MmDwInRefIdeal.τ).loc Cert.MmDwInRefIdeal.main_arg1))

def preserves_MmDu1_MmDu1Ideal : Prop :=
  True

def algebraic_MmDu1Ideal_MmDu1RefIdeal [hMmDu1Ideal : Cert.MmDu1Ideal.Facts] [hMmDu1RefIdeal : Cert.MmDu1RefIdeal.Facts] : Prop :=
  ∀ (m : (ℓ : Loc Cert.MmDu1Ideal.nD Cert.MmDu1Ideal.τ Cert.MmDu1Ideal.sig) → Buf (Elt Ideal) ℓ) (g : Dev Cert.MmDu1Ideal.nD → PrngReg)
    (m' : (ℓ : Loc Cert.MmDu1RefIdeal.nD Cert.MmDu1RefIdeal.τ Cert.MmDu1RefIdeal.sig) → Buf (Elt Ideal) ℓ) (g' : Dev Cert.MmDu1RefIdeal.nD → PrngReg), Pre_MmDu1Ideal m →
    (∀ c : Dev Cert.MmDu1Ideal.nD,
      m' ((c.tc : Thread Cert.MmDu1RefIdeal.nD Cert.MmDu1RefIdeal.τ).loc Cert.MmDu1RefIdeal.main_arg0) = m ((c.tc : Thread Cert.MmDu1Ideal.nD Cert.MmDu1Ideal.τ).loc Cert.MmDu1Ideal.main_arg0)
      ∧ m' ((c.tc : Thread Cert.MmDu1RefIdeal.nD Cert.MmDu1RefIdeal.τ).loc Cert.MmDu1RefIdeal.main_arg1) = m ((c.tc : Thread Cert.MmDu1Ideal.nD Cert.MmDu1Ideal.τ).loc Cert.MmDu1Ideal.main_arg1)) →
    ∃ (v0 : (c : Dev Cert.MmDu1Ideal.nD) → Buf (Elt Ideal) ((c.tc : Thread Cert.MmDu1Ideal.nD Cert.MmDu1Ideal.τ).loc Cert.MmDu1Ideal.main_v0)),
      θ_run (Cert.MmDu1Ideal.defs (F := Ideal)) (onTc (τ := Cert.MmDu1Ideal.τ) (Cert.MmDu1Ideal.main (F := Ideal))) ⟨m, fun _ => 0, g⟩ (fun r => ∀ c : Dev Cert.MmDu1Ideal.nD,
          r.2.mem ((c.tc : Thread Cert.MmDu1Ideal.nD Cert.MmDu1Ideal.τ).loc Cert.MmDu1Ideal.main_v0) = v0 c
          ∧ r.2.mem ((c.tc : Thread Cert.MmDu1Ideal.nD Cert.MmDu1Ideal.τ).loc Cert.MmDu1Ideal.main_arg0) = m ((c.tc : Thread Cert.MmDu1Ideal.nD Cert.MmDu1Ideal.τ).loc Cert.MmDu1Ideal.main_arg0)
          ∧ r.2.mem ((c.tc : Thread Cert.MmDu1Ideal.nD Cert.MmDu1Ideal.τ).loc Cert.MmDu1Ideal.main_arg1) = m ((c.tc : Thread Cert.MmDu1Ideal.nD Cert.MmDu1Ideal.τ).loc Cert.MmDu1Ideal.main_arg1))
      ∧ θ_run (Cert.MmDu1RefIdeal.defs (F := Ideal)) (onTc (τ := Cert.MmDu1RefIdeal.τ) (Cert.MmDu1RefIdeal.main (F := Ideal))) ⟨m', fun _ => 0, g'⟩ (fun r => ∀ c : Dev Cert.MmDu1RefIdeal.nD,
          r.2.mem ((c.tc : Thread Cert.MmDu1RefIdeal.nD Cert.MmDu1RefIdeal.τ).loc Cert.MmDu1RefIdeal.main_v3) = v0 c
          ∧ r.2.mem ((c.tc : Thread Cert.MmDu1RefIdeal.nD Cert.MmDu1RefIdeal.τ).loc Cert.MmDu1RefIdeal.main_arg0) = m' ((c.tc : Thread Cert.MmDu1RefIdeal.nD Cert.MmDu1RefIdeal.τ).loc Cert.MmDu1RefIdeal.main_arg0)
          ∧ r.2.mem ((c.tc : Thread Cert.MmDu1RefIdeal.nD Cert.MmDu1RefIdeal.τ).loc Cert.MmDu1RefIdeal.main_arg1) = m' ((c.tc : Thread Cert.MmDu1RefIdeal.nD Cert.MmDu1RefIdeal.τ).loc Cert.MmDu1RefIdeal.main_arg1))

def Claim : Prop :=
  ∃ (hShareHalves : Cert.ShareHalves.Facts) (hShareHalvesIdeal : Cert.ShareHalvesIdeal.Facts) (hShareHalvesRefIdeal : Cert.ShareHalvesRefIdeal.Facts) (hShareHalvesRef : Cert.ShareHalvesRef.Facts) (hExchangeChips : Cert.ExchangeChips.Facts) (hExchangeChipsIdeal : Cert.ExchangeChipsIdeal.Facts) (hExchangeChipsRefIdeal : Cert.ExchangeChipsRefIdeal.Facts) (hExchangeChipsRef : Cert.ExchangeChipsRef.Facts) (hExchangeSiblings : Cert.ExchangeSiblings.Facts) (hExchangeSiblingsIdeal : Cert.ExchangeSiblingsIdeal.Facts) (hExchangeSiblingsRefIdeal : Cert.ExchangeSiblingsRefIdeal.Facts) (hExchangeSiblingsRef : Cert.ExchangeSiblingsRef.Facts) (hGatherWeights : Cert.GatherWeights.Facts) (hGatherWeightsIdeal : Cert.GatherWeightsIdeal.Facts) (hGatherWeightsRefIdeal : Cert.GatherWeightsRefIdeal.Facts) (hGatherWeightsRef : Cert.GatherWeightsRef.Facts) (hSharePieces : Cert.SharePieces.Facts) (hSharePiecesIdeal : Cert.SharePiecesIdeal.Facts) (hSharePiecesRefIdeal : Cert.SharePiecesRefIdeal.Facts) (hReduceSmall : Cert.ReduceSmall.Facts) (hReduceSmallIdeal : Cert.ReduceSmallIdeal.Facts) (hReduceSmallRefIdeal : Cert.ReduceSmallRefIdeal.Facts) (hMetaStep : Cert.MetaStep.Facts) (hMetaStepIdeal : Cert.MetaStepIdeal.Facts) (hMetaStepRefIdeal : Cert.MetaStepRefIdeal.Facts) (hNormStep : Cert.NormStep.Facts) (hNormStepIdeal : Cert.NormStepIdeal.Facts) (hNormStepRefIdeal : Cert.NormStepRefIdeal.Facts) (hWInStep : Cert.WInStep.Facts) (hWInStepIdeal : Cert.WInStepIdeal.Facts) (hWInStepRefIdeal : Cert.WInStepRefIdeal.Facts) (hConvQkvStep : Cert.ConvQkvStep.Facts) (hConvQkvStepIdeal : Cert.ConvQkvStepIdeal.Facts) (hConvQkvStepRefIdeal : Cert.ConvQkvStepRefIdeal.Facts) (hALogStep : Cert.ALogStep.Facts) (hALogStepIdeal : Cert.ALogStepIdeal.Facts) (hALogStepRefIdeal : Cert.ALogStepRefIdeal.Facts) (hGdnNormStep : Cert.GdnNormStep.Facts) (hGdnNormStepIdeal : Cert.GdnNormStepIdeal.Facts) (hGdnNormStepRefIdeal : Cert.GdnNormStepRefIdeal.Facts) (hConvScStep : Cert.ConvScStep.Facts) (hConvScStepIdeal : Cert.ConvScStepIdeal.Facts) (hConvScStepRefIdeal : Cert.ConvScStepRefIdeal.Facts) (hWOutStep : Cert.WOutStep.Facts) (hWOutStepIdeal : Cert.WOutStepIdeal.Facts) (hWOutStepRefIdeal : Cert.WOutStepRefIdeal.Facts) (hWGateStep : Cert.WGateStep.Facts) (hWGateStepIdeal : Cert.WGateStepIdeal.Facts) (hWGateStepRefIdeal : Cert.WGateStepRefIdeal.Facts) (hWDownStep : Cert.WDownStep.Facts) (hWDownStepIdeal : Cert.WDownStepIdeal.Facts) (hWDownStepRefIdeal : Cert.WDownStepRefIdeal.Facts) (hInputGrad : Cert.InputGrad.Facts) (hInputGradIdeal : Cert.InputGradIdeal.Facts) (hInputGradRefIdeal : Cert.InputGradRefIdeal.Facts) (hMidGrad : Cert.MidGrad.Facts) (hMidGradIdeal : Cert.MidGradIdeal.Facts) (hMidGradRefIdeal : Cert.MidGradRefIdeal.Facts) (hFirstNorm : Cert.FirstNorm.Facts) (hFirstNormIdeal : Cert.FirstNormIdeal.Facts) (hFirstNormRefIdeal : Cert.FirstNormRefIdeal.Facts) (hResidual : Cert.Residual.Facts) (hResidualIdeal : Cert.ResidualIdeal.Facts) (hResidualRefIdeal : Cert.ResidualRefIdeal.Facts) (hSwiglu : Cert.Swiglu.Facts) (hSwigluIdeal : Cert.SwigluIdeal.Facts) (hSwigluRefIdeal : Cert.SwigluRefIdeal.Facts) (hLossHead : Cert.LossHead.Facts) (hLossHeadIdeal : Cert.LossHeadIdeal.Facts) (hLossHeadRefIdeal : Cert.LossHeadRefIdeal.Facts) (hSwigluGrad : Cert.SwigluGrad.Facts) (hSwigluGradIdeal : Cert.SwigluGradIdeal.Facts) (hSwigluGradRefIdeal : Cert.SwigluGradRefIdeal.Facts) (hGated : Cert.Gated.Facts) (hGatedIdeal : Cert.GatedIdeal.Facts) (hGatedRefIdeal : Cert.GatedRefIdeal.Facts) (hGates : Cert.Gates.Facts) (hGatesIdeal : Cert.GatesIdeal.Facts) (hGatesRefIdeal : Cert.GatesRefIdeal.Facts) (hConvV : Cert.ConvV.Facts) (hConvVIdeal : Cert.ConvVIdeal.Facts) (hConvVRefIdeal : Cert.ConvVRefIdeal.Facts) (hConvK : Cert.ConvK.Facts) (hConvKIdeal : Cert.ConvKIdeal.Facts) (hConvKRefIdeal : Cert.ConvKRefIdeal.Facts) (hConvQ : Cert.ConvQ.Facts) (hConvQIdeal : Cert.ConvQIdeal.Facts) (hConvQRefIdeal : Cert.ConvQRefIdeal.Facts) (hMmProj : Cert.MmProj.Facts) (hMmProjIdeal : Cert.MmProjIdeal.Facts) (hMmProjRefIdeal : Cert.MmProjRefIdeal.Facts) (hMmMix : Cert.MmMix.Facts) (hMmMixIdeal : Cert.MmMixIdeal.Facts) (hMmMixRefIdeal : Cert.MmMixRefIdeal.Facts) (hMmGateUp : Cert.MmGateUp.Facts) (hMmGateUpIdeal : Cert.MmGateUpIdeal.Facts) (hMmGateUpRefIdeal : Cert.MmGateUpRefIdeal.Facts) (hMmDown : Cert.MmDown.Facts) (hMmDownIdeal : Cert.MmDownIdeal.Facts) (hMmDownRefIdeal : Cert.MmDownRefIdeal.Facts) (hMmDact : Cert.MmDact.Facts) (hMmDactIdeal : Cert.MmDactIdeal.Facts) (hMmDactRefIdeal : Cert.MmDactRefIdeal.Facts) (hMmDwDown : Cert.MmDwDown.Facts) (hMmDwDownIdeal : Cert.MmDwDownIdeal.Facts) (hMmDwDownRefIdeal : Cert.MmDwDownRefIdeal.Facts) (hMmDwGateUp : Cert.MmDwGateUp.Facts) (hMmDwGateUpIdeal : Cert.MmDwGateUpIdeal.Facts) (hMmDwGateUpRefIdeal : Cert.MmDwGateUpRefIdeal.Facts) (hMmDu2 : Cert.MmDu2.Facts) (hMmDu2Ideal : Cert.MmDu2Ideal.Facts) (hMmDu2RefIdeal : Cert.MmDu2RefIdeal.Facts) (hMmDcat : Cert.MmDcat.Facts) (hMmDcatIdeal : Cert.MmDcatIdeal.Facts) (hMmDcatRefIdeal : Cert.MmDcatRefIdeal.Facts) (hMmDwOut : Cert.MmDwOut.Facts) (hMmDwOutIdeal : Cert.MmDwOutIdeal.Facts) (hMmDwOutRefIdeal : Cert.MmDwOutRefIdeal.Facts) (hMmDwIn : Cert.MmDwIn.Facts) (hMmDwInIdeal : Cert.MmDwInIdeal.Facts) (hMmDwInRefIdeal : Cert.MmDwInRefIdeal.Facts) (hMmDu1 : Cert.MmDu1.Facts) (hMmDu1Ideal : Cert.MmDu1Ideal.Facts) (hMmDu1RefIdeal : Cert.MmDu1RefIdeal.Facts),
    quiescent_ShareHalves (hShareHalves := hShareHalves)
    ∧ quiescent_ShareHalvesIdeal (hShareHalvesIdeal := hShareHalvesIdeal)
    ∧ quiescent_ShareHalvesRefIdeal (hShareHalvesRefIdeal := hShareHalvesRefIdeal)
    ∧ quiescent_ShareHalvesRef (hShareHalvesRef := hShareHalvesRef)
    ∧ quiescent_ExchangeChips (hExchangeChips := hExchangeChips)
    ∧ quiescent_ExchangeChipsIdeal (hExchangeChipsIdeal := hExchangeChipsIdeal)
    ∧ quiescent_ExchangeChipsRefIdeal (hExchangeChipsRefIdeal := hExchangeChipsRefIdeal)
    ∧ quiescent_ExchangeChipsRef (hExchangeChipsRef := hExchangeChipsRef)
    ∧ quiescent_ExchangeSiblings (hExchangeSiblings := hExchangeSiblings)
    ∧ quiescent_ExchangeSiblingsIdeal (hExchangeSiblingsIdeal := hExchangeSiblingsIdeal)
    ∧ quiescent_ExchangeSiblingsRefIdeal (hExchangeSiblingsRefIdeal := hExchangeSiblingsRefIdeal)
    ∧ quiescent_ExchangeSiblingsRef (hExchangeSiblingsRef := hExchangeSiblingsRef)
    ∧ quiescent_GatherWeights (hGatherWeights := hGatherWeights)
    ∧ quiescent_GatherWeightsIdeal (hGatherWeightsIdeal := hGatherWeightsIdeal)
    ∧ quiescent_GatherWeightsRefIdeal (hGatherWeightsRefIdeal := hGatherWeightsRefIdeal)
    ∧ quiescent_GatherWeightsRef (hGatherWeightsRef := hGatherWeightsRef)
    ∧ quiescent_SharePieces (hSharePieces := hSharePieces)
    ∧ quiescent_SharePiecesIdeal (hSharePiecesIdeal := hSharePiecesIdeal)
    ∧ quiescent_SharePiecesRefIdeal (hSharePiecesRefIdeal := hSharePiecesRefIdeal)
    ∧ quiescent_ReduceSmall (hReduceSmall := hReduceSmall)
    ∧ quiescent_ReduceSmallIdeal (hReduceSmallIdeal := hReduceSmallIdeal)
    ∧ quiescent_ReduceSmallRefIdeal (hReduceSmallRefIdeal := hReduceSmallRefIdeal)
    ∧ quiescent_MetaStep (hMetaStep := hMetaStep)
    ∧ quiescent_MetaStepIdeal (hMetaStepIdeal := hMetaStepIdeal)
    ∧ quiescent_MetaStepRefIdeal (hMetaStepRefIdeal := hMetaStepRefIdeal)
    ∧ quiescent_NormStep (hNormStep := hNormStep)
    ∧ quiescent_NormStepIdeal (hNormStepIdeal := hNormStepIdeal)
    ∧ quiescent_NormStepRefIdeal (hNormStepRefIdeal := hNormStepRefIdeal)
    ∧ quiescent_WInStep (hWInStep := hWInStep)
    ∧ quiescent_WInStepIdeal (hWInStepIdeal := hWInStepIdeal)
    ∧ quiescent_WInStepRefIdeal (hWInStepRefIdeal := hWInStepRefIdeal)
    ∧ quiescent_ConvQkvStep (hConvQkvStep := hConvQkvStep)
    ∧ quiescent_ConvQkvStepIdeal (hConvQkvStepIdeal := hConvQkvStepIdeal)
    ∧ quiescent_ConvQkvStepRefIdeal (hConvQkvStepRefIdeal := hConvQkvStepRefIdeal)
    ∧ quiescent_ALogStep (hALogStep := hALogStep)
    ∧ quiescent_ALogStepIdeal (hALogStepIdeal := hALogStepIdeal)
    ∧ quiescent_ALogStepRefIdeal (hALogStepRefIdeal := hALogStepRefIdeal)
    ∧ quiescent_GdnNormStep (hGdnNormStep := hGdnNormStep)
    ∧ quiescent_GdnNormStepIdeal (hGdnNormStepIdeal := hGdnNormStepIdeal)
    ∧ quiescent_GdnNormStepRefIdeal (hGdnNormStepRefIdeal := hGdnNormStepRefIdeal)
    ∧ quiescent_ConvScStep (hConvScStep := hConvScStep)
    ∧ quiescent_ConvScStepIdeal (hConvScStepIdeal := hConvScStepIdeal)
    ∧ quiescent_ConvScStepRefIdeal (hConvScStepRefIdeal := hConvScStepRefIdeal)
    ∧ quiescent_WOutStep (hWOutStep := hWOutStep)
    ∧ quiescent_WOutStepIdeal (hWOutStepIdeal := hWOutStepIdeal)
    ∧ quiescent_WOutStepRefIdeal (hWOutStepRefIdeal := hWOutStepRefIdeal)
    ∧ quiescent_WGateStep (hWGateStep := hWGateStep)
    ∧ quiescent_WGateStepIdeal (hWGateStepIdeal := hWGateStepIdeal)
    ∧ quiescent_WGateStepRefIdeal (hWGateStepRefIdeal := hWGateStepRefIdeal)
    ∧ quiescent_WDownStep (hWDownStep := hWDownStep)
    ∧ quiescent_WDownStepIdeal (hWDownStepIdeal := hWDownStepIdeal)
    ∧ quiescent_WDownStepRefIdeal (hWDownStepRefIdeal := hWDownStepRefIdeal)
    ∧ quiescent_InputGrad (hInputGrad := hInputGrad)
    ∧ quiescent_InputGradIdeal (hInputGradIdeal := hInputGradIdeal)
    ∧ quiescent_InputGradRefIdeal (hInputGradRefIdeal := hInputGradRefIdeal)
    ∧ quiescent_MidGrad (hMidGrad := hMidGrad)
    ∧ quiescent_MidGradIdeal (hMidGradIdeal := hMidGradIdeal)
    ∧ quiescent_MidGradRefIdeal (hMidGradRefIdeal := hMidGradRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_Residual (hResidual := hResidual)
    ∧ quiescent_ResidualIdeal (hResidualIdeal := hResidualIdeal)
    ∧ quiescent_ResidualRefIdeal (hResidualRefIdeal := hResidualRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SwigluGrad (hSwigluGrad := hSwigluGrad)
    ∧ quiescent_SwigluGradIdeal (hSwigluGradIdeal := hSwigluGradIdeal)
    ∧ quiescent_SwigluGradRefIdeal (hSwigluGradRefIdeal := hSwigluGradRefIdeal)
    ∧ quiescent_Gated (hGated := hGated)
    ∧ quiescent_GatedIdeal (hGatedIdeal := hGatedIdeal)
    ∧ quiescent_GatedRefIdeal (hGatedRefIdeal := hGatedRefIdeal)
    ∧ quiescent_Gates (hGates := hGates)
    ∧ quiescent_GatesIdeal (hGatesIdeal := hGatesIdeal)
    ∧ quiescent_GatesRefIdeal (hGatesRefIdeal := hGatesRefIdeal)
    ∧ quiescent_ConvV (hConvV := hConvV)
    ∧ quiescent_ConvVIdeal (hConvVIdeal := hConvVIdeal)
    ∧ quiescent_ConvVRefIdeal (hConvVRefIdeal := hConvVRefIdeal)
    ∧ quiescent_ConvK (hConvK := hConvK)
    ∧ quiescent_ConvKIdeal (hConvKIdeal := hConvKIdeal)
    ∧ quiescent_ConvKRefIdeal (hConvKRefIdeal := hConvKRefIdeal)
    ∧ quiescent_ConvQ (hConvQ := hConvQ)
    ∧ quiescent_ConvQIdeal (hConvQIdeal := hConvQIdeal)
    ∧ quiescent_ConvQRefIdeal (hConvQRefIdeal := hConvQRefIdeal)
    ∧ quiescent_MmProj (hMmProj := hMmProj)
    ∧ quiescent_MmProjIdeal (hMmProjIdeal := hMmProjIdeal)
    ∧ quiescent_MmProjRefIdeal (hMmProjRefIdeal := hMmProjRefIdeal)
    ∧ quiescent_MmMix (hMmMix := hMmMix)
    ∧ quiescent_MmMixIdeal (hMmMixIdeal := hMmMixIdeal)
    ∧ quiescent_MmMixRefIdeal (hMmMixRefIdeal := hMmMixRefIdeal)
    ∧ quiescent_MmGateUp (hMmGateUp := hMmGateUp)
    ∧ quiescent_MmGateUpIdeal (hMmGateUpIdeal := hMmGateUpIdeal)
    ∧ quiescent_MmGateUpRefIdeal (hMmGateUpRefIdeal := hMmGateUpRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_MmDact (hMmDact := hMmDact)
    ∧ quiescent_MmDactIdeal (hMmDactIdeal := hMmDactIdeal)
    ∧ quiescent_MmDactRefIdeal (hMmDactRefIdeal := hMmDactRefIdeal)
    ∧ quiescent_MmDwDown (hMmDwDown := hMmDwDown)
    ∧ quiescent_MmDwDownIdeal (hMmDwDownIdeal := hMmDwDownIdeal)
    ∧ quiescent_MmDwDownRefIdeal (hMmDwDownRefIdeal := hMmDwDownRefIdeal)
    ∧ quiescent_MmDwGateUp (hMmDwGateUp := hMmDwGateUp)
    ∧ quiescent_MmDwGateUpIdeal (hMmDwGateUpIdeal := hMmDwGateUpIdeal)
    ∧ quiescent_MmDwGateUpRefIdeal (hMmDwGateUpRefIdeal := hMmDwGateUpRefIdeal)
    ∧ quiescent_MmDu2 (hMmDu2 := hMmDu2)
    ∧ quiescent_MmDu2Ideal (hMmDu2Ideal := hMmDu2Ideal)
    ∧ quiescent_MmDu2RefIdeal (hMmDu2RefIdeal := hMmDu2RefIdeal)
    ∧ quiescent_MmDcat (hMmDcat := hMmDcat)
    ∧ quiescent_MmDcatIdeal (hMmDcatIdeal := hMmDcatIdeal)
    ∧ quiescent_MmDcatRefIdeal (hMmDcatRefIdeal := hMmDcatRefIdeal)
    ∧ quiescent_MmDwOut (hMmDwOut := hMmDwOut)
    ∧ quiescent_MmDwOutIdeal (hMmDwOutIdeal := hMmDwOutIdeal)
    ∧ quiescent_MmDwOutRefIdeal (hMmDwOutRefIdeal := hMmDwOutRefIdeal)
    ∧ quiescent_MmDwIn (hMmDwIn := hMmDwIn)
    ∧ quiescent_MmDwInIdeal (hMmDwInIdeal := hMmDwInIdeal)
    ∧ quiescent_MmDwInRefIdeal (hMmDwInRefIdeal := hMmDwInRefIdeal)
    ∧ quiescent_MmDu1 (hMmDu1 := hMmDu1)
    ∧ quiescent_MmDu1Ideal (hMmDu1Ideal := hMmDu1Ideal)
    ∧ quiescent_MmDu1RefIdeal (hMmDu1RefIdeal := hMmDu1RefIdeal)
    ∧ preserves_ShareHalves_ShareHalvesIdeal
    ∧ algebraic_ShareHalvesIdeal_ShareHalvesRefIdeal (hShareHalvesIdeal := hShareHalvesIdeal) (hShareHalvesRefIdeal := hShareHalvesRefIdeal)
    ∧ bitexact_ShareHalves_ShareHalvesRef (hShareHalves := hShareHalves) (hShareHalvesRef := hShareHalvesRef)
    ∧ preserves_ExchangeChips_ExchangeChipsIdeal
    ∧ algebraic_ExchangeChipsIdeal_ExchangeChipsRefIdeal (hExchangeChipsIdeal := hExchangeChipsIdeal) (hExchangeChipsRefIdeal := hExchangeChipsRefIdeal)
    ∧ bitexact_ExchangeChips_ExchangeChipsRef (hExchangeChips := hExchangeChips) (hExchangeChipsRef := hExchangeChipsRef)
    ∧ preserves_ExchangeSiblings_ExchangeSiblingsIdeal
    ∧ algebraic_ExchangeSiblingsIdeal_ExchangeSiblingsRefIdeal (hExchangeSiblingsIdeal := hExchangeSiblingsIdeal) (hExchangeSiblingsRefIdeal := hExchangeSiblingsRefIdeal)
    ∧ bitexact_ExchangeSiblings_ExchangeSiblingsRef (hExchangeSiblings := hExchangeSiblings) (hExchangeSiblingsRef := hExchangeSiblingsRef)
    ∧ preserves_GatherWeights_GatherWeightsIdeal
    ∧ algebraic_GatherWeightsIdeal_GatherWeightsRefIdeal (hGatherWeightsIdeal := hGatherWeightsIdeal) (hGatherWeightsRefIdeal := hGatherWeightsRefIdeal)
    ∧ bitexact_GatherWeights_GatherWeightsRef (hGatherWeights := hGatherWeights) (hGatherWeightsRef := hGatherWeightsRef)
    ∧ preserves_SharePieces_SharePiecesIdeal
    ∧ algebraic_SharePiecesIdeal_SharePiecesRefIdeal (hSharePiecesIdeal := hSharePiecesIdeal) (hSharePiecesRefIdeal := hSharePiecesRefIdeal)
    ∧ preserves_ReduceSmall_ReduceSmallIdeal
    ∧ algebraic_ReduceSmallIdeal_ReduceSmallRefIdeal (hReduceSmallIdeal := hReduceSmallIdeal) (hReduceSmallRefIdeal := hReduceSmallRefIdeal)
    ∧ preserves_MetaStep_MetaStepIdeal
    ∧ algebraic_MetaStepIdeal_MetaStepRefIdeal (hMetaStepIdeal := hMetaStepIdeal) (hMetaStepRefIdeal := hMetaStepRefIdeal)
    ∧ preserves_NormStep_NormStepIdeal
    ∧ algebraic_NormStepIdeal_NormStepRefIdeal (hNormStepIdeal := hNormStepIdeal) (hNormStepRefIdeal := hNormStepRefIdeal)
    ∧ preserves_WInStep_WInStepIdeal
    ∧ algebraic_WInStepIdeal_WInStepRefIdeal (hWInStepIdeal := hWInStepIdeal) (hWInStepRefIdeal := hWInStepRefIdeal)
    ∧ preserves_ConvQkvStep_ConvQkvStepIdeal
    ∧ algebraic_ConvQkvStepIdeal_ConvQkvStepRefIdeal (hConvQkvStepIdeal := hConvQkvStepIdeal) (hConvQkvStepRefIdeal := hConvQkvStepRefIdeal)
    ∧ preserves_ALogStep_ALogStepIdeal
    ∧ algebraic_ALogStepIdeal_ALogStepRefIdeal (hALogStepIdeal := hALogStepIdeal) (hALogStepRefIdeal := hALogStepRefIdeal)
    ∧ preserves_GdnNormStep_GdnNormStepIdeal
    ∧ algebraic_GdnNormStepIdeal_GdnNormStepRefIdeal (hGdnNormStepIdeal := hGdnNormStepIdeal) (hGdnNormStepRefIdeal := hGdnNormStepRefIdeal)
    ∧ preserves_ConvScStep_ConvScStepIdeal
    ∧ algebraic_ConvScStepIdeal_ConvScStepRefIdeal (hConvScStepIdeal := hConvScStepIdeal) (hConvScStepRefIdeal := hConvScStepRefIdeal)
    ∧ preserves_WOutStep_WOutStepIdeal
    ∧ algebraic_WOutStepIdeal_WOutStepRefIdeal (hWOutStepIdeal := hWOutStepIdeal) (hWOutStepRefIdeal := hWOutStepRefIdeal)
    ∧ preserves_WGateStep_WGateStepIdeal
    ∧ algebraic_WGateStepIdeal_WGateStepRefIdeal (hWGateStepIdeal := hWGateStepIdeal) (hWGateStepRefIdeal := hWGateStepRefIdeal)
    ∧ preserves_WDownStep_WDownStepIdeal
    ∧ algebraic_WDownStepIdeal_WDownStepRefIdeal (hWDownStepIdeal := hWDownStepIdeal) (hWDownStepRefIdeal := hWDownStepRefIdeal)
    ∧ preserves_InputGrad_InputGradIdeal
    ∧ algebraic_InputGradIdeal_InputGradRefIdeal (hInputGradIdeal := hInputGradIdeal) (hInputGradRefIdeal := hInputGradRefIdeal)
    ∧ preserves_MidGrad_MidGradIdeal
    ∧ algebraic_MidGradIdeal_MidGradRefIdeal (hMidGradIdeal := hMidGradIdeal) (hMidGradRefIdeal := hMidGradRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_Residual_ResidualIdeal
    ∧ algebraic_ResidualIdeal_ResidualRefIdeal (hResidualIdeal := hResidualIdeal) (hResidualRefIdeal := hResidualRefIdeal)
    ∧ preserves_Swiglu_SwigluIdeal
    ∧ algebraic_SwigluIdeal_SwigluRefIdeal (hSwigluIdeal := hSwigluIdeal) (hSwigluRefIdeal := hSwigluRefIdeal)
    ∧ preserves_LossHead_LossHeadIdeal
    ∧ algebraic_LossHeadIdeal_LossHeadRefIdeal (hLossHeadIdeal := hLossHeadIdeal) (hLossHeadRefIdeal := hLossHeadRefIdeal)
    ∧ preserves_SwigluGrad_SwigluGradIdeal
    ∧ algebraic_SwigluGradIdeal_SwigluGradRefIdeal (hSwigluGradIdeal := hSwigluGradIdeal) (hSwigluGradRefIdeal := hSwigluGradRefIdeal)
    ∧ preserves_Gated_GatedIdeal
    ∧ algebraic_GatedIdeal_GatedRefIdeal (hGatedIdeal := hGatedIdeal) (hGatedRefIdeal := hGatedRefIdeal)
    ∧ preserves_Gates_GatesIdeal
    ∧ algebraic_GatesIdeal_GatesRefIdeal (hGatesIdeal := hGatesIdeal) (hGatesRefIdeal := hGatesRefIdeal)
    ∧ preserves_ConvV_ConvVIdeal
    ∧ algebraic_ConvVIdeal_ConvVRefIdeal (hConvVIdeal := hConvVIdeal) (hConvVRefIdeal := hConvVRefIdeal)
    ∧ preserves_ConvK_ConvKIdeal
    ∧ algebraic_ConvKIdeal_ConvKRefIdeal (hConvKIdeal := hConvKIdeal) (hConvKRefIdeal := hConvKRefIdeal)
    ∧ preserves_ConvQ_ConvQIdeal
    ∧ algebraic_ConvQIdeal_ConvQRefIdeal (hConvQIdeal := hConvQIdeal) (hConvQRefIdeal := hConvQRefIdeal)
    ∧ preserves_MmProj_MmProjIdeal
    ∧ algebraic_MmProjIdeal_MmProjRefIdeal (hMmProjIdeal := hMmProjIdeal) (hMmProjRefIdeal := hMmProjRefIdeal)
    ∧ preserves_MmMix_MmMixIdeal
    ∧ algebraic_MmMixIdeal_MmMixRefIdeal (hMmMixIdeal := hMmMixIdeal) (hMmMixRefIdeal := hMmMixRefIdeal)
    ∧ preserves_MmGateUp_MmGateUpIdeal
    ∧ algebraic_MmGateUpIdeal_MmGateUpRefIdeal (hMmGateUpIdeal := hMmGateUpIdeal) (hMmGateUpRefIdeal := hMmGateUpRefIdeal)
    ∧ preserves_MmDown_MmDownIdeal
    ∧ algebraic_MmDownIdeal_MmDownRefIdeal (hMmDownIdeal := hMmDownIdeal) (hMmDownRefIdeal := hMmDownRefIdeal)
    ∧ preserves_MmDact_MmDactIdeal
    ∧ algebraic_MmDactIdeal_MmDactRefIdeal (hMmDactIdeal := hMmDactIdeal) (hMmDactRefIdeal := hMmDactRefIdeal)
    ∧ preserves_MmDwDown_MmDwDownIdeal
    ∧ algebraic_MmDwDownIdeal_MmDwDownRefIdeal (hMmDwDownIdeal := hMmDwDownIdeal) (hMmDwDownRefIdeal := hMmDwDownRefIdeal)
    ∧ preserves_MmDwGateUp_MmDwGateUpIdeal
    ∧ algebraic_MmDwGateUpIdeal_MmDwGateUpRefIdeal (hMmDwGateUpIdeal := hMmDwGateUpIdeal) (hMmDwGateUpRefIdeal := hMmDwGateUpRefIdeal)
    ∧ preserves_MmDu2_MmDu2Ideal
    ∧ algebraic_MmDu2Ideal_MmDu2RefIdeal (hMmDu2Ideal := hMmDu2Ideal) (hMmDu2RefIdeal := hMmDu2RefIdeal)
    ∧ preserves_MmDcat_MmDcatIdeal
    ∧ algebraic_MmDcatIdeal_MmDcatRefIdeal (hMmDcatIdeal := hMmDcatIdeal) (hMmDcatRefIdeal := hMmDcatRefIdeal)
    ∧ preserves_MmDwOut_MmDwOutIdeal
    ∧ algebraic_MmDwOutIdeal_MmDwOutRefIdeal (hMmDwOutIdeal := hMmDwOutIdeal) (hMmDwOutRefIdeal := hMmDwOutRefIdeal)
    ∧ preserves_MmDwIn_MmDwInIdeal
    ∧ algebraic_MmDwInIdeal_MmDwInRefIdeal (hMmDwInIdeal := hMmDwInIdeal) (hMmDwInRefIdeal := hMmDwInRefIdeal)
    ∧ preserves_MmDu1_MmDu1Ideal
    ∧ algebraic_MmDu1Ideal_MmDu1RefIdeal (hMmDu1Ideal := hMmDu1Ideal) (hMmDu1RefIdeal := hMmDu1RefIdeal)
-- ==== ShareHalves.lean ====
abbrev S13312x128 : Shape := ⟨2, ![13312, 128]⟩
abbrev S2x13312x128 : Shape := ⟨3, ![2, 13312, 128]⟩
abbrev S_ : Shape := ⟨0, ![]⟩
abbrev S1x13312x128 : Shape := ⟨3, ![1, 13312, 128]⟩

abbrev nBuf : Space → Nat
  | .hbm => 2
  | .vmem => 0
  | .smem => 0
  | _ => 0

abbrev bufTy : (tb : Table) → Fin (tcTables nBuf tb) → BufTy
  | .hbm, ⟨0, _⟩ => ⟨S13312x128, .f32⟩
  | .hbm, ⟨1, _⟩ => ⟨S2x13312x128, .f32⟩
  | _, _ => ⟨S13312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== ShareHalvesRef.lean ====
abbrev S106496x128 : Shape := ⟨2, ![106496, 128]⟩
abbrev S8x13312x128 : Shape := ⟨3, ![8, 13312, 128]⟩

abbrev nBuf : Space → Nat
  | .hbm => 2
  | .vmem => 0
  | .smem => 0
  | _ => 0

abbrev bufTy : (tb : Table) → Fin (tcTables nBuf tb) → BufTy
  | .hbm, ⟨0, _⟩ => ⟨S106496x128, .f32⟩
  | .hbm, ⟨1, _⟩ => ⟨S8x13312x128, .f32⟩
  | _, _ => ⟨S106496x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ExchangeChips.lean ====
abbrev S4x13312x128 : Shape := ⟨3, ![4, 13312, 128]⟩
abbrev S3x13312x128 : Shape := ⟨3, ![3, 13312, 128]⟩
abbrev S3 : Shape := ⟨1, ![3]⟩
abbrev S1 : Shape := ⟨1, ![1]⟩
abbrev S_ : Shape := ⟨0, ![]⟩
abbrev S1x13312x128 : Shape := ⟨3, ![1, 13312, 128]⟩
abbrev S13312x128 : Shape := ⟨2, ![13312, 128]⟩

abbrev nBuf : Space → Nat
  | .hbm => 2
  | .vmem => 0
  | .smem => 0
  | _ => 0

abbrev bufTy : (tb : Table) → Fin (tcTables nBuf tb) → BufTy
  | .hbm, ⟨0, _⟩ => ⟨S4x13312x128, .bf16⟩
  | .hbm, ⟨1, _⟩ => ⟨S3x13312x128, .bf16⟩
  | _, _ => ⟨S4x13312x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== ExchangeChipsRef.lean ====
abbrev S32x13312x128 : Shape := ⟨3, ![32, 13312, 128]⟩
abbrev S1x13312x128 : Shape := ⟨3, ![1, 13312, 128]⟩
abbrev S16x13312x128 : Shape := ⟨3, ![16, 13312, 128]⟩
abbrev S8x13312x128 : Shape := ⟨3, ![8, 13312, 128]⟩
abbrev S24x13312x128 : Shape := ⟨3, ![24, 13312, 128]⟩

abbrev nBuf : Space → Nat
  | .hbm => 28
  | .vmem => 0
  | .smem => 0
  | _ => 0

abbrev bufTy : (tb : Table) → Fin (tcTables nBuf tb) → BufTy
  | .hbm, ⟨0, _⟩ => ⟨S32x13312x128, .bf16⟩
  | .hbm, ⟨1, _⟩ => ⟨S1x13312x128, .bf16⟩
  | .hbm, ⟨2, _⟩ => ⟨S1x13312x128, .bf16⟩
  | .hbm, ⟨3, _⟩ => ⟨S1x13312x128, .bf16⟩
  | .hbm, ⟨4, _⟩ => ⟨S1x13312x128, .bf16⟩
  | .hbm, ⟨5, _⟩ => ⟨S1x13312x128, .bf16⟩
  | .hbm, ⟨6, _⟩ => ⟨S1x13312x128, .bf16⟩
  | .hbm, ⟨7, _⟩ => ⟨S1x13312x128, .bf16⟩
  | .hbm, ⟨8, _⟩ => ⟨S1x13312x128, .bf16⟩
  | .hbm, ⟨9, _⟩ => ⟨S1x13312x128, .bf16⟩
  | .hbm, ⟨10, _⟩ => ⟨S1x13312x128, .bf16⟩
  | .hbm, ⟨11, _⟩ => ⟨S1x13312x128, .bf16⟩
  | .hbm, ⟨12, _⟩ => ⟨S1x13312x128, .bf16⟩
  | .hbm, ⟨13, _⟩ => ⟨S1x13312x128, .bf16⟩
  | .hbm, ⟨14, _⟩ => ⟨S1x13312x128, .bf16⟩
  | .hbm, ⟨15, _⟩ => ⟨S1x13312x128, .bf16⟩
  | .hbm, ⟨16, _⟩ => ⟨S1x13312x128, .bf16⟩
  | .hbm, ⟨17, _⟩ => ⟨S1x13312x128, .bf16⟩
  | .hbm, ⟨18, _⟩ => ⟨S1x13312x128, .bf16⟩
  | .hbm, ⟨19, _⟩ => ⟨S1x13312x128, .bf16⟩
  | .hbm, ⟨20, _⟩ => ⟨S1x13312x128, .bf16⟩
  | .hbm, ⟨21, _⟩ => ⟨S1x13312x128, .bf16⟩
  | .hbm, ⟨22, _⟩ => ⟨S1x13312x128, .bf16⟩
  | .hbm, ⟨23, _⟩ => ⟨S1x13312x128, .bf16⟩
  | .hbm, ⟨24, _⟩ => ⟨S1x13312x128, .bf16⟩
  | .hbm, ⟨25, _⟩ => ⟨S16x13312x128, .bf16⟩
  | .hbm, ⟨26, _⟩ => ⟨S8x13312x128, .bf16⟩
  | .hbm, ⟨27, _⟩ => ⟨S24x13312x128, .bf16⟩
  | _, _ => ⟨S32x13312x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩

abbrev nD : Nat := 1
abbrev τ : Topo := Topo.v7x

variable {F : FTy → Type} [FloatOps F]
-- ==== ExchangeSiblings.lean ====
abbrev S2x4x13312x128 : Shape := ⟨4, ![2, 4, 13312, 128]⟩
abbrev S224x128 : Shape := ⟨2, ![224, 128]⟩
abbrev S4x13312x128 : Shape := ⟨3, ![4, 13312, 128]⟩
abbrev S8x224x128 : Shape := ⟨3, ![8, 224, 128]⟩
abbrev S8 : Shape := ⟨1, ![8]⟩
abbrev S_ : Shape := ⟨0, ![]⟩
abbrev S1x224x128 : Shape := ⟨3, ![1, 224, 128]⟩
abbrev S1 : Shape := ⟨1, ![1]⟩
abbrev S1x4x13312x128 : Shape := ⟨4, ![1, 4, 13312, 128]⟩

abbrev nBuf : Space → Nat
  | .hbm => 4
  | .vmem => 0
  | .smem => 0
  | _ => 0

abbrev bufTy : (tb : Table) → Fin (tcTables nBuf tb) → BufTy
  | .hbm, ⟨0, _⟩ => ⟨S2x4x13312x128, .f32⟩
  | .hbm, ⟨1, _⟩ => ⟨S224x128, .f32⟩
  | .hbm, ⟨2, _⟩ => ⟨S4x13312x128, .f32⟩
  | .hbm, ⟨3, _⟩ => ⟨S8x224x128, .f32⟩
  | _, _ => ⟨S2x4x13312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v29 : BitVec 32 := Scalar.muli v2 c4_i32_22
  let v30 : BitVec 32 := Scalar.addi c0_i32_23 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v31 : BitVec 32 := Scalar.muli v5 c2_i32_24
  let v32 : BitVec 32 := Scalar.addi v30 v31
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_25 : BitVec 32 := 1#32
  let v33 : BitVec 32 := Scalar.muli v15 c1_i32_25
  let v34 : BitVec 32 := Scalar.addi v32 v33
  v34.toNat
def k0_dev2 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v41 : BitVec 32 := Scalar.muli v2 c4_i32_30
  let v42 : BitVec 32 := Scalar.addi c0_i32_31 v41
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_32 : BitVec 32 := 2#32
  let v43 : BitVec 32 := Scalar.muli v16 c2_i32_32
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v45 : BitVec 32 := Scalar.muli v8 c1_i32_33
  let v46 : BitVec 32 := Scalar.addi v44 v45
  v46.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v53 : BitVec 32 := Scalar.muli v2 c4_i32_38
  let v54 : BitVec 32 := Scalar.addi c0_i32_39 v53
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_40 : BitVec 32 := 2#32
  let v55 : BitVec 32 := Scalar.muli v17 c2_i32_40
  let v56 : BitVec 32 := Scalar.addi v54 v55
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_41 : BitVec 32 := 1#32
  let v57 : BitVec 32 := Scalar.muli v18 c1_i32_41
  let v58 : BitVec 32 := Scalar.addi v56 v57
  v58.toNat
def k0_dev4 (d0 : Dev nD) : Nat :=
  let c0_i32_46 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_45 : BitVec 32 := 4#32
  let v65 : BitVec 32 := Scalar.muli v19 c4_i32_45
  let v66 : BitVec 32 := Scalar.addi c0_i32_46 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v67 : BitVec 32 := Scalar.muli v5 c2_i32_47
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v69 : BitVec 32 := Scalar.muli v8 c1_i32_48
  let v70 : BitVec 32 := Scalar.addi v68 v69
  v70.toNat
def k0_dev5 (d0 : Dev nD) : Nat :=
  let c0_i32_54 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let c4_i32_53 : BitVec 32 := 4#32
  let v77 : BitVec 32 := Scalar.muli v20 c4_i32_53
  let v78 : BitVec 32 := Scalar.addi c0_i32_54 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v79 : BitVec 32 := Scalar.muli v5 c2_i32_55
  let v80 : BitVec 32 := Scalar.addi v78 v79
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let c1_i32_56 : BitVec 32 := 1#32
  let v81 : BitVec 32 := Scalar.muli v21 c1_i32_56
  let v82 : BitVec 32 := Scalar.addi v80 v81
  v82.toNat
def k0_dev6 (d0 : Dev nD) : Nat :=
  let c0_i32_61 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let c4_i32_60 : BitVec 32 := 4#32
  let v89 : BitVec 32 := Scalar.muli v22 c4_i32_60
  let v90 : BitVec 32 := Scalar.addi c0_i32_61 v89
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_14 v5
  let c2_i32_62 : BitVec 32 := 2#32
  let v91 : BitVec 32 := Scalar.muli v23 c2_i32_62
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v93 : BitVec 32 := Scalar.muli v8 c1_i32_63
  let v94 : BitVec 32 := Scalar.addi v92 v93
  v94.toNat
def k0_dev7 (d0 : Dev nD) : Nat :=
  let c0_i32_68 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_15 v2
  let c4_i32_67 : BitVec 32 := 4#32
  let v101 : BitVec 32 := Scalar.muli v24 c4_i32_67
  let v102 : BitVec 32 := Scalar.addi c0_i32_68 v101
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_16 v5
  let c2_i32_69 : BitVec 32 := 2#32
  let v103 : BitVec 32 := Scalar.muli v25 c2_i32_69
  let v104 : BitVec 32 := Scalar.addi v102 v103
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_17 v8
  let c1_i32_70 : BitVec 32 := 1#32
  let v105 : BitVec 32 := Scalar.muli v26 c1_i32_70
  let v106 : BitVec 32 := Scalar.addi v104 v105
  v106.toNat
def k0_off2 (d0 : Dev nD) : Fin 4 → Nat :=
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_18 v8
  let c0_i32_78 : BitVec 32 := 0#32
  let c0_i32_79 : BitVec 32 := 0#32
  let c0_i32_80 : BitVec 32 := 0#32
  ![v27.toNat, 0, 0, 0]
def k0_dev8 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v113 : BitVec 32 := Scalar.muli v2 c4_i32_74
  let v114 : BitVec 32 := Scalar.addi c0_i32_75 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v115 : BitVec 32 := Scalar.muli v5 c2_i32_76
  let v116 : BitVec 32 := Scalar.addi v114 v115
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_19 v8
  let c1_i32_77 : BitVec 32 := 1#32
  let v117 : BitVec 32 := Scalar.muli v28 c1_i32_77
  let v118 : BitVec 32 := Scalar.addi v116 v117
  v118.toNat
-- ==== ExchangeSiblingsRef.lean ====
abbrev S16x4x13312x128 : Shape := ⟨4, ![16, 4, 13312, 128]⟩
abbrev S1792x128 : Shape := ⟨2, ![1792, 128]⟩
abbrev S1x4x13312x128 : Shape := ⟨4, ![1, 4, 13312, 128]⟩
abbrev S8x4x13312x128 : Shape := ⟨4, ![8, 4, 13312, 128]⟩
abbrev S32x13312x128 : Shape := ⟨3, ![32, 13312, 128]⟩
abbrev S8x224x128 : Shape := ⟨3, ![8, 224, 128]⟩

abbrev nBuf : Space → Nat
  | .hbm => 13
  | .vmem => 0
  | .smem => 0
  | _ => 0

abbrev bufTy : (tb : Table) → Fin (tcTables nBuf tb) → BufTy
  | .hbm, ⟨0, _⟩ => ⟨S16x4x13312x128, .f32⟩
  | .hbm, ⟨1, _⟩ => ⟨S1792x128, .f32⟩
  | .hbm, ⟨2, _⟩ => ⟨S1x4x13312x128, .f32⟩
  | .hbm, ⟨3, _⟩ => ⟨S1x4x13312x128, .f32⟩
  | .hbm, ⟨4, _⟩ => ⟨S1x4x13312x128, .f32⟩
  | .hbm, ⟨5, _⟩ => ⟨S1x4x13312x128, .f32⟩
  | .hbm, ⟨6, _⟩ => ⟨S1x4x13312x128, .f32⟩
  | .hbm, ⟨7, _⟩ => ⟨S1x4x13312x128, .f32⟩
  | .hbm, ⟨8, _⟩ => ⟨S1x4x13312x128, .f32⟩
  | .hbm, ⟨9, _⟩ => ⟨S1x4x13312x128, .f32⟩
  | .hbm, ⟨10, _⟩ => ⟨S8x4x13312x128, .f32⟩
  | .hbm, ⟨11, _⟩ => ⟨S32x13312x128, .f32⟩
  | .hbm, ⟨12, _⟩ => ⟨S8x224x128, .f32⟩
  | _, _ => ⟨S16x4x13312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== GatherWeights.lean ====
abbrev S2x13312x128 : Shape := ⟨3, ![2, 13312, 128]⟩
abbrev S48x128 : Shape := ⟨2, ![48, 128]⟩
abbrev S4x2x13312x128 : Shape := ⟨4, ![4, 2, 13312, 128]⟩
abbrev S4x48x128 : Shape := ⟨3, ![4, 48, 128]⟩
abbrev S9 : Shape := ⟨1, ![9]⟩
abbrev S2 : Shape := ⟨1, ![2]⟩
abbrev S1 : Shape := ⟨1, ![1]⟩
abbrev S_ : Shape := ⟨0, ![]⟩
abbrev S1x2x13312x128 : Shape := ⟨4, ![1, 2, 13312, 128]⟩
abbrev S1x48x128 : Shape := ⟨3, ![1, 48, 128]⟩
abbrev S1x1x13312x128 : Shape := ⟨4, ![1, 1, 13312, 128]⟩
abbrev S13312x128 : Shape := ⟨2, ![13312, 128]⟩
abbrev S1x13312x128 : Shape := ⟨3, ![1, 13312, 128]⟩

abbrev nBuf : Space → Nat
  | .hbm => 4
  | .vmem => 0
  | .smem => 0
  | _ => 0

abbrev bufTy : (tb : Table) → Fin (tcTables nBuf tb) → BufTy
  | .hbm, ⟨0, _⟩ => ⟨S2x13312x128, .bf16⟩
  | .hbm, ⟨1, _⟩ => ⟨S48x128, .f32⟩
  | .hbm, ⟨2, _⟩ => ⟨S4x2x13312x128, .bf16⟩
  | .hbm, ⟨3, _⟩ => ⟨S4x48x128, .f32⟩
  | _, _ => ⟨S2x13312x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_9 : BitVec 32 := 0#32
  let c0_i32_10 : BitVec 32 := 0#32
  let c0_i32_11 : BitVec 32 := 0#32
  ![v14.toNat, 0, 0, 0]
def k0_off2 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_13 : BitVec 32 := 0#32
  let c0_i32_14 : BitVec 32 := 0#32
  ![v14.toNat, 0, 0]
def k0_off3 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let c0_i32_22 : BitVec 32 := 0#32
  ![v14.toNat, v8.toNat, 0, 0]
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_23 : BitVec 32 := 0#32
  let c0_i32_24 : BitVec 32 := 0#32
  ![v8.toNat, 0, 0]
def k0_dev1 (d0 : Dev nD) : Nat :=
  let c0_i32_18 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v24 : BitVec 32 := Scalar.muli v9 c4_i32_17
  let v25 : BitVec 32 := Scalar.addi c0_i32_18 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v26 : BitVec 32 := Scalar.muli v5 c2_i32_19
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v28 : BitVec 32 := Scalar.muli v8 c1_i32_20
  let v29 : BitVec 32 := Scalar.addi v27 v28
  v29.toNat
def k0_dev2 (d0 : Dev nD) : Nat :=
  let c0_i32_27 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_26 : BitVec 32 := 4#32
  let v38 : BitVec 32 := Scalar.muli v9 c4_i32_26
  let v39 : BitVec 32 := Scalar.addi c0_i32_27 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v40 : BitVec 32 := Scalar.muli v5 c2_i32_28
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v42 : BitVec 32 := Scalar.muli v8 c1_i32_29
  let v43 : BitVec 32 := Scalar.addi v41 v42
  v43.toNat
def k0_dev3 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v50 : BitVec 32 := Scalar.muli v2 c4_i32_34
  let v51 : BitVec 32 := Scalar.addi c0_i32_35 v50
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_36 : BitVec 32 := 2#32
  let v52 : BitVec 32 := Scalar.muli v10 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev4 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v64 : BitVec 32 := Scalar.muli v2 c4_i32_44
  let v65 : BitVec 32 := Scalar.addi c0_i32_45 v64
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_46 : BitVec 32 := 2#32
  let v66 : BitVec 32 := Scalar.muli v10 c2_i32_46
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v68 : BitVec 32 := Scalar.muli v8 c1_i32_47
  let v69 : BitVec 32 := Scalar.addi v67 v68
  v69.toNat
def k0_dev5 (d0 : Dev nD) : Nat :=
  let c0_i32_53 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_52 : BitVec 32 := 4#32
  let v76 : BitVec 32 := Scalar.muli v11 c4_i32_52
  let v77 : BitVec 32 := Scalar.addi c0_i32_53 v76
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_54 : BitVec 32 := 2#32
  let v78 : BitVec 32 := Scalar.muli v12 c2_i32_54
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v80 : BitVec 32 := Scalar.muli v8 c1_i32_55
  let v81 : BitVec 32 := Scalar.addi v79 v80
  v81.toNat
def k0_dev6 (d0 : Dev nD) : Nat :=
  let c0_i32_62 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_61 : BitVec 32 := 4#32
  let v90 : BitVec 32 := Scalar.muli v11 c4_i32_61
  let v91 : BitVec 32 := Scalar.addi c0_i32_62 v90
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_63 : BitVec 32 := 2#32
  let v92 : BitVec 32 := Scalar.muli v12 c2_i32_63
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v94 : BitVec 32 := Scalar.muli v8 c1_i32_64
  let v95 : BitVec 32 := Scalar.addi v93 v94
  v95.toNat
def k0_off5 (d0 : Dev nD) : Fin 4 → Nat :=
  let c2_i32_67 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v102 : BitVec 32 := Scalar.muli c2_i32_67 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v103 : BitVec 32 := Scalar.addi v102 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_74 : BitVec 32 := 0#32
  let c0_i32_75 : BitVec 32 := 0#32
  ![v103.toNat, v8.toNat, 0, 0]
def k0_dev7 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v116 : BitVec 32 := Scalar.muli v2 c4_i32_79
  let v117 : BitVec 32 := Scalar.addi c0_i32_80 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v118 : BitVec 32 := Scalar.muli v5 c2_i32_81
  let v119 : BitVec 32 := Scalar.addi v117 v118
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_82 : BitVec 32 := 1#32
  let v120 : BitVec 32 := Scalar.muli v15 c1_i32_82
  let v121 : BitVec 32 := Scalar.addi v119 v120
  v121.toNat
def k0_off6 (d0 : Dev nD) : Fin 4 → Nat :=
  let c2_i32_87 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v130 : BitVec 32 := Scalar.muli c2_i32_87 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v131 : BitVec 32 := Scalar.addi v130 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_94 : BitVec 32 := 0#32
  let c0_i32_95 : BitVec 32 := 0#32
  ![v131.toNat, v8.toNat, 0, 0]
def k0_dev8 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v144 : BitVec 32 := Scalar.muli v2 c4_i32_99
  let v145 : BitVec 32 := Scalar.addi c0_i32_100 v144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v146 : BitVec 32 := Scalar.muli v5 c2_i32_101
  let v147 : BitVec 32 := Scalar.addi v145 v146
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_102 : BitVec 32 := 1#32
  let v148 : BitVec 32 := Scalar.muli v15 c1_i32_102
  let v149 : BitVec 32 := Scalar.addi v147 v148
  v149.toNat
def k0_off7 (d0 : Dev nD) : Fin 4 → Nat :=
  let c2_i32_107 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v158 : BitVec 32 := Scalar.muli c2_i32_107 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v159 : BitVec 32 := Scalar.addi v158 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_114 : BitVec 32 := 0#32
  let c0_i32_115 : BitVec 32 := 0#32
  ![v159.toNat, v8.toNat, 0, 0]
def k0_dev9 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v172 : BitVec 32 := Scalar.muli v2 c4_i32_119
  let v173 : BitVec 32 := Scalar.addi c0_i32_120 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v174 : BitVec 32 := Scalar.muli v5 c2_i32_121
  let v175 : BitVec 32 := Scalar.addi v173 v174
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_122 : BitVec 32 := 1#32
  let v176 : BitVec 32 := Scalar.muli v15 c1_i32_122
  let v177 : BitVec 32 := Scalar.addi v175 v176
  v177.toNat
def k0_off8 (d0 : Dev nD) : Fin 4 → Nat :=
  let c2_i32_127 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v186 : BitVec 32 := Scalar.muli c2_i32_127 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.addi v186 v5
  let c1_i32_128 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.subi c1_i32_128 v8
  let c0_i32_135 : BitVec 32 := 0#32
  let c0_i32_136 : BitVec 32 := 0#32
  ![v187.toNat, v188.toNat, 0, 0]
def k0_off9 (d0 : Dev nD) : Fin 4 → Nat :=
  let c2_i32_147 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v211 : BitVec 32 := Scalar.muli c2_i32_147 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v212 : BitVec 32 := Scalar.addi v211 v10
  let c1_i32_148 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.subi c1_i32_148 v8
  let c0_i32_155 : BitVec 32 := 0#32
  let c0_i32_156 : BitVec 32 := 0#32
  ![v212.toNat, v213.toNat, 0, 0]
def k0_off10 (d0 : Dev nD) : Fin 4 → Nat :=
  let c2_i32_167 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v236 : BitVec 32 := Scalar.muli c2_i32_167 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v237 : BitVec 32 := Scalar.addi v236 v12
  let c1_i32_168 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v238 : BitVec 32 := Scalar.subi c1_i32_168 v8
  let c0_i32_175 : BitVec 32 := 0#32
  let c0_i32_176 : BitVec 32 := 0#32
  ![v237.toNat, v238.toNat, 0, 0]
-- ==== GatherWeightsRef.lean ====
abbrev S8x13312x128 : Shape := ⟨3, ![8, 13312, 128]⟩
abbrev S192x128 : Shape := ⟨2, ![192, 128]⟩
abbrev S4x2x13312x128 : Shape := ⟨4, ![4, 2, 13312, 128]⟩
abbrev S4x48x128 : Shape := ⟨3, ![4, 48, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x13312x128, .bf16⟩
  | .hbm, ⟨1, _⟩ => ⟨S192x128, .f32⟩
  | .hbm, ⟨2, _⟩ => ⟨S4x2x13312x128, .bf16⟩
  | .hbm, ⟨3, _⟩ => ⟨S4x48x128, .f32⟩
  | _, _ => ⟨S8x13312x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SharePieces.lean ====
abbrev S13312x128 : Shape := ⟨2, ![13312, 128]⟩
abbrev S2x13312x128 : Shape := ⟨3, ![2, 13312, 128]⟩
abbrev S_ : Shape := ⟨0, ![]⟩
abbrev S1x13312x128 : Shape := ⟨3, ![1, 13312, 128]⟩
abbrev S3407872 : Shape := ⟨1, ![3407872]⟩
abbrev S919552 : Shape := ⟨1, ![919552]⟩
abbrev S1024x898 : Shape := ⟨2, ![1024, 898]⟩
abbrev S262144 : Shape := ⟨1, ![262144]⟩
abbrev S256x1024 : Shape := ⟨2, ![256, 1024]⟩
abbrev S720896 : Shape := ⟨1, ![720896]⟩
abbrev S1024x704 : Shape := ⟨2, ![1024, 704]⟩
abbrev S704x1024 : Shape := ⟨2, ![704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S13312x128, .f32⟩
  | .hbm, ⟨1, _⟩ => ⟨S2x13312x128, .f32⟩
  | .hbm, ⟨2, _⟩ => ⟨S3407872, .f32⟩
  | .hbm, ⟨3, _⟩ => ⟨S919552, .f32⟩
  | .hbm, ⟨4, _⟩ => ⟨S1024x898, .f32⟩
  | .hbm, ⟨5, _⟩ => ⟨S262144, .f32⟩
  | .hbm, ⟨6, _⟩ => ⟨S256x1024, .f32⟩
  | .hbm, ⟨7, _⟩ => ⟨S720896, .f32⟩
  | .hbm, ⟨8, _⟩ => ⟨S1024x704, .f32⟩
  | .hbm, ⟨9, _⟩ => ⟨S720896, .f32⟩
  | .hbm, ⟨10, _⟩ => ⟨S1024x704, .f32⟩
  | .hbm, ⟨11, _⟩ => ⟨S720896, .f32⟩
  | .hbm, ⟨12, _⟩ => ⟨S704x1024, .f32⟩
  | _, _ => ⟨S13312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v5 : Ref sig .tc := ⟨.hbm, 5, rfl⟩
abbrev main_v6 : Ref sig .tc := ⟨.hbm, 6, rfl⟩
abbrev main_v7 : Ref sig .tc := ⟨.hbm, 7, rfl⟩
abbrev main_v8 : Ref sig .tc := ⟨.hbm, 8, rfl⟩
abbrev main_v9 : Ref sig .tc := ⟨.hbm, 9, rfl⟩
abbrev main_v10 : Ref sig .tc := ⟨.hbm, 10, rfl⟩
abbrev main_v11 : Ref sig .tc := ⟨.hbm, 11, rfl⟩
abbrev main_v12 : Ref sig .tc := ⟨.hbm, 12, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
-- ==== SharePiecesRefIdeal.lean ====
abbrev S106496x128 : Shape := ⟨2, ![106496, 128]⟩
abbrev S4x3407872 : Shape := ⟨2, ![4, 3407872]⟩
abbrev S4x919552 : Shape := ⟨2, ![4, 919552]⟩
abbrev S4x262144 : Shape := ⟨2, ![4, 262144]⟩
abbrev S4x720896 : Shape := ⟨2, ![4, 720896]⟩
abbrev S4x1024x898 : Shape := ⟨3, ![4, 1024, 898]⟩
abbrev S1024x4x898 : Shape := ⟨3, ![1024, 4, 898]⟩
abbrev S1024x3592 : Shape := ⟨2, ![1024, 3592]⟩
abbrev S1024x1024 : Shape := ⟨2, ![1024, 1024]⟩
abbrev S4x1024x704 : Shape := ⟨3, ![4, 1024, 704]⟩
abbrev S1024x4x704 : Shape := ⟨3, ![1024, 4, 704]⟩
abbrev S1024x2816 : Shape := ⟨2, ![1024, 2816]⟩
abbrev S2816x1024 : Shape := ⟨2, ![2816, 1024]⟩

abbrev nBuf : Space → Nat
  | .hbm => 18
  | .vmem => 0
  | .smem => 0
  | _ => 0

abbrev bufTy : (tb : Table) → Fin (tcTables nBuf tb) → BufTy
  | .hbm, ⟨0, _⟩ => ⟨S106496x128, .f32⟩
  | .hbm, ⟨1, _⟩ => ⟨S4x3407872, .f32⟩
  | .hbm, ⟨2, _⟩ => ⟨S4x919552, .f32⟩
  | .hbm, ⟨3, _⟩ => ⟨S4x262144, .f32⟩
  | .hbm, ⟨4, _⟩ => ⟨S4x720896, .f32⟩
  | .hbm, ⟨5, _⟩ => ⟨S4x720896, .f32⟩
  | .hbm, ⟨6, _⟩ => ⟨S4x720896, .f32⟩
  | .hbm, ⟨7, _⟩ => ⟨S4x1024x898, .f32⟩
  | .hbm, ⟨8, _⟩ => ⟨S1024x4x898, .f32⟩
  | .hbm, ⟨9, _⟩ => ⟨S1024x3592, .f32⟩
  | .hbm, ⟨10, _⟩ => ⟨S1024x1024, .f32⟩
  | .hbm, ⟨11, _⟩ => ⟨S4x1024x704, .f32⟩
  | .hbm, ⟨12, _⟩ => ⟨S1024x4x704, .f32⟩
  | .hbm, ⟨13, _⟩ => ⟨S1024x2816, .f32⟩
  | .hbm, ⟨14, _⟩ => ⟨S4x1024x704, .f32⟩
  | .hbm, ⟨15, _⟩ => ⟨S1024x4x704, .f32⟩
  | .hbm, ⟨16, _⟩ => ⟨S1024x2816, .f32⟩
  | .hbm, ⟨17, _⟩ => ⟨S2816x1024, .f32⟩
  | _, _ => ⟨S106496x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩

abbrev nD : Nat := 1
abbrev τ : Topo := Topo.v7x

variable {F : FTy → Type} [FloatOps F]
-- ==== ReduceSmall.lean ====
abbrev S2x4x13312x128 : Shape := ⟨4, ![2, 4, 13312, 128]⟩
abbrev S224x128 : Shape := ⟨2, ![224, 128]⟩
abbrev S4x13312x128 : Shape := ⟨3, ![4, 13312, 128]⟩
abbrev S8x224x128 : Shape := ⟨3, ![8, 224, 128]⟩
abbrev S8 : Shape := ⟨1, ![8]⟩
abbrev S_ : Shape := ⟨0, ![]⟩
abbrev S1x224x128 : Shape := ⟨3, ![1, 224, 128]⟩
abbrev S1 : Shape := ⟨1, ![1]⟩
abbrev S1x4x13312x128 : Shape := ⟨4, ![1, 4, 13312, 128]⟩
abbrev S28672 : Shape := ⟨1, ![28672]⟩
abbrev S1024 : Shape := ⟨1, ![1024]⟩
abbrev S1x1024 : Shape := ⟨2, ![1, 1024]⟩
abbrev S4 : Shape := ⟨1, ![4]⟩
abbrev S1x4 : Shape := ⟨2, ![1, 4]⟩
abbrev S128 : Shape := ⟨1, ![128]⟩
abbrev S1x128 : Shape := ⟨2, ![1, 128]⟩
abbrev S6144 : Shape := ⟨1, ![6144]⟩
abbrev S4x1536 : Shape := ⟨2, ![4, 1536]⟩
abbrev S4x384 : Shape := ⟨2, ![4, 384]⟩
abbrev S1536 : Shape := ⟨1, ![1536]⟩
abbrev S3x512 : Shape := ⟨2, ![3, 512]⟩
abbrev S3x128 : Shape := ⟨2, ![3, 128]⟩
abbrev S16384 : Shape := ⟨1, ![16384]⟩
abbrev S16x1024 : Shape := ⟨2, ![16, 1024]⟩
abbrev S16x256 : Shape := ⟨2, ![16, 256]⟩

abbrev nBuf : Space → Nat
  | .hbm => 72
  | .vmem => 2
  | .smem => 0
  | _ => 0

abbrev bufTy : (tb : Table) → Fin (tcTables nBuf tb) → BufTy
  | .hbm, ⟨0, _⟩ => ⟨S2x4x13312x128, .f32⟩
  | .hbm, ⟨1, _⟩ => ⟨S224x128, .f32⟩
  | .hbm, ⟨2, _⟩ => ⟨S4x13312x128, .f32⟩
  | .hbm, ⟨3, _⟩ => ⟨S8x224x128, .f32⟩
  | .hbm, ⟨4, _⟩ => ⟨S224x128, .f32⟩
  | .hbm, ⟨5, _⟩ => ⟨S28672, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S4, .f32⟩
  | .hbm, ⟨15, _⟩ => ⟨S1x4, .f32⟩
  | .hbm, ⟨16, _⟩ => ⟨S4, .f32⟩
  | .hbm, ⟨17, _⟩ => ⟨S1x4, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S6144, .f32⟩
  | .hbm, ⟨40, _⟩ => ⟨S4x1536, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S4x384, .f32⟩
  | .hbm, ⟨50, _⟩ => ⟨S1536, .f32⟩
  | .hbm, ⟨51, _⟩ => ⟨S3x512, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S3x128, .f32⟩
  | .hbm, ⟨61, _⟩ => ⟨S16384, .f32⟩
  | .hbm, ⟨62, _⟩ => ⟨S16x1024, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S16x256, .f32⟩
  | .local _ .vmem, ⟨0, _⟩ => ⟨S8x224x128, .f32⟩
  | .local _ .vmem, ⟨1, _⟩ => ⟨S224x128, .f32⟩
  | _, _ => ⟨S2x4x13312x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_1 : Ref sig .tc := ⟨.hbm, 30, rfl⟩
abbrev main_v25 : Ref sig .tc := ⟨.hbm, 31, rfl⟩
abbrev main_c_2 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_c_9 : Ref sig .tc := ⟨.hbm, 54, rfl⟩
abbrev main_v41 : Ref sig .tc := ⟨.hbm, 55, rfl⟩
abbrev main_c_10 : Ref sig .tc := ⟨.hbm, 56, rfl⟩
abbrev main_v42 : Ref sig .tc := ⟨.hbm, 57, rfl⟩
abbrev main_v43 : Ref sig .tc := ⟨.hbm, 58, rfl⟩
abbrev main_c_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_12 : Ref sig .tc := ⟨.hbm, 63, rfl⟩
abbrev main_v47 : Ref sig .tc := ⟨.hbm, 64, rfl⟩
abbrev main_c_13 : Ref sig .tc := ⟨.hbm, 65, rfl⟩
abbrev main_v48 : Ref sig .tc := ⟨.hbm, 66, rfl⟩
abbrev main_c_14 : Ref sig .tc := ⟨.hbm, 67, rfl⟩
abbrev main_v49 : Ref sig .tc := ⟨.hbm, 68, rfl⟩
abbrev main_v50 : Ref sig .tc := ⟨.hbm, 69, rfl⟩
abbrev main_c_15 : Ref sig .tc := ⟨.hbm, 70, rfl⟩
abbrev main_v51 : Ref sig .tc := ⟨.hbm, 71, rfl⟩
abbrev cc1_stg0_0 : Ref sig .tc := ⟨.vmem, 0, rfl⟩
abbrev cc1_stg1_0 : Ref sig .tc := ⟨.vmem, 1, rfl⟩
abbrev cc1_sem0_0 : DmaSem sig := 17
abbrev cc1_sem1_0 : DmaSem sig := 18

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v29 : BitVec 32 := Scalar.muli v2 c4_i32_22
  let v30 : BitVec 32 := Scalar.addi c0_i32_23 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v31 : BitVec 32 := Scalar.muli v5 c2_i32_24
  let v32 : BitVec 32 := Scalar.addi v30 v31
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_6 v8
  let c1_i32_25 : BitVec 32 := 1#32
  let v33 : BitVec 32 := Scalar.muli v15 c1_i32_25
  let v34 : BitVec 32 := Scalar.addi v32 v33
  v34.toNat
def k0_dev2 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v41 : BitVec 32 := Scalar.muli v2 c4_i32_30
  let v42 : BitVec 32 := Scalar.addi c0_i32_31 v41
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_32 : BitVec 32 := 2#32
  let v43 : BitVec 32 := Scalar.muli v16 c2_i32_32
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v45 : BitVec 32 := Scalar.muli v8 c1_i32_33
  let v46 : BitVec 32 := Scalar.addi v44 v45
  v46.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v53 : BitVec 32 := Scalar.muli v2 c4_i32_38
  let v54 : BitVec 32 := Scalar.addi c0_i32_39 v53
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_40 : BitVec 32 := 2#32
  let v55 : BitVec 32 := Scalar.muli v17 c2_i32_40
  let v56 : BitVec 32 := Scalar.addi v54 v55
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_41 : BitVec 32 := 1#32
  let v57 : BitVec 32 := Scalar.muli v18 c1_i32_41
  let v58 : BitVec 32 := Scalar.addi v56 v57
  v58.toNat
def k0_dev4 (d0 : Dev nD) : Nat :=
  let c0_i32_46 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_45 : BitVec 32 := 4#32
  let v65 : BitVec 32 := Scalar.muli v19 c4_i32_45
  let v66 : BitVec 32 := Scalar.addi c0_i32_46 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v67 : BitVec 32 := Scalar.muli v5 c2_i32_47
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v69 : BitVec 32 := Scalar.muli v8 c1_i32_48
  let v70 : BitVec 32 := Scalar.addi v68 v69
  v70.toNat
def k0_dev5 (d0 : Dev nD) : Nat :=
  let c0_i32_54 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let c4_i32_53 : BitVec 32 := 4#32
  let v77 : BitVec 32 := Scalar.muli v20 c4_i32_53
  let v78 : BitVec 32 := Scalar.addi c0_i32_54 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v79 : BitVec 32 := Scalar.muli v5 c2_i32_55
  let v80 : BitVec 32 := Scalar.addi v78 v79
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let c1_i32_56 : BitVec 32 := 1#32
  let v81 : BitVec 32 := Scalar.muli v21 c1_i32_56
  let v82 : BitVec 32 := Scalar.addi v80 v81
  v82.toNat
def k0_dev6 (d0 : Dev nD) : Nat :=
  let c0_i32_61 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_13 v2
  let c4_i32_60 : BitVec 32 := 4#32
  let v89 : BitVec 32 := Scalar.muli v22 c4_i32_60
  let v90 : BitVec 32 := Scalar.addi c0_i32_61 v89
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_14 v5
  let c2_i32_62 : BitVec 32 := 2#32
  let v91 : BitVec 32 := Scalar.muli v23 c2_i32_62
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v93 : BitVec 32 := Scalar.muli v8 c1_i32_63
  let v94 : BitVec 32 := Scalar.addi v92 v93
  v94.toNat
def k0_dev7 (d0 : Dev nD) : Nat :=
  let c0_i32_68 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_15 v2
  let c4_i32_67 : BitVec 32 := 4#32
  let v101 : BitVec 32 := Scalar.muli v24 c4_i32_67
  let v102 : BitVec 32 := Scalar.addi c0_i32_68 v101
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_16 v5
  let c2_i32_69 : BitVec 32 := 2#32
  let v103 : BitVec 32 := Scalar.muli v25 c2_i32_69
  let v104 : BitVec 32 := Scalar.addi v102 v103
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_17 v8
  let c1_i32_70 : BitVec 32 := 1#32
  let v105 : BitVec 32 := Scalar.muli v26 c1_i32_70
  let v106 : BitVec 32 := Scalar.addi v104 v105
  v106.toNat
def k0_off2 (d0 : Dev nD) : Fin 4 → Nat :=
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_18 v8
  let c0_i32_78 : BitVec 32 := 0#32
  let c0_i32_79 : BitVec 32 := 0#32
  let c0_i32_80 : BitVec 32 := 0#32
  ![v27.toNat, 0, 0, 0]
def k0_dev8 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v113 : BitVec 32 := Scalar.muli v2 c4_i32_74
  let v114 : BitVec 32 := Scalar.addi c0_i32_75 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v115 : BitVec 32 := Scalar.muli v5 c2_i32_76
  let v116 : BitVec 32 := Scalar.addi v114 v115
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_19 v8
  let c1_i32_77 : BitVec 32 := 1#32
  let v117 : BitVec 32 := Scalar.muli v28 c1_i32_77
  let v118 : BitVec 32 := Scalar.addi v116 v117
  v118.toNat
abbrev grid1 : Pipeline.Grid := .none

abbrev stage1_0 : Fin 1 → Memref sig .tc .vmem S8x224x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S224x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReduceSmallRefIdeal.lean ====
abbrev S16x4x13312x128 : Shape := ⟨4, ![16, 4, 13312, 128]⟩
abbrev S1792x128 : Shape := ⟨2, ![1792, 128]⟩
abbrev S8x28672 : Shape := ⟨2, ![8, 28672]⟩
abbrev S_ : Shape := ⟨0, ![]⟩
abbrev S28672 : Shape := ⟨1, ![28672]⟩
abbrev S1 : Shape := ⟨1, ![1]⟩
abbrev S1024 : Shape := ⟨1, ![1024]⟩
abbrev S1x1024 : Shape := ⟨2, ![1, 1024]⟩
abbrev S4 : Shape := ⟨1, ![4]⟩
abbrev S1x4 : Shape := ⟨2, ![1, 4]⟩
abbrev S128 : Shape := ⟨1, ![128]⟩
abbrev S1x128 : Shape := ⟨2, ![1, 128]⟩
abbrev S6144 : Shape := ⟨1, ![6144]⟩
abbrev S4x1536 : Shape := ⟨2, ![4, 1536]⟩
abbrev S1536 : Shape := ⟨1, ![1536]⟩
abbrev S3x512 : Shape := ⟨2, ![3, 512]⟩
abbrev S16384 : Shape := ⟨1, ![16384]⟩
abbrev S16x1024 : Shape := ⟨2, ![16, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16x4x13312x128, .f32⟩
  | .hbm, ⟨1, _⟩ => ⟨S1792x128, .f32⟩
  | .hbm, ⟨2, _⟩ => ⟨S8x28672, .f32⟩
  | .hbm, ⟨3, _⟩ => ⟨S_, .f32⟩
  | .hbm, ⟨4, _⟩ => ⟨S28672, .f32⟩
  | .hbm, ⟨5, _⟩ => ⟨S1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S4, .f32⟩
  | .hbm, ⟨20, _⟩ => ⟨S1x4, .f32⟩
  | .hbm, ⟨21, _⟩ => ⟨S4, .f32⟩
  | .hbm, ⟨22, _⟩ => ⟨S1x4, .f32⟩
  | .hbm, ⟨23, _⟩ => ⟨S128, .f32⟩
  | .hbm, ⟨24, _⟩ => ⟨S1x128, .f32⟩
  | .hbm, ⟨25, _⟩ => ⟨S6144, .f32⟩
  | .hbm, ⟨26, _⟩ => ⟨S4x1536, .f32⟩
  | .hbm, ⟨27, _⟩ => ⟨S1536, .f32⟩
  | .hbm, ⟨28, _⟩ => ⟨S3x512, .f32⟩
  | .hbm, ⟨29, _⟩ => ⟨S16384, .f32⟩
  | .hbm, ⟨30, _⟩ => ⟨S16x1024, .f32⟩
  | _, _ => ⟨S16x4x13312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== MetaStep.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MetaStepIdeal.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MetaStepRefIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormStep.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== NormStepIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== NormStepRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WInStep.lean ====
abbrev S1024x898 : Shape := ⟨2, ![1024, 898]⟩
abbrev S256x898 : Shape := ⟨2, ![256, 898]⟩

abbrev nBuf : Space → Nat
  | .hbm => 7
  | .vmem => 14
  | .smem => 0
  | _ => 0

abbrev bufTy : (tb : Table) → Fin (tcTables nBuf tb) → BufTy
  | .hbm, ⟨0, _⟩ => ⟨S1024x898, .f32⟩
  | .hbm, ⟨1, _⟩ => ⟨S1024x898, .f32⟩
  | .hbm, ⟨2, _⟩ => ⟨S1024x898, .f32⟩
  | .hbm, ⟨3, _⟩ => ⟨S1024x898, .f32⟩
  | .hbm, ⟨4, _⟩ => ⟨S1024x898, .f32⟩
  | .hbm, ⟨5, _⟩ => ⟨S1024x898, .f32⟩
  | .hbm, ⟨6, _⟩ => ⟨S1024x898, .f32⟩
  | .local _ .vmem, ⟨0, _⟩ => ⟨S256x898, .f32⟩
  | .local _ .vmem, ⟨1, _⟩ => ⟨S256x898, .f32⟩
  | .local _ .vmem, ⟨2, _⟩ => ⟨S256x898, .f32⟩
  | .local _ .vmem, ⟨3, _⟩ => ⟨S256x898, .f32⟩
  | .local _ .vmem, ⟨4, _⟩ => ⟨S256x898, .f32⟩
  | .local _ .vmem, ⟨5, _⟩ => ⟨S256x898, .f32⟩
  | .local _ .vmem, ⟨6, _⟩ => ⟨S256x898, .f32⟩
  | .local _ .vmem, ⟨7, _⟩ => ⟨S256x898, .f32⟩
  | .local _ .vmem, ⟨8, _⟩ => ⟨S256x898, .f32⟩
  | .local _ .vmem, ⟨9, _⟩ => ⟨S256x898, .f32⟩
  | .local _ .vmem, ⟨10, _⟩ => ⟨S256x898, .f32⟩
  | .local _ .vmem, ⟨11, _⟩ => ⟨S256x898, .f32⟩
  | .local _ .vmem, ⟨12, _⟩ => ⟨S256x898, .f32⟩
  | .local _ .vmem, ⟨13, _⟩ => ⟨S256x898, .f32⟩
  | _, _ => ⟨S1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WInStepIdeal.lean ====
abbrev S1024x898 : Shape := ⟨2, ![1024, 898]⟩
abbrev S256x898 : Shape := ⟨2, ![256, 898]⟩

abbrev nBuf : Space → Nat
  | .hbm => 7
  | .vmem => 14
  | .smem => 0
  | _ => 0

abbrev bufTy : (tb : Table) → Fin (tcTables nBuf tb) → BufTy
  | .hbm, ⟨0, _⟩ => ⟨S1024x898, .f32⟩
  | .hbm, ⟨1, _⟩ => ⟨S1024x898, .f32⟩
  | .hbm, ⟨2, _⟩ => ⟨S1024x898, .f32⟩
  | .hbm, ⟨3, _⟩ => ⟨S1024x898, .f32⟩
  | .hbm, ⟨4, _⟩ => ⟨S1024x898, .f32⟩
  | .hbm, ⟨5, _⟩ => ⟨S1024x898, .f32⟩
  | .hbm, ⟨6, _⟩ => ⟨S1024x898, .f32⟩
  | .local _ .vmem, ⟨0, _⟩ => ⟨S256x898, .f32⟩
  | .local _ .vmem, ⟨1, _⟩ => ⟨S256x898, .f32⟩
  | .local _ .vmem, ⟨2, _⟩ => ⟨S256x898, .f32⟩
  | .local _ .vmem, ⟨3, _⟩ => ⟨S256x898, .f32⟩
  | .local _ .vmem, ⟨4, _⟩ => ⟨S256x898, .f32⟩
  | .local _ .vmem, ⟨5, _⟩ => ⟨S256x898, .f32⟩
  | .local _ .vmem, ⟨6, _⟩ => ⟨S256x898, .f32⟩
  | .local _ .vmem, ⟨7, _⟩ => ⟨S256x898, .f32⟩
  | .local _ .vmem, ⟨8, _⟩ => ⟨S256x898, .f32⟩
  | .local _ .vmem, ⟨9, _⟩ => ⟨S256x898, .f32⟩
  | .local _ .vmem, ⟨10, _⟩ => ⟨S256x898, .f32⟩
  | .local _ .vmem, ⟨11, _⟩ => ⟨S256x898, .f32⟩
  | .local _ .vmem, ⟨12, _⟩ => ⟨S256x898, .f32⟩
  | .local _ .vmem, ⟨13, _⟩ => ⟨S256x898, .f32⟩
  | _, _ => ⟨S1024x898, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x898 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WInStepRefIdeal.lean ====
abbrev S1024x898 : Shape := ⟨2, ![1024, 898]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x898, .f32⟩
  | .hbm, ⟨1, _⟩ => ⟨S1024x898, .f32⟩
  | .hbm, ⟨2, _⟩ => ⟨S1024x898, .f32⟩
  | .hbm, ⟨3, _⟩ => ⟨S1024x898, .f32⟩
  | .hbm, ⟨4, _⟩ => ⟨S_, .f32⟩
  | .hbm, ⟨5, _⟩ => ⟨S1024x898, .f32⟩
  | .hbm, ⟨6, _⟩ => ⟨S1024x898, .f32⟩
  | .hbm, ⟨7, _⟩ => ⟨S_, .f32⟩
  | .hbm, ⟨8, _⟩ => ⟨S1024x898, .f32⟩
  | .hbm, ⟨9, _⟩ => ⟨S1024x898, .f32⟩
  | .hbm, ⟨10, _⟩ => ⟨S1024x898, .f32⟩
  | .hbm, ⟨11, _⟩ => ⟨S_, .f32⟩
  | .hbm, ⟨12, _⟩ => ⟨S1024x898, .f32⟩
  | .hbm, ⟨13, _⟩ => ⟨S1024x898, .f32⟩
  | .hbm, ⟨14, _⟩ => ⟨S1024x898, .f32⟩
  | .hbm, ⟨15, _⟩ => ⟨S_, .f32⟩
  | .hbm, ⟨16, _⟩ => ⟨S1024x898, .f32⟩
  | .hbm, ⟨17, _⟩ => ⟨S1024x898, .f32⟩
  | .hbm, ⟨18, _⟩ => ⟨S1024x898, .f32⟩
  | .hbm, ⟨19, _⟩ => ⟨S_, .f32⟩
  | .hbm, ⟨20, _⟩ => ⟨S1024x898, .f32⟩
  | .hbm, ⟨21, _⟩ => ⟨S1024x898, .f32⟩
  | .hbm, ⟨22, _⟩ => ⟨S_, .f32⟩
  | .hbm, ⟨23, _⟩ => ⟨S1024x898, .f32⟩
  | .hbm, ⟨24, _⟩ => ⟨S1024x898, .f32⟩
  | .hbm, ⟨25, _⟩ => ⟨S1024x898, .f32⟩
  | .hbm, ⟨26, _⟩ => ⟨S_, .f32⟩
  | .hbm, ⟨27, _⟩ => ⟨S1024x898, .f32⟩
  | .hbm, ⟨28, _⟩ => ⟨S1024x898, .f32⟩
  | .hbm, ⟨29, _⟩ => ⟨S1024x898, .f32⟩
  | .hbm, ⟨30, _⟩ => ⟨S_, .f32⟩
  | .hbm, ⟨31, _⟩ => ⟨S1024x898, .f32⟩
  | .hbm, ⟨32, _⟩ => ⟨S1024x898, .f32⟩
  | .hbm, ⟨33, _⟩ => ⟨S1024x898, .f32⟩
  | .hbm, ⟨34, _⟩ => ⟨S_, .f32⟩
  | .hbm, ⟨35, _⟩ => ⟨S1024x898, .f32⟩
  | .hbm, ⟨36, _⟩ => ⟨S1024x898, .f32⟩
  | _, _ => ⟨S1024x898, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ConvQkvStep.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvQkvStepIdeal.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvQkvStepRefIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ALogStep.lean ====
abbrev S1x4 : Shape := ⟨2, ![1, 4]⟩

abbrev nBuf : Space → Nat
  | .hbm => 7
  | .vmem => 7
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ALogStepIdeal.lean ====
abbrev S1x4 : Shape := ⟨2, ![1, 4]⟩

abbrev nBuf : Space → Nat
  | .hbm => 7
  | .vmem => 7
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ALogStepRefIdeal.lean ====
abbrev S1x4 : Shape := ⟨2, ![1, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S_, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S_, .f32⟩
  | .hbm, ⟨12, _⟩ => ⟨S1x4, .f32⟩
  | .hbm, ⟨13, _⟩ => ⟨S1x4, .f32⟩
  | .hbm, ⟨14, _⟩ => ⟨S1x4, .f32⟩
  | .hbm, ⟨15, _⟩ => ⟨S_, .f32⟩
  | .hbm, ⟨16, _⟩ => ⟨S1x4, .f32⟩
  | .hbm, ⟨17, _⟩ => ⟨S1x4, .f32⟩
  | .hbm, ⟨18, _⟩ => ⟨S1x4, .f32⟩
  | .hbm, ⟨19, _⟩ => ⟨S_, .f32⟩
  | .hbm, ⟨20, _⟩ => ⟨S1x4, .f32⟩
  | .hbm, ⟨21, _⟩ => ⟨S1x4, .f32⟩
  | .hbm, ⟨22, _⟩ => ⟨S_, .f32⟩
  | .hbm, ⟨23, _⟩ => ⟨S1x4, .f32⟩
  | .hbm, ⟨24, _⟩ => ⟨S1x4, .f32⟩
  | .hbm, ⟨25, _⟩ => ⟨S1x4, .f32⟩
  | .hbm, ⟨26, _⟩ => ⟨S_, .f32⟩
  | .hbm, ⟨27, _⟩ => ⟨S1x4, .f32⟩
  | .hbm, ⟨28, _⟩ => ⟨S1x4, .f32⟩
  | .hbm, ⟨29, _⟩ => ⟨S1x4, .f32⟩
  | .hbm, ⟨30, _⟩ => ⟨S_, .f32⟩
  | .hbm, ⟨31, _⟩ => ⟨S1x4, .f32⟩
  | .hbm, ⟨32, _⟩ => ⟨S1x4, .f32⟩
  | .hbm, ⟨33, _⟩ => ⟨S1x4, .f32⟩
  | .hbm, ⟨34, _⟩ => ⟨S_, .f32⟩
  | .hbm, ⟨35, _⟩ => ⟨S1x4, .f32⟩
  | .hbm, ⟨36, _⟩ => ⟨S1x4, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GdnNormStep.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GdnNormStepIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GdnNormStepRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ConvScStep.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvScStepIdeal.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvScStepRefIdeal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WOutStep.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== WOutStepIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== WOutStepRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WGateStep.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WGateStepIdeal.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WGateStepRefIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WDownStep.lean ====
abbrev S704x1024 : Shape := ⟨2, ![704, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== WDownStepRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InputGrad.lean ====
abbrev S4224x1024 : Shape := ⟨2, ![4224, 1024]⟩
abbrev S1x1024 : Shape := ⟨2, ![1, 1024]⟩
abbrev S352x1024 : Shape := ⟨2, ![352, 1024]⟩
abbrev S352 : Shape := ⟨1, ![352]⟩
abbrev S352x1 : Shape := ⟨2, ![352, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S1x1024, .f32⟩
  | .local _ .vmem, ⟨0, _⟩ => ⟨S352x1024, .f32⟩
  | .local _ .vmem, ⟨1, _⟩ => ⟨S352x1024, .f32⟩
  | .local _ .vmem, ⟨2, _⟩ => ⟨S1x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v31 : BitVec 1 := Scalar.cmpi .eq arg0 c0_i32
  let v_true : BitVec 1 := 1#1
  let v34 : BitVec 1 := Scalar.xori v31 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InputGradRefIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x1024, .f32⟩
  | .hbm, ⟨34, _⟩ => ⟨S4224x1024, .f32⟩
  | .hbm, ⟨35, _⟩ => ⟨S4224x1, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== MidGrad.lean ====
abbrev S4224x1024 : Shape := ⟨2, ![4224, 1024]⟩
abbrev S1x1024 : Shape := ⟨2, ![1, 1024]⟩
abbrev S352x1024 : Shape := ⟨2, ![352, 1024]⟩
abbrev S352 : Shape := ⟨1, ![352]⟩
abbrev S352x1 : Shape := ⟨2, ![352, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .bf16⟩
  | .hbm, ⟨8, _⟩ => ⟨S1x1024, .f32⟩
  | .hbm, ⟨9, _⟩ => ⟨S1x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S1x1024, .f32⟩
  | .local _ .vmem, ⟨5, _⟩ => ⟨S1x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .bf16⟩
  | .local _ .vmem, ⟨13, _⟩ => ⟨S352x1024, .bf16⟩
  | .local _ .vmem, ⟨14, _⟩ => ⟨S1x1024, .f32⟩
  | .local _ .vmem, ⟨15, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_26 : BitVec 32 := 0#32
  let v62 : BitVec 1 := Scalar.cmpi .ne v61 c0_i32_26
  v62

def k0_cond2 (i : grid0.Coords) : BitVec 1 :=
  let arg0 : BitVec 32 := BitVec.ofNat 32 (i 0).val
  let c0_i32 : BitVec 32 := 0#32
  let v60 : BitVec 1 := Scalar.cmpi .eq arg0 c0_i32
  let v_true : BitVec 1 := 1#1
  let v63 : BitVec 1 := Scalar.xori v60 v_true
  let v64 : BitVec 32 := Scalar.extui v63
  let c0_i32_27 : BitVec 32 := 0#32
  let v65 : BitVec 1 := Scalar.cmpi .ne v64 c0_i32_27
  v65

def k0_cond3 (i : grid0.Coords) : BitVec 1 :=
  let arg0 : BitVec 32 := BitVec.ofNat 32 (i 0).val
  let c0_i32_28 : BitVec 32 := 0#32
  let v66 : BitVec 1 := Scalar.cmpi .eq arg0 c0_i32_28
  let v67 : BitVec 32 := Scalar.extui v66
  let c0_i32_29 : BitVec 32 := 0#32
  let v68 : BitVec 1 := Scalar.cmpi .ne v67 c0_i32_29
  v68

def k0_cond4 (i : grid0.Coords) : BitVec 1 :=
  let arg0 : BitVec 32 := BitVec.ofNat 32 (i 0).val
  let c0_i32_28 : BitVec 32 := 0#32
  let v66 : BitVec 1 := Scalar.cmpi .eq arg0 c0_i32_28
  let true_30 : BitVec 1 := 1#1
  let v69 : BitVec 1 := Scalar.xori v66 true_30
  let v70 : BitVec 32 := Scalar.extui v69
  let c0_i32_31 : BitVec 32 := 0#32
  let v71 : BitVec 1 := Scalar.cmpi .ne v70 c0_i32_31
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidGradRefIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S_, .f32⟩
  | .hbm, ⟨33, _⟩ => ⟨S4224, .f32⟩
  | .hbm, ⟨34, _⟩ => ⟨S4224x1, .f32⟩
  | .hbm, ⟨35, _⟩ => ⟨S4224x1024, .f32⟩
  | .hbm, ⟨36, _⟩ => ⟨S4224x1024, .f32⟩
  | .hbm, ⟨37, _⟩ => ⟨S4224x1, .f32⟩
  | .hbm, ⟨38, _⟩ => ⟨S_, .f32⟩
  | .hbm, ⟨39, _⟩ => ⟨S4224x1, .f32⟩
  | .hbm, ⟨40, _⟩ => ⟨S4224x1, .f32⟩
  | .hbm, ⟨41, _⟩ => ⟨S_, .f32⟩
  | .hbm, ⟨42, _⟩ => ⟨S4224, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S4224, .f32⟩
  | .hbm, ⟨52, _⟩ => ⟨S4224x1, .f32⟩
  | .hbm, ⟨53, _⟩ => ⟨S_, .f32⟩
  | .hbm, ⟨54, _⟩ => ⟨S4224x1, .f32⟩
  | .hbm, ⟨55, _⟩ => ⟨S4224x1, .f32⟩
  | .hbm, ⟨56, _⟩ => ⟨S_, .f32⟩
  | .hbm, ⟨57, _⟩ => ⟨S4224x1, .f32⟩
  | .hbm, ⟨58, _⟩ => ⟨S4224x1, .f32⟩
  | .hbm, ⟨59, _⟩ => ⟨S4224x1, .f32⟩
  | .hbm, ⟨60, _⟩ => ⟨S4224x1, .f32⟩
  | .hbm, ⟨61, _⟩ => ⟨S_, .f32⟩
  | .hbm, ⟨62, _⟩ => ⟨S4224x1, .f32⟩
  | .hbm, ⟨63, _⟩ => ⟨S4224x1, .f32⟩
  | .hbm, ⟨64, _⟩ => ⟨S4224x1024, .f32⟩
  | .hbm, ⟨65, _⟩ => ⟨S4224x1024, .f32⟩
  | .hbm, ⟨66, _⟩ => ⟨S4224x1024, .f32⟩
  | .hbm, ⟨67, _⟩ => ⟨S4224x1024, .f32⟩
  | .hbm, ⟨68, _⟩ => ⟨S4224x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4224x1024, .f32⟩
  | .hbm, ⟨73, _⟩ => ⟨S4224x1024, .f32⟩
  | .hbm, ⟨74, _⟩ => ⟨S4224x1024, .f32⟩
  | .hbm, ⟨75, _⟩ => ⟨S_, .f32⟩
  | .hbm, ⟨76, _⟩ => ⟨S4224, .f32⟩
  | .hbm, ⟨77, _⟩ => ⟨S4224x1, .f32⟩
  | .hbm, ⟨78, _⟩ => ⟨S4224x1024, .f32⟩
  | .hbm, ⟨79, _⟩ => ⟨S4224x1024, .f32⟩
  | .hbm, ⟨80, _⟩ => ⟨S4224x1, .f32⟩
  | .hbm, ⟨81, _⟩ => ⟨S_, .f32⟩
  | .hbm, ⟨82, _⟩ => ⟨S4224x1, .f32⟩
  | .hbm, ⟨83, _⟩ => ⟨S4224x1, .f32⟩
  | .hbm, ⟨84, _⟩ => ⟨S_, .f32⟩
  | .hbm, ⟨85, _⟩ => ⟨S4224, .f32⟩
  | .hbm, ⟨86, _⟩ => ⟨S4224x1024, .f32⟩
  | .hbm, ⟨87, _⟩ => ⟨S4224x1024, .f32⟩
  | .hbm, ⟨88, _⟩ => ⟨S4224x1024, .f32⟩
  | .hbm, ⟨89, _⟩ => ⟨S4224x1024, .f32⟩
  | .hbm, ⟨90, _⟩ => ⟨S4224x1024, .f32⟩
  | .hbm, ⟨91, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== FirstNorm.lean ====
abbrev S4224x1024 : Shape := ⟨2, ![4224, 1024]⟩
abbrev S1x1024 : Shape := ⟨2, ![1, 1024]⟩
abbrev S352x1024 : Shape := ⟨2, ![352, 1024]⟩
abbrev S352 : Shape := ⟨1, ![352]⟩
abbrev S352x1 : Shape := ⟨2, ![352, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .local _ .vmem, ⟨0, _⟩ => ⟨S352x1024, .f32⟩
  | .local _ .vmem, ⟨1, _⟩ => ⟨S352x1024, .f32⟩
  | .local _ .vmem, ⟨2, _⟩ => ⟨S1x1024, .f32⟩
  | .local _ .vmem, ⟨3, _⟩ => ⟨S352x1024, .bf16⟩
  | .local _ .vmem, ⟨4, _⟩ => ⟨S352x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormRefIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Residual.lean ====
abbrev S4224x1024 : Shape := ⟨2, ![4224, 1024]⟩
abbrev S1x1024 : Shape := ⟨2, ![1, 1024]⟩
abbrev S352x1024 : Shape := ⟨2, ![352, 1024]⟩
abbrev S352 : Shape := ⟨1, ![352]⟩
abbrev S352x1 : Shape := ⟨2, ![352, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S4224x1024, .f32⟩
  | .hbm, ⟨5, _⟩ => ⟨S4224x1024, .bf16⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S1x1024, .f32⟩
  | .local _ .vmem, ⟨5, _⟩ => ⟨S1x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .bf16⟩
  | .local _ .vmem, ⟨9, _⟩ => ⟨S352x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidualRefIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 36
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S1x1024, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S_, .f32⟩
  | .hbm, ⟨22, _⟩ => ⟨S4224, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Swiglu.lean ====
abbrev S4224x5632 : Shape := ⟨2, ![4224, 5632]⟩
abbrev S4224x2816 : Shape := ⟨2, ![4224, 2816]⟩
abbrev S176x5632 : Shape := ⟨2, ![176, 5632]⟩
abbrev S176x2816 : Shape := ⟨2, ![176, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4224x5632, .f32⟩
  | .hbm, ⟨1, _⟩ => ⟨S4224x2816, .bf16⟩
  | .local _ .vmem, ⟨0, _⟩ => ⟨S176x5632, .f32⟩
  | .local _ .vmem, ⟨1, _⟩ => ⟨S176x5632, .f32⟩
  | .local _ .vmem, ⟨2, _⟩ => ⟨S176x2816, .bf16⟩
  | .local _ .vmem, ⟨3, _⟩ => ⟨S176x2816, .bf16⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwigluRefIdeal.lean ====
abbrev S4224x5632 : Shape := ⟨2, ![4224, 5632]⟩
abbrev S4224x2816 : Shape := ⟨2, ![4224, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x2816, .f32⟩
  | .hbm, ⟨3, _⟩ => ⟨S4224x2816, .f32⟩
  | .hbm, ⟨4, _⟩ => ⟨S_, .f32⟩
  | .hbm, ⟨5, _⟩ => ⟨S4224x2816, .f32⟩
  | .hbm, ⟨6, _⟩ => ⟨S4224x2816, .f32⟩
  | .hbm, ⟨7, _⟩ => ⟨S_, .f32⟩
  | .hbm, ⟨8, _⟩ => ⟨S4224x2816, .f32⟩
  | .hbm, ⟨9, _⟩ => ⟨S4224x2816, .f32⟩
  | .hbm, ⟨10, _⟩ => ⟨S4224x2816, .f32⟩
  | .hbm, ⟨11, _⟩ => ⟨S4224x2816, .f32⟩
  | .hbm, ⟨12, _⟩ => ⟨S4224x2816, .f32⟩
  | .hbm, ⟨13, _⟩ => ⟨S4224x2816, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== LossHead.lean ====
abbrev S4224x1024 : Shape := ⟨2, ![4224, 1024]⟩
abbrev S1x1024 : Shape := ⟨2, ![1, 1024]⟩
abbrev S1x1 : Shape := ⟨2, ![1, 1]⟩
abbrev S352x1024 : Shape := ⟨2, ![352, 1024]⟩
abbrev S352 : Shape := ⟨1, ![352]⟩
abbrev S352x1 : Shape := ⟨2, ![352, 1]⟩
abbrev S1024 : Shape := ⟨1, ![1024]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S4224x1024, .f32⟩
  | .hbm, ⟨4, _⟩ => ⟨S4224x1024, .f32⟩
  | .hbm, ⟨5, _⟩ => ⟨S4224x1024, .bf16⟩
  | .hbm, ⟨6, _⟩ => ⟨S1x1024, .f32⟩
  | .hbm, ⟨7, _⟩ => ⟨S1x1, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S1x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .bf16⟩
  | .local _ .vmem, ⟨10, _⟩ => ⟨S352x1024, .bf16⟩
  | .local _ .vmem, ⟨11, _⟩ => ⟨S1x1024, .f32⟩
  | .local _ .vmem, ⟨12, _⟩ => ⟨S1x1, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v50 : BitVec 32 := Scalar.extui v46
  let c0_i32_18 : BitVec 32 := 0#32
  let v51 : BitVec 1 := Scalar.cmpi .ne v50 c0_i32_18
  v51

def k0_cond2 (i : grid0.Coords) : BitVec 1 :=
  let arg0 : BitVec 32 := BitVec.ofNat 32 (i 0).val
  let c0_i32 : BitVec 32 := 0#32
  let v46 : BitVec 1 := Scalar.cmpi .eq arg0 c0_i32
  let v_true : BitVec 1 := 1#1
  let v52 : BitVec 1 := Scalar.xori v46 v_true
  let v53 : BitVec 32 := Scalar.extui v52
  let c0_i32_19 : BitVec 32 := 0#32
  let v54 : BitVec 1 := Scalar.cmpi .ne v53 c0_i32_19
  v54

def k0_cond3 (i : grid0.Coords) : BitVec 1 :=
  let arg0 : BitVec 32 := BitVec.ofNat 32 (i 0).val
  let c0_i32_20 : BitVec 32 := 0#32
  let v55 : BitVec 1 := Scalar.cmpi .eq arg0 c0_i32_20
  let v61 : BitVec 32 := Scalar.extui v55
  let c0_i32_23 : BitVec 32 := 0#32
  let v62 : BitVec 1 := Scalar.cmpi .ne v61 c0_i32_23
  v62

def k0_cond4 (i : grid0.Coords) : BitVec 1 :=
  let arg0 : BitVec 32 := BitVec.ofNat 32 (i 0).val
  let c0_i32_20 : BitVec 32 := 0#32
  let v55 : BitVec 1 := Scalar.cmpi .eq arg0 c0_i32_20
  let true_24 : BitVec 1 := 1#1
  let v63 : BitVec 1 := Scalar.xori v55 true_24
  let v64 : BitVec 32 := Scalar.extui v63
  let c0_i32_25 : BitVec 32 := 0#32
  let v65 : BitVec 1 := Scalar.cmpi .ne v64 c0_i32_25
  v65

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S2x2112x1024 : Shape := ⟨3, ![2, 2112, 1024]⟩
abbrev S2x2048x1024 : Shape := ⟨3, ![2, 2048, 1024]⟩
abbrev S2x2048 : Shape := ⟨2, ![2, 2048]⟩
abbrev S1x1 : Shape := ⟨2, ![1, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S4224x1024, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S2x2112x1024, .f32⟩
  | .hbm, ⟨25, _⟩ => ⟨S2x2048x1024, .f32⟩
  | .hbm, ⟨26, _⟩ => ⟨S2x2112x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048, .f32⟩
  | .hbm, ⟨35, _⟩ => ⟨S_, .f32⟩
  | .hbm, ⟨36, _⟩ => ⟨S2x2048, .f32⟩
  | .hbm, ⟨37, _⟩ => ⟨S2x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S2x2112x1024, .f32⟩
  | .hbm, ⟨56, _⟩ => ⟨S4224x1024, .f32⟩
  | .hbm, ⟨57, _⟩ => ⟨S4224x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4224x1024, .f32⟩
  | .hbm, ⟨62, _⟩ => ⟨S4224x1024, .f32⟩
  | .hbm, ⟨63, _⟩ => ⟨S4224x1024, .f32⟩
  | .hbm, ⟨64, _⟩ => ⟨S_, .f32⟩
  | .hbm, ⟨65, _⟩ => ⟨S4224, .f32⟩
  | .hbm, ⟨66, _⟩ => ⟨S4224x1, .f32⟩
  | .hbm, ⟨67, _⟩ => ⟨S4224x1024, .f32⟩
  | .hbm, ⟨68, _⟩ => ⟨S4224x1024, .f32⟩
  | .hbm, ⟨69, _⟩ => ⟨S4224x1, .f32⟩
  | .hbm, ⟨70, _⟩ => ⟨S_, .f32⟩
  | .hbm, ⟨71, _⟩ => ⟨S4224x1, .f32⟩
  | .hbm, ⟨72, _⟩ => ⟨S4224x1, .f32⟩
  | .hbm, ⟨73, _⟩ => ⟨S_, .f32⟩
  | .hbm, ⟨74, _⟩ => ⟨S4224, .f32⟩
  | .hbm, ⟨75, _⟩ => ⟨S4224x1024, .f32⟩
  | .hbm, ⟨76, _⟩ => ⟨S4224x1024, .f32⟩
  | .hbm, ⟨77, _⟩ => ⟨S4224x1024, .f32⟩
  | .hbm, ⟨78, _⟩ => ⟨S4224x1024, .f32⟩
  | .hbm, ⟨79, _⟩ => ⟨S4224x1024, .f32⟩
  | .hbm, ⟨80, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_v51 : Ref sig .tc := ⟨.hbm, 72, rfl⟩
abbrev main_cst_16 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== SwigluGrad.lean ====
abbrev S4224x5632 : Shape := ⟨2, ![4224, 5632]⟩
abbrev S4224x2816 : Shape := ⟨2, ![4224, 2816]⟩
abbrev S176x5632 : Shape := ⟨2, ![176, 5632]⟩
abbrev S176x2816 : Shape := ⟨2, ![176, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x5632, .bf16⟩
  | .local _ .vmem, ⟨0, _⟩ => ⟨S176x5632, .f32⟩
  | .local _ .vmem, ⟨1, _⟩ => ⟨S176x5632, .f32⟩
  | .local _ .vmem, ⟨2, _⟩ => ⟨S176x2816, .f32⟩
  | .local _ .vmem, ⟨3, _⟩ => ⟨S176x2816, .f32⟩
  | .local _ .vmem, ⟨4, _⟩ => ⟨S176x5632, .bf16⟩
  | .local _ .vmem, ⟨5, _⟩ => ⟨S176x5632, .bf16⟩
  | _, _ => ⟨S4224x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluGradRefIdeal.lean ====
abbrev S4224x5632 : Shape := ⟨2, ![4224, 5632]⟩
abbrev S4224x2816 : Shape := ⟨2, ![4224, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4224x5632, .f32⟩
  | .hbm, ⟨1, _⟩ => ⟨S4224x2816, .f32⟩
  | .hbm, ⟨2, _⟩ => ⟨S4224x2816, .f32⟩
  | .hbm, ⟨3, _⟩ => ⟨S4224x2816, .f32⟩
  | .hbm, ⟨4, _⟩ => ⟨S4224x2816, .f32⟩
  | .hbm, ⟨5, _⟩ => ⟨S4224x2816, .f32⟩
  | .hbm, ⟨6, _⟩ => ⟨S_, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S_, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x2816, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x5632, .f32⟩
  | .hbm, ⟨27, _⟩ => ⟨S4224x5632, .bf16⟩
  | _, _ => ⟨S4224x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_cst : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Gated.lean ====
abbrev S4224x512 : Shape := ⟨2, ![4224, 512]⟩
abbrev S4224x3840 : Shape := ⟨2, ![4224, 3840]⟩
abbrev S1x128 : Shape := ⟨2, ![1, 128]⟩
abbrev S2112x128 : Shape := ⟨2, ![2112, 128]⟩
abbrev S2112 : Shape := ⟨1, ![2112]⟩
abbrev S2112x1 : Shape := ⟨2, ![2112, 1]⟩

abbrev nBuf : Space → Nat
  | .hbm => 4
  | .vmem => 7
  | .smem => 0
  | _ => 0

abbrev bufTy : (tb : Table) → Fin (tcTables nBuf tb) → BufTy
  | .hbm, ⟨0, _⟩ => ⟨S4224x512, .f32⟩
  | .hbm, ⟨1, _⟩ => ⟨S4224x3840, .f32⟩
  | .hbm, ⟨2, _⟩ => ⟨S1x128, .f32⟩
  | .hbm, ⟨3, _⟩ => ⟨S4224x512, .bf16⟩
  | .local _ .vmem, ⟨0, _⟩ => ⟨S2112x128, .f32⟩
  | .local _ .vmem, ⟨1, _⟩ => ⟨S2112x128, .f32⟩
  | .local _ .vmem, ⟨2, _⟩ => ⟨S2112x128, .f32⟩
  | .local _ .vmem, ⟨3, _⟩ => ⟨S2112x128, .f32⟩
  | .local _ .vmem, ⟨4, _⟩ => ⟨S1x128, .f32⟩
  | .local _ .vmem, ⟨5, _⟩ => ⟨S2112x128, .bf16⟩
  | .local _ .vmem, ⟨6, _⟩ => ⟨S2112x128, .bf16⟩
  | _, _ => ⟨S4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2112x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatedRefIdeal.lean ====
abbrev S4224x512 : Shape := ⟨2, ![4224, 512]⟩
abbrev S4224x3840 : Shape := ⟨2, ![4224, 3840]⟩
abbrev S1x128 : Shape := ⟨2, ![1, 128]⟩
abbrev S_ : Shape := ⟨0, ![]⟩
abbrev S4224x4x128 : Shape := ⟨3, ![4224, 4, 128]⟩
abbrev S128 : Shape := ⟨1, ![128]⟩
abbrev S4224x4 : Shape := ⟨2, ![4224, 4]⟩
abbrev S4224x4x1 : Shape := ⟨3, ![4224, 4, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4224x512, .f32⟩
  | .hbm, ⟨1, _⟩ => ⟨S4224x3840, .f32⟩
  | .hbm, ⟨2, _⟩ => ⟨S1x128, .f32⟩
  | .hbm, ⟨3, _⟩ => ⟨S4224x512, .f32⟩
  | .hbm, ⟨4, _⟩ => ⟨S4224x512, .f32⟩
  | .hbm, ⟨5, _⟩ => ⟨S4224x512, .f32⟩
  | .hbm, ⟨6, _⟩ => ⟨S_, .f32⟩
  | .hbm, ⟨7, _⟩ => ⟨S4224x512, .f32⟩
  | .hbm, ⟨8, _⟩ => ⟨S4224x512, .f32⟩
  | .hbm, ⟨9, _⟩ => ⟨S_, .f32⟩
  | .hbm, ⟨10, _⟩ => ⟨S4224x512, .f32⟩
  | .hbm, ⟨11, _⟩ => ⟨S4224x512, .f32⟩
  | .hbm, ⟨12, _⟩ => ⟨S4224x512, .f32⟩
  | .hbm, ⟨13, _⟩ => ⟨S4224x4x128, .f32⟩
  | .hbm, ⟨14, _⟩ => ⟨S4224x4x128, .f32⟩
  | .hbm, ⟨15, _⟩ => ⟨S128, .f32⟩
  | .hbm, ⟨16, _⟩ => ⟨S4224x4x128, .f32⟩
  | .hbm, ⟨17, _⟩ => ⟨S_, .f32⟩
  | .hbm, ⟨18, _⟩ => ⟨S4224x4, .f32⟩
  | .hbm, ⟨19, _⟩ => ⟨S4224x4x1, .f32⟩
  | .hbm, ⟨20, _⟩ => ⟨S_, .f32⟩
  | .hbm, ⟨21, _⟩ => ⟨S4224x4x1, .f32⟩
  | .hbm, ⟨22, _⟩ => ⟨S4224x4x1, .f32⟩
  | .hbm, ⟨23, _⟩ => ⟨S_, .f32⟩
  | .hbm, ⟨24, _⟩ => ⟨S4224x4x1, .f32⟩
  | .hbm, ⟨25, _⟩ => ⟨S4224x4x1, .f32⟩
  | .hbm, ⟨26, _⟩ => ⟨S4224x4x1, .f32⟩
  | .hbm, ⟨27, _⟩ => ⟨S4224x4x128, .f32⟩
  | .hbm, ⟨28, _⟩ => ⟨S4224x4x128, .f32⟩
  | .hbm, ⟨29, _⟩ => ⟨S1x1x128, .f32⟩
  | .hbm, ⟨30, _⟩ => ⟨S4224x4x128, .f32⟩
  | .hbm, ⟨31, _⟩ => ⟨S4224x4x128, .f32⟩
  | .hbm, ⟨32, _⟩ => ⟨S4224x4x128, .f32⟩
  | .hbm, ⟨33, _⟩ => ⟨S4224x512, .f32⟩
  | .hbm, ⟨34, _⟩ => ⟨S4224x512, .bf16⟩
  | _, _ => ⟨S4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Gates.lean ====
abbrev S4224x3840 : Shape := ⟨2, ![4224, 3840]⟩
abbrev S1x128 : Shape := ⟨2, ![1, 128]⟩
abbrev S4224x128 : Shape := ⟨2, ![4224, 128]⟩
abbrev S352x128 : Shape := ⟨2, ![352, 128]⟩
abbrev S352x1 : Shape := ⟨2, ![352, 1]⟩

abbrev nBuf : Space → Nat
  | .hbm => 4
  | .vmem => 6
  | .smem => 0
  | _ => 0

abbrev bufTy : (tb : Table) → Fin (tcTables nBuf tb) → BufTy
  | .hbm, ⟨0, _⟩ => ⟨S4224x3840, .f32⟩
  | .hbm, ⟨1, _⟩ => ⟨S1x128, .f32⟩
  | .hbm, ⟨2, _⟩ => ⟨S1x128, .f32⟩
  | .hbm, ⟨3, _⟩ => ⟨S4224x128, .f32⟩
  | .local _ .vmem, ⟨0, _⟩ => ⟨S352x128, .f32⟩
  | .local _ .vmem, ⟨1, _⟩ => ⟨S352x128, .f32⟩
  | .local _ .vmem, ⟨2, _⟩ => ⟨S1x128, .f32⟩
  | .local _ .vmem, ⟨3, _⟩ => ⟨S1x128, .f32⟩
  | .local _ .vmem, ⟨4, _⟩ => ⟨S352x128, .f32⟩
  | .local _ .vmem, ⟨5, _⟩ => ⟨S352x128, .f32⟩
  | _, _ => ⟨S4224x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S352x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesRefIdeal.lean ====
abbrev S4224x3840 : Shape := ⟨2, ![4224, 3840]⟩
abbrev S1x128 : Shape := ⟨2, ![1, 128]⟩
abbrev S4224x8 : Shape := ⟨2, ![4224, 8]⟩
abbrev S4224x4 : Shape := ⟨2, ![4224, 4]⟩
abbrev S_ : Shape := ⟨0, ![]⟩
abbrev S1x4 : Shape := ⟨2, ![1, 4]⟩
abbrev S2x2112x8 : Shape := ⟨3, ![2, 2112, 8]⟩
abbrev S2x2064x8 : Shape := ⟨3, ![2, 2064, 8]⟩
abbrev S2x2112x128 : Shape := ⟨3, ![2, 2112, 128]⟩
abbrev S4224x128 : Shape := ⟨2, ![4224, 128]⟩

abbrev nBuf : Space → Nat
  | .hbm => 43
  | .vmem => 0
  | .smem => 0
  | _ => 0

abbrev bufTy : (tb : Table) → Fin (tcTables nBuf tb) → BufTy
  | .hbm, ⟨0, _⟩ => ⟨S4224x3840, .f32⟩
  | .hbm, ⟨1, _⟩ => ⟨S1x128, .f32⟩
  | .hbm, ⟨2, _⟩ => ⟨S1x128, .f32⟩
  | .hbm, ⟨3, _⟩ => ⟨S4224x8, .f32⟩
  | .hbm, ⟨4, _⟩ => ⟨S4224x4, .f32⟩
  | .hbm, ⟨5, _⟩ => ⟨S4224x4, .f32⟩
  | .hbm, ⟨6, _⟩ => ⟨S4224x4, .f32⟩
  | .hbm, ⟨7, _⟩ => ⟨S_, .f32⟩
  | .hbm, ⟨8, _⟩ => ⟨S4224x4, .f32⟩
  | .hbm, ⟨9, _⟩ => ⟨S4224x4, .f32⟩
  | .hbm, ⟨10, _⟩ => ⟨S_, .f32⟩
  | .hbm, ⟨11, _⟩ => ⟨S4224x4, .f32⟩
  | .hbm, ⟨12, _⟩ => ⟨S4224x4, .f32⟩
  | .hbm, ⟨13, _⟩ => ⟨S1x4, .f32⟩
  | .hbm, ⟨14, _⟩ => ⟨S1x4, .f32⟩
  | .hbm, ⟨15, _⟩ => ⟨S1x4, .f32⟩
  | .hbm, ⟨16, _⟩ => ⟨S4224x4, .f32⟩
  | .hbm, ⟨17, _⟩ => ⟨S1x4, .f32⟩
  | .hbm, ⟨18, _⟩ => ⟨S4224x4, .f32⟩
  | .hbm, ⟨19, _⟩ => ⟨S4224x4, .f32⟩
  | .hbm, ⟨20, _⟩ => ⟨S_, .f32⟩
  | .hbm, ⟨21, _⟩ => ⟨S4224x4, .f32⟩
  | .hbm, ⟨22, _⟩ => ⟨S4224x4, .f32⟩
  | .hbm, ⟨23, _⟩ => ⟨S4224x4, .f32⟩
  | .hbm, ⟨24, _⟩ => ⟨S4224x4, .f32⟩
  | .hbm, ⟨25, _⟩ => ⟨S4224x4, .i1⟩
  | .hbm, ⟨26, _⟩ => ⟨S4224x4, .f32⟩
  | .hbm, ⟨27, _⟩ => ⟨S4224x4, .f32⟩
  | .hbm, ⟨28, _⟩ => ⟨S4224x4, .f32⟩
  | .hbm, ⟨29, _⟩ => ⟨S4224x4, .f32⟩
  | .hbm, ⟨30, _⟩ => ⟨S4224x4, .f32⟩
  | .hbm, ⟨31, _⟩ => ⟨S4224x4, .f32⟩
  | .hbm, ⟨32, _⟩ => ⟨S4224x4, .f32⟩
  | .hbm, ⟨33, _⟩ => ⟨S4224x4, .f32⟩
  | .hbm, ⟨34, _⟩ => ⟨S4224x4, .f32⟩
  | .hbm, ⟨35, _⟩ => ⟨S4224x4, .f32⟩
  | .hbm, ⟨36, _⟩ => ⟨S4224x8, .f32⟩
  | .hbm, ⟨37, _⟩ => ⟨S2x2112x8, .f32⟩
  | .hbm, ⟨38, _⟩ => ⟨S2x2064x8, .f32⟩
  | .hbm, ⟨39, _⟩ => ⟨S_, .i32⟩
  | .hbm, ⟨40, _⟩ => ⟨S_, .f32⟩
  | .hbm, ⟨41, _⟩ => ⟨S2x2112x128, .f32⟩
  | .hbm, ⟨42, _⟩ => ⟨S4224x128, .f32⟩
  | _, _ => ⟨S4224x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_call1_v0 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== ConvV.lean ====
abbrev S4224x3840 : Shape := ⟨2, ![4224, 3840]⟩
abbrev S4x1536 : Shape := ⟨2, ![4, 1536]⟩
abbrev S4224x512 : Shape := ⟨2, ![4224, 512]⟩
abbrev S2112x128 : Shape := ⟨2, ![2112, 128]⟩
abbrev S4x128 : Shape := ⟨2, ![4, 128]⟩
abbrev S1x128 : Shape := ⟨2, ![1, 128]⟩
abbrev S2112x1 : Shape := ⟨2, ![2112, 1]⟩

abbrev nBuf : Space → Nat
  | .hbm => 3
  | .vmem => 6
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .local _ .vmem, ⟨0, _⟩ => ⟨S2112x128, .f32⟩
  | .local _ .vmem, ⟨1, _⟩ => ⟨S2112x128, .f32⟩
  | .local _ .vmem, ⟨2, _⟩ => ⟨S4x128, .f32⟩
  | .local _ .vmem, ⟨3, _⟩ => ⟨S4x128, .f32⟩
  | .local _ .vmem, ⟨4, _⟩ => ⟨S2112x128, .f32⟩
  | .local _ .vmem, ⟨5, _⟩ => ⟨S2112x128, .f32⟩
  | _, _ => ⟨S4224x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvVIdeal.lean ====
abbrev S4224x3840 : Shape := ⟨2, ![4224, 3840]⟩
abbrev S4x1536 : Shape := ⟨2, ![4, 1536]⟩
abbrev S4224x512 : Shape := ⟨2, ![4224, 512]⟩
abbrev S2112x128 : Shape := ⟨2, ![2112, 128]⟩
abbrev S4x128 : Shape := ⟨2, ![4, 128]⟩
abbrev S1x128 : Shape := ⟨2, ![1, 128]⟩
abbrev S2112x1 : Shape := ⟨2, ![2112, 1]⟩

abbrev nBuf : Space → Nat
  | .hbm => 3
  | .vmem => 6
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .local _ .vmem, ⟨0, _⟩ => ⟨S2112x128, .f32⟩
  | .local _ .vmem, ⟨1, _⟩ => ⟨S2112x128, .f32⟩
  | .local _ .vmem, ⟨2, _⟩ => ⟨S4x128, .f32⟩
  | .local _ .vmem, ⟨3, _⟩ => ⟨S4x128, .f32⟩
  | .local _ .vmem, ⟨4, _⟩ => ⟨S2112x128, .f32⟩
  | .local _ .vmem, ⟨5, _⟩ => ⟨S2112x128, .f32⟩
  | _, _ => ⟨S4224x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvVRefIdeal.lean ====
abbrev S4224x3840 : Shape := ⟨2, ![4224, 3840]⟩
abbrev S4x1536 : Shape := ⟨2, ![4, 1536]⟩
abbrev S4224x512 : Shape := ⟨2, ![4224, 512]⟩
abbrev S2x2112x512 : Shape := ⟨3, ![2, 2112, 512]⟩
abbrev S4x512 : Shape := ⟨2, ![4, 512]⟩
abbrev S_ : Shape := ⟨0, ![]⟩
abbrev S2x2115x512 : Shape := ⟨3, ![2, 2115, 512]⟩
abbrev S1x512 : Shape := ⟨2, ![1, 512]⟩
abbrev S512 : Shape := ⟨1, ![512]⟩
abbrev S1x1x512 : Shape := ⟨3, ![1, 1, 512]⟩
abbrev S2x2064x512 : Shape := ⟨3, ![2, 2064, 512]⟩
abbrev S2x2064x4x128 : Shape := ⟨4, ![2, 2064, 4, 128]⟩
abbrev S2x2112x4x128 : Shape := ⟨4, ![2, 2112, 4, 128]⟩

abbrev nBuf : Space → Nat
  | .hbm => 53
  | .vmem => 0
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .hbm, ⟨3, _⟩ => ⟨S2x2112x512, .f32⟩
  | .hbm, ⟨4, _⟩ => ⟨S4x512, .f32⟩
  | .hbm, ⟨5, _⟩ => ⟨S_, .i32⟩
  | .hbm, ⟨6, _⟩ => ⟨S_, .f32⟩
  | .hbm, ⟨7, _⟩ => ⟨S2x2115x512, .f32⟩
  | .hbm, ⟨8, _⟩ => ⟨S2x2112x512, .f32⟩
  | .hbm, ⟨9, _⟩ => ⟨S1x512, .f32⟩
  | .hbm, ⟨10, _⟩ => ⟨S512, .f32⟩
  | .hbm, ⟨11, _⟩ => ⟨S1x1x512, .f32⟩
  | .hbm, ⟨12, _⟩ => ⟨S2x2112x512, .f32⟩
  | .hbm, ⟨13, _⟩ => ⟨S2x2112x512, .f32⟩
  | .hbm, ⟨14, _⟩ => ⟨S_, .f32⟩
  | .hbm, ⟨15, _⟩ => ⟨S2x2112x512, .f32⟩
  | .hbm, ⟨16, _⟩ => ⟨S2x2112x512, .f32⟩
  | .hbm, ⟨17, _⟩ => ⟨S2x2112x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S2x2112x512, .f32⟩
  | .hbm, ⟨22, _⟩ => ⟨S2x2112x512, .f32⟩
  | .hbm, ⟨23, _⟩ => ⟨S2x2112x512, .f32⟩
  | .hbm, ⟨24, _⟩ => ⟨S2x2112x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S2x2112x512, .f32⟩
  | .hbm, ⟨29, _⟩ => ⟨S2x2112x512, .f32⟩
  | .hbm, ⟨30, _⟩ => ⟨S2x2112x512, .f32⟩
  | .hbm, ⟨31, _⟩ => ⟨S2x2112x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S2x2112x512, .f32⟩
  | .hbm, ⟨36, _⟩ => ⟨S2x2112x512, .f32⟩
  | .hbm, ⟨37, _⟩ => ⟨S2x2112x512, .f32⟩
  | .hbm, ⟨38, _⟩ => ⟨S2x2112x512, .f32⟩
  | .hbm, ⟨39, _⟩ => ⟨S2x2112x512, .f32⟩
  | .hbm, ⟨40, _⟩ => ⟨S_, .f32⟩
  | .hbm, ⟨41, _⟩ => ⟨S2x2112x512, .f32⟩
  | .hbm, ⟨42, _⟩ => ⟨S2x2112x512, .f32⟩
  | .hbm, ⟨43, _⟩ => ⟨S_, .f32⟩
  | .hbm, ⟨44, _⟩ => ⟨S2x2112x512, .f32⟩
  | .hbm, ⟨45, _⟩ => ⟨S2x2112x512, .f32⟩
  | .hbm, ⟨46, _⟩ => ⟨S2x2112x512, .f32⟩
  | .hbm, ⟨47, _⟩ => ⟨S2x2064x512, .f32⟩
  | .hbm, ⟨48, _⟩ => ⟨S2x2064x4x128, .f32⟩
  | .hbm, ⟨49, _⟩ => ⟨S_, .i32⟩
  | .hbm, ⟨50, _⟩ => ⟨S_, .f32⟩
  | .hbm, ⟨51, _⟩ => ⟨S2x2112x4x128, .f32⟩
  | .hbm, ⟨52, _⟩ => ⟨S4224x512, .f32⟩
  | _, _ => ⟨S4224x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_0 : Ref sig .tc := ⟨.hbm, 49, rfl⟩
abbrev main_call2_v0 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== ConvK.lean ====
abbrev S4224x3840 : Shape := ⟨2, ![4224, 3840]⟩
abbrev S4x1536 : Shape := ⟨2, ![4, 1536]⟩
abbrev S4224x512 : Shape := ⟨2, ![4224, 512]⟩
abbrev S2112x128 : Shape := ⟨2, ![2112, 128]⟩
abbrev S4x128 : Shape := ⟨2, ![4, 128]⟩
abbrev S1x128 : Shape := ⟨2, ![1, 128]⟩
abbrev S2112 : Shape := ⟨1, ![2112]⟩
abbrev S2112x1 : Shape := ⟨2, ![2112, 1]⟩

abbrev nBuf : Space → Nat
  | .hbm => 3
  | .vmem => 6
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .local _ .vmem, ⟨0, _⟩ => ⟨S2112x128, .f32⟩
  | .local _ .vmem, ⟨1, _⟩ => ⟨S2112x128, .f32⟩
  | .local _ .vmem, ⟨2, _⟩ => ⟨S4x128, .f32⟩
  | .local _ .vmem, ⟨3, _⟩ => ⟨S4x128, .f32⟩
  | .local _ .vmem, ⟨4, _⟩ => ⟨S2112x128, .f32⟩
  | .local _ .vmem, ⟨5, _⟩ => ⟨S2112x128, .f32⟩
  | _, _ => ⟨S4224x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvKIdeal.lean ====
abbrev S4224x3840 : Shape := ⟨2, ![4224, 3840]⟩
abbrev S4x1536 : Shape := ⟨2, ![4, 1536]⟩
abbrev S4224x512 : Shape := ⟨2, ![4224, 512]⟩
abbrev S2112x128 : Shape := ⟨2, ![2112, 128]⟩
abbrev S4x128 : Shape := ⟨2, ![4, 128]⟩
abbrev S1x128 : Shape := ⟨2, ![1, 128]⟩
abbrev S2112 : Shape := ⟨1, ![2112]⟩
abbrev S2112x1 : Shape := ⟨2, ![2112, 1]⟩

abbrev nBuf : Space → Nat
  | .hbm => 3
  | .vmem => 6
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .local _ .vmem, ⟨0, _⟩ => ⟨S2112x128, .f32⟩
  | .local _ .vmem, ⟨1, _⟩ => ⟨S2112x128, .f32⟩
  | .local _ .vmem, ⟨2, _⟩ => ⟨S4x128, .f32⟩
  | .local _ .vmem, ⟨3, _⟩ => ⟨S4x128, .f32⟩
  | .local _ .vmem, ⟨4, _⟩ => ⟨S2112x128, .f32⟩
  | .local _ .vmem, ⟨5, _⟩ => ⟨S2112x128, .f32⟩
  | _, _ => ⟨S4224x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvKRefIdeal.lean ====
abbrev S4224x3840 : Shape := ⟨2, ![4224, 3840]⟩
abbrev S4x1536 : Shape := ⟨2, ![4, 1536]⟩
abbrev S4224x512 : Shape := ⟨2, ![4224, 512]⟩
abbrev S2x2112x512 : Shape := ⟨3, ![2, 2112, 512]⟩
abbrev S4x512 : Shape := ⟨2, ![4, 512]⟩
abbrev S_ : Shape := ⟨0, ![]⟩
abbrev S2x2115x512 : Shape := ⟨3, ![2, 2115, 512]⟩
abbrev S1x512 : Shape := ⟨2, ![1, 512]⟩
abbrev S512 : Shape := ⟨1, ![512]⟩
abbrev S1x1x512 : Shape := ⟨3, ![1, 1, 512]⟩
abbrev S2x2064x512 : Shape := ⟨3, ![2, 2064, 512]⟩
abbrev S2x2064x4x128 : Shape := ⟨4, ![2, 2064, 4, 128]⟩
abbrev S2x2064x4 : Shape := ⟨3, ![2, 2064, 4]⟩
abbrev S2x2064x4x1 : Shape := ⟨4, ![2, 2064, 4, 1]⟩
abbrev S2x2112x4x128 : Shape := ⟨4, ![2, 2112, 4, 128]⟩

abbrev nBuf : Space → Nat
  | .hbm => 63
  | .vmem => 0
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .hbm, ⟨3, _⟩ => ⟨S2x2112x512, .f32⟩
  | .hbm, ⟨4, _⟩ => ⟨S4x512, .f32⟩
  | .hbm, ⟨5, _⟩ => ⟨S_, .i32⟩
  | .hbm, ⟨6, _⟩ => ⟨S_, .f32⟩
  | .hbm, ⟨7, _⟩ => ⟨S2x2115x512, .f32⟩
  | .hbm, ⟨8, _⟩ => ⟨S2x2112x512, .f32⟩
  | .hbm, ⟨9, _⟩ => ⟨S1x512, .f32⟩
  | .hbm, ⟨10, _⟩ => ⟨S512, .f32⟩
  | .hbm, ⟨11, _⟩ => ⟨S1x1x512, .f32⟩
  | .hbm, ⟨12, _⟩ => ⟨S2x2112x512, .f32⟩
  | .hbm, ⟨13, _⟩ => ⟨S2x2112x512, .f32⟩
  | .hbm, ⟨14, _⟩ => ⟨S_, .f32⟩
  | .hbm, ⟨15, _⟩ => ⟨S2x2112x512, .f32⟩
  | .hbm, ⟨16, _⟩ => ⟨S2x2112x512, .f32⟩
  | .hbm, ⟨17, _⟩ => ⟨S2x2112x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S2x2112x512, .f32⟩
  | .hbm, ⟨22, _⟩ => ⟨S2x2112x512, .f32⟩
  | .hbm, ⟨23, _⟩ => ⟨S2x2112x512, .f32⟩
  | .hbm, ⟨24, _⟩ => ⟨S2x2112x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S2x2112x512, .f32⟩
  | .hbm, ⟨29, _⟩ => ⟨S2x2112x512, .f32⟩
  | .hbm, ⟨30, _⟩ => ⟨S2x2112x512, .f32⟩
  | .hbm, ⟨31, _⟩ => ⟨S2x2112x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S2x2112x512, .f32⟩
  | .hbm, ⟨36, _⟩ => ⟨S2x2112x512, .f32⟩
  | .hbm, ⟨37, _⟩ => ⟨S2x2112x512, .f32⟩
  | .hbm, ⟨38, _⟩ => ⟨S2x2112x512, .f32⟩
  | .hbm, ⟨39, _⟩ => ⟨S2x2112x512, .f32⟩
  | .hbm, ⟨40, _⟩ => ⟨S_, .f32⟩
  | .hbm, ⟨41, _⟩ => ⟨S2x2112x512, .f32⟩
  | .hbm, ⟨42, _⟩ => ⟨S2x2112x512, .f32⟩
  | .hbm, ⟨43, _⟩ => ⟨S_, .f32⟩
  | .hbm, ⟨44, _⟩ => ⟨S2x2112x512, .f32⟩
  | .hbm, ⟨45, _⟩ => ⟨S2x2112x512, .f32⟩
  | .hbm, ⟨46, _⟩ => ⟨S2x2112x512, .f32⟩
  | .hbm, ⟨47, _⟩ => ⟨S2x2064x512, .f32⟩
  | .hbm, ⟨48, _⟩ => ⟨S2x2064x4x128, .f32⟩
  | .hbm, ⟨49, _⟩ => ⟨S2x2064x4x128, .f32⟩
  | .hbm, ⟨50, _⟩ => ⟨S_, .f32⟩
  | .hbm, ⟨51, _⟩ => ⟨S2x2064x4, .f32⟩
  | .hbm, ⟨52, _⟩ => ⟨S2x2064x4x1, .f32⟩
  | .hbm, ⟨53, _⟩ => ⟨S_, .f32⟩
  | .hbm, ⟨54, _⟩ => ⟨S2x2064x4x1, .f32⟩
  | .hbm, ⟨55, _⟩ => ⟨S2x2064x4x1, .f32⟩
  | .hbm, ⟨56, _⟩ => ⟨S2x2064x4x1, .f32⟩
  | .hbm, ⟨57, _⟩ => ⟨S2x2064x4x128, .f32⟩
  | .hbm, ⟨58, _⟩ => ⟨S2x2064x4x128, .f32⟩
  | .hbm, ⟨59, _⟩ => ⟨S_, .i32⟩
  | .hbm, ⟨60, _⟩ => ⟨S_, .f32⟩
  | .hbm, ⟨61, _⟩ => ⟨S2x2112x4x128, .f32⟩
  | .hbm, ⟨62, _⟩ => ⟨S4224x512, .f32⟩
  | _, _ => ⟨S4224x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_0 : Ref sig .tc := ⟨.hbm, 50, rfl⟩
abbrev main_v37 : Ref sig .tc := ⟨.hbm, 51, rfl⟩
abbrev main_v38 : Ref sig .tc := ⟨.hbm, 52, rfl⟩
abbrev main_cst_1 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_2 : Ref sig .tc := ⟨.hbm, 59, rfl⟩
abbrev main_call2_v0 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== ConvQ.lean ====
abbrev S4224x3840 : Shape := ⟨2, ![4224, 3840]⟩
abbrev S4x1536 : Shape := ⟨2, ![4, 1536]⟩
abbrev S4224x512 : Shape := ⟨2, ![4224, 512]⟩
abbrev S2112x128 : Shape := ⟨2, ![2112, 128]⟩
abbrev S4x128 : Shape := ⟨2, ![4, 128]⟩
abbrev S1x128 : Shape := ⟨2, ![1, 128]⟩
abbrev S2112 : Shape := ⟨1, ![2112]⟩
abbrev S2112x1 : Shape := ⟨2, ![2112, 1]⟩

abbrev nBuf : Space → Nat
  | .hbm => 3
  | .vmem => 6
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .local _ .vmem, ⟨0, _⟩ => ⟨S2112x128, .f32⟩
  | .local _ .vmem, ⟨1, _⟩ => ⟨S2112x128, .f32⟩
  | .local _ .vmem, ⟨2, _⟩ => ⟨S4x128, .f32⟩
  | .local _ .vmem, ⟨3, _⟩ => ⟨S4x128, .f32⟩
  | .local _ .vmem, ⟨4, _⟩ => ⟨S2112x128, .f32⟩
  | .local _ .vmem, ⟨5, _⟩ => ⟨S2112x128, .f32⟩
  | _, _ => ⟨S4224x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvQIdeal.lean ====
abbrev S4224x3840 : Shape := ⟨2, ![4224, 3840]⟩
abbrev S4x1536 : Shape := ⟨2, ![4, 1536]⟩
abbrev S4224x512 : Shape := ⟨2, ![4224, 512]⟩
abbrev S2112x128 : Shape := ⟨2, ![2112, 128]⟩
abbrev S4x128 : Shape := ⟨2, ![4, 128]⟩
abbrev S1x128 : Shape := ⟨2, ![1, 128]⟩
abbrev S2112 : Shape := ⟨1, ![2112]⟩
abbrev S2112x1 : Shape := ⟨2, ![2112, 1]⟩

abbrev nBuf : Space → Nat
  | .hbm => 3
  | .vmem => 6
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .local _ .vmem, ⟨0, _⟩ => ⟨S2112x128, .f32⟩
  | .local _ .vmem, ⟨1, _⟩ => ⟨S2112x128, .f32⟩
  | .local _ .vmem, ⟨2, _⟩ => ⟨S4x128, .f32⟩
  | .local _ .vmem, ⟨3, _⟩ => ⟨S4x128, .f32⟩
  | .local _ .vmem, ⟨4, _⟩ => ⟨S2112x128, .f32⟩
  | .local _ .vmem, ⟨5, _⟩ => ⟨S2112x128, .f32⟩
  | _, _ => ⟨S4224x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvQRefIdeal.lean ====
abbrev S4224x3840 : Shape := ⟨2, ![4224, 3840]⟩
abbrev S4x1536 : Shape := ⟨2, ![4, 1536]⟩
abbrev S4224x512 : Shape := ⟨2, ![4224, 512]⟩
abbrev S2x2112x512 : Shape := ⟨3, ![2, 2112, 512]⟩
abbrev S4x512 : Shape := ⟨2, ![4, 512]⟩
abbrev S_ : Shape := ⟨0, ![]⟩
abbrev S2x2115x512 : Shape := ⟨3, ![2, 2115, 512]⟩
abbrev S1x512 : Shape := ⟨2, ![1, 512]⟩
abbrev S512 : Shape := ⟨1, ![512]⟩
abbrev S1x1x512 : Shape := ⟨3, ![1, 1, 512]⟩
abbrev S2x2064x512 : Shape := ⟨3, ![2, 2064, 512]⟩
abbrev S2x2064x4x128 : Shape := ⟨4, ![2, 2064, 4, 128]⟩
abbrev S2x2064x4 : Shape := ⟨3, ![2, 2064, 4]⟩
abbrev S2x2064x4x1 : Shape := ⟨4, ![2, 2064, 4, 1]⟩
abbrev S2x2112x4x128 : Shape := ⟨4, ![2, 2112, 4, 128]⟩

abbrev nBuf : Space → Nat
  | .hbm => 66
  | .vmem => 0
  | .smem => 0
  | _ => 0

abbrev bufTy : (tb : Table) → Fin (tcTables nBuf tb) → BufTy
  | .hbm, ⟨0, _⟩ => ⟨S4224x3840, .f32⟩
  | .hbm, ⟨1, _⟩ => ⟨S4x1536, .f32⟩
  | .hbm, ⟨2, _⟩ => ⟨S4224x512, .f32⟩
  | .hbm, ⟨3, _⟩ => ⟨S2x2112x512, .f32⟩
  | .hbm, ⟨4, _⟩ => ⟨S4x512, .f32⟩
  | .hbm, ⟨5, _⟩ => ⟨S_, .i32⟩
  | .hbm, ⟨6, _⟩ => ⟨S_, .f32⟩
  | .hbm, ⟨7, _⟩ => ⟨S2x2115x512, .f32⟩
  | .hbm, ⟨8, _⟩ => ⟨S2x2112x512, .f32⟩
  | .hbm, ⟨9, _⟩ => ⟨S1x512, .f32⟩
  | .hbm, ⟨10, _⟩ => ⟨S512, .f32⟩
  | .hbm, ⟨11, _⟩ => ⟨S1x1x512, .f32⟩
  | .hbm, ⟨12, _⟩ => ⟨S2x2112x512, .f32⟩
  | .hbm, ⟨13, _⟩ => ⟨S2x2112x512, .f32⟩
  | .hbm, ⟨14, _⟩ => ⟨S_, .f32⟩
  | .hbm, ⟨15, _⟩ => ⟨S2x2112x512, .f32⟩
  | .hbm, ⟨16, _⟩ => ⟨S2x2112x512, .f32⟩
  | .hbm, ⟨17, _⟩ => ⟨S2x2112x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S2x2112x512, .f32⟩
  | .hbm, ⟨22, _⟩ => ⟨S2x2112x512, .f32⟩
  | .hbm, ⟨23, _⟩ => ⟨S2x2112x512, .f32⟩
  | .hbm, ⟨24, _⟩ => ⟨S2x2112x512, .f32⟩
  | .hbm, ⟨25, _⟩ => ⟨S1x512, .f32⟩
  | .hbm, ⟨26, _⟩ => ⟨S512, .f32⟩
  | .hbm, ⟨27, _⟩ => ⟨S1x1x512, .f32⟩
  | .hbm, ⟨28, _⟩ => ⟨S2x2112x512, .f32⟩
  | .hbm, ⟨29, _⟩ => ⟨S2x2112x512, .f32⟩
  | .hbm, ⟨30, _⟩ => ⟨S2x2112x512, .f32⟩
  | .hbm, ⟨31, _⟩ => ⟨S2x2112x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S2x2112x512, .f32⟩
  | .hbm, ⟨36, _⟩ => ⟨S2x2112x512, .f32⟩
  | .hbm, ⟨37, _⟩ => ⟨S2x2112x512, .f32⟩
  | .hbm, ⟨38, _⟩ => ⟨S2x2112x512, .f32⟩
  | .hbm, ⟨39, _⟩ => ⟨S2x2112x512, .f32⟩
  | .hbm, ⟨40, _⟩ => ⟨S_, .f32⟩
  | .hbm, ⟨41, _⟩ => ⟨S2x2112x512, .f32⟩
  | .hbm, ⟨42, _⟩ => ⟨S2x2112x512, .f32⟩
  | .hbm, ⟨43, _⟩ => ⟨S_, .f32⟩
  | .hbm, ⟨44, _⟩ => ⟨S2x2112x512, .f32⟩
  | .hbm, ⟨45, _⟩ => ⟨S2x2112x512, .f32⟩
  | .hbm, ⟨46, _⟩ => ⟨S2x2112x512, .f32⟩
  | .hbm, ⟨47, _⟩ => ⟨S2x2064x512, .f32⟩
  | .hbm, ⟨48, _⟩ => ⟨S2x2064x4x128, .f32⟩
  | .hbm, ⟨49, _⟩ => ⟨S2x2064x4x128, .f32⟩
  | .hbm, ⟨50, _⟩ => ⟨S_, .f32⟩
  | .hbm, ⟨51, _⟩ => ⟨S2x2064x4, .f32⟩
  | .hbm, ⟨52, _⟩ => ⟨S2x2064x4x1, .f32⟩
  | .hbm, ⟨53, _⟩ => ⟨S_, .f32⟩
  | .hbm, ⟨54, _⟩ => ⟨S2x2064x4x1, .f32⟩
  | .hbm, ⟨55, _⟩ => ⟨S2x2064x4x1, .f32⟩
  | .hbm, ⟨56, _⟩ => ⟨S2x2064x4x1, .f32⟩
  | .hbm, ⟨57, _⟩ => ⟨S2x2064x4x128, .f32⟩
  | .hbm, ⟨58, _⟩ => ⟨S2x2064x4x128, .f32⟩
  | .hbm, ⟨59, _⟩ => ⟨S_, .f32⟩
  | .hbm, ⟨60, _⟩ => ⟨S2x2064x4x128, .f32⟩
  | .hbm, ⟨61, _⟩ => ⟨S2x2064x4x128, .f32⟩
  | .hbm, ⟨62, _⟩ => ⟨S_, .i32⟩
  | .hbm, ⟨63, _⟩ => ⟨S_, .f32⟩
  | .hbm, ⟨64, _⟩ => ⟨S2x2112x4x128, .f32⟩
  | .hbm, ⟨65, _⟩ => ⟨S4224x512, .f32⟩
  | _, _ => ⟨S4224x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_0 : Ref sig .tc := ⟨.hbm, 50, rfl⟩
abbrev main_v37 : Ref sig .tc := ⟨.hbm, 51, rfl⟩
abbrev main_v38 : Ref sig .tc := ⟨.hbm, 52, rfl⟩
abbrev main_cst_1 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_c_3 : Ref sig .tc := ⟨.hbm, 62, rfl⟩
abbrev main_call2_v0 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== MmProj.lean ====
abbrev S4224x1024 : Shape := ⟨2, ![4224, 1024]⟩
abbrev S1024x3840 : Shape := ⟨2, ![1024, 3840]⟩
abbrev S4224x3840 : Shape := ⟨2, ![4224, 3840]⟩
abbrev S1056x1024 : Shape := ⟨2, ![1056, 1024]⟩
abbrev S1024x1280 : Shape := ⟨2, ![1024, 1280]⟩
abbrev S1056x1280 : Shape := ⟨2, ![1056, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x3840, .bf16⟩
  | .hbm, ⟨2, _⟩ => ⟨S4224x3840, .f32⟩
  | .local _ .vmem, ⟨0, _⟩ => ⟨S1056x1024, .bf16⟩
  | .local _ .vmem, ⟨1, _⟩ => ⟨S1056x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1056x1280, .f32⟩
  | .local _ .vmem, ⟨5, _⟩ => ⟨S1056x1280, .f32⟩
  | .local _ .vmem, ⟨6, _⟩ => ⟨S1056x1280, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjIdeal.lean ====
abbrev S4224x1024 : Shape := ⟨2, ![4224, 1024]⟩
abbrev S1024x3840 : Shape := ⟨2, ![1024, 3840]⟩
abbrev S4224x3840 : Shape := ⟨2, ![4224, 3840]⟩
abbrev S1056x1024 : Shape := ⟨2, ![1056, 1024]⟩
abbrev S1024x1280 : Shape := ⟨2, ![1024, 1280]⟩
abbrev S1056x1280 : Shape := ⟨2, ![1056, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x3840, .bf16⟩
  | .hbm, ⟨2, _⟩ => ⟨S4224x3840, .f32⟩
  | .local _ .vmem, ⟨0, _⟩ => ⟨S1056x1024, .bf16⟩
  | .local _ .vmem, ⟨1, _⟩ => ⟨S1056x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1056x1280, .f32⟩
  | .local _ .vmem, ⟨5, _⟩ => ⟨S1056x1280, .f32⟩
  | .local _ .vmem, ⟨6, _⟩ => ⟨S1056x1280, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmProjRefIdeal.lean ====
abbrev S4224x1024 : Shape := ⟨2, ![4224, 1024]⟩
abbrev S1024x3840 : Shape := ⟨2, ![1024, 3840]⟩
abbrev S4224x3840 : Shape := ⟨2, ![4224, 3840]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x3840, .bf16⟩
  | .hbm, ⟨2, _⟩ => ⟨S4224x1024, .f32⟩
  | .hbm, ⟨3, _⟩ => ⟨S1024x3840, .f32⟩
  | .hbm, ⟨4, _⟩ => ⟨S4224x3840, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmMix.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmMixIdeal.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmMixRefIdeal.lean ====
abbrev S4224x1024 : Shape := ⟨2, ![4224, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1024x1024, .f32⟩
  | .hbm, ⟨4, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmGateUp.lean ====
abbrev S4224x1024 : Shape := ⟨2, ![4224, 1024]⟩
abbrev S1024x5632 : Shape := ⟨2, ![1024, 5632]⟩
abbrev S4224x5632 : Shape := ⟨2, ![4224, 5632]⟩
abbrev S1056x1024 : Shape := ⟨2, ![1056, 1024]⟩
abbrev S1024x1408 : Shape := ⟨2, ![1024, 1408]⟩
abbrev S1056x1408 : Shape := ⟨2, ![1056, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x5632, .f32⟩
  | .local _ .vmem, ⟨0, _⟩ => ⟨S1056x1024, .bf16⟩
  | .local _ .vmem, ⟨1, _⟩ => ⟨S1056x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1408, .f32⟩
  | .local _ .vmem, ⟨5, _⟩ => ⟨S1056x1408, .f32⟩
  | .local _ .vmem, ⟨6, _⟩ => ⟨S1056x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGateUpIdeal.lean ====
abbrev S4224x1024 : Shape := ⟨2, ![4224, 1024]⟩
abbrev S1024x5632 : Shape := ⟨2, ![1024, 5632]⟩
abbrev S4224x5632 : Shape := ⟨2, ![4224, 5632]⟩
abbrev S1056x1024 : Shape := ⟨2, ![1056, 1024]⟩
abbrev S1024x1408 : Shape := ⟨2, ![1024, 1408]⟩
abbrev S1056x1408 : Shape := ⟨2, ![1056, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x5632, .f32⟩
  | .local _ .vmem, ⟨0, _⟩ => ⟨S1056x1024, .bf16⟩
  | .local _ .vmem, ⟨1, _⟩ => ⟨S1056x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1408, .f32⟩
  | .local _ .vmem, ⟨5, _⟩ => ⟨S1056x1408, .f32⟩
  | .local _ .vmem, ⟨6, _⟩ => ⟨S1056x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmGateUpRefIdeal.lean ====
abbrev S4224x1024 : Shape := ⟨2, ![4224, 1024]⟩
abbrev S1024x5632 : Shape := ⟨2, ![1024, 5632]⟩
abbrev S4224x5632 : Shape := ⟨2, ![4224, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x1024, .f32⟩
  | .hbm, ⟨3, _⟩ => ⟨S1024x5632, .f32⟩
  | .hbm, ⟨4, _⟩ => ⟨S4224x5632, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmDown.lean ====
abbrev S4224x2816 : Shape := ⟨2, ![4224, 2816]⟩
abbrev S2816x1024 : Shape := ⟨2, ![2816, 1024]⟩
abbrev S4224x1024 : Shape := ⟨2, ![4224, 1024]⟩
abbrev S1056x1408 : Shape := ⟨2, ![1056, 1408]⟩
abbrev S1408x1024 : Shape := ⟨2, ![1408, 1024]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .local _ .vmem, ⟨0, _⟩ => ⟨S1056x1408, .bf16⟩
  | .local _ .vmem, ⟨1, _⟩ => ⟨S1056x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownIdeal.lean ====
abbrev S4224x2816 : Shape := ⟨2, ![4224, 2816]⟩
abbrev S2816x1024 : Shape := ⟨2, ![2816, 1024]⟩
abbrev S4224x1024 : Shape := ⟨2, ![4224, 1024]⟩
abbrev S1056x1408 : Shape := ⟨2, ![1056, 1408]⟩
abbrev S1408x1024 : Shape := ⟨2, ![1408, 1024]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .local _ .vmem, ⟨0, _⟩ => ⟨S1056x1408, .bf16⟩
  | .local _ .vmem, ⟨1, _⟩ => ⟨S1056x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDownRefIdeal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x2816, .f32⟩
  | .hbm, ⟨3, _⟩ => ⟨S2816x1024, .f32⟩
  | .hbm, ⟨4, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmDact.lean ====
abbrev S4224x1024 : Shape := ⟨2, ![4224, 1024]⟩
abbrev S2816x1024 : Shape := ⟨2, ![2816, 1024]⟩
abbrev S4224x2816 : Shape := ⟨2, ![4224, 2816]⟩
abbrev S1056x1024 : Shape := ⟨2, ![1056, 1024]⟩
abbrev S1408x1024 : Shape := ⟨2, ![1408, 1024]⟩
abbrev S1056x1408 : Shape := ⟨2, ![1056, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .f32⟩
  | .local _ .vmem, ⟨0, _⟩ => ⟨S1056x1024, .bf16⟩
  | .local _ .vmem, ⟨1, _⟩ => ⟨S1056x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1056x1408, .f32⟩
  | .local _ .vmem, ⟨5, _⟩ => ⟨S1056x1408, .f32⟩
  | .local _ .vmem, ⟨6, _⟩ => ⟨S1056x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDactIdeal.lean ====
abbrev S4224x1024 : Shape := ⟨2, ![4224, 1024]⟩
abbrev S2816x1024 : Shape := ⟨2, ![2816, 1024]⟩
abbrev S4224x2816 : Shape := ⟨2, ![4224, 2816]⟩
abbrev S1056x1024 : Shape := ⟨2, ![1056, 1024]⟩
abbrev S1408x1024 : Shape := ⟨2, ![1408, 1024]⟩
abbrev S1056x1408 : Shape := ⟨2, ![1056, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x2816, .f32⟩
  | .local _ .vmem, ⟨0, _⟩ => ⟨S1056x1024, .bf16⟩
  | .local _ .vmem, ⟨1, _⟩ => ⟨S1056x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1056x1408, .f32⟩
  | .local _ .vmem, ⟨5, _⟩ => ⟨S1056x1408, .f32⟩
  | .local _ .vmem, ⟨6, _⟩ => ⟨S1056x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDactRefIdeal.lean ====
abbrev S4224x1024 : Shape := ⟨2, ![4224, 1024]⟩
abbrev S2816x1024 : Shape := ⟨2, ![2816, 1024]⟩
abbrev S1024x2816 : Shape := ⟨2, ![1024, 2816]⟩
abbrev S4224x2816 : Shape := ⟨2, ![4224, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S4224x1024, .f32⟩
  | .hbm, ⟨3, _⟩ => ⟨S2816x1024, .f32⟩
  | .hbm, ⟨4, _⟩ => ⟨S1024x2816, .f32⟩
  | .hbm, ⟨5, _⟩ => ⟨S4224x2816, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDwDown.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwDownIdeal.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwDownRefIdeal.lean ====
abbrev S4224x2816 : Shape := ⟨2, ![4224, 2816]⟩
abbrev S4224x1024 : Shape := ⟨2, ![4224, 1024]⟩
abbrev S2816x4224 : Shape := ⟨2, ![2816, 4224]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .bf16⟩
  | .hbm, ⟨2, _⟩ => ⟨S4224x2816, .f32⟩
  | .hbm, ⟨3, _⟩ => ⟨S4224x1024, .f32⟩
  | .hbm, ⟨4, _⟩ => ⟨S2816x4224, .f32⟩
  | .hbm, ⟨5, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDwGateUp.lean ====
abbrev S4224x1024 : Shape := ⟨2, ![4224, 1024]⟩
abbrev S4224x5632 : Shape := ⟨2, ![4224, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S1024x5632, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwGateUpIdeal.lean ====
abbrev S4224x1024 : Shape := ⟨2, ![4224, 1024]⟩
abbrev S4224x5632 : Shape := ⟨2, ![4224, 5632]⟩
abbrev S1024x5632 : Shape := ⟨2, ![1024, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S1024x5632, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwGateUpRefIdeal.lean ====
abbrev S4224x1024 : Shape := ⟨2, ![4224, 1024]⟩
abbrev S4224x5632 : Shape := ⟨2, ![4224, 5632]⟩
abbrev S1024x4224 : Shape := ⟨2, ![1024, 4224]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x5632, .bf16⟩
  | .hbm, ⟨2, _⟩ => ⟨S4224x1024, .f32⟩
  | .hbm, ⟨3, _⟩ => ⟨S4224x5632, .f32⟩
  | .hbm, ⟨4, _⟩ => ⟨S1024x4224, .f32⟩
  | .hbm, ⟨5, _⟩ => ⟨S1024x5632, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDu2.lean ====
abbrev S4224x5632 : Shape := ⟨2, ![4224, 5632]⟩
abbrev S1024x5632 : Shape := ⟨2, ![1024, 5632]⟩
abbrev S4224x1024 : Shape := ⟨2, ![4224, 1024]⟩
abbrev S1056x1408 : Shape := ⟨2, ![1056, 1408]⟩
abbrev S1024x1408 : Shape := ⟨2, ![1024, 1408]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .bf16⟩
  | .hbm, ⟨2, _⟩ => ⟨S4224x1024, .f32⟩
  | .local _ .vmem, ⟨0, _⟩ => ⟨S1056x1408, .bf16⟩
  | .local _ .vmem, ⟨1, _⟩ => ⟨S1056x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDu2Ideal.lean ====
abbrev S4224x5632 : Shape := ⟨2, ![4224, 5632]⟩
abbrev S1024x5632 : Shape := ⟨2, ![1024, 5632]⟩
abbrev S4224x1024 : Shape := ⟨2, ![4224, 1024]⟩
abbrev S1056x1408 : Shape := ⟨2, ![1056, 1408]⟩
abbrev S1024x1408 : Shape := ⟨2, ![1024, 1408]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .bf16⟩
  | .hbm, ⟨2, _⟩ => ⟨S4224x1024, .f32⟩
  | .local _ .vmem, ⟨0, _⟩ => ⟨S1056x1408, .bf16⟩
  | .local _ .vmem, ⟨1, _⟩ => ⟨S1056x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDu2RefIdeal.lean ====
abbrev S4224x5632 : Shape := ⟨2, ![4224, 5632]⟩
abbrev S1024x5632 : Shape := ⟨2, ![1024, 5632]⟩
abbrev S5632x1024 : Shape := ⟨2, ![5632, 1024]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S1024x5632, .bf16⟩
  | .hbm, ⟨2, _⟩ => ⟨S4224x5632, .f32⟩
  | .hbm, ⟨3, _⟩ => ⟨S1024x5632, .f32⟩
  | .hbm, ⟨4, _⟩ => ⟨S5632x1024, .f32⟩
  | .hbm, ⟨5, _⟩ => ⟨S4224x1024, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDcat.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDcatIdeal.lean ====
abbrev S4224x1024 : Shape := ⟨2, ![4224, 1024]⟩
abbrev S1024x1024 : Shape := ⟨2, ![1024, 1024]⟩
abbrev S1056x1024 : Shape := ⟨2, ![1056, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S1024x1024, .bf16⟩
  | .local _ .vmem, ⟨3, _⟩ => ⟨S1056x1024, .f32⟩
  | .local _ .vmem, ⟨4, _⟩ => ⟨S1056x1024, .f32⟩
  | .local _ .vmem, ⟨5, _⟩ => ⟨S1056x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDcatRefIdeal.lean ====
abbrev S4224x1024 : Shape := ⟨2, ![4224, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1024x1024, .f32⟩
  | .hbm, ⟨4, _⟩ => ⟨S1024x1024, .f32⟩
  | .hbm, ⟨5, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDwOut.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmDwOutIdeal.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MmDwOutRefIdeal.lean ====
abbrev S4224x1024 : Shape := ⟨2, ![4224, 1024]⟩
abbrev S1024x4224 : Shape := ⟨2, ![1024, 4224]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S4224x1024, .f32⟩
  | .hbm, ⟨3, _⟩ => ⟨S4224x1024, .f32⟩
  | .hbm, ⟨4, _⟩ => ⟨S1024x4224, .f32⟩
  | .hbm, ⟨5, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDwIn.lean ====
abbrev S4224x1024 : Shape := ⟨2, ![4224, 1024]⟩
abbrev S4224x3840 : Shape := ⟨2, ![4224, 3840]⟩
abbrev S1024x3840 : Shape := ⟨2, ![1024, 3840]⟩
abbrev S1408x1024 : Shape := ⟨2, ![1408, 1024]⟩
abbrev S1408x1280 : Shape := ⟨2, ![1408, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x3840, .bf16⟩
  | .hbm, ⟨2, _⟩ => ⟨S1024x3840, .f32⟩
  | .local _ .vmem, ⟨0, _⟩ => ⟨S1408x1024, .bf16⟩
  | .local _ .vmem, ⟨1, _⟩ => ⟨S1408x1024, .bf16⟩
  | .local _ .vmem, ⟨2, _⟩ => ⟨S1408x1280, .bf16⟩
  | .local _ .vmem, ⟨3, _⟩ => ⟨S1408x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwInIdeal.lean ====
abbrev S4224x1024 : Shape := ⟨2, ![4224, 1024]⟩
abbrev S4224x3840 : Shape := ⟨2, ![4224, 3840]⟩
abbrev S1024x3840 : Shape := ⟨2, ![1024, 3840]⟩
abbrev S1408x1024 : Shape := ⟨2, ![1408, 1024]⟩
abbrev S1408x1280 : Shape := ⟨2, ![1408, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x3840, .bf16⟩
  | .hbm, ⟨2, _⟩ => ⟨S1024x3840, .f32⟩
  | .local _ .vmem, ⟨0, _⟩ => ⟨S1408x1024, .bf16⟩
  | .local _ .vmem, ⟨1, _⟩ => ⟨S1408x1024, .bf16⟩
  | .local _ .vmem, ⟨2, _⟩ => ⟨S1408x1280, .bf16⟩
  | .local _ .vmem, ⟨3, _⟩ => ⟨S1408x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDwInRefIdeal.lean ====
abbrev S4224x1024 : Shape := ⟨2, ![4224, 1024]⟩
abbrev S4224x3840 : Shape := ⟨2, ![4224, 3840]⟩
abbrev S1024x4224 : Shape := ⟨2, ![1024, 4224]⟩
abbrev S1024x3840 : Shape := ⟨2, ![1024, 3840]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x3840, .bf16⟩
  | .hbm, ⟨2, _⟩ => ⟨S4224x1024, .f32⟩
  | .hbm, ⟨3, _⟩ => ⟨S4224x3840, .f32⟩
  | .hbm, ⟨4, _⟩ => ⟨S1024x4224, .f32⟩
  | .hbm, ⟨5, _⟩ => ⟨S1024x3840, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmDu1.lean ====
abbrev S4224x3840 : Shape := ⟨2, ![4224, 3840]⟩
abbrev S1024x3840 : Shape := ⟨2, ![1024, 3840]⟩
abbrev S4224x1024 : Shape := ⟨2, ![4224, 1024]⟩
abbrev S1056x1280 : Shape := ⟨2, ![1056, 1280]⟩
abbrev S1024x1280 : Shape := ⟨2, ![1024, 1280]⟩
abbrev S1056x1024 : Shape := ⟨2, ![1056, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x3840, .bf16⟩
  | .hbm, ⟨1, _⟩ => ⟨S1024x3840, .bf16⟩
  | .hbm, ⟨2, _⟩ => ⟨S4224x1024, .f32⟩
  | .local _ .vmem, ⟨0, _⟩ => ⟨S1056x1280, .bf16⟩
  | .local _ .vmem, ⟨1, _⟩ => ⟨S1056x1280, .bf16⟩
  | .local _ .vmem, ⟨2, _⟩ => ⟨S1024x1280, .bf16⟩
  | .local _ .vmem, ⟨3, _⟩ => ⟨S1024x1280, .bf16⟩
  | .local _ .vmem, ⟨4, _⟩ => ⟨S1056x1024, .f32⟩
  | .local _ .vmem, ⟨5, _⟩ => ⟨S1056x1024, .f32⟩
  | .local _ .vmem, ⟨6, _⟩ => ⟨S1056x1024, .f32⟩
  | _, _ => ⟨S4224x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1056x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmDu1RefIdeal.lean ====
abbrev S4224x3840 : Shape := ⟨2, ![4224, 3840]⟩
abbrev S1024x3840 : Shape := ⟨2, ![1024, 3840]⟩
abbrev S3840x1024 : Shape := ⟨2, ![3840, 1024]⟩
abbrev S4224x1024 : Shape := ⟨2, ![4224, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x3840, .bf16⟩
  | .hbm, ⟨1, _⟩ => ⟨S1024x3840, .bf16⟩
  | .hbm, ⟨2, _⟩ => ⟨S4224x3840, .f32⟩
  | .hbm, ⟨3, _⟩ => ⟨S1024x3840, .f32⟩
  | .hbm, ⟨4, _⟩ => ⟨S3840x1024, .f32⟩
  | .hbm, ⟨5, _⟩ => ⟨S4224x1024, .f32⟩
  | _, _ => ⟨S4224x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Slots.lean ====
/-
# Slots of an array, and what a copy leaves in one

An array of several slots along its leading axes is cut into the parts its slots cover (`part`): the whole is the
separate parts together (`pointsTo_parts`), a slot's view covers one part (`slot3_set`, `slot4_set`, `slots_set`), and
reads the array at that slot (`slot3_read`, `slot4_read`, `slots_read`). A copy into a view, whatever was there before,
leaves the array's later contents there once these read in the view what was copied (`landed`).
-/
module

public import Idealize.ShloMosaic.Lib.Pipeline.Regions
public import Idealize.ShloMosaic.Lib.ValueLayout
public import Idealize.ShloMosaic.Lib.ViewIndex

@[expose] public section

noncomputable section

namespace Cert.Slots

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {κ : Kind} {sp : Space} {s : Shape} {e : EltTy}

section Part

variable {K : Type} [DecidableEq K]

/-- The elements of a view at the indices with key `k`. -/
def part (v : View sig κ sp s e) (key : s.Idx → K) (k : K) : Finset v.ty.Idx := (Finset.univ.filter fun i => key i = k).map v.emb

theorem part_disjoint (v : View sig κ sp s e) (key : s.Idx → K) {k k' : K} (h : k ≠ k') : Disjoint (part v key k) (part v key k') := by
  unfold part
  rw [Finset.disjoint_map]
  exact Finset.disjoint_filter.mpr fun i _ hi hi' => h (hi.symm.trans hi')

theorem part_cover [Fintype K] (v : View sig κ sp s e) (key : s.Idx → K) : Finset.univ.biUnion (part v key) = v.set := by
  ext i
  unfold part View.set
  simp only [Finset.mem_biUnion, Finset.mem_map, Finset.mem_filter, Finset.mem_univ, true_and]
  exact ⟨fun ⟨k, x, _, hx⟩ => ⟨x, hx⟩, fun ⟨x, hx⟩ => ⟨key x, x, rfl, hx⟩⟩

end Part

section PointsTo

variable {Ix : Type} [DecidableEq Ix] {Val : EltTy → Type} {Name : Type} [DecidableEq Name] {U : Type} [URA U] {Lvl : Type}

local notation "𝕄" => MT nD τ sig Ix Val Name U Lvl

/-- An array is its parts. -/
theorem pointsTo_parts {K : Type} [DecidableEq K] [Fintype K] (c : Thread nD τ) (v : View sig c.2.kind sp s e) (key : s.Idx → K)
    (q : PosShare TreeShare) (f : Buf Val (v.loc c)) :
    (v.loc c ↦[v.set]{q} f : sProp 𝕄) = bigSep Finset.univ fun k : K => v.loc c ↦[part v key k]{q} f := by
  have h : (v.loc c ↦[Finset.univ.biUnion (part v key)]{q} f : sProp 𝕄) = bigSep Finset.univ fun k : K => v.loc c ↦[part v key k]{q} f :=
    pointsTo_biUnion (ℓ := v.loc c) Finset.univ (part v key) fun _ _ _ _ h => part_disjoint v key h
  exact (congrArg (fun S : Finset (Idx (v.loc c)) => (v.loc c ↦[S]{q} f : sProp 𝕄)) (part_cover v key)).symm.trans h

/-- What a copy into a view leaves there. -/
theorem landed (c : Thread nD τ) (v : View sig c.2.kind sp s e) (q : PosShare TreeShare) (fd g : Buf Val (v.loc c)) (w : s.Idx → Val e)
    (h : v.read Val g = w) :
    (v.loc c ↦[v.set]{q} v.write Val fd w Finset.univ : sProp 𝕄) = v.loc c ↦[v.set]{q} g :=
  pointsTo_congr fun i hi => by
    obtain ⟨x, -, rfl⟩ := Finset.mem_map.mp hi
    exact View.eq_of_read_eq ((View.read_write_of_mem fd w (Finset.mem_univ x)).trans (congrFun h x).symm)

/-- The full share in halves. -/
theorem half (ℓ : Loc nD τ sig) (I : Finset (Idx ℓ)) (q : PosShare TreeShare) (f : Buf Val ℓ) :
    (ℓ ↦[I]{q} f : sProp 𝕄) ⊣⊢ iprop((ℓ ↦[I]{q.left} f) ∗ ℓ ↦[I]{q.right} f) :=
  pointsTo_share (PosShare.mem_left_op_right q)

end PointsTo

/-! ## One slot of `[n, a, b]` -/

section Slot3

variable {n a b : ℕ}

theorem slot3_emb (v : View sig κ sp ⟨3, ![n, a, b]⟩ e) (o : Fin n) {off : Fin 3 → ℕ} (h : off = ![o.val, 0, 0])
    (inb : ∀ i, off i + (⟨3, ![1, a, b]⟩ : Shape).size i ≤ (⟨3, ![n, a, b]⟩ : Shape).size i)
    (hq : (⟨2, ![a, b]⟩ : Shape).numel = (⟨3, ![1, a, b]⟩ : Shape).numel) (x : Fin a) (y : Fin b) :
    ((v.slice (Rect.unit (s := ⟨3, ![n, a, b]⟩) off (⟨3, ![1, a, b]⟩ : Shape).size inb)).reshape ⟨2, ![a, b]⟩ hq).emb (ix2 x y) = v.emb (ix3 o x y) := by
  subst h
  show v.emb ((Rect.unit (s := ⟨3, ![n, a, b]⟩) ![o.val, 0, 0] (⟨3, ![1, a, b]⟩ : Shape).size inb).emb (Shape.reshapeEquiv hq (ix2 x y))) = _
  rw [reshapeEquiv_ix2_1ab]
  congr 1
  funext i; apply Fin.ext; rw [Rect.emb_apply]
  match i with
  | ⟨0, _⟩ => show o.val + 1 * 0 = o.val; omega
  | ⟨1, _⟩ => show 0 + 1 * x.val = x.val; omega
  | ⟨2, _⟩ => show 0 + 1 * y.val = y.val; omega

/-- The slot of an index. -/
abbrev key3 (i : (⟨3, ![n, a, b]⟩ : Shape).Idx) : Fin n := i 0

theorem slot3_set (v : View sig κ sp ⟨3, ![n, a, b]⟩ e) (o : Fin n) {off : Fin 3 → ℕ} (h : off = ![o.val, 0, 0])
    (inb : ∀ i, off i + (⟨3, ![1, a, b]⟩ : Shape).size i ≤ (⟨3, ![n, a, b]⟩ : Shape).size i)
    (hq : (⟨2, ![a, b]⟩ : Shape).numel = (⟨3, ![1, a, b]⟩ : Shape).numel) :
    ((v.slice (Rect.unit (s := ⟨3, ![n, a, b]⟩) off (⟨3, ![1, a, b]⟩ : Shape).size inb)).reshape ⟨2, ![a, b]⟩ hq).set = part v key3 o := by
  ext i
  unfold part View.set
  simp only [Finset.mem_map, Finset.mem_filter, Finset.mem_univ, true_and]
  constructor
  · rintro ⟨x, rfl⟩
    obtain ⟨p, q, rfl⟩ : ∃ p q, x = ix2 p q := ⟨x 0, x 1, eq_ix2 x⟩
    exact ⟨ix3 o p q, rfl, (slot3_emb v o h inb hq p q).symm⟩
  · rintro ⟨x, hx, rfl⟩
    obtain ⟨w, p, q, rfl⟩ : ∃ w p q, x = ix3 w p q := ⟨x 0, x 1, x 2, eq_ix3 x⟩
    obtain rfl : w = o := hx
    exact ⟨ix2 p q, slot3_emb v w h inb hq p q⟩

theorem slot3_read {Val : EltTy → Type} (v : View sig κ sp ⟨3, ![n, a, b]⟩ e) (o : Fin n) {off : Fin 3 → ℕ} (h : off = ![o.val, 0, 0])
    (inb : ∀ i, off i + (⟨3, ![1, a, b]⟩ : Shape).size i ≤ (⟨3, ![n, a, b]⟩ : Shape).size i)
    (hq : (⟨2, ![a, b]⟩ : Shape).numel = (⟨3, ![1, a, b]⟩ : Shape).numel) (f : v.ty.Contents Val) :
    ((v.slice (Rect.unit (s := ⟨3, ![n, a, b]⟩) off (⟨3, ![1, a, b]⟩ : Shape).size inb)).reshape ⟨2, ![a, b]⟩ hq).read Val f
      = fun x => v.read Val f (ix3 o (x 0) (x 1)) :=
  funext fun x => by
    obtain ⟨p, q, rfl⟩ : ∃ p q, x = ix2 p q := ⟨x 0, x 1, eq_ix2 x⟩
    exact congrArg (fun i => _root_.cast (congrArg Val v.elt_eq) (f i)) (slot3_emb v o h inb hq p q)

end Slot3

/-! ## One slot of `[n, m, a, b]` -/

section Slot4

variable {n m a b : ℕ}

theorem slot4_emb (v : View sig κ sp ⟨4, ![n, m, a, b]⟩ e) (o : Fin n) (p : Fin m) {off : Fin 4 → ℕ} (h : off = ![o.val, p.val, 0, 0])
    (inb : ∀ i, off i + (⟨4, ![1, 1, a, b]⟩ : Shape).size i ≤ (⟨4, ![n, m, a, b]⟩ : Shape).size i)
    (hq : (⟨2, ![a, b]⟩ : Shape).numel = (⟨4, ![1, 1, a, b]⟩ : Shape).numel) (x : Fin a) (y : Fin b) :
    ((v.slice (Rect.unit (s := ⟨4, ![n, m, a, b]⟩) off (⟨4, ![1, 1, a, b]⟩ : Shape).size inb)).reshape ⟨2, ![a, b]⟩ hq).emb (ix2 x y) = v.emb (ix4 o p x y) := by
  subst h
  show v.emb ((Rect.unit (s := ⟨4, ![n, m, a, b]⟩) ![o.val, p.val, 0, 0] (⟨4, ![1, 1, a, b]⟩ : Shape).size inb).emb (Shape.reshapeEquiv hq (ix2 x y))) = _
  rw [reshapeEquiv_ix2_11ab]
  congr 1
  funext i; apply Fin.ext; rw [Rect.emb_apply]
  match i with
  | ⟨0, _⟩ => show o.val + 1 * 0 = o.val; omega
  | ⟨1, _⟩ => show p.val + 1 * 0 = p.val; omega
  | ⟨2, _⟩ => show 0 + 1 * x.val = x.val; omega
  | ⟨3, _⟩ => show 0 + 1 * y.val = y.val; omega

/-- The slot of an index. -/
abbrev key4 (i : (⟨4, ![n, m, a, b]⟩ : Shape).Idx) : Fin n × Fin m := (i 0, i 1)

theorem slot4_set (v : View sig κ sp ⟨4, ![n, m, a, b]⟩ e) (o : Fin n) (p : Fin m) {off : Fin 4 → ℕ} (h : off = ![o.val, p.val, 0, 0])
    (inb : ∀ i, off i + (⟨4, ![1, 1, a, b]⟩ : Shape).size i ≤ (⟨4, ![n, m, a, b]⟩ : Shape).size i)
    (hq : (⟨2, ![a, b]⟩ : Shape).numel = (⟨4, ![1, 1, a, b]⟩ : Shape).numel) :
    ((v.slice (Rect.unit (s := ⟨4, ![n, m, a, b]⟩) off (⟨4, ![1, 1, a, b]⟩ : Shape).size inb)).reshape ⟨2, ![a, b]⟩ hq).set = part v key4 (o, p) := by
  ext i
  unfold part View.set
  simp only [Finset.mem_map, Finset.mem_filter, Finset.mem_univ, true_and]
  constructor
  · rintro ⟨x, rfl⟩
    obtain ⟨y, z, rfl⟩ : ∃ y z, x = ix2 y z := ⟨x 0, x 1, eq_ix2 x⟩
    exact ⟨ix4 o p y z, rfl, (slot4_emb v o p h inb hq y z).symm⟩
  · rintro ⟨x, hx, rfl⟩
    obtain ⟨w, w', y, z, rfl⟩ : ∃ w w' y z, x = ix4 w w' y z := ⟨x 0, x 1, x 2, x 3, eq_ix4 x⟩
    obtain rfl : w = o := congrArg Prod.fst hx
    obtain rfl : w' = p := congrArg Prod.snd hx
    exact ⟨ix2 y z, slot4_emb v w w' h inb hq y z⟩

theorem slot4_read {Val : EltTy → Type} (v : View sig κ sp ⟨4, ![n, m, a, b]⟩ e) (o : Fin n) (p : Fin m) {off : Fin 4 → ℕ} (h : off = ![o.val, p.val, 0, 0])
    (inb : ∀ i, off i + (⟨4, ![1, 1, a, b]⟩ : Shape).size i ≤ (⟨4, ![n, m, a, b]⟩ : Shape).size i)
    (hq : (⟨2, ![a, b]⟩ : Shape).numel = (⟨4, ![1, 1, a, b]⟩ : Shape).numel) (f : v.ty.Contents Val) :
    ((v.slice (Rect.unit (s := ⟨4, ![n, m, a, b]⟩) off (⟨4, ![1, 1, a, b]⟩ : Shape).size inb)).reshape ⟨2, ![a, b]⟩ hq).read Val f
      = fun x => v.read Val f (ix4 o p (x 0) (x 1)) :=
  funext fun x => by
    obtain ⟨y, z, rfl⟩ : ∃ y z, x = ix2 y z := ⟨x 0, x 1, eq_ix2 x⟩
    exact congrArg (fun i => _root_.cast (congrArg Val v.elt_eq) (f i)) (slot4_emb v o p h inb hq y z)

end Slot4

/-! ## A row of slots of `[n, m, a, b]` -/

section Slots

variable {n m a b : ℕ}

theorem slots_emb (v : View sig κ sp ⟨4, ![n, m, a, b]⟩ e) (o : Fin n) {off : Fin 4 → ℕ} (h : off = ![o.val, 0, 0, 0])
    (inb : ∀ i, off i + (⟨4, ![1, m, a, b]⟩ : Shape).size i ≤ (⟨4, ![n, m, a, b]⟩ : Shape).size i)
    (hq : (⟨3, ![m, a, b]⟩ : Shape).numel = (⟨4, ![1, m, a, b]⟩ : Shape).numel) (z : Fin m) (x : Fin a) (y : Fin b) :
    ((v.slice (Rect.unit (s := ⟨4, ![n, m, a, b]⟩) off (⟨4, ![1, m, a, b]⟩ : Shape).size inb)).reshape ⟨3, ![m, a, b]⟩ hq).emb (ix3 z x y) = v.emb (ix4 o z x y) := by
  subst h
  show v.emb ((Rect.unit (s := ⟨4, ![n, m, a, b]⟩) ![o.val, 0, 0, 0] (⟨4, ![1, m, a, b]⟩ : Shape).size inb).emb (Shape.reshapeEquiv hq (ix3 z x y))) = _
  rw [reshapeEquiv_ix3_1abc]
  congr 1
  funext i; apply Fin.ext; rw [Rect.emb_apply]
  match i with
  | ⟨0, _⟩ => show o.val + 1 * 0 = o.val; omega
  | ⟨1, _⟩ => show 0 + 1 * z.val = z.val; omega
  | ⟨2, _⟩ => show 0 + 1 * x.val = x.val; omega
  | ⟨3, _⟩ => show 0 + 1 * y.val = y.val; omega

/-- The row of an index. -/
abbrev keys (i : (⟨4, ![n, m, a, b]⟩ : Shape).Idx) : Fin n := i 0

/-- A row is its slots. -/
theorem part_row (v : View sig κ sp ⟨4, ![n, m, a, b]⟩ e) (o : Fin n) :
    (Finset.univ : Finset (Fin m)).biUnion (fun p => part v key4 (o, p)) = part v keys o := by
  ext i
  unfold part
  simp only [Finset.mem_biUnion, Finset.mem_map, Finset.mem_filter, Finset.mem_univ, true_and]
  exact ⟨fun ⟨p, x, hx, hi⟩ => ⟨x, congrArg Prod.fst hx, hi⟩, fun ⟨x, hx, hi⟩ => ⟨x 1, x, Prod.ext hx rfl, hi⟩⟩

theorem pointsTo_row {Ix : Type} [DecidableEq Ix] {Val : EltTy → Type} {Name : Type} [DecidableEq Name] {U : Type} [URA U] {Lvl : Type}
    (c : Thread nD τ) (v : View sig c.2.kind sp ⟨4, ![n, m, a, b]⟩ e) (o : Fin n) (q : PosShare TreeShare) (f : Buf Val (v.loc c)) :
    (v.loc c ↦[part v keys o]{q} f : sProp (MT nD τ sig Ix Val Name U Lvl)) = bigSep Finset.univ fun p : Fin m => v.loc c ↦[part v key4 (o, p)]{q} f := by
  have h : (v.loc c ↦[(Finset.univ : Finset (Fin m)).biUnion (fun p => part v key4 (o, p))]{q} f : sProp (MT nD τ sig Ix Val Name U Lvl))
      = bigSep Finset.univ fun p : Fin m => v.loc c ↦[part v key4 (o, p)]{q} f :=
    pointsTo_biUnion (ℓ := v.loc c) Finset.univ _ fun _ _ _ _ h => part_disjoint v key4 fun e => h (congrArg Prod.snd e)
  exact (congrArg (fun S : Finset (Idx (v.loc c)) => (v.loc c ↦[S]{q} f : sProp (MT nD τ sig Ix Val Name U Lvl))) (part_row v o)).symm.trans h

theorem slots_set (v : View sig κ sp ⟨4, ![n, m, a, b]⟩ e) (o : Fin n) {off : Fin 4 → ℕ} (h : off = ![o.val, 0, 0, 0])
    (inb : ∀ i, off i + (⟨4, ![1, m, a, b]⟩ : Shape).size i ≤ (⟨4, ![n, m, a, b]⟩ : Shape).size i)
    (hq : (⟨3, ![m, a, b]⟩ : Shape).numel = (⟨4, ![1, m, a, b]⟩ : Shape).numel) :
    ((v.slice (Rect.unit (s := ⟨4, ![n, m, a, b]⟩) off (⟨4, ![1, m, a, b]⟩ : Shape).size inb)).reshape ⟨3, ![m, a, b]⟩ hq).set = part v keys o := by
  ext i
  unfold part View.set
  simp only [Finset.mem_map, Finset.mem_filter, Finset.mem_univ, true_and]
  constructor
  · rintro ⟨x, rfl⟩
    obtain ⟨p, y, z, rfl⟩ : ∃ p y z, x = ix3 p y z := ⟨x 0, x 1, x 2, eq_ix3 x⟩
    exact ⟨ix4 o p y z, rfl, (slots_emb v o h inb hq p y z).symm⟩
  · rintro ⟨x, hx, rfl⟩
    obtain ⟨w, p, y, z, rfl⟩ : ∃ w p y z, x = ix4 w p y z := ⟨x 0, x 1, x 2, x 3, eq_ix4 x⟩
    obtain rfl : w = o := hx
    exact ⟨ix3 p y z, slots_emb v w h inb hq p y z⟩

theorem slots_read {Val : EltTy → Type} (v : View sig κ sp ⟨4, ![n, m, a, b]⟩ e) (o : Fin n) {off : Fin 4 → ℕ} (h : off = ![o.val, 0, 0, 0])
    (inb : ∀ i, off i + (⟨4, ![1, m, a, b]⟩ : Shape).size i ≤ (⟨4, ![n, m, a, b]⟩ : Shape).size i)
    (hq : (⟨3, ![m, a, b]⟩ : Shape).numel = (⟨4, ![1, m, a, b]⟩ : Shape).numel) (f : v.ty.Contents Val) :
    ((v.slice (Rect.unit (s := ⟨4, ![n, m, a, b]⟩) off (⟨4, ![1, m, a, b]⟩ : Shape).size inb)).reshape ⟨3, ![m, a, b]⟩ hq).read Val f
      = fun x => v.read Val f (ix4 o (x 0) (x 1) (x 2)) :=
  funext fun x => by
    obtain ⟨p, y, z, rfl⟩ : ∃ p y z, x = ix3 p y z := ⟨x 0, x 1, x 2, eq_ix3 x⟩
    exact congrArg (fun i => _root_.cast (congrArg Val v.elt_eq) (f i)) (slots_emb v o h inb hq p y z)

end Slots

end Cert.Slots

end
-- ==== Proof.OneShot.lean ====
/-
# One-shot copies between the devices

The protocol all the kernels here share. Every semaphore of such a kernel is used once: one copy, started by one
device, credits it, and the device that has the semaphore waits for exactly that copy. A plan (`Plan`) lists the
semaphores, the units each copy brings, which device's copy credits which device's semaphore, the order in which a
device starts the copies to other devices, and a level for each semaphore (a device waits on a semaphore only while
every copy it has still to start credits a semaphore of a higher level). What a completed copy hands to the waiting
device is `pay c k`, a resource of the kernel's choice.

The rules are `copy_here` (start a copy within the device), `copy_to` (start a copy to another device) and `collect`
(wait for a copy: the payload comes out, and the semaphore is back at zero).
-/
module

public import Idealize.ShloMosaic.Lib.Pipeline.Regions
public import Idealize.ShloMosaic.Lib.Pipeline.Kit
public import Idealize.ShloMosaic.Lib.Tactic

@[expose] public section

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The semaphores of a kernel, `n` of them, each credited by one copy. -/
structure Plan (nD : ℕ) (sig : RefSig) (n : ℕ) where
  /-- The semaphores, all different. -/
  sem : Fin n → DmaSem sig
  inj : Function.Injective sem
  /-- The units the copy brings. -/
  amt : Fin n → ℕ
  pos : ∀ k, 0 < amt k
  /-- Device `d`'s copy number `k` credits semaphore `k` of device `peer k d`. -/
  peer : Fin n → Dev nD ≃ Dev nD
  /-- The semaphores credited by other devices' copies, in the order the copies are started. -/
  far : List (Fin n)
  nodup : far.Nodup
  /-- The levels. -/
  lev : Fin n → ℕ

variable {nD : ℕ} {τ : Topo} {sig : RefSig} {Val : EltTy → Type} {n : ℕ}

abbrev UU (nD : ℕ) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

namespace Plan

variable (P : Plan nD sig n)

/-- Semaphore `k` of device `c`. -/
abbrev cell (c : Dev nD) (k : Fin n) : GSem nD τ sig := ((c.tc : Thread nD τ), .dma (P.sem k))

/-- The semaphores, as a kernel's own. -/
abbrev osem (k : Fin n) : SemLoc sig := .dma (P.sem k)

theorem cell_inj : Function.Injective fun ck : Dev nD × Fin n => (P.cell ck.1 ck.2 : GSem nD τ sig) := by
  rintro ⟨c, k⟩ ⟨c', k'⟩ h
  have h₁ : c = c' := congrArg (fun g : GSem nD τ sig => g.1.1) h
  have h₂ : (SemLoc.dma (P.sem k) : SemLoc sig) = .dma (P.sem k') := congrArg Prod.snd h
  have h₃ : k = k' := P.inj (by injection h₂)
  rw [h₁, h₃]

theorem cell_eq {c c' : Dev nD} {k k' : Fin n} (h : (P.cell c k : GSem nD τ sig) = P.cell c' k') : c = c' ∧ k = k' := by
  have := P.cell_inj (τ := τ) (a₁ := (c, k)) (a₂ := (c', k')) h
  exact ⟨congrArg Prod.fst this, congrArg Prod.snd this⟩

/-- All of them, on all devices. -/
def cells : Finset (GSem nD τ sig) := Finset.univ.map ⟨fun ck : Dev nD × Fin n => P.cell ck.1 ck.2, P.cell_inj⟩

def toks : Finset (GSem nD τ sig × ℕ × Unit) :=
  Finset.univ.map ⟨fun ck : Dev nD × Fin n => ((P.cell ck.1 ck.2 : GSem nD τ sig), 0, ()), fun _ _ h => P.cell_inj (congrArg Prod.fst h)⟩

theorem cell_mem (c : Dev nD) (k : Fin n) : (P.cell c k : GSem nD τ sig) ∈ P.cells (τ := τ) :=
  Finset.mem_map.mpr ⟨(c, k), Finset.mem_univ _, rfl⟩

/-! ## The schedule -/

section Sched

variable (pay : Dev nD → Fin n → sProp (MT nD τ sig Unit Val ℕ (UU nD τ sig) ℕ))

open Classical in
/-- One round, one duty a semaphore. -/
def sched : Rounds.Schedule (GSem nD τ sig) Unit 𝕄 where
  duties g r := if r = 0 ∧ g ∈ P.cells then {()} else ∅
  amount g _ _ := if h : ∃ ck : Dev nD × Fin n, P.cell ck.1 ck.2 = g then P.amt h.choose.2 else 1
  payload g _ _ := if h : ∃ ck : Dev nD × Fin n, P.cell ck.1 ck.2 = g then pay h.choose.1 h.choose.2 else iprop(emp)
  amount_pos g _ _ _ := by
    split
    · exact P.pos _
    · exact Nat.one_pos
  unitless _ := False

theorem choose_cell (c : Dev nD) (k : Fin n) (h : ∃ ck : Dev nD × Fin n, (P.cell ck.1 ck.2 : GSem nD τ sig) = P.cell c k) :
    h.choose = (c, k) := P.cell_inj (τ := τ) h.choose_spec

theorem duties_cell (c : Dev nD) (k : Fin n) : (P.sched pay).duties (P.cell c k) 0 = {()} := by
  dsimp only [sched]; exact if_pos ⟨rfl, P.cell_mem c k⟩

theorem duties_later (g : GSem nD τ sig) : ∀ r, 1 ≤ r → (P.sched pay).duties g r = ∅ := fun r hr => by
  dsimp only [sched]; exact if_neg fun h => by omega

theorem amount_cell (c : Dev nD) (k : Fin n) (u : Unit) : (P.sched pay).amount (P.cell c k) 0 u = P.amt k := by
  dsimp only [sched]
  have h : ∃ ck : Dev nD × Fin n, (P.cell ck.1 ck.2 : GSem nD τ sig) = P.cell c k := ⟨(c, k), rfl⟩
  rw [dif_pos h, P.choose_cell c k h]

theorem payload_cell (c : Dev nD) (k : Fin n) (u : Unit) : (P.sched pay).payload (P.cell c k) 0 u = pay c k := by
  dsimp only [sched]
  have h : ∃ ck : Dev nD × Fin n, (P.cell ck.1 ck.2 : GSem nD τ sig) = P.cell c k := ⟨(c, k), rfl⟩
  rw [dif_pos h, P.choose_cell c k h]

theorem expect_cell (c : Dev nD) (k : Fin n) : (P.sched pay).expect (P.cell c k) 0 = P.amt k := by
  unfold Schedule.expect Schedule.amountOf; rw [P.duties_cell, Finset.sum_singleton, P.amount_cell]

theorem rest_cell (c : Dev nD) (k : Fin n) :
    bigSep ((P.sched pay).duties (P.cell c k) 0 \ ∅) (fun u => (P.sched pay).payload (P.cell c k) 0 u) = pay c k := by
  rw [Finset.sdiff_empty, P.duties_cell, bigSep_singleton, P.payload_cell]

instance payload_storable [∀ c k, BI.Storable (upEmb : UEmb _ 𝕄) (pay c k)] (g : GSem nD τ sig) (r : ℕ) (d : Unit) :
    BI.Storable (upEmb : UEmb _ 𝕄) ((P.sched pay).payload g r d) := by
  dsimp only [sched]
  split <;> infer_instance

end Sched

/-! ## What a device owes, and the levels -/

/-- The credits device `c` owes when the copies `l` to other devices are still to be started. -/
def owed (c : Dev nD) (l : List (Fin n)) : CellTallies nD τ sig Unit :=
  (l.map fun k => tallyAt (P.cell (P.peer k c) k) () (P.amt k)).sum

theorem owed_nil (c : Dev nD) : (P.owed c [] : CellTallies nD τ sig Unit) = 0 := rfl

theorem owed_cons (c : Dev nD) (k : Fin n) (l : List (Fin n)) :
    (P.owed c (k :: l) : CellTallies nD τ sig Unit) = P.owed c l + tallyAt (P.cell (P.peer k c) k) () (P.amt k) := by
  unfold owed; rw [List.map_cons, List.sum_cons, add_comm]

theorem owed_pos {c : Dev nD} {g : GSem nD τ sig} {u : Unit} : ∀ {l : List (Fin n)}, 0 < P.owed c l g u →
    ∃ k ∈ l, g = P.cell (P.peer k c) k
  | [], h => absurd h (Nat.lt_irrefl 0)
  | k :: l, h => by
    rw [P.owed_cons, Pi.add_apply, Finsupp.add_apply, tallyAt_apply] at h
    by_cases hg : g = P.cell (P.peer k c) k
    · exact ⟨k, List.mem_cons_self, hg⟩
    · rw [if_neg (fun h' => hg h'.1), Nat.add_zero] at h
      obtain ⟨k', hk', e⟩ := owed_pos h
      exact ⟨k', List.mem_cons_of_mem _ hk', e⟩

def L (_ : Plan nD sig n) (g : GSem nD τ sig) : Finset Unit := if g.1.2 = .tc then {()} else ∅

open Classical in
def lv (g : GSem nD τ sig) (_ : Unit) : ℕ := if h : ∃ ck : Dev nD × Fin n, P.cell ck.1 ck.2 = g then P.lev h.choose.2 else 0

theorem L_of_ne (g : GSem nD τ sig) (h : g.1.2 ≠ .tc) : P.L g = ∅ := if_neg h

theorem L_cell (c : Dev nD) (k : Fin n) : P.L (P.cell c k : GSem nD τ sig) = {()} := if_pos rfl

theorem lv_cell (c : Dev nD) (k : Fin n) : P.lv (P.cell c k : GSem nD τ sig) () = P.lev k := by
  unfold lv
  have h : ∃ ck : Dev nD × Fin n, (P.cell ck.1 ck.2 : GSem nD τ sig) = P.cell c k := ⟨(c, k), rfl⟩
  rw [dif_pos h, P.choose_cell c k h]

/-- A device may wait on semaphore `k` while the copies it has still to start credit higher semaphores. -/
theorem mayWait (c : Dev nD) (k : Fin n) (l : List (Fin n)) (h : ∀ k' ∈ l, P.lev k < P.lev k') :
    (levAts P.L P.lv : sProp 𝕄) ⊢ MayWait (c.tc : Thread nD τ) (.dma (P.sem k)) () (P.owed c l) :=
  MayOwe.of_cut (L := P.L) (lev := P.lv) (P.lev k)
    (fun p hp => by rw [Finset.mem_singleton.mp hp, P.L_cell c k]; exact Finset.mem_singleton_self _)
    (fun g u hg => by obtain ⟨k', -, rfl⟩ := P.owed_pos hg; rw [P.L_cell]; exact Finset.mem_singleton_self _)
    (fun p hp => by rw [Finset.mem_singleton.mp hp, P.lv_cell c k])
    (fun g u hg => by obtain ⟨k', hk', rfl⟩ := P.owed_pos hg; cases u; rw [P.lv_cell]; exact h k' hk')

/-! ## The rules -/

section Rules

variable (pay : Dev nD → Fin n → sProp (MT nD τ sig Unit Val ℕ (UU nD τ sig) ℕ))

/-- The semaphore is under the schedule. -/
def known (c : Dev nD) (k : Fin n) : sProp 𝕄 :=
  iprop((∃ κ : ℕ, cellInv ER (P.sched pay) κ (P.cell c k)) ∗ reached ER (P.cell c k) 0)

instance known_persistent (c : Dev nD) (k : Fin n) : BI.Persistent (P.known pay c k) := by unfold known; infer_instance

/-- The right to start the copy that credits it. -/
abbrev tok (c : Dev nD) (k : Fin n) : sProp 𝕄 := dutyTok ER (P.cell c k) 0 ()

/-- The right to wait on it. -/
abbrev pos₀ (c : Dev nD) (k : Fin n) : sProp 𝕄 := atPos ER (P.cell c k) 0 ∅ 0

/-- The credit token of the copy. -/
abbrev due (c : Dev nD) (k : Fin n) : sProp 𝕄 := cred (tallyAt (P.cell c k) () (P.amt k))

variable {Λ : Labels} {defs : Defs nD τ sig Val Λ} (𝒱 : Variants) {α : Type} {Q : α → sProp (MT nD τ sig Unit Val ℕ (UU nD τ sig) ℕ)}
variable {sp sp' : Space} {s : Shape} {e : EltTy}

/-- Start a copy within the device. -/
theorem copy_here (c : Dev nD) (k : Fin n) {src : Memref sig .tc sp s e} {dst : Memref sig .tc sp' s e}
    {sm : DmaSem sig} (hs : sm = P.sem k)
    {hsrc : src.view.WordExact} {hdst : dst.view.WordExact} {hsem : DmaTarget.Typed (nD := nD) (τ := τ) (p := .tc) sp (.dma sm) (.here dst)}
    {kt : PUnit → Prog (TpuEff nD τ sig Val Λ .tc) α} {q : PosShare TreeShare}
    {fs : Buf Val (src.view.loc (c.tc : Thread nD τ))} {fd : Buf Val (dst.view.loc (c.tc : Thread nD τ))}
    (hN : dst.view.dmaCredit = P.amt k)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ pay c k) :
    iprop(P.known pay c k ∗ P.tok c k ∗ (src.view.loc (c.tc : Thread nD τ) ↦[src.view.set]{q} fs)
        ∗ (dst.view.loc (c.tc : Thread nD τ) ↦[dst.view.set]{fullShare} fd))
      ⊢ iprop((P.due c k -∗ wp frame (wpE defs 𝒱 (c.tc : Thread nD τ) none) Set.univ (kt ⟨⟩) Q)
          -∗ wp frame (wpE defs 𝒱 (c.tc : Thread nD τ) none) Set.univ (.op (.enqueueDma src (.here dst) (.dma sm) hsrc hdst hsem) kt) Q) := by
  subst hs
  unfold known
  iintro ⟨⟨⟨%κ, HI⟩, Hr⟩, Ht, Hs, Hd⟩ Hk
  iapply (Rounds.wp_copy_pointsTo 𝒱 ER (P.sched pay) (c.tc : Thread nD τ) none (κ := κ) (r := 0) (d := ()) (fd := fd)
      (by rw [P.duties_cell]; exact Finset.mem_singleton_self _) () (P.amt k) (show dst.view.amount (.dma (P.sem k)) = P.amt k from hN) (P.amount_cell pay c k ())
      (by rw [P.payload_cell]; exact hpay)) $$ [HI Hr Ht Hs Hd]
  · isplitl [HI]; · iexact HI
    isplitl [Hs]; · iexact Hs
    isplitl [Hd]; · iexact Hd
    isplitl [Ht] <;> iassumption
  iexact Hk

/-- Start a copy to device `peer k c`, the next in the order. -/
theorem copy_to (c c' : Dev nD) (k k' : Fin n) (l : List (Fin n)) (hc : c' = P.peer k c)
    {src : Memref sig .tc sp s e} {dst : Memref sig .tc sp' s e}
    {hsc : (dst : Memref sig (c'.tc : Thread nD τ).2.kind sp' s e).view.ref.isScScratch = false}
    {sS sm : DmaSem sig} (hs : sm = P.sem k) (hS : sS = P.sem k')
    {hsrc : src.view.WordExact} {hdst : dst.view.WordExact}
    {hsem : DmaTarget.Typed sp (.dma sm) (.remote (c'.tc : Thread nD τ) dst (.dma sS) hsc)}
    {kt : PUnit → Prog (TpuEff nD τ sig Val Λ .tc) α} {q : PosShare TreeShare}
    {fs : Buf Val (src.view.loc (c.tc : Thread nD τ))} {fd : Buf Val (dst.view.loc (c'.tc : Thread nD τ))} {W : Waits sig Unit}
    (hN : dst.view.dmaCredit = P.amt k) (hN' : P.amt k' = P.amt k)
    (hpay' : (src.view.loc (c.tc : Thread nD τ) ↦[src.view.set]{q} fs) ⊢ pay c k')
    (hpay : (dst.view.loc (c'.tc : Thread nD τ) ↦[dst.view.set]{fullShare} (dst.view.write Val fd (src.view.read Val fs) Finset.univ)) ⊢ pay c' k)
    (hr : τ.routes (c.tc : Thread nD τ) (c'.tc : Thread nD τ) = true) :
    iprop(P.known pay c k' ∗ P.known pay c' k ∗ P.tok c k' ∗ P.tok c' k
        ∗ (src.view.loc (c.tc : Thread nD τ) ↦[src.view.set]{q} fs) ∗ (dst.view.loc (c'.tc : Thread nD τ) ↦[dst.view.set]{fullShare} fd)
        ∗ owes (c.tc : Thread nD τ) (P.owed c (k :: l)) W)
      ⊢ iprop(((P.due c k' ∗ owes (c.tc : Thread nD τ) (P.owed c l) W) -∗ wp frame (wpE defs 𝒱 (c.tc : Thread nD τ) none) Set.univ (kt ⟨⟩) Q)
          -∗ wp frame (wpE defs 𝒱 (c.tc : Thread nD τ) none) Set.univ
            (.op (.enqueueDma src (.remote (c'.tc : Thread nD τ) dst (.dma sS) hsc) (.dma sm) hsrc hdst hsem) kt) Q) := by
  subst hs hS
  unfold known
  iintro ⟨⟨⟨%κ', HI'⟩, Hr'⟩, ⟨⟨%κ, HI⟩, Hr⟩, Ht', Ht, Hs, Hd, HO⟩ Hk
  iapply (Rounds.wp_send_pointsTo 𝒱 ER (P.sched pay) (c.tc : Thread nD τ) none (κ₁ := κ') (κ₂ := κ) (r₁ := 0) (r₂ := 0)
      (d₁ := ()) (d₂ := ()) (fd := fd)
      (by rw [P.duties_cell]; exact Finset.mem_singleton_self _) (by rw [P.duties_cell]; exact Finset.mem_singleton_self _)
      () () (P.amt k) (show dst.view.amount (.dma (P.sem k)) = P.amt k from hN) ((P.amount_cell pay c k' ()).trans hN') (P.amount_cell pay c' k ()) (P.owed c l)
      (O₀ := P.owed c (k :: l)) (by rw [P.owed_cons, hc]) (W := W)
      (by rw [P.payload_cell]; exact hpay') (by rw [P.payload_cell]; exact hpay) hr) $$ [HI' Hr' HI Hr Ht' Ht Hs Hd HO]
  · isplitl [HI']; · iexact HI'
    isplitl [HI]; · iexact HI
    isplitl [Hs]; · iexact Hs
    isplitl [Hd]; · iexact Hd
    isplitl [HO]; · iexact HO
    isplitl [Ht']; · iexact Ht'
    isplitl [Hr']; · iexact Hr'
    isplitl [Ht] <;> iassumption
  unfold due; rw [hN']
  iexact Hk

/-- Wait for a copy: its payload, and the semaphore at zero. -/
theorem collect [∀ c k, BI.Storable (upEmb : UEmb _ 𝕄) (pay c k)] (c : Dev nD) (k : Fin n) (l : List (Fin n))
    (hl : ∀ k' ∈ l, P.lev k < P.lev k')
    {s' : Shape} {e' : EltTy} {src : Memref sig .tc sp s' e'} {κ' : Kind} {dst : Memref sig κ' sp' s e} {sm : DmaSem sig} (hs : sm = P.sem k)
    {hsrc : src.view.WordExact} {hdst : dst.view.WordExact}
    {kt : PUnit → Prog (TpuEff nD τ sig Val Λ .tc) α} {W : Waits sig Unit}
    (hN : dst.view.dmaCredit = P.amt k) :
    iprop(P.known pay c k ∗ P.due c k ∗ P.pos₀ c k ∗ levAts P.L P.lv ∗ owes (c.tc : Thread nD τ) (P.owed c l) W)
      ⊢ iprop(((owes (c.tc : Thread nD τ) (P.owed c l) (insert (SemLoc.dma (P.sem k), ()) W) ∗ pay c k ∗ semVal (P.cell c k) 0)
            -∗ wp frame (wpE defs 𝒱 (c.tc : Thread nD τ) none) Set.univ (kt ⟨⟩) Q)
          -∗ wp frame (wpE defs 𝒱 (c.tc : Thread nD τ) none) Set.univ (.op (.waitDma2 sm src dst hsrc hdst) kt) Q) := by
  subst hs
  unfold known due
  rw [← hN]
  iintro ⟨⟨⟨%κ, #HI⟩, -⟩, Hc, Hat, Hlev, HO⟩ Hk
  iapply (Rounds.wp_wait_rest_token 𝒱 ER (P.sched pay) (c.tc : Thread nD τ) none (κ := κ)
      (wpE_waitDma2_eq 𝒱 (c.tc : Thread nD τ) none Set.univ) (Set.mem_univ _) () (O := P.owed c l) (W := W) (R := 0) (m := 0) (T := ∅)
      (by rw [Nat.zero_add, P.expect_cell pay c k, hN])) $$ [Hc Hat Hlev HO]
  · isplitr; · iexact HI
    isplitl [Hc]; · iexact Hc
    isplitl [HO]; · iexact HO
    isplitl [Hlev]; · iapply (P.mayWait c k l hl); iexact Hlev
    iexact Hat
  iintro ⟨HO, Hat, -, Hpay⟩
  ihave Hp := (Entails.of_eq (P.rest_cell pay c k)) $$ Hpay
  iapply (fupd_wp frame (wpE defs 𝒱 (c.tc : Thread nD τ) none) Set.univ _ _)
  imod (Rounds.cell_close ER (P.sched pay) (Set.mem_univ κ) (fun h => h) (R := 0 + 1) (P.duties_later pay (P.cell c k))) $$ [Hat] with Hz
  · isplitr; · iexact HI
    iexact Hat
  imodintro
  iapply Hk
  isplitl [HO]; · iexact HO
  isplitl [Hp] <;> iassumption

end Rules

end Plan

end Cert.OneShot

end
-- ==== Proof.Start.lean ====
/-
# From the start of the machine to the end of a kernel of one-shot copies

`Plan.run` is the adequacy statement the certificates use. Each device's `@main` starts with a region whose body runs
the copies of a `Plan`; what follows the region is a list of segments. At the start of the machine all devices'
semaphores of the plan are put under the schedule at once, so a device may start a copy to another device that has not
entered its region yet; for the same reason the buffers of all the devices are dealt at once: `hB` says what each device
starts with, which may be parts of the other devices' buffers.
-/
module

public import proofs.«01_k».proof.Proof.OneShot

@[expose] public section

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {n : ℕ}

namespace Plan

variable (P : Plan nD sig n) (pay : Dev nD → Fin n → sProp (MT nD τ sig Unit Val ℕ (UU nD τ sig) ℕ))

local notation "𝕄" => MT nD τ sig Unit Val ℕ (UU nD τ sig) ℕ

/-! ## What a device starts with -/

/-- Every semaphore of every device is under the schedule. -/
def all : sProp 𝕄 := bigSep Finset.univ fun ck : Dev nD × Fin n => P.known pay ck.1 ck.2

instance all_persistent : BI.Persistent (P.all pay) := by unfold all; infer_instance

theorem all_elim (c : Dev nD) (k : Fin n) : P.all pay ⊢ P.known pay c k := bigSep_elim (Finset.mem_univ (c, k))

/-- The credit tokens of the copies from other devices. -/
def dues (c : Dev nD) : List (Fin n) → sProp 𝕄
  | [] => iprop(emp)
  | k :: l => iprop(P.due c k ∗ dues c l)

/-- The rights to wait on the own semaphores, and to start the own copies. -/
def rights (c : Dev nD) : sProp 𝕄 :=
  iprop((bigSep Finset.univ fun k => P.pos₀ c k) ∗ bigSep Finset.univ fun k => P.tok (P.peer k c) k)

/-- All of it. -/
def ready (c : Dev nD) : sProp 𝕄 := iprop(P.all pay ∗ levAts P.L P.lv ∗ P.rights c ∗ P.dues c P.far)

/-! ## Making it -/

theorem launchCred_dues (c : Dev nD) : ∀ l : List (Fin n), (launchCred (fun d => P.owed d l) c : sProp 𝕄) ⊢ P.dues c l
  | [] => by unfold dues; iintro -; iempintro
  | k :: l => by
    have h : (fun d => (P.owed d (k :: l) : CellTallies nD τ sig Unit))
        = fun d => P.owed d l + tallyAt (P.cell (P.peer k d) k) () (P.amt k) := funext fun d => P.owed_cons d k l
    rw [h, launchCred_add]
    unfold dues
    iintro ⟨Hl, Hk⟩
    isplitl [Hk]
    · iapply (launchCred_tallyAt (.dma (P.sem k)) (P.peer k) (P.peer k).symm (fun c => (P.peer k).apply_symm_apply c)
        (fun c => (P.peer k).symm_apply_apply c) () (P.amt k) c)
      iexact Hk
    · iapply (launchCred_dues c l); iexact Hl

/-- The resources of the protocol, from its part of the launch's ghost state. -/
theorem fund_cells : BI.own (ER (initOf (P.cells (τ := τ)) P.toks)) ⊢ (|==>
    iprop((bigSep Finset.univ fun ck : Dev nD × Fin n => roundState ER (P.sched pay) (P.cell ck.1 ck.2) 0)
      ∗ (bigSep Finset.univ fun ck : Dev nD × Fin n => reached ER (P.cell ck.1 ck.2) 0)
      ∗ (bigSep Finset.univ fun ck : Dev nD × Fin n => P.pos₀ ck.1 ck.2)
      ∗ bigSep Finset.univ fun ck : Dev nD × Fin n => P.tok ck.1 ck.2) : sProp 𝕄) := by
  refine (Rounds.fund ER (P.sched pay) P.cells P.toks).trans (BI.bupd_mono ?_)
  unfold cells toks
  rw [bigSep_map, bigSep_map, bigSep_map, bigSep_map]
  exact BI.Entails.refl _

/-- The tokens of the copies, from the devices that have the semaphores to the devices that start the copies. -/
theorem deal_toks : (bigSep Finset.univ fun ck : Dev nD × Fin n => (P.tok ck.1 ck.2 : sProp 𝕄))
    ⊢ bigSep Finset.univ fun c : Dev nD => bigSep Finset.univ fun k => P.tok (P.peer k c) k := by
  let e : Dev nD × Fin n ≃ Dev nD × Fin n :=
    { toFun := fun ck => (P.peer ck.2 ck.1, ck.2), invFun := fun ck => ((P.peer ck.2).symm ck.1, ck.2)
      left_inv := fun ck => Prod.ext ((P.peer ck.2).symm_apply_apply ck.1) rfl
      right_inv := fun ck => Prod.ext ((P.peer ck.2).apply_symm_apply ck.1) rfl }
  rw [bigSep_univ_equiv e, bigSep_univ_prod]
  exact BI.Entails.refl _

theorem deal_rights : iprop((bigSep Finset.univ fun ck : Dev nD × Fin n => (P.pos₀ ck.1 ck.2 : sProp 𝕄))
      ∗ bigSep Finset.univ fun ck : Dev nD × Fin n => P.tok ck.1 ck.2)
    ⊢ bigSep Finset.univ fun c : Dev nD => (P.rights c : sProp 𝕄) := by
  unfold rights
  rw [bigSep_sep']
  exact BI.sep_mono (Entails.of_eq (bigSep_univ_prod _)) P.deal_toks

/-- All the semaphores under the schedule. -/
theorem open_all [∀ c k, BI.Storable (upEmb : UEmb _ 𝕄) (pay c k)] :
    iprop((bigSep Finset.univ fun c : Dev nD => ownSems0 (Ix := Unit) (Name := ℕ) (U := UU nD τ sig) (Lvl := ℕ) (Val := Val) (τ := τ) P.osem c)
      ∗ (bigSep Finset.univ fun ck : Dev nD × Fin n => roundState ER (P.sched pay) (P.cell ck.1 ck.2) 0)
      ∗ (bigSep Finset.univ fun ck : Dev nD × Fin n => reached ER (P.cell ck.1 ck.2) 0))
    ⊢ |={Set.univ}=> P.all pay := by
  have hv : (bigSep Finset.univ fun c : Dev nD => ownSems0 (Ix := Unit) (Name := ℕ) (U := UU nD τ sig) (Lvl := ℕ) (Val := Val) (τ := τ) P.osem c)
      = (bigSep Finset.univ fun ck : Dev nD × Fin n => (semVal (P.cell ck.1 ck.2) 0 : sProp 𝕄)) :=
    (bigSep_univ_prod fun ck : Dev nD × Fin n => (semVal (P.cell ck.1 ck.2) 0 : sProp 𝕄)).symm
  rw [hv, ← bigSep_sep', ← bigSep_sep']
  refine (bigSep_mono fun ck _ => ?_).trans (bigSep_fupd _ _)
  unfold known
  show (_ : sProp 𝕄) ⊢ _
  iintro ⟨Hv, Hst, Hr⟩
  imod (show iprop(semVal (P.cell ck.1 ck.2) 0 ∗ roundState ER (P.sched pay) (P.cell ck.1 ck.2) 0)
      ⊢ (|={Set.univ}=> iprop(∃ κ : ℕ, cellInv ER (P.sched pay) κ (P.cell ck.1 ck.2)) : sProp 𝕄)
    from (Rounds.body_intro ER (P.sched pay) _).trans inv_alloc) $$ [Hv Hst] with HI
  · isplitl [Hv] <;> iassumption
  imodintro
  isplitl [HI] <;> iassumption

end Plan

local notation "𝕄" => MT nD τ sig Unit Val ℕ (UU nD τ sig) ℕ

/-- The level facts, from every device's. -/
theorem levels_set {L : GSem nD τ sig → Finset Unit} {lv : GSem nD τ sig → Unit → ℕ} (hL : ∀ g : GSem nD τ sig, g.1.2 ≠ .tc → L g = ∅) :
    (bigSep Finset.univ fun c : Dev nD => levels0 (Ix := Unit) (Val := Val) (Name := ℕ) (U := UU nD τ sig) (Lvl := ℕ) (τ := τ) (sig := sig) c)
      ⊢ (|==> levAts L lv : sProp 𝕄) := by
  have hnone (d : Dev nD) (p : Proc τ) (hp : p ≠ .tc) : (coreLevAts ((d, p) : Thread nD τ) L lv : sProp 𝕄) = BI.emp := by
    unfold coreLevAts
    refine (bigSep_congr fun sm _ => ?_).trans (BI.bigSep_emp_const _)
    rw [hL (((d, p) : Thread nD τ), sm) hp, BI.bigSep_empty]
  have hdev (d : Dev nD) : (coreLevAts (d.tc : Thread nD τ) L lv : sProp 𝕄) ⊢ bigSep Finset.univ fun p : Proc τ => coreLevAts ((d, p) : Thread nD τ) L lv := by
    rw [BI.bigSep_univ_at (fun p : Proc τ => (coreLevAts ((d, p) : Thread nD τ) L lv : sProp 𝕄)) Proc.tc,
      (bigSep_congr fun p hp => hnone d p (Finset.ne_of_mem_erase hp)).trans (BI.bigSep_emp_const _)]
    iintro H
    isplitl [H]; · iexact H
    iempintro
  have hall : (levAts L lv : sProp 𝕄) = bigSep Finset.univ fun d : Dev nD => bigSep Finset.univ fun p : Proc τ => coreLevAts ((d, p) : Thread nD τ) L lv :=
    (bigSep_univ_prod fun g : GSem nD τ sig => bigSep (L g) fun ι => (levAt g ι (lv g ι) : sProp 𝕄)).trans (bigSep_univ_prod _)
  refine (bigSep_mono fun c _ => lev_assign_cells (c.tc : Thread nD τ) L lv).trans ((BI.bigSep_bupd _ _).trans (BI.bupd_mono ?_))
  rw [hall]
  refine bigSep_mono fun d _ => ?_
  show (_ : sProp 𝕄) ⊢ _
  iintro ⟨-, H⟩
  iapply (hdev d); iexact H

section Run

variable {Λ₀ : Labels} {PP : Type} [Fintype PP]
variable (pcs : PP → PCfg sig Λ₀ Val) (a : (p : PP) → (pcs p).Adm)
  (pdats : (p : PP) → (c : Dev nD) → Dat τ Val Unit ℕ (UU nD τ sig) ℕ (pin pcs a p) c)
  (phinj : Function.Injective (cellOf (nD := nD) (τ := τ) (pin pcs a)))
  (defs₀ : Defs nD τ sig Val Λ₀) (𝒱₀ : Variants)
  (P : Plan nD sig n) (pay : Dev nD → Fin n → sProp (MT nD τ sig Unit Val ℕ (UU nD τ sig) ℕ))
  [∀ c k, BI.Storable (upEmb : UEmb _ (MT nD τ sig Unit Val ℕ (UU nD τ sig) ℕ)) (pay c k)]

local notation "𝔻" => Pipeline.defs pcs defs₀
local notation "𝕍" => Variants.lift 𝒱₀

/-- The launch's ghost state: the regions' and the plan's. -/
def seed : UU nD τ sig := (initOf (Pipeline.cells (pin pcs a) phinj) (launchToks (pin pcs a) phinj), initOf P.cells P.toks)

theorem seed_split : (ownU (seed pcs a phinj P) : sProp 𝕄)
    ⊢ iprop(BI.own (EP (initOf (Pipeline.cells (pin pcs a) phinj) (launchToks (pin pcs a) phinj))) ∗ BI.own (ER (initOf P.cells P.toks))) :=
  ownU_pair _ _

include phinj in
theorem run [DecidableEq PP] [∀ e, Nonempty (Val e)]
    (m : (ℓ : Loc nD τ sig) → Buf Val ℓ) (g : Dev nD → PrngReg)
    (main : Dev nD → Prog (TpuEff nD τ sig Val (Sig Λ₀ PP fun p => (pcs p).Adm) .tc) PUnit)
    (p : PP) (segs : Dev nD → List (Seg pcs a pdats () defs₀ 𝒱₀ P.L P.lv))
    (hmain : ∀ c, main c = .op (.customCall (entry p) ()) fun _ => Seg.run (segs c))
    (hnd : ∀ c, (p :: Seg.pipes (segs c)).Nodup)
    (hw : WinFacts₀ (pcs p).spec) (ho : OwnSemFacts (pcs p).spec P.osem)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed₀ : ∀ c, (pdats p c).owed 0 = P.owed c P.far) (howedN : ∀ c, (pdats p c).owed (Fin.last _) = 0)
    (hwaits : ∀ c, (levAts P.L P.lv : sProp 𝕄) ⊢ cellsWaits (pin pcs a) pdats () p c)
    (harrays : ∀ c, (emp : sProp 𝕄) ⊢ (pdats p c).arrays ((pdats p c).arrAt · 0))
    (hpref : ∀ c, (emp : sProp 𝕄) ⊢ prefHeld (pcs p).pre c (fun _ => fullShare) (a p).1)
    (B Y Tₙ : Dev nD → sProp 𝕄)
    (hB : (bigSep Finset.univ fun c : Dev nD => (unscopedBufs c (fun b => m ((c.tc : Thread nD τ).loc b)) : sProp 𝕄)) ⊢ bigSep Finset.univ B)
    (hin : ∀ c, iprop((P.ready pay c ∗ B c) ∗ prefHeld (pcs p).pre c (fun _ => fullShare) (a p).1 ∗ scopedRest (pin pcs a p).spec c) ⊢ (pdats p c).Φ 0)
    (hout : ∀ c, (pdats p c).Φ (Fin.last (pin pcs a p).N) ⊢ iprop(Y c ∗ ownSems0 P.osem c ∗ scopedRest (pin pcs a p).spec c))
    (hch : ∀ c, Seg.ChainsAt c (fun c => iprop((Y c ∗ prngReg c (g c)) ∗ ∃ W, owes (c.tc : Thread nD τ) (0 : CellTallies nD τ sig Unit) W)) (segs c)
      fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hss := fun c : Dev nD => scopedSems0_split (pin pcs a) phinj p hw ho (Ix := Unit) (Val := Val) (Name := ℕ) (U := UU nD τ sig) (Lvl := ℕ) c
  have hsb := fun c : Dev nD => scopedBufs_split (pin pcs a) p hw.stage_scoped hw.stage_inj hstage (nD := nD) (τ := τ) (Val := Val) (Ix := Unit) (Name := ℕ) (U := UU nD τ sig) (Lvl := ℕ) c
  -- a device's boundary without the plan's semaphores
  let rest : Dev nD → sProp 𝕄 := fun c => iprop(scopedBufs (c.tc : Thread nD τ) ∗ cellsSems0 (pin pcs a) p c ∗ idleSems0 (pin pcs a) phinj p ho c ∗ opIdle (c.tc : Thread nD τ))
  let pre : Dev nD → sProp 𝕄 := fun c => iprop(rest c ∗ (P.all pay ∗ levAts P.L P.lv) ∗ P.rights c ∗ launchCred (fun d => P.owed d P.far) c
    ∗ B c ∗ prngReg c (g c) ∗ owes (c.tc : Thread nD τ) (P.owed c P.far) ∅ ∗ ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing fun c => P.owed c P.far) 0 (noBookings fun _ => le_rfl) (owing_of_ne _) (seed pcs a phinj P)
      (fun _ => pre) (fun _ => fin) (fun _ => iprop(emp)) Set.univ ?start (fun _ c => ?core) fun _ => ?read))
  case start =>
    have hone (c : Dev nD) : coreInit (Ix := Unit) (Name := ℕ) (U := UU nD τ sig) (Lvl := ℕ) (owing fun c => P.owed c P.far) 0 (⟨m, fun _ => 0, g⟩ : MemSt nD τ sig Val) (c.tc : Thread nD τ)
        ⊢ (iprop(rest c ∗ ownSems0 P.osem c ∗ unscopedBufs c (fun b => m ((c.tc : Thread nD τ).loc b)) ∗ levels0 c
            ∗ launchCred (fun d => P.owed d P.far) c ∗ prngReg c (g c) ∗ owes (c.tc : Thread nD τ) (P.owed c P.far) ∅) : sProp 𝕄) := by
      refine (coreInit_boundary_owing _ m g c).trans ?_
      unfold boundary
      rw [hss c]
      iintro ⟨⟨Hsc, ⟨⟨Hcells, Hown⟩, Hidle⟩, Hop⟩, Hub, -, HO, Hlv, Hpr, Hcr⟩
      isplitl [Hsc Hcells Hidle Hop]
      · isplitl [Hsc]; · iexact Hsc
        isplitl [Hcells]; · iexact Hcells
        isplitl [Hidle] <;> iassumption
      isplitl [Hown]; · iexact Hown
      isplitl [Hub]; · iexact Hub
      isplitl [Hlv]; · iexact Hlv
      isplitl [Hcr]; · iexact Hcr
      isplitl [Hpr] <;> iassumption
    have hev : (bigSep Finset.univ fun c : Dev nD => coreInit (Ix := Unit) (Name := ℕ) (U := UU nD τ sig) (Lvl := ℕ) (owing fun c => P.owed c P.far) 0 (⟨m, fun _ => 0, g⟩ : MemSt nD τ sig Val) (c.tc : Thread nD τ))
        ⊢ (iprop((bigSep Finset.univ rest) ∗ (bigSep Finset.univ fun c : Dev nD => ownSems0 P.osem c)
            ∗ (bigSep Finset.univ fun c : Dev nD => unscopedBufs c (fun b => m ((c.tc : Thread nD τ).loc b)))
            ∗ (bigSep Finset.univ fun c : Dev nD => levels0 c) ∗ (bigSep Finset.univ fun c : Dev nD => launchCred (fun d => P.owed d P.far) c)
            ∗ (bigSep Finset.univ fun c : Dev nD => prngReg c (g c))
            ∗ (bigSep Finset.univ fun c : Dev nD => owes (c.tc : Thread nD τ) (P.owed c P.far) ∅)) : sProp 𝕄) := by
      refine (bigSep_mono (s := Finset.univ) fun c _ => hone c).trans ?_
      simp only [bigSep_sep']
      exact BI.Entails.refl _
    have hghost : iprop((bigSep Finset.univ fun c : Dev nD => bigSep Finset.univ fun p => cellsGhost (pin pcs a) EP p c)
          ∗ (bigSep Finset.univ fun c : Dev nD => bigSep Finset.univ fun p => (toksInit (pin pcs a) EP p c : sProp 𝕄)))
        = bigSep Finset.univ fun c : Dev nD => ghostOn pcs a EP Finset.univ c := by
      rw [← bigSep_sep']
      refine bigSep_congr fun c _ => ?_
      rw [← bigSep_sep']; rfl
    iintro ⟨Hcores, Hu⟩
    ihave Hc := hev $$ Hcores
    icases Hc with ⟨Hrest, Hown, Hub, Hlv, Hcr, Hpr, HO⟩
    imod (levels_set P.L_of_ne) $$ Hlv with #Hla
    ihave Hs := (seed_split pcs a phinj P) $$ Hu
    icases Hs with ⟨HP, HR⟩
    imod (fund_ghost (pin pcs a) EP phinj) $$ HP with Hgt
    ihave Hg := (Entails.of_eq hghost) $$ Hgt
    imod (P.fund_cells pay) $$ HR with ⟨Hst, Hr, Hat, Htok⟩
    imod (P.open_all pay) $$ [Hown Hst Hr] with #Hall
    · isplitl [Hown]; · iexact Hown
      isplitl [Hst] <;> iassumption
    ihave Hrights := P.deal_rights $$ [Hat Htok]
    · isplitl [Hat] <;> iassumption
    ihave HB := hB $$ Hub
    imodintro
    iexists ()
    isplitr []
    · simp only [pre, bigSep_sep']
      isplitl [Hrest]; · iexact Hrest
      isplitr
      · isplitr
        · iapply (BI.bigSep_intro_persistent (S := Finset.univ) fun (c : Dev nD) _ => (BI.Entails.refl (P.all pay))); iexact Hall
        · iapply (BI.bigSep_intro_persistent (S := Finset.univ) fun (c : Dev nD) _ => (BI.Entails.refl (levAts P.L P.lv : sProp 𝕄))); iexact Hla
      isplitl [Hrights]; · iexact Hrights
      isplitl [Hcr]; · iexact Hcr
      isplitl [HB]; · iexact HB
      isplitl [Hpr]; · iexact Hpr
      isplitl [HO] <;> iassumption
    · iempintro
  case core =>
    have hout' : iprop((pdats p c).Φ (Fin.last (pin pcs a p).N) ∗ cellsSems0 (pin pcs a) p c ∗ Dat.staging (pin pcs a p) c ∗ idleSems0 (pin pcs a) phinj p ho c)
        ⊢ iprop(Y c ∗ scopedSems0 (c.tc : Thread nD τ) ∗ scopedBufs (c.tc : Thread nD τ)) := by
      rw [hss c, hsb c]
      iintro ⟨HΦ, Hcells, Hst, Hidle⟩
      ihave H := (hout c) $$ HΦ
      icases H with ⟨HY, Hown, Hrest⟩
      isplitl [HY]; · iexact HY
      isplitl [Hcells Hown Hidle]
      · isplitl [Hcells Hown]; · isplitl [Hcells] <;> iassumption
        iexact Hidle
      isplitl [Hst] <;> iassumption
    have hsegs := RDat.wp_segs pcs a (Dat.toRs pdats) () phinj EP defs₀ 𝒱₀ P.L P.lv c (Q := fun _ => post (liftTc fin BI.emp) (c.tc : Thread nD τ))
      ((segs c).map (Seg.toR pcs a pdats () defs₀ 𝒱₀ P.L P.lv)) (Finset.univ.erase p) _ _
      (by rw [Seg.pipes_toR]; exact (List.nodup_cons.mp (hnd c)).2)
      (by rw [Seg.pipes_toR]; exact fun p' hp' => Finset.mem_erase.mpr ⟨fun h => (List.nodup_cons.mp (hnd c)).1 (h ▸ hp'), Finset.mem_univ _⟩)
      ((hch c).toR pcs a pdats () defs₀ 𝒱₀ P.L P.lv)
    rw [Seg.run_toR] at hsegs
    have hgh : (ghostOn pcs a EP Finset.univ c : sProp 𝕄)
        = iprop((cellsGhost (pin pcs a) EP p c ∗ toksInit (pin pcs a) EP p c) ∗ ghostOn pcs a EP (Finset.univ.erase p) c) :=
      BI.bigSep_univ_at _ p
    simp only [pre, rest]
    rw [hmain c, hgh]
    iintro ⟨⟨Hsc, Hcells, Hidle, Hop⟩, ⟨#Hall, #Hla⟩, Hrights, Hcr, HB, Hpr, HO, ⟨Hg, Ht⟩, Hgs⟩
    ihave Hw := (hwaits c) $$ Hla
    ihave Hdues := (P.launchCred_dues c P.far) $$ Hcr
    iapply (fupd_wp frame (wpE 𝔻 𝕍 (c.tc : Thread nD τ) none) Set.univ _ _)
    imod (cellsInit_alloc (pin pcs a) pdats EP phinj p c) $$ [Hcells Hg] with ⟨%κ, -, Hinit⟩
    · isplitl [Hcells] <;> iassumption
    imodintro
    iapply (wp_customCall_entry_frame pcs a pdats () EP κ phinj p defs₀ 𝒱₀ (fun _ => fullShare) c Set.univ (fun _ _ => Set.mem_univ _)
        (hbody c) hne none (fun u h => nomatch h) (X := iprop(P.ready pay c ∗ B c)) (Y := Y c) (R := scopedRest (pin pcs a p).spec c) (I := idleSems0 (pin pcs a) phinj p ho c)
        (Entails.of_eq (hsb c)) (hin c) hout'
        (k := fun _ => Seg.run (segs c)) (Q := fun _ => post (liftTc fin BI.emp) (c.tc : Thread nD τ))) $$ [Hw Hinit Ht HO Hrights Hdues HB Hidle Hsc]
    · isplitl [HO Hinit Ht Hw]
      · unfold EntryPre PerCore.EntryPre Dat.owesAt owesWithin
        isplitr; · iapply (harrays c); iempintro
        isplitl [HO]
        · iexists ∅; isplitr; · ipureintro; rw [Finset.coe_empty]; exact Set.empty_subset _
          rw [howed₀ c]; iexact HO
        isplitl [Hw]; · iexact Hw
        isplitl [Hinit] <;> iassumption
      isplitr; · iapply (hpref c); iempintro
      isplitl [Hrights Hdues HB]
      · isplitr [HB]
        · unfold Plan.ready
          isplitr; · iexact Hall
          isplitr; · iexact Hla
          isplitl [Hrights] <;> iassumption
        · iexact HB
      isplitl [Hidle] <;> iassumption
    iintro ⟨Hpost, HY, Hss2, Hsc2⟩
    iapply hsegs
    isplitr [Hss2 Hsc2 Hop HY Hpr Hpost Hgs]
    · iintro ⟨Hbd, HT, HW⟩
      unfold post; simp only [liftTc_tc, fin]
      isplitl [HT Hbd]
      · isplitl [HT] <;> iassumption
      iexact HW
    isplitl [Hss2 Hsc2 Hop]
    · unfold boundary
      isplitl [Hsc2]; · iexact Hsc2
      isplitl [Hss2] <;> iassumption
    isplitl [HY Hpr Hpost]
    · isplitl [HY Hpr]; · isplitl [HY] <;> iassumption
      unfold EntryPost PerCore.EntryPost Dat.owesAt owesWithin
      rw [howedN c]
      icases Hpost with ⟨-, ⟨%W, -, HW⟩⟩
      iexists W; iexact HW
    isplitr; · iexact Hla
    iexact Hgs
  case read =>
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Run

end Cert.OneShot

end
-- ==== Proof.Talk.lean ====
/-
# A region that is one body of one-shot copies

The calls here stage nothing: their arrays stay where they are and the body moves them by its copies, at the region's
one point. `talkDat` is such a region's data, from what the body starts with to what it leaves; `run_talk` is
`Plan.run` for it, whose hypotheses are the deal of the buffers, the body, and what follows.
-/
module

public import proofs.«01_k».proof.Proof.Start

@[expose] public section

noncomputable section

namespace Cert.OneShot

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {n : ℕ} {Λ₀ : Labels}

local notation "𝕄" => MT nD τ sig Unit Val ℕ (UU nD τ sig) ℕ

section TalkDat

variable (cfg : Cfg sig Λ₀) [hW : IsEmpty (Fin cfg.W)] (c : Dev nD)

/-- The data of a region without windows: before its point `Φ₀`, after it `Φ₁`; the core owes `O` until then. -/
def talkDat (Φ₀ Φ₁ : sProp (MT nD τ sig Unit Val ℕ (UU nD τ sig) ℕ)) (O : CellTallies nD τ sig Unit) : Dat τ Val Unit ℕ (UU nD τ sig) ℕ cfg c where
  A w := hW.elim w
  after w := hW.elim w
  Φ t := if t.val = 0 then Φ₀ else Φ₁
  q w := hW.elim w
  owed t := if t.val = 0 then O else 0

variable {cfg c} {Φ₀ Φ₁ : sProp (MT nD τ sig Unit Val ℕ (UU nD τ sig) ℕ)} {O : CellTallies nD τ sig Unit}

theorem bigSep_none (Φ : Fin cfg.W → sProp 𝕄) : bigSep Finset.univ Φ = BI.emp := by
  rw [Finset.univ_eq_empty, bigSep_empty]

/-- Its body obligation. -/
theorem talk_body (hN : cfg.N = 1) (defs₀ : Defs nD τ sig Val Λ₀) (𝒱₀ : Variants)
    (h : ∀ (t : Fin cfg.N) (W : Waits sig Unit), iprop(Φ₀ ∗ owes (c.tc : Thread nD τ) O W)
      ⊢ wp frame (wpE defs₀ 𝒱₀ (c.tc : Thread nD τ) none) Set.univ (defs₀ .tc cfg.body (cfg.bodyArgs t (cfg.slots t)))
          fun _ => iprop(Φ₁ ∗ ∃ W, owes (c.tc : Thread nD τ) 0 W)) :
    BodyObligationLoose (talkDat cfg c Φ₀ Φ₁ O) defs₀ 𝒱₀ () Set.univ := fun t => by
  have ht : t.val = 0 := by have := t.isLt; omega
  have h₀ : (talkDat cfg c Φ₀ Φ₁ O).Φ t.castSucc = Φ₀ := if_pos ht
  have h₁ : (talkDat cfg c Φ₀ Φ₁ O).Φ t.succ = Φ₁ :=
    show (if t.val + 1 = 0 then Φ₀ else Φ₁) = Φ₁ from if_neg (Nat.succ_ne_zero _)
  have o₀ : (talkDat cfg c Φ₀ Φ₁ O).owed t.castSucc = O := if_pos ht
  have o₁ : (talkDat cfg c Φ₀ Φ₁ O).owed t.succ = 0 :=
    show (if t.val + 1 = 0 then O else 0) = 0 from if_neg (Nat.succ_ne_zero _)
  rw [h₀, h₁, bigSep_none, bigSep_none]
  unfold Dat.owesAt owesWithin
  rw [o₀, o₁]
  iintro ⟨HΦ, ⟨%W, -, HO⟩, -⟩
  iapply (wp_wand frame (wpE defs₀ 𝒱₀ (c.tc : Thread nD τ) none) Set.univ) $$ [HΦ HO]
  · iapply (h t W)
    isplitl [HΦ] <;> iassumption
  iintro %_ ⟨HΦ, ⟨%W', HO⟩⟩
  isplitl [HΦ]; · iexact HΦ
  isplitl [HO]
  · iexists W'
    isplitr; · ipureintro; exact fun _ _ => Or.inl trivial
    iexact HO
  iempintro

end TalkDat

/-- Resources by device and copy, from the devices the copies go to, to the devices that start them. -/
theorem Plan.deal (P : Plan nD sig n) (D : Dev nD → Fin n → sProp (MT nD τ sig Unit Val ℕ (UU nD τ sig) ℕ)) :
    (bigSep Finset.univ fun c => bigSep Finset.univ fun k => D c k) ⊢ bigSep Finset.univ fun c => bigSep Finset.univ fun k => D (P.peer k c) k := by
  let e : Dev nD × Fin n ≃ Dev nD × Fin n :=
    { toFun := fun ck => (P.peer ck.2 ck.1, ck.2), invFun := fun ck => ((P.peer ck.2).symm ck.1, ck.2)
      left_inv := fun ck => Prod.ext ((P.peer ck.2).symm_apply_apply ck.1) rfl
      right_inv := fun ck => Prod.ext ((P.peer ck.2).apply_symm_apply ck.1) rfl }
  refine (Entails.of_eq (bigSep_univ_prod fun ck : Dev nD × Fin n => D ck.1 ck.2).symm).trans ?_
  rw [bigSep_univ_equiv e, bigSep_univ_prod]
  exact BI.Entails.refl _

variable {PP : Type} [Fintype PP]
variable (pcs : PP → PCfg sig Λ₀ Val) (a : (p : PP) → (pcs p).Adm)
  (pdats : (p : PP) → (c : Dev nD) → Dat τ Val Unit ℕ (UU nD τ sig) ℕ (pin pcs a p) c)
  (phinj : Function.Injective (cellOf (nD := nD) (τ := τ) (pin pcs a)))
  (defs₀ : Defs nD τ sig Val Λ₀) (𝒱₀ : Variants)
  (P : Plan nD sig n) (pay : Dev nD → Fin n → sProp (MT nD τ sig Unit Val ℕ (UU nD τ sig) ℕ))
  [∀ c k, BI.Storable (upEmb : UEmb _ (MT nD τ sig Unit Val ℕ (UU nD τ sig) ℕ)) (pay c k)]

include phinj in
/-- A program whose first region is one body of one-shot copies: device `c` starts the body with its part `B c` of the
    deal, and leaves `Y c`, what the segments after it start with. The scoped buffers of the later regions stay beside it. -/
theorem run_talk_beside [DecidableEq PP] [∀ e, Nonempty (Val e)]
    (m : (ℓ : Loc nD τ sig) → Buf Val ℓ) (g : Dev nD → PrngReg)
    (main : Dev nD → Prog (TpuEff nD τ sig Val (Sig Λ₀ PP fun p => (pcs p).Adm) .tc) PUnit)
    (p : PP) [IsEmpty (Fin (pin pcs a p).W)] (segs : Dev nD → List (Seg pcs a pdats () defs₀ 𝒱₀ P.L P.lv))
    (B Y Tₙ : Dev nD → sProp (MT nD τ sig Unit Val ℕ (UU nD τ sig) ℕ))
    (hd : ∀ c, pdats p c = talkDat (pin pcs a p) c iprop((P.ready pay c ∗ B c) ∗ scopedRest (pin pcs a p).spec c)
      iprop((Y c ∗ ownSems0 P.osem c) ∗ scopedRest (pin pcs a p).spec c) (P.owed c P.far))
    (hmain : ∀ c, main c = .op (.customCall (entry p) ()) fun _ => Seg.run (segs c))
    (hnd : ∀ c, (p :: Seg.pipes (segs c)).Nodup)
    (hw : WinFacts₀ (pcs p).spec) (ho : OwnSemFacts (pcs p).spec P.osem) (hpre : IsEmpty (Fin (pcs p).pre.K)) (hN : (pin pcs a p).N = 1)
    (hbody : ∀ c (t : Fin (pin pcs a p).N) (W : Waits sig Unit), iprop((P.ready pay c ∗ B c) ∗ owes (c.tc : Thread nD τ) (P.owed c P.far) W)
      ⊢ wp frame (wpE defs₀ 𝒱₀ (c.tc : Thread nD τ) none) Set.univ (defs₀ .tc (pin pcs a p).body ((pin pcs a p).bodyArgs t ((pin pcs a p).slots t)))
          fun _ => iprop((Y c ∗ ownSems0 P.osem c) ∗ ∃ W, owes (c.tc : Thread nD τ) 0 W))
    (hB : (bigSep Finset.univ fun c : Dev nD => (unscopedBufs c (fun b => m ((c.tc : Thread nD τ).loc b)) : sProp 𝕄)) ⊢ bigSep Finset.univ B)
    (hch : ∀ c, Seg.ChainsAt c (fun c => iprop((Y c ∗ prngReg c (g c)) ∗ ∃ W, owes (c.tc : Thread nD τ) (0 : CellTallies nD τ sig Unit) W)) (segs c)
      fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  have hlast : ¬(Fin.last (pin pcs a p).N).val = 0 := by
    rw [Fin.val_last, hN]; exact Nat.one_ne_zero
  refine OneShot.run pcs a pdats phinj defs₀ 𝒱₀ P pay m g main p segs hmain hnd hw ho (fun w => isEmptyElim w) (fun w => isEmptyElim w)
    (fun c => ?_) (fun c => ?_) (fun c => ?_) (fun c => ?_) (fun c => ?_) (fun c => ?_) B Y Tₙ hB (fun c => ?_) (fun c => ?_) hch QY hfin hQ
  · rw [hd c]; exact talk_body hN defs₀ 𝒱₀ fun t W => (by
      show (_ : sProp 𝕄) ⊢ _
      iintro ⟨⟨HB, Hr⟩, HO⟩
      iapply (wp_wand frame (wpE defs₀ 𝒱₀ (c.tc : Thread nD τ) none) Set.univ) $$ [HB HO]
      · iapply (hbody c t W)
        isplitl [HB] <;> iassumption
      iintro %_ ⟨HY, HO⟩
      isplitr [HO]
      · isplitl [HY] <;> iassumption
      iexact HO)
  · rw [hd c]; rfl
  · rw [hd c]; exact if_neg hlast
  · exact cellsWaits_intro (pin pcs a) pdats () p c fun w => isEmptyElim w
  · unfold Dat.arrays; rw [bigSep_none]; exact BI.Entails.refl _
  · haveI := hpre
    unfold prefHeld; rw [Finset.univ_eq_empty, bigSep_empty]; exact BI.Entails.refl _
  · rw [hd c]; unfold talkDat; dsimp only
    rw [if_pos (show (0 : Fin ((pin pcs a p).N + 1)).val = 0 from rfl)]
    iintro ⟨H, -, Hr⟩
    isplitl [H] <;> iassumption
  · rw [hd c]; unfold talkDat; dsimp only
    rw [if_neg hlast]
    iintro ⟨⟨H, H'⟩, Hr⟩
    isplitl [H]; · iexact H
    isplitl [H'] <;> iassumption

include phinj in
/-- `run_talk_beside` for a program without scoped buffers of other regions. -/
theorem run_talk [DecidableEq PP] [∀ e, Nonempty (Val e)]
    (m : (ℓ : Loc nD τ sig) → Buf Val ℓ) (g : Dev nD → PrngReg)
    (main : Dev nD → Prog (TpuEff nD τ sig Val (Sig Λ₀ PP fun p => (pcs p).Adm) .tc) PUnit)
    (p : PP) [IsEmpty (Fin (pin pcs a p).W)] (segs : Dev nD → List (Seg pcs a pdats () defs₀ 𝒱₀ P.L P.lv))
    (B Y Tₙ : Dev nD → sProp (MT nD τ sig Unit Val ℕ (UU nD τ sig) ℕ))
    (hd : ∀ c, pdats p c = talkDat (pin pcs a p) c iprop(P.ready pay c ∗ B c) iprop(Y c ∗ ownSems0 P.osem c) (P.owed c P.far))
    (hmain : ∀ c, main c = .op (.customCall (entry p) ()) fun _ => Seg.run (segs c))
    (hnd : ∀ c, (p :: Seg.pipes (segs c)).Nodup)
    (hw : WinFacts₀ (pcs p).spec) (ho : OwnSemFacts (pcs p).spec P.osem) (hpre : IsEmpty (Fin (pcs p).pre.K)) (hN : (pin pcs a p).N = 1)
    (hrest : ∀ c, (scopedRest (Val := Val) (Ix := Unit) (Name := ℕ) (U := UU nD τ sig) (Lvl := ℕ) (τ := τ) (pin pcs a p).spec c : sProp 𝕄) = BI.emp)
    (hbody : ∀ c (t : Fin (pin pcs a p).N) (W : Waits sig Unit), iprop((P.ready pay c ∗ B c) ∗ owes (c.tc : Thread nD τ) (P.owed c P.far) W)
      ⊢ wp frame (wpE defs₀ 𝒱₀ (c.tc : Thread nD τ) none) Set.univ (defs₀ .tc (pin pcs a p).body ((pin pcs a p).bodyArgs t ((pin pcs a p).slots t)))
          fun _ => iprop((Y c ∗ ownSems0 P.osem c) ∗ ∃ W, owes (c.tc : Thread nD τ) 0 W))
    (hB : (bigSep Finset.univ fun c : Dev nD => (unscopedBufs c (fun b => m ((c.tc : Thread nD τ).loc b)) : sProp 𝕄)) ⊢ bigSep Finset.univ B)
    (hch : ∀ c, Seg.ChainsAt c (fun c => iprop((Y c ∗ prngReg c (g c)) ∗ ∃ W, owes (c.tc : Thread nD τ) (0 : CellTallies nD τ sig Unit) W)) (segs c)
      fun c => iprop(Tₙ c ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  refine run_talk_beside pcs a pdats phinj defs₀ 𝒱₀ P pay m g main p segs B Y Tₙ (fun c => ?_) hmain hnd hw ho hpre hN hbody hB hch QY hfin hQ
  have e (X : sProp 𝕄) : iprop(X ∗ emp) = X := BI.Entails.antisymm BI.sep_emp.1 BI.sep_emp.2
  rw [hd c, hrest c]
  exact congrArg₂ (fun X Z => talkDat (pin pcs a p) c X Z (P.owed c P.far)) (e _).symm (e _).symm

end Cert.OneShot

end
-- ==== Proof.ShareHalves.lean ====
/-
# The exchange of the halves

Each device holds one half of a chip's rows; it copies its half into its own slot of the result and into the same slot
of its sibling, the other core of the chip. The run ends with both halves on both cores: slot `h` of the result of
device `c` is the argument of core `h` of `c`'s chip.
-/
module

public import proofs.«01_k».proof.Proof.Slots
public import proofs.«01_k».proof.Proof.Talk
public import proofs.«01_k».proof.Proof.Gen.ShareHalvesIdeal.Skeleton
public import proofs.«01_k».proof.Proof.Gen.ShareHalvesIdeal.Launch
public import Idealize.ShloMosaic.Lib.Ring
public import Idealize.ShloMosaic.Lib.Quiescent
public import Idealize.ShloMosaic.Lib.ValueIdx
public import Idealize.ShloMosaic.Lib.Layout

@[expose] public section

noncomputable section

namespace Cert.HalvesProof

open Cert.ShareHalvesIdeal Cert.ShareHalvesIdeal.Gen
open Cert.OneShot Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

/-! ## The devices -/

/-- Core `h` of the chip of device `c`. -/
def core (c : Dev nD) (h : Fin 2) : Dev nD := ⟨2 * (c.val / 2) + h.val, by have := c.isLt; have := h.isLt; simp only [nD] at *; omega⟩

/-- Which core of its chip device `c` is. -/
def low (c : Dev nD) : Fin 2 := ⟨c.val % 2, Nat.mod_lt _ (by decide)⟩

/-- The other core of the chip. -/
def sib (c : Dev nD) : Dev nD := core c (1 - low c)

theorem sib_sib (c : Dev nD) : sib (sib c) = c := by revert c; decide
theorem core_low (c : Dev nD) : core c (low c) = c := by revert c; decide
theorem core_low_sib (c : Dev nD) : core c (low (sib c)) = sib c := by revert c; decide
theorem core_sib (c : Dev nD) : core (sib c) (low c) = c := by revert c; decide
theorem dev1_eq (c : Dev nD) : (⟨k0_dev1 c, k0_dev1_lt c⟩ : Dev nD) = sib c := by revert c; decide
theorem low_pair (c : Dev nD) : Finset.univ = [low c, low (sib c)].toFinset ∧ [low c, low (sib c)].Nodup := by revert c; decide
theorem off1_low (c : Dev nD) : k0_off1 c = ![(low c).val, 0, 0] := k0_off1_eq c

def sibEquiv : Dev nD ≃ Dev nD := ⟨sib, sib, sib_sib, sib_sib⟩

/-! ## The plan -/

/-- Semaphore 0: the argument has left for the sibling; 1: the sibling's half has landed; 2: the own half has. -/
def plan : Plan nD sig 3 where
  sem := ![cc0_scratch0.sem, cc0_scratch1.sem, cc0_scratch2.sem]
  inj := by decide
  amt := fun _ => (Memref.whole main_arg0 : Memref sig .tc .hbm S13312x128 .f32).view.dmaCredit
  pos := fun _ => by decide
  peer := ![Equiv.refl _, sibEquiv, Equiv.refl _]
  far := [1]
  nodup := by decide
  lev := fun _ => 0

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The argument and the result, whole. -/
abbrev argM : Memref sig .tc .hbm S13312x128 .f32 := Memref.whole main_arg0
abbrev outM : Memref sig .tc .hbm S2x13312x128 .f32 := Memref.whole main_v1

/-- The slot device `d` writes, on its own result and on its sibling's. -/
abbrev slotM (d : Dev nD) : Memref sig .tc .hbm S13312x128 .f32 :=
  (outM.slice (Rect.unit (s := S2x13312x128) (k0_off1 d) S1x13312x128.size (k0_off1_inb d)) (fun _ => rfl)).squeeze S13312x128
    squeezes_S1x13312x128_S13312x128

/-- The result of device `c` at the end. -/
def fin (c : Dev nD) : Buf (Elt F) ((c : Thread nD τ).loc main_v1) :=
  fun i => m ((core c (i 0) : Thread nD τ).loc main_arg0) (ix2 (i 1) (i 2))

/-- The argument of device `c`, at share `q`. -/
abbrev argPt (c : Dev nD) (q : PosShare TreeShare) : sProp 𝕄 :=
  argM.view.loc (c : Thread nD τ) ↦[argM.view.set]{q} m ((c : Thread nD τ).loc main_arg0)

/-- Slot `h` of the result of device `c`, at contents `f`. -/
def slotPt (c : Dev nD) (h : Fin 2) (f : Buf (Elt F) ((c : Thread nD τ).loc main_v1)) : sProp 𝕄 :=
  outM.view.loc (c : Thread nD τ) ↦[part outM.view key3 h]{fullShare} f

/-- What each copy hands over. -/
def pay (c : Dev nD) : Fin 3 → sProp 𝕄
  | 0 => argPt m c fullShare.left
  | 1 => slotPt c (low (sib c)) (fin m c)
  | 2 => iprop(slotPt c (low c) (fin m c) ∗ argPt m c fullShare.right)

instance pay_storable (c : Dev nD) (k : Fin 3) : BI.Storable (upEmb : UEmb _ 𝕄) (pay m c k) := by
  fin_cases k
  · change BI.Storable upEmb (argPt m c fullShare.left); unfold argPt; infer_instance
  · change BI.Storable upEmb (slotPt c (low (sib c)) (fin m c)); unfold slotPt; infer_instance
  · change BI.Storable upEmb iprop(slotPt c (low c) (fin m c) ∗ argPt m c fullShare.right); unfold slotPt argPt; infer_instance

theorem slot_credit (d : Dev nD) : (slotM d).view.dmaCredit = argM.view.dmaCredit := rfl

/-- What device `c` starts with: its argument, its own slot, and the same slot of its sibling. -/
def B (c : Dev nD) : sProp 𝕄 :=
  iprop(argPt m c fullShare ∗ slotPt c (low c) (m ((c : Thread nD τ).loc main_v1)) ∗ slotPt (sib c) (low c) (m ((sib c : Thread nD τ).loc main_v1)))

/-- What it ends with: its argument, and its result at the final contents. -/
def Y (c : Dev nD) : sProp 𝕄 :=
  iprop((((c : Thread nD τ).loc main_arg0) ↦{fullShare} m ((c : Thread nD τ).loc main_arg0)) ∗ (((c : Thread nD τ).loc main_v1) ↦{fullShare} fin m c))

/-! ## The pieces -/

theorem arg_whole (c : Dev nD) : (((c : Thread nD τ).loc main_arg0) ↦{fullShare} m ((c : Thread nD τ).loc main_arg0) : sProp 𝕄) = argPt m c fullShare := by
  unfold argPt; rw [View.set_whole]

theorem arg_half (c : Dev nD) : (argPt m c fullShare : sProp 𝕄) = iprop(argPt m c fullShare.left ∗ argPt m c fullShare.right) := by
  unfold argPt; exact BI.Entails.antisymm (half _ _ _ _).1 (half _ _ _ _).2

theorem slot_pt (c d : Dev nD) (f : Buf (Elt F) ((c : Thread nD τ).loc main_v1)) :
    ((slotM d).view.loc (c : Thread nD τ) ↦[(slotM d).view.set]{fullShare} f : sProp 𝕄) = slotPt c (low d) f := by
  unfold slotPt
  exact congrArg (fun I => (outM.view.loc (c : Thread nD τ) ↦[I]{fullShare} f : sProp 𝕄)) (slot3_set outM.view (low d) (off1_low d) (k0_off1_inb d) _)

theorem out_whole (c : Dev nD) (f : Buf (Elt F) ((c : Thread nD τ).loc main_v1)) :
    (((c : Thread nD τ).loc main_v1) ↦{fullShare} f : sProp 𝕄) = iprop(slotPt c (low c) f ∗ slotPt c (low (sib c)) f) := by
  have h : (((c : Thread nD τ).loc main_v1) ↦{fullShare} f : sProp 𝕄) = bigSep Finset.univ fun k : Fin 2 => slotPt c k f := by
    have e := pointsTo_parts (Ix := Unit) (Name := ℕ) (U := UU nD τ sig) (Lvl := ℕ) (c : Thread nD τ) outM.view key3 fullShare f
    rw [View.set_whole] at e
    exact e
  rw [h, bigSep_univ_eq_bigSepL [low c, low (sib c)] (low_pair c).1 (low_pair c).2]
  rfl

/-- The argument of device `d` lands in slot `low d` of a core of the same chip. -/
theorem lands (c d : Dev nD) (h : core c (low d) = d) (fd : Buf (Elt F) ((c : Thread nD τ).loc main_v1)) :
    ((slotM d).view.loc (c : Thread nD τ) ↦[(slotM d).view.set]{fullShare}
      (slotM d).view.write (Elt F) fd (argM.view.read (Elt F) (m ((d : Thread nD τ).loc main_arg0))) Finset.univ : sProp 𝕄)
    = slotPt c (low d) (fin m c) := by
  refine (landed (c : Thread nD τ) (slotM d).view fullShare fd (fin m c) _ ?_).trans (slot_pt c d _)
  refine (slot3_read outM.view (low d) (off1_low d) (k0_off1_inb d) _ (fin m c)).trans ?_
  funext x
  obtain ⟨p, q, rfl⟩ : ∃ p q, x = ix2 p q := ⟨x 0, x 1, eq_ix2 x⟩
  show m ((core c (low d) : Thread nD τ).loc main_arg0) (ix2 p q) = m ((d : Thread nD τ).loc main_arg0) (ix2 p q)
  rw [h]

/-! ## The body -/

theorem three (Φ : Fin 3 → sProp 𝕄) : bigSep Finset.univ Φ = iprop(Φ 0 ∗ Φ 1 ∗ Φ 2) :=
  bigSep_univ_eq_bigSepL [0, 1, 2] (by decide) (by decide) Φ

theorem ready_open (c : Dev nD) : (plan.ready (pay m) c : sProp 𝕄) ⊢ iprop(plan.all (pay m) ∗ levAts plan.L plan.lv
    ∗ ((plan.pos₀ c 0 ∗ plan.pos₀ c 1 ∗ plan.pos₀ c 2) ∗ (plan.tok c 0 ∗ plan.tok (sib c) 1 ∗ plan.tok c 2)) ∗ (plan.due c 1 ∗ emp)) := by
  unfold Plan.ready Plan.rights
  rw [three, three]
  exact BI.Entails.refl _

theorem sems_close (c : Dev nD) : iprop(semVal (plan.cell c 0) 0 ∗ semVal (plan.cell c 1) 0 ∗ semVal (plan.cell c 2) 0)
    ⊢ (ownSems0 plan.osem c : sProp 𝕄) := by
  unfold ownSems0
  rw [three]

theorem body (𝒱 : Variants) (c : Dev nD) (W : Waits sig Unit) :
    iprop((plan.ready (pay m) c ∗ B m c) ∗ owes (c : Thread nD τ) (plan.owed c plan.far) W)
      ⊢ wp frame (wpE (defs₀ (F := F)) 𝒱 (c : Thread nD τ) none) Set.univ
          (cc0_share_halves (F := F) argM (Memref.isWhole_whole _) outM (Memref.isWhole_whole _) cc0_scratch0 cc0_scratch1 cc0_scratch2)
          fun _ => iprop((Y m c ∗ ownSems0 plan.osem c) ∗ ∃ W, owes (c : Thread nD τ) (0 : CellTallies nD τ sig Unit) W) := by
  simp only [cc0_share_halves_eq_skeleton]; unfold cc0_share_halves_skel
  simp only [k0_part1_eq_skeleton]; unfold k0_part1_skel
  simp only [Prog.lift, Prog.bind_op, Prog.bind_ret, Prog.pure_eq_ret, wp_deviceId]
  iintro ⟨⟨HR, HB⟩, HO⟩
  ihave HR := (ready_open m c) $$ HR
  icases HR with ⟨#HA, #HL, ⟨⟨HP0, HP1, HP2⟩, ⟨HT0, HT1, HT2⟩⟩, ⟨HD1, -⟩⟩
  unfold B
  icases HB with ⟨Ha, Hs, Hs'⟩
  ihave Ha := (Entails.of_eq (arg_half m c)) $$ Ha
  icases Ha with ⟨Ha, Ha'⟩
  -- the two copies
  iapply (plan.copy_here (pay m) 𝒱 c 2 rfl (fs := m ((c : Thread nD τ).loc main_arg0)) (fd := m ((c : Thread nD τ).loc main_v1)) (q := fullShare.right)
    (src := argM) (dst := slotM c) rfl (BI.sep_mono (Entails.of_eq (lands m c c (core_low c) _)) (BI.Entails.refl _))) $$ [HT2 Ha' Hs]
  · isplitl []; · iapply (plan.all_elim (pay m) c 2); iexact HA
    isplitl [HT2]; · iexact HT2
    isplitl [Ha']; · iexact Ha'
    iapply (Entails.of_eq (slot_pt c c _).symm); iexact Hs
  iintro HD2
  iapply (plan.copy_to (pay m) 𝒱 c _ 1 0 [] (dev1_eq c) rfl rfl (fs := m ((c : Thread nD τ).loc main_arg0)) (fd := m (((⟨k0_dev1 c, k0_dev1_lt c⟩ : Dev nD) : Thread nD τ).loc main_v1)) (q := fullShare.left)
    (src := argM) (dst := slotM c) rfl rfl (BI.Entails.refl _) ?_ (by rw [dev1_eq]; revert c; decide)) $$ [HT0 HT1 Ha Hs' HO]
  · rw [dev1_eq c]
    refine (Entails.of_eq (lands m (sib c) c (core_sib c) _)).trans (Entails.of_eq ?_)
    show _ = slotPt (sib c) (low (sib (sib c))) (fin m (sib c))
    rw [sib_sib]
  · rw [dev1_eq c]
    isplitl []; · iapply (plan.all_elim (pay m) c 0); iexact HA
    isplitl []; · iapply (plan.all_elim (pay m) (sib c) 1); iexact HA
    isplitl [HT0]; · iexact HT0
    isplitl [HT1]; · iexact HT1
    isplitl [Ha]; · iexact Ha
    isplitl [Hs']; · iapply (Entails.of_eq (slot_pt (sib c) c _).symm); iexact Hs'
    iexact HO
  iintro ⟨HD0, HO⟩
  -- the three waits
  iapply (plan.collect (pay m) 𝒱 c 1 [] (fun _ h => absurd h List.not_mem_nil) (dst := slotM c) rfl rfl) $$ [HD1 HP1 HO]
  · isplitl []; · iapply (plan.all_elim (pay m) c 1); iexact HA
    isplitl [HD1]; · iexact HD1
    isplitl [HP1]; · iexact HP1
    isplitl []; · iexact HL
    iexact HO
  iintro ⟨HO, Hb1, HS1⟩
  iapply (plan.collect (pay m) 𝒱 c 0 [] (fun _ h => absurd h List.not_mem_nil) (dst := argM) rfl rfl) $$ [HD0 HP0 HO]
  · isplitl []; · iapply (plan.all_elim (pay m) c 0); iexact HA
    isplitl [HD0]; · iexact HD0
    isplitl [HP0]; · iexact HP0
    isplitl []; · iexact HL
    iexact HO
  iintro ⟨HO, Hb0, HS0⟩
  iapply (plan.collect (pay m) 𝒱 c 2 [] (fun _ h => absurd h List.not_mem_nil) (dst := slotM c) rfl rfl) $$ [HD2 HP2 HO]
  · isplitl []; · iapply (plan.all_elim (pay m) c 2); iexact HA
    isplitl [HD2]; · iexact HD2
    isplitl [HP2]; · iexact HP2
    isplitl []; · iexact HL
    iexact HO
  iintro ⟨HO, Hb2, HS2⟩
  rw [wp_ret]
  imodintro
  unfold pay
  icases Hb2 with ⟨Hb2, Hb3⟩
  isplitr [HO]
  · isplitr [HS0 HS1 HS2]
    · unfold Y
      rw [arg_whole, arg_half, out_whole]
      isplitl [Hb0 Hb3]
      · isplitl [Hb0]; · iexact Hb0
        iexact Hb3
      isplitl [Hb2]; · iexact Hb2
      iexact Hb1
    iapply (sems_close c)
    isplitl [HS0]; · iexact HS0
    isplitl [HS1]; · iexact HS1
    iexact HS2
  iexists _; iexact HO

/-! ## The deal -/

/-- The slot each copy writes, at the device it writes it on. -/
def dest (c : Dev nD) : Fin 3 → sProp 𝕄
  | 0 => iprop(emp)
  | 1 => slotPt c (low (sib c)) (m ((c : Thread nD τ).loc main_v1))
  | 2 => slotPt c (low c) (m ((c : Thread nD τ).loc main_v1))

theorem bufs (c : Dev nD) : (unscopedBufs c (fun b => m ((c : Thread nD τ).loc b)) : sProp 𝕄)
    = iprop((((c : Thread nD τ).loc main_arg0) ↦{fullShare} m ((c : Thread nD τ).loc main_arg0))
      ∗ (((c : Thread nD τ).loc main_v1) ↦{fullShare} m ((c : Thread nD τ).loc main_v1))) := by
  unfold unscopedBufs
  exact bigSep_eq_bigSepL_of_eq [main_arg0, main_v1] (by decide) (by decide) _

theorem deal : (bigSep Finset.univ fun c : Dev nD => (unscopedBufs c (fun b => m ((c : Thread nD τ).loc b)) : sProp 𝕄)) ⊢ bigSep Finset.univ (B m) := by
  have h₁ : (bigSep Finset.univ fun c : Dev nD => (unscopedBufs c (fun b => m ((c : Thread nD τ).loc b)) : sProp 𝕄))
      ⊢ iprop((bigSep Finset.univ fun c : Dev nD => argPt m c fullShare) ∗ bigSep Finset.univ fun c => bigSep Finset.univ fun k => dest m c k) := by
    refine BI.Entails.trans (bigSep_mono fun c _ => ?_) (Entails.of_eq (bigSep_sep _ _ _))
    rw [bufs, three, arg_whole, out_whole]
    show (_ : sProp 𝕄) ⊢ iprop(_ ∗ emp ∗ slotPt c (low (sib c)) (m ((c : Thread nD τ).loc main_v1)) ∗ slotPt c (low c) (m ((c : Thread nD τ).loc main_v1)))
    iintro ⟨Ha, Hs, Hs'⟩
    isplitl [Ha]; · iexact Ha
    isplitr; · iempintro
    isplitl [Hs'] <;> iassumption
  refine h₁.trans ((BI.sep_mono (BI.Entails.refl _) (plan.deal (dest m))).trans ?_)
  refine (Entails.of_eq (bigSep_sep _ _ _).symm).trans (bigSep_mono fun c _ => ?_)
  rw [three]
  show iprop(_ ∗ emp ∗ slotPt (sib c) (low (sib (sib c))) (m ((sib c : Thread nD τ).loc main_v1)) ∗ slotPt c (low c) (m ((c : Thread nD τ).loc main_v1))) ⊢ (_ : sProp 𝕄)
  rw [sib_sib]
  unfold B
  iintro ⟨Ha, -, Hs', Hs⟩
  isplitl [Ha]; · iexact Ha
  isplitl [Hs] <;> iassumption

/-! ## The run -/

/-- The proof data of the region: one body, before which the plan is ready. -/
def dats (_ : Fin 1) (c : Dev nD) : Dat τ (Elt F) Unit ℕ (UU nD τ sig) ℕ cfg0 c :=
  talkDat cfg0 c iprop(plan.ready (pay m) c ∗ B m c) iprop(Y m c ∗ ownSems0 plan.osem c) (plan.owed c plan.far)

theorem ownSemFacts : OwnSemFacts cfg0.spec plan.osem := by decide

/-- Every execution ends, with the halves of each chip in the results of its cores, the arguments as they were, and
    every semaphore at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c : Thread nD τ).loc main_v1) = fin m c
        ∧ r.2.mem ((c : Thread nD τ).loc main_arg0) = m ((c : Thread nD τ).loc main_arg0)) ∧ r.2.sem = fun _ => 0) :=
  run_talk (fun p => (cfgs p).toPCfg) (fun p => (cfgs p).toPCfg_adm) (dats m) cellOf_inj defs₀ Variants.none plan (pay m) m ρ (main (F := F))
    (0 : Fin 1) (fun _ => []) (B m) (Y m) (Y m)
    (hd := fun _ => rfl) (hmain := fun _ => rfl) (hnd := fun _ => List.nodup_singleton _) (hw := winFacts0.to₀) (ho := ownSemFacts) (hpre := inferInstance)
    (hN := N_0) (hrest := scopedRest0_eq)
    (hbody := fun c t W => body m _ c W) (hB := deal m)
    (hch := fun c => by
      show _ ⊢ (_ : sProp 𝕄)
      iintro ⟨⟨HY, -⟩, HO⟩
      isplitl [HY] <;> iassumption)
    (QY := fun c s => s.mem ((c : Thread nD τ).loc main_v1) = fin m c
        ∧ s.mem ((c : Thread nD τ).loc main_arg0) = m ((c : Thread nD τ).loc main_arg0))
    (hfin := fun c s' => by
      unfold Y
      iintro ⟨⟨Ha, Hv⟩, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h hs => ⟨h, sem_eq_zero_of_scoped (by decide) hs⟩)

/-! ## The value -/

/-- With the arguments the blocks of one array `a`, each result is its chip's block of `a`, the rows of `a` in eight halves. -/
theorem fin_eq (a : (⟨2, ![106496, 128]⟩ : Shape).Idx → Elt F .f32)
    (hs : (⟨2, ![106496, 128]⟩ : Shape).ShapeCasts ⟨3, ![8, 13312, 128]⟩)
    (h : ∀ c : Dev nD, m ((c : Thread nD τ).loc main_arg0) = Layout.block ⟨2, ![13312, 128]⟩ ⟨2, ![106496, 128]⟩ 0 8 c a) (c : Dev nD) :
    fin m c = Layout.blockN ⟨3, ![2, 13312, 128]⟩ ⟨3, ![8, 13312, 128]⟩ (Layout.meshBlock [2, 2, 2] ![[0, 1], [], []] c)
      (shapeCast ⟨3, ![8, 13312, 128]⟩ a hs) := by
  funext i
  obtain ⟨t, p, q, rfl⟩ : ∃ t p q, i = ix3 t p q := ⟨i 0, i 1, i 2, eq_ix3 i⟩
  show m ((core c t : Thread nD τ).loc main_arg0) (ix2 p q) = _
  rw [h (core c t)]
  refine congrArg a (Shape.reshapeEquiv_eq_of_rowMajor _ ?_).symm
  rw [Shape.rowMajor_val_two, Shape.rowMajor_val_three]
  have hc : (core c t).val = 2 * (c.val / 4 % 2 * 2 + c.val / 2 % 2) + t.val := by revert c t; decide
  show ((core c t).val * 13312 + p.val) * 128 + q.val
    = ((((c.val / 4 % 2 * 2 + (c.val / 2 % 2 * 1 + 0)) * 2 + t.val) * 13312 + (0 * 13312 + p.val)) * 128 + (0 * 128 + q.val))
  rw [hc]
  ring

end Cert.HalvesProof

end
-- ==== Proof.NormGrad.lean ====
/-
  The gradient of a row's root-mean-square norm at the extended reals, where it needs no finite number: the row's factor is
  one over the square root of a mean that is either infinite, and the factor zero, or a positive real, and so a factor
  which every sum may be multiplied by term by term.
-/
module

public import Idealize.ShloMosaic.Lib.Pointwise

@[expose] public section

noncomputable section

namespace Cert.NormGrad

open Idealize.ShloMosaic

/-- The length of a row. -/
abbrev len : EReal := Ideal.ofBits .f32 0x44800000#32
/-- The norm's small addend. -/
abbrev eps : EReal := Ideal.ofBits .f32 0x358637BD#32
/-- Minus a half. -/
abbrev mhalf : EReal := Ideal.ofBits .f32 0xBF000000#32

theorem len_eq : len = ((1024 : ℝ) : EReal) := by simp [len, Ideal.ofBits, Ideal.ieee, -EReal.coe_mul]; norm_num

theorem mhalf_eq : mhalf = ((-(1 / 2) : ℝ) : EReal) := by
  simp [mhalf, Ideal.ofBits, Ideal.ieee, -EReal.coe_mul]; norm_num

theorem eps_pos : ∃ e : ℝ, 0 < e ∧ eps = (e : EReal) :=
  ⟨8796093 / 2 ^ 43, by positivity, by simp [eps, Ideal.ofBits, Ideal.ieee, -EReal.coe_mul]; norm_num⟩

/-- Divided by a row's length. -/
theorem div_len (y : EReal) : Ideal.div y len = y * ((1 / 1024 : ℝ) : EReal) := by
  rw [len_eq, Ideal.div, if_neg (by norm_num), ← EReal.coe_inv, one_div]

/-- A square is not negative. -/
theorem sq_nonneg (y : EReal) : 0 ≤ y * y := by
  rcases le_total 0 y with h | h
  · exact mul_nonneg h h
  · rw [← neg_mul_neg]; exact mul_nonneg (by simpa using h) (by simpa using h)

/-- The mean of the squares with the addend: infinite, or a positive real. -/
theorem mean_cases (s : EReal) (hs : 0 ≤ s) :
    Ideal.div s len + eps = ⊤ ∨ ∃ a : ℝ, 0 < a ∧ Ideal.div s len + eps = (a : EReal) := by
  obtain ⟨e, he, h⟩ := eps_pos
  rw [div_len, h]
  induction s with
  | bot => exact absurd hs (by simp)
  | top => left; rw [EReal.top_mul_coe_of_pos (by norm_num)]; rfl
  | coe s =>
    right
    have hs' : (0 : ℝ) ≤ s := by exact_mod_cast hs
    exact ⟨s * (1 / 1024) + e, by positivity, by norm_cast⟩

/-- A value twice. -/
theorem twice (y : EReal) : y + y = y * ((2 : ℝ) : EReal) := by
  induction y with
  | bot => rw [EReal.bot_mul_coe_of_pos (by norm_num)]; rfl
  | top => rw [EReal.top_mul_coe_of_pos (by norm_num)]; rfl
  | coe y => norm_cast; ring

/-- The gradient of one entry, written both ways: `g` the entry's gradient of the scaled row, `x` the entry, `p` the sum
    of the row's products of the two, `a` the mean of the squares. -/
theorem entry (x g p a : EReal) (ha : a = ⊤ ∨ ∃ r : ℝ, 0 < r ∧ a = (r : EReal)) :
    Ideal.rsqrt a * (g - x * Ideal.rsqrt a * Ideal.div (p * Ideal.rsqrt a) len)
      = (g * Ideal.rsqrt a + x * Ideal.div (p * (mhalf * Ideal.div (Ideal.rsqrt a) a)) len)
        + Ideal.div (p * (mhalf * Ideal.div (Ideal.rsqrt a) a)) len * x := by
  rcases ha with rfl | ⟨a, h, rfl⟩
  · simp [Ideal.div, len_eq]
  · have hr : Ideal.rsqrt (a : EReal) = (((Real.sqrt a)⁻¹ : ℝ) : EReal) := by
      rw [Ideal.rsqrt_coe, if_neg h.not_gt, if_neg h.ne']
    have hd : Ideal.div (((Real.sqrt a)⁻¹ : ℝ) : EReal) (a : EReal) = (((Real.sqrt a)⁻¹ * a⁻¹ : ℝ) : EReal) := by
      rw [Ideal.div, if_neg (by exact_mod_cast h.ne'), ← EReal.coe_inv, ← EReal.coe_mul]
    have hq : a⁻¹ = (Real.sqrt a)⁻¹ * (Real.sqrt a)⁻¹ := by rw [← mul_inv, Real.mul_self_sqrt h.le]
    have hp : 0 < (Real.sqrt a)⁻¹ := inv_pos.mpr (Real.sqrt_pos.mpr h)
    rw [hr, hd, hq]
    generalize (Real.sqrt a)⁻¹ = r at hp
    simp only [div_len, mhalf_eq]
    rw [EReal.mul_sub_of_nonneg_of_ne_top (by exact_mod_cast hp.le) (EReal.coe_ne_top _), sub_eq_add_neg, add_assoc,
      mul_comm _ x, twice, mul_comm (r : EReal) g]
    congr 1
    have e₁ : (r : EReal) * (x * r * (p * r * ((1 / 1024 : ℝ) : EReal))) = x * p * ((r * r * r * (1 / 1024) : ℝ) : EReal) := by
      push_cast; ac_rfl
    have e₂ : x * (p * (((-(1 / 2) : ℝ) : EReal) * ((r * (r * r) : ℝ) : EReal)) * ((1 / 1024 : ℝ) : EReal)) * ((2 : ℝ) : EReal)
        = x * p * ((-(r * r * r * (1 / 1024)) : ℝ) : EReal) := by
      rw [show (-(r * r * r * (1 / 1024)) : ℝ) = -(1 / 2) * (r * (r * r)) * (1 / 1024) * 2 by ring]
      simp only [EReal.coe_mul]; ac_rfl
    rw [e₁, e₂, EReal.coe_neg, mul_neg]

/-- A factor that is not negative and not infinite, under the sum of a row. -/
theorem sum_mul {n : ℕ} (f : Fin n → EReal) (r : EReal) (h₀ : 0 ≤ r) (h₁ : r ≠ ⊤) :
    ∑ k, f k * r = (∑ k, f k) * r := by
  induction n with
  | zero => simp
  | succ n ih => rw [Fin.sum_univ_castSucc, Fin.sum_univ_castSucc, ih, EReal.right_distrib_of_nonneg_of_ne_top h₀ h₁]

/-- The row's factor. -/
def inv {n : ℕ} (x : Fin n → EReal) : EReal := Ideal.rsqrt (Ideal.div (∑ k, x k * x k) len + eps)

theorem row_cases {n : ℕ} (x : Fin n → EReal) : Ideal.div (∑ k, x k * x k) len + eps = ⊤
    ∨ ∃ a : ℝ, 0 < a ∧ Ideal.div (∑ k, x k * x k) len + eps = (a : EReal) :=
  mean_cases _ (Finset.sum_nonneg fun _ _ => sq_nonneg _)

theorem inv_nonneg {n : ℕ} (x : Fin n → EReal) : 0 ≤ inv x ∧ inv x ≠ ⊤ := by
  rcases row_cases x with h | ⟨a, ha, h⟩ <;> rw [inv, h]
  · simp
  · rw [Ideal.rsqrt_coe, if_neg ha.not_gt, if_neg ha.ne']
    exact ⟨by exact_mod_cast _root_.inv_nonneg.mpr (Real.sqrt_nonneg _), EReal.coe_ne_top _⟩

/-- The gradient of the entry `y` of the row `x`, whose gradient of the scaled row is `v` there and `g` everywhere. -/
theorem row {n : ℕ} (x g : Fin n → EReal) (y v : EReal) :
    inv x * (v - y * inv x * Ideal.div (∑ k, g k * (x k * inv x)) len)
      = (v * inv x + y * Ideal.div ((∑ k, x k * g k) * (mhalf * Ideal.div (inv x) (Ideal.div (∑ k, x k * x k) len + eps))) len)
        + Ideal.div ((∑ k, x k * g k) * (mhalf * Ideal.div (inv x) (Ideal.div (∑ k, x k * x k) len + eps))) len * y := by
  have h : ∑ k, g k * (x k * inv x) = (∑ k, x k * g k) * inv x := by
    rw [← sum_mul _ _ (inv_nonneg x).1 (inv_nonneg x).2]
    exact Finset.sum_congr rfl fun k _ => by rw [← mul_assoc, mul_comm (g k)]
  rw [h]
  exact entry y v _ _ (row_cases x)

end Cert.NormGrad
-- ==== Proof.InputGrad.lean ====
/-
  The gradients of the input and of the first norm's weight: the kernel's two result arrays, tile by tile of rows, are
  functions of its argument arrays, row by row, and so are the reference's. `NormGrad` says that they are equal.
-/
module

public import proofs.«01_k».proof.Defs
public import proofs.«01_k».proof.Proof.Gen.InputGrad.Frame
public import proofs.«01_k».proof.Proof.Gen.InputGradIdeal.Value
public import proofs.«01_k».proof.Proof.Gen.InputGradRefIdeal.Run
public import proofs.«01_k».proof.Proof.NormGrad
public import Idealize.ShloMosaic.Lib.Pipeline.ValueKit.Point
public import Idealize.ShloMosaic.Lib.Quiescent

@[expose] public section

noncomputable section

namespace Cert.Proof.InputGrad

open Idealize.ShloMosaic Idealize.ShloMosaic.TcCoe Idealize.SL.Sem Idealize.SL Idealize.SL.RA Cert.NormGrad

/-- Rows of 1024 numbers. -/
abbrev Rows (n : ℕ) := FVec Ideal ⟨2, ![n, 1024]⟩ .f32

/-- A row of an array. -/
def line {n : ℕ} (x : Rows n) (r : Fin n) : Fin 1024 → EReal := fun k => x (ix2 r k)

/-- The gradient of the rows, as the kernel writes it. -/
def gradX {n : ℕ} (x : Rows n) (w : Rows 1) (d u : Rows n) : Rows n := fun i =>
  d i + inv (line x (i 0)) * (u i * w (ix2 0 (i 1)) - x i * inv (line x (i 0))
    * Ideal.div (∑ k, u (ix2 (i 0) k) * w (ix2 0 k) * (line x (i 0) k * inv (line x (i 0)))) len)

/-- The gradient of the weight, as the kernel writes it. -/
def gradW {n : ℕ} (x u : Rows n) : Rows 1 := fun j =>
  ∑ r : Fin n, u (ix2 r (j 1)) * (x (ix2 r (j 1)) * inv (line x r))

section Kernel

open Cert.InputGradIdeal Cert.InputGradIdeal.Gen Idealize.ShloMosaic.Pipeline

theorem pay5_eq (x : Rows 352) (w : Rows 1) (d u : Rows 352) : k0_pay5 (F := Ideal) x w u d = gradX x w d u := by
  funext y
  pointwise [k0_pay5, k0_pay3, k0_pay2, gradX, line]
  rfl

theorem pay4_eq (x u : Rows 352) : k0_pay4 (F := Ideal) x u = gradW x u := by
  funext y
  pointwise [k0_pay4, k0_pay3, k0_pay2, gradW, line]
  rfl

variable (m : (ℓ : Loc nD τ sig) → Buf (Elt Ideal) ℓ) (ρ : Dev nD → PrngReg)

/-- The windows of rows are at the point's tile, the others at their only block. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

theorem at_x (c : Dev nD) (t : Fin cfg0.N) (r : Fin 352) (k : Fin 1024) (h : t.val * 352 + r.val < 4224) :
    iblk m c 0 t (ix2 r k) = (m ((c : Thread nD τ).loc main_arg0) : Rows 4224) (ix2 ⟨t.val * 352 + r.val, h⟩ k) := by
  blk_ext! [iblk, V, idx0 t]

theorem at_w (c : Dev nD) (t : Fin cfg0.N) (k : Fin 1024) :
    iblk m c 1 t (ix2 0 k) = (m ((c : Thread nD τ).loc main_arg1) : Rows 1) (ix2 0 k) := by
  blk_ext! [iblk, V, idx1 t]

theorem at_d (c : Dev nD) (t : Fin cfg0.N) (r : Fin 352) (k : Fin 1024) (h : t.val * 352 + r.val < 4224) :
    iblk m c 2 t (ix2 r k) = (m ((c : Thread nD τ).loc main_arg2) : Rows 4224) (ix2 ⟨t.val * 352 + r.val, h⟩ k) := by
  blk_ext! [iblk, V, idx2 t]

theorem at_u (c : Dev nD) (t : Fin cfg0.N) (r : Fin 352) (k : Fin 1024) (h : t.val * 352 + r.val < 4224) :
    iblk m c 3 t (ix2 r k) = (m ((c : Thread nD τ).loc main_arg3) : Rows 4224) (ix2 ⟨t.val * 352 + r.val, h⟩ k) := by
  blk_ext! [iblk, V, idx3 t]

theorem line_x (c : Dev nD) (t : Fin cfg0.N) (r : Fin 352) (h : t.val * 352 + r.val < 4224) :
    line (iblk m c 0 t) r = line (m ((c : Thread nD τ).loc main_arg0) : Rows 4224) ⟨t.val * 352 + r.val, h⟩ :=
  funext fun k => at_x m c t r k h

/-- The gradient of a tile's rows is those rows of the gradient. -/
theorem tile_rows (c : Dev nD) (t : Fin cfg0.N) (r : Fin 352) (k : Fin 1024) (h : t.val * 352 + r.val < 4224) :
    gradX (iblk m c 0 t) (iblk m c 1 t) (iblk m c 2 t) (iblk m c 3 t) (ix2 r k)
      = gradX (m ((c : Thread nD τ).loc main_arg0)) (m ((c : Thread nD τ).loc main_arg1)) (m ((c : Thread nD τ).loc main_arg2))
        (m ((c : Thread nD τ).loc main_arg3)) (ix2 ⟨t.val * 352 + r.val, h⟩ k) := by
  simp only [gradX, ix2_0, ix2_1, line_x m c t r h, at_x m c t r _ h, at_w, at_d m c t r _ h, at_u m c t r _ h]

/-- What a point leaves of the gradient of the rows. -/
theorem left_rows (c : Dev nD) (t : Fin cfg0.N) :
    (outsAt0 m c t.val t.isLt).1 = gradX (iblk m c 0 t) (iblk m c 1 t) (iblk m c 2 t) (iblk m c 3 t) := by
  have hN : t.val < 12 := lt_of_lt_of_eq t.isLt N_0
  funext y
  by_cases h0 : t.val % 12 = 0
  · rw [outsAt0_A m c t h0 (by omega)]; frame_out; exact congrFun (pay5_eq _ _ _ _) y
  · rw [outsAt0_B m c t h0 (by omega)]; frame_out; exact congrFun (pay5_eq _ _ _ _) y

/-- The kernel's gradient of the rows. -/
theorem arr_rows (c : Dev nD) : (dats m 0 c).arrAt 4 cfg0.N = gradX (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left_rows]
  have hN : t.val < 12 := lt_of_lt_of_eq t.isLt N_0
  have hy : (y 0).val < 352 := (y 0).isLt
  have h : t.val * 352 + (y 0).val < 4224 := by omega
  refine (congrArg _ (ix2_eta (n0 := 352) (n1 := 1024) y).symm).trans ((tile_rows m c t (y 0) (y 1) h).trans (congrArg _ ?_))
  blk_ext [idx4 t]

/-- The kernel's gradient of the weight: the points' sums, added up. -/
theorem arr_weight (c : Dev nD) : (dats m 0 c).arrAt 5 cfg0.N = gradW (m ((c : Thread nD τ).loc main_arg0))
    (m ((c : Thread nD τ).loc main_arg3)) := by
  refine (dats m 0 c).arrAt_eq_of_after_last 5 t0_11 (by decide +kernel) _ fun j => ?_
  blk_simp
  rw [after0_5, Pipeline.eq_sum_fin_of_reset_step_apply_last (fun n h => (outsAt0 m c n h).2) 12 (fun _ => (0 : EReal))
    (fun t j => gradW (iblk m c 0 t) (iblk m c 3 t) j)
    (fun t h j => by
      have hN : t.val < 12 := lt_of_lt_of_eq t.isLt N_0
      rw [outsAt0_A m c t h (by omega)]; frame_out; rw [pay4_eq, zero_add])
    (fun t h j => by
      have hN : t.val < 12 := lt_of_lt_of_eq t.isLt N_0
      rw [outsAt0_B m c t h (by omega)]; frame_out; rw [pay4_eq]; pointwise [k0_pay1])
    (le_of_eq N_0) t0_11 rfl j]
  rw [zero_add]
  refine Fin.sum_mul_add_congr (S := 12) (n := 352) fun t r h => ?_
  exact congrArg₂ (· * ·) (at_u m c t r (j 1) h) (congrArg₂ (· * ·) (at_x m c t r (j 1) h) (congrArg inv (line_x m c t r h)))

theorem frame : Cert.quiescent_InputGrad := fun m ρ _ => Cert.InputGrad.Gen.frame m ρ

theorem frameIdeal : Cert.quiescent_InputGradIdeal := fun m ρ _ => Cert.InputGradIdeal.Gen.frame (F := Ideal) m ρ

end Kernel

section Reference

open Cert.InputGradRefIdeal Cert.InputGradRefIdeal.Gen

/-- The mean of every row's squares with the norm's small addend, as the reference writes it. -/
def meanSq (x : Rows 4224) : FVec Ideal S4224x1 .f32 :=
  addf (Host.divf (broadcastInDim S4224x1 ![0] bcast_S4224_S4224x1_0 (Host.reduceAdd (mulf x x) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32))

/-- What the gradient of every row adds for each of the two factors of its squares, as the reference writes it. -/
def slope (x : Rows 4224) (w : Rows 1) (u : Rows 4224) : FVec Ideal S4224 .f32 :=
  Host.reduceAdd (Host.divf (mulf (shapeCast _ (Host.reduceAdd (mulf x (mulf u (broadcastInDim S4224x1024 ![0, 1] bcast_S1x1024_S4224x1024_0_1 w))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (meanSq x)) (meanSq x)))) (broadcastInDim S4224x1 ![] bcast_S_S4224x1 (constant S_ .f32 0x44800000#32))) (constant S_ .f32 0x00000000#32) reducesTo_S4224x1_S4224_d1 h_S_

theorem meanSq_at (x : Rows 4224) (i : S4224x1.Idx) :
    meanSq x i = Ideal.div (∑ k, line x (i 0) k * line x (i 0) k) len + eps := by
  pointwise [meanSq, line]

theorem slope_at (x : Rows 4224) (w : Rows 1) (u : Rows 4224) (i : S4224.Idx) :
    slope x w u i = Ideal.div ((∑ k, line x (i 0) k * (u (ix2 (i 0) k) * w (ix2 0 k)))
      * (mhalf * Ideal.div (inv (line x (i 0))) (Ideal.div (∑ k, line x (i 0) k * line x (i 0) k) len + eps))) len := by
  pointwise [slope, line, meanSq_at]
  exact Fin.sum_univ_one _

/-- The reference's gradient of the rows. -/
theorem rows_eq (x : Rows 4224) (w : Rows 1) (d u : Rows 4224) :
    addf d (addf (addf (mulf (mulf u (broadcastInDim S4224x1024 ![0, 1] bcast_S1x1024_S4224x1024_0_1 w)) (broadcastInDim S4224x1024 ![0, 1] bcast_S4224x1_S4224x1024_0_1 (Host.rsqrt (meanSq x)))) (mulf x (broadcastInDim S4224x1024 ![0] bcast_S4224_S4224x1024_0 (slope x w u)))) (mulf (broadcastInDim S4224x1024 ![0] bcast_S4224_S4224x1024_0 (slope x w u)) x)) = gradX x w d u := by
  funext i
  pointwise [gradX, meanSq_at, slope_at]
  exact congrArg (d i + ·) (row (line x (i 0)) (fun k => u (ix2 (i 0) k) * w (ix2 0 k)) (x i) (u i * w (ix2 0 (i 1)))).symm

/-- The reference's gradient of the weight. -/
theorem weight_eq (x u : Rows 4224) :
    shapeCast _ (Host.reduceAdd (mulf (mulf x (broadcastInDim S4224x1024 ![0, 1] bcast_S4224x1_S4224x1024_0_1 (Host.rsqrt (meanSq x)))) u) (constant S_ .f32 0x00000000#32) reducesTo_S4224x1024_S1024_d0 h_S_) shapeCasts_S1024_S1x1024 = gradW x u := by
  funext i
  pointwise [gradW, meanSq_at]
  exact Finset.sum_congr rfl fun r _ => mul_comm _ _

theorem frameRef : Cert.quiescent_InputGradRefIdeal := fun m ρ _ =>
  (θ_run Cert.InputGradRefIdeal.defs _ _).mono (fun r h => ⟨fun c => (h c).2.2, sem_eq_zero_of_no_sems rfl r.2⟩)
    (Cert.InputGradRefIdeal.Value.run (F := Ideal) m ρ)

end Reference

theorem algebraic : Cert.algebraic_InputGradIdeal_InputGradRefIdeal := fun m ρ m' ρ' _ h =>
  ⟨_, _, (θ_run Cert.InputGradIdeal.defs _ _).mono
      (fun _ r c => ⟨(r c).1.trans (arr_rows m c), (r c).2.1.trans (arr_weight m c), (r c).2.2⟩)
      (Cert.InputGradIdeal.Value.run_blocks (F := Ideal) m ρ),
    (θ_run Cert.InputGradRefIdeal.defs _ _).mono
      (fun _ r c => ⟨(r c).1.trans (by rw [(h c).1, (h c).2.1, (h c).2.2.1, (h c).2.2.2]; exact rows_eq _ _ _ _),
        (r c).2.1.trans (by rw [(h c).1, (h c).2.2.2]; exact weight_eq _ _), (r c).2.2⟩)
      (Cert.InputGradRefIdeal.Value.run (F := Ideal) m' ρ')⟩

end Cert.Proof.InputGrad
-- ==== Proof.SharePieces.lean ====
/-
# The exchange of the halves, cut into the pieces

The exchange of the halves as in ShareHalves.lean, in the program that goes on to cut the result, the rows of the chip, into
the chip's parts of the five large gradients (`pieces`). The buffers the exchange does not touch are kept aside while it runs.
-/
module

public import proofs.«01_k».proof.Proof.Slots
public import proofs.«01_k».proof.Proof.Talk
public import proofs.«01_k».proof.Proof.Gen.SharePiecesIdeal.Skeleton
public import proofs.«01_k».proof.Proof.Gen.SharePiecesIdeal.Launch
public import proofs.«01_k».proof.Proof.Gen.SharePiecesIdeal.Frame
public import Idealize.ShloMosaic.Lib.Ring
public import Idealize.ShloMosaic.Lib.Quiescent
public import Idealize.ShloMosaic.Lib.ValueIdx
public import Idealize.ShloMosaic.Lib.Layout
public import Idealize.ShloMosaic.Lib.Pipeline.Value

@[expose] public section

noncomputable section

namespace Cert.PiecesProof

open Cert.SharePiecesIdeal Cert.SharePiecesIdeal.Gen
open Cert.OneShot Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

/-! ## The devices -/

/-- Core `h` of the chip of device `c`. -/
def core (c : Dev nD) (h : Fin 2) : Dev nD := ⟨2 * (c.val / 2) + h.val, by have := c.isLt; have := h.isLt; simp only [nD] at *; omega⟩

/-- Which core of its chip device `c` is. -/
def low (c : Dev nD) : Fin 2 := ⟨c.val % 2, Nat.mod_lt _ (by decide)⟩

/-- The other core of the chip. -/
def sib (c : Dev nD) : Dev nD := core c (1 - low c)

theorem sib_sib (c : Dev nD) : sib (sib c) = c := by revert c; decide
theorem core_low (c : Dev nD) : core c (low c) = c := by revert c; decide
theorem core_low_sib (c : Dev nD) : core c (low (sib c)) = sib c := by revert c; decide
theorem core_sib (c : Dev nD) : core (sib c) (low c) = c := by revert c; decide
theorem dev1_eq (c : Dev nD) : (⟨k0_dev1 c, k0_dev1_lt c⟩ : Dev nD) = sib c := by revert c; decide
theorem low_pair (c : Dev nD) : Finset.univ = [low c, low (sib c)].toFinset ∧ [low c, low (sib c)].Nodup := by revert c; decide
theorem off1_low (c : Dev nD) : k0_off1 c = ![(low c).val, 0, 0] := k0_off1_eq c

def sibEquiv : Dev nD ≃ Dev nD := ⟨sib, sib, sib_sib, sib_sib⟩

/-! ## The plan -/

/-- Semaphore 0: the argument has left for the sibling; 1: the sibling's half has landed; 2: the own half has. -/
def plan : Plan nD sig 3 where
  sem := ![cc0_scratch0.sem, cc0_scratch1.sem, cc0_scratch2.sem]
  inj := by decide
  amt := fun _ => (Memref.whole main_arg0 : Memref sig .tc .hbm S13312x128 .f32).view.dmaCredit
  pos := fun _ => by decide
  peer := ![Equiv.refl _, sibEquiv, Equiv.refl _]
  far := [1]
  nodup := by decide
  lev := fun _ => 0

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The argument and the result, whole. -/
abbrev argM : Memref sig .tc .hbm S13312x128 .f32 := Memref.whole main_arg0
abbrev outM : Memref sig .tc .hbm S2x13312x128 .f32 := Memref.whole main_v1

/-- The slot device `d` writes, on its own result and on its sibling's. -/
abbrev slotM (d : Dev nD) : Memref sig .tc .hbm S13312x128 .f32 :=
  (outM.slice (Rect.unit (s := S2x13312x128) (k0_off1 d) S1x13312x128.size (k0_off1_inb d)) (fun _ => rfl)).squeeze S13312x128
    squeezes_S1x13312x128_S13312x128

/-- The result of device `c` at the end. -/
def fin (c : Dev nD) : Buf (Elt F) ((c : Thread nD τ).loc main_v1) :=
  fun i => m ((core c (i 0) : Thread nD τ).loc main_arg0) (ix2 (i 1) (i 2))

/-- The argument of device `c`, at share `q`. -/
abbrev argPt (c : Dev nD) (q : PosShare TreeShare) : sProp 𝕄 :=
  argM.view.loc (c : Thread nD τ) ↦[argM.view.set]{q} m ((c : Thread nD τ).loc main_arg0)

/-- Slot `h` of the result of device `c`, at contents `f`. -/
def slotPt (c : Dev nD) (h : Fin 2) (f : Buf (Elt F) ((c : Thread nD τ).loc main_v1)) : sProp 𝕄 :=
  outM.view.loc (c : Thread nD τ) ↦[part outM.view key3 h]{fullShare} f

/-- What each copy hands over. -/
def pay (c : Dev nD) : Fin 3 → sProp 𝕄
  | 0 => argPt m c fullShare.left
  | 1 => slotPt c (low (sib c)) (fin m c)
  | 2 => iprop(slotPt c (low c) (fin m c) ∗ argPt m c fullShare.right)

instance pay_storable (c : Dev nD) (k : Fin 3) : BI.Storable (upEmb : UEmb _ 𝕄) (pay m c k) := by
  fin_cases k
  · change BI.Storable upEmb (argPt m c fullShare.left); unfold argPt; infer_instance
  · change BI.Storable upEmb (slotPt c (low (sib c)) (fin m c)); unfold slotPt; infer_instance
  · change BI.Storable upEmb iprop(slotPt c (low c) (fin m c) ∗ argPt m c fullShare.right); unfold slotPt argPt; infer_instance

theorem slot_credit (d : Dev nD) : (slotM d).view.dmaCredit = argM.view.dmaCredit := rfl

/-- What device `c` starts with: its argument, its own slot, and the same slot of its sibling. -/
def B (c : Dev nD) : sProp 𝕄 :=
  iprop(argPt m c fullShare ∗ slotPt c (low c) (m ((c : Thread nD τ).loc main_v1)) ∗ slotPt (sib c) (low c) (m ((sib c : Thread nD τ).loc main_v1)))

/-- What it ends with: its argument, and its result at the final contents. -/
def Y (c : Dev nD) : sProp 𝕄 :=
  iprop((((c : Thread nD τ).loc main_arg0) ↦{fullShare} m ((c : Thread nD τ).loc main_arg0)) ∗ (((c : Thread nD τ).loc main_v1) ↦{fullShare} fin m c))

/-! ## The pieces -/

theorem arg_whole (c : Dev nD) : (((c : Thread nD τ).loc main_arg0) ↦{fullShare} m ((c : Thread nD τ).loc main_arg0) : sProp 𝕄) = argPt m c fullShare := by
  unfold argPt; rw [View.set_whole]

theorem arg_half (c : Dev nD) : (argPt m c fullShare : sProp 𝕄) = iprop(argPt m c fullShare.left ∗ argPt m c fullShare.right) := by
  unfold argPt; exact BI.Entails.antisymm (half _ _ _ _).1 (half _ _ _ _).2

theorem slot_pt (c d : Dev nD) (f : Buf (Elt F) ((c : Thread nD τ).loc main_v1)) :
    ((slotM d).view.loc (c : Thread nD τ) ↦[(slotM d).view.set]{fullShare} f : sProp 𝕄) = slotPt c (low d) f := by
  unfold slotPt
  exact congrArg (fun I => (outM.view.loc (c : Thread nD τ) ↦[I]{fullShare} f : sProp 𝕄)) (slot3_set outM.view (low d) (off1_low d) (k0_off1_inb d) _)

theorem out_whole (c : Dev nD) (f : Buf (Elt F) ((c : Thread nD τ).loc main_v1)) :
    (((c : Thread nD τ).loc main_v1) ↦{fullShare} f : sProp 𝕄) = iprop(slotPt c (low c) f ∗ slotPt c (low (sib c)) f) := by
  have h : (((c : Thread nD τ).loc main_v1) ↦{fullShare} f : sProp 𝕄) = bigSep Finset.univ fun k : Fin 2 => slotPt c k f := by
    have e := pointsTo_parts (Ix := Unit) (Name := ℕ) (U := UU nD τ sig) (Lvl := ℕ) (c : Thread nD τ) outM.view key3 fullShare f
    rw [View.set_whole] at e
    exact e
  rw [h, bigSep_univ_eq_bigSepL [low c, low (sib c)] (low_pair c).1 (low_pair c).2]
  rfl

/-- The argument of device `d` lands in slot `low d` of a core of the same chip. -/
theorem lands (c d : Dev nD) (h : core c (low d) = d) (fd : Buf (Elt F) ((c : Thread nD τ).loc main_v1)) :
    ((slotM d).view.loc (c : Thread nD τ) ↦[(slotM d).view.set]{fullShare}
      (slotM d).view.write (Elt F) fd (argM.view.read (Elt F) (m ((d : Thread nD τ).loc main_arg0))) Finset.univ : sProp 𝕄)
    = slotPt c (low d) (fin m c) := by
  refine (landed (c : Thread nD τ) (slotM d).view fullShare fd (fin m c) _ ?_).trans (slot_pt c d _)
  refine (slot3_read outM.view (low d) (off1_low d) (k0_off1_inb d) _ (fin m c)).trans ?_
  funext x
  obtain ⟨p, q, rfl⟩ : ∃ p q, x = ix2 p q := ⟨x 0, x 1, eq_ix2 x⟩
  show m ((core c (low d) : Thread nD τ).loc main_arg0) (ix2 p q) = m ((d : Thread nD τ).loc main_arg0) (ix2 p q)
  rw [h]

/-! ## The body -/

theorem three (Φ : Fin 3 → sProp 𝕄) : bigSep Finset.univ Φ = iprop(Φ 0 ∗ Φ 1 ∗ Φ 2) :=
  bigSep_univ_eq_bigSepL [0, 1, 2] (by decide) (by decide) Φ

theorem ready_open (c : Dev nD) : (plan.ready (pay m) c : sProp 𝕄) ⊢ iprop(plan.all (pay m) ∗ levAts plan.L plan.lv
    ∗ ((plan.pos₀ c 0 ∗ plan.pos₀ c 1 ∗ plan.pos₀ c 2) ∗ (plan.tok c 0 ∗ plan.tok (sib c) 1 ∗ plan.tok c 2)) ∗ (plan.due c 1 ∗ emp)) := by
  unfold Plan.ready Plan.rights
  rw [three, three]
  exact BI.Entails.refl _

theorem sems_close (c : Dev nD) : iprop(semVal (plan.cell c 0) 0 ∗ semVal (plan.cell c 1) 0 ∗ semVal (plan.cell c 2) 0)
    ⊢ (ownSems0 plan.osem c : sProp 𝕄) := by
  unfold ownSems0
  rw [three]

theorem body (𝒱 : Variants) (c : Dev nD) (W : Waits sig Unit) :
    iprop((plan.ready (pay m) c ∗ B m c) ∗ owes (c : Thread nD τ) (plan.owed c plan.far) W)
      ⊢ wp frame (wpE (defs₀ (F := F)) 𝒱 (c : Thread nD τ) none) Set.univ
          (cc0_share_halves (F := F) argM (Memref.isWhole_whole _) outM (Memref.isWhole_whole _) cc0_scratch0 cc0_scratch1 cc0_scratch2)
          fun _ => iprop((Y m c ∗ ownSems0 plan.osem c) ∗ ∃ W, owes (c : Thread nD τ) (0 : CellTallies nD τ sig Unit) W) := by
  simp only [cc0_share_halves_eq_skeleton]; unfold cc0_share_halves_skel
  simp only [k0_part1_eq_skeleton]; unfold k0_part1_skel
  simp only [Prog.lift, Prog.bind_op, Prog.bind_ret, Prog.pure_eq_ret, wp_deviceId]
  iintro ⟨⟨HR, HB⟩, HO⟩
  ihave HR := (ready_open m c) $$ HR
  icases HR with ⟨#HA, #HL, ⟨⟨HP0, HP1, HP2⟩, ⟨HT0, HT1, HT2⟩⟩, ⟨HD1, -⟩⟩
  unfold B
  icases HB with ⟨Ha, Hs, Hs'⟩
  ihave Ha := (Entails.of_eq (arg_half m c)) $$ Ha
  icases Ha with ⟨Ha, Ha'⟩
  -- the two copies
  iapply (plan.copy_here (pay m) 𝒱 c 2 rfl (fs := m ((c : Thread nD τ).loc main_arg0)) (fd := m ((c : Thread nD τ).loc main_v1)) (q := fullShare.right)
    (src := argM) (dst := slotM c) rfl (BI.sep_mono (Entails.of_eq (lands m c c (core_low c) _)) (BI.Entails.refl _))) $$ [HT2 Ha' Hs]
  · isplitl []; · iapply (plan.all_elim (pay m) c 2); iexact HA
    isplitl [HT2]; · iexact HT2
    isplitl [Ha']; · iexact Ha'
    iapply (Entails.of_eq (slot_pt c c _).symm); iexact Hs
  iintro HD2
  iapply (plan.copy_to (pay m) 𝒱 c _ 1 0 [] (dev1_eq c) rfl rfl (fs := m ((c : Thread nD τ).loc main_arg0)) (fd := m (((⟨k0_dev1 c, k0_dev1_lt c⟩ : Dev nD) : Thread nD τ).loc main_v1)) (q := fullShare.left)
    (src := argM) (dst := slotM c) rfl rfl (BI.Entails.refl _) ?_ (by rw [dev1_eq]; revert c; decide)) $$ [HT0 HT1 Ha Hs' HO]
  · rw [dev1_eq c]
    refine (Entails.of_eq (lands m (sib c) c (core_sib c) _)).trans (Entails.of_eq ?_)
    show _ = slotPt (sib c) (low (sib (sib c))) (fin m (sib c))
    rw [sib_sib]
  · rw [dev1_eq c]
    isplitl []; · iapply (plan.all_elim (pay m) c 0); iexact HA
    isplitl []; · iapply (plan.all_elim (pay m) (sib c) 1); iexact HA
    isplitl [HT0]; · iexact HT0
    isplitl [HT1]; · iexact HT1
    isplitl [Ha]; · iexact Ha
    isplitl [Hs']; · iapply (Entails.of_eq (slot_pt (sib c) c _).symm); iexact Hs'
    iexact HO
  iintro ⟨HD0, HO⟩
  -- the three waits
  iapply (plan.collect (pay m) 𝒱 c 1 [] (fun _ h => absurd h List.not_mem_nil) (dst := slotM c) rfl rfl) $$ [HD1 HP1 HO]
  · isplitl []; · iapply (plan.all_elim (pay m) c 1); iexact HA
    isplitl [HD1]; · iexact HD1
    isplitl [HP1]; · iexact HP1
    isplitl []; · iexact HL
    iexact HO
  iintro ⟨HO, Hb1, HS1⟩
  iapply (plan.collect (pay m) 𝒱 c 0 [] (fun _ h => absurd h List.not_mem_nil) (dst := argM) rfl rfl) $$ [HD0 HP0 HO]
  · isplitl []; · iapply (plan.all_elim (pay m) c 0); iexact HA
    isplitl [HD0]; · iexact HD0
    isplitl [HP0]; · iexact HP0
    isplitl []; · iexact HL
    iexact HO
  iintro ⟨HO, Hb0, HS0⟩
  iapply (plan.collect (pay m) 𝒱 c 2 [] (fun _ h => absurd h List.not_mem_nil) (dst := slotM c) rfl rfl) $$ [HD2 HP2 HO]
  · isplitl []; · iapply (plan.all_elim (pay m) c 2); iexact HA
    isplitl [HD2]; · iexact HD2
    isplitl [HP2]; · iexact HP2
    isplitl []; · iexact HL
    iexact HO
  iintro ⟨HO, Hb2, HS2⟩
  rw [wp_ret]
  imodintro
  unfold pay
  icases Hb2 with ⟨Hb2, Hb3⟩
  isplitr [HO]
  · isplitr [HS0 HS1 HS2]
    · unfold Y
      rw [arg_whole, arg_half, out_whole]
      isplitl [Hb0 Hb3]
      · isplitl [Hb0]; · iexact Hb0
        iexact Hb3
      isplitl [Hb2]; · iexact Hb2
      iexact Hb1
    iapply (sems_close c)
    isplitl [HS0]; · iexact HS0
    isplitl [HS1]; · iexact HS1
    iexact HS2
  iexists _; iexact HO

/-! ## The deal -/

/-- The slot each copy writes, at the device it writes it on. -/
def dest (c : Dev nD) : Fin 3 → sProp 𝕄
  | 0 => iprop(emp)
  | 1 => slotPt c (low (sib c)) (m ((c : Thread nD τ).loc main_v1))
  | 2 => slotPt c (low c) (m ((c : Thread nD τ).loc main_v1))

/-- The contents at launch. -/
abbrev V0 (c : Dev nD) : Valuation τ sig (Elt F) := fun b => m (c, b)

/-- The buffers of the exchange. -/
abbrev used : Finset (DevRef τ sig) := {Proc.devRef .tc main_arg0, Proc.devRef .tc main_v1}

/-- The other buffers, as launched. -/
def rest (c : Dev nD) : sProp 𝕄 := StableHlo.held (c : Thread nD τ) (ucRefs τ sig \ used) (V0 m c)

/-- The contents after the exchange. -/
def W (c : Dev nD) : Valuation τ sig (Elt F) := Function.update (V0 m c) (Proc.devRef .tc main_v1) (fin m c)

theorem used_sub : used ⊆ ucRefs τ sig := by decide

theorem held_used (c : Dev nD) (V : Valuation τ sig (Elt F)) : (StableHlo.held (c : Thread nD τ) used V : sProp 𝕄)
    = iprop((((c : Thread nD τ).loc main_arg0) ↦{fullShare} V (Proc.devRef .tc main_arg0))
      ∗ (((c : Thread nD τ).loc main_v1) ↦{fullShare} V (Proc.devRef .tc main_v1))) := by
  unfold StableHlo.held
  exact bigSep_eq_bigSepL_of_eq [Proc.devRef .tc main_arg0, Proc.devRef .tc main_v1] (by decide) (by decide) _

theorem bufs (c : Dev nD) : (unscopedBufs c (fun b => m ((c : Thread nD τ).loc b)) : sProp 𝕄)
    = iprop(((((c : Thread nD τ).loc main_arg0) ↦{fullShare} m ((c : Thread nD τ).loc main_arg0))
      ∗ (((c : Thread nD τ).loc main_v1) ↦{fullShare} m ((c : Thread nD τ).loc main_v1))) ∗ rest m c) := by
  rw [show (unscopedBufs c (fun b => m ((c : Thread nD τ).loc b)) : sProp 𝕄) = StableHlo.held (c : Thread nD τ) (ucRefs τ sig) (V0 m c)
    from unscopedBufs_held c (V0 m c), StableHlo.held_sub_split _ used_sub, held_used]
  rfl

/-- The exchange's end and the rest: every buffer, at the contents after the exchange. -/
theorem all_bufs (c : Dev nD) : iprop(Y m c ∗ rest m c) = (StableHlo.held (c : Thread nD τ) (ucRefs τ sig) (W m c) : sProp 𝕄) := by
  have ha : W m c (Proc.devRef .tc main_arg0) = m ((c : Thread nD τ).loc main_arg0) :=
    Function.update_of_ne (StableHlo.devRef_ne_of_ne (by decide)) _ _
  have hv : W m c (Proc.devRef .tc main_v1) = fin m c := Function.update_self ..
  rw [StableHlo.held_sub_split _ used_sub, held_used, ha, hv]
  unfold Y rest
  rw [StableHlo.held_congr (c : Thread nD τ) (S := ucRefs τ sig \ used) (V := V0 m c) (V' := W m c) fun b hb =>
    (Function.update_of_ne (fun e => (Finset.mem_sdiff.mp hb).2 (by rw [e]; decide)) _ _).symm]

theorem deal : (bigSep Finset.univ fun c : Dev nD => (unscopedBufs c (fun b => m ((c : Thread nD τ).loc b)) : sProp 𝕄))
    ⊢ bigSep Finset.univ fun c => iprop(B m c ∗ rest m c) := by
  have h₁ : (bigSep Finset.univ fun c : Dev nD => (unscopedBufs c (fun b => m ((c : Thread nD τ).loc b)) : sProp 𝕄))
      ⊢ iprop((bigSep Finset.univ fun c : Dev nD => iprop(argPt m c fullShare ∗ rest m c)) ∗ bigSep Finset.univ fun c => bigSep Finset.univ fun k => dest m c k) := by
    refine BI.Entails.trans (bigSep_mono fun c _ => ?_) (Entails.of_eq (bigSep_sep _ _ _))
    rw [bufs, three, arg_whole, out_whole]
    show (_ : sProp 𝕄) ⊢ iprop(_ ∗ emp ∗ slotPt c (low (sib c)) (m ((c : Thread nD τ).loc main_v1)) ∗ slotPt c (low c) (m ((c : Thread nD τ).loc main_v1)))
    iintro ⟨⟨Ha, Hs, Hs'⟩, Hr⟩
    isplitl [Ha Hr]; · isplitl [Ha] <;> iassumption
    isplitr; · iempintro
    isplitl [Hs'] <;> iassumption
  refine h₁.trans ((BI.sep_mono (BI.Entails.refl _) (plan.deal (dest m))).trans ?_)
  refine (Entails.of_eq (bigSep_sep _ _ _).symm).trans (bigSep_mono fun c _ => ?_)
  rw [three]
  show iprop(_ ∗ emp ∗ slotPt (sib c) (low (sib (sib c))) (m ((sib c : Thread nD τ).loc main_v1)) ∗ slotPt c (low c) (m ((c : Thread nD τ).loc main_v1))) ⊢ (_ : sProp 𝕄)
  rw [sib_sib]
  unfold B
  iintro ⟨⟨Ha, Hr⟩, -, Hs', Hs⟩
  isplitr [Hr]
  · isplitl [Ha]; · iexact Ha
    isplitl [Hs] <;> iassumption
  iexact Hr

/-- The body, the buffers it does not touch kept aside. -/
theorem body_rest (𝒱 : Variants) (c : Dev nD) (W₀ : Waits sig Unit) :
    iprop((plan.ready (pay m) c ∗ (B m c ∗ rest m c)) ∗ owes (c : Thread nD τ) (plan.owed c plan.far) W₀)
      ⊢ wp frame (wpE (defs₀ (F := F)) 𝒱 (c : Thread nD τ) none) Set.univ
          (cc0_share_halves (F := F) argM (Memref.isWhole_whole _) outM (Memref.isWhole_whole _) cc0_scratch0 cc0_scratch1 cc0_scratch2)
          fun _ => iprop((StableHlo.held (c : Thread nD τ) (ucRefs τ sig) (W m c) ∗ ownSems0 plan.osem c) ∗ ∃ W, owes (c : Thread nD τ) (0 : CellTallies nD τ sig Unit) W) := by
  iintro ⟨⟨HR, HB, Hr⟩, HO⟩
  iapply (wp_wand frame (wpE (defs₀ (F := F)) 𝒱 (c : Thread nD τ) none) Set.univ) $$ [HR HB HO]
  · iapply (body m 𝒱 c W₀)
    isplitr [HO]
    · isplitl [HR] <;> iassumption
    iexact HO
  iintro %_ ⟨⟨HY, HS⟩, HO⟩
  isplitr [HO]
  · isplitr [HS]
    · iapply (Entails.of_eq (all_bufs m c))
      isplitl [HY] <;> iassumption
    iexact HS
  iexact HO

/-- The part of a device's result from position `o` on, at its own shape. -/
def cut {n : ℕ} {t : Shape} (x : S2x13312x128.Idx → Elt F .f32) (o : ℕ) (h₁ : S3407872.Slices ![o] ⟨1, ![n]⟩) (h₂ : (⟨1, ![n]⟩ : Shape).ShapeCasts t) :
    t.Idx → Elt F .f32 := shapeCast t (extractStridedSlice ⟨1, ![n]⟩ ![o] (shapeCast S3407872 x shapeCasts_S2x13312x128_S3407872) h₁) h₂

/-! ## The run -/

/-- The proof data of the region: one body, before which the plan is ready. -/
def dats (_ : Fin 1) (c : Dev nD) : Dat τ (Elt F) Unit ℕ (UU nD τ sig) ℕ cfg0 c :=
  talkDat cfg0 c iprop(plan.ready (pay m) c ∗ (B m c ∗ rest m c)) iprop(StableHlo.held (c : Thread nD τ) (ucRefs τ sig) (W m c) ∗ ownSems0 plan.osem c) (plan.owed c plan.far)

theorem ownSemFacts : OwnSemFacts cfg0.spec plan.osem := by decide

/-- The contents at the end. -/
abbrev V1 (c : Dev nD) : Valuation τ sig (Elt F) := StableHlo.after hostOps1 (W m c)

/-- The operations after the exchange. -/
def tail : HostSeg (Ix := Unit) (Name := ℕ) (U := UU nD τ sig) (Lvl := ℕ) (pcfgs (F := F)) defs₀ Variants.none plan.L plan.lv :=
  HostSeg.ofOps _ _ _ _ _ (ucRefs τ sig) hostOps1
    (fun op h => sub_ucRefs op ((List.forall_iff_forall_mem.mp hostOps1_sub) op h))
    (fun op h => (List.forall_iff_forall_mem.mp hostOps1_fresh) op h) (W m)
    (fun c => iprop(∃ W, owes (c : Thread nD τ) (0 : CellTallies nD τ sig Unit) W))

/-- Every execution ends, with every buffer at the contents the operations leave, and every semaphore at zero. -/
theorem run_all (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, ∀ b ∈ ucRefs τ sig, r.2.mem ((c : Thread nD τ).1, b) = V1 m c b) ∧ r.2.sem = fun _ => 0) :=
  run_talk (fun p => (cfgs p).toPCfg) (fun p => (cfgs p).toPCfg_adm) (dats m) cellOf_inj defs₀ Variants.none plan (pay m) m ρ (main (F := F))
    (0 : Fin 1) (fun _ => [.host (tail m)]) (fun c => iprop(B m c ∗ rest m c)) (fun c => StableHlo.held (c : Thread nD τ) (ucRefs τ sig) (W m c))
    (fun c => StableHlo.held (c : Thread nD τ) (ucRefs τ sig) (V1 m c))
    (hd := fun _ => rfl) (hmain := fun c => main_chain c) (hnd := fun _ => List.nodup_singleton _) (hw := winFacts0.to₀) (ho := ownSemFacts) (hpre := inferInstance)
    (hN := N_0) (hrest := scopedRest0_eq)
    (hbody := fun c t W => body_rest m _ c W) (hB := deal m)
    (hch := fun c => by
      refine ⟨?_, ?_⟩
      · show _ ⊢ (iprop(_ ∗ _) : sProp 𝕄)
        iintro ⟨⟨HY, -⟩, HO⟩
        isplitl [HY] <;> iassumption
      · exact BI.Entails.refl _)
    (QY := fun c s => ∀ b ∈ ucRefs τ sig, s.mem ((c : Thread nD τ).1, b) = V1 m c b)
    (hfin := fun c s' => by
      unfold StableHlo.held
      iintro H
      imodintro
      iapply (pointsTo_read_all (ucRefs τ sig) (fun b => ((c : Thread nD τ).1, b)) (V1 m c) s')
      iexact H)
    (hQ := fun _ h hs => ⟨h, sem_eq_zero_of_scoped (by decide) hs⟩)

/-- Every execution ends, with the pieces cut out of the result of the exchange, the arguments as they were, and every
    semaphore at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c : Thread nD τ).loc main_v4) = cut (fin m c) 0 slices_S3407872_S919552_0 shapeCasts_S919552_S1024x898
        ∧ r.2.mem ((c : Thread nD τ).loc main_v6) = cut (fin m c) 919552 slices_S3407872_S262144_919552 shapeCasts_S262144_S256x1024
        ∧ r.2.mem ((c : Thread nD τ).loc main_v8) = cut (fin m c) 1181696 slices_S3407872_S720896_1181696 shapeCasts_S720896_S1024x704
        ∧ r.2.mem ((c : Thread nD τ).loc main_v10) = cut (fin m c) 1902592 slices_S3407872_S720896_1902592 shapeCasts_S720896_S1024x704
        ∧ r.2.mem ((c : Thread nD τ).loc main_v12) = cut (fin m c) 2623488 slices_S3407872_S720896_2623488 shapeCasts_S720896_S704x1024
        ∧ r.2.mem ((c : Thread nD τ).loc main_arg0) = m ((c : Thread nD τ).loc main_arg0)) ∧ r.2.sem = fun _ => 0) := by
  refine (θ_run defs _ _).mono (fun r h => ⟨fun c => ?_, h.2⟩) (run_all m ρ)
  have hv : W m c (Proc.devRef .tc main_v1) = fin m c := Function.update_self ..
  have ha : W m c (Proc.devRef .tc main_arg0) = m ((c : Thread nD τ).loc main_arg0) :=
    Function.update_of_ne (StableHlo.devRef_ne_of_ne (by decide)) _ _
  have e : ∀ b : Ref sig .tc, b.isScoped = false → r.2.mem ((c : Thread nD τ).loc b) = V1 m c (Proc.devRef .tc b) := fun b hb =>
    h.1 c (Proc.devRef .tc b) (Finset.mem_filter.mpr ⟨StableHlo.devRef_mem_tcRefs _, fun h' => Bool.false_ne_true (hb.symm.trans h')⟩)
  rw [e main_v4 rfl, e main_v6 rfl, e main_v8 rfl, e main_v10 rfl, e main_v12 rfl, e main_arg0 rfl]
  unfold cut
  rw [← hv]
  refine ⟨?_, ?_, ?_, ?_, ?_, ?_⟩
  case refine_6 => refine Eq.trans ?_ ha; after_results
  all_goals (after_results <;> rfl)

/-! ## The value -/

/-- A reshaped array at an index is the array at the index of the same position. -/
theorem reshaped {s t : Shape} {α : Type} (x : s.Idx → α) (h : s.ShapeCasts t) (i : t.Idx) (j : s.Idx) (e : (s.rowMajor j : ℕ) = t.rowMajor i) :
    shapeCast t x h i = x j := congrArg x (Shape.reshapeEquiv_eq_of_rowMajor _ e)

/-- The chip of device `c`. -/
def chip (c : Dev nD) : Fin 4 := ⟨c.val / 2, by have := c.isLt; simp only [nD] at *; omega⟩

/-- Position `n` of a device's result is position `n` of its chip's quarter of the whole array. -/
theorem fin_flat (a : (⟨2, ![106496, 128]⟩ : Shape).Idx → Elt F .f32)
    (h : ∀ c : Dev nD, m ((c : Thread nD τ).loc main_arg0) = Layout.block ⟨2, ![13312, 128]⟩ ⟨2, ![106496, 128]⟩ 0 8 c a)
    (hs : (⟨3, ![2, 13312, 128]⟩ : Shape).ShapeCasts ⟨1, ![3407872]⟩) (ha : (⟨2, ![106496, 128]⟩ : Shape).ShapeCasts ⟨2, ![4, 3407872]⟩)
    (c : Dev nD) (i : (⟨1, ![3407872]⟩ : Shape).Idx) (n : Fin 3407872) (hn : (i 0).val = n.val) :
    shapeCast ⟨1, ![3407872]⟩ (fin m c) hs i = shapeCast ⟨2, ![4, 3407872]⟩ a ha (ix2 (chip c) n) := by
  have hb := n.isLt
  refine (reshaped (s := ⟨3, ![2, 13312, 128]⟩) (fin m c) hs i (ix3 ⟨n.val / 1703936, by omega⟩ ⟨n.val / 128 % 13312, by omega⟩ ⟨n.val % 128, by omega⟩) ?_).trans ?_
  · rw [Shape.rowMajor_val_three, Shape.rowMajor_val_one, hn]
    show (n.val / 1703936 * 13312 + n.val / 128 % 13312) * 128 + n.val % 128 = n.val
    omega
  show m ((core c _ : Thread nD τ).loc main_arg0) (ix2 _ _) = _
  rw [h]
  refine (congrArg a (Shape.reshapeEquiv_eq_of_rowMajor _ ?_)).symm
  rw [Shape.rowMajor_val_two, Shape.rowMajor_val_two]
  show ((2 * (c.val / 2) + n.val / 1703936) * 13312 + n.val / 128 % 13312) * 128 + (n.val % 128) = c.val / 2 * 3407872 + n.val
  omega

theorem chip_lin (c : Dev nD) : Layout.meshLin [2, 2, 2] c.val [0, 1] = (chip c).val := by revert c; decide

/-- A piece that lies in the whole gradient by columns. -/
theorem cols_eq {n w w₄ : ℕ} (o : ℕ) (hw : n = 1024 * w) (hw₄ : w₄ = 4 * w) (ho : o + n ≤ 3407872)
    (a : (⟨2, ![106496, 128]⟩ : Shape).Idx → Elt F .f32)
    (h : ∀ c : Dev nD, m ((c : Thread nD τ).loc main_arg0) = Layout.block ⟨2, ![13312, 128]⟩ ⟨2, ![106496, 128]⟩ 0 8 c a)
    (h₁ : (⟨1, ![3407872]⟩ : Shape).Slices ![o] ⟨1, ![n]⟩) (h₂ : (⟨1, ![n]⟩ : Shape).ShapeCasts ⟨2, ![1024, w]⟩)
    (ha : (⟨2, ![106496, 128]⟩ : Shape).ShapeCasts ⟨2, ![4, 3407872]⟩) (h₃ : (⟨2, ![4, 3407872]⟩ : Shape).Slices ![0, o] ⟨2, ![4, n]⟩)
    (h₄ : (⟨2, ![4, n]⟩ : Shape).ShapeCasts ⟨3, ![4, 1024, w]⟩) (h₅ : (⟨3, ![4, 1024, w]⟩ : Shape).Transposes [1, 0, 2] ⟨3, ![1024, 4, w]⟩)
    (h₆ : (⟨3, ![1024, 4, w]⟩ : Shape).ShapeCasts ⟨2, ![1024, w₄]⟩) (c : Dev nD)
    (ht : Layout.TilesN ⟨2, ![1024, w]⟩ ⟨2, ![1024, w₄]⟩ fun b => Layout.cutSize [2, 2, 2] ((![[], [0, 1]] : Fin 2 → List ℕ) b)) :
    cut (fin m c) o h₁ h₂ = Layout.blockN ⟨2, ![1024, w]⟩ ⟨2, ![1024, w₄]⟩ (Layout.meshBlock [2, 2, 2] ![[], [0, 1]] c)
      (shapeCast ⟨2, ![1024, w₄]⟩ (transpose ⟨3, ![1024, 4, w]⟩ [1, 0, 2]
        (shapeCast ⟨3, ![4, 1024, w]⟩ (extractStridedSlice ⟨2, ![4, n]⟩ ![0, o] (shapeCast ⟨2, ![4, 3407872]⟩ a ha) h₃) h₄) h₅) h₆) ht := by
  funext i
  obtain ⟨r, k, rfl⟩ : ∃ r k, i = ix2 r k := ⟨i 0, i 1, eq_ix2 i⟩
  have hlt : r.val * w + k.val < n := by have := r.isLt; have := k.isLt; subst hw; nlinarith
  refine Eq.trans (b := shapeCast ⟨2, ![4, 3407872]⟩ a ha (ix2 (chip c) ⟨o + (r.val * w + k.val), by omega⟩)) ?_ ?_
  · unfold cut
    refine (reshaped (s := ⟨1, ![n]⟩) _ h₂ _ (ix1 ⟨r.val * w + k.val, hlt⟩) ?_).trans ?_
    · rw [Shape.rowMajor_val_one, Shape.rowMajor_val_two]; rfl
    exact fin_flat m a h _ ha c _ _ rfl
  · refine Eq.symm ((reshaped _ h₆ _ (ix3 r (chip c) k) ?_).trans ?_)
    · rw [Shape.rowMajor_val_three, Shape.rowMajor_val_two]
      show (r.val * 4 + (chip c).val) * w + k.val = (0 * 1024 + r.val) * w₄ + (Layout.meshLin [2, 2, 2] c.val [0, 1] * w + k.val)
      rw [chip_lin, hw₄]; ring
    refine (transpose_apply (s := ⟨3, ![4, 1024, w]⟩) (t := ⟨3, ![1024, 4, w]⟩) [1, 0, 2] _ h₅ (ix3 r (chip c) k) (ix3 (chip c) r k) ?_).trans ?_
    · intro b; match b with
      | ⟨0, _⟩ => rfl
      | ⟨1, _⟩ => rfl
      | ⟨2, _⟩ => rfl
    refine (reshaped _ h₄ _ (ix2 (chip c) ⟨r.val * w + k.val, hlt⟩) ?_).trans ?_
    · rw [Shape.rowMajor_val_three, Shape.rowMajor_val_two]
      show (chip c).val * n + (r.val * w + k.val) = ((chip c).val * 1024 + r.val) * w + k.val
      rw [hw]; ring
    refine extractStridedSlice_apply (s := ⟨2, ![4, 3407872]⟩) ![0, o] _ h₃ _ _ ?_
    intro b; match b with
      | ⟨0, _⟩ => exact (Nat.zero_add _).symm
      | ⟨1, _⟩ => rfl

/-- A piece that lies in the whole gradient by rows. -/
theorem rows_eq {n w w₄ : ℕ} (o : ℕ) (hw : n = w * 1024) (hw₄ : w₄ = 4 * w) (ho : o + n ≤ 3407872)
    (a : (⟨2, ![106496, 128]⟩ : Shape).Idx → Elt F .f32)
    (h : ∀ c : Dev nD, m ((c : Thread nD τ).loc main_arg0) = Layout.block ⟨2, ![13312, 128]⟩ ⟨2, ![106496, 128]⟩ 0 8 c a)
    (h₁ : (⟨1, ![3407872]⟩ : Shape).Slices ![o] ⟨1, ![n]⟩) (h₂ : (⟨1, ![n]⟩ : Shape).ShapeCasts ⟨2, ![w, 1024]⟩)
    (ha : (⟨2, ![106496, 128]⟩ : Shape).ShapeCasts ⟨2, ![4, 3407872]⟩) (h₃ : (⟨2, ![4, 3407872]⟩ : Shape).Slices ![0, o] ⟨2, ![4, n]⟩)
    (h₄ : (⟨2, ![4, n]⟩ : Shape).ShapeCasts ⟨2, ![w₄, 1024]⟩) (c : Dev nD)
    (ht : Layout.TilesN ⟨2, ![w, 1024]⟩ ⟨2, ![w₄, 1024]⟩ fun b => Layout.cutSize [2, 2, 2] ((![[0, 1], []] : Fin 2 → List ℕ) b)) :
    cut (fin m c) o h₁ h₂ = Layout.blockN ⟨2, ![w, 1024]⟩ ⟨2, ![w₄, 1024]⟩ (Layout.meshBlock [2, 2, 2] ![[0, 1], []] c)
      (shapeCast ⟨2, ![w₄, 1024]⟩ (extractStridedSlice ⟨2, ![4, n]⟩ ![0, o] (shapeCast ⟨2, ![4, 3407872]⟩ a ha) h₃) h₄) ht := by
  funext i
  obtain ⟨r, k, rfl⟩ : ∃ r k, i = ix2 r k := ⟨i 0, i 1, eq_ix2 i⟩
  have hlt : r.val * 1024 + k.val < n := by have := r.isLt; have := k.isLt; omega
  refine Eq.trans (b := shapeCast ⟨2, ![4, 3407872]⟩ a ha (ix2 (chip c) ⟨o + (r.val * 1024 + k.val), by omega⟩)) ?_ ?_
  · unfold cut
    refine (reshaped (s := ⟨1, ![n]⟩) _ h₂ _ (ix1 ⟨r.val * 1024 + k.val, hlt⟩) ?_).trans ?_
    · rw [Shape.rowMajor_val_one, Shape.rowMajor_val_two]; rfl
    exact fin_flat m a h _ ha c _ _ rfl
  · refine Eq.symm ((reshaped _ h₄ _ (ix2 (chip c) ⟨r.val * 1024 + k.val, hlt⟩) ?_).trans ?_)
    · rw [Shape.rowMajor_val_two, Shape.rowMajor_val_two]
      show (chip c).val * n + (r.val * 1024 + k.val) = (Layout.meshLin [2, 2, 2] c.val [0, 1] * w + r.val) * 1024 + (0 * 1024 + k.val)
      rw [chip_lin, hw]; ring
    refine extractStridedSlice_apply (s := ⟨2, ![4, 3407872]⟩) ![0, o] _ h₃ _ _ ?_
    intro b; match b with
      | ⟨0, _⟩ => exact (Nat.zero_add _).symm
      | ⟨1, _⟩ => rfl

end Cert.PiecesProof

end
-- ==== Proof.ReduceSmall.lean ====
/-
# The exchange between the siblings, before the sum

The exchange of ExchangeSiblings.lean, in the program that goes on to sum the eight small arrays it leaves: the body of its first
kernel (`body_aside`), the unscoped buffers that kernel does not touch kept aside. SmallSum.lean goes on from there.
-/
module

public import proofs.«01_k».proof.Proof.Slots
public import proofs.«01_k».proof.Proof.Talk
public import proofs.«01_k».proof.Proof.Gen.ReduceSmallIdeal.Skeleton
public import proofs.«01_k».proof.Proof.Gen.ReduceSmallIdeal.Launch
public import proofs.«01_k».proof.Proof.Gen.ReduceSmallIdeal.Points
public import proofs.«01_k».proof.Proof.Gen.ReduceSmallIdeal.Regions
public import Idealize.ShloMosaic.Lib.Pipeline.FrameBody
public import Idealize.ShloMosaic.Lib.Pipeline.Value
public import Idealize.ShloMosaic.Lib.Ring
public import Idealize.ShloMosaic.Lib.Quiescent
public import Idealize.ShloMosaic.Lib.ValueIdx
public import Idealize.ShloMosaic.Lib.Layout

@[expose] public section

noncomputable section

namespace Cert.SmallProof

open Cert.ReduceSmallIdeal Cert.ReduceSmallIdeal.Gen
open Cert.OneShot Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

/-! ## The devices -/

/-- Which core of its chip device `c` is. -/
def low (c : Dev nD) : Fin 2 := ⟨c.val % 2, Nat.mod_lt _ (by decide)⟩

/-- The seven other devices: the `k`-th differs from `c` in the coordinates where `k + 1` has a digit one. The sibling is the first. -/
def via (k : Fin 7) (c : Dev nD) : Dev nD := ⟨Nat.xor c.val (k.val + 1), by revert c k; decide⟩

/-- The device a slot is for. -/
def who (i : Fin 8) : Dev nD := i

theorem via_via (k : Fin 7) (c : Dev nD) : via k (via k c) = c := by revert k c; decide
theorem low_sib (c : Dev nD) : low (via 0 c) = 1 - low c := by revert c; decide
theorem dev1_eq (c : Dev nD) : (⟨k0_dev1 c, k0_dev1_lt c⟩ : Dev nD) = via 0 c := by revert c; decide
theorem dev2_eq (c : Dev nD) : (⟨k0_dev2 c, k0_dev2_lt c⟩ : Dev nD) = via 1 c := by revert c; decide
theorem dev3_eq (c : Dev nD) : (⟨k0_dev3 c, k0_dev3_lt c⟩ : Dev nD) = via 2 c := by revert c; decide
theorem dev4_eq (c : Dev nD) : (⟨k0_dev4 c, k0_dev4_lt c⟩ : Dev nD) = via 3 c := by revert c; decide
theorem dev5_eq (c : Dev nD) : (⟨k0_dev5 c, k0_dev5_lt c⟩ : Dev nD) = via 4 c := by revert c; decide
theorem dev6_eq (c : Dev nD) : (⟨k0_dev6 c, k0_dev6_lt c⟩ : Dev nD) = via 5 c := by revert c; decide
theorem dev7_eq (c : Dev nD) : (⟨k0_dev7 c, k0_dev7_lt c⟩ : Dev nD) = via 6 c := by revert c; decide
theorem dev8_eq (c : Dev nD) : (⟨k0_dev8 c, k0_dev8_lt c⟩ : Dev nD) = via 0 c := by revert c; decide
theorem off1_eq (c : Dev nD) : k0_off1 c = ![c.val, 0, 0] := by revert c; decide
theorem off2_eq (c : Dev nD) : k0_off2 c = ![(low (via 0 c)).val, 0, 0, 0] := by revert c; decide
theorem halves (c : Dev nD) : Finset.univ = [low (via 0 c), low c].toFinset ∧ [low (via 0 c), low c].Nodup := by revert c; decide
theorem everyone (c : Dev nD) : (Finset.univ : Finset (Fin 8)) = [c, via 0 c, via 1 c, via 2 c, via 3 c, via 4 c, via 5 c, via 6 c].toFinset
    ∧ [c, via 0 c, via 1 c, via 2 c, via 3 c, via 4 c, via 5 c, via 6 c].Nodup := by revert c; decide

def viaEquiv (k : Fin 7) : Dev nD ≃ Dev nD := ⟨via k, via k, via_via k, via_via k⟩

/-! ## The plan -/

/-- The arguments and the results, whole, and a half of the one, a slot of the other. -/
abbrev bigM : Memref sig .tc .hbm S2x4x13312x128 .f32 := Memref.whole main_arg0
abbrev smallM : Memref sig .tc .hbm S224x128 .f32 := Memref.whole main_arg1
abbrev gotM : Memref sig .tc .hbm S4x13312x128 .f32 := Memref.whole main_v1_0
abbrev allM : Memref sig .tc .hbm S8x224x128 .f32 := Memref.whole main_v1_1
abbrev halfM (d : Dev nD) : Memref sig .tc .hbm S4x13312x128 .f32 :=
  (bigM.slice (Rect.unit (s := S2x4x13312x128) (k0_off2 d) S1x4x13312x128.size (k0_off2_inb d)) (fun _ => rfl)).squeeze S4x13312x128 squeezes_S1x4x13312x128_S4x13312x128
abbrev slotM (d : Dev nD) : Memref sig .tc .hbm S224x128 .f32 :=
  (allM.slice (Rect.unit (s := S8x224x128) (k0_off1 d) S1x224x128.size (k0_off1_inb d)) (fun _ => rfl)).squeeze S224x128 squeezes_S1x224x128_S224x128

/-- Semaphore `k < 7`: the small array has left for the `k`-th other device; 7: the half has left; `8 + k`: the `k`-th
    other device's small array has landed; 15: the sibling's half has; 16: the own small array has. -/
def plan : Plan nD sig 17 where
  sem := Fin.castLE (by decide)
  inj := Fin.castLE_injective _
  amt := fun k => if k = 7 ∨ k = 15 then gotM.view.dmaCredit else smallM.view.dmaCredit
  pos := fun k => by split <;> decide
  peer := ![Equiv.refl _, Equiv.refl _, Equiv.refl _, Equiv.refl _, Equiv.refl _, Equiv.refl _, Equiv.refl _, Equiv.refl _,
    viaEquiv 0, viaEquiv 1, viaEquiv 2, viaEquiv 3, viaEquiv 4, viaEquiv 5, viaEquiv 6, viaEquiv 0, Equiv.refl _]
  far := [8, 9, 10, 11, 12, 13, 14, 15]
  nodup := by decide
  lev := fun _ => 0

/-- The shares of the small array: one for each copy of it. -/
def rest : ℕ → PosShare TreeShare
  | 0 => fullShare
  | n + 1 => (rest n).right
def share (n : ℕ) : PosShare TreeShare := (rest n).left

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The results of device `c` at the end. -/
def finGot (c : Dev nD) : Buf (Elt F) ((c : Thread nD τ).loc main_v1_0) :=
  fun i => m ((via 0 c : Thread nD τ).loc main_arg0) (ix4 (low c) (i 0) (i 1) (i 2))
def finAll (c : Dev nD) : Buf (Elt F) ((c : Thread nD τ).loc main_v1_1) :=
  fun i => m ((who (i 0) : Thread nD τ).loc main_arg1) (ix2 (i 1) (i 2))

/-- Half `h` of the first argument of device `c`. -/
def bigPt (c : Dev nD) (h : Fin 2) : sProp 𝕄 :=
  bigM.view.loc (c : Thread nD τ) ↦[part bigM.view keys h]{fullShare} m ((c : Thread nD τ).loc main_arg0)

/-- The small array of device `c`, at share `q`. -/
abbrev smallPt (c : Dev nD) (q : PosShare TreeShare) : sProp 𝕄 :=
  smallM.view.loc (c : Thread nD τ) ↦[smallM.view.set]{q} m ((c : Thread nD τ).loc main_arg1)

/-- The first result of device `c`, at contents `f`. -/
abbrev gotPt (c : Dev nD) (f : Buf (Elt F) ((c : Thread nD τ).loc main_v1_0)) : sProp 𝕄 :=
  gotM.view.loc (c : Thread nD τ) ↦[gotM.view.set]{fullShare} f

/-- The slot for device `d` of the second result of device `c`, at contents `f`. -/
def slotPt (c d : Dev nD) (f : Buf (Elt F) ((c : Thread nD τ).loc main_v1_1)) : sProp 𝕄 :=
  allM.view.loc (c : Thread nD τ) ↦[part allM.view key3 (d : Fin 8)]{fullShare} f

/-- What each copy hands over. -/
def pay (c : Dev nD) : Fin 17 → sProp 𝕄
  | 0 => smallPt m c (share 0)
  | 1 => smallPt m c (share 1)
  | 2 => smallPt m c (share 2)
  | 3 => smallPt m c (share 3)
  | 4 => smallPt m c (share 4)
  | 5 => smallPt m c (share 5)
  | 6 => smallPt m c (share 6)
  | 7 => bigPt m c (low (via 0 c))
  | 8 => slotPt c (via 0 c) (finAll m c)
  | 9 => slotPt c (via 1 c) (finAll m c)
  | 10 => slotPt c (via 2 c) (finAll m c)
  | 11 => slotPt c (via 3 c) (finAll m c)
  | 12 => slotPt c (via 4 c) (finAll m c)
  | 13 => slotPt c (via 5 c) (finAll m c)
  | 14 => slotPt c (via 6 c) (finAll m c)
  | 15 => gotPt c (finGot m c)
  | 16 => iprop(slotPt c c (finAll m c) ∗ smallPt m c (rest 7))
  | ⟨n + 17, h⟩ => absurd h (by omega)

theorem small_storable (c : Dev nD) (q : PosShare TreeShare) : BI.Storable (upEmb : UEmb _ 𝕄) (smallPt m c q) := by unfold smallPt; infer_instance
theorem big_storable (c : Dev nD) (h : Fin 2) : BI.Storable (upEmb : UEmb _ 𝕄) (bigPt m c h) := by unfold bigPt; infer_instance
theorem slot_storable (c d : Dev nD) (f : Buf (Elt F) ((c : Thread nD τ).loc main_v1_1)) : BI.Storable (upEmb : UEmb _ 𝕄) (slotPt c d f) := by
  unfold slotPt; infer_instance
theorem got_storable (c : Dev nD) (f : Buf (Elt F) ((c : Thread nD τ).loc main_v1_0)) : BI.Storable (upEmb : UEmb _ 𝕄) (gotPt c f) := by
  unfold gotPt; infer_instance
theorem own_storable (c : Dev nD) : BI.Storable (upEmb : UEmb _ 𝕄) iprop(slotPt c c (finAll m c) ∗ smallPt m c (rest 7)) := by
  have := slot_storable c c (finAll m c); have := small_storable m c (rest 7); infer_instance

instance pay_storable (c : Dev nD) (k : Fin 17) : BI.Storable (upEmb : UEmb _ 𝕄) (pay m c k) := by
  fin_cases k
  · exact small_storable m c (share 0)
  · exact small_storable m c (share 1)
  · exact small_storable m c (share 2)
  · exact small_storable m c (share 3)
  · exact small_storable m c (share 4)
  · exact small_storable m c (share 5)
  · exact small_storable m c (share 6)
  · exact big_storable m c (low (via 0 c))
  · exact slot_storable c (via 0 c) (finAll m c)
  · exact slot_storable c (via 1 c) (finAll m c)
  · exact slot_storable c (via 2 c) (finAll m c)
  · exact slot_storable c (via 3 c) (finAll m c)
  · exact slot_storable c (via 4 c) (finAll m c)
  · exact slot_storable c (via 5 c) (finAll m c)
  · exact slot_storable c (via 6 c) (finAll m c)
  · exact got_storable c (finGot m c)
  · exact own_storable m c

/-- What device `c` starts with: its arguments, its own slot, its slot on the seven other devices, and the first result of its sibling. -/
def B (c : Dev nD) : sProp 𝕄 :=
  iprop((bigPt m c (low (via 0 c)) ∗ bigPt m c (low c))
    ∗ (smallPt m c (share 0) ∗ smallPt m c (share 1) ∗ smallPt m c (share 2) ∗ smallPt m c (share 3) ∗ smallPt m c (share 4) ∗ smallPt m c (share 5) ∗ smallPt m c (share 6) ∗ smallPt m c (rest 7))
    ∗ slotPt c c (m ((c : Thread nD τ).loc main_v1_1))
    ∗ slotPt (via 0 c) c (m ((via 0 c : Thread nD τ).loc main_v1_1))
    ∗ slotPt (via 1 c) c (m ((via 1 c : Thread nD τ).loc main_v1_1))
    ∗ slotPt (via 2 c) c (m ((via 2 c : Thread nD τ).loc main_v1_1))
    ∗ slotPt (via 3 c) c (m ((via 3 c : Thread nD τ).loc main_v1_1))
    ∗ slotPt (via 4 c) c (m ((via 4 c : Thread nD τ).loc main_v1_1))
    ∗ slotPt (via 5 c) c (m ((via 5 c : Thread nD τ).loc main_v1_1))
    ∗ slotPt (via 6 c) c (m ((via 6 c : Thread nD τ).loc main_v1_1))
    ∗ gotPt (via 0 c) (m ((via 0 c : Thread nD τ).loc main_v1_0)))

/-- What it ends with: its arguments, and its results at the final contents. -/
def Y (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1_0) ↦{fullShare} finGot m c) ∗ (((c : Thread nD τ).loc main_v1_1) ↦{fullShare} finAll m c))

/-! ## The pieces -/

theorem big_whole (c : Dev nD) : (((c : Thread nD τ).loc main_arg0) ↦{fullShare} m ((c : Thread nD τ).loc main_arg0) : sProp 𝕄)
    = iprop(bigPt m c (low (via 0 c)) ∗ bigPt m c (low c)) := by
  have e := pointsTo_parts (Ix := Unit) (Name := ℕ) (U := UU nD τ sig) (Lvl := ℕ) (c : Thread nD τ) bigM.view keys fullShare (m ((c : Thread nD τ).loc main_arg0))
  rw [View.set_whole] at e
  refine e.trans ((bigSep_univ_eq_bigSepL _ (halves c).1 (halves c).2 _).trans ?_)
  rfl

theorem all_whole (c : Dev nD) (f : Buf (Elt F) ((c : Thread nD τ).loc main_v1_1)) :
    (((c : Thread nD τ).loc main_v1_1) ↦{fullShare} f : sProp 𝕄)
    = iprop(slotPt c c f ∗ slotPt c (via 0 c) f ∗ slotPt c (via 1 c) f ∗ slotPt c (via 2 c) f ∗ slotPt c (via 3 c) f ∗ slotPt c (via 4 c) f ∗ slotPt c (via 5 c) f ∗ slotPt c (via 6 c) f) := by
  have e := pointsTo_parts (Ix := Unit) (Name := ℕ) (U := UU nD τ sig) (Lvl := ℕ) (c : Thread nD τ) allM.view key3 fullShare f
  rw [View.set_whole] at e
  refine e.trans ((bigSep_univ_eq_bigSepL _ (everyone c).1 (everyone c).2 _).trans ?_)
  rfl

theorem got_whole (c : Dev nD) (f : Buf (Elt F) ((c : Thread nD τ).loc main_v1_0)) :
    (((c : Thread nD τ).loc main_v1_0) ↦{fullShare} f : sProp 𝕄) = gotPt c f := by
  unfold gotPt; rw [View.set_whole]

theorem small_half (c : Dev nD) (n : ℕ) : (smallPt m c (rest n) : sProp 𝕄) = iprop(smallPt m c (share n) ∗ smallPt m c (rest (n + 1))) := by
  unfold smallPt; exact BI.Entails.antisymm (half _ _ _ _).1 (half _ _ _ _).2

theorem small_whole (c : Dev nD) : (((c : Thread nD τ).loc main_arg1) ↦{fullShare} m ((c : Thread nD τ).loc main_arg1) : sProp 𝕄)
    = iprop(smallPt m c (share 0) ∗ smallPt m c (share 1) ∗ smallPt m c (share 2) ∗ smallPt m c (share 3) ∗ smallPt m c (share 4) ∗ smallPt m c (share 5) ∗ smallPt m c (share 6) ∗ smallPt m c (rest 7)) := by
  have h : (((c : Thread nD τ).loc main_arg1) ↦{fullShare} m ((c : Thread nD τ).loc main_arg1) : sProp 𝕄) = smallPt m c (rest 0) := by
    unfold smallPt; rw [View.set_whole]; rfl
  rw [h, small_half m c 0, small_half m c 1, small_half m c 2, small_half m c 3, small_half m c 4, small_half m c 5, small_half m c 6]

theorem big_pt (c : Dev nD) :
    ((halfM c).view.loc (c : Thread nD τ) ↦[(halfM c).view.set]{fullShare} m ((c : Thread nD τ).loc main_arg0) : sProp 𝕄) = bigPt m c (low (via 0 c)) := by
  unfold bigPt
  exact congrArg (fun I => (bigM.view.loc (c : Thread nD τ) ↦[I]{fullShare} m ((c : Thread nD τ).loc main_arg0) : sProp 𝕄))
    (slots_set bigM.view (low (via 0 c)) (off2_eq c) (k0_off2_inb c) _)

theorem slot_pt (c d : Dev nD) (f : Buf (Elt F) ((c : Thread nD τ).loc main_v1_1)) :
    ((slotM d).view.loc (c : Thread nD τ) ↦[(slotM d).view.set]{fullShare} f : sProp 𝕄) = slotPt c d f := by
  unfold slotPt
  exact congrArg (fun I => (allM.view.loc (c : Thread nD τ) ↦[I]{fullShare} f : sProp 𝕄)) (slot3_set allM.view (d : Fin 8) (off1_eq d) (k0_off1_inb d) _)

/-- The small array of device `d` lands in its slot, on any device. -/
theorem lands (c d : Dev nD) (fd : Buf (Elt F) ((c : Thread nD τ).loc main_v1_1)) :
    ((slotM d).view.loc (c : Thread nD τ) ↦[(slotM d).view.set]{fullShare}
      (slotM d).view.write (Elt F) fd (smallM.view.read (Elt F) (m ((d : Thread nD τ).loc main_arg1))) Finset.univ : sProp 𝕄)
    = slotPt c d (finAll m c) := by
  refine (landed (c : Thread nD τ) (slotM d).view fullShare fd (finAll m c) _ ?_).trans (slot_pt c d _)
  refine (slot3_read allM.view (d : Fin 8) (off1_eq d) (k0_off1_inb d) _ (finAll m c)).trans ?_
  funext x
  obtain ⟨p, q, rfl⟩ : ∃ p q, x = ix2 p q := ⟨x 0, x 1, eq_ix2 x⟩
  rfl

/-- The half of device `d` for its sibling lands there. -/
theorem lands_big (d : Dev nD) (fd : Buf (Elt F) ((via 0 d : Thread nD τ).loc main_v1_0)) :
    (gotM.view.loc (via 0 d : Thread nD τ) ↦[gotM.view.set]{fullShare}
      gotM.view.write (Elt F) fd ((halfM d).view.read (Elt F) (m ((d : Thread nD τ).loc main_arg0))) Finset.univ : sProp 𝕄)
    = gotPt (via 0 d) (finGot m (via 0 d)) := by
  refine landed (via 0 d : Thread nD τ) gotM.view fullShare fd (finGot m (via 0 d)) _ ?_
  refine Eq.trans ?_ (slots_read bigM.view (low (via 0 d)) (off2_eq d) (k0_off2_inb d) _ (m ((d : Thread nD τ).loc main_arg0))).symm
  funext x
  obtain ⟨o, p, q, rfl⟩ : ∃ o p q, x = ix3 o p q := ⟨x 0, x 1, x 2, eq_ix3 x⟩
  show m ((via 0 (via 0 d) : Thread nD τ).loc main_arg0) (ix4 (low (via 0 d)) o p q) = m ((d : Thread nD τ).loc main_arg0) (ix4 (low (via 0 d)) o p q)
  rw [via_via]

/-! ## The body -/

theorem seventeen (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem ready_open (c : Dev nD) : (plan.ready (pay m) c : sProp 𝕄) ⊢ iprop(plan.all (pay m) ∗ levAts plan.L plan.lv
    ∗ ((plan.pos₀ c 0 ∗ plan.pos₀ c 1 ∗ plan.pos₀ c 2 ∗ plan.pos₀ c 3 ∗ plan.pos₀ c 4 ∗ plan.pos₀ c 5 ∗ plan.pos₀ c 6 ∗ plan.pos₀ c 7 ∗ plan.pos₀ c 8 ∗ plan.pos₀ c 9 ∗ plan.pos₀ c 10 ∗ plan.pos₀ c 11 ∗ plan.pos₀ c 12 ∗ plan.pos₀ c 13 ∗ plan.pos₀ c 14 ∗ plan.pos₀ c 15 ∗ plan.pos₀ c 16)
      ∗ (plan.tok c 0 ∗ plan.tok c 1 ∗ plan.tok c 2 ∗ plan.tok c 3 ∗ plan.tok c 4 ∗ plan.tok c 5 ∗ plan.tok c 6 ∗ plan.tok c 7 ∗ plan.tok (via 0 c) 8 ∗ plan.tok (via 1 c) 9 ∗ plan.tok (via 2 c) 10 ∗ plan.tok (via 3 c) 11 ∗ plan.tok (via 4 c) 12 ∗ plan.tok (via 5 c) 13 ∗ plan.tok (via 6 c) 14 ∗ plan.tok (via 0 c) 15 ∗ plan.tok c 16))
    ∗ (plan.due c 8 ∗ plan.due c 9 ∗ plan.due c 10 ∗ plan.due c 11 ∗ plan.due c 12 ∗ plan.due c 13 ∗ plan.due c 14 ∗ plan.due c 15 ∗ emp)) := by
  unfold Plan.ready Plan.rights
  rw [seventeen, seventeen]
  exact BI.Entails.refl _

theorem sems_close (c : Dev nD) : iprop(semVal (plan.cell c 0) 0 ∗ semVal (plan.cell c 1) 0 ∗ semVal (plan.cell c 2) 0 ∗ semVal (plan.cell c 3) 0 ∗ semVal (plan.cell c 4) 0 ∗ semVal (plan.cell c 5) 0 ∗ semVal (plan.cell c 6) 0 ∗ semVal (plan.cell c 7) 0 ∗ semVal (plan.cell c 8) 0 ∗ semVal (plan.cell c 9) 0 ∗ semVal (plan.cell c 10) 0 ∗ semVal (plan.cell c 11) 0 ∗ semVal (plan.cell c 12) 0 ∗ semVal (plan.cell c 13) 0 ∗ semVal (plan.cell c 14) 0 ∗ semVal (plan.cell c 15) 0 ∗ semVal (plan.cell c 16) 0)
    ⊢ (ownSems0 plan.osem c : sProp 𝕄) := by
  unfold ownSems0
  rw [seventeen]

theorem body (𝒱 : Variants) (c : Dev nD) (W : Waits sig Unit) :
    iprop((plan.ready (pay m) c ∗ B m c) ∗ owes (c : Thread nD τ) (plan.owed c plan.far) W)
      ⊢ wp frame (wpE (defs₀ (F := F)) 𝒱 (c : Thread nD τ) none) Set.univ
          (cc0_exchange_siblings (F := F) bigM (Memref.isWhole_whole _) smallM (Memref.isWhole_whole _) gotM (Memref.isWhole_whole _) allM (Memref.isWhole_whole _)
            cc0_scratch0 cc0_scratch1 cc0_scratch2)
          fun _ => iprop((Y m c ∗ ownSems0 plan.osem c) ∗ ∃ W, owes (c : Thread nD τ) (0 : CellTallies nD τ sig Unit) W) := by
  simp only [cc0_exchange_siblings_eq_skeleton]; unfold cc0_exchange_siblings_skel
  simp only [k0_part1_eq_skeleton, k0_part2_eq_skeleton, k0_part3_eq_skeleton, k0_part4_eq_skeleton, k0_part5_eq_skeleton, k0_part6_eq_skeleton, k0_part7_eq_skeleton]; unfold k0_part1_skel k0_part2_skel k0_part3_skel k0_part4_skel k0_part5_skel k0_part6_skel k0_part7_skel
  simp only [Prog.lift, Prog.bind_op, Prog.bind_ret, Prog.pure_eq_ret, wp_deviceId]
  iintro ⟨⟨HR, HB⟩, HO⟩
  ihave HR := (ready_open m c) $$ HR
  icases HR with ⟨#HA, #HL, ⟨⟨HP0, HP1, HP2, HP3, HP4, HP5, HP6, HP7, HP8, HP9, HP10, HP11, HP12, HP13, HP14, HP15, HP16⟩, ⟨HT0, HT1, HT2, HT3, HT4, HT5, HT6, HT7, HT8, HT9, HT10, HT11, HT12, HT13, HT14, HT15, HT16⟩⟩, ⟨HD8, HD9, HD10, HD11, HD12, HD13, HD14, HD15, -⟩⟩
  unfold B
  icases HB with ⟨⟨Hg, Hg'⟩, ⟨Ha0, Ha1, Ha2, Ha3, Ha4, Ha5, Ha6, Ha7⟩, Hown, Hd0, Hd1, Hd2, Hd3, Hd4, Hd5, Hd6, Hgot⟩
  -- the own small array, the seven others, the half
  iapply (plan.copy_here (pay m) 𝒱 c 16 rfl (fs := m ((c : Thread nD τ).loc main_arg1)) (fd := m ((c : Thread nD τ).loc main_v1_1)) (q := rest 7)
    (src := smallM) (dst := slotM c) rfl (BI.sep_mono (Entails.of_eq (lands m c c _)) (BI.Entails.refl _))) $$ [HT16 Ha7 Hown]
  · isplitl []; · iapply (plan.all_elim (pay m) c 16); iexact HA
    isplitl [HT16]; · iexact HT16
    isplitl [Ha7]; · iexact Ha7
    iapply (Entails.of_eq (slot_pt c c _).symm); iexact Hown
  iintro HD16
  iapply (plan.copy_to (pay m) 𝒱 c _ 8 0 [9, 10, 11, 12, 13, 14, 15] (dev1_eq c) rfl rfl (fs := m ((c : Thread nD τ).loc main_arg1)) (fd := m (((⟨k0_dev1 c, k0_dev1_lt c⟩ : Dev nD) : Thread nD τ).loc main_v1_1)) (q := share 0)
    (src := smallM) (dst := slotM c) rfl rfl (BI.Entails.refl _) ?_ (by rw [dev1_eq c]; revert c; decide)) $$ [HT0 HT8 Ha0 Hd0 HO]
  · rw [dev1_eq c]
    exact (Entails.of_eq (lands m (via 0 c) c _)).trans (Entails.of_eq (by
      show _ = slotPt (via 0 c) (via 0 (via 0 c)) (finAll m (via 0 c))
      rw [via_via]))
  · rw [dev1_eq c]
    isplitl []; · iapply (plan.all_elim (pay m) c 0); iexact HA
    isplitl []; · iapply (plan.all_elim (pay m) (via 0 c) 8); iexact HA
    isplitl [HT0]; · iexact HT0
    isplitl [HT8]; · iexact HT8
    isplitl [Ha0]; · iexact Ha0
    isplitl [Hd0]; · iapply (Entails.of_eq (slot_pt (via 0 c) c _).symm); iexact Hd0
    iexact HO
  iintro ⟨HD0, HO⟩
  iapply (plan.copy_to (pay m) 𝒱 c _ 9 1 [10, 11, 12, 13, 14, 15] (dev2_eq c) rfl rfl (fs := m ((c : Thread nD τ).loc main_arg1)) (fd := m (((⟨k0_dev2 c, k0_dev2_lt c⟩ : Dev nD) : Thread nD τ).loc main_v1_1)) (q := share 1)
    (src := smallM) (dst := slotM c) rfl rfl (BI.Entails.refl _) ?_ (by rw [dev2_eq c]; revert c; decide)) $$ [HT1 HT9 Ha1 Hd1 HO]
  · rw [dev2_eq c]
    exact (Entails.of_eq (lands m (via 1 c) c _)).trans (Entails.of_eq (by
      show _ = slotPt (via 1 c) (via 1 (via 1 c)) (finAll m (via 1 c))
      rw [via_via]))
  · rw [dev2_eq c]
    isplitl []; · iapply (plan.all_elim (pay m) c 1); iexact HA
    isplitl []; · iapply (plan.all_elim (pay m) (via 1 c) 9); iexact HA
    isplitl [HT1]; · iexact HT1
    isplitl [HT9]; · iexact HT9
    isplitl [Ha1]; · iexact Ha1
    isplitl [Hd1]; · iapply (Entails.of_eq (slot_pt (via 1 c) c _).symm); iexact Hd1
    iexact HO
  iintro ⟨HD1, HO⟩
  iapply (plan.copy_to (pay m) 𝒱 c _ 10 2 [11, 12, 13, 14, 15] (dev3_eq c) rfl rfl (fs := m ((c : Thread nD τ).loc main_arg1)) (fd := m (((⟨k0_dev3 c, k0_dev3_lt c⟩ : Dev nD) : Thread nD τ).loc main_v1_1)) (q := share 2)
    (src := smallM) (dst := slotM c) rfl rfl (BI.Entails.refl _) ?_ (by rw [dev3_eq c]; revert c; decide)) $$ [HT2 HT10 Ha2 Hd2 HO]
  · rw [dev3_eq c]
    exact (Entails.of_eq (lands m (via 2 c) c _)).trans (Entails.of_eq (by
      show _ = slotPt (via 2 c) (via 2 (via 2 c)) (finAll m (via 2 c))
      rw [via_via]))
  · rw [dev3_eq c]
    isplitl []; · iapply (plan.all_elim (pay m) c 2); iexact HA
    isplitl []; · iapply (plan.all_elim (pay m) (via 2 c) 10); iexact HA
    isplitl [HT2]; · iexact HT2
    isplitl [HT10]; · iexact HT10
    isplitl [Ha2]; · iexact Ha2
    isplitl [Hd2]; · iapply (Entails.of_eq (slot_pt (via 2 c) c _).symm); iexact Hd2
    iexact HO
  iintro ⟨HD2, HO⟩
  iapply (plan.copy_to (pay m) 𝒱 c _ 11 3 [12, 13, 14, 15] (dev4_eq c) rfl rfl (fs := m ((c : Thread nD τ).loc main_arg1)) (fd := m (((⟨k0_dev4 c, k0_dev4_lt c⟩ : Dev nD) : Thread nD τ).loc main_v1_1)) (q := share 3)
    (src := smallM) (dst := slotM c) rfl rfl (BI.Entails.refl _) ?_ (by rw [dev4_eq c]; revert c; decide)) $$ [HT3 HT11 Ha3 Hd3 HO]
  · rw [dev4_eq c]
    exact (Entails.of_eq (lands m (via 3 c) c _)).trans (Entails.of_eq (by
      show _ = slotPt (via 3 c) (via 3 (via 3 c)) (finAll m (via 3 c))
      rw [via_via]))
  · rw [dev4_eq c]
    isplitl []; · iapply (plan.all_elim (pay m) c 3); iexact HA
    isplitl []; · iapply (plan.all_elim (pay m) (via 3 c) 11); iexact HA
    isplitl [HT3]; · iexact HT3
    isplitl [HT11]; · iexact HT11
    isplitl [Ha3]; · iexact Ha3
    isplitl [Hd3]; · iapply (Entails.of_eq (slot_pt (via 3 c) c _).symm); iexact Hd3
    iexact HO
  iintro ⟨HD3, HO⟩
  iapply (plan.copy_to (pay m) 𝒱 c _ 12 4 [13, 14, 15] (dev5_eq c) rfl rfl (fs := m ((c : Thread nD τ).loc main_arg1)) (fd := m (((⟨k0_dev5 c, k0_dev5_lt c⟩ : Dev nD) : Thread nD τ).loc main_v1_1)) (q := share 4)
    (src := smallM) (dst := slotM c) rfl rfl (BI.Entails.refl _) ?_ (by rw [dev5_eq c]; revert c; decide)) $$ [HT4 HT12 Ha4 Hd4 HO]
  · rw [dev5_eq c]
    exact (Entails.of_eq (lands m (via 4 c) c _)).trans (Entails.of_eq (by
      show _ = slotPt (via 4 c) (via 4 (via 4 c)) (finAll m (via 4 c))
      rw [via_via]))
  · rw [dev5_eq c]
    isplitl []; · iapply (plan.all_elim (pay m) c 4); iexact HA
    isplitl []; · iapply (plan.all_elim (pay m) (via 4 c) 12); iexact HA
    isplitl [HT4]; · iexact HT4
    isplitl [HT12]; · iexact HT12
    isplitl [Ha4]; · iexact Ha4
    isplitl [Hd4]; · iapply (Entails.of_eq (slot_pt (via 4 c) c _).symm); iexact Hd4
    iexact HO
  iintro ⟨HD4, HO⟩
  iapply (plan.copy_to (pay m) 𝒱 c _ 13 5 [14, 15] (dev6_eq c) rfl rfl (fs := m ((c : Thread nD τ).loc main_arg1)) (fd := m (((⟨k0_dev6 c, k0_dev6_lt c⟩ : Dev nD) : Thread nD τ).loc main_v1_1)) (q := share 5)
    (src := smallM) (dst := slotM c) rfl rfl (BI.Entails.refl _) ?_ (by rw [dev6_eq c]; revert c; decide)) $$ [HT5 HT13 Ha5 Hd5 HO]
  · rw [dev6_eq c]
    exact (Entails.of_eq (lands m (via 5 c) c _)).trans (Entails.of_eq (by
      show _ = slotPt (via 5 c) (via 5 (via 5 c)) (finAll m (via 5 c))
      rw [via_via]))
  · rw [dev6_eq c]
    isplitl []; · iapply (plan.all_elim (pay m) c 5); iexact HA
    isplitl []; · iapply (plan.all_elim (pay m) (via 5 c) 13); iexact HA
    isplitl [HT5]; · iexact HT5
    isplitl [HT13]; · iexact HT13
    isplitl [Ha5]; · iexact Ha5
    isplitl [Hd5]; · iapply (Entails.of_eq (slot_pt (via 5 c) c _).symm); iexact Hd5
    iexact HO
  iintro ⟨HD5, HO⟩
  iapply (plan.copy_to (pay m) 𝒱 c _ 14 6 [15] (dev7_eq c) rfl rfl (fs := m ((c : Thread nD τ).loc main_arg1)) (fd := m (((⟨k0_dev7 c, k0_dev7_lt c⟩ : Dev nD) : Thread nD τ).loc main_v1_1)) (q := share 6)
    (src := smallM) (dst := slotM c) rfl rfl (BI.Entails.refl _) ?_ (by rw [dev7_eq c]; revert c; decide)) $$ [HT6 HT14 Ha6 Hd6 HO]
  · rw [dev7_eq c]
    exact (Entails.of_eq (lands m (via 6 c) c _)).trans (Entails.of_eq (by
      show _ = slotPt (via 6 c) (via 6 (via 6 c)) (finAll m (via 6 c))
      rw [via_via]))
  · rw [dev7_eq c]
    isplitl []; · iapply (plan.all_elim (pay m) c 6); iexact HA
    isplitl []; · iapply (plan.all_elim (pay m) (via 6 c) 14); iexact HA
    isplitl [HT6]; · iexact HT6
    isplitl [HT14]; · iexact HT14
    isplitl [Ha6]; · iexact Ha6
    isplitl [Hd6]; · iapply (Entails.of_eq (slot_pt (via 6 c) c _).symm); iexact Hd6
    iexact HO
  iintro ⟨HD6, HO⟩
  iapply (plan.copy_to (pay m) 𝒱 c _ 15 7 [] (dev8_eq c) rfl rfl (fs := m ((c : Thread nD τ).loc main_arg0)) (fd := m (((⟨k0_dev8 c, k0_dev8_lt c⟩ : Dev nD) : Thread nD τ).loc main_v1_0)) (q := fullShare)
    (src := halfM c) (dst := gotM) rfl rfl (Entails.of_eq (big_pt m c)) ?_ (by rw [dev8_eq c]; revert c; decide)) $$ [HT7 HT15 Hg Hgot HO]
  · rw [dev8_eq c]
    exact Entails.of_eq (lands_big m c _)
  · rw [dev8_eq c]
    isplitl []; · iapply (plan.all_elim (pay m) c 7); iexact HA
    isplitl []; · iapply (plan.all_elim (pay m) (via 0 c) 15); iexact HA
    isplitl [HT7]; · iexact HT7
    isplitl [HT15]; · iexact HT15
    isplitl [Hg]; · iapply (Entails.of_eq (big_pt m c).symm); iexact Hg
    isplitl [Hgot]; · iexact Hgot
    iexact HO
  iintro ⟨HD7, HO⟩
  -- the waits
  iapply (plan.collect (pay m) 𝒱 c 8 [] (fun _ h => absurd h List.not_mem_nil) (dst := slotM c) rfl rfl) $$ [HD8 HP8 HO]
  · isplitl []; · iapply (plan.all_elim (pay m) c 8); iexact HA
    isplitl [HD8]; · iexact HD8
    isplitl [HP8]; · iexact HP8
    isplitl []; · iexact HL
    iexact HO
  iintro ⟨HO, Hb8, HS8⟩
  iapply (plan.collect (pay m) 𝒱 c 9 [] (fun _ h => absurd h List.not_mem_nil) (dst := slotM c) rfl rfl) $$ [HD9 HP9 HO]
  · isplitl []; · iapply (plan.all_elim (pay m) c 9); iexact HA
    isplitl [HD9]; · iexact HD9
    isplitl [HP9]; · iexact HP9
    isplitl []; · iexact HL
    iexact HO
  iintro ⟨HO, Hb9, HS9⟩
  iapply (plan.collect (pay m) 𝒱 c 10 [] (fun _ h => absurd h List.not_mem_nil) (dst := slotM c) rfl rfl) $$ [HD10 HP10 HO]
  · isplitl []; · iapply (plan.all_elim (pay m) c 10); iexact HA
    isplitl [HD10]; · iexact HD10
    isplitl [HP10]; · iexact HP10
    isplitl []; · iexact HL
    iexact HO
  iintro ⟨HO, Hb10, HS10⟩
  iapply (plan.collect (pay m) 𝒱 c 11 [] (fun _ h => absurd h List.not_mem_nil) (dst := slotM c) rfl rfl) $$ [HD11 HP11 HO]
  · isplitl []; · iapply (plan.all_elim (pay m) c 11); iexact HA
    isplitl [HD11]; · iexact HD11
    isplitl [HP11]; · iexact HP11
    isplitl []; · iexact HL
    iexact HO
  iintro ⟨HO, Hb11, HS11⟩
  iapply (plan.collect (pay m) 𝒱 c 12 [] (fun _ h => absurd h List.not_mem_nil) (dst := slotM c) rfl rfl) $$ [HD12 HP12 HO]
  · isplitl []; · iapply (plan.all_elim (pay m) c 12); iexact HA
    isplitl [HD12]; · iexact HD12
    isplitl [HP12]; · iexact HP12
    isplitl []; · iexact HL
    iexact HO
  iintro ⟨HO, Hb12, HS12⟩
  iapply (plan.collect (pay m) 𝒱 c 13 [] (fun _ h => absurd h List.not_mem_nil) (dst := slotM c) rfl rfl) $$ [HD13 HP13 HO]
  · isplitl []; · iapply (plan.all_elim (pay m) c 13); iexact HA
    isplitl [HD13]; · iexact HD13
    isplitl [HP13]; · iexact HP13
    isplitl []; · iexact HL
    iexact HO
  iintro ⟨HO, Hb13, HS13⟩
  iapply (plan.collect (pay m) 𝒱 c 14 [] (fun _ h => absurd h List.not_mem_nil) (dst := slotM c) rfl rfl) $$ [HD14 HP14 HO]
  · isplitl []; · iapply (plan.all_elim (pay m) c 14); iexact HA
    isplitl [HD14]; · iexact HD14
    isplitl [HP14]; · iexact HP14
    isplitl []; · iexact HL
    iexact HO
  iintro ⟨HO, Hb14, HS14⟩
  iapply (plan.collect (pay m) 𝒱 c 15 [] (fun _ h => absurd h List.not_mem_nil) (dst := gotM) rfl rfl) $$ [HD15 HP15 HO]
  · isplitl []; · iapply (plan.all_elim (pay m) c 15); iexact HA
    isplitl [HD15]; · iexact HD15
    isplitl [HP15]; · iexact HP15
    isplitl []; · iexact HL
    iexact HO
  iintro ⟨HO, Hb15, HS15⟩
  iapply (plan.collect (pay m) 𝒱 c 0 [] (fun _ h => absurd h List.not_mem_nil) (dst := smallM) rfl rfl) $$ [HD0 HP0 HO]
  · isplitl []; · iapply (plan.all_elim (pay m) c 0); iexact HA
    isplitl [HD0]; · iexact HD0
    isplitl [HP0]; · iexact HP0
    isplitl []; · iexact HL
    iexact HO
  iintro ⟨HO, Hb0, HS0⟩
  iapply (plan.collect (pay m) 𝒱 c 1 [] (fun _ h => absurd h List.not_mem_nil) (dst := smallM) rfl rfl) $$ [HD1 HP1 HO]
  · isplitl []; · iapply (plan.all_elim (pay m) c 1); iexact HA
    isplitl [HD1]; · iexact HD1
    isplitl [HP1]; · iexact HP1
    isplitl []; · iexact HL
    iexact HO
  iintro ⟨HO, Hb1, HS1⟩
  iapply (plan.collect (pay m) 𝒱 c 2 [] (fun _ h => absurd h List.not_mem_nil) (dst := smallM) rfl rfl) $$ [HD2 HP2 HO]
  · isplitl []; · iapply (plan.all_elim (pay m) c 2); iexact HA
    isplitl [HD2]; · iexact HD2
    isplitl [HP2]; · iexact HP2
    isplitl []; · iexact HL
    iexact HO
  iintro ⟨HO, Hb2, HS2⟩
  iapply (plan.collect (pay m) 𝒱 c 3 [] (fun _ h => absurd h List.not_mem_nil) (dst := smallM) rfl rfl) $$ [HD3 HP3 HO]
  · isplitl []; · iapply (plan.all_elim (pay m) c 3); iexact HA
    isplitl [HD3]; · iexact HD3
    isplitl [HP3]; · iexact HP3
    isplitl []; · iexact HL
    iexact HO
  iintro ⟨HO, Hb3, HS3⟩
  iapply (plan.collect (pay m) 𝒱 c 4 [] (fun _ h => absurd h List.not_mem_nil) (dst := smallM) rfl rfl) $$ [HD4 HP4 HO]
  · isplitl []; · iapply (plan.all_elim (pay m) c 4); iexact HA
    isplitl [HD4]; · iexact HD4
    isplitl [HP4]; · iexact HP4
    isplitl []; · iexact HL
    iexact HO
  iintro ⟨HO, Hb4, HS4⟩
  iapply (plan.collect (pay m) 𝒱 c 5 [] (fun _ h => absurd h List.not_mem_nil) (dst := smallM) rfl rfl) $$ [HD5 HP5 HO]
  · isplitl []; · iapply (plan.all_elim (pay m) c 5); iexact HA
    isplitl [HD5]; · iexact HD5
    isplitl [HP5]; · iexact HP5
    isplitl []; · iexact HL
    iexact HO
  iintro ⟨HO, Hb5, HS5⟩
  iapply (plan.collect (pay m) 𝒱 c 6 [] (fun _ h => absurd h List.not_mem_nil) (dst := smallM) rfl rfl) $$ [HD6 HP6 HO]
  · isplitl []; · iapply (plan.all_elim (pay m) c 6); iexact HA
    isplitl [HD6]; · iexact HD6
    isplitl [HP6]; · iexact HP6
    isplitl []; · iexact HL
    iexact HO
  iintro ⟨HO, Hb6, HS6⟩
  iapply (plan.collect (pay m) 𝒱 c 7 [] (fun _ h => absurd h List.not_mem_nil) (dst := halfM c) rfl rfl) $$ [HD7 HP7 HO]
  · isplitl []; · iapply (plan.all_elim (pay m) c 7); iexact HA
    isplitl [HD7]; · iexact HD7
    isplitl [HP7]; · iexact HP7
    isplitl []; · iexact HL
    iexact HO
  iintro ⟨HO, Hb7, HS7⟩
  iapply (plan.collect (pay m) 𝒱 c 16 [] (fun _ h => absurd h List.not_mem_nil) (dst := slotM c) rfl rfl) $$ [HD16 HP16 HO]
  · isplitl []; · iapply (plan.all_elim (pay m) c 16); iexact HA
    isplitl [HD16]; · iexact HD16
    isplitl [HP16]; · iexact HP16
    isplitl []; · iexact HL
    iexact HO
  iintro ⟨HO, Hb16, HS16⟩
  rw [wp_ret]
  imodintro
  unfold pay
  icases Hb16 with ⟨Hown, Ha7⟩
  isplitr [HO]
  · isplitr [HS0 HS1 HS2 HS3 HS4 HS5 HS6 HS7 HS8 HS9 HS10 HS11 HS12 HS13 HS14 HS15 HS16]
    · unfold Y
      rw [big_whole, small_whole, got_whole, all_whole]
      isplitl [Hb7 Hg']
      · isplitl [Hb7]; · iexact Hb7
        iexact Hg'
      isplitl [Hb0 Hb1 Hb2 Hb3 Hb4 Hb5 Hb6 Ha7]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        isplitl [Hb6]; · iexact Hb6
        iexact Ha7
      isplitl [Hb15]; · iexact Hb15
      isplitl [Hown]; · iexact Hown
      isplitl [Hb8]; · iexact Hb8
      isplitl [Hb9]; · iexact Hb9
      isplitl [Hb10]; · iexact Hb10
      isplitl [Hb11]; · iexact Hb11
      isplitl [Hb12]; · iexact Hb12
      isplitl [Hb13]; · iexact Hb13
      iexact Hb14
    iapply (sems_close c)
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    iexact HS16
  iexists _; iexact HO

/-! ## The deal -/

/-- What each copy writes, at the device it writes it on. -/
def dest (c : Dev nD) : Fin 17 → sProp 𝕄
  | 0 => iprop(emp)
  | 1 => iprop(emp)
  | 2 => iprop(emp)
  | 3 => iprop(emp)
  | 4 => iprop(emp)
  | 5 => iprop(emp)
  | 6 => iprop(emp)
  | 7 => iprop(emp)
  | 8 => slotPt c (via 0 c) (m ((c : Thread nD τ).loc main_v1_1))
  | 9 => slotPt c (via 1 c) (m ((c : Thread nD τ).loc main_v1_1))
  | 10 => slotPt c (via 2 c) (m ((c : Thread nD τ).loc main_v1_1))
  | 11 => slotPt c (via 3 c) (m ((c : Thread nD τ).loc main_v1_1))
  | 12 => slotPt c (via 4 c) (m ((c : Thread nD τ).loc main_v1_1))
  | 13 => slotPt c (via 5 c) (m ((c : Thread nD τ).loc main_v1_1))
  | 14 => slotPt c (via 6 c) (m ((c : Thread nD τ).loc main_v1_1))
  | 15 => gotPt c (m ((c : Thread nD τ).loc main_v1_0))
  | 16 => iprop(emp)
  | ⟨n + 17, h⟩ => absurd h (by omega)

/-- What stays on the device. -/
def stay (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ slotPt c c (m ((c : Thread nD τ).loc main_v1_1)))

/-- The contents at launch. -/
abbrev Vin (c : Dev nD) : Valuation τ sig (Elt F) := fun b => m (c, b)

/-- The buffers of the exchange. -/
abbrev used : Finset (DevRef τ sig) := {Proc.devRef .tc main_arg0, Proc.devRef .tc main_arg1, Proc.devRef .tc main_v1_0, Proc.devRef .tc main_v1_1}

/-- The other buffers, as launched. -/
def aside (c : Dev nD) : sProp 𝕄 := StableHlo.held (c : Thread nD τ) (ucRefs τ sig \ used) (Vin m c)

/-- The contents after the exchange. -/
def W (c : Dev nD) : Valuation τ sig (Elt F) :=
  Function.update (Function.update (Vin m c) (Proc.devRef .tc main_v1_0) (finGot m c)) (Proc.devRef .tc main_v1_1) (finAll m c)

theorem W_of (c : Dev nD) (b : DevRef τ sig) (h : b ∉ ({Proc.devRef .tc main_v1_0, Proc.devRef .tc main_v1_1} : Finset (DevRef τ sig))) :
    W m c b = m (c, b) := by
  unfold W
  rw [Function.update_of_ne (fun e => h (by rw [e]; decide)), Function.update_of_ne (fun e => h (by rw [e]; decide))]

theorem W_got (c : Dev nD) : W m c (Proc.devRef .tc main_v1_0) = finGot m c :=
  (Function.update_of_ne (StableHlo.devRef_ne_of_ne (by decide)) _ _).trans (Function.update_self ..)

theorem W_all (c : Dev nD) : W m c (Proc.devRef .tc main_v1_1) = finAll m c := Function.update_self ..

theorem used_sub : used ⊆ ucRefs τ sig := by decide

theorem held_used (c : Dev nD) (V : Valuation τ sig (Elt F)) : (StableHlo.held (c : Thread nD τ) used V : sProp 𝕄)
    = iprop((((c : Thread nD τ).loc main_arg0) ↦{fullShare} V (Proc.devRef .tc main_arg0))
      ∗ (((c : Thread nD τ).loc main_arg1) ↦{fullShare} V (Proc.devRef .tc main_arg1))
      ∗ (((c : Thread nD τ).loc main_v1_0) ↦{fullShare} V (Proc.devRef .tc main_v1_0))
      ∗ (((c : Thread nD τ).loc main_v1_1) ↦{fullShare} V (Proc.devRef .tc main_v1_1))) := by
  unfold StableHlo.held
  exact bigSep_eq_bigSepL_of_eq [Proc.devRef .tc main_arg0, Proc.devRef .tc main_arg1, Proc.devRef .tc main_v1_0, Proc.devRef .tc main_v1_1]
    (by decide) (by decide) _

theorem bufs (c : Dev nD) : (unscopedBufs c (fun b => m ((c : Thread nD τ).loc b)) : sProp 𝕄)
    = iprop(((((c : Thread nD τ).loc main_arg0) ↦{fullShare} m ((c : Thread nD τ).loc main_arg0)) ∗ (((c : Thread nD τ).loc main_arg1) ↦{fullShare} m ((c : Thread nD τ).loc main_arg1))
      ∗ (((c : Thread nD τ).loc main_v1_0) ↦{fullShare} m ((c : Thread nD τ).loc main_v1_0)) ∗ (((c : Thread nD τ).loc main_v1_1) ↦{fullShare} m ((c : Thread nD τ).loc main_v1_1)))
      ∗ aside m c) := by
  rw [show (unscopedBufs c (fun b => m ((c : Thread nD τ).loc b)) : sProp 𝕄) = StableHlo.held (c : Thread nD τ) (ucRefs τ sig) (Vin m c)
    from unscopedBufs_held c (Vin m c), StableHlo.held_sub_split _ used_sub, held_used]
  rfl

/-- The exchange's end and the rest: every buffer, at the contents after the exchange. -/
theorem all_bufs (c : Dev nD) : iprop(Y m c ∗ aside m c) = (StableHlo.held (c : Thread nD τ) (ucRefs τ sig) (W m c) : sProp 𝕄) := by
  rw [StableHlo.held_sub_split _ used_sub, held_used, W_got, W_all, W_of m c (Proc.devRef .tc main_arg0) (by decide), W_of m c (Proc.devRef .tc main_arg1) (by decide)]
  unfold Y aside
  rw [StableHlo.held_congr (c : Thread nD τ) (S := ucRefs τ sig \ used) (V := Vin m c) (V' := W m c) fun b hb =>
    (W_of m c b fun h => (Finset.mem_sdiff.mp hb).2 (Finset.mem_of_subset (by decide) h)).symm]

theorem deal : (bigSep Finset.univ fun c : Dev nD => (unscopedBufs c (fun b => m ((c : Thread nD τ).loc b)) : sProp 𝕄)) ⊢ bigSep Finset.univ fun c => iprop(B m c ∗ aside m c) := by
  have h₁ : (bigSep Finset.univ fun c : Dev nD => (unscopedBufs c (fun b => m ((c : Thread nD τ).loc b)) : sProp 𝕄))
      ⊢ iprop((bigSep Finset.univ fun c : Dev nD => iprop(stay m c ∗ aside m c)) ∗ bigSep Finset.univ fun c => bigSep Finset.univ fun k => dest m c k) := by
    refine BI.Entails.trans (bigSep_mono fun c _ => ?_) (Entails.of_eq (bigSep_sep _ _ _))
    rw [bufs, seventeen, all_whole, got_whole]
    show (_ : sProp 𝕄) ⊢ iprop((stay m c ∗ aside m c) ∗ emp ∗ emp ∗ emp ∗ emp ∗ emp ∗ emp ∗ emp ∗ emp ∗ slotPt c (via 0 c) (m ((c : Thread nD τ).loc main_v1_1)) ∗ slotPt c (via 1 c) (m ((c : Thread nD τ).loc main_v1_1)) ∗ slotPt c (via 2 c) (m ((c : Thread nD τ).loc main_v1_1)) ∗ slotPt c (via 3 c) (m ((c : Thread nD τ).loc main_v1_1)) ∗ slotPt c (via 4 c) (m ((c : Thread nD τ).loc main_v1_1)) ∗ slotPt c (via 5 c) (m ((c : Thread nD τ).loc main_v1_1)) ∗ slotPt c (via 6 c) (m ((c : Thread nD τ).loc main_v1_1)) ∗ gotPt c (m ((c : Thread nD τ).loc main_v1_0)) ∗ emp)
    unfold stay
    iintro ⟨⟨Hg, Hs, Hgot, Hown, Hd0, Hd1, Hd2, Hd3, Hd4, Hd5, Hd6⟩, Hr⟩
    isplitl [Hg Hs Hown Hr]
    · isplitr [Hr]
      · isplitl [Hg]; · iexact Hg
        isplitl [Hs]; · iexact Hs
        iexact Hown
      iexact Hr
    isplitr; · iempintro
    isplitr; · iempintro
    isplitr; · iempintro
    isplitr; · iempintro
    isplitr; · iempintro
    isplitr; · iempintro
    isplitr; · iempintro
    isplitr; · iempintro
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hgot]; · iexact Hgot
    iempintro
  refine h₁.trans ((BI.sep_mono (BI.Entails.refl _) (plan.deal (dest m))).trans ?_)
  refine (Entails.of_eq (bigSep_sep _ _ _).symm).trans (bigSep_mono fun c _ => ?_)
  rw [seventeen]
  unfold B stay
  rw [big_whole, small_whole]
  show iprop(_ ∗ emp ∗ emp ∗ emp ∗ emp ∗ emp ∗ emp ∗ emp ∗ emp ∗ slotPt (via 0 c) (via 0 (via 0 c)) (m ((via 0 c : Thread nD τ).loc main_v1_1)) ∗ slotPt (via 1 c) (via 1 (via 1 c)) (m ((via 1 c : Thread nD τ).loc main_v1_1)) ∗ slotPt (via 2 c) (via 2 (via 2 c)) (m ((via 2 c : Thread nD τ).loc main_v1_1)) ∗ slotPt (via 3 c) (via 3 (via 3 c)) (m ((via 3 c : Thread nD τ).loc main_v1_1)) ∗ slotPt (via 4 c) (via 4 (via 4 c)) (m ((via 4 c : Thread nD τ).loc main_v1_1)) ∗ slotPt (via 5 c) (via 5 (via 5 c)) (m ((via 5 c : Thread nD τ).loc main_v1_1)) ∗ slotPt (via 6 c) (via 6 (via 6 c)) (m ((via 6 c : Thread nD τ).loc main_v1_1))
    ∗ gotPt (via 0 c) (m ((via 0 c : Thread nD τ).loc main_v1_0)) ∗ emp) ⊢ (_ : sProp 𝕄)
  simp only [via_via]
  iintro ⟨⟨⟨Hg, Hs, Hown⟩, Hr⟩, -, -, -, -, -, -, -, -, Hd0, Hd1, Hd2, Hd3, Hd4, Hd5, Hd6, Hgot, -⟩
  isplitr [Hr]
  · isplitl [Hg]; · iexact Hg
    isplitl [Hs]; · iexact Hs
    isplitl [Hown]; · iexact Hown
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    iexact Hgot
  iexact Hr

/-- The body, the buffers it does not touch kept aside. -/
theorem body_aside (𝒱 : Variants) (c : Dev nD) (W₀ : Waits sig Unit) :
    iprop((plan.ready (pay m) c ∗ (B m c ∗ aside m c)) ∗ owes (c : Thread nD τ) (plan.owed c plan.far) W₀)
      ⊢ wp frame (wpE (defs₀ (F := F)) 𝒱 (c : Thread nD τ) none) Set.univ
          (cc0_exchange_siblings (F := F) bigM (Memref.isWhole_whole _) smallM (Memref.isWhole_whole _) gotM (Memref.isWhole_whole _) allM (Memref.isWhole_whole _)
            cc0_scratch0 cc0_scratch1 cc0_scratch2)
          fun _ => iprop((StableHlo.held (c : Thread nD τ) (ucRefs τ sig) (W m c) ∗ ownSems0 plan.osem c) ∗ ∃ W, owes (c : Thread nD τ) (0 : CellTallies nD τ sig Unit) W) := by
  iintro ⟨⟨HR, HB, Hr⟩, HO⟩
  iapply (wp_wand frame (wpE (defs₀ (F := F)) 𝒱 (c : Thread nD τ) none) Set.univ) $$ [HR HB HO]
  · iapply (body m 𝒱 c W₀)
    isplitr [HO]
    · isplitl [HR] <;> iassumption
    iexact HO
  iintro %_ ⟨⟨HY, HS⟩, HO⟩
  isplitr [HO]
  · isplitr [HS]
    · iapply (Entails.of_eq (all_bufs m c))
      isplitl [HY] <;> iassumption
    iexact HS
  iexact HO

end Cert.SmallProof

end
-- ==== Proof.SmallSum.lean ====
/-
# The sum of the small arrays

After the exchange of ReduceSmall.lean each device sums the eight small arrays it holds (`sum_array`) and cuts the sum into the
loss and the gradients of the ten small weights. Here is that the whole program ends (`run_all`); SmallCut.lean reads its results.
-/
module

public import proofs.«01_k».proof.Proof.ReduceSmall
public import Idealize.ShloMosaic.Lib.Pipeline.RegionArraysS
public import Idealize.ShloMosaic.Lib.Pipeline.ValueKit.Geometry
public import Idealize.ShloMosaic.Lib.Tactic
public import Idealize.ShloMosaic.Lib.WordCmp

@[expose] public section

set_option maxRecDepth 16384

noncomputable section

namespace Cert.SmallProof

open Cert.ReduceSmallIdeal Cert.ReduceSmallIdeal.Gen
open Cert.OneShot Cert.Slots

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

variable {F : FTy → Type} [FloatOps F]

local notation "𝕄" => MT nD τ sig Unit (Elt F) ℕ (UU nD τ sig) ℕ

variable (m : (ℓ : Loc nD τ sig) → Buf (Elt F) ℓ) (ρ : Dev nD → PrngReg)

/-! ## The second kernel -/

/-- The rectangle of the whole sum. -/
abbrev sumR : Rect S224x128 := Rect.unit (s := S224x128) ![0, 0] S224x128.size inb_S224x128_S224x128_0_0

/-- What the second kernel stores, from the eight slots. -/
def total (x : Vec F S8x224x128 .f32) : Vec F S224x128 .f32 :=
  k1_pay1 (View.ld x (Rect.unit (s := S8x224x128) ![0, 0, 0] S1x224x128.size inb_S8x224x128_S1x224x128_0_0_0))
    (View.ld x (Rect.unit (s := S8x224x128) ![1, 0, 0] S1x224x128.size inb_S8x224x128_S1x224x128_1_0_0))
    (View.ld x (Rect.unit (s := S8x224x128) ![2, 0, 0] S1x224x128.size inb_S8x224x128_S1x224x128_2_0_0))
    (View.ld x (Rect.unit (s := S8x224x128) ![3, 0, 0] S1x224x128.size inb_S8x224x128_S1x224x128_3_0_0))
    (View.ld x (Rect.unit (s := S8x224x128) ![4, 0, 0] S1x224x128.size inb_S8x224x128_S1x224x128_4_0_0))
    (View.ld x (Rect.unit (s := S8x224x128) ![5, 0, 0] S1x224x128.size inb_S8x224x128_S1x224x128_5_0_0))
    (View.ld x (Rect.unit (s := S8x224x128) ![6, 0, 0] S1x224x128.size inb_S8x224x128_S1x224x128_6_0_0))
    (View.ld x (Rect.unit (s := S8x224x128) ![7, 0, 0] S1x224x128.size inb_S8x224x128_S1x224x128_7_0_0))

/-- The store covers the buffer. -/
theorem sum_cover (p : Vec F S224x128 .f32) (y : S224x128.Idx) : ∃ pc ∈ ([⟨sumR, p⟩] : List (View.Piece (Elt F) S224x128 .f32)), y ∈ pc.1.set :=
  View.cover_of_tiled [⟨sumR, p⟩] S224x128.size (by rfl) y

/-- The buffer after the store. -/
theorem sum_canon (p : Vec F S224x128 .f32) : View.canon ([⟨sumR, p⟩] : List (View.Piece (Elt F) S224x128 .f32)) = p :=
  View.canon_unit_zero (by decide) _ _

set_option maxHeartbeats 1000000 in
/-- The second kernel leaves the sum of the eight slots in its second buffer. -/
theorem sum_kernel (𝒱 : Variants) (c : Dev nD) (E : Set ℕ) (arg0 : Memref sig .tc .vmem S8x224x128 .f32) (h0 : arg0.IsWhole)
    (arg1 : Memref sig .tc .vmem S224x128 .f32) (h1 : arg1.IsWhole) (x : Vec F S8x224x128 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (total x)) -∗ K ⟨⟩))
      ⊢ wp frame (wpE (defs₀ (F := F)) 𝒱 (c : Thread nD τ) none) E (cc1_sum_devices (F := F) arg0 h0 arg1 h1) K := by
  rw [← sum_canon (total x)]
  simp only [cc1_sum_devices_eq_skeleton]; unfold cc1_sum_devices_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (sum_cover _)

/-! ## The proof data -/

/-- The block a window shows. -/
def blk (c : Dev nD) (w : Fin cfg1.W) (t : Fin cfg1.N) : ((cfg1.win w).xblock (cfg1.grid.coords t)).Idx → Elt F (cfg1.win w).elt :=
  ((cfg1.win w).blk t).view.read (Elt F) (W m c (Proc.devRef .tc (arrRef spec1 w)))

/-- The proof data of the sum: the arrays as the exchange leaves them, the sum in the second window's buffer. -/
def sumDat (c : Dev nD) : Dat τ (Elt F) Unit ℕ (UU nD τ sig) ℕ cfg1 c where
  A w := W m c (Proc.devRef .tc (arrRef spec1 w))
  after w t := match w with
    | ⟨0, _⟩ => blk m c 0 t
    | ⟨1, _⟩ => total (blk m c 0 t)
  Φ _ := scopedRest spec1 c
  q _ := fullShare
  owed _ := 0

/-- The proof data of the two regions. -/
def dats : (p : Fin 2) → (c : Dev nD) → Dat τ (Elt F) Unit ℕ (UU nD τ sig) ℕ (cfgs p) c
  | ⟨0, _⟩, c => talkDat cfg0 c iprop((plan.ready (pay m) c ∗ (B m c ∗ aside m c)) ∗ scopedRest cfg0.spec c)
      iprop((StableHlo.held (c : Thread nD τ) (ucRefs τ sig) (W m c) ∗ ownSems0 plan.osem c) ∗ scopedRest cfg0.spec c) (plan.owed c plan.far)
  | ⟨1, _⟩, c => sumDat m c
  | ⟨_ + 2, h⟩, _ => absurd h (by omega)

theorem after_0 (c : Dev nD) (t : Fin cfg1.N) : (sumDat m c).after 0 t = blk m c 0 t := by dsimp only [sumDat]
theorem after_1 (c : Dev nD) (t : Fin cfg1.N) : (sumDat m c).after 1 t = total (blk m c 0 t) := by dsimp only [sumDat]
theorem sum_A (c : Dev nD) (w : Fin cfg1.W) : (sumDat m c).A w = W m c (Proc.devRef .tc (arrRef spec1 w)) := by dsimp only [sumDat]

theorem before_0 (c : Dev nD) (t : Fin cfg1.N) (d) : (sumDat m c).before 0 t d = blk m c 0 t :=
  ((sumDat m c).before_in_eq_fetched 0 rfl (fun _ => rfl) (fun _ _ _ => rfl) (fun t => by rw [after_0]; unfold Dat.blockOf blk; rw [sum_A]) t d).trans
    (by unfold Dat.fetched Dat.blockOf blk; rw [sum_A]; rfl)

/-- The body of the sum, at its one point. -/
theorem sum_body (𝒱 : Variants) (c : Dev nD) (t : Fin cfg1.N) :
    iprop((sumDat m c).Φ t.castSucc ∗ (sumDat m c).owesAt () t.castSucc
      ∗ (∃ d, owns (c : Thread nD τ) (st1_0 t) fullShare ((sumDat m c).before 0 t d))
      ∗ (∃ d, owns (c : Thread nD τ) (st1_1 t) fullShare ((sumDat m c).before 1 t d)))
    ⊢ wp frame (wpE (defs₀ (F := F)) 𝒱 (c : Thread nD τ) none) Set.univ (bodyAt1 t) (fun _ => iprop((sumDat m c).Φ t.succ ∗ (sumDat m c).owesAt () t.succ
      ∗ owns (c : Thread nD τ) (st1_0 t) fullShare ((sumDat m c).after 0 t)
      ∗ owns (c : Thread nD τ) (st1_1 t) fullShare ((sumDat m c).after 1 t))) := by
  simp only [before_0]
  rw [show (sumDat m c).Φ t.succ = (sumDat m c).Φ t.castSucc from rfl,
    show (sumDat m c).owesAt () t.succ = (sumDat m c).owesAt () t.castSucc from rfl, after_0, after_1]
  iintro ⟨HΦ, Ho, ⟨%d0, H0⟩, ⟨%d1, H1⟩⟩
  iapply (sum_kernel 𝒱 c Set.univ _ _ _ _ (blk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem sum_row (t : Fin cfg1.N) : defs₀ (F := F) .tc cfg1.body (cfg1.bodyArgs t (cfg1.slots t)) = bodyAt1 t := by
  unfold defs₀; rw [Defs.onTc_tc]

theorem sum_obligation (𝒱 : Variants) (c : Dev nD) : BodyObligation (sumDat m c) (defs₀ (F := F)) 𝒱 () Set.univ := fun t => by
  rw [bigSep_W1, bigSep_W1, sum_row]
  exact triple_restated (sum_body m 𝒱 c t) rfl .rfl fun _ => .rfl

/-- The sum of the eight small arrays is what the second call's array holds at the end. -/
theorem sum_array (c : Dev nD) : (sumDat m c).arrAt 1 cfg1.N = total (finAll m c) := by
  refine (sumDat m c).arrAt_eq_of_after_last 1 t1_0 (by decide +kernel) _ fun j => ?_
  rw [after_1]
  have e : (blk m c 0 t1_0 : Vec F S8x224x128 .f32) = finAll m c := by
    refine Eq.trans ?_ (W_all m c)
    funext i
    refine congrArg (W m c (Proc.devRef .tc main_v1_1)) ?_
    funext a
    exact Fin.ext (win1_0.rect_emb_val_of_index_zero t1_0 a rfl i)
  rw [e]
  rfl

/-! ## The segments -/

/-- The region of the sum: entered with every unscoped buffer as the exchange leaves it, the generator register beside. -/
def sumSeg : RegionSeg (pcfgs (F := F)) adm (dats m) () defs₀ Variants.none plan.L plan.lv 1 :=
  RegionSeg.ofHeldIn (pcfgs (F := F)) adm (dats m) () defs₀ Variants.none plan.L plan.lv 1 (fun _ => 0) (ucRefs τ sig) (fun _ => iprop(emp)) (fun _ => iprop(emp))
    launch1.toP rfl (fun c => (sum_obligation m Variants.none c).loose) (fun _ _ => rfl) (fun _ => rfl) (fun c => (sumDat m c).share_full fun _ => rfl)
    (fun c => BI.sep_emp.1) (fun c => BI.sep_emp.2) (fun _ => 0)
    ⟨fun c w s => Finset.mem_singleton_self (), fun c w s => by show ite _ _ _ ≤ 0; split <;> exact le_rfl, fun c g i h => absurd h (lt_irrefl 0)⟩
    (fun c => prngReg c (ρ c)) (W m) fun c w => rfl

/-- The contents after the sum, and at the end. -/
abbrev V2 (c : Dev nD) : Valuation τ sig (Elt F) := afterRegion (sumDat m c) (W m c)
abbrev V3 (c : Dev nD) : Valuation τ sig (Elt F) := StableHlo.after (hostOps2 c) (V2 m c)

/-- The operations after the sum, as device `c` runs them. -/
def cutSeg (c : Dev nD) : HostSeg (Ix := Unit) (Name := ℕ) (U := UU nD τ sig) (Lvl := ℕ) (pcfgs (F := F)) defs₀ Variants.none plan.L plan.lv :=
  HostSeg.ofOps _ _ _ _ _ (ucRefs τ sig) (hostOps2 c)
    (fun op h => sub_ucRefs op ((List.forall_iff_forall_mem.mp (hostOps2_sub c)) op h))
    (fun op h => (List.forall_iff_forall_mem.mp (hostOps2_fresh c)) op h) (V2 m)
    (fun c => iprop((∃ W, owes (c : Thread nD τ) (0 : CellTallies nD τ sig Unit) W) ∗ prngReg c (ρ c)))

theorem ownSemFacts : OwnSemFacts cfg0.spec plan.osem := by decide

theorem arrs_sub : arrRefs (cfgs 1).spec ⊆ ucRefs τ sig := arrRefs_sub_ucRefs _ launch1.win.to₀.arr_unscoped

/-- The exchange's end is the sum's start. -/
theorem sum_pre (c : Dev nD) : iprop((StableHlo.held (c : Thread nD τ) (ucRefs τ sig) (W m c) ∗ prngReg c (ρ c))
      ∗ ∃ W, owes (c : Thread nD τ) (0 : CellTallies nD τ sig Unit) W) ⊢ ((sumSeg m ρ).pre c : sProp 𝕄) := by
  refine BI.Entails.trans ?_ (RegionSeg.ofHeldIn_pre arrs_sub c)
  show (_ : sProp 𝕄) ⊢ _
  iintro ⟨⟨HY, Hp⟩, HO⟩
  isplitl [HY]; · iexact HY
  isplitl [HO]; · iexact HO
  isplitr [Hp]
  · iempintro
  iexact Hp

/-- The sum's end is the operations' start. -/
theorem sum_post (c : Dev nD) : (sumSeg m ρ).post c ⊢ (iprop(StableHlo.held (c : Thread nD τ) (ucRefs τ sig) (V2 m c)
      ∗ ((∃ W, owes (c : Thread nD τ) (0 : CellTallies nD τ sig Unit) W) ∗ prngReg c (ρ c))) : sProp 𝕄) := by
  refine (RegionSeg.ofHeldIn_post arrs_sub c).trans ?_
  show (_ : sProp 𝕄) ⊢ _
  iintro ⟨HY, HO, -, Hp⟩
  isplitl [HY]; · iexact HY
  isplitl [HO]; · iexact HO
  iexact Hp

/-- Every execution ends, with every buffer at the contents the operations leave, and every semaphore at zero. -/
theorem run_all (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, ∀ b ∈ ucRefs τ sig, r.2.mem ((c : Thread nD τ).1, b) = V3 m c b) ∧ r.2.sem = fun _ => 0) := by
  haveI : IsEmpty (Fin (pin (fun p => (cfgs p).toPCfg (Val := Elt F)) (fun p => (cfgs p).toPCfg_adm) 0).W) := (inferInstance : IsEmpty (Fin 0))
  exact run_talk_beside (fun p => (cfgs p).toPCfg) (fun p => (cfgs p).toPCfg_adm) (dats m) cellOf_inj defs₀ Variants.none plan (pay m) m ρ (main (F := F))
    (0 : Fin 2) (fun c => [.region (sumSeg m ρ), .host (cutSeg m ρ c)]) (fun c => iprop(B m c ∗ aside m c)) (fun c => StableHlo.held (c : Thread nD τ) (ucRefs τ sig) (W m c))
    (fun c => StableHlo.held (c : Thread nD τ) (ucRefs τ sig) (V3 m c))
    (hd := fun _ => rfl) (hmain := fun c => (main_chain c).trans rfl) (hnd := fun _ => by
      simp only [Seg.pipes_host, Seg.pipes_region, Seg.pipes_nil]; decide)
    (hw := winFacts0.to₀) (ho := ownSemFacts) (hpre := (inferInstance : IsEmpty (Fin 0)))
    (hN := N_0)
    (hbody := fun c t W => body_aside m _ c W) (hB := deal m)
    (hch := fun c => by
      refine ⟨sum_pre m ρ c, sum_post m ρ c, ?_⟩
      show iprop(_ ∗ _) ⊢ (_ : sProp 𝕄)
      iintro ⟨HY, HO, -⟩
      isplitl [HY] <;> iassumption)
    (QY := fun c s => ∀ b ∈ ucRefs τ sig, s.mem ((c : Thread nD τ).1, b) = V3 m c b)
    (hfin := fun c s' => by
      unfold StableHlo.held
      iintro H
      imodintro
      iapply (pointsTo_read_all (ucRefs τ sig) (fun b => ((c : Thread nD τ).1, b)) (V3 m c) s')
      iexact H)
    (hQ := fun _ h hs => ⟨h, sem_eq_zero_of_scoped (by decide) hs⟩)

end Cert.SmallProof

end
-- ==== Proof.SmallCut.lean ====
/-
# The sum, cut

What the operations after the sum of SmallSum.lean leave in each result (`run_main`), and that each is the reference's, of three
of them the chip's columns (`piece_eq`, `loss_eq`, `cols_at`).
-/
module

public import proofs.«01_k».proof.Proof.SmallSum
public import proofs.«01_k».proof.Proof.SharePieces
public import Idealize.ShloMosaic.Lib.Pipeline.ValueKit.Tiles
public import Idealize.ShloMosaic.Lib.DynamicIndex
public import Idealize.ShloMosaic.Lib.StableHlo.RunClose
public import Idealize.ShloMosaic.Lib.Pointwise.Reduce

@[expose] public section

set_option maxRecDepth 1048

noncomputable section

namespace Cert.SmallProof

open Cert.ReduceSmallIdeal Cert.ReduceSmallIdeal.Gen

open Idealize.ShloMosaic
open Idealize.ShloMosaic.TcCoe
open Idealize.SL Idealize.SL.Sem
open Idealize.ShloMosaic.Pipeline
open Idealize.ShloMosaic.ValueIdx

variable {F : FTy → Type} [FloatOps F]

variable (m : (ℓ : Loc nD τ sig) → Buf (Elt F) ℓ) (ρ : Dev nD → PrngReg)

/-! ## The operations -/

/-- The part of a sum from position `o` on, at its own shape. -/
def piece {n : ℕ} {t : Shape} (x : S224x128.Idx → Elt F .f32) (o : ℕ) (h₁ : S28672.Slices ![o] ⟨1, ![n]⟩) (h₂ : (⟨1, ![n]⟩ : Shape).ShapeCasts t) :
    t.Idx → Elt F .f32 := shapeCast t (extractStridedSlice ⟨1, ![n]⟩ ![o] (shapeCast S28672 x shapeCasts_S224x128_S28672) h₁) h₂

/-- The chip of device `c`, as the operations compute it. -/
def chipW (c : Dev nD) : IVec S_ 32 :=
  addi (muli (constantI S_ 32 2#32) (Host.remui (Host.divui (constantI S_ 32 (Dev.word c)) (constantI S_ 32 4#32)) (constantI S_ 32 2#32)))
    (Host.remui (Host.divui (constantI S_ 32 (Dev.word c)) (constantI S_ 32 2#32)) (constantI S_ 32 2#32))

/-- The first of its `w` columns among `n`, as the operations compute it. -/
def startW (c : Dev nD) (w n : BitVec 32) : IVec S_ 32 :=
  select (cmpi .slt (muli (chipW c) (constantI S_ 32 w)) (constantI S_ 32 0#32)) (addi (muli (chipW c) (constantI S_ 32 w)) (constantI S_ 32 n))
    (muli (chipW c) (constantI S_ 32 w))

/-- The position a dynamic slice starts at. -/
def starts (c : Dev nD) (w n : BitVec 32) : Fin 2 → Int := fun k => ((![constantI S_ 32 0#32, startW c w n] : Fin 2 → IVec S_ 32) k (Shape.Idx.first h_S_)).toInt

section Ops

variable (c : Dev nD) (V : Valuation τ sig (Elt F))

theorem end_loss : StableHlo.after (hostOps2 (F := F) c) V (Proc.devRef .tc main_v18)
    = mulf (constant S_ .f32 0x3A000000#32) (piece (V (Proc.devRef .tc main_v2)) 4104 slices_S28672_S1_4104 shapeCasts_S1_S_) := by
  unfold piece; after_results <;> rfl

theorem end_mixPre : StableHlo.after (hostOps2 (F := F) c) V (Proc.devRef .tc main_v5)
    = piece (V (Proc.devRef .tc main_v2)) 0 slices_S28672_S1024_0 shapeCasts_S1024_S1x1024 := by
  unfold piece; after_results <;> rfl

theorem end_mixPost : StableHlo.after (hostOps2 (F := F) c) V (Proc.devRef .tc main_v7)
    = piece (V (Proc.devRef .tc main_v2)) 1024 slices_S28672_S1024_1024 shapeCasts_S1024_S1x1024 := by
  unfold piece; after_results <;> rfl

theorem end_mlpPre : StableHlo.after (hostOps2 (F := F) c) V (Proc.devRef .tc main_v9)
    = piece (V (Proc.devRef .tc main_v2)) 2048 slices_S28672_S1024_2048 shapeCasts_S1024_S1x1024 := by
  unfold piece; after_results <;> rfl

theorem end_mlpPost : StableHlo.after (hostOps2 (F := F) c) V (Proc.devRef .tc main_v11)
    = piece (V (Proc.devRef .tc main_v2)) 3072 slices_S28672_S1024_3072 shapeCasts_S1024_S1x1024 := by
  unfold piece; after_results <;> rfl

theorem end_aLog : StableHlo.after (hostOps2 (F := F) c) V (Proc.devRef .tc main_v13)
    = piece (V (Proc.devRef .tc main_v2)) 4096 slices_S28672_S4_4096 shapeCasts_S4_S1x4 := by
  unfold piece; after_results <;> rfl

theorem end_dtBias : StableHlo.after (hostOps2 (F := F) c) V (Proc.devRef .tc main_v15)
    = piece (V (Proc.devRef .tc main_v2)) 4100 slices_S28672_S4_4100 shapeCasts_S4_S1x4 := by
  unfold piece; after_results <;> rfl

theorem end_gdnNorm : StableHlo.after (hostOps2 (F := F) c) V (Proc.devRef .tc main_v20)
    = piece (V (Proc.devRef .tc main_v2)) 4224 slices_S28672_S128_4224 shapeCasts_S128_S1x128 := by
  unfold piece; after_results <;> rfl

set_option maxHeartbeats 4000000 in
theorem end_convQkv : StableHlo.after (hostOps2 (F := F) c) V (Proc.devRef .tc main_v37)
    = Host.dynamicSlice S4x384 (piece (V (Proc.devRef .tc main_v2)) 4352 slices_S28672_S6144_4352 shapeCasts_S6144_S4x1536) (starts c 384#32 1536#32) sliceFits_S4x1536_S4x384 := by
  unfold piece starts startW chipW
  after_results_simp_entrywise
  all_goals rfl

set_option maxHeartbeats 4000000 in
theorem end_convSc : StableHlo.after (hostOps2 (F := F) c) V (Proc.devRef .tc main_v44)
    = Host.dynamicSlice S3x128 (piece (V (Proc.devRef .tc main_v2)) 10496 slices_S28672_S1536_10496 shapeCasts_S1536_S3x512) (starts c 128#32 512#32) sliceFits_S3x512_S3x128 := by
  unfold piece starts startW chipW
  after_results_simp_entrywise
  all_goals rfl

set_option maxHeartbeats 4000000 in
theorem end_meta : StableHlo.after (hostOps2 (F := F) c) V (Proc.devRef .tc main_v51)
    = Host.dynamicSlice S16x256 (piece (V (Proc.devRef .tc main_v2)) 12032 slices_S28672_S16384_12032 shapeCasts_S16384_S16x1024) (starts c 256#32 1024#32) sliceFits_S16x1024_S16x256 := by
  unfold piece starts startW chipW
  after_results_simp_entrywise
  all_goals rfl

theorem end_arg0 : StableHlo.after (hostOps2 (F := F) c) V (Proc.devRef .tc main_arg0) = V (Proc.devRef .tc main_arg0) := by
  after_results_simp_entrywise

theorem end_arg1 : StableHlo.after (hostOps2 (F := F) c) V (Proc.devRef .tc main_arg1) = V (Proc.devRef .tc main_arg1) := by
  after_results_simp_entrywise

end Ops

/-! ## The results -/

theorem V2_sum (c : Dev nD) : V2 m c (Proc.devRef .tc main_v2) = total (finAll m c) :=
  (afterRegion_arr (sumDat m c) (W m c) launch1.win.arr_inj 1).trans (sum_array m c)

theorem V2_arg0 (c : Dev nD) : V2 m c (Proc.devRef .tc main_arg0) = m ((c : Thread nD τ).loc main_arg0) :=
  (afterRegion_of_not_arr (sumDat m c) (W m c) (by decide)).trans (W_of m c _ (by decide))

theorem V2_arg1 (c : Dev nD) : V2 m c (Proc.devRef .tc main_arg1) = m ((c : Thread nD τ).loc main_arg1) :=
  (afterRegion_of_not_arr (sumDat m c) (W m c) (by decide)).trans (W_of m c _ (by decide))

/-- Every execution ends, with the results cut out of the sum, the arguments as they were, and every semaphore at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c : Thread nD τ).loc main_v18) = mulf (constant S_ .f32 0x3A000000#32) (piece (total (finAll m c)) 4104 slices_S28672_S1_4104 shapeCasts_S1_S_)
        ∧ r.2.mem ((c : Thread nD τ).loc main_v5) = piece (total (finAll m c)) 0 slices_S28672_S1024_0 shapeCasts_S1024_S1x1024
        ∧ r.2.mem ((c : Thread nD τ).loc main_v7) = piece (total (finAll m c)) 1024 slices_S28672_S1024_1024 shapeCasts_S1024_S1x1024
        ∧ r.2.mem ((c : Thread nD τ).loc main_v9) = piece (total (finAll m c)) 2048 slices_S28672_S1024_2048 shapeCasts_S1024_S1x1024
        ∧ r.2.mem ((c : Thread nD τ).loc main_v11) = piece (total (finAll m c)) 3072 slices_S28672_S1024_3072 shapeCasts_S1024_S1x1024
        ∧ r.2.mem ((c : Thread nD τ).loc main_v13) = piece (total (finAll m c)) 4096 slices_S28672_S4_4096 shapeCasts_S4_S1x4
        ∧ r.2.mem ((c : Thread nD τ).loc main_v15) = piece (total (finAll m c)) 4100 slices_S28672_S4_4100 shapeCasts_S4_S1x4
        ∧ r.2.mem ((c : Thread nD τ).loc main_v20) = piece (total (finAll m c)) 4224 slices_S28672_S128_4224 shapeCasts_S128_S1x128
        ∧ r.2.mem ((c : Thread nD τ).loc main_v37) = Host.dynamicSlice S4x384 (piece (total (finAll m c)) 4352 slices_S28672_S6144_4352 shapeCasts_S6144_S4x1536) (starts c 384#32 1536#32) sliceFits_S4x1536_S4x384
        ∧ r.2.mem ((c : Thread nD τ).loc main_v44) = Host.dynamicSlice S3x128 (piece (total (finAll m c)) 10496 slices_S28672_S1536_10496 shapeCasts_S1536_S3x512) (starts c 128#32 512#32) sliceFits_S3x512_S3x128
        ∧ r.2.mem ((c : Thread nD τ).loc main_v51) = Host.dynamicSlice S16x256 (piece (total (finAll m c)) 12032 slices_S28672_S16384_12032 shapeCasts_S16384_S16x1024) (starts c 256#32 1024#32) sliceFits_S16x1024_S16x256
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  refine (θ_run defs _ _).mono (fun r h => ⟨fun c => ?_, h.2⟩) (run_all m ρ)
  have e : ∀ b : Ref sig .tc, b.isScoped = false → r.2.mem ((c : Thread nD τ).loc b) = V3 m c (Proc.devRef .tc b) := fun b hb =>
    h.1 c (Proc.devRef .tc b) (Finset.mem_filter.mpr ⟨StableHlo.devRef_mem_tcRefs _, fun h' => Bool.false_ne_true (hb.symm.trans h')⟩)
  rw [← V2_sum m c]
  exact ⟨(e main_v18 rfl).trans (end_loss c (V2 m c)),
    (e main_v5 rfl).trans (end_mixPre c (V2 m c)),
    (e main_v7 rfl).trans (end_mixPost c (V2 m c)),
    (e main_v9 rfl).trans (end_mlpPre c (V2 m c)),
    (e main_v11 rfl).trans (end_mlpPost c (V2 m c)),
    (e main_v13 rfl).trans (end_aLog c (V2 m c)),
    (e main_v15 rfl).trans (end_dtBias c (V2 m c)),
    (e main_v20 rfl).trans (end_gdnNorm c (V2 m c)),
    (e main_v37 rfl).trans (end_convQkv c (V2 m c)),
    (e main_v44 rfl).trans (end_convSc c (V2 m c)),
    (e main_v51 rfl).trans (end_meta c (V2 m c)),
    (e main_arg0 rfl).trans ((end_arg0 c (V2 m c)).trans (V2_arg0 m c)),
    (e main_arg1 rfl).trans ((end_arg1 c (V2 m c)).trans (V2_arg1 m c))⟩

/-! ## The value -/

section Value

open Cert.PiecesProof (reshaped chip chip_lin)

variable (m : (ℓ : Loc nD τ sig) → Buf (Elt Ideal) ℓ) (a : (⟨2, ![1792, 128]⟩ : Shape).Idx → Elt Ideal .f32)

/-- A slot of the collected rows, at an index. -/
theorem slot_apply (x : Vec Ideal S8x224x128 .f32) (k : Fin 8) (inb) (h : S1x224x128.ShapeCasts S224x128) (r : Fin 224) (l : Fin 128) :
    shapeCast S224x128 (View.ld x (Rect.unit (s := S8x224x128) ![k.val, 0, 0] S1x224x128.size inb)) h (ValueIdx.ix2 r l) = x (ValueIdx.ix3 k r l) := by
  refine (reshaped (s := ⟨3, ![1, 224, 128]⟩) _ h _ (ValueIdx.ix3 0 r l) ?_).trans (congrArg x (funext fun b => Fin.ext ((Rect.idx_unit_val _ _ _ _ b).trans ?_)))
  · rw [Shape.rowMajor_val_three, Shape.rowMajor_val_two]
    show (0 * 224 + r.val) * 128 + l.val = r.val * 128 + l.val
    omega
  · match b with
    | ⟨0, _⟩ => rfl
    | ⟨1, _⟩ => exact Nat.zero_add _
    | ⟨2, _⟩ => exact Nat.zero_add _

/-- The total at an index is the sum of the eight slots there. -/
theorem total_apply (x : Vec Ideal S8x224x128 .f32) (r : Fin 224) (l : Fin 128) : total x (ValueIdx.ix2 r l) = ∑ k : Fin 8, (x (ValueIdx.ix3 k r l) : EReal) := by
  rw [Fin.sum_univ_eight, ← slot_apply x 0 inb_S8x224x128_S1x224x128_0_0_0 shapeCasts_S1x224x128_S224x128,
    ← slot_apply x 1 inb_S8x224x128_S1x224x128_1_0_0 shapeCasts_S1x224x128_S224x128,
    ← slot_apply x 2 inb_S8x224x128_S1x224x128_2_0_0 shapeCasts_S1x224x128_S224x128,
    ← slot_apply x 3 inb_S8x224x128_S1x224x128_3_0_0 shapeCasts_S1x224x128_S224x128,
    ← slot_apply x 4 inb_S8x224x128_S1x224x128_4_0_0 shapeCasts_S1x224x128_S224x128,
    ← slot_apply x 5 inb_S8x224x128_S1x224x128_5_0_0 shapeCasts_S1x224x128_S224x128,
    ← slot_apply x 6 inb_S8x224x128_S1x224x128_6_0_0 shapeCasts_S1x224x128_S224x128,
    ← slot_apply x 7 inb_S8x224x128_S1x224x128_7_0_0 shapeCasts_S1x224x128_S224x128]
  rfl

/-- A device's row at a position is the device's row of the whole array there. -/
theorem row_flat
    (h : ∀ c : Dev nD, m ((c : Thread nD τ).loc main_arg1) = Layout.block ⟨2, ![224, 128]⟩ ⟨2, ![1792, 128]⟩ 0 8 c a)
    (ha : (⟨2, ![1792, 128]⟩ : Shape).ShapeCasts ⟨2, ![8, 28672]⟩) (c : Dev nD) (k : Fin 8) (r : Fin 224) (l : Fin 128) (n : Fin 28672)
    (hn : r.val * 128 + l.val = n.val) :
    finAll m c (ValueIdx.ix3 k r l) = shapeCast ⟨2, ![8, 28672]⟩ a ha (ValueIdx.ix2 k n) := by
  show m ((who k : Thread nD τ).loc main_arg1) (ValueIdx.ix2 r l) = _
  rw [h]
  refine (congrArg a (Shape.reshapeEquiv_eq_of_rowMajor _ ?_)).symm
  rw [Shape.rowMajor_val_two, Shape.rowMajor_val_two]
  show (k.val * 224 + r.val) * 128 + l.val = k.val * 28672 + n.val
  omega

/-- Read in one row, the total is the sum of the eight devices' rows. -/
theorem sum_flat
    (h : ∀ c : Dev nD, m ((c : Thread nD τ).loc main_arg1) = Layout.block ⟨2, ![224, 128]⟩ ⟨2, ![1792, 128]⟩ 0 8 c a)
    (ha : (⟨2, ![1792, 128]⟩ : Shape).ShapeCasts ⟨2, ![8, 28672]⟩) (hr : (⟨2, ![8, 28672]⟩ : Shape).ReducesTo [0] ⟨1, ![28672]⟩) (hu) (c : Dev nD) :
    shapeCast S28672 (total (finAll m c)) shapeCasts_S224x128_S28672
      = Host.reduceAdd (shapeCast ⟨2, ![8, 28672]⟩ a ha) (constant (F := Ideal) S_ .f32 0x00000000#32) hr hu := by
  funext i
  have hb := (i 0).isLt
  have hlt : (i 0).val < 28672 := hb
  refine (reshaped (s := ⟨2, ![224, 128]⟩) _ _ i (ValueIdx.ix2 ⟨(i 0).val / 128, by omega⟩ ⟨(i 0).val % 128, by omega⟩) ?_).trans ?_
  · rw [Shape.rowMajor_val_two, Shape.rowMajor_val_one]
    show (i 0).val / 128 * 128 + (i 0).val % 128 = (i 0).val
    omega
  rw [total_apply]
  simp only [Host.reduceAdd_apply, Ideal.hostReduceAdd_def, Ideal.hostReduceAdd_r2_a0]
  refine ((zero_add _).symm.trans (congrArg₂ (· + ·) ?_ (Finset.sum_congr rfl fun k _ => ?_)))
  · exact Ideal.ofBits_zero_f32.symm
  · exact row_flat m a h ha c k _ _ _ (by show (i 0).val / 128 * 128 + (i 0).val % 128 = (i 0).val; omega)

/-- A part of the total is that part of the sum of the rows. -/
theorem piece_eq {n : ℕ} {t : Shape} (o : ℕ) (h₁ : S28672.Slices ![o] ⟨1, ![n]⟩) (h₂ : (⟨1, ![n]⟩ : Shape).ShapeCasts t)
    (h : ∀ c : Dev nD, m ((c : Thread nD τ).loc main_arg1) = Layout.block ⟨2, ![224, 128]⟩ ⟨2, ![1792, 128]⟩ 0 8 c a)
    (ha : (⟨2, ![1792, 128]⟩ : Shape).ShapeCasts ⟨2, ![8, 28672]⟩) (hr : (⟨2, ![8, 28672]⟩ : Shape).ReducesTo [0] ⟨1, ![28672]⟩) (hu) (c : Dev nD) :
    piece (total (finAll m c)) o h₁ h₂ = shapeCast t (extractStridedSlice ⟨1, ![n]⟩ ![o]
      (Host.reduceAdd (shapeCast ⟨2, ![8, 28672]⟩ a ha) (constant (F := Ideal) S_ .f32 0x00000000#32) hr hu) h₁) h₂ := by
  unfold piece; rw [sum_flat m a h ha hr hu c]

/-- A dynamic slice that starts at the chip's columns is the chip's part. -/
theorem cols_at {k w n : ℕ} (x : (⟨2, ![k, n]⟩ : Shape).Idx → Elt Ideal .f32) (st : Fin 2 → Int) (c : Dev nD) (h₀ : st 0 = 0 ∧ st 1 = ((chip c).val * w : ℕ))
    (hn : n = 4 * w) (hf) (ht : Layout.TilesN ⟨2, ![k, w]⟩ ⟨2, ![k, n]⟩ fun b => Layout.cutSize [2, 2, 2] ((![[], [0, 1]] : Fin 2 → List ℕ) b)) :
    Host.dynamicSlice ⟨2, ![k, w]⟩ x st hf = Layout.blockN ⟨2, ![k, w]⟩ ⟨2, ![k, n]⟩ (Layout.meshBlock [2, 2, 2] ![[], [0, 1]] c) x ht := by
  have hc := (chip c).isLt
  have hs : (⟨2, ![k, n]⟩ : Shape).Slices ![0, (chip c).val * w] ⟨2, ![k, w]⟩ := ⟨rfl, fun b => by
    match b with
    | ⟨0, _⟩ => exact (Nat.zero_add k).le
    | ⟨1, _⟩ => show (chip c).val * w + w ≤ n; rw [hn]; nlinarith⟩
  rw [Host.dynamicSlice_eq_extractStridedSlice ⟨2, ![k, w]⟩ x st ![0, (chip c).val * w] hf hs fun b => by
    match b with
    | ⟨0, _⟩ => exact h₀.1
    | ⟨1, _⟩ => exact h₀.2]
  funext i
  obtain ⟨r, l, rfl⟩ : ∃ r l, i = ValueIdx.ix2 r l := ⟨i 0, i 1, ValueIdx.eq_ix2 i⟩
  refine extractStridedSlice_apply (s := ⟨2, ![k, n]⟩) ![0, (chip c).val * w] _ hs _ _ ?_
  intro b; match b with
  | ⟨0, _⟩ => show 0 * k + r.val = 0 + r.val; omega
  | ⟨1, _⟩ => show Layout.meshLin [2, 2, 2] c.val [0, 1] * w + l.val = (chip c).val * w + l.val; rw [chip_lin]

theorem start_convQkv (c : Dev nD) : starts c 384#32 1536#32 0 = 0 ∧ starts c 384#32 1536#32 1 = ((chip c).val * 384 : ℕ) := by revert c; decide
theorem start_convSc (c : Dev nD) : starts c 128#32 512#32 0 = 0 ∧ starts c 128#32 512#32 1 = ((chip c).val * 128 : ℕ) := by revert c; decide
theorem start_meta (c : Dev nD) : starts c 256#32 1024#32 0 = 0 ∧ starts c 256#32 1024#32 1 = ((chip c).val * 256 : ℕ) := by revert c; decide

/-- The mean of the loss: half, over the number of tokens. -/
theorem loss_eq (x : S_.Idx → Elt Ideal .f32) : mulf (F := Ideal) (constant S_ .f32 0x3A000000#32) x
    = Host.divf (mulf (constant S_ .f32 0x3F000000#32) x) (constant S_ .f32 0x44800000#32) := by
  funext i
  show (Ideal.ofBits .f32 0x3A000000#32 : EReal) * x i = Ideal.div (Ideal.ofBits .f32 0x3F000000#32 * x i) (Ideal.ofBits .f32 0x44800000#32)
  have e₁ : (Ideal.ofBits .f32 0x3A000000#32 : EReal) = ((1 / 2048 : ℝ) : EReal) := by simp [Ideal.ofBits, Ideal.ieee, -EReal.coe_mul]; norm_num
  have e₂ : (Ideal.ofBits .f32 0x3F000000#32 : EReal) = ((1 / 2 : ℝ) : EReal) := by simp [Ideal.ofBits, Ideal.ieee, -EReal.coe_mul]; norm_num
  have e₃ : (Ideal.ofBits .f32 0x44800000#32 : EReal) = ((1024 : ℝ) : EReal) := by simp [Ideal.ofBits, Ideal.ieee, -EReal.coe_mul]; norm_num
  have e₄ : ((1024 : ℝ) : EReal) ≠ 0 := by norm_num
  rw [e₁, e₂, e₃, Ideal.div, if_neg e₄, mul_right_comm, ← EReal.coe_inv, ← EReal.coe_mul]
  norm_num

end Value

end Cert.SmallProof

end
-- ==== Proof.SmallPlain.lean ====
/-
# The sum, at the program as printed

The program as printed and the one printed for exact values are the same text, so what SmallCut.lean shows of the second, at any
float values, holds of the first (`run_plain`).
-/
module

public import proofs.«01_k».proof.Proof.Gen.ReduceSmall
public import proofs.«01_k».proof.Proof.SmallCut

@[expose] public section

set_option maxRecDepth 4096

noncomputable section

namespace Cert.SmallProof

open Cert.ReduceSmallIdeal

open Idealize.ShloMosaic
open Idealize.ShloMosaic.TcCoe
open Idealize.SL Idealize.SL.Sem

variable {F : FTy → Type} [FloatOps F]

/-- The kernels of the two programs are the same. -/
theorem same_kernels : (Cert.ReduceSmall.defs₀ (F := F) : Defs nD τ sig (Elt F) Λ₀) = defs₀ := by
  refine congrArg Defs.onTc (funext fun l => funext fun a => ?_)
  match l, a with
  | ⟨0, _⟩, (t, s) => rfl
  | ⟨1, _⟩, (t, s) => rfl

theorem same_defs : (Cert.ReduceSmall.defs (F := F) : Defs nD τ sig (Elt F) (Pipeline.Sig Λ₀ (Fin 2) fun p => (pcfgs (F := F) p).Adm)) = defs :=
  congrArg (Pipeline.defs pcfgs) same_kernels

set_option maxHeartbeats 40000000 in
/-- So are the two host programs. -/
theorem same_main : (Cert.ReduceSmall.main (F := F) : Dev nD → Prog (TpuEff nD τ sig (Elt F) (Pipeline.Sig Λ₀ (Fin 2) fun p => (pcfgs (F := F) p).Adm) .tc) PUnit) = main := rfl

/-- Every execution of the program as printed ends, with the arguments as they were and every semaphore at zero. -/
theorem run_plain (m : (ℓ : Loc nD τ sig) → Buf (Elt F) ℓ) (ρ : Dev nD → PrngReg) :
    θ_run (Cert.ReduceSmall.defs (F := F) : Defs nD τ sig (Elt F) (Pipeline.Sig Λ₀ (Fin 2) fun p => (pcfgs (F := F) p).Adm))
      (onTc (τ := τ) (Cert.ReduceSmall.main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) := by
  rw [same_defs, same_main]
  exact (θ_run defs _ _).mono (fun _ h => ⟨fun c => (h.1 c).2.2.2.2.2.2.2.2.2.2.2, h.2⟩) (run_main m ρ)

end Cert.SmallProof

end
-- ==== Proof.ExchangeChips.lean ====
/-
# The exchange between the chips

Each device holds four blocks, one for each chip; it sends to each of the three other chips' devices of the same core
number the block for that chip. The run ends with slot `j` of the result of device `c` at the block for `c`'s chip of the
`j`-th other chip's device.
-/
module

public import proofs.«01_k».proof.Proof.Slots
public import proofs.«01_k».proof.Proof.Talk
public import proofs.«01_k».proof.Proof.Gen.ExchangeChipsIdeal.Skeleton
public import proofs.«01_k».proof.Proof.Gen.ExchangeChipsIdeal.Launch
public import Idealize.ShloMosaic.Lib.Quiescent
public import Idealize.ShloMosaic.Lib.ValueIdx
public import Idealize.ShloMosaic.Lib.Layout

@[expose] public section

noncomputable section

namespace Cert.ChipsProof

open Cert.ExchangeChipsIdeal Cert.ExchangeChipsIdeal.Gen
open Cert.OneShot Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

/-! ## The devices -/

/-- Which chip device `c` is on. -/
def chip (c : Dev nD) : Fin 4 := ⟨c.val / 2, by have := c.isLt; simp only [nD] at this; omega⟩

/-- The device of the same core number on the `j`-th other chip: the one across `x`, across `y`, across both. -/
def via (j : Fin 3) (c : Dev nD) : Dev nD := ⟨Nat.xor c.val (![4, 2, 6] j), by revert c j; decide⟩

theorem via_via (j : Fin 3) (c : Dev nD) : via j (via j c) = c := by revert j c; decide
theorem dev1_eq (c : Dev nD) : (⟨k0_dev1 c, k0_dev1_lt c⟩ : Dev nD) = via 0 c := by revert c; decide
theorem dev2_eq (c : Dev nD) : (⟨k0_dev2 c, k0_dev2_lt c⟩ : Dev nD) = via 1 c := by revert c; decide
theorem dev3_eq (c : Dev nD) : (⟨k0_dev3 c, k0_dev3_lt c⟩ : Dev nD) = via 2 c := by revert c; decide
theorem off1_eq (c : Dev nD) : k0_off1 c = ![(chip (via 0 c)).val, 0, 0] := by revert c; decide
theorem off2_eq (c : Dev nD) : k0_off2 c = ![(chip (via 1 c)).val, 0, 0] := by revert c; decide
theorem off3_eq (c : Dev nD) : k0_off3 c = ![(chip (via 2 c)).val, 0, 0] := by revert c; decide
theorem chips (c : Dev nD) : Finset.univ = [chip (via 0 c), chip (via 1 c), chip (via 2 c), chip c].toFinset
    ∧ [chip (via 0 c), chip (via 1 c), chip (via 2 c), chip c].Nodup := by revert c; decide

def viaEquiv (j : Fin 3) : Dev nD ≃ Dev nD := ⟨via j, via j, via_via j, via_via j⟩

/-! ## The plan -/

/-- The argument and the result, whole, and one slot of each. -/
abbrev argM : Memref sig .tc .hbm S4x13312x128 .bf16 := Memref.whole main_arg0
abbrev outM : Memref sig .tc .hbm S3x13312x128 .bf16 := Memref.whole main_v1
abbrev srcM (off : Fin 3 → ℕ) (h : ∀ a, off a + S1x13312x128.size a ≤ S4x13312x128.size a) : Memref sig .tc .hbm S13312x128 .bf16 :=
  (argM.slice (Rect.unit (s := S4x13312x128) off S1x13312x128.size h) (fun _ => rfl)).squeeze S13312x128 squeezes_S1x13312x128_S13312x128
abbrev dstM (off : Fin 3 → ℕ) (h : ∀ a, off a + S1x13312x128.size a ≤ S3x13312x128.size a) : Memref sig .tc .hbm S13312x128 .bf16 :=
  (outM.slice (Rect.unit (s := S3x13312x128) off S1x13312x128.size h) (fun _ => rfl)).squeeze S13312x128 squeezes_S1x13312x128_S13312x128

/-- Semaphore `j`: the block for the `j`-th other chip has left; `3 + j`: its block has landed. -/
def plan : Plan nD sig 6 where
  sem := fun k => k
  inj := fun _ _ h => h
  amt := fun _ => argM.view.dmaCredit / 4
  pos := fun _ => by decide
  peer := ![Equiv.refl _, Equiv.refl _, Equiv.refl _, viaEquiv 0, viaEquiv 1, viaEquiv 2]
  far := [3, 4, 5]
  nodup := by decide
  lev := fun _ => 0

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The result of device `c` at the end. -/
def fin (c : Dev nD) : Buf (Elt F) ((c : Thread nD τ).loc main_v1) :=
  fun i => m ((via (i 0) c : Thread nD τ).loc main_arg0) (ix3 (chip c) (i 1) (i 2))

/-- Block `o` of the argument of device `c`. -/
def argPt (c : Dev nD) (o : Fin 4) : sProp 𝕄 :=
  argM.view.loc (c : Thread nD τ) ↦[part argM.view key3 o]{fullShare} m ((c : Thread nD τ).loc main_arg0)

/-- Slot `j` of the result of device `c`, at contents `f`. -/
def slotPt (c : Dev nD) (j : Fin 3) (f : Buf (Elt F) ((c : Thread nD τ).loc main_v1)) : sProp 𝕄 :=
  outM.view.loc (c : Thread nD τ) ↦[part outM.view key3 j]{fullShare} f

/-- What each copy hands over. -/
def pay (c : Dev nD) : Fin 6 → sProp 𝕄
  | 0 => argPt m c (chip (via 0 c))
  | 1 => argPt m c (chip (via 1 c))
  | 2 => argPt m c (chip (via 2 c))
  | 3 => slotPt c 0 (fin m c)
  | 4 => slotPt c 1 (fin m c)
  | 5 => slotPt c 2 (fin m c)

instance pay_storable (c : Dev nD) (k : Fin 6) : BI.Storable (upEmb : UEmb _ 𝕄) (pay m c k) := by
  fin_cases k <;> first
    | (show BI.Storable upEmb (argPt m c _); unfold argPt; infer_instance)
    | (show BI.Storable upEmb (slotPt c _ (fin m c)); unfold slotPt; infer_instance)

/-- What device `c` starts with: its argument, and the slots it writes on the three other devices. -/
def B (c : Dev nD) : sProp 𝕄 :=
  iprop((argPt m c (chip (via 0 c)) ∗ argPt m c (chip (via 1 c)) ∗ argPt m c (chip (via 2 c)) ∗ argPt m c (chip c))
    ∗ slotPt (via 0 c) 0 (m ((via 0 c : Thread nD τ).loc main_v1)) ∗ slotPt (via 1 c) 1 (m ((via 1 c : Thread nD τ).loc main_v1))
    ∗ slotPt (via 2 c) 2 (m ((via 2 c : Thread nD τ).loc main_v1)))

/-- What it ends with: its argument, and its result at the final contents. -/
def Y (c : Dev nD) : sProp 𝕄 :=
  iprop((((c : Thread nD τ).loc main_arg0) ↦{fullShare} m ((c : Thread nD τ).loc main_arg0)) ∗ (((c : Thread nD τ).loc main_v1) ↦{fullShare} fin m c))

/-! ## The pieces -/

theorem arg_whole (c : Dev nD) : (((c : Thread nD τ).loc main_arg0) ↦{fullShare} m ((c : Thread nD τ).loc main_arg0) : sProp 𝕄)
    = iprop(argPt m c (chip (via 0 c)) ∗ argPt m c (chip (via 1 c)) ∗ argPt m c (chip (via 2 c)) ∗ argPt m c (chip c)) := by
  have e := pointsTo_parts (Ix := Unit) (Name := ℕ) (U := UU nD τ sig) (Lvl := ℕ) (c : Thread nD τ) argM.view key3 fullShare (m ((c : Thread nD τ).loc main_arg0))
  rw [View.set_whole] at e
  refine e.trans ((bigSep_univ_eq_bigSepL _ (chips c).1 (chips c).2 _).trans ?_)
  rfl

theorem out_whole (c : Dev nD) (f : Buf (Elt F) ((c : Thread nD τ).loc main_v1)) :
    (((c : Thread nD τ).loc main_v1) ↦{fullShare} f : sProp 𝕄) = iprop(slotPt c 0 f ∗ slotPt c 1 f ∗ slotPt c 2 f) := by
  have e := pointsTo_parts (Ix := Unit) (Name := ℕ) (U := UU nD τ sig) (Lvl := ℕ) (c : Thread nD τ) outM.view key3 fullShare f
  rw [View.set_whole] at e
  refine e.trans ((bigSep_univ_eq_bigSepL [0, 1, 2] (by decide) (by decide) _).trans ?_)
  rfl

theorem src_pt (c : Dev nD) (o : Fin 4) {off : Fin 3 → ℕ} (ho : off = ![o.val, 0, 0]) (h : ∀ a, off a + S1x13312x128.size a ≤ S4x13312x128.size a) :
    ((srcM off h).view.loc (c : Thread nD τ) ↦[(srcM off h).view.set]{fullShare} m ((c : Thread nD τ).loc main_arg0) : sProp 𝕄) = argPt m c o := by
  unfold argPt
  exact congrArg (fun I => (argM.view.loc (c : Thread nD τ) ↦[I]{fullShare} m ((c : Thread nD τ).loc main_arg0) : sProp 𝕄)) (slot3_set argM.view o ho h _)

theorem dst_pt (c : Dev nD) (j : Fin 3) {off : Fin 3 → ℕ} (ho : off = ![j.val, 0, 0]) (h : ∀ a, off a + S1x13312x128.size a ≤ S3x13312x128.size a)
    (f : Buf (Elt F) ((c : Thread nD τ).loc main_v1)) :
    ((dstM off h).view.loc (c : Thread nD τ) ↦[(dstM off h).view.set]{fullShare} f : sProp 𝕄) = slotPt c j f := by
  unfold slotPt
  exact congrArg (fun I => (outM.view.loc (c : Thread nD τ) ↦[I]{fullShare} f : sProp 𝕄)) (slot3_set outM.view j ho h _)

/-- The block of device `d` for the chip of device `via j d` lands in its slot `j`. -/
theorem lands (d : Dev nD) (j : Fin 3) {off off' : Fin 3 → ℕ} (ho : off = ![(chip (via j d)).val, 0, 0])
    (h : ∀ a, off a + S1x13312x128.size a ≤ S4x13312x128.size a) (ho' : off' = ![j.val, 0, 0])
    (h' : ∀ a, off' a + S1x13312x128.size a ≤ S3x13312x128.size a) (fd : Buf (Elt F) ((via j d : Thread nD τ).loc main_v1)) :
    ((dstM off' h').view.loc (via j d : Thread nD τ) ↦[(dstM off' h').view.set]{fullShare}
      (dstM off' h').view.write (Elt F) fd ((srcM off h).view.read (Elt F) (m ((d : Thread nD τ).loc main_arg0))) Finset.univ : sProp 𝕄)
    = slotPt (via j d) j (fin m (via j d)) := by
  refine (landed (via j d : Thread nD τ) (dstM off' h').view fullShare fd (fin m (via j d)) _ ?_).trans (dst_pt (via j d) j ho' h' _)
  refine (slot3_read outM.view j ho' h' _ (fin m (via j d))).trans ?_
  refine Eq.trans ?_ (slot3_read argM.view (chip (via j d)) ho h _ (m ((d : Thread nD τ).loc main_arg0))).symm
  funext x
  obtain ⟨p, q, rfl⟩ : ∃ p q, x = ix2 p q := ⟨x 0, x 1, eq_ix2 x⟩
  show m ((via j (via j d) : Thread nD τ).loc main_arg0) (ix3 (chip (via j d)) p q) = m ((d : Thread nD τ).loc main_arg0) (ix3 (chip (via j d)) p q)
  rw [via_via]

/-! ## The body -/

theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem ready_open (c : Dev nD) : (plan.ready (pay m) c : sProp 𝕄) ⊢ iprop(plan.all (pay m) ∗ levAts plan.L plan.lv
    ∗ ((plan.pos₀ c 0 ∗ plan.pos₀ c 1 ∗ plan.pos₀ c 2 ∗ plan.pos₀ c 3 ∗ plan.pos₀ c 4 ∗ plan.pos₀ c 5)
      ∗ (plan.tok c 0 ∗ plan.tok c 1 ∗ plan.tok c 2 ∗ plan.tok (via 0 c) 3 ∗ plan.tok (via 1 c) 4 ∗ plan.tok (via 2 c) 5))
    ∗ (plan.due c 3 ∗ plan.due c 4 ∗ plan.due c 5 ∗ emp)) := by
  unfold Plan.ready Plan.rights
  rw [six, six]
  exact BI.Entails.refl _

theorem sems_close (c : Dev nD) : iprop(semVal (plan.cell c 0) 0 ∗ semVal (plan.cell c 1) 0 ∗ semVal (plan.cell c 2) 0
    ∗ semVal (plan.cell c 3) 0 ∗ semVal (plan.cell c 4) 0 ∗ semVal (plan.cell c 5) 0) ⊢ (ownSems0 plan.osem c : sProp 𝕄) := by
  unfold ownSems0
  rw [six]

theorem body (𝒱 : Variants) (c : Dev nD) (W : Waits sig Unit) :
    iprop((plan.ready (pay m) c ∗ B m c) ∗ owes (c : Thread nD τ) (plan.owed c plan.far) W)
      ⊢ wp frame (wpE (defs₀ (F := F)) 𝒱 (c : Thread nD τ) none) Set.univ
          (cc0_exchange_chips (F := F) argM (Memref.isWhole_whole _) outM (Memref.isWhole_whole _) cc0_scratch0 cc0_scratch1)
          fun _ => iprop((Y m c ∗ ownSems0 plan.osem c) ∗ ∃ W, owes (c : Thread nD τ) (0 : CellTallies nD τ sig Unit) W) := by
  simp only [cc0_exchange_chips_eq_skeleton]; unfold cc0_exchange_chips_skel
  simp only [k0_part1_eq_skeleton, k0_part2_eq_skeleton, k0_part3_eq_skeleton]; unfold k0_part1_skel k0_part2_skel k0_part3_skel
  simp only [Prog.lift, Prog.bind_op, Prog.bind_ret, Prog.pure_eq_ret, wp_deviceId]
  iintro ⟨⟨HR, HB⟩, HO⟩
  ihave HR := (ready_open m c) $$ HR
  icases HR with ⟨#HA, #HL, ⟨⟨HP0, HP1, HP2, HP3, HP4, HP5⟩, ⟨HT0, HT1, HT2, HT3, HT4, HT5⟩⟩, ⟨HD3, HD4, HD5, -⟩⟩
  unfold B
  icases HB with ⟨⟨Ha0, Ha1, Ha2, Ha3⟩, Hd0, Hd1, Hd2⟩
  -- the three copies, then the waits
  iapply (plan.copy_to (pay m) 𝒱 c _ 3 0 [4, 5] (dev1_eq c) rfl rfl (fs := m ((c : Thread nD τ).loc main_arg0)) (fd := m (((⟨k0_dev1 c, k0_dev1_lt c⟩ : Dev nD) : Thread nD τ).loc main_v1)) (q := fullShare)
    (src := srcM (k0_off1 c) (k0_off1_inb c)) (dst := dstM ![0, 0, 0] inb_S3x13312x128_S1x13312x128_0_0_0) rfl rfl (Entails.of_eq (src_pt m c (chip (via 0 c)) (off1_eq c) _)) ?_ (by rw [dev1_eq c]; revert c; decide)) $$ [HT0 HT3 Ha0 Hd0 HO]
  · rw [dev1_eq c]
    exact Entails.of_eq (lands m c 0 (off1_eq c) _ rfl _ _)
  · rw [dev1_eq c]
    isplitl []; · iapply (plan.all_elim (pay m) c 0); iexact HA
    isplitl []; · iapply (plan.all_elim (pay m) (via 0 c) 3); iexact HA
    isplitl [HT0]; · iexact HT0
    isplitl [HT3]; · iexact HT3
    isplitl [Ha0]; · iapply (Entails.of_eq (src_pt m c (chip (via 0 c)) (off1_eq c) _).symm); iexact Ha0
    isplitl [Hd0]; · iapply (Entails.of_eq (dst_pt (via 0 c) 0 rfl _ _).symm); iexact Hd0
    iexact HO
  iintro ⟨HD0, HO⟩
  iapply (plan.copy_to (pay m) 𝒱 c _ 4 1 [5] (dev2_eq c) rfl rfl (fs := m ((c : Thread nD τ).loc main_arg0)) (fd := m (((⟨k0_dev2 c, k0_dev2_lt c⟩ : Dev nD) : Thread nD τ).loc main_v1)) (q := fullShare)
    (src := srcM (k0_off2 c) (k0_off2_inb c)) (dst := dstM ![1, 0, 0] inb_S3x13312x128_S1x13312x128_1_0_0) rfl rfl (Entails.of_eq (src_pt m c (chip (via 1 c)) (off2_eq c) _)) ?_ (by rw [dev2_eq c]; revert c; decide)) $$ [HT1 HT4 Ha1 Hd1 HO]
  · rw [dev2_eq c]
    exact Entails.of_eq (lands m c 1 (off2_eq c) _ rfl _ _)
  · rw [dev2_eq c]
    isplitl []; · iapply (plan.all_elim (pay m) c 1); iexact HA
    isplitl []; · iapply (plan.all_elim (pay m) (via 1 c) 4); iexact HA
    isplitl [HT1]; · iexact HT1
    isplitl [HT4]; · iexact HT4
    isplitl [Ha1]; · iapply (Entails.of_eq (src_pt m c (chip (via 1 c)) (off2_eq c) _).symm); iexact Ha1
    isplitl [Hd1]; · iapply (Entails.of_eq (dst_pt (via 1 c) 1 rfl _ _).symm); iexact Hd1
    iexact HO
  iintro ⟨HD1, HO⟩
  iapply (plan.copy_to (pay m) 𝒱 c _ 5 2 [] (dev3_eq c) rfl rfl (fs := m ((c : Thread nD τ).loc main_arg0)) (fd := m (((⟨k0_dev3 c, k0_dev3_lt c⟩ : Dev nD) : Thread nD τ).loc main_v1)) (q := fullShare)
    (src := srcM (k0_off3 c) (k0_off3_inb c)) (dst := dstM ![2, 0, 0] inb_S3x13312x128_S1x13312x128_2_0_0) rfl rfl (Entails.of_eq (src_pt m c (chip (via 2 c)) (off3_eq c) _)) ?_ (by rw [dev3_eq c]; revert c; decide)) $$ [HT2 HT5 Ha2 Hd2 HO]
  · rw [dev3_eq c]
    exact Entails.of_eq (lands m c 2 (off3_eq c) _ rfl _ _)
  · rw [dev3_eq c]
    isplitl []; · iapply (plan.all_elim (pay m) c 2); iexact HA
    isplitl []; · iapply (plan.all_elim (pay m) (via 2 c) 5); iexact HA
    isplitl [HT2]; · iexact HT2
    isplitl [HT5]; · iexact HT5
    isplitl [Ha2]; · iapply (Entails.of_eq (src_pt m c (chip (via 2 c)) (off3_eq c) _).symm); iexact Ha2
    isplitl [Hd2]; · iapply (Entails.of_eq (dst_pt (via 2 c) 2 rfl _ _).symm); iexact Hd2
    iexact HO
  iintro ⟨HD2, HO⟩
  iapply (plan.collect (pay m) 𝒱 c 3 [] (fun _ h => absurd h List.not_mem_nil) (dst := dstM ![0, 0, 0] inb_S3x13312x128_S1x13312x128_0_0_0) rfl rfl) $$ [HD3 HP3 HO]
  · isplitl []; · iapply (plan.all_elim (pay m) c 3); iexact HA
    isplitl [HD3]; · iexact HD3
    isplitl [HP3]; · iexact HP3
    isplitl []; · iexact HL
    iexact HO
  iintro ⟨HO, Hb3, HS3⟩
  iapply (plan.collect (pay m) 𝒱 c 4 [] (fun _ h => absurd h List.not_mem_nil) (dst := dstM ![1, 0, 0] inb_S3x13312x128_S1x13312x128_1_0_0) rfl rfl) $$ [HD4 HP4 HO]
  · isplitl []; · iapply (plan.all_elim (pay m) c 4); iexact HA
    isplitl [HD4]; · iexact HD4
    isplitl [HP4]; · iexact HP4
    isplitl []; · iexact HL
    iexact HO
  iintro ⟨HO, Hb4, HS4⟩
  iapply (plan.collect (pay m) 𝒱 c 5 [] (fun _ h => absurd h List.not_mem_nil) (dst := dstM ![2, 0, 0] inb_S3x13312x128_S1x13312x128_2_0_0) rfl rfl) $$ [HD5 HP5 HO]
  · isplitl []; · iapply (plan.all_elim (pay m) c 5); iexact HA
    isplitl [HD5]; · iexact HD5
    isplitl [HP5]; · iexact HP5
    isplitl []; · iexact HL
    iexact HO
  iintro ⟨HO, Hb5, HS5⟩
  iapply (plan.collect (pay m) 𝒱 c 0 [] (fun _ h => absurd h List.not_mem_nil) (dst := srcM (k0_off1 c) (k0_off1_inb c)) rfl rfl) $$ [HD0 HP0 HO]
  · isplitl []; · iapply (plan.all_elim (pay m) c 0); iexact HA
    isplitl [HD0]; · iexact HD0
    isplitl [HP0]; · iexact HP0
    isplitl []; · iexact HL
    iexact HO
  iintro ⟨HO, Hb0, HS0⟩
  iapply (plan.collect (pay m) 𝒱 c 1 [] (fun _ h => absurd h List.not_mem_nil) (dst := srcM (k0_off2 c) (k0_off2_inb c)) rfl rfl) $$ [HD1 HP1 HO]
  · isplitl []; · iapply (plan.all_elim (pay m) c 1); iexact HA
    isplitl [HD1]; · iexact HD1
    isplitl [HP1]; · iexact HP1
    isplitl []; · iexact HL
    iexact HO
  iintro ⟨HO, Hb1, HS1⟩
  iapply (plan.collect (pay m) 𝒱 c 2 [] (fun _ h => absurd h List.not_mem_nil) (dst := srcM (k0_off3 c) (k0_off3_inb c)) rfl rfl) $$ [HD2 HP2 HO]
  · isplitl []; · iapply (plan.all_elim (pay m) c 2); iexact HA
    isplitl [HD2]; · iexact HD2
    isplitl [HP2]; · iexact HP2
    isplitl []; · iexact HL
    iexact HO
  iintro ⟨HO, Hb2, HS2⟩
  rw [wp_ret]
  imodintro
  unfold pay
  isplitr [HO]
  · isplitr [HS0 HS1 HS2 HS3 HS4 HS5]
    · unfold Y
      rw [arg_whole, out_whole]
      isplitl [Hb0 Hb1 Hb2 Ha3]
      · isplitl [Hb0]; · iexact Hb0
        isplitl [Hb1]; · iexact Hb1
        isplitl [Hb2]; · iexact Hb2
        iexact Ha3
      isplitl [Hb3]; · iexact Hb3
      isplitl [Hb4]; · iexact Hb4
      iexact Hb5
    iapply (sems_close c)
    isplitl [HS0]; · iexact HS0
    isplitl [HS1]; · iexact HS1
    isplitl [HS2]; · iexact HS2
    isplitl [HS3]; · iexact HS3
    isplitl [HS4]; · iexact HS4
    iexact HS5
  iexists _; iexact HO

/-! ## The deal -/

/-- The slot each copy writes, at the device it writes it on. -/
def dest (c : Dev nD) : Fin 6 → sProp 𝕄
  | 0 => iprop(emp)
  | 1 => iprop(emp)
  | 2 => iprop(emp)
  | 3 => slotPt c 0 (m ((c : Thread nD τ).loc main_v1))
  | 4 => slotPt c 1 (m ((c : Thread nD τ).loc main_v1))
  | 5 => slotPt c 2 (m ((c : Thread nD τ).loc main_v1))

theorem bufs (c : Dev nD) : (unscopedBufs c (fun b => m ((c : Thread nD τ).loc b)) : sProp 𝕄)
    = iprop((((c : Thread nD τ).loc main_arg0) ↦{fullShare} m ((c : Thread nD τ).loc main_arg0))
      ∗ (((c : Thread nD τ).loc main_v1) ↦{fullShare} m ((c : Thread nD τ).loc main_v1))) := by
  unfold unscopedBufs
  exact bigSep_eq_bigSepL_of_eq [main_arg0, main_v1] (by decide) (by decide) _

theorem deal : (bigSep Finset.univ fun c : Dev nD => (unscopedBufs c (fun b => m ((c : Thread nD τ).loc b)) : sProp 𝕄)) ⊢ bigSep Finset.univ (B m) := by
  have h₁ : (bigSep Finset.univ fun c : Dev nD => (unscopedBufs c (fun b => m ((c : Thread nD τ).loc b)) : sProp 𝕄))
      ⊢ iprop((bigSep Finset.univ fun c : Dev nD => ((c : Thread nD τ).loc main_arg0) ↦{fullShare} m ((c : Thread nD τ).loc main_arg0))
        ∗ bigSep Finset.univ fun c => bigSep Finset.univ fun k => dest m c k) := by
    refine BI.Entails.trans (bigSep_mono fun c _ => ?_) (Entails.of_eq (bigSep_sep _ _ _))
    rw [bufs, six, out_whole]
    show (_ : sProp 𝕄) ⊢ iprop(_ ∗ emp ∗ emp ∗ emp ∗ slotPt c 0 (m ((c : Thread nD τ).loc main_v1)) ∗ slotPt c 1 (m ((c : Thread nD τ).loc main_v1))
      ∗ slotPt c 2 (m ((c : Thread nD τ).loc main_v1)))
    iintro ⟨Ha, Hs⟩
    isplitl [Ha]; · iexact Ha
    isplitr; · iempintro
    isplitr; · iempintro
    isplitr; · iempintro
    iexact Hs
  refine h₁.trans ((BI.sep_mono (BI.Entails.refl _) (plan.deal (dest m))).trans ?_)
  refine (Entails.of_eq (bigSep_sep _ _ _).symm).trans (bigSep_mono fun c _ => ?_)
  rw [six, arg_whole]
  unfold B
  show iprop(_ ∗ emp ∗ emp ∗ emp ∗ slotPt (via 0 c) 0 (m ((via 0 c : Thread nD τ).loc main_v1)) ∗ slotPt (via 1 c) 1 (m ((via 1 c : Thread nD τ).loc main_v1))
    ∗ slotPt (via 2 c) 2 (m ((via 2 c : Thread nD τ).loc main_v1))) ⊢ (_ : sProp 𝕄)
  iintro ⟨Ha, -, -, -, Hs⟩
  isplitl [Ha]; · iexact Ha
  iexact Hs

/-! ## The run -/

/-- The proof data of the region: one body, before which the plan is ready. -/
def dats (_ : Fin 1) (c : Dev nD) : Dat τ (Elt F) Unit ℕ (UU nD τ sig) ℕ cfg0 c :=
  talkDat cfg0 c iprop(plan.ready (pay m) c ∗ B m c) iprop(Y m c ∗ ownSems0 plan.osem c) (plan.owed c plan.far)

theorem ownSemFacts : OwnSemFacts cfg0.spec plan.osem := by decide

/-- Every execution ends, with the blocks for each device's chip in its result, the arguments as they were, and every
    semaphore at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c : Thread nD τ).loc main_v1) = fin m c
        ∧ r.2.mem ((c : Thread nD τ).loc main_arg0) = m ((c : Thread nD τ).loc main_arg0)) ∧ r.2.sem = fun _ => 0) :=
  run_talk (fun p => (cfgs p).toPCfg) (fun p => (cfgs p).toPCfg_adm) (dats m) cellOf_inj defs₀ Variants.none plan (pay m) m ρ (main (F := F))
    (0 : Fin 1) (fun _ => []) (B m) (Y m) (Y m)
    (hd := fun _ => rfl) (hmain := fun _ => rfl) (hnd := fun _ => List.nodup_singleton _) (hw := winFacts0.to₀) (ho := ownSemFacts) (hpre := inferInstance)
    (hN := N_0) (hrest := scopedRest0_eq)
    (hbody := fun c t W => body m _ c W) (hB := deal m)
    (hch := fun c => by
      show _ ⊢ (_ : sProp 𝕄)
      iintro ⟨⟨HY, -⟩, HO⟩
      isplitl [HY] <;> iassumption)
    (QY := fun c s => s.mem ((c : Thread nD τ).loc main_v1) = fin m c
        ∧ s.mem ((c : Thread nD τ).loc main_arg0) = m ((c : Thread nD τ).loc main_arg0))
    (hfin := fun c s' => by
      unfold Y
      iintro ⟨⟨Ha, Hv⟩, HSI⟩
      icombine HSI Ha gives %ha
      icombine HSI Hv gives %hv
      imodintro
      isplitr; · ipureintro; exact ⟨Buf.eq_of_forall_mem_univ hv, Buf.eq_of_forall_mem_univ ha⟩
      iexact HSI)
    (hQ := fun _ h hs => ⟨h, sem_eq_zero_of_scoped (by decide) hs⟩)

end Cert.ChipsProof

end
-- ==== Proof.ChipsValue.lean ====
/-
# The exchange between the chips, read off its reference

The reference takes the blocks one after the other: row `3 * c + j` of it is block `chip c` of the device `via j c`
(`stack_apply`). Cut over the devices, it is what the exchange leaves (`fin_eq`).
-/
module

public import proofs.«01_k».proof.Proof.ExchangeChips
public import proofs.«01_k».proof.Proof.Gen.ExchangeChipsRefIdeal.Run
public import Idealize.ShloMosaic.Lib.Pipeline.ValueKit.Tiles

@[expose] public section

noncomputable section

namespace Cert.ChipsProof

open Idealize.ShloMosaic
open Idealize.ShloMosaic.TcCoe
open Idealize.ShloMosaic.Pipeline
open Idealize.ShloMosaic.ValueIdx

/-- Which row of the whole array the reference takes as its `r`-th. -/
def row (r : Fin 24) : Fin 32 := ![16, 8, 24, 20, 12, 28, 25, 1, 17, 29, 5, 21, 2, 26, 10, 6, 30, 14, 11, 19, 3, 15, 23, 7] r

theorem row_val (r : Fin 24) (k n : ℕ) (hk : k < 24) (h : r.val = k) (hn : (row ⟨k, hk⟩).val = n) : (row r).val = n := by
  subst h; exact hn

theorem slice_apply {α : Type} (a : (⟨3, ![32, 13312, 128]⟩ : Shape).Idx → α) (k : ℕ)
    (h : (⟨3, ![32, 13312, 128]⟩ : Shape).Slices (![k, 0, 0] : Fin 3 → ℕ) ⟨3, ![1, 13312, 128]⟩)
    (r : Fin 32) (p : Fin 13312) (q : Fin 128) (i : (⟨3, ![1, 13312, 128]⟩ : Shape).Idx) (hr : r.val = k)
    (h0 : (i 0).val = 0) (h1 : (i 1).val = p.val) (h2 : (i 2).val = q.val) :
    extractStridedSlice (s := ⟨3, ![32, 13312, 128]⟩) ⟨3, ![1, 13312, 128]⟩ (![k, 0, 0] : Fin 3 → ℕ) a h i = a (ix3 r p q) := by
  refine congrArg a (funext fun b => Fin.ext ?_)
  match b with
  | ⟨0, _⟩ => show k + (i 0).val = r.val; omega
  | ⟨1, _⟩ => show 0 + (i 1).val = p.val; omega
  | ⟨2, _⟩ => show 0 + (i 2).val = q.val; omega

theorem stack_apply {F : FTy → Type} [FloatOps F] (m : (ℓ : Loc Cert.ExchangeChipsRefIdeal.nD Cert.ExchangeChipsRefIdeal.τ Cert.ExchangeChipsRefIdeal.sig) → Buf (Elt F) ℓ)
    (d : Dev Cert.ExchangeChipsRefIdeal.nD) (r : Fin 24) (p : Fin 13312) (q : Fin 128) :
    Cert.ExchangeChipsRefIdeal.Value.res_out0 m d (ix3 r p q)
      = m ((d.tc : Thread Cert.ExchangeChipsRefIdeal.nD Cert.ExchangeChipsRefIdeal.τ).loc Cert.ExchangeChipsRefIdeal.main_arg0) (ix3 (row r) p q) := by
  unfold Cert.ExchangeChipsRefIdeal.Value.res_out0
  delta Cert.ExchangeChipsRefIdeal.Value.res_main_v26
  by_cases hr : r.val < 16
  · refine (concatenate_pair_apply_left (t := ⟨3, ![24, 13312, 128]⟩) (s₁ := ⟨3, ![16, 13312, 128]⟩) (s₂ := ⟨3, ![8, 13312, 128]⟩) 0 _ _ _ (ix3 r p q) rfl (ix3 ⟨r.val, hr⟩ p q) ?_).trans ?_
    · intro b; match b with
      | ⟨0, _⟩ => rfl
      | ⟨1, _⟩ => rfl
      | ⟨2, _⟩ => rfl
    refine concatenate_unit_eq (t := ⟨3, ![16, 13312, 128]⟩) 0 _ _ (ix3 ⟨r.val, hr⟩ p q) _ rfl ?_
    repeat' refine concatAt_cons _ _ _ _ ?_ ?_
    all_goals first | exact concatAt_nil _ _ _ _ | skip
    all_goals
      intro hk _ i h0 hb
      refine slice_apply _ _ _ _ p q i ?_ h0 (hb 1 (by decide)) (hb 2 (by decide))
      exact row_val r _ _ (by decide) hk rfl
  · have hlt := r.isLt
    refine (concatenate_pair_apply_right (t := ⟨3, ![24, 13312, 128]⟩) (s₁ := ⟨3, ![16, 13312, 128]⟩) (s₂ := ⟨3, ![8, 13312, 128]⟩) 0 _ _ _ (ix3 r p q) rfl rfl (ix3 ⟨r.val - 16, by omega⟩ p q) ?_ ?_).trans ?_
    · intro b hb; match b, hb with
      | ⟨0, _⟩, hb => exact absurd rfl hb
      | ⟨1, _⟩, _ => rfl
      | ⟨2, _⟩, _ => rfl
    · show r.val - 16 + 16 = r.val; omega
    refine concatenate_unit_eq (t := ⟨3, ![8, 13312, 128]⟩) 0 _ _ (ix3 ⟨r.val - 16, by omega⟩ p q) _ rfl ?_
    repeat' refine concatAt_cons _ _ _ _ ?_ ?_
    all_goals first | exact concatAt_nil _ _ _ _ | skip
    all_goals
      intro hk _ i h0 hb
      refine slice_apply _ _ _ _ p q i ?_ h0 (hb 1 (by decide)) (hb 2 (by decide))
      exact row_val r _ _ (by decide) (Nat.eq_add_of_sub_eq (Nat.le_of_not_lt hr) hk) rfl

theorem row_eq (c : Fin 8) (j : Fin 3) : (row ⟨3 * c.val + j.val, by omega⟩).val = 4 * (via j c).val + (chip c).val := by
  revert c j; decide

/-- From arguments that are the parts of a whole array, the results are the parts of the reference of it. -/
theorem fin_eq {F : FTy → Type} [FloatOps F] (m : (ℓ : Loc Cert.ExchangeChipsIdeal.nD Cert.ExchangeChipsIdeal.τ Cert.ExchangeChipsIdeal.sig) → Buf (Elt F) ℓ)
    (a : (⟨3, ![32, 13312, 128]⟩ : Shape).Idx → Elt F .bf16) (w : (⟨3, ![24, 13312, 128]⟩ : Shape).Idx → Elt F .bf16)
    (hw : ∀ r p q, w (ix3 r p q) = a (ix3 (row r) p q))
    (h : ∀ c : Dev Cert.ExchangeChipsIdeal.nD, m ((c.tc : Thread Cert.ExchangeChipsIdeal.nD Cert.ExchangeChipsIdeal.τ).loc Cert.ExchangeChipsIdeal.main_arg0)
      = Layout.block ⟨3, ![4, 13312, 128]⟩ ⟨3, ![32, 13312, 128]⟩ 0 8 c a) (c : Dev Cert.ExchangeChipsIdeal.nD) :
    fin m c = Layout.block ⟨3, ![3, 13312, 128]⟩ ⟨3, ![24, 13312, 128]⟩ 0 8 c w := by
  funext i
  obtain ⟨j, p, q, rfl⟩ : ∃ j p q, i = ix3 j p q := ⟨i 0, i 1, i 2, eq_ix3 i⟩
  have e := row_eq c j
  show m ((via j c : Thread Cert.ExchangeChipsIdeal.nD Cert.ExchangeChipsIdeal.τ).loc Cert.ExchangeChipsIdeal.main_arg0) (ix3 (chip c) p q) = _
  rw [h (via j c)]
  refine Eq.trans ?_ ((hw ⟨3 * c.val + j.val, by have := c.isLt; have := j.isLt; simp only [Cert.ExchangeChipsIdeal.nD] at *; omega⟩ p q).symm.trans ?_)
  · refine congrArg a (funext fun b => Fin.ext ?_)
    match b with
    | ⟨0, _⟩ => show (via j c).val * 4 + (chip c).val = (row _).val; rw [e]; ring
    | ⟨1, _⟩ => rfl
    | ⟨2, _⟩ => rfl
  · refine congrArg w (funext fun b => Fin.ext ?_)
    match b with
    | ⟨0, _⟩ => show 3 * c.val + j.val = c.val * 3 + j.val; ring
    | ⟨1, _⟩ => rfl
    | ⟨2, _⟩ => rfl

end Cert.ChipsProof

end
-- ==== Proof.SiblingsValue.lean ====
/-
# The exchange between the siblings, read off its reference

The reference takes the halves of the whole array one after the other: the `r`-th it takes is the half for device `r` on
its sibling (`stack_apply`), and sees the whole of the small arrays as eight slots. Cut over the devices, that is what
the exchange leaves (`got_eq`, `all_eq`).
-/
module

public import proofs.«01_k».proof.Proof.ExchangeSiblings
public import proofs.«01_k».proof.Proof.Gen.ExchangeSiblingsRefIdeal.Run
public import Idealize.ShloMosaic.Lib.Pipeline.ValueKit.Tiles

@[expose] public section

noncomputable section

namespace Cert.SiblingsProof

open Idealize.ShloMosaic
open Idealize.ShloMosaic.TcCoe
open Idealize.ShloMosaic.Pipeline
open Idealize.ShloMosaic.ValueIdx

/-- Which half of the whole array the reference takes as its `r`-th. -/
def row (r : Fin 8) : Fin 16 := ![2, 1, 6, 5, 10, 9, 14, 13] r

theorem row_val (r : Fin 8) (k n : ℕ) (hk : k < 8) (h : r.val = k) (hn : (row ⟨k, hk⟩).val = n) : (row r).val = n := by
  subst h; exact hn

theorem slice_apply {α : Type} (a : (⟨4, ![16, 4, 13312, 128]⟩ : Shape).Idx → α) (k : ℕ)
    (h : (⟨4, ![16, 4, 13312, 128]⟩ : Shape).Slices (![k, 0, 0, 0] : Fin 4 → ℕ) ⟨4, ![1, 4, 13312, 128]⟩)
    (r : Fin 16) (o : Fin 4) (p : Fin 13312) (q : Fin 128) (i : (⟨4, ![1, 4, 13312, 128]⟩ : Shape).Idx) (hr : r.val = k)
    (h0 : (i 0).val = 0) (h1 : (i 1).val = o.val) (h2 : (i 2).val = p.val) (h3 : (i 3).val = q.val) :
    extractStridedSlice (s := ⟨4, ![16, 4, 13312, 128]⟩) ⟨4, ![1, 4, 13312, 128]⟩ (![k, 0, 0, 0] : Fin 4 → ℕ) a h i = a (ix4 r o p q) := by
  refine congrArg a (funext fun b => Fin.ext ?_)
  match b with
  | ⟨0, _⟩ => show k + (i 0).val = r.val; omega
  | ⟨1, _⟩ => show 0 + (i 1).val = o.val; omega
  | ⟨2, _⟩ => show 0 + (i 2).val = p.val; omega
  | ⟨3, _⟩ => show 0 + (i 3).val = q.val; omega

section

open Cert.ExchangeSiblingsRefIdeal Cert.ExchangeSiblingsRefIdeal.Gen Cert.ExchangeSiblingsRefIdeal.Facts

theorem stack_apply {α : Type} (a : S16x4x13312x128.Idx → α) (r : Fin 8) (o : Fin 4) (p : Fin 13312) (q : Fin 128) :
    concatenate S8x4x13312x128 0 [⟨S1x4x13312x128, extractStridedSlice S1x4x13312x128 ![2, 0, 0, 0] a slices_S16x4x13312x128_S1x4x13312x128_2_0_0_0⟩, ⟨S1x4x13312x128, extractStridedSlice S1x4x13312x128 ![1, 0, 0, 0] a slices_S16x4x13312x128_S1x4x13312x128_1_0_0_0⟩, ⟨S1x4x13312x128, extractStridedSlice S1x4x13312x128 ![6, 0, 0, 0] a slices_S16x4x13312x128_S1x4x13312x128_6_0_0_0⟩, ⟨S1x4x13312x128, extractStridedSlice S1x4x13312x128 ![5, 0, 0, 0] a slices_S16x4x13312x128_S1x4x13312x128_5_0_0_0⟩, ⟨S1x4x13312x128, extractStridedSlice S1x4x13312x128 ![10, 0, 0, 0] a slices_S16x4x13312x128_S1x4x13312x128_10_0_0_0⟩, ⟨S1x4x13312x128, extractStridedSlice S1x4x13312x128 ![9, 0, 0, 0] a slices_S16x4x13312x128_S1x4x13312x128_9_0_0_0⟩, ⟨S1x4x13312x128, extractStridedSlice S1x4x13312x128 ![14, 0, 0, 0] a slices_S16x4x13312x128_S1x4x13312x128_14_0_0_0⟩, ⟨S1x4x13312x128, extractStridedSlice S1x4x13312x128 ![13, 0, 0, 0] a slices_S16x4x13312x128_S1x4x13312x128_13_0_0_0⟩] concatenates_S1x4x13312x128_S1x4x13312x128_S1x4x13312x128_S1x4x13312x128_S1x4x13312x128_S1x4x13312x128_S1x4x13312x128_S1x4x13312x128_S8x4x13312x128_d0
      (ix4 r o p q) = a (ix4 (row r) o p q) := by
  refine concatenate_unit_eq (t := ⟨4, ![8, 4, 13312, 128]⟩) 0 _ _ (ix4 r o p q) _ rfl ?_
  repeat' refine concatAt_cons _ _ _ _ ?_ ?_
  all_goals first | exact concatAt_nil _ _ _ _ | skip
  all_goals
    intro hk _ i h0 hb
    refine slice_apply _ _ _ _ o p q i ?_ h0 (hb 1 (by decide)) (hb 2 (by decide)) (hb 3 (by decide))
    exact row_val r _ _ (by decide) hk rfl

end

theorem row_eq (c : Fin 8) : (row c).val = 2 * (via 0 c).val + (low c).val := by revert c; decide

open Cert.ExchangeSiblingsIdeal in
/-- From arguments that are the parts of a whole array, the first results are the parts of the reference of it. -/
theorem got_eq {F : FTy → Type} [FloatOps F] (m : (ℓ : Loc nD τ sig) → Buf (Elt F) ℓ)
    (a : (⟨4, ![16, 4, 13312, 128]⟩ : Shape).Idx → Elt F .f32) (w : (⟨4, ![8, 4, 13312, 128]⟩ : Shape).Idx → Elt F .f32)
    (hs : (⟨4, ![8, 4, 13312, 128]⟩ : Shape).ShapeCasts ⟨3, ![32, 13312, 128]⟩)
    (hw : ∀ r o p q, w (ix4 r o p q) = a (ix4 (row r) o p q))
    (h : ∀ c : Dev nD, m ((c.tc : Thread nD τ).loc main_arg0) = Layout.block ⟨4, ![2, 4, 13312, 128]⟩ ⟨4, ![16, 4, 13312, 128]⟩ 0 8 c a) (c : Dev nD) :
    finGot m c = Layout.block ⟨3, ![4, 13312, 128]⟩ ⟨3, ![32, 13312, 128]⟩ 0 8 c (shapeCast ⟨3, ![32, 13312, 128]⟩ w hs) := by
  funext i
  obtain ⟨o, p, q, rfl⟩ : ∃ o p q, i = ix3 o p q := ⟨i 0, i 1, i 2, eq_ix3 i⟩
  have e := row_eq c
  show m ((via 0 c : Thread nD τ).loc main_arg0) (ix4 (low c) o p q) = _
  rw [h (via 0 c)]
  have e' : shapeCast ⟨3, ![32, 13312, 128]⟩ w hs (ix3 ⟨4 * c.val + o.val, by have := c.isLt; have := o.isLt; simp only [nD] at *; omega⟩ p q) = w (ix4 (c : Fin 8) o p q) := by
    refine congrArg w (Shape.reshapeEquiv_eq_of_rowMajor _ ?_)
    rw [Shape.rowMajor_val_four, Shape.rowMajor_val_three]
    show ((c.val * 4 + o.val) * 13312 + p.val) * 128 + q.val = ((4 * c.val + o.val) * 13312 + p.val) * 128 + q.val
    ring
  refine Eq.trans ?_ ((hw c o p q).symm.trans (e'.symm.trans ?_))
  · refine congrArg a (funext fun b => Fin.ext ?_)
    match b with
    | ⟨0, _⟩ => show (via 0 c).val * 2 + (low c).val = (row _).val; rw [e]; ring
    | ⟨1, _⟩ => rfl
    | ⟨2, _⟩ => rfl
    | ⟨3, _⟩ => rfl
  · refine congrArg (shapeCast ⟨3, ![32, 13312, 128]⟩ w hs) (funext fun b => Fin.ext ?_)
    match b with
    | ⟨0, _⟩ => show 4 * c.val + o.val = c.val * 4 + o.val; ring
    | ⟨1, _⟩ => rfl
    | ⟨2, _⟩ => rfl

open Cert.ExchangeSiblingsIdeal in
/-- The second result of every device is the whole of the small arrays, as eight slots. -/
theorem all_eq {F : FTy → Type} [FloatOps F] (m : (ℓ : Loc nD τ sig) → Buf (Elt F) ℓ)
    (a : (⟨2, ![1792, 128]⟩ : Shape).Idx → Elt F .f32) (hs : (⟨2, ![1792, 128]⟩ : Shape).ShapeCasts ⟨3, ![8, 224, 128]⟩)
    (h : ∀ c : Dev nD, m ((c.tc : Thread nD τ).loc main_arg1) = Layout.block ⟨2, ![224, 128]⟩ ⟨2, ![1792, 128]⟩ 0 8 c a) (c : Dev nD) :
    finAll m c = shapeCast ⟨3, ![8, 224, 128]⟩ a hs := by
  funext i
  obtain ⟨d, p, q, rfl⟩ : ∃ d p q, i = ix3 d p q := ⟨i 0, i 1, i 2, eq_ix3 i⟩
  show m ((who d : Thread nD τ).loc main_arg1) (ix2 p q) = _
  rw [h (who d)]
  refine congrArg a (Shape.reshapeEquiv_eq_of_rowMajor _ ?_).symm
  rw [Shape.rowMajor_val_two, Shape.rowMajor_val_three]
  show (d.val * 224 + p.val) * 128 + q.val = (d.val * 224 + p.val) * 128 + q.val
  rfl

end Cert.SiblingsProof

end
-- ==== Proof.GatherWeights.lean ====
/-
# The gathering of the weights

Each chip has a part of the weights, in two halves, and a small array; both its cores hold a copy of both. A core sends
its half (the first core the first, the second the second) and the small array to the core like it on the three other
chips, and passes every half that comes in on to its sibling, the other core of the chip. The run ends with the four
parts of the weights in the first result of every device, and the four small arrays in the second.
-/
module

public import proofs.«01_k».proof.Proof.Slots
public import proofs.«01_k».proof.Proof.Talk
public import proofs.«01_k».proof.Proof.Gen.GatherWeightsIdeal.Skeleton
public import proofs.«01_k».proof.Proof.Gen.GatherWeightsIdeal.Launch
public import Idealize.ShloMosaic.Lib.Quiescent
public import Idealize.ShloMosaic.Lib.ValueIdx
public import Idealize.ShloMosaic.Lib.Layout

@[expose] public section

noncomputable section

namespace Cert.WeightsProof

open Cert.GatherWeightsIdeal Cert.GatherWeightsIdeal.Gen
open Cert.OneShot Cert.Slots

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.ValueIdx

/-! ## The devices -/

/-- The chip of device `c`, and which core of it `c` is. -/
def chip (c : Dev nD) : Fin 4 := ⟨c.val / 2, by revert c; decide⟩
def core (c : Dev nD) : Fin 2 := ⟨c.val % 2, Nat.mod_lt _ (by decide)⟩

/-- The device of a chip and a core. -/
def at2 (d : Fin 4) (h : Fin 2) : Dev nD := ⟨2 * d.val + h.val, by revert d h; decide⟩

/-- The same core of the `j`-th other chip, and the other core of the same chip. -/
def hop (j : Fin 3) (c : Dev nD) : Dev nD := ⟨Nat.xor c.val (![4, 2, 6] j), by revert c j; decide⟩
def sib (c : Dev nD) : Dev nD := ⟨Nat.xor c.val 1, by revert c; decide⟩

/-- Where half `h` of the weights of chip `d` on device `c` comes from. -/
def src (c : Dev nD) (d : Fin 4) (h : Fin 2) : Dev nD := if d = chip c then c else at2 d h

theorem hop_hop (j : Fin 3) (c : Dev nD) : hop j (hop j c) = c := by revert j c; decide
theorem sib_sib (c : Dev nD) : sib (sib c) = c := by revert c; decide
theorem core_hop (j : Fin 3) (c : Dev nD) : core (hop j c) = core c := by revert j c; decide
theorem chip_hop_sib (j : Fin 3) (c : Dev nD) : chip (hop j (sib c)) = chip (hop j c) := by revert j c; decide
theorem at2_core (c c' : Dev nD) (h : core c' = core c) : at2 (chip c) (core c') = c := by revert c c'; decide
theorem src_own (c : Dev nD) (h : Fin 2) : src c (chip c) h = c := if_pos rfl
theorem src_hop (j : Fin 3) (c : Dev nD) : src (hop j c) (chip c) (core c) = c := by revert j c; decide
theorem src_sib (j : Fin 3) (c : Dev nD) : src (sib c) (chip (hop j c)) (core c) = src c (chip (hop j c)) (core c) := by revert j c; decide
theorem dev1_eq (c : Dev nD) : (⟨k0_dev1 c, k0_dev1_lt c⟩ : Dev nD) = hop 0 c := by revert c; decide
theorem dev2_eq (c : Dev nD) : (⟨k0_dev2 c, k0_dev2_lt c⟩ : Dev nD) = hop 0 c := by revert c; decide
theorem dev3_eq (c : Dev nD) : (⟨k0_dev3 c, k0_dev3_lt c⟩ : Dev nD) = hop 1 c := by revert c; decide
theorem dev4_eq (c : Dev nD) : (⟨k0_dev4 c, k0_dev4_lt c⟩ : Dev nD) = hop 1 c := by revert c; decide
theorem dev5_eq (c : Dev nD) : (⟨k0_dev5 c, k0_dev5_lt c⟩ : Dev nD) = hop 2 c := by revert c; decide
theorem dev6_eq (c : Dev nD) : (⟨k0_dev6 c, k0_dev6_lt c⟩ : Dev nD) = hop 2 c := by revert c; decide
theorem dev7_eq (c : Dev nD) : (⟨k0_dev7 c, k0_dev7_lt c⟩ : Dev nD) = sib c := by revert c; decide
theorem dev8_eq (c : Dev nD) : (⟨k0_dev8 c, k0_dev8_lt c⟩ : Dev nD) = sib c := by revert c; decide
theorem dev9_eq (c : Dev nD) : (⟨k0_dev9 c, k0_dev9_lt c⟩ : Dev nD) = sib c := by revert c; decide
theorem off1_eq (c : Dev nD) : k0_off1 c = ![(chip c).val, 0, 0, 0] := by revert c; decide
theorem off2_eq (c : Dev nD) : k0_off2 c = ![(chip c).val, 0, 0] := by revert c; decide
theorem off3_eq (c : Dev nD) : k0_off3 c = ![(chip c).val, (core c).val, 0, 0] := by revert c; decide
theorem off4_eq (c : Dev nD) : k0_off4 c = ![(core c).val, 0, 0] := by revert c; decide
theorem off5_eq (c : Dev nD) : k0_off5 c = ![(chip (hop 0 c)).val, (core c).val, 0, 0] := by revert c; decide
theorem off6_eq (c : Dev nD) : k0_off6 c = ![(chip (hop 1 c)).val, (core c).val, 0, 0] := by revert c; decide
theorem off7_eq (c : Dev nD) : k0_off7 c = ![(chip (hop 2 c)).val, (core c).val, 0, 0] := by revert c; decide
theorem cores (c : Dev nD) : Finset.univ = [core c, core (sib c)].toFinset ∧ [core c, core (sib c)].Nodup := by revert c; decide
theorem chips (c : Dev nD) : Finset.univ = [chip c, chip (hop 0 c), chip (hop 1 c), chip (hop 2 c)].toFinset
    ∧ [chip c, chip (hop 0 c), chip (hop 1 c), chip (hop 2 c)].Nodup := by revert c; decide

def hopEquiv (j : Fin 3) : Dev nD ≃ Dev nD := ⟨hop j, hop j, hop_hop j, hop_hop j⟩
def sibEquiv : Dev nD ≃ Dev nD := ⟨sib, sib, sib_sib, sib_sib⟩

/-! ## The plan -/

/-- The arguments and the results, whole, and the views the copies are of: a half of the weights; a chip's row of the first
    result, and a half of it; a slot of the second result. -/
abbrev wM : Memref sig .tc .hbm S2x13312x128 .bf16 := Memref.whole main_arg0
abbrev sM : Memref sig .tc .hbm S48x128 .f32 := Memref.whole main_arg1
abbrev wallM : Memref sig .tc .hbm S4x2x13312x128 .bf16 := Memref.whole main_v1_0
abbrev sallM : Memref sig .tc .hbm S4x48x128 .f32 := Memref.whole main_v1_1
abbrev halfM (d : Dev nD) : Memref sig .tc .hbm S13312x128 .bf16 :=
  (wM.slice (Rect.unit (s := S2x13312x128) (k0_off4 d) S1x13312x128.size (k0_off4_inb d)) (fun _ => rfl)).squeeze S13312x128 squeezes_S1x13312x128_S13312x128
abbrev rowM (d : Dev nD) : Memref sig .tc .hbm S2x13312x128 .bf16 :=
  (wallM.slice (Rect.unit (s := S4x2x13312x128) (k0_off1 d) S1x2x13312x128.size (k0_off1_inb d)) (fun _ => rfl)).squeeze S2x13312x128 squeezes_S1x2x13312x128_S2x13312x128
abbrev slotM (o : Fin 4 → ℕ) (inb : ∀ a, o a + S1x1x13312x128.size a ≤ S4x2x13312x128.size a) : Memref sig .tc .hbm S13312x128 .bf16 :=
  (wallM.slice (Rect.unit (s := S4x2x13312x128) o S1x1x13312x128.size inb) (fun _ => rfl)).squeeze S13312x128 squeezes_S1x1x13312x128_S13312x128
abbrev sslotM (d : Dev nD) : Memref sig .tc .hbm S48x128 .f32 :=
  (sallM.slice (Rect.unit (s := S4x48x128) (k0_off2 d) S1x48x128.size (k0_off2_inb d)) (fun _ => rfl)).squeeze S48x128 squeezes_S1x48x128_S48x128

/-- Semaphores `j` and `3 + j`: the half and the small array have left for the `j`-th other chip; `6 + j`: the half that
    came from there has left for the sibling; `9 + j`, `12 + j`, `15 + j`: the half of the `j`-th other chip's core, its
    small array, and the half of it the sibling passes on, have landed; 18 and 19: the own weights and small array have.
    A device passes halves on while it waits for others, so the passed-on ones are a level higher. -/
def plan : Plan nD sig 20 where
  sem := fun k => k
  inj := fun _ _ h => h
  amt := fun k => if k = 18 then wM.view.dmaCredit else if k ∈ [3, 4, 5, 12, 13, 14, 19] then sM.view.dmaCredit else (halfM 0).view.dmaCredit
  pos := fun k => by split; · decide
                     split <;> decide
  peer := ![Equiv.refl _, Equiv.refl _, Equiv.refl _, Equiv.refl _, Equiv.refl _, Equiv.refl _, Equiv.refl _, Equiv.refl _, Equiv.refl _, hopEquiv 0, hopEquiv 1, hopEquiv 2, hopEquiv 0, hopEquiv 1, hopEquiv 2, sibEquiv, sibEquiv, sibEquiv, Equiv.refl _, Equiv.refl _]
  far := [9, 12, 10, 13, 11, 14, 15, 16, 17]
  nodup := by decide
  lev := fun k => if k.val < 15 then 0 else 1

/-- The shares of an array that is read by several copies: one for each. -/
def rest : ℕ → PosShare TreeShare
  | 0 => fullShare
  | n + 1 => (rest n).right
def share (n : ℕ) : PosShare TreeShare := (rest n).left

variable {F : FTy → Type} [FloatOps F]

local notation "𝕄" => MT nD τ sig Unit (Elt F) ℕ (UU nD τ sig) ℕ

variable (m : (ℓ : Loc nD τ sig) → Buf (Elt F) ℓ) (ρ : Dev nD → PrngReg)

/-- The results of device `c` at the end. -/
def finW (c : Dev nD) : Buf (Elt F) ((c : Thread nD τ).loc main_v1_0) :=
  fun i => m ((src c (i 0) (i 1) : Thread nD τ).loc main_arg0) (ix3 (i 1) (i 2) (i 3))
def finS (c : Dev nD) : Buf (Elt F) ((c : Thread nD τ).loc main_v1_1) :=
  fun i => m ((at2 (i 0) (core c) : Thread nD τ).loc main_arg1) (ix2 (i 1) (i 2))

/-- The weights of device `c` at share `q`, and half `h` of them. -/
abbrev wPt (c : Dev nD) (q : PosShare TreeShare) : sProp 𝕄 :=
  wM.view.loc (c : Thread nD τ) ↦[wM.view.set]{q} m ((c : Thread nD τ).loc main_arg0)
def halfPt (c : Dev nD) (h : Fin 2) (q : PosShare TreeShare) : sProp 𝕄 :=
  wM.view.loc (c : Thread nD τ) ↦[part wM.view key3 h]{q} m ((c : Thread nD τ).loc main_arg0)

/-- The small array of device `c` at share `q`. -/
abbrev sPt (c : Dev nD) (q : PosShare TreeShare) : sProp 𝕄 :=
  sM.view.loc (c : Thread nD τ) ↦[sM.view.set]{q} m ((c : Thread nD τ).loc main_arg1)

/-- The row for chip `d` of the first result of device `c` at contents `f`, and half `h` of the row. -/
def rowPt (c : Dev nD) (d : Fin 4) (f : Buf (Elt F) ((c : Thread nD τ).loc main_v1_0)) : sProp 𝕄 :=
  wallM.view.loc (c : Thread nD τ) ↦[part wallM.view keys d]{fullShare} f
def slotPt (c : Dev nD) (d : Fin 4) (h : Fin 2) (f : Buf (Elt F) ((c : Thread nD τ).loc main_v1_0)) : sProp 𝕄 :=
  wallM.view.loc (c : Thread nD τ) ↦[part wallM.view key4 (d, h)]{fullShare} f

/-- The slot for chip `d` of the second result of device `c` at contents `f`. -/
def sslotPt (c : Dev nD) (d : Fin 4) (f : Buf (Elt F) ((c : Thread nD τ).loc main_v1_1)) : sProp 𝕄 :=
  sallM.view.loc (c : Thread nD τ) ↦[part sallM.view key3 d]{fullShare} f

/-- What each copy hands over. -/
def pay (c : Dev nD) : Fin 20 → sProp 𝕄
  | 0 => halfPt m c (core c) (share 0)
  | 1 => halfPt m c (core c) (share 1)
  | 2 => halfPt m c (core c) (share 2)
  | 3 => sPt m c (share 0)
  | 4 => sPt m c (share 1)
  | 5 => sPt m c (share 2)
  | 6 => slotPt c (chip (hop 0 c)) (core c) (finW m c)
  | 7 => slotPt c (chip (hop 1 c)) (core c) (finW m c)
  | 8 => slotPt c (chip (hop 2 c)) (core c) (finW m c)
  | 9 => slotPt c (chip (hop 0 c)) (core c) (finW m c)
  | 10 => slotPt c (chip (hop 1 c)) (core c) (finW m c)
  | 11 => slotPt c (chip (hop 2 c)) (core c) (finW m c)
  | 12 => sslotPt c (chip (hop 0 c)) (finS m c)
  | 13 => sslotPt c (chip (hop 1 c)) (finS m c)
  | 14 => sslotPt c (chip (hop 2 c)) (finS m c)
  | 15 => slotPt c (chip (hop 0 c)) (core (sib c)) (finW m c)
  | 16 => slotPt c (chip (hop 1 c)) (core (sib c)) (finW m c)
  | 17 => slotPt c (chip (hop 2 c)) (core (sib c)) (finW m c)
  | 18 => iprop(rowPt c (chip c) (finW m c) ∗ wPt m c (rest 3))
  | 19 => iprop(sslotPt c (chip c) (finS m c) ∗ sPt m c (rest 3))
  | ⟨n + 20, h⟩ => absurd h (by omega)

theorem w_storable (c : Dev nD) (q : PosShare TreeShare) : BI.Storable (upEmb : UEmb _ 𝕄) (wPt m c q) := by unfold wPt; infer_instance
theorem half_storable (c : Dev nD) (h : Fin 2) (q : PosShare TreeShare) : BI.Storable (upEmb : UEmb _ 𝕄) (halfPt m c h q) := by unfold halfPt; infer_instance
theorem s_storable (c : Dev nD) (q : PosShare TreeShare) : BI.Storable (upEmb : UEmb _ 𝕄) (sPt m c q) := by unfold sPt; infer_instance
theorem row_storable (c : Dev nD) (d : Fin 4) (f : Buf (Elt F) ((c : Thread nD τ).loc main_v1_0)) : BI.Storable (upEmb : UEmb _ 𝕄) (rowPt c d f) := by
  unfold rowPt; infer_instance
theorem slot_storable (c : Dev nD) (d : Fin 4) (h : Fin 2) (f : Buf (Elt F) ((c : Thread nD τ).loc main_v1_0)) : BI.Storable (upEmb : UEmb _ 𝕄) (slotPt c d h f) := by
  unfold slotPt; infer_instance
theorem sslot_storable (c : Dev nD) (d : Fin 4) (f : Buf (Elt F) ((c : Thread nD τ).loc main_v1_1)) : BI.Storable (upEmb : UEmb _ 𝕄) (sslotPt c d f) := by
  unfold sslotPt; infer_instance
theorem ownW_storable (c : Dev nD) : BI.Storable (upEmb : UEmb _ 𝕄) iprop(rowPt c (chip c) (finW m c) ∗ wPt m c (rest 3)) := by
  have := row_storable c (chip c) (finW m c); have := w_storable m c (rest 3); infer_instance
theorem ownS_storable (c : Dev nD) : BI.Storable (upEmb : UEmb _ 𝕄) iprop(sslotPt c (chip c) (finS m c) ∗ sPt m c (rest 3)) := by
  have := sslot_storable c (chip c) (finS m c); have := s_storable m c (rest 3); infer_instance

instance pay_storable (c : Dev nD) (k : Fin 20) : BI.Storable (upEmb : UEmb _ 𝕄) (pay m c k) := by
  fin_cases k
  · exact half_storable m c (core c) (share 0)
  · exact half_storable m c (core c) (share 1)
  · exact half_storable m c (core c) (share 2)
  · exact s_storable m c (share 0)
  · exact s_storable m c (share 1)
  · exact s_storable m c (share 2)
  · exact slot_storable c (chip (hop 0 c)) (core c) (finW m c)
  · exact slot_storable c (chip (hop 1 c)) (core c) (finW m c)
  · exact slot_storable c (chip (hop 2 c)) (core c) (finW m c)
  · exact slot_storable c (chip (hop 0 c)) (core c) (finW m c)
  · exact slot_storable c (chip (hop 1 c)) (core c) (finW m c)
  · exact slot_storable c (chip (hop 2 c)) (core c) (finW m c)
  · exact sslot_storable c (chip (hop 0 c)) (finS m c)
  · exact sslot_storable c (chip (hop 1 c)) (finS m c)
  · exact sslot_storable c (chip (hop 2 c)) (finS m c)
  · exact slot_storable c (chip (hop 0 c)) (core (sib c)) (finW m c)
  · exact slot_storable c (chip (hop 1 c)) (core (sib c)) (finW m c)
  · exact slot_storable c (chip (hop 2 c)) (core (sib c)) (finW m c)
  · exact ownW_storable m c
  · exact ownS_storable m c

/-- What device `c` starts with: its arguments, in shares; its own row and slot; and the slots it writes on other devices. -/
def B (c : Dev nD) : sProp 𝕄 :=
  iprop(((halfPt m c (core c) (share 0) ∗ halfPt m c (core (sib c)) (share 0)) ∗ (halfPt m c (core c) (share 1) ∗ halfPt m c (core (sib c)) (share 1)) ∗ (halfPt m c (core c) (share 2) ∗ halfPt m c (core (sib c)) (share 2)) ∗ wPt m c (rest 3))
    ∗ (sPt m c (share 0) ∗ sPt m c (share 1) ∗ sPt m c (share 2) ∗ sPt m c (rest 3))
    ∗ rowPt c (chip c) (m ((c : Thread nD τ).loc main_v1_0)) ∗ sslotPt c (chip c) (m ((c : Thread nD τ).loc main_v1_1))
    ∗ slotPt (hop 0 c) (chip c) (core c) (m ((hop 0 c : Thread nD τ).loc main_v1_0))
    ∗ slotPt (hop 1 c) (chip c) (core c) (m ((hop 1 c : Thread nD τ).loc main_v1_0))
    ∗ slotPt (hop 2 c) (chip c) (core c) (m ((hop 2 c : Thread nD τ).loc main_v1_0))
    ∗ sslotPt (hop 0 c) (chip c) (m ((hop 0 c : Thread nD τ).loc main_v1_1))
    ∗ sslotPt (hop 1 c) (chip c) (m ((hop 1 c : Thread nD τ).loc main_v1_1))
    ∗ sslotPt (hop 2 c) (chip c) (m ((hop 2 c : Thread nD τ).loc main_v1_1))
    ∗ slotPt (sib c) (chip (hop 0 c)) (core c) (m ((sib c : Thread nD τ).loc main_v1_0))
    ∗ slotPt (sib c) (chip (hop 1 c)) (core c) (m ((sib c : Thread nD τ).loc main_v1_0))
    ∗ slotPt (sib c) (chip (hop 2 c)) (core c) (m ((sib c : Thread nD τ).loc main_v1_0)))

/-- What it ends with: its arguments, and its results at the final contents. -/
def Y (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v1_0) ↦{fullShare} finW m c) ∗ (((c : Thread nD τ).loc main_v1_1) ↦{fullShare} finS m c))

/-! ## The pieces -/

theorem w_halves (c : Dev nD) (q : PosShare TreeShare) : (wPt m c q : sProp 𝕄) = iprop(halfPt m c (core c) q ∗ halfPt m c (core (sib c)) q) := by
  have e := pointsTo_parts (Ix := Unit) (Name := ℕ) (U := UU nD τ sig) (Lvl := ℕ) (c : Thread nD τ) wM.view key3 q (m ((c : Thread nD τ).loc main_arg0))
  exact e.trans ((bigSep_univ_eq_bigSepL _ (cores c).1 (cores c).2 _).trans rfl)

theorem w_share (c : Dev nD) (n : ℕ) : (wPt m c (rest n) : sProp 𝕄)
    = iprop((halfPt m c (core c) (share n) ∗ halfPt m c (core (sib c)) (share n)) ∗ wPt m c (rest (n + 1))) := by
  rw [← w_halves]
  unfold wPt; exact BI.Entails.antisymm (half _ _ _ _).1 (half _ _ _ _).2

theorem w_whole (c : Dev nD) : (((c : Thread nD τ).loc main_arg0) ↦{fullShare} m ((c : Thread nD τ).loc main_arg0) : sProp 𝕄)
    = iprop((halfPt m c (core c) (share 0) ∗ halfPt m c (core (sib c)) (share 0)) ∗ (halfPt m c (core c) (share 1) ∗ halfPt m c (core (sib c)) (share 1)) ∗ (halfPt m c (core c) (share 2) ∗ halfPt m c (core (sib c)) (share 2)) ∗ wPt m c (rest 3)) := by
  have h : (((c : Thread nD τ).loc main_arg0) ↦{fullShare} m ((c : Thread nD τ).loc main_arg0) : sProp 𝕄) = wPt m c (rest 0) := by
    unfold wPt; rw [View.set_whole]; rfl
  rw [h, w_share m c 0, w_share m c 1, w_share m c 2]

theorem s_share (c : Dev nD) (n : ℕ) : (sPt m c (rest n) : sProp 𝕄) = iprop(sPt m c (share n) ∗ sPt m c (rest (n + 1))) := by
  unfold sPt; exact BI.Entails.antisymm (half _ _ _ _).1 (half _ _ _ _).2

theorem s_whole (c : Dev nD) : (((c : Thread nD τ).loc main_arg1) ↦{fullShare} m ((c : Thread nD τ).loc main_arg1) : sProp 𝕄)
    = iprop(sPt m c (share 0) ∗ sPt m c (share 1) ∗ sPt m c (share 2) ∗ sPt m c (rest 3)) := by
  have h : (((c : Thread nD τ).loc main_arg1) ↦{fullShare} m ((c : Thread nD τ).loc main_arg1) : sProp 𝕄) = sPt m c (rest 0) := by
    unfold sPt; rw [View.set_whole]; rfl
  rw [h, s_share m c 0, s_share m c 1, s_share m c 2]

theorem row_halves (c : Dev nD) (d : Fin 4) (f : Buf (Elt F) ((c : Thread nD τ).loc main_v1_0)) :
    (rowPt c d f : sProp 𝕄) = iprop(slotPt c d (core c) f ∗ slotPt c d (core (sib c)) f) := by
  have e := pointsTo_row (Ix := Unit) (Name := ℕ) (U := UU nD τ sig) (Lvl := ℕ) (c : Thread nD τ) wallM.view d fullShare f
  exact e.trans ((bigSep_univ_eq_bigSepL _ (cores c).1 (cores c).2 _).trans rfl)

theorem wall_whole (c : Dev nD) (f : Buf (Elt F) ((c : Thread nD τ).loc main_v1_0)) :
    (((c : Thread nD τ).loc main_v1_0) ↦{fullShare} f : sProp 𝕄)
    = iprop(rowPt c (chip c) f ∗ (slotPt c (chip (hop 0 c)) (core c) f ∗ slotPt c (chip (hop 0 c)) (core (sib c)) f) ∗ (slotPt c (chip (hop 1 c)) (core c) f ∗ slotPt c (chip (hop 1 c)) (core (sib c)) f) ∗ (slotPt c (chip (hop 2 c)) (core c) f ∗ slotPt c (chip (hop 2 c)) (core (sib c)) f)) := by
  have e := pointsTo_parts (Ix := Unit) (Name := ℕ) (U := UU nD τ sig) (Lvl := ℕ) (c : Thread nD τ) wallM.view keys fullShare f
  rw [View.set_whole] at e
  rw [← row_halves, ← row_halves, ← row_halves]
  exact e.trans ((bigSep_univ_eq_bigSepL _ (chips c).1 (chips c).2 _).trans rfl)

theorem sall_whole (c : Dev nD) (f : Buf (Elt F) ((c : Thread nD τ).loc main_v1_1)) :
    (((c : Thread nD τ).loc main_v1_1) ↦{fullShare} f : sProp 𝕄)
    = iprop(sslotPt c (chip c) f ∗ sslotPt c (chip (hop 0 c)) f ∗ sslotPt c (chip (hop 1 c)) f ∗ sslotPt c (chip (hop 2 c)) f) := by
  have e := pointsTo_parts (Ix := Unit) (Name := ℕ) (U := UU nD τ sig) (Lvl := ℕ) (c : Thread nD τ) sallM.view key3 fullShare f
  rw [View.set_whole] at e
  exact e.trans ((bigSep_univ_eq_bigSepL _ (chips c).1 (chips c).2 _).trans rfl)

theorem half_pt (c : Dev nD) (q : PosShare TreeShare) :
    ((halfM c).view.loc (c : Thread nD τ) ↦[(halfM c).view.set]{q} m ((c : Thread nD τ).loc main_arg0) : sProp 𝕄) = halfPt m c (core c) q := by
  unfold halfPt
  exact congrArg (fun I => (wM.view.loc (c : Thread nD τ) ↦[I]{q} m ((c : Thread nD τ).loc main_arg0) : sProp 𝕄))
    (slot3_set wM.view (core c) (off4_eq c) (k0_off4_inb c) _)

theorem row_pt (c : Dev nD) (f : Buf (Elt F) ((c : Thread nD τ).loc main_v1_0)) :
    ((rowM c).view.loc (c : Thread nD τ) ↦[(rowM c).view.set]{fullShare} f : sProp 𝕄) = rowPt c (chip c) f := by
  unfold rowPt
  exact congrArg (fun I => (wallM.view.loc (c : Thread nD τ) ↦[I]{fullShare} f : sProp 𝕄)) (slots_set wallM.view (chip c) (off1_eq c) (k0_off1_inb c) _)

theorem slot_pt (c : Dev nD) {d : Fin 4} {h : Fin 2} {o : Fin 4 → ℕ} (ho : o = ![d.val, h.val, 0, 0])
    (inb : ∀ a, o a + S1x1x13312x128.size a ≤ S4x2x13312x128.size a) (f : Buf (Elt F) ((c : Thread nD τ).loc main_v1_0)) :
    ((slotM o inb).view.loc (c : Thread nD τ) ↦[(slotM o inb).view.set]{fullShare} f : sProp 𝕄) = slotPt c d h f := by
  unfold slotPt
  exact congrArg (fun I => (wallM.view.loc (c : Thread nD τ) ↦[I]{fullShare} f : sProp 𝕄)) (slot4_set wallM.view d h ho inb _)

theorem sslot_pt (c d : Dev nD) (f : Buf (Elt F) ((c : Thread nD τ).loc main_v1_1)) :
    ((sslotM d).view.loc (c : Thread nD τ) ↦[(sslotM d).view.set]{fullShare} f : sProp 𝕄) = sslotPt c (chip d) f := by
  unfold sslotPt
  exact congrArg (fun I => (sallM.view.loc (c : Thread nD τ) ↦[I]{fullShare} f : sProp 𝕄)) (slot3_set sallM.view (chip d) (off2_eq d) (k0_off2_inb d) _)

/-- The own weights land in the own row. -/
theorem lands_own (c : Dev nD) (fd : Buf (Elt F) ((c : Thread nD τ).loc main_v1_0)) :
    ((rowM c).view.loc (c : Thread nD τ) ↦[(rowM c).view.set]{fullShare}
      (rowM c).view.write (Elt F) fd (wM.view.read (Elt F) (m ((c : Thread nD τ).loc main_arg0))) Finset.univ : sProp 𝕄)
    = rowPt c (chip c) (finW m c) := by
  refine (landed (c : Thread nD τ) (rowM c).view fullShare fd (finW m c) _ ?_).trans (row_pt c _)
  refine (slots_read wallM.view (chip c) (off1_eq c) (k0_off1_inb c) _ (finW m c)).trans ?_
  funext x
  obtain ⟨h, p, q, rfl⟩ : ∃ h p q, x = ix3 h p q := ⟨x 0, x 1, x 2, eq_ix3 x⟩
  show m ((src c (chip c) h : Thread nD τ).loc main_arg0) (ix3 h p q) = m ((c : Thread nD τ).loc main_arg0) (ix3 h p q)
  rw [src_own]

/-- The half of device `c` lands on another chip. -/
theorem lands_far (j : Fin 3) (c : Dev nD) (fd : Buf (Elt F) ((hop j c : Thread nD τ).loc main_v1_0)) :
    ((slotM (k0_off3 c) (k0_off3_inb c)).view.loc (hop j c : Thread nD τ) ↦[(slotM (k0_off3 c) (k0_off3_inb c)).view.set]{fullShare}
      (slotM (k0_off3 c) (k0_off3_inb c)).view.write (Elt F) fd ((halfM c).view.read (Elt F) (m ((c : Thread nD τ).loc main_arg0))) Finset.univ : sProp 𝕄)
    = slotPt (hop j c) (chip c) (core c) (finW m (hop j c)) := by
  refine (landed (hop j c : Thread nD τ) (slotM (k0_off3 c) (k0_off3_inb c)).view fullShare fd (finW m (hop j c)) _ ?_).trans (slot_pt (hop j c) (off3_eq c) _ _)
  refine (slot4_read wallM.view (chip c) (core c) (off3_eq c) (k0_off3_inb c) _ (finW m (hop j c))).trans
    (Eq.trans ?_ (slot3_read wM.view (core c) (off4_eq c) (k0_off4_inb c) _ (m ((c : Thread nD τ).loc main_arg0))).symm)
  funext x
  obtain ⟨p, q, rfl⟩ : ∃ p q, x = ix2 p q := ⟨x 0, x 1, eq_ix2 x⟩
  show m ((src (hop j c) (chip c) (core c) : Thread nD τ).loc main_arg0) (ix3 (core c) p q) = m ((c : Thread nD τ).loc main_arg0) (ix3 (core c) p q)
  rw [src_hop]

/-- A half passed on lands on the sibling. -/
theorem lands_pass (j : Fin 3) (c : Dev nD) {o : Fin 4 → ℕ} (ho : o = ![(chip (hop j c)).val, (core c).val, 0, 0])
    (inb : ∀ a, o a + S1x1x13312x128.size a ≤ S4x2x13312x128.size a) (fd : Buf (Elt F) ((sib c : Thread nD τ).loc main_v1_0)) :
    ((slotM o inb).view.loc (sib c : Thread nD τ) ↦[(slotM o inb).view.set]{fullShare}
      (slotM o inb).view.write (Elt F) fd ((slotM o inb).view.read (Elt F) (finW m c)) Finset.univ : sProp 𝕄)
    = slotPt (sib c) (chip (hop j c)) (core c) (finW m (sib c)) := by
  refine (landed (sib c : Thread nD τ) (slotM o inb).view fullShare fd (finW m (sib c)) _ ?_).trans (slot_pt (sib c) ho _ _)
  refine (slot4_read wallM.view (chip (hop j c)) (core c) ho inb _ (finW m (sib c))).trans
    (Eq.trans ?_ (slot4_read wallM.view (chip (hop j c)) (core c) ho inb _ (finW m c)).symm)
  funext x
  obtain ⟨p, q, rfl⟩ : ∃ p q, x = ix2 p q := ⟨x 0, x 1, eq_ix2 x⟩
  show m ((src (sib c) (chip (hop j c)) (core c) : Thread nD τ).loc main_arg0) (ix3 (core c) p q)
    = m ((src c (chip (hop j c)) (core c) : Thread nD τ).loc main_arg0) (ix3 (core c) p q)
  rw [src_sib]

/-- The small array of device `d` lands in its slot, on any device that is the same core. -/
theorem lands_small (c d : Dev nD) (h : core c = core d) (fd : Buf (Elt F) ((c : Thread nD τ).loc main_v1_1)) :
    ((sslotM d).view.loc (c : Thread nD τ) ↦[(sslotM d).view.set]{fullShare}
      (sslotM d).view.write (Elt F) fd (sM.view.read (Elt F) (m ((d : Thread nD τ).loc main_arg1))) Finset.univ : sProp 𝕄)
    = sslotPt c (chip d) (finS m c) := by
  refine (landed (c : Thread nD τ) (sslotM d).view fullShare fd (finS m c) _ ?_).trans (sslot_pt c d _)
  refine (slot3_read sallM.view (chip d) (off2_eq d) (k0_off2_inb d) _ (finS m c)).trans ?_
  funext x
  obtain ⟨p, q, rfl⟩ : ∃ p q, x = ix2 p q := ⟨x 0, x 1, eq_ix2 x⟩
  show m ((at2 (chip d) (core c) : Thread nD τ).loc main_arg1) (ix2 p q) = m ((d : Thread nD τ).loc main_arg1) (ix2 p q)
  rw [at2_core d c h]

/-! ## The body -/

theorem twenty (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

theorem ready_open (c : Dev nD) : (plan.ready (pay m) c : sProp 𝕄) ⊢ iprop(plan.all (pay m) ∗ levAts plan.L plan.lv
    ∗ ((plan.pos₀ c 0 ∗ plan.pos₀ c 1 ∗ plan.pos₀ c 2 ∗ plan.pos₀ c 3 ∗ plan.pos₀ c 4 ∗ plan.pos₀ c 5 ∗ plan.pos₀ c 6 ∗ plan.pos₀ c 7 ∗ plan.pos₀ c 8 ∗ plan.pos₀ c 9 ∗ plan.pos₀ c 10 ∗ plan.pos₀ c 11 ∗ plan.pos₀ c 12 ∗ plan.pos₀ c 13 ∗ plan.pos₀ c 14 ∗ plan.pos₀ c 15 ∗ plan.pos₀ c 16 ∗ plan.pos₀ c 17 ∗ plan.pos₀ c 18 ∗ plan.pos₀ c 19)
      ∗ (plan.tok c 0 ∗ plan.tok c 1 ∗ plan.tok c 2 ∗ plan.tok c 3 ∗ plan.tok c 4 ∗ plan.tok c 5 ∗ plan.tok c 6 ∗ plan.tok c 7 ∗ plan.tok c 8 ∗ plan.tok (hop 0 c) 9 ∗ plan.tok (hop 1 c) 10 ∗ plan.tok (hop 2 c) 11 ∗ plan.tok (hop 0 c) 12 ∗ plan.tok (hop 1 c) 13 ∗ plan.tok (hop 2 c) 14 ∗ plan.tok (sib c) 15 ∗ plan.tok (sib c) 16 ∗ plan.tok (sib c) 17 ∗ plan.tok c 18 ∗ plan.tok c 19))
    ∗ (plan.due c 9 ∗ plan.due c 12 ∗ plan.due c 10 ∗ plan.due c 13 ∗ plan.due c 11 ∗ plan.due c 14 ∗ plan.due c 15 ∗ plan.due c 16 ∗ plan.due c 17 ∗ emp)) := by
  unfold Plan.ready Plan.rights
  rw [twenty, twenty]
  exact BI.Entails.refl _

theorem sems_close (c : Dev nD) : iprop(semVal (plan.cell c 0) 0 ∗ semVal (plan.cell c 1) 0 ∗ semVal (plan.cell c 2) 0 ∗ semVal (plan.cell c 3) 0 ∗ semVal (plan.cell c 4) 0 ∗ semVal (plan.cell c 5) 0 ∗ semVal (plan.cell c 6) 0 ∗ semVal (plan.cell c 7) 0 ∗ semVal (plan.cell c 8) 0 ∗ semVal (plan.cell c 9) 0 ∗ semVal (plan.cell c 10) 0 ∗ semVal (plan.cell c 11) 0 ∗ semVal (plan.cell c 12) 0 ∗ semVal (plan.cell c 13) 0 ∗ semVal (plan.cell c 14) 0 ∗ semVal (plan.cell c 15) 0 ∗ semVal (plan.cell c 16) 0 ∗ semVal (plan.cell c 17) 0 ∗ semVal (plan.cell c 18) 0 ∗ semVal (plan.cell c 19) 0)
    ⊢ (ownSems0 plan.osem c : sProp 𝕄) := by
  unfold ownSems0
  rw [twenty]

set_option maxHeartbeats 1000000 in
theorem body (𝒱 : Variants) (c : Dev nD) (W : Waits sig Unit) :
    iprop((plan.ready (pay m) c ∗ B m c) ∗ owes (c : Thread nD τ) (plan.owed c plan.far) W)
      ⊢ wp frame (wpE (defs₀ (F := F)) 𝒱 (c : Thread nD τ) none) Set.univ
          (cc0_gather_weights (F := F) wM (Memref.isWhole_whole _) sM (Memref.isWhole_whole _) wallM (Memref.isWhole_whole _) sallM (Memref.isWhole_whole _)
            cc0_scratch0 cc0_scratch1 cc0_scratch2)
          fun _ => iprop((Y m c ∗ ownSems0 plan.osem c) ∗ ∃ W, owes (c : Thread nD τ) (0 : CellTallies nD τ sig Unit) W) := by
  simp only [cc0_gather_weights_eq_skeleton]; unfold cc0_gather_weights_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]; unfold k0_part1_skel k0_part2_skel k0_part3_skel k0_part4_skel k0_part5_skel k0_part6_skel k0_part7_skel k0_part8_skel k0_part9_skel k0_part10_skel
  simp only [Prog.lift, Prog.bind_op, Prog.bind_ret, Prog.pure_eq_ret, wp_deviceId]
  iintro ⟨⟨HR, HB⟩, HO⟩
  ihave HR := (ready_open m c) $$ HR
  icases HR with ⟨#HA, #HL, ⟨⟨HP0, HP1, HP2, HP3, HP4, HP5, HP6, HP7, HP8, HP9, HP10, HP11, HP12, HP13, HP14, HP15, HP16, HP17, HP18, HP19⟩, ⟨HT0, HT1, HT2, HT3, HT4, HT5, HT6, HT7, HT8, HT9, HT10, HT11, HT12, HT13, HT14, HT15, HT16, HT17, HT18, HT19⟩⟩, ⟨HD9, HD12, HD10, HD13, HD11, HD14, HD15, HD16, HD17, -⟩⟩
  unfold B
  icases HB with ⟨⟨⟨Hw0, Hx0⟩, ⟨Hw1, Hx1⟩, ⟨Hw2, Hx2⟩, Hw3⟩, ⟨Hs0, Hs1, Hs2, Hs3⟩, Hrow, Hown, Hd0, Hd1, Hd2, He0, He1, He2, Hf0, Hf1, Hf2⟩
  -- the own weights and the own small array
  iapply (plan.copy_here (pay m) 𝒱 c 18 rfl (fs := m ((c : Thread nD τ).loc main_arg0)) (fd := m ((c : Thread nD τ).loc main_v1_0)) (q := rest 3)
    (src := wM) (dst := rowM c) rfl (BI.sep_mono (Entails.of_eq (lands_own m c _)) (BI.Entails.refl _))) $$ [HT18 Hw3 Hrow]
  · isplitl []; · iapply (plan.all_elim (pay m) c 18); iexact HA
    isplitl [HT18]; · iexact HT18
    isplitl [Hw3]; · iexact Hw3
    iapply (Entails.of_eq (row_pt c _).symm); iexact Hrow
  iintro HD18
  iapply (plan.copy_here (pay m) 𝒱 c 19 rfl (fs := m ((c : Thread nD τ).loc main_arg1)) (fd := m ((c : Thread nD τ).loc main_v1_1)) (q := rest 3)
    (src := sM) (dst := sslotM c) rfl (BI.sep_mono (Entails.of_eq (lands_small m c c rfl _)) (BI.Entails.refl _))) $$ [HT19 Hs3 Hown]
  · isplitl []; · iapply (plan.all_elim (pay m) c 19); iexact HA
    isplitl [HT19]; · iexact HT19
    isplitl [Hs3]; · iexact Hs3
    iapply (Entails.of_eq (sslot_pt c c _).symm); iexact Hown
  iintro HD19
  -- to the other chips
  iapply (plan.copy_to (pay m) 𝒱 c _ 9 0 [12, 10, 13, 11, 14, 15, 16, 17] (dev1_eq c) rfl rfl (fs := m ((c : Thread nD τ).loc main_arg0)) (fd := m (((⟨k0_dev1 c, k0_dev1_lt c⟩ : Dev nD) : Thread nD τ).loc main_v1_0)) (q := share 0)
    (src := halfM c) (dst := slotM (k0_off3 c) (k0_off3_inb c)) rfl rfl (Entails.of_eq (half_pt m c (share 0))) ?_ (by rw [dev1_eq c]; revert c; decide)) $$ [HT0 HT9 Hw0 Hd0 HO]
  · rw [dev1_eq c]
    exact (Entails.of_eq (lands_far m 0 c _)).trans (Entails.of_eq (by
      show _ = slotPt (hop 0 c) (chip (hop 0 (hop 0 c))) (core (hop 0 c)) (finW m (hop 0 c))
      rw [hop_hop, core_hop]))
  · rw [dev1_eq c]
    isplitl []; · iapply (plan.all_elim (pay m) c 0); iexact HA
    isplitl []; · iapply (plan.all_elim (pay m) (hop 0 c) 9); iexact HA
    isplitl [HT0]; · iexact HT0
    isplitl [HT9]; · iexact HT9
    isplitl [Hw0]; · iapply (Entails.of_eq (half_pt m c (share 0)).symm); iexact Hw0
    isplitl [Hd0]; · iapply (Entails.of_eq (slot_pt (hop 0 c) (off3_eq c) (k0_off3_inb c) _).symm); iexact Hd0
    iexact HO
  iintro ⟨HD0, HO⟩
  iapply (plan.copy_to (pay m) 𝒱 c _ 12 3 [10, 13, 11, 14, 15, 16, 17] (dev2_eq c) rfl rfl (fs := m ((c : Thread nD τ).loc main_arg1)) (fd := m (((⟨k0_dev2 c, k0_dev2_lt c⟩ : Dev nD) : Thread nD τ).loc main_v1_1)) (q := share 0)
    (src := sM) (dst := sslotM c) rfl rfl (BI.Entails.refl _) ?_ (by rw [dev2_eq c]; revert c; decide)) $$ [HT3 HT12 Hs0 He0 HO]
  · rw [dev2_eq c]
    exact (Entails.of_eq (lands_small m (hop 0 c) c (core_hop 0 c) _)).trans (Entails.of_eq (by
      show _ = sslotPt (hop 0 c) (chip (hop 0 (hop 0 c))) (finS m (hop 0 c))
      rw [hop_hop]))
  · rw [dev2_eq c]
    isplitl []; · iapply (plan.all_elim (pay m) c 3); iexact HA
    isplitl []; · iapply (plan.all_elim (pay m) (hop 0 c) 12); iexact HA
    isplitl [HT3]; · iexact HT3
    isplitl [HT12]; · iexact HT12
    isplitl [Hs0]; · iexact Hs0
    isplitl [He0]; · iapply (Entails.of_eq (sslot_pt (hop 0 c) c _).symm); iexact He0
    iexact HO
  iintro ⟨HD3, HO⟩
  iapply (plan.copy_to (pay m) 𝒱 c _ 10 1 [13, 11, 14, 15, 16, 17] (dev3_eq c) rfl rfl (fs := m ((c : Thread nD τ).loc main_arg0)) (fd := m (((⟨k0_dev3 c, k0_dev3_lt c⟩ : Dev nD) : Thread nD τ).loc main_v1_0)) (q := share 1)
    (src := halfM c) (dst := slotM (k0_off3 c) (k0_off3_inb c)) rfl rfl (Entails.of_eq (half_pt m c (share 1))) ?_ (by rw [dev3_eq c]; revert c; decide)) $$ [HT1 HT10 Hw1 Hd1 HO]
  · rw [dev3_eq c]
    exact (Entails.of_eq (lands_far m 1 c _)).trans (Entails.of_eq (by
      show _ = slotPt (hop 1 c) (chip (hop 1 (hop 1 c))) (core (hop 1 c)) (finW m (hop 1 c))
      rw [hop_hop, core_hop]))
  · rw [dev3_eq c]
    isplitl []; · iapply (plan.all_elim (pay m) c 1); iexact HA
    isplitl []; · iapply (plan.all_elim (pay m) (hop 1 c) 10); iexact HA
    isplitl [HT1]; · iexact HT1
    isplitl [HT10]; · iexact HT10
    isplitl [Hw1]; · iapply (Entails.of_eq (half_pt m c (share 1)).symm); iexact Hw1
    isplitl [Hd1]; · iapply (Entails.of_eq (slot_pt (hop 1 c) (off3_eq c) (k0_off3_inb c) _).symm); iexact Hd1
    iexact HO
  iintro ⟨HD1, HO⟩
  iapply (plan.copy_to (pay m) 𝒱 c _ 13 4 [11, 14, 15, 16, 17] (dev4_eq c) rfl rfl (fs := m ((c : Thread nD τ).loc main_arg1)) (fd := m (((⟨k0_dev4 c, k0_dev4_lt c⟩ : Dev nD) : Thread nD τ).loc main_v1_1)) (q := share 1)
    (src := sM) (dst := sslotM c) rfl rfl (BI.Entails.refl _) ?_ (by rw [dev4_eq c]; revert c; decide)) $$ [HT4 HT13 Hs1 He1 HO]
  · rw [dev4_eq c]
    exact (Entails.of_eq (lands_small m (hop 1 c) c (core_hop 1 c) _)).trans (Entails.of_eq (by
      show _ = sslotPt (hop 1 c) (chip (hop 1 (hop 1 c))) (finS m (hop 1 c))
      rw [hop_hop]))
  · rw [dev4_eq c]
    isplitl []; · iapply (plan.all_elim (pay m) c 4); iexact HA
    isplitl []; · iapply (plan.all_elim (pay m) (hop 1 c) 13); iexact HA
    isplitl [HT4]; · iexact HT4
    isplitl [HT13]; · iexact HT13
    isplitl [Hs1]; · iexact Hs1
    isplitl [He1]; · iapply (Entails.of_eq (sslot_pt (hop 1 c) c _).symm); iexact He1
    iexact HO
  iintro ⟨HD4, HO⟩
  iapply (plan.copy_to (pay m) 𝒱 c _ 11 2 [14, 15, 16, 17] (dev5_eq c) rfl rfl (fs := m ((c : Thread nD τ).loc main_arg0)) (fd := m (((⟨k0_dev5 c, k0_dev5_lt c⟩ : Dev nD) : Thread nD τ).loc main_v1_0)) (q := share 2)
    (src := halfM c) (dst := slotM (k0_off3 c) (k0_off3_inb c)) rfl rfl (Entails.of_eq (half_pt m c (share 2))) ?_ (by rw [dev5_eq c]; revert c; decide)) $$ [HT2 HT11 Hw2 Hd2 HO]
  · rw [dev5_eq c]
    exact (Entails.of_eq (lands_far m 2 c _)).trans (Entails.of_eq (by
      show _ = slotPt (hop 2 c) (chip (hop 2 (hop 2 c))) (core (hop 2 c)) (finW m (hop 2 c))
      rw [hop_hop, core_hop]))
  · rw [dev5_eq c]
    isplitl []; · iapply (plan.all_elim (pay m) c 2); iexact HA
    isplitl []; · iapply (plan.all_elim (pay m) (hop 2 c) 11); iexact HA
    isplitl [HT2]; · iexact HT2
    isplitl [HT11]; · iexact HT11
    isplitl [Hw2]; · iapply (Entails.of_eq (half_pt m c (share 2)).symm); iexact Hw2
    isplitl [Hd2]; · iapply (Entails.of_eq (slot_pt (hop 2 c) (off3_eq c) (k0_off3_inb c) _).symm); iexact Hd2
    iexact HO
  iintro ⟨HD2, HO⟩
  iapply (plan.copy_to (pay m) 𝒱 c _ 14 5 [15, 16, 17] (dev6_eq c) rfl rfl (fs := m ((c : Thread nD τ).loc main_arg1)) (fd := m (((⟨k0_dev6 c, k0_dev6_lt c⟩ : Dev nD) : Thread nD τ).loc main_v1_1)) (q := share 2)
    (src := sM) (dst := sslotM c) rfl rfl (BI.Entails.refl _) ?_ (by rw [dev6_eq c]; revert c; decide)) $$ [HT5 HT14 Hs2 He2 HO]
  · rw [dev6_eq c]
    exact (Entails.of_eq (lands_small m (hop 2 c) c (core_hop 2 c) _)).trans (Entails.of_eq (by
      show _ = sslotPt (hop 2 c) (chip (hop 2 (hop 2 c))) (finS m (hop 2 c))
      rw [hop_hop]))
  · rw [dev6_eq c]
    isplitl []; · iapply (plan.all_elim (pay m) c 5); iexact HA
    isplitl []; · iapply (plan.all_elim (pay m) (hop 2 c) 14); iexact HA
    isplitl [HT5]; · iexact HT5
    isplitl [HT14]; · iexact HT14
    isplitl [Hs2]; · iexact Hs2
    isplitl [He2]; · iapply (Entails.of_eq (sslot_pt (hop 2 c) c _).symm); iexact He2
    iexact HO
  iintro ⟨HD5, HO⟩
  -- what comes in, passed on
  iapply (plan.collect (pay m) 𝒱 c 9 [15, 16, 17] (by decide) (dst := slotM (k0_off5 c) (k0_off5_inb c)) rfl rfl) $$ [HD9 HP9 HO]
  · isplitl []; · iapply (plan.all_elim (pay m) c 9); iexact HA
    isplitl [HD9]; · iexact HD9
    isplitl [HP9]; · iexact HP9
    isplitl []; · iexact HL
    iexact HO
  iintro ⟨HO, Hb9, HS9⟩
  ihave Hb9 := (Entails.of_eq (show pay m c 9 = slotPt c (chip (hop 0 c)) (core c) (finW m c) from rfl)) $$ Hb9
  iapply (plan.copy_to (pay m) 𝒱 c _ 15 6 [16, 17] (dev7_eq c) rfl rfl (fs := finW m c) (fd := m (((⟨k0_dev7 c, k0_dev7_lt c⟩ : Dev nD) : Thread nD τ).loc main_v1_0)) (q := fullShare)
    (src := slotM (k0_off5 c) (k0_off5_inb c)) (dst := slotM (k0_off5 c) (k0_off5_inb c)) rfl rfl (Entails.of_eq (slot_pt c (off5_eq c) (k0_off5_inb c) _)) ?_ (by rw [dev7_eq c]; revert c; decide)) $$ [HT6 HT15 Hb9 Hf0 HO]
  · rw [dev7_eq c]
    exact (Entails.of_eq (lands_pass m 0 c (off5_eq c) (k0_off5_inb c) _)).trans (Entails.of_eq (by
      show _ = slotPt (sib c) (chip (hop 0 (sib c))) (core (sib (sib c))) (finW m (sib c))
      rw [chip_hop_sib, sib_sib]))
  · rw [dev7_eq c]
    isplitl []; · iapply (plan.all_elim (pay m) c 6); iexact HA
    isplitl []; · iapply (plan.all_elim (pay m) (sib c) 15); iexact HA
    isplitl [HT6]; · iexact HT6
    isplitl [HT15]; · iexact HT15
    isplitl [Hb9]; · iapply (Entails.of_eq (slot_pt c (off5_eq c) (k0_off5_inb c) _).symm); iexact Hb9
    isplitl [Hf0]; · iapply (Entails.of_eq (slot_pt (sib c) (off5_eq c) (k0_off5_inb c) _).symm); iexact Hf0
    iexact HO
  iintro ⟨HD6, HO⟩
  iapply (plan.collect (pay m) 𝒱 c 10 [16, 17] (by decide) (dst := slotM (k0_off6 c) (k0_off6_inb c)) rfl rfl) $$ [HD10 HP10 HO]
  · isplitl []; · iapply (plan.all_elim (pay m) c 10); iexact HA
    isplitl [HD10]; · iexact HD10
    isplitl [HP10]; · iexact HP10
    isplitl []; · iexact HL
    iexact HO
  iintro ⟨HO, Hb10, HS10⟩
  ihave Hb10 := (Entails.of_eq (show pay m c 10 = slotPt c (chip (hop 1 c)) (core c) (finW m c) from rfl)) $$ Hb10
  iapply (plan.copy_to (pay m) 𝒱 c _ 16 7 [17] (dev8_eq c) rfl rfl (fs := finW m c) (fd := m (((⟨k0_dev8 c, k0_dev8_lt c⟩ : Dev nD) : Thread nD τ).loc main_v1_0)) (q := fullShare)
    (src := slotM (k0_off6 c) (k0_off6_inb c)) (dst := slotM (k0_off6 c) (k0_off6_inb c)) rfl rfl (Entails.of_eq (slot_pt c (off6_eq c) (k0_off6_inb c) _)) ?_ (by rw [dev8_eq c]; revert c; decide)) $$ [HT7 HT16 Hb10 Hf1 HO]
  · rw [dev8_eq c]
    exact (Entails.of_eq (lands_pass m 1 c (off6_eq c) (k0_off6_inb c) _)).trans (Entails.of_eq (by
      show _ = slotPt (sib c) (chip (hop 1 (sib c))) (core (sib (sib c))) (finW m (sib c))
      rw [chip_hop_sib, sib_sib]))
  · rw [dev8_eq c]
    isplitl []; · iapply (plan.all_elim (pay m) c 7); iexact HA
    isplitl []; · iapply (plan.all_elim (pay m) (sib c) 16); iexact HA
    isplitl [HT7]; · iexact HT7
    isplitl [HT16]; · iexact HT16
    isplitl [Hb10]; · iapply (Entails.of_eq (slot_pt c (off6_eq c) (k0_off6_inb c) _).symm); iexact Hb10
    isplitl [Hf1]; · iapply (Entails.of_eq (slot_pt (sib c) (off6_eq c) (k0_off6_inb c) _).symm); iexact Hf1
    iexact HO
  iintro ⟨HD7, HO⟩
  iapply (plan.collect (pay m) 𝒱 c 11 [17] (by decide) (dst := slotM (k0_off7 c) (k0_off7_inb c)) rfl rfl) $$ [HD11 HP11 HO]
  · isplitl []; · iapply (plan.all_elim (pay m) c 11); iexact HA
    isplitl [HD11]; · iexact HD11
    isplitl [HP11]; · iexact HP11
    isplitl []; · iexact HL
    iexact HO
  iintro ⟨HO, Hb11, HS11⟩
  ihave Hb11 := (Entails.of_eq (show pay m c 11 = slotPt c (chip (hop 2 c)) (core c) (finW m c) from rfl)) $$ Hb11
  iapply (plan.copy_to (pay m) 𝒱 c _ 17 8 [] (dev9_eq c) rfl rfl (fs := finW m c) (fd := m (((⟨k0_dev9 c, k0_dev9_lt c⟩ : Dev nD) : Thread nD τ).loc main_v1_0)) (q := fullShare)
    (src := slotM (k0_off7 c) (k0_off7_inb c)) (dst := slotM (k0_off7 c) (k0_off7_inb c)) rfl rfl (Entails.of_eq (slot_pt c (off7_eq c) (k0_off7_inb c) _)) ?_ (by rw [dev9_eq c]; revert c; decide)) $$ [HT8 HT17 Hb11 Hf2 HO]
  · rw [dev9_eq c]
    exact (Entails.of_eq (lands_pass m 2 c (off7_eq c) (k0_off7_inb c) _)).trans (Entails.of_eq (by
      show _ = slotPt (sib c) (chip (hop 2 (sib c))) (core (sib (sib c))) (finW m (sib c))
      rw [chip_hop_sib, sib_sib]))
  · rw [dev9_eq c]
    isplitl []; · iapply (plan.all_elim (pay m) c 8); iexact HA
    isplitl []; · iapply (plan.all_elim (pay m) (sib c) 17); iexact HA
    isplitl [HT8]; · iexact HT8
    isplitl [HT17]; · iexact HT17
    isplitl [Hb11]; · iapply (Entails.of_eq (slot_pt c (off7_eq c) (k0_off7_inb c) _).symm); iexact Hb11
    isplitl [Hf2]; · iapply (Entails.of_eq (slot_pt (sib c) (off7_eq c) (k0_off7_inb c) _).symm); iexact Hf2
    iexact HO
  iintro ⟨HD8, HO⟩
  -- the waits
  iapply (plan.collect (pay m) 𝒱 c 15 [] (fun _ h => absurd h List.not_mem_nil) (dst := slotM (k0_off8 c) (k0_off8_inb c)) rfl rfl) $$ [HD15 HP15 HO]
  · isplitl []; · iapply (plan.all_elim (pay m) c 15); iexact HA
    isplitl [HD15]; · iexact HD15
    isplitl [HP15]; · iexact HP15
    isplitl []; · iexact HL
    iexact HO
  iintro ⟨HO, Hb15, HS15⟩
  iapply (plan.collect (pay m) 𝒱 c 12 [] (fun _ h => absurd h List.not_mem_nil) (dst := sslotM c) rfl rfl) $$ [HD12 HP12 HO]
  · isplitl []; · iapply (plan.all_elim (pay m) c 12); iexact HA
    isplitl [HD12]; · iexact HD12
    isplitl [HP12]; · iexact HP12
    isplitl []; · iexact HL
    iexact HO
  iintro ⟨HO, Hb12, HS12⟩
  iapply (plan.collect (pay m) 𝒱 c 16 [] (fun _ h => absurd h List.not_mem_nil) (dst := slotM (k0_off9 c) (k0_off9_inb c)) rfl rfl) $$ [HD16 HP16 HO]
  · isplitl []; · iapply (plan.all_elim (pay m) c 16); iexact HA
    isplitl [HD16]; · iexact HD16
    isplitl [HP16]; · iexact HP16
    isplitl []; · iexact HL
    iexact HO
  iintro ⟨HO, Hb16, HS16⟩
  iapply (plan.collect (pay m) 𝒱 c 13 [] (fun _ h => absurd h List.not_mem_nil) (dst := sslotM c) rfl rfl) $$ [HD13 HP13 HO]
  · isplitl []; · iapply (plan.all_elim (pay m) c 13); iexact HA
    isplitl [HD13]; · iexact HD13
    isplitl [HP13]; · iexact HP13
    isplitl []; · iexact HL
    iexact HO
  iintro ⟨HO, Hb13, HS13⟩
  iapply (plan.collect (pay m) 𝒱 c 17 [] (fun _ h => absurd h List.not_mem_nil) (dst := slotM (k0_off10 c) (k0_off10_inb c)) rfl rfl) $$ [HD17 HP17 HO]
  · isplitl []; · iapply (plan.all_elim (pay m) c 17); iexact HA
    isplitl [HD17]; · iexact HD17
    isplitl [HP17]; · iexact HP17
    isplitl []; · iexact HL
    iexact HO
  iintro ⟨HO, Hb17, HS17⟩
  iapply (plan.collect (pay m) 𝒱 c 14 [] (fun _ h => absurd h List.not_mem_nil) (dst := sslotM c) rfl rfl) $$ [HD14 HP14 HO]
  · isplitl []; · iapply (plan.all_elim (pay m) c 14); iexact HA
    isplitl [HD14]; · iexact HD14
    isplitl [HP14]; · iexact HP14
    isplitl []; · iexact HL
    iexact HO
  iintro ⟨HO, Hb14, HS14⟩
  iapply (plan.collect (pay m) 𝒱 c 0 [] (fun _ h => absurd h List.not_mem_nil) (dst := halfM c) rfl rfl) $$ [HD0 HP0 HO]
  · isplitl []; · iapply (plan.all_elim (pay m) c 0); iexact HA
    isplitl [HD0]; · iexact HD0
    isplitl [HP0]; · iexact HP0
    isplitl []; · iexact HL
    iexact HO
  iintro ⟨HO, Hb0, HS0⟩
  iapply (plan.collect (pay m) 𝒱 c 3 [] (fun _ h => absurd h List.not_mem_nil) (dst := sM) rfl rfl) $$ [HD3 HP3 HO]
  · isplitl []; · iapply (plan.all_elim (pay m) c 3); iexact HA
    isplitl [HD3]; · iexact HD3
    isplitl [HP3]; · iexact HP3
    isplitl []; · iexact HL
    iexact HO
  iintro ⟨HO, Hb3, HS3⟩
  iapply (plan.collect (pay m) 𝒱 c 1 [] (fun _ h => absurd h List.not_mem_nil) (dst := halfM c) rfl rfl) $$ [HD1 HP1 HO]
  · isplitl []; · iapply (plan.all_elim (pay m) c 1); iexact HA
    isplitl [HD1]; · iexact HD1
    isplitl [HP1]; · iexact HP1
    isplitl []; · iexact HL
    iexact HO
  iintro ⟨HO, Hb1, HS1⟩
  iapply (plan.collect (pay m) 𝒱 c 4 [] (fun _ h => absurd h List.not_mem_nil) (dst := sM) rfl rfl) $$ [HD4 HP4 HO]
  · isplitl []; · iapply (plan.all_elim (pay m) c 4); iexact HA
    isplitl [HD4]; · iexact HD4
    isplitl [HP4]; · iexact HP4
    isplitl []; · iexact HL
    iexact HO
  iintro ⟨HO, Hb4, HS4⟩
  iapply (plan.collect (pay m) 𝒱 c 2 [] (fun _ h => absurd h List.not_mem_nil) (dst := halfM c) rfl rfl) $$ [HD2 HP2 HO]
  · isplitl []; · iapply (plan.all_elim (pay m) c 2); iexact HA
    isplitl [HD2]; · iexact HD2
    isplitl [HP2]; · iexact HP2
    isplitl []; · iexact HL
    iexact HO
  iintro ⟨HO, Hb2, HS2⟩
  iapply (plan.collect (pay m) 𝒱 c 5 [] (fun _ h => absurd h List.not_mem_nil) (dst := sM) rfl rfl) $$ [HD5 HP5 HO]
  · isplitl []; · iapply (plan.all_elim (pay m) c 5); iexact HA
    isplitl [HD5]; · iexact HD5
    isplitl [HP5]; · iexact HP5
    isplitl []; · iexact HL
    iexact HO
  iintro ⟨HO, Hb5, HS5⟩
  iapply (plan.collect (pay m) 𝒱 c 6 [] (fun _ h => absurd h List.not_mem_nil) (dst := slotM (k0_off5 c) (k0_off5_inb c)) rfl rfl) $$ [HD6 HP6 HO]
  · isplitl []; · iapply (plan.all_elim (pay m) c 6); iexact HA
    isplitl [HD6]; · iexact HD6
    isplitl [HP6]; · iexact HP6
    isplitl []; · iexact HL
    iexact HO
  iintro ⟨HO, Hb6, HS6⟩
  iapply (plan.collect (pay m) 𝒱 c 7 [] (fun _ h => absurd h List.not_mem_nil) (dst := slotM (k0_off6 c) (k0_off6_inb c)) rfl rfl) $$ [HD7 HP7 HO]
  · isplitl []; · iapply (plan.all_elim (pay m) c 7); iexact HA
    isplitl [HD7]; · iexact HD7
    isplitl [HP7]; · iexact HP7
    isplitl []; · iexact HL
    iexact HO
  iintro ⟨HO, Hb7, HS7⟩
  iapply (plan.collect (pay m) 𝒱 c 8 [] (fun _ h => absurd h List.not_mem_nil) (dst := slotM (k0_off7 c) (k0_off7_inb c)) rfl rfl) $$ [HD8 HP8 HO]
  · isplitl []; · iapply (plan.all_elim (pay m) c 8); iexact HA
    isplitl [HD8]; · iexact HD8
    isplitl [HP8]; · iexact HP8
    isplitl []; · iexact HL
    iexact HO
  iintro ⟨HO, Hb8, HS8⟩
  iapply (plan.collect (pay m) 𝒱 c 18 [] (fun _ h => absurd h List.not_mem_nil) (dst := rowM c) rfl rfl) $$ [HD18 HP18 HO]
  · isplitl []; · iapply (plan.all_elim (pay m) c 18); iexact HA
    isplitl [HD18]; · iexact HD18
    isplitl [HP18]; · iexact HP18
    isplitl []; · iexact HL
    iexact HO
  iintro ⟨HO, Hb18, HS18⟩
  iapply (plan.collect (pay m) 𝒱 c 19 [] (fun _ h => absurd h List.not_mem_nil) (dst := sslotM c) rfl rfl) $$ [HD19 HP19 HO]
  · isplitl []; · iapply (plan.all_elim (pay m) c 19); iexact HA
    isplitl [HD19]; · iexact HD19
    isplitl [HP19]; · iexact HP19
    isplitl []; · iexact HL
    iexact HO
  iintro ⟨HO, Hb19, HS19⟩
  rw [wp_ret]
  imodintro
  unfold pay
  icases Hb18 with ⟨Hrow, Hw3⟩
  icases Hb19 with ⟨Hown, Hs3⟩
  isplitr [HO]
  · isplitr [HS0 HS1 HS2 HS3 HS4 HS5 HS6 HS7 HS8 HS9 HS10 HS11 HS12 HS13 HS14 HS15 HS16 HS17 HS18 HS19]
    · unfold Y
      rw [w_whole, s_whole, wall_whole, sall_whole]
      isplitl [Hb0 Hx0 Hb1 Hx1 Hb2 Hx2 Hw3]
      · isplitl [Hb0 Hx0]
        · isplitl [Hb0]; · iexact Hb0
          iexact Hx0
        isplitl [Hb1 Hx1]
        · isplitl [Hb1]; · iexact Hb1
          iexact Hx1
        isplitl [Hb2 Hx2]
        · isplitl [Hb2]; · iexact Hb2
          iexact Hx2
        iexact Hw3
      isplitl [Hb3 Hb4 Hb5 Hs3]
      · isplitl [Hb3]; · iexact Hb3
        isplitl [Hb4]; · iexact Hb4
        isplitl [Hb5]; · iexact Hb5
        iexact Hs3
      isplitl [Hrow Hb6 Hb15 Hb7 Hb16 Hb8 Hb17]
      · isplitl [Hrow]; · iexact Hrow
        isplitl [Hb6 Hb15]
        · isplitl [Hb6]; · iexact Hb6
          iexact Hb15
        isplitl [Hb7 Hb16]
        · isplitl [Hb7]; · iexact Hb7
          iexact Hb16
        isplitl [Hb8]; · iexact Hb8
        iexact Hb17
      isplitl [Hown]; · iexact Hown
      isplitl [Hb12]; · iexact Hb12
      isplitl [Hb13]; · iexact Hb13
      iexact Hb14
    iapply (sems_close c)
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    iexact HS19
  iexists _; iexact HO

/-! ## The deal -/

/-- What each copy writes, at the device it writes it on. -/
def dest (c : Dev nD) : Fin 20 → sProp 𝕄
  | 0 => iprop(emp)
  | 1 => iprop(emp)
  | 2 => iprop(emp)
  | 3 => iprop(emp)
  | 4 => iprop(emp)
  | 5 => iprop(emp)
  | 6 => iprop(emp)
  | 7 => iprop(emp)
  | 8 => iprop(emp)
  | 9 => slotPt c (chip (hop 0 c)) (core c) (m ((c : Thread nD τ).loc main_v1_0))
  | 10 => slotPt c (chip (hop 1 c)) (core c) (m ((c : Thread nD τ).loc main_v1_0))
  | 11 => slotPt c (chip (hop 2 c)) (core c) (m ((c : Thread nD τ).loc main_v1_0))
  | 12 => sslotPt c (chip (hop 0 c)) (m ((c : Thread nD τ).loc main_v1_1))
  | 13 => sslotPt c (chip (hop 1 c)) (m ((c : Thread nD τ).loc main_v1_1))
  | 14 => sslotPt c (chip (hop 2 c)) (m ((c : Thread nD τ).loc main_v1_1))
  | 15 => slotPt c (chip (hop 0 c)) (core (sib c)) (m ((c : Thread nD τ).loc main_v1_0))
  | 16 => slotPt c (chip (hop 1 c)) (core (sib c)) (m ((c : Thread nD τ).loc main_v1_0))
  | 17 => slotPt c (chip (hop 2 c)) (core (sib c)) (m ((c : Thread nD τ).loc main_v1_0))
  | 18 => iprop(emp)
  | 19 => iprop(emp)
  | ⟨n + 20, h⟩ => absurd h (by omega)

/-- What stays on the device. -/
def stay (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ rowPt c (chip c) (m ((c : Thread nD τ).loc main_v1_0)) ∗ sslotPt c (chip c) (m ((c : Thread nD τ).loc main_v1_1)))

theorem bufs (c : Dev nD) : (unscopedBufs c (fun b => m ((c : Thread nD τ).loc b)) : sProp 𝕄)
    = iprop((((c : Thread nD τ).loc main_arg0) ↦{fullShare} m ((c : Thread nD τ).loc main_arg0)) ∗ (((c : Thread nD τ).loc main_arg1) ↦{fullShare} m ((c : Thread nD τ).loc main_arg1))
      ∗ (((c : Thread nD τ).loc main_v1_0) ↦{fullShare} m ((c : Thread nD τ).loc main_v1_0)) ∗ (((c : Thread nD τ).loc main_v1_1) ↦{fullShare} m ((c : Thread nD τ).loc main_v1_1))) := by
  unfold unscopedBufs
  exact bigSep_eq_bigSepL_of_eq [main_arg0, main_arg1, main_v1_0, main_v1_1] (by decide) (by decide) _

theorem deal : (bigSep Finset.univ fun c : Dev nD => (unscopedBufs c (fun b => m ((c : Thread nD τ).loc b)) : sProp 𝕄)) ⊢ bigSep Finset.univ (B m) := by
  have h₁ : (bigSep Finset.univ fun c : Dev nD => (unscopedBufs c (fun b => m ((c : Thread nD τ).loc b)) : sProp 𝕄))
      ⊢ iprop((bigSep Finset.univ fun c : Dev nD => stay m c) ∗ bigSep Finset.univ fun c => bigSep Finset.univ fun k => dest m c k) := by
    refine BI.Entails.trans (bigSep_mono fun c _ => ?_) (Entails.of_eq (bigSep_sep _ _ _))
    rw [bufs, twenty, wall_whole, sall_whole]
    show (_ : sProp 𝕄) ⊢ iprop(stay m c ∗ emp ∗ emp ∗ emp ∗ emp ∗ emp ∗ emp ∗ emp ∗ emp ∗ emp ∗ slotPt c (chip (hop 0 c)) (core c) (m ((c : Thread nD τ).loc main_v1_0)) ∗ slotPt c (chip (hop 1 c)) (core c) (m ((c : Thread nD τ).loc main_v1_0)) ∗ slotPt c (chip (hop 2 c)) (core c) (m ((c : Thread nD τ).loc main_v1_0)) ∗ sslotPt c (chip (hop 0 c)) (m ((c : Thread nD τ).loc main_v1_1)) ∗ sslotPt c (chip (hop 1 c)) (m ((c : Thread nD τ).loc main_v1_1)) ∗ sslotPt c (chip (hop 2 c)) (m ((c : Thread nD τ).loc main_v1_1))
      ∗ slotPt c (chip (hop 0 c)) (core (sib c)) (m ((c : Thread nD τ).loc main_v1_0)) ∗ slotPt c (chip (hop 1 c)) (core (sib c)) (m ((c : Thread nD τ).loc main_v1_0)) ∗ slotPt c (chip (hop 2 c)) (core (sib c)) (m ((c : Thread nD τ).loc main_v1_0)) ∗ emp ∗ emp)
    unfold stay
    iintro ⟨Hw, Hs, ⟨Hrow, ⟨Hd0, Hf0⟩, ⟨Hd1, Hf1⟩, ⟨Hd2, Hf2⟩⟩, Hown, He0, He1, He2⟩
    isplitl [Hw Hs Hrow Hown]
    · isplitl [Hw]; · iexact Hw
      isplitl [Hs]; · iexact Hs
      isplitl [Hrow]; · iexact Hrow
      iexact Hown
    isplitr; · iempintro
    isplitr; · iempintro
    isplitr; · iempintro
    isplitr; · iempintro
    isplitr; · iempintro
    isplitr; · iempintro
    isplitr; · iempintro
    isplitr; · iempintro
    isplitr; · iempintro
    isplitl [Hd0]; · iexact Hd0
    isplitl [Hd1]; · iexact Hd1
    isplitl [Hd2]; · iexact Hd2
    isplitl [He0]; · iexact He0
    isplitl [He1]; · iexact He1
    isplitl [He2]; · iexact He2
    isplitl [Hf0]; · iexact Hf0
    isplitl [Hf1]; · iexact Hf1
    isplitl [Hf2]; · iexact Hf2
    isplitr; · iempintro
    iempintro
  refine h₁.trans ((BI.sep_mono (BI.Entails.refl _) (plan.deal (dest m))).trans ?_)
  refine (Entails.of_eq (bigSep_sep _ _ _).symm).trans (bigSep_mono fun c _ => ?_)
  rw [twenty]
  unfold B stay
  rw [w_whole, s_whole]
  show iprop(_ ∗ emp ∗ emp ∗ emp ∗ emp ∗ emp ∗ emp ∗ emp ∗ emp ∗ emp ∗ slotPt (hop 0 c) (chip (hop 0 (hop 0 c))) (core (hop 0 c)) (m ((hop 0 c : Thread nD τ).loc main_v1_0)) ∗ slotPt (hop 1 c) (chip (hop 1 (hop 1 c))) (core (hop 1 c)) (m ((hop 1 c : Thread nD τ).loc main_v1_0)) ∗ slotPt (hop 2 c) (chip (hop 2 (hop 2 c))) (core (hop 2 c)) (m ((hop 2 c : Thread nD τ).loc main_v1_0))
    ∗ sslotPt (hop 0 c) (chip (hop 0 (hop 0 c))) (m ((hop 0 c : Thread nD τ).loc main_v1_1)) ∗ sslotPt (hop 1 c) (chip (hop 1 (hop 1 c))) (m ((hop 1 c : Thread nD τ).loc main_v1_1)) ∗ sslotPt (hop 2 c) (chip (hop 2 (hop 2 c))) (m ((hop 2 c : Thread nD τ).loc main_v1_1))
    ∗ slotPt (sib c) (chip (hop 0 (sib c))) (core (sib (sib c))) (m ((sib c : Thread nD τ).loc main_v1_0)) ∗ slotPt (sib c) (chip (hop 1 (sib c))) (core (sib (sib c))) (m ((sib c : Thread nD τ).loc main_v1_0)) ∗ slotPt (sib c) (chip (hop 2 (sib c))) (core (sib (sib c))) (m ((sib c : Thread nD τ).loc main_v1_0)) ∗ emp ∗ emp) ⊢ (_ : sProp 𝕄)
  simp only [hop_hop, core_hop, chip_hop_sib, sib_sib]
  iintro ⟨⟨Hw, Hs, Hrow, Hown⟩, -, -, -, -, -, -, -, -, -, Hd0, Hd1, Hd2, He0, He1, He2, Hf0, Hf1, Hf2, -, -⟩
  isplitl [Hw]; · iexact Hw
  isplitl [Hs]; · iexact Hs
  isplitl [Hrow]; · iexact Hrow
  isplitl [Hown]; · iexact Hown
  isplitl [Hd0]; · iexact Hd0
  isplitl [Hd1]; · iexact Hd1
  isplitl [Hd2]; · iexact Hd2
  isplitl [He0]; · iexact He0
  isplitl [He1]; · iexact He1
  isplitl [He2]; · iexact He2
  isplitl [Hf0]; · iexact Hf0
  isplitl [Hf1]; · iexact Hf1
  iexact Hf2

/-! ## The run -/

/-- The proof data of the region: one body, before which the plan is ready. -/
def dats (_ : Fin 1) (c : Dev nD) : Dat τ (Elt F) Unit ℕ (UU nD τ sig) ℕ cfg0 c :=
  talkDat cfg0 c iprop(plan.ready (pay m) c ∗ B m c) iprop(Y m c ∗ ownSems0 plan.osem c) (plan.owed c plan.far)

theorem ownSemFacts : OwnSemFacts cfg0.spec plan.osem := by decide

/-- Every execution ends, with the weights and the small arrays of the four chips in each device's results, the arguments
    as they were, and every semaphore at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, (r.2.mem ((c : Thread nD τ).loc main_v1_0) = finW m c ∧ r.2.mem ((c : Thread nD τ).loc main_v1_1) = finS m c)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  run_talk (fun p => (cfgs p).toPCfg) (fun p => (cfgs p).toPCfg_adm) (dats m) cellOf_inj defs₀ Variants.none plan (pay m) m ρ (main (F := F))
    (0 : Fin 1) (fun _ => []) (B m) (Y m) (Y m)
    (hd := fun _ => rfl) (hmain := fun _ => rfl) (hnd := fun _ => List.nodup_singleton _) (hw := winFacts0.to₀) (ho := ownSemFacts) (hpre := inferInstance)
    (hN := N_0) (hrest := scopedRest0_eq)
    (hbody := fun c t W => body m _ c W) (hB := deal m)
    (hch := fun c => by
      show _ ⊢ (_ : sProp 𝕄)
      iintro ⟨⟨HY, -⟩, HO⟩
      isplitl [HY] <;> iassumption)
    (QY := fun c s => (s.mem ((c : Thread nD τ).loc main_v1_0) = finW m c ∧ s.mem ((c : Thread nD τ).loc main_v1_1) = finS m c)
        ∧ s.mem ((c : Thread nD τ).loc main_arg0) = m ((c : Thread nD τ).loc main_arg0)
        ∧ s.mem ((c : Thread nD τ).loc main_arg1) = m ((c : Thread nD τ).loc main_arg1))
    (hfin := fun c s' => by
      unfold Y
      iintro ⟨⟨Ha, Hs, Hv, Hw⟩, HSI⟩
      icombine HSI Ha gives %ha
      icombine HSI Hs gives %hs
      icombine HSI Hv gives %hv
      icombine HSI Hw gives %hw
      imodintro
      isplitr
      · ipureintro
        exact ⟨⟨Buf.eq_of_forall_mem_univ hv, Buf.eq_of_forall_mem_univ hw⟩, Buf.eq_of_forall_mem_univ ha, Buf.eq_of_forall_mem_univ hs⟩
      iexact HSI)
    (hQ := fun _ h hs => ⟨h, sem_eq_zero_of_scoped (by decide) hs⟩)

/-! ## The value -/

/-- From arguments that are the chips' parts of whole arrays, the first result of every device is the whole weights, as
    four rows of two halves. -/
theorem w_eq (a : (⟨3, ![8, 13312, 128]⟩ : Shape).Idx → Elt F .bf16)
    (hs : (⟨3, ![8, 13312, 128]⟩ : Shape).ShapeCasts ⟨4, ![4, 2, 13312, 128]⟩)
    (h : ∀ c : Dev nD, m ((c : Thread nD τ).loc main_arg0)
      = Layout.blockN ⟨3, ![2, 13312, 128]⟩ ⟨3, ![8, 13312, 128]⟩ (Layout.meshBlock [2, 2, 2] ![[0, 1], [], []] c) a) (c : Dev nD) :
    finW m c = shapeCast ⟨4, ![4, 2, 13312, 128]⟩ a hs := by
  funext i
  obtain ⟨d, t, p, q, rfl⟩ : ∃ d t p q, i = ix4 d t p q := ⟨i 0, i 1, i 2, i 3, eq_ix4 i⟩
  show m ((src c d t : Thread nD τ).loc main_arg0) (ix3 t p q) = _
  rw [h (src c d t)]
  have hc : (src c d t).val / 4 % 2 * 2 + (src c d t).val / 2 % 2 = d.val := by revert c d t; decide
  refine congrArg a (Eq.trans ?_ (Shape.reshapeEquiv_eq_of_rowMajor (y := ix3 (⟨2 * d.val + t.val, by omega⟩ : Fin 8) p q) _ ?_).symm)
  · funext b; apply Fin.ext
    match b with
    | ⟨0, _⟩ =>
      show ((src c d t).val / 4 % 2 * 2 + ((src c d t).val / 2 % 2 * 1 + 0)) * 2 + t.val = 2 * d.val + t.val
      omega
    | ⟨1, _⟩ => show 0 * 13312 + p.val = p.val; rw [Nat.zero_mul, Nat.zero_add]
    | ⟨2, _⟩ => show 0 * 128 + q.val = q.val; rw [Nat.zero_mul, Nat.zero_add]
  · rw [Shape.rowMajor_val_three, Shape.rowMajor_val_four]
    show ((2 * d.val + t.val) * 13312 + p.val) * 128 + q.val = ((d.val * 2 + t.val) * 13312 + p.val) * 128 + q.val
    ring

/-- And the second is the whole of the small arrays, as four slots. -/
theorem s_eq (a : (⟨2, ![192, 128]⟩ : Shape).Idx → Elt F .f32) (hs : (⟨2, ![192, 128]⟩ : Shape).ShapeCasts ⟨3, ![4, 48, 128]⟩)
    (h : ∀ c : Dev nD, m ((c : Thread nD τ).loc main_arg1)
      = Layout.blockN ⟨2, ![48, 128]⟩ ⟨2, ![192, 128]⟩ (Layout.meshBlock [2, 2, 2] ![[0, 1], []] c) a) (c : Dev nD) :
    finS m c = shapeCast ⟨3, ![4, 48, 128]⟩ a hs := by
  funext i
  obtain ⟨d, p, q, rfl⟩ : ∃ d p q, i = ix3 d p q := ⟨i 0, i 1, i 2, eq_ix3 i⟩
  show m ((at2 d (core c) : Thread nD τ).loc main_arg1) (ix2 p q) = _
  rw [h (at2 d (core c))]
  have hc : (at2 d (core c)).val / 4 % 2 * 2 + (at2 d (core c)).val / 2 % 2 = d.val := by revert c d; decide
  refine congrArg a (Shape.reshapeEquiv_eq_of_rowMajor _ ?_).symm
  rw [Shape.rowMajor_val_two, Shape.rowMajor_val_three]
  show (((at2 d (core c)).val / 4 % 2 * 2 + ((at2 d (core c)).val / 2 % 2 * 1 + 0)) * 48 + p.val) * 128 + (0 * 128 + q.val) = (d.val * 48 + p.val) * 128 + q.val
  rw [Nat.mul_one, Nat.add_zero, hc]
  ring

end Cert.WeightsProof

end
-- ==== Proof.AdamW.lean ====
/-
  One step of the optimizer, over an array of any shape, at the extended reals: what the kernel's body computes at an
  index, and what the reference's operations compute of whole arrays. A division and a square root have one meaning
  there, in a kernel and on the host, so the two agree operation by operation.
-/
module

public import Idealize.ShloMosaic.Lib.StableHlo
public import Idealize.ShloMosaic.PureOps.Ideal

@[expose] public section

noncomputable section

namespace Cert.AdamW

open Idealize.ShloMosaic

/-- The shape of a constant of the reference before it is spread over an array. -/
abbrev One : Shape := ⟨0, ![]⟩

variable {s : Shape}

/-- A constant of the step, by its word. -/
abbrev lit (b : BitVec 32) : Ideal .f32 := Scalar.ofBits .f32 b

/-- The new first moment: 0.9 m + 0.1 g. -/
def newM (g m : FVec Ideal s .f32) : FVec Ideal s .f32 := fun i =>
  FloatOps.addf (FloatOps.mulf (lit 0x3F666666#32) (m i)) (FloatOps.mulf (lit 0x3DCCCCCD#32) (g i))

/-- The new second moment: 0.999 v + 0.001 g². -/
def newV (g v : FVec Ideal s .f32) : FVec Ideal s .f32 := fun i =>
  FloatOps.addf (FloatOps.mulf (lit 0x3F7FBE77#32) (v i)) (FloatOps.mulf (lit 0x3A83126F#32) (FloatOps.mulf (g i) (g i)))

/-- The change of the weight: -0.001 (m̂ / (√v̂ + 1e-8) + 0.01 w), where m̂ and v̂ are the new moments over
    1 - 0.9¹⁰ and 1 - 0.999¹⁰. -/
def delta (w g m v : FVec Ideal s .f32) : FVec Ideal s .f32 := fun i =>
  FloatOps.mulf (lit 0xBA83126F#32)
    (FloatOps.addf
      (FloatOps.divf (FloatOps.divf (newM g m i) (lit 0x3F26BD02#32))
        (FloatOps.addf (FloatOps.sqrt (FloatOps.divf (newV g v i) (lit 0x3C231ACC#32))) (lit 0x322BCC77#32)))
      (FloatOps.mulf (lit 0x3C23D70A#32) (w i)))

variable (h : One.BroadcastsInDim s (![] : Fin 0 → Fin s.rank))

/-- A constant of the reference, spread over the array. -/
abbrev spread (b : BitVec 32) : FVec Ideal s .f32 := broadcastInDim s ![] h (constant (F := Ideal) One .f32 b)

/-- The reference's new first moment of arguments that agree with the kernel's is `newM` of the kernel's. -/
theorem newM_eq {g m g' m' : FVec Ideal s .f32} (hg : g' = g) (hm : m' = m) :
    addf (mulf (spread h 0x3F666666#32) m') (mulf (spread h 0x3DCCCCCD#32) g') = newM g m := by
  subst hg hm; rfl

/-- and its new second moment `newV`, -/
theorem newV_eq {g v g' v' : FVec Ideal s .f32} (hg : g' = g) (hv : v' = v) :
    addf (mulf (spread h 0x3F7FBE77#32) v') (mulf (spread h 0x3A83126F#32) (mulf g' g')) = newV g v := by
  subst hg hv; rfl

/-- and its change of the weight `delta`. -/
theorem delta_eq {w g m v w' g' m' v' : FVec Ideal s .f32} (hw : w' = w) (hg : g' = g) (hm : m' = m) (hv : v' = v) :
    mulf (spread h 0xBA83126F#32)
      (addf
        (Host.divf
          (Host.divf (addf (mulf (spread h 0x3F666666#32) m') (mulf (spread h 0x3DCCCCCD#32) g')) (spread h 0x3F26BD02#32))
          (addf (Host.sqrt (Host.divf (addf (mulf (spread h 0x3F7FBE77#32) v') (mulf (spread h 0x3A83126F#32) (mulf g' g')))
            (spread h 0x3C231ACC#32))) (spread h 0x322BCC77#32)))
        (mulf (spread h 0x3C23D70A#32) w')) = delta w g m v := by
  subst hw hg hm hv; rfl

end Cert.AdamW

end
-- ==== Proof.Steps.lean ====
/-
  The optimizer's step of every shape of weight: its frames, and that it computes at the extended reals what the
  reference computes. A kernel's result arrays are functions of its argument arrays, index by index, whatever its tiles;
  `AdamW` says that they are the reference's.
-/
module

public import proofs.«01_k».proof.Defs
public import proofs.«01_k».proof.Proof.Gen.MetaStep.Frame
public import proofs.«01_k».proof.Proof.Gen.MetaStepIdeal.Value
public import proofs.«01_k».proof.Proof.Gen.MetaStepRefIdeal.Run
public import proofs.«01_k».proof.Proof.Gen.NormStep.Frame
public import proofs.«01_k».proof.Proof.Gen.NormStepIdeal.Value
public import proofs.«01_k».proof.Proof.Gen.NormStepRefIdeal.Run
public import proofs.«01_k».proof.Proof.Gen.WInStep.Frame
public import proofs.«01_k».proof.Proof.Gen.WInStepIdeal.Value
public import proofs.«01_k».proof.Proof.Gen.WInStepRefIdeal.Run
public import proofs.«01_k».proof.Proof.Gen.ConvQkvStep.Frame
public import proofs.«01_k».proof.Proof.Gen.ConvQkvStepIdeal.Value
public import proofs.«01_k».proof.Proof.Gen.ConvQkvStepRefIdeal.Run
public import proofs.«01_k».proof.Proof.Gen.ALogStep.Frame
public import proofs.«01_k».proof.Proof.Gen.ALogStepIdeal.Value
public import proofs.«01_k».proof.Proof.Gen.ALogStepRefIdeal.Run
public import proofs.«01_k».proof.Proof.Gen.GdnNormStep.Frame
public import proofs.«01_k».proof.Proof.Gen.GdnNormStepIdeal.Value
public import proofs.«01_k».proof.Proof.Gen.GdnNormStepRefIdeal.Run
public import proofs.«01_k».proof.Proof.Gen.ConvScStep.Frame
public import proofs.«01_k».proof.Proof.Gen.ConvScStepIdeal.Value
public import proofs.«01_k».proof.Proof.Gen.ConvScStepRefIdeal.Run
public import proofs.«01_k».proof.Proof.Gen.WOutStep.Frame
public import proofs.«01_k».proof.Proof.Gen.WOutStepIdeal.Value
public import proofs.«01_k».proof.Proof.Gen.WOutStepRefIdeal.Run
public import proofs.«01_k».proof.Proof.Gen.WGateStep.Frame
public import proofs.«01_k».proof.Proof.Gen.WGateStepIdeal.Value
public import proofs.«01_k».proof.Proof.Gen.WGateStepRefIdeal.Run
public import proofs.«01_k».proof.Proof.Gen.WDownStep.Frame
public import proofs.«01_k».proof.Proof.Gen.WDownStepIdeal.Value
public import proofs.«01_k».proof.Proof.Gen.WDownStepRefIdeal.Run
public import proofs.«01_k».proof.Proof.AdamW
public import Idealize.ShloMosaic.Lib.Quiescent

@[expose] public section

noncomputable section

namespace Cert.Proof.Steps

open Idealize.ShloMosaic Idealize.ShloMosaic.TcCoe Idealize.SL.Sem Cert.AdamW

/-! ## The step of the meta tokens -/

theorem frame_meta : Cert.quiescent_MetaStep := fun m ρ _ => Cert.MetaStep.Gen.frame m ρ

theorem frame_metaIdeal : Cert.quiescent_MetaStepIdeal := fun m ρ _ => Cert.MetaStepIdeal.Gen.frame (F := Ideal) m ρ

theorem frame_metaRefIdeal : Cert.quiescent_MetaStepRefIdeal := fun m ρ _ =>
  (θ_run Cert.MetaStepRefIdeal.defs _ _).mono (fun r h => ⟨fun c => (h c).2.2.2, sem_eq_zero_of_no_sems rfl r.2⟩)
    (Cert.MetaStepRefIdeal.Value.run (F := Ideal) m ρ)

theorem algebraic_meta : Cert.algebraic_MetaStepIdeal_MetaStepRefIdeal := fun m ρ m' ρ' _ h =>
  ⟨_, _, _, Cert.MetaStepIdeal.Value.run (F := Ideal) m ρ,
    (θ_run Cert.MetaStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.MetaStepRefIdeal.Value.run (F := Ideal) m' ρ')⟩

/-! ## The step of a norm -/

theorem frame_norm : Cert.quiescent_NormStep := fun m ρ _ => Cert.NormStep.Gen.frame m ρ

theorem frame_normIdeal : Cert.quiescent_NormStepIdeal := fun m ρ _ => Cert.NormStepIdeal.Gen.frame (F := Ideal) m ρ

theorem frame_normRefIdeal : Cert.quiescent_NormStepRefIdeal := fun m ρ _ =>
  (θ_run Cert.NormStepRefIdeal.defs _ _).mono (fun r h => ⟨fun c => (h c).2.2.2, sem_eq_zero_of_no_sems rfl r.2⟩)
    (Cert.NormStepRefIdeal.Value.run (F := Ideal) m ρ)

theorem algebraic_norm : Cert.algebraic_NormStepIdeal_NormStepRefIdeal := fun m ρ m' ρ' _ h =>
  ⟨_, _, _, Cert.NormStepIdeal.Value.run (F := Ideal) m ρ,
    (θ_run Cert.NormStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.NormStepRefIdeal.Value.run (F := Ideal) m' ρ')⟩

/-! ## The step of w_in -/

theorem frame_wIn : Cert.quiescent_WInStep := fun m ρ _ => Cert.WInStep.Gen.frame m ρ

theorem frame_wInIdeal : Cert.quiescent_WInStepIdeal := fun m ρ _ => Cert.WInStepIdeal.Gen.frame (F := Ideal) m ρ

theorem frame_wInRefIdeal : Cert.quiescent_WInStepRefIdeal := fun m ρ _ =>
  (θ_run Cert.WInStepRefIdeal.defs _ _).mono (fun r h => ⟨fun c => (h c).2.2.2, sem_eq_zero_of_no_sems rfl r.2⟩)
    (Cert.WInStepRefIdeal.Value.run (F := Ideal) m ρ)

theorem algebraic_wIn : Cert.algebraic_WInStepIdeal_WInStepRefIdeal := fun m ρ m' ρ' _ h =>
  ⟨_, _, _, Cert.WInStepIdeal.Value.run (F := Ideal) m ρ,
    (θ_run Cert.WInStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.WInStepRefIdeal.Value.run (F := Ideal) m' ρ')⟩

/-! ## The step of conv_qkv -/

theorem frame_convQkv : Cert.quiescent_ConvQkvStep := fun m ρ _ => Cert.ConvQkvStep.Gen.frame m ρ

theorem frame_convQkvIdeal : Cert.quiescent_ConvQkvStepIdeal := fun m ρ _ => Cert.ConvQkvStepIdeal.Gen.frame (F := Ideal) m ρ

theorem frame_convQkvRefIdeal : Cert.quiescent_ConvQkvStepRefIdeal := fun m ρ _ =>
  (θ_run Cert.ConvQkvStepRefIdeal.defs _ _).mono (fun r h => ⟨fun c => (h c).2.2.2, sem_eq_zero_of_no_sems rfl r.2⟩)
    (Cert.ConvQkvStepRefIdeal.Value.run (F := Ideal) m ρ)

theorem algebraic_convQkv : Cert.algebraic_ConvQkvStepIdeal_ConvQkvStepRefIdeal := fun m ρ m' ρ' _ h =>
  ⟨_, _, _, Cert.ConvQkvStepIdeal.Value.run (F := Ideal) m ρ,
    (θ_run Cert.ConvQkvStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.ConvQkvStepRefIdeal.Value.run (F := Ideal) m' ρ')⟩

/-! ## The step of a_log or dt_bias -/

theorem frame_aLog : Cert.quiescent_ALogStep := fun m ρ _ => Cert.ALogStep.Gen.frame m ρ

theorem frame_aLogIdeal : Cert.quiescent_ALogStepIdeal := fun m ρ _ => Cert.ALogStepIdeal.Gen.frame (F := Ideal) m ρ

theorem frame_aLogRefIdeal : Cert.quiescent_ALogStepRefIdeal := fun m ρ _ =>
  (θ_run Cert.ALogStepRefIdeal.defs _ _).mono (fun r h => ⟨fun c => (h c).2.2.2, sem_eq_zero_of_no_sems rfl r.2⟩)
    (Cert.ALogStepRefIdeal.Value.run (F := Ideal) m ρ)

theorem algebraic_aLog : Cert.algebraic_ALogStepIdeal_ALogStepRefIdeal := fun m ρ m' ρ' _ h =>
  ⟨_, _, _, Cert.ALogStepIdeal.Value.run (F := Ideal) m ρ,
    (θ_run Cert.ALogStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.ALogStepRefIdeal.Value.run (F := Ideal) m' ρ')⟩

/-! ## The step of gdn_norm -/

theorem frame_gdnNorm : Cert.quiescent_GdnNormStep := fun m ρ _ => Cert.GdnNormStep.Gen.frame m ρ

theorem frame_gdnNormIdeal : Cert.quiescent_GdnNormStepIdeal := fun m ρ _ => Cert.GdnNormStepIdeal.Gen.frame (F := Ideal) m ρ

theorem frame_gdnNormRefIdeal : Cert.quiescent_GdnNormStepRefIdeal := fun m ρ _ =>
  (θ_run Cert.GdnNormStepRefIdeal.defs _ _).mono (fun r h => ⟨fun c => (h c).2.2.2, sem_eq_zero_of_no_sems rfl r.2⟩)
    (Cert.GdnNormStepRefIdeal.Value.run (F := Ideal) m ρ)

theorem algebraic_gdnNorm : Cert.algebraic_GdnNormStepIdeal_GdnNormStepRefIdeal := fun m ρ m' ρ' _ h =>
  ⟨_, _, _, Cert.GdnNormStepIdeal.Value.run (F := Ideal) m ρ,
    (θ_run Cert.GdnNormStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.GdnNormStepRefIdeal.Value.run (F := Ideal) m' ρ')⟩

/-! ## The step of conv_sc -/

theorem frame_convSc : Cert.quiescent_ConvScStep := fun m ρ _ => Cert.ConvScStep.Gen.frame m ρ

theorem frame_convScIdeal : Cert.quiescent_ConvScStepIdeal := fun m ρ _ => Cert.ConvScStepIdeal.Gen.frame (F := Ideal) m ρ

theorem frame_convScRefIdeal : Cert.quiescent_ConvScStepRefIdeal := fun m ρ _ =>
  (θ_run Cert.ConvScStepRefIdeal.defs _ _).mono (fun r h => ⟨fun c => (h c).2.2.2, sem_eq_zero_of_no_sems rfl r.2⟩)
    (Cert.ConvScStepRefIdeal.Value.run (F := Ideal) m ρ)

theorem algebraic_convSc : Cert.algebraic_ConvScStepIdeal_ConvScStepRefIdeal := fun m ρ m' ρ' _ h =>
  ⟨_, _, _, Cert.ConvScStepIdeal.Value.run (F := Ideal) m ρ,
    (θ_run Cert.ConvScStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.ConvScStepRefIdeal.Value.run (F := Ideal) m' ρ')⟩

/-! ## The step of w_out -/

theorem frame_wOut : Cert.quiescent_WOutStep := fun m ρ _ => Cert.WOutStep.Gen.frame m ρ

theorem frame_wOutIdeal : Cert.quiescent_WOutStepIdeal := fun m ρ _ => Cert.WOutStepIdeal.Gen.frame (F := Ideal) m ρ

theorem frame_wOutRefIdeal : Cert.quiescent_WOutStepRefIdeal := fun m ρ _ =>
  (θ_run Cert.WOutStepRefIdeal.defs _ _).mono (fun r h => ⟨fun c => (h c).2.2.2, sem_eq_zero_of_no_sems rfl r.2⟩)
    (Cert.WOutStepRefIdeal.Value.run (F := Ideal) m ρ)

theorem algebraic_wOut : Cert.algebraic_WOutStepIdeal_WOutStepRefIdeal := fun m ρ m' ρ' _ h =>
  ⟨_, _, _, Cert.WOutStepIdeal.Value.run (F := Ideal) m ρ,
    (θ_run Cert.WOutStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.WOutStepRefIdeal.Value.run (F := Ideal) m' ρ')⟩

/-! ## The step of w_gate or w_up -/

theorem frame_wGate : Cert.quiescent_WGateStep := fun m ρ _ => Cert.WGateStep.Gen.frame m ρ

theorem frame_wGateIdeal : Cert.quiescent_WGateStepIdeal := fun m ρ _ => Cert.WGateStepIdeal.Gen.frame (F := Ideal) m ρ

theorem frame_wGateRefIdeal : Cert.quiescent_WGateStepRefIdeal := fun m ρ _ =>
  (θ_run Cert.WGateStepRefIdeal.defs _ _).mono (fun r h => ⟨fun c => (h c).2.2.2, sem_eq_zero_of_no_sems rfl r.2⟩)
    (Cert.WGateStepRefIdeal.Value.run (F := Ideal) m ρ)

theorem algebraic_wGate : Cert.algebraic_WGateStepIdeal_WGateStepRefIdeal := fun m ρ m' ρ' _ h =>
  ⟨_, _, _, Cert.WGateStepIdeal.Value.run (F := Ideal) m ρ,
    (θ_run Cert.WGateStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.WGateStepRefIdeal.Value.run (F := Ideal) m' ρ')⟩

/-! ## The step of w_down -/

theorem frame_wDown : Cert.quiescent_WDownStep := fun m ρ _ => Cert.WDownStep.Gen.frame m ρ

theorem frame_wDownIdeal : Cert.quiescent_WDownStepIdeal := fun m ρ _ => Cert.WDownStepIdeal.Gen.frame (F := Ideal) m ρ

theorem frame_wDownRefIdeal : Cert.quiescent_WDownStepRefIdeal := fun m ρ _ =>
  (θ_run Cert.WDownStepRefIdeal.defs _ _).mono (fun r h => ⟨fun c => (h c).2.2.2, sem_eq_zero_of_no_sems rfl r.2⟩)
    (Cert.WDownStepRefIdeal.Value.run (F := Ideal) m ρ)

theorem algebraic_wDown : Cert.algebraic_WDownStepIdeal_WDownStepRefIdeal := fun m ρ m' ρ' _ h =>
  ⟨_, _, _, Cert.WDownStepIdeal.Value.run (F := Ideal) m ρ,
    (θ_run Cert.WDownStepRefIdeal.defs _ _).mono
      (fun _ r c => ⟨(r c).1.trans (delta_eq _ (h c).1 (h c).2.1 (h c).2.2.1 (h c).2.2.2),
        (r c).2.1.trans (newM_eq _ (h c).2.1 (h c).2.2.1), (r c).2.2.1.trans (newV_eq _ (h c).2.1 (h c).2.2.2), (r c).2.2.2⟩)
      (Cert.WDownStepRefIdeal.Value.run (F := Ideal) m' ρ')⟩

end Cert.Proof.Steps

end
-- ==== Proof.MidGrad.lean ====
/-
  The gradients between the two residual sums: of the first sum, of the mixers' output and of the weights of the two norms
  between them. Every gradient of rows is one of `InputGrad`'s, the second one of what the first leaves.
-/
module

public import proofs.«01_k».proof.Proof.InputGrad
public import proofs.«01_k».proof.Proof.Gen.MidGrad.Frame
public import proofs.«01_k».proof.Proof.Gen.MidGradIdeal.Value
public import proofs.«01_k».proof.Proof.Gen.MidGradRefIdeal.Run

@[expose] public section

noncomputable section

namespace Cert.Proof.MidGrad

open Idealize.ShloMosaic Idealize.ShloMosaic.TcCoe Idealize.SL.Sem Idealize.SL Idealize.SL.RA Cert.NormGrad
open Cert.Proof.InputGrad (Rows line gradX gradW meanSq slope meanSq_at slope_at rows_eq weight_eq)

/-- What a norm's gradient is of its rows alone. -/
def back {n : ℕ} (x : Rows n) (w : Rows 1) (u : Rows n) : Rows n := fun i =>
  inv (line x (i 0)) * (u i * w (ix2 0 (i 1)) - x i * inv (line x (i 0))
    * Ideal.div (∑ k, u (ix2 (i 0) k) * w (ix2 0 k) * (line x (i 0) k * inv (line x (i 0)))) len)

section Kernel

open Cert.MidGradIdeal Cert.MidGradIdeal.Gen Idealize.ShloMosaic.Pipeline

theorem pay10_eq (x : Rows 352) (w : Rows 1) (d u : Rows 352) : k0_pay10 (F := Ideal) x w u d = gradX x w d u := by
  funext y
  pointwise [k0_pay10, k0_pay8, k0_pay7, gradX, line]
  rfl

theorem pay9_eq (x u : Rows 352) : k0_pay9 (F := Ideal) x u = gradW x u := by
  funext y
  pointwise [k0_pay9, k0_pay8, k0_pay7, gradW, line]
  rfl

theorem pay4_eq (u x : Rows 352) (w : Rows 1) :
    k0_pay4 (F := Ideal) u x w (k0_pay11 x) (Scalar.ofBits .f32 0x44800000#32) = back x w u := by
  funext y
  pointwise [k0_pay4, k0_pay2, k0_pay1, k0_pay11, back, line]
  rfl

theorem pay3_eq (u x : Rows 352) :
    k0_pay3 (F := Ideal) u x (k0_pay11 x) (Scalar.ofBits .f32 0x44800000#32) = gradW x u := by
  funext y
  pointwise [k0_pay3, k0_pay2, k0_pay1, k0_pay11, gradW, line]
  rfl

variable (m : (ℓ : Loc nD τ sig) → Buf (Elt Ideal) ℓ) (ρ : Dev nD → PrngReg)

/-- The windows of rows are at the point's tile, the others at their only block. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem at_h (c : Dev nD) (t : Fin cfg0.N) (r : Fin 352) (k : Fin 1024) (h : t.val * 352 + r.val < 4224) :
    iblk m c 0 t (ix2 r k) = (m ((c : Thread nD τ).loc main_arg0) : Rows 4224) (ix2 ⟨t.val * 352 + r.val, h⟩ k) := by
  blk_ext! [iblk, V, idx0 t]

theorem at_x (c : Dev nD) (t : Fin cfg0.N) (r : Fin 352) (k : Fin 1024) (h : t.val * 352 + r.val < 4224) :
    iblk m c 1 t (ix2 r k) = (m ((c : Thread nD τ).loc main_arg1) : Rows 4224) (ix2 ⟨t.val * 352 + r.val, h⟩ k) := by
  blk_ext! [iblk, V, idx1 t]

theorem at_post (c : Dev nD) (t : Fin cfg0.N) (k : Fin 1024) :
    iblk m c 2 t (ix2 0 k) = (m ((c : Thread nD τ).loc main_arg2) : Rows 1) (ix2 0 k) := by
  blk_ext! [iblk, V, idx2 t]

theorem at_pre (c : Dev nD) (t : Fin cfg0.N) (k : Fin 1024) :
    iblk m c 3 t (ix2 0 k) = (m ((c : Thread nD τ).loc main_arg3) : Rows 1) (ix2 0 k) := by
  blk_ext! [iblk, V, idx3 t]

theorem at_d (c : Dev nD) (t : Fin cfg0.N) (r : Fin 352) (k : Fin 1024) (h : t.val * 352 + r.val < 4224) :
    iblk m c 4 t (ix2 r k) = (m ((c : Thread nD τ).loc main_arg4) : Rows 4224) (ix2 ⟨t.val * 352 + r.val, h⟩ k) := by
  blk_ext! [iblk, V, idx4 t]

theorem at_u (c : Dev nD) (t : Fin cfg0.N) (r : Fin 352) (k : Fin 1024) (h : t.val * 352 + r.val < 4224) :
    iblk m c 5 t (ix2 r k) = (m ((c : Thread nD τ).loc main_arg5) : Rows 4224) (ix2 ⟨t.val * 352 + r.val, h⟩ k) := by
  blk_ext! [iblk, V, idx5 t]

theorem line_h (c : Dev nD) (t : Fin cfg0.N) (r : Fin 352) (h : t.val * 352 + r.val < 4224) :
    line (iblk m c 0 t) r = line (m ((c : Thread nD τ).loc main_arg0) : Rows 4224) ⟨t.val * 352 + r.val, h⟩ :=
  funext fun k => at_h m c t r k h

theorem line_x (c : Dev nD) (t : Fin cfg0.N) (r : Fin 352) (h : t.val * 352 + r.val < 4224) :
    line (iblk m c 1 t) r = line (m ((c : Thread nD τ).loc main_arg1) : Rows 4224) ⟨t.val * 352 + r.val, h⟩ :=
  funext fun k => at_x m c t r k h

/-- The gradient of the first sum: of a tile's rows, and of all of them. -/
def sumT (c : Dev nD) (t : Fin cfg0.N) : Rows 352 := gradX (iblk m c 0 t) (iblk m c 3 t) (iblk m c 4 t) (iblk m c 5 t)
def sumA (c : Dev nD) : Rows 4224 := gradX (m ((c : Thread nD τ).loc main_arg0)) (m ((c : Thread nD τ).loc main_arg3))
  (m ((c : Thread nD τ).loc main_arg4)) (m ((c : Thread nD τ).loc main_arg5))

/-- The gradient of the mixers' output, likewise. -/
def mixT (c : Dev nD) (t : Fin cfg0.N) : Rows 352 := back (iblk m c 1 t) (iblk m c 2 t) (sumT m c t)
def mixA (c : Dev nD) : Rows 4224 :=
  back (m ((c : Thread nD τ).loc main_arg1)) (m ((c : Thread nD τ).loc main_arg2)) (sumA m c)

theorem tile_sum (c : Dev nD) (t : Fin cfg0.N) (r : Fin 352) (k : Fin 1024) (h : t.val * 352 + r.val < 4224) :
    sumT m c t (ix2 r k) = sumA m c (ix2 ⟨t.val * 352 + r.val, h⟩ k) := by
  simp only [sumT, sumA, gradX, ix2_0, ix2_1, line_h m c t r h, at_h m c t r _ h, at_pre, at_d m c t r _ h, at_u m c t r _ h]

theorem tile_mix (c : Dev nD) (t : Fin cfg0.N) (r : Fin 352) (k : Fin 1024) (h : t.val * 352 + r.val < 4224) :
    mixT m c t (ix2 r k) = mixA m c (ix2 ⟨t.val * 352 + r.val, h⟩ k) := by
  simp only [mixT, mixA, back, ix2_0, ix2_1, line_x m c t r h, at_x m c t r _ h, at_post, tile_sum m c t r _ h]

/-- What a point leaves of the gradients of rows. -/
theorem left_sum (c : Dev nD) (t : Fin cfg0.N) : (outsAt0 m c t.val t.isLt).1 = sumT m c t := by
  have hN : t.val < 12 := lt_of_lt_of_eq t.isLt N_0
  funext y
  by_cases h0 : t.val % 12 = 0
  · rw [outsAt0_A m c t h0 (by omega) h0 (by omega)]; frame_out; exact congrFun (pay10_eq _ _ _ _) y
  · rw [outsAt0_B m c t h0 (by omega) h0 (by omega)]; frame_out; exact congrFun (pay10_eq _ _ _ _) y

theorem left_mix (c : Dev nD) (t : Fin cfg0.N) : (outsAt0 m c t.val t.isLt).2.1 = mixT m c t := by
  have hN : t.val < 12 := lt_of_lt_of_eq t.isLt N_0
  funext y
  by_cases h0 : t.val % 12 = 0
  · rw [outsAt0_A m c t h0 (by omega) h0 (by omega)]; frame_out; rw [pay10_eq]; exact congrFun (pay4_eq _ _ _) y
  · rw [outsAt0_B m c t h0 (by omega) h0 (by omega)]; frame_out; rw [pay10_eq]; exact congrFun (pay4_eq _ _ _) y

/-- The kernel's gradient of the first sum. -/
theorem arr_sum (c : Dev nD) : (dats m 0 c).arrAt 6 cfg0.N = sumA m c := by
  refine (dats m 0 c).arrAt_eq_of_covers 6 _ (by decide +kernel) fun t hf y => ?_
  blk_simp
  rw [after0_6, left_sum]
  have hN : t.val < 12 := lt_of_lt_of_eq t.isLt N_0
  have hy : (y 0).val < 352 := (y 0).isLt
  have h : t.val * 352 + (y 0).val < 4224 := by omega
  refine (congrArg _ (ix2_eta (n0 := 352) (n1 := 1024) y).symm).trans ((tile_sum m c t (y 0) (y 1) h).trans (congrArg _ ?_))
  blk_ext [idx6 t]

/-- The kernel's gradient of the mixers' output. -/
theorem arr_mix (c : Dev nD) : (dats m 0 c).arrAt 7 cfg0.N = mixA m c := by
  refine (dats m 0 c).arrAt_eq_of_covers 7 _ (by decide +kernel) fun t hf y => ?_
  blk_simp
  rw [after0_7, left_mix]
  have hN : t.val < 12 := lt_of_lt_of_eq t.isLt N_0
  have hy : (y 0).val < 352 := (y 0).isLt
  have h : t.val * 352 + (y 0).val < 4224 := by omega
  refine (congrArg _ (ix2_eta (n0 := 352) (n1 := 1024) y).symm).trans ((tile_mix m c t (y 0) (y 1) h).trans (congrArg _ ?_))
  blk_ext [idx7 t]

/-- The kernel's gradients of the weights: the points' sums, added up. -/
theorem arr_pre (c : Dev nD) : (dats m 0 c).arrAt 8 cfg0.N = gradW (m ((c : Thread nD τ).loc main_arg0))
    (m ((c : Thread nD τ).loc main_arg5)) := by
  refine (dats m 0 c).arrAt_eq_of_after_last 8 t0_11 (by decide +kernel) _ fun j => ?_
  blk_simp
  rw [after0_8, Pipeline.eq_sum_fin_of_reset_step_apply_last (fun n h => (outsAt0 m c n h).2.2.1) 12 (fun _ => (0 : EReal))
    (fun t j => gradW (iblk m c 0 t) (iblk m c 5 t) j)
    (fun t h j => by
      have hN : t.val < 12 := lt_of_lt_of_eq t.isLt N_0
      rw [outsAt0_A m c t h (by omega) h (by omega)]; frame_out; rw [pay9_eq, zero_add])
    (fun t h j => by
      have hN : t.val < 12 := lt_of_lt_of_eq t.isLt N_0
      rw [outsAt0_B m c t h (by omega) h (by omega)]; frame_out; rw [pay9_eq]; pointwise [k0_pay5])
    (le_of_eq N_0) t0_11 rfl j]
  rw [zero_add]
  refine Fin.sum_mul_add_congr (S := 12) (n := 352) fun t r h => ?_
  exact congrArg₂ (· * ·) (at_u m c t r (j 1) h) (congrArg₂ (· * ·) (at_h m c t r (j 1) h) (congrArg inv (line_h m c t r h)))

theorem arr_post (c : Dev nD) : (dats m 0 c).arrAt 9 cfg0.N = gradW (m ((c : Thread nD τ).loc main_arg1)) (sumA m c) := by
  refine (dats m 0 c).arrAt_eq_of_after_last 9 t0_11 (by decide +kernel) _ fun j => ?_
  blk_simp
  rw [after0_9, Pipeline.eq_sum_fin_of_reset_step_apply_last (fun n h => (outsAt0 m c n h).2.2.2) 12 (fun _ => (0 : EReal))
    (fun t j => gradW (iblk m c 1 t) (sumT m c t) j)
    (fun t h j => by
      have hN : t.val < 12 := lt_of_lt_of_eq t.isLt N_0
      rw [outsAt0_A m c t h (by omega) h (by omega)]; frame_out; rw [pay10_eq, zero_add]; exact congrFun (pay3_eq _ _) j)
    (fun t h j => by
      have hN : t.val < 12 := lt_of_lt_of_eq t.isLt N_0
      rw [outsAt0_B m c t h (by omega) h (by omega)]; frame_out; rw [pay10_eq]
      refine Eq.trans (b := _ + k0_pay3 (F := Ideal) (sumT m c t) (iblk m c 1 t) (k0_pay11 (iblk m c 1 t)) (Scalar.ofBits .f32 0x44800000#32) j) ?_
        (congrArg _ (congrFun (pay3_eq _ _) j))
      pointwise [k0_pay6]; rfl)
    (le_of_eq N_0) t0_11 rfl j]
  rw [zero_add]
  refine Fin.sum_mul_add_congr (S := 12) (n := 352) fun t r h => ?_
  exact congrArg₂ (· * ·) (tile_sum m c t r (j 1) h) (congrArg₂ (· * ·) (at_x m c t r (j 1) h) (congrArg inv (line_x m c t r h)))

theorem frame : Cert.quiescent_MidGrad := fun m ρ _ => Cert.MidGrad.Gen.frame m ρ

theorem frameIdeal : Cert.quiescent_MidGradIdeal := fun m ρ _ => Cert.MidGradIdeal.Gen.frame (F := Ideal) m ρ

end Kernel

section Reference

open Cert.MidGradRefIdeal Cert.MidGradRefIdeal.Gen Cert.MidGradRefIdeal.Value

/-- A norm's gradient of its rows, as the reference writes it. -/
theorem back_eq (x : Rows 4224) (w : Rows 1) (u : Rows 4224) :
    truncf .bf16 (addf (addf (mulf (mulf u (broadcastInDim S4224x1024 ![0, 1] bcast_S1x1024_S4224x1024_0_1 w)) (broadcastInDim S4224x1024 ![0, 1] bcast_S4224x1_S4224x1024_0_1 (Host.rsqrt (meanSq x)))) (mulf x (broadcastInDim S4224x1024 ![0] bcast_S4224_S4224x1024_0 (slope x w u)))) (mulf (broadcastInDim S4224x1024 ![0] bcast_S4224_S4224x1024_0 (slope x w u)) x)) bitsLt_bf16_f32 = back x w u := by
  funext i
  pointwise [back, meanSq_at, slope_at]
  exact (row (line x (i 0)) (fun k => u (ix2 (i 0) k) * w (ix2 0 k)) (x i) (u i * w (ix2 0 (i 1)))).symm

variable (m : (ℓ : Loc nD τ sig) → Buf (Elt Ideal) ℓ) (c : Dev nD)

theorem out0 : addf (m ((c.tc : Thread nD τ).loc main_arg4)) (addf (addf (mulf (mulf (m ((c.tc : Thread nD τ).loc main_arg5)) (broadcastInDim S4224x1024 ![0, 1] bcast_S1x1024_S4224x1024_0_1 (m ((c.tc : Thread nD τ).loc main_arg3)))) (broadcastInDim S4224x1024 ![0, 1] bcast_S4224x1_S4224x1024_0_1 (Host.rsqrt (addf (Host.divf (broadcastInDim S4224x1 ![0] bcast_S4224_S4224x1_0 (Host.reduceAdd (mulf (m ((c.tc : Thread nD τ).loc main_arg0)) (m ((c.tc : Thread nD τ).loc main_arg0))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (mulf (m ((c.tc : Thread nD τ).loc main_arg0)) (broadcastInDim S4224x1024 ![0] bcast_S4224_S4224x1024_0 (Host.reduceAdd (Host.divf (mulf (shapeCast _ (Host.reduceAdd (mulf (m ((c.tc : Thread nD τ).loc main_arg0)) (mulf (m ((c.tc : Thread nD τ).loc main_arg5)) (broadcastInDim S4224x1024 ![0, 1] bcast_S1x1024_S4224x1024_0_1 (m ((c.tc : Thread nD τ).loc main_arg3))))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf (m ((c.tc : Thread nD τ).loc main_arg0)) (m ((c.tc : Thread nD τ).loc main_arg0))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf (m ((c.tc : Thread nD τ).loc main_arg0)) (m ((c.tc : Thread nD τ).loc main_arg0))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)))) (mulf (broadcastInDim S4224x1024 ![0] bcast_S4224_S4224x1024_0 (Host.reduceAdd (Host.divf (mulf (shapeCast _ (Host.reduceAdd (mulf (m ((c.tc : Thread nD τ).loc main_arg0)) (mulf (m ((c.tc : Thread nD τ).loc main_arg5)) (broadcastInDim S4224x1024 ![0, 1] bcast_S1x1024_S4224x1024_0_1 (m ((c.tc : Thread nD τ).loc main_arg3))))) (constant S_ .f32 0x00000000#32) reducesTo_S4224x1024_S4224_d1 h_S_) shapeCasts_S4224_S4224x1) (mulf (broadcastInDim S4224x1 ![] bcast_S_S4224x1 (constant S_ .f32 0xBF000000#32)) (Host.divf (Host.rsqrt (addf (Host.divf (broadcastInDim S4224x1 ![0] bcast_S4224_S4224x1_0 (Host.reduceAdd (mulf (m ((c.tc : Thread nD τ).loc main_arg0)) (m ((c.tc : Thread nD τ).loc main_arg0))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))) (addf (Host.divf (broadcastInDim S4224x1 ![0] bcast_S4224_S4224x1_0 (Host.reduceAdd (mulf (m ((c.tc : Thread nD τ).loc main_arg0)) (m ((c.tc : Thread nD τ).loc main_arg0))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1 ![] bcast_S_S4224x1 (constant S_ .f32 0x44800000#32))) (constant S_ .f32 0x00000000#32) reducesTo_S4224x1_S4224_d1 h_S_)) (m ((c.tc : Thread nD τ).loc main_arg0)))) = gradX (m ((c.tc : Thread nD τ).loc main_arg0)) (m ((c.tc : Thread nD τ).loc main_arg3))
      (m ((c.tc : Thread nD τ).loc main_arg4)) (m ((c.tc : Thread nD τ).loc main_arg5)) :=
  rows_eq (m ((c.tc : Thread nD τ).loc main_arg0)) (m ((c.tc : Thread nD τ).loc main_arg3))
    (m ((c.tc : Thread nD τ).loc main_arg4)) (m ((c.tc : Thread nD τ).loc main_arg5))

theorem out2 : shapeCast _ (Host.reduceAdd (mulf (mulf (m ((c.tc : Thread nD τ).loc main_arg0)) (broadcastInDim S4224x1024 ![0, 1] bcast_S4224x1_S4224x1024_0_1 (Host.rsqrt (addf (Host.divf (broadcastInDim S4224x1 ![0] bcast_S4224_S4224x1_0 (Host.reduceAdd (mulf (m ((c.tc : Thread nD τ).loc main_arg0)) (m ((c.tc : Thread nD τ).loc main_arg0))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (m ((c.tc : Thread nD τ).loc main_arg5))) (constant S_ .f32 0x00000000#32) reducesTo_S4224x1024_S1024_d0 h_S_) shapeCasts_S1024_S1x1024 = gradW (m ((c.tc : Thread nD τ).loc main_arg0)) (m ((c.tc : Thread nD τ).loc main_arg5)) :=
  weight_eq (m ((c.tc : Thread nD τ).loc main_arg0)) (m ((c.tc : Thread nD τ).loc main_arg5))

theorem out1 : res_main_v69 m c = back (m ((c.tc : Thread nD τ).loc main_arg1)) (m ((c.tc : Thread nD τ).loc main_arg2))
    (gradX (m ((c.tc : Thread nD τ).loc main_arg0)) (m ((c.tc : Thread nD τ).loc main_arg3))
      (m ((c.tc : Thread nD τ).loc main_arg4)) (m ((c.tc : Thread nD τ).loc main_arg5))) :=
  (back_eq (m ((c.tc : Thread nD τ).loc main_arg1)) (m ((c.tc : Thread nD τ).loc main_arg2)) _).trans
    (congrArg _ (rows_eq (m ((c.tc : Thread nD τ).loc main_arg0)) (m ((c.tc : Thread nD τ).loc main_arg3))
      (m ((c.tc : Thread nD τ).loc main_arg4)) (m ((c.tc : Thread nD τ).loc main_arg5))))

theorem out3 : res_main_v52 m c = gradW (m ((c.tc : Thread nD τ).loc main_arg1))
    (gradX (m ((c.tc : Thread nD τ).loc main_arg0)) (m ((c.tc : Thread nD τ).loc main_arg3))
      (m ((c.tc : Thread nD τ).loc main_arg4)) (m ((c.tc : Thread nD τ).loc main_arg5))) :=
  (weight_eq (m ((c.tc : Thread nD τ).loc main_arg1)) _).trans
    (congrArg _ (rows_eq (m ((c.tc : Thread nD τ).loc main_arg0)) (m ((c.tc : Thread nD τ).loc main_arg3))
      (m ((c.tc : Thread nD τ).loc main_arg4)) (m ((c.tc : Thread nD τ).loc main_arg5))))

theorem frameRef : Cert.quiescent_MidGradRefIdeal := fun m ρ _ =>
  (θ_run Cert.MidGradRefIdeal.defs _ _).mono (fun r h => ⟨fun c => (h c).2.2.2.2, sem_eq_zero_of_no_sems rfl r.2⟩)
    (Cert.MidGradRefIdeal.Value.run (F := Ideal) m ρ)

end Reference

/-- The reference's results in its arguments are the kernel's in its own, where those are the same. -/
theorem same (m : (ℓ : Loc Cert.MidGradIdeal.nD Cert.MidGradIdeal.τ Cert.MidGradIdeal.sig) → Buf (Elt Ideal) ℓ)
    (c : Dev Cert.MidGradIdeal.nD) (h x : Rows 4224) (p q : Rows 1) (d u : Rows 4224)
    (e0 : h = m ((c : Thread Cert.MidGradIdeal.nD Cert.MidGradIdeal.τ).loc Cert.MidGradIdeal.main_arg0))
    (e1 : x = m ((c : Thread Cert.MidGradIdeal.nD Cert.MidGradIdeal.τ).loc Cert.MidGradIdeal.main_arg1))
    (e2 : p = m ((c : Thread Cert.MidGradIdeal.nD Cert.MidGradIdeal.τ).loc Cert.MidGradIdeal.main_arg2))
    (e3 : q = m ((c : Thread Cert.MidGradIdeal.nD Cert.MidGradIdeal.τ).loc Cert.MidGradIdeal.main_arg3))
    (e4 : d = m ((c : Thread Cert.MidGradIdeal.nD Cert.MidGradIdeal.τ).loc Cert.MidGradIdeal.main_arg4))
    (e5 : u = m ((c : Thread Cert.MidGradIdeal.nD Cert.MidGradIdeal.τ).loc Cert.MidGradIdeal.main_arg5)) :
    gradX h q d u = sumA m c ∧ back x p (gradX h q d u) = mixA m c
      ∧ gradW h u = gradW (m ((c : Thread Cert.MidGradIdeal.nD Cert.MidGradIdeal.τ).loc Cert.MidGradIdeal.main_arg0))
        (m ((c : Thread Cert.MidGradIdeal.nD Cert.MidGradIdeal.τ).loc Cert.MidGradIdeal.main_arg5))
      ∧ gradW x (gradX h q d u)
        = gradW (m ((c : Thread Cert.MidGradIdeal.nD Cert.MidGradIdeal.τ).loc Cert.MidGradIdeal.main_arg1)) (sumA m c) := by
  subst e0 e1 e2 e3 e4 e5
  exact ⟨rfl, rfl, rfl, rfl⟩

theorem algebraic : Cert.algebraic_MidGradIdeal_MidGradRefIdeal := fun m ρ m' ρ' _ h =>
  ⟨_, _, _, _, (θ_run Cert.MidGradIdeal.defs _ _).mono
      (fun _ r c => ⟨(r c).1.trans (arr_sum m c), (r c).2.1.trans (arr_mix m c), (r c).2.2.1.trans (arr_pre m c),
        (r c).2.2.2.1.trans (arr_post m c), (r c).2.2.2.2⟩)
      (Cert.MidGradIdeal.Value.run_blocks (F := Ideal) m ρ),
    (θ_run Cert.MidGradRefIdeal.defs _ _).mono
      (fun _ r c =>
        have s := same m c _ _ _ _ _ _ (h c).1 (h c).2.1 (h c).2.2.1 (h c).2.2.2.1 (h c).2.2.2.2.1 (h c).2.2.2.2.2
        ⟨(r c).1.trans ((out0 m' c).trans s.1), (r c).2.1.trans ((out1 m' c).trans s.2.1),
          (r c).2.2.1.trans ((out2 m' c).trans s.2.2.1), (r c).2.2.2.1.trans ((out3 m' c).trans s.2.2.2), (r c).2.2.2.2⟩)
      (Cert.MidGradRefIdeal.Value.run (F := Ideal) m' ρ')⟩

end Cert.Proof.MidGrad
-- ==== Proof.FirstNorm.lean ====
/-
  The first norm of a layer: every tile of rows is normed by the kernel as the reference norms all rows.
-/
module

public import proofs.«01_k».proof.Proof.InputGrad
public import proofs.«01_k».proof.Proof.Gen.FirstNorm.Frame
public import proofs.«01_k».proof.Proof.Gen.FirstNormIdeal.Value
public import proofs.«01_k».proof.Proof.Gen.FirstNormRefIdeal.Run

@[expose] public section

noncomputable section

namespace Cert.Proof.FirstNorm

open Idealize.ShloMosaic Idealize.ShloMosaic.TcCoe Idealize.SL.Sem Idealize.SL Idealize.SL.RA Cert.NormGrad
open Cert.Proof.InputGrad (Rows line meanSq meanSq_at)

/-- The normed rows. -/
def normed {n : ℕ} (x : Rows n) (w : Rows 1) : Rows n := fun i => x i * inv (line x (i 0)) * w (ix2 0 (i 1))

section Kernel

open Cert.FirstNormIdeal Cert.FirstNormIdeal.Gen Idealize.ShloMosaic.Pipeline

theorem pay1_eq (x : Rows 352) (w : Rows 1) : k0_pay1 (F := Ideal) x w = normed x w := by
  funext y
  pointwise [k0_pay1, normed, line]
  rfl

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_x (c : Dev nD) (t : Fin cfg0.N) (r : Fin 352) (k : Fin 1024) (h : t.val * 352 + r.val < 4224) :
    iblk m c 0 t (ix2 r k) = (m ((c : Thread nD τ).loc main_arg0) : Rows 4224) (ix2 ⟨t.val * 352 + r.val, h⟩ k) := by
  blk_ext! [iblk, V, idx0 t]

theorem at_w (c : Dev nD) (t : Fin cfg0.N) (k : Fin 1024) :
    iblk m c 1 t (ix2 0 k) = (m ((c : Thread nD τ).loc main_arg1) : Rows 1) (ix2 0 k) := by
  blk_ext! [iblk, V, idx1 t]

theorem line_x (c : Dev nD) (t : Fin cfg0.N) (r : Fin 352) (h : t.val * 352 + r.val < 4224) :
    line (iblk m c 0 t) r = line (m ((c : Thread nD τ).loc main_arg0) : Rows 4224) ⟨t.val * 352 + r.val, h⟩ :=
  funext fun k => at_x m c t r k h

theorem tile (c : Dev nD) (t : Fin cfg0.N) (r : Fin 352) (k : Fin 1024) (h : t.val * 352 + r.val < 4224) :
    normed (iblk m c 0 t) (iblk m c 1 t) (ix2 r k)
      = normed (m ((c : Thread nD τ).loc main_arg0)) (m ((c : Thread nD τ).loc main_arg1)) (ix2 ⟨t.val * 352 + r.val, h⟩ k) := by
  simp only [normed, ix2_0, ix2_1, line_x m c t r h, at_x m c t r _ h, at_w]

theorem left (c : Dev nD) (t : Fin cfg0.N) :
    out0_2 (iblk m c 0 t) (iblk m c 1 t) = normed (iblk m c 0 t) (iblk m c 1 t) := by
  funext y
  frame_out
  exact congrFun (pay1_eq _ _) y

/-- The kernel's result. -/
theorem arr (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2, left]
  have hN : t.val < 12 := lt_of_lt_of_eq t.isLt N_0
  have hy : (y 0).val < 352 := (y 0).isLt
  have h : t.val * 352 + (y 0).val < 4224 := by omega
  refine (congrArg _ (ix2_eta (n0 := 352) (n1 := 1024) y).symm).trans ((tile m c t (y 0) (y 1) h).trans (congrArg _ ?_))
  blk_ext [idx2 t]

theorem frame : Cert.quiescent_FirstNorm := fun m ρ _ => Cert.FirstNorm.Gen.frame m ρ

theorem frameIdeal : Cert.quiescent_FirstNormIdeal := fun m ρ _ => Cert.FirstNormIdeal.Gen.frame (F := Ideal) m ρ

end Kernel

section Reference

open Cert.FirstNormRefIdeal Cert.FirstNormRefIdeal.Gen

/-- The reference's result. -/
theorem norm_eq (x : Rows 4224) (w : Rows 1) :
    truncf .bf16 (mulf (mulf x (broadcastInDim S4224x1024 ![0, 1] bcast_S4224x1_S4224x1024_0_1 (Host.rsqrt (meanSq x)))) (broadcastInDim S4224x1024 ![0, 1] bcast_S1x1024_S4224x1024_0_1 w)) bitsLt_bf16_f32 = normed x w := by
  funext i
  pointwise [normed, meanSq_at]
  rfl

theorem frameRef : Cert.quiescent_FirstNormRefIdeal := fun m ρ _ =>
  (θ_run Cert.FirstNormRefIdeal.defs _ _).mono (fun r h => ⟨fun c => (h c).2, sem_eq_zero_of_no_sems rfl r.2⟩)
    (Cert.FirstNormRefIdeal.Value.run (F := Ideal) m ρ)

end Reference

theorem algebraic : Cert.algebraic_FirstNormIdeal_FirstNormRefIdeal := fun m ρ m' ρ' _ h =>
  ⟨_, (θ_run Cert.FirstNormIdeal.defs _ _).mono (fun _ r c => ⟨(r c).1.trans (arr m c), (r c).2⟩)
      (Cert.FirstNormIdeal.Value.run_blocks (F := Ideal) m ρ),
    (θ_run Cert.FirstNormRefIdeal.defs _ _).mono
      (fun _ r c => ⟨(r c).1.trans (by rw [(h c).1, (h c).2]; exact norm_eq _ _), (r c).2⟩)
      (Cert.FirstNormRefIdeal.Value.run (F := Ideal) m' ρ')⟩

end Cert.Proof.FirstNorm
-- ==== Proof.Residual.lean ====
/-
  The residual sum after the mixers, and its norm: the kernel's results, tile by tile of rows, are the reference's.
-/
module

public import proofs.«01_k».proof.Proof.InputGrad
public import proofs.«01_k».proof.Proof.Gen.Residual.Frame
public import proofs.«01_k».proof.Proof.Gen.ResidualIdeal.Value
public import proofs.«01_k».proof.Proof.Gen.ResidualRefIdeal.Run
public import proofs.«01_k».proof.Proof.FirstNorm

@[expose] public section

noncomputable section

namespace Cert.Proof.Residual

open Idealize.ShloMosaic Idealize.ShloMosaic.TcCoe Idealize.SL.Sem Idealize.SL Idealize.SL.RA Cert.NormGrad
open Cert.Proof.InputGrad (Rows line meanSq meanSq_at)

open Cert.Proof.FirstNorm (normed)

/-- The rows with another array's normed rows added. -/
def sum {n : ℕ} (h x : Rows n) (p : Rows 1) : Rows n := fun i => h i + normed x p i

section Kernel

open Cert.ResidualIdeal Cert.ResidualIdeal.Gen Idealize.ShloMosaic.Pipeline

theorem pay1_eq (h x : Rows 352) (p : Rows 1) : k0_pay1 (F := Ideal) h x p = sum h x p := by
  funext y
  pointwise [k0_pay1, sum, normed, line]
  rfl

theorem pay2_eq (h x : Rows 352) (p q : Rows 1) : k0_pay2 (F := Ideal) h x p q = normed (sum h x p) q := by
  funext y
  pointwise [k0_pay2, pay1_eq, normed, line]
  rfl

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem at_h (c : Dev nD) (t : Fin cfg0.N) (r : Fin 352) (k : Fin 1024) (h : t.val * 352 + r.val < 4224) :
    iblk m c 0 t (ix2 r k) = (m ((c : Thread nD τ).loc main_arg0) : Rows 4224) (ix2 ⟨t.val * 352 + r.val, h⟩ k) := by
  blk_ext! [iblk, V, idx0 t]

theorem at_x (c : Dev nD) (t : Fin cfg0.N) (r : Fin 352) (k : Fin 1024) (h : t.val * 352 + r.val < 4224) :
    iblk m c 1 t (ix2 r k) = (m ((c : Thread nD τ).loc main_arg1) : Rows 4224) (ix2 ⟨t.val * 352 + r.val, h⟩ k) := by
  blk_ext! [iblk, V, idx1 t]

theorem at_p (c : Dev nD) (t : Fin cfg0.N) (k : Fin 1024) :
    iblk m c 2 t (ix2 0 k) = (m ((c : Thread nD τ).loc main_arg2) : Rows 1) (ix2 0 k) := by
  blk_ext! [iblk, V, idx2 t]

theorem at_q (c : Dev nD) (t : Fin cfg0.N) (k : Fin 1024) :
    iblk m c 3 t (ix2 0 k) = (m ((c : Thread nD τ).loc main_arg3) : Rows 1) (ix2 0 k) := by
  blk_ext! [iblk, V, idx3 t]

theorem line_x (c : Dev nD) (t : Fin cfg0.N) (r : Fin 352) (h : t.val * 352 + r.val < 4224) :
    line (iblk m c 1 t) r = line (m ((c : Thread nD τ).loc main_arg1) : Rows 4224) ⟨t.val * 352 + r.val, h⟩ :=
  funext fun k => at_x m c t r k h

/-- The sum of a tile's rows, and of all rows. -/
def sumT (c : Dev nD) (t : Fin cfg0.N) : Rows 352 := sum (iblk m c 0 t) (iblk m c 1 t) (iblk m c 2 t)
def sumA (c : Dev nD) : Rows 4224 :=
  sum (m ((c : Thread nD τ).loc main_arg0)) (m ((c : Thread nD τ).loc main_arg1)) (m ((c : Thread nD τ).loc main_arg2))

theorem tile_sum (c : Dev nD) (t : Fin cfg0.N) (r : Fin 352) (k : Fin 1024) (h : t.val * 352 + r.val < 4224) :
    sumT m c t (ix2 r k) = sumA m c (ix2 ⟨t.val * 352 + r.val, h⟩ k) := by
  simp only [sumT, sumA, sum, normed, ix2_0, ix2_1, line_x m c t r h, at_x m c t r _ h, at_h m c t r _ h, at_p]

theorem line_sum (c : Dev nD) (t : Fin cfg0.N) (r : Fin 352) (h : t.val * 352 + r.val < 4224) :
    line (sumT m c t) r = line (sumA m c) ⟨t.val * 352 + r.val, h⟩ :=
  funext fun k => tile_sum m c t r k h

theorem tile_norm (c : Dev nD) (t : Fin cfg0.N) (r : Fin 352) (k : Fin 1024) (h : t.val * 352 + r.val < 4224) :
    normed (sumT m c t) (iblk m c 3 t) (ix2 r k)
      = normed (sumA m c) (m ((c : Thread nD τ).loc main_arg3)) (ix2 ⟨t.val * 352 + r.val, h⟩ k) := by
  simp only [normed, ix2_0, ix2_1, line_sum m c t r h, tile_sum m c t r _ h, at_q]

/-- The kernel's sum. -/
theorem arr_sum (c : Dev nD) : (dats m 0 c).arrAt 4 cfg0.N = sumA m c := by
  refine (dats m 0 c).arrAt_eq_of_covers 4 _ (by decide +kernel) fun t hf y => ?_
  blk_simp
  rw [after0_4]
  have hN : t.val < 12 := lt_of_lt_of_eq t.isLt N_0
  have hy : (y 0).val < 352 := (y 0).isLt
  have h : t.val * 352 + (y 0).val < 4224 := by omega
  refine Eq.trans (b := sumT m c t y) (by frame_out; exact congrFun (pay1_eq _ _ _) y) ?_
  refine (congrArg _ (ix2_eta (n0 := 352) (n1 := 1024) y).symm).trans ((tile_sum m c t (y 0) (y 1) h).trans (congrArg _ ?_))
  blk_ext [idx4 t]

/-- The kernel's normed sum. -/
theorem arr_norm (c : Dev nD) : (dats m 0 c).arrAt 5 cfg0.N = normed (sumA m c) (m ((c : Thread nD τ).loc main_arg3)) := by
  refine (dats m 0 c).arrAt_eq_of_covers 5 _ (by decide +kernel) fun t hf y => ?_
  blk_simp
  rw [after0_5]
  have hN : t.val < 12 := lt_of_lt_of_eq t.isLt N_0
  have hy : (y 0).val < 352 := (y 0).isLt
  have h : t.val * 352 + (y 0).val < 4224 := by omega
  refine Eq.trans (b := normed (sumT m c t) (iblk m c 3 t) y) (by frame_out; exact congrFun (pay2_eq _ _ _ _) y) ?_
  refine (congrArg _ (ix2_eta (n0 := 352) (n1 := 1024) y).symm).trans ((tile_norm m c t (y 0) (y 1) h).trans (congrArg _ ?_))
  blk_ext [idx5 t]

theorem frame : Cert.quiescent_Residual := fun m ρ _ => Cert.Residual.Gen.frame m ρ

theorem frameIdeal : Cert.quiescent_ResidualIdeal := fun m ρ _ => Cert.ResidualIdeal.Gen.frame (F := Ideal) m ρ

end Kernel

section Reference

open Cert.ResidualRefIdeal Cert.ResidualRefIdeal.Gen

/-- The reference's sum. -/
theorem sum_eq (h x : Rows 4224) (p : Rows 1) :
    addf h (mulf (mulf x (broadcastInDim S4224x1024 ![0, 1] bcast_S4224x1_S4224x1024_0_1 (Host.rsqrt (meanSq x)))) (broadcastInDim S4224x1024 ![0, 1] bcast_S1x1024_S4224x1024_0_1 p)) = sum h x p := by
  funext i
  pointwise [sum, normed, meanSq_at]
  rfl

/-- The reference's norm of it. -/
theorem norm_eq (s : Rows 4224) (q : Rows 1) :
    truncf .bf16 (mulf (mulf s (broadcastInDim S4224x1024 ![0, 1] bcast_S4224x1_S4224x1024_0_1 (Host.rsqrt (meanSq s)))) (broadcastInDim S4224x1024 ![0, 1] bcast_S1x1024_S4224x1024_0_1 q)) bitsLt_bf16_f32 = normed s q := by
  funext i
  pointwise [normed, meanSq_at]
  rfl

theorem frameRef : Cert.quiescent_ResidualRefIdeal := fun m ρ _ =>
  (θ_run Cert.ResidualRefIdeal.defs _ _).mono (fun r h => ⟨fun c => (h c).2.2, sem_eq_zero_of_no_sems rfl r.2⟩)
    (Cert.ResidualRefIdeal.Value.run (F := Ideal) m ρ)

end Reference

theorem algebraic : Cert.algebraic_ResidualIdeal_ResidualRefIdeal := fun m ρ m' ρ' _ h =>
  ⟨_, _, (θ_run Cert.ResidualIdeal.defs _ _).mono
      (fun _ r c => ⟨(r c).1.trans (arr_sum m c), (r c).2.1.trans (arr_norm m c), (r c).2.2⟩)
      (Cert.ResidualIdeal.Value.run_blocks (F := Ideal) m ρ),
    (θ_run Cert.ResidualRefIdeal.defs _ _).mono
      (fun _ r c => ⟨(r c).1.trans (by rw [(h c).1, (h c).2.1, (h c).2.2.1]; exact sum_eq _ _ _),
        (r c).2.1.trans (by
          rw [(h c).1, (h c).2.1, (h c).2.2.1, (h c).2.2.2]
          exact (norm_eq _ _).trans (congrArg (normed · _) (sum_eq _ _ _))), (r c).2.2⟩)
      (Cert.ResidualRefIdeal.Value.run (F := Ideal) m' ρ')⟩

end Cert.Proof.Residual
-- ==== Proof.Swiglu.lean ====
/-
  The gated hidden layer's activation: the kernel's entries are the reference's.
-/
module

public import proofs.«01_k».proof.Defs
public import proofs.«01_k».proof.Proof.Gen.Swiglu.Frame
public import proofs.«01_k».proof.Proof.Gen.SwigluIdeal.Value
public import proofs.«01_k».proof.Proof.Gen.SwigluRefIdeal.Run
public import Idealize.ShloMosaic.Lib.Pipeline.ValueKit.Point
public import Idealize.ShloMosaic.Lib.Quiescent

@[expose] public section

noncomputable section

namespace Cert.Proof.Swiglu

open Idealize.ShloMosaic Idealize.ShloMosaic.TcCoe Idealize.SL.Sem Idealize.SL Idealize.SL.RA

/-- Rows of gates, with the rows they multiply beside them, and rows of as many results. -/
abbrev Pairs (n : ℕ) := FVec Ideal ⟨2, ![n, 5632]⟩ .f32
abbrev Halves (n : ℕ) := FVec Ideal ⟨2, ![n, 2816]⟩ .bf16

/-- A gate's part. -/
def gate (g : EReal) : EReal := g * Ideal.div 1 (1 + Ideal.exp (-g))

/-- The activation. -/
def act {n : ℕ} (x : Pairs n) : Halves n := fun i =>
  gate (x (ix2 (i 0) ⟨(i 1).val, lt_trans (i 1).isLt (by decide : 2816 < 5632)⟩))
    * x (ix2 (i 0) ⟨2816 + (i 1).val, Nat.add_lt_add_left (i 1).isLt 2816⟩)

section Kernel

open Cert.SwigluIdeal Cert.SwigluIdeal.Gen Idealize.ShloMosaic.Pipeline

theorem pay1_at (g u : FVec Ideal S176x2816 .f32) (y : S176x2816.Idx) : k0_pay1 (F := Ideal) g u y = gate (g y) * u y := by
  pointwise [k0_pay1]
  rw [zero_sub]
  rfl

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)

theorem at_x (c : Dev nD) (t : Fin cfg0.N) (r : Fin 176) (k : Fin 5632) (h : t.val * 176 + r.val < 4224) :
    iblk m c 0 t (ix2 r k) = (m ((c : Thread nD τ).loc main_arg0) : Pairs 4224) (ix2 ⟨t.val * 176 + r.val, h⟩ k) := by
  blk_ext! [iblk, V, idx0 t]

theorem tile (c : Dev nD) (t : Fin cfg0.N) (r : Fin 176) (k : Fin 2816) (h : t.val * 176 + r.val < 4224) :
    act (iblk m c 0 t) (ix2 r k) = act (m ((c : Thread nD τ).loc main_arg0)) (ix2 ⟨t.val * 176 + r.val, h⟩ k) := by
  simp only [act, ix2_0, ix2_1, at_x m c t r _ h]

theorem left (c : Dev nD) (t : Fin cfg0.N) : out0_1 (iblk m c 0 t) = act (iblk m c 0 t) := by
  funext y
  frame_out
  refine (pay1_at _ _ y).trans ?_
  exact congrArg₂ (fun a b => gate a * b)
    (View.ld_unit_apply_of _ _ _ _ _ _ (Fin.forall_fin_two.2 ⟨(Nat.zero_add _).symm, (Nat.zero_add _).symm⟩))
    (View.ld_unit_apply_of _ _ _ _ _ _ (Fin.forall_fin_two.2 ⟨(Nat.zero_add _).symm, rfl⟩))

/-- The kernel's result. -/
theorem arr (c : Dev nD) : (dats m 0 c).arrAt 1 cfg0.N = act (m ((c : Thread nD τ).loc main_arg0)) := by
  refine (dats m 0 c).arrAt_eq_of_covers 1 _ (by decide +kernel) fun t hf y => ?_
  blk_simp
  rw [after0_1, left]
  have hN : t.val < 24 := lt_of_lt_of_eq t.isLt N_0
  have hy : (y 0).val < 176 := (y 0).isLt
  have h : t.val * 176 + (y 0).val < 4224 := by omega
  refine (congrArg _ (ix2_eta (n0 := 176) (n1 := 2816) y).symm).trans ((tile m c t (y 0) (y 1) h).trans (congrArg _ ?_))
  blk_ext [idx1 t]

theorem frame : Cert.quiescent_Swiglu := fun m ρ _ => Cert.Swiglu.Gen.frame m ρ

theorem frameIdeal : Cert.quiescent_SwigluIdeal := fun m ρ _ => Cert.SwigluIdeal.Gen.frame (F := Ideal) m ρ

end Kernel

section Reference

open Cert.SwigluRefIdeal Cert.SwigluRefIdeal.Gen

/-- The reference's result. -/
theorem act_eq (x : Pairs 4224) :
    truncf .bf16 (mulf (mulf (extractStridedSlice S4224x2816 ![0, 0] x slices_S4224x5632_S4224x2816_0_0) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] x slices_S4224x5632_S4224x2816_0_0)))))) (extractStridedSlice S4224x2816 ![0, 2816] x slices_S4224x5632_S4224x2816_0_2816)) bitsLt_bf16_f32 = act x := by
  funext i
  pointwise [act, gate]

theorem frameRef : Cert.quiescent_SwigluRefIdeal := fun m ρ _ =>
  (θ_run Cert.SwigluRefIdeal.defs _ _).mono (fun r h => ⟨fun c => (h c).2, sem_eq_zero_of_no_sems rfl r.2⟩)
    (Cert.SwigluRefIdeal.Value.run (F := Ideal) m ρ)

end Reference

theorem algebraic : Cert.algebraic_SwigluIdeal_SwigluRefIdeal := fun m ρ m' ρ' _ h =>
  ⟨_, (θ_run Cert.SwigluIdeal.defs _ _).mono (fun _ r c => ⟨(r c).1.trans (arr m c), (r c).2⟩)
      (Cert.SwigluIdeal.Value.run_blocks (F := Ideal) m ρ),
    (θ_run Cert.SwigluRefIdeal.defs _ _).mono
      (fun _ r c => ⟨(r c).1.trans (by rw [h c]; exact act_eq _), (r c).2⟩)
      (Cert.SwigluRefIdeal.Value.run (F := Ideal) m' ρ')⟩

end Cert.Proof.Swiglu
-- ==== Proof.LossHead.lean ====
/-
  The loss's call: the gradients of the first residual sum, of the feed-forward block's output and of the last norm's weight,
  and the sum of the squares of the differences from the target, over the rows that are tokens.
-/
module

public import proofs.«01_k».proof.Proof.MidGrad
public import proofs.«01_k».proof.Proof.Gen.LossHead.Frame
public import proofs.«01_k».proof.Proof.Gen.LossHeadIdeal.Value
public import proofs.«01_k».proof.Proof.Gen.LossHeadRefIdeal.Run

@[expose] public section

noncomputable section

namespace Cert.Proof.LossHead

open Idealize.ShloMosaic Idealize.ShloMosaic.TcCoe Idealize.SL.Sem Idealize.SL Idealize.SL.RA Cert.NormGrad
open Cert.Proof.InputGrad (Rows line gradW meanSq slope meanSq_at slope_at weight_eq)
open Cert.Proof.MidGrad (back back_eq)

/-- One row's factor in the mean, 1/1024. -/
abbrev share : EReal := Ideal.ofBits .f32 0x3A800000#32

/-- The block's output less the target. -/
def diff {n : ℕ} (h x : Rows n) (w : Rows 1) (t : Rows n) : Rows n := fun i =>
  h i + x i * inv (line x (i 0)) * w (ix2 0 (i 1)) - t i

/-- The differences in the rows whose number in their sequence is at least 64, zero in the others. -/
def masked {n : ℕ} (s : Fin n → ℕ) (h x : Rows n) (w : Rows 1) (t : Rows n) : Rows n := fun i =>
  if 64 ≤ s (i 0) then diff h x w t i else 0

/-- The gradient of the block's output. -/
def grad {n : ℕ} (s : Fin n → ℕ) (h x : Rows n) (w : Rows 1) (t : Rows n) : Rows n := fun i =>
  masked s h x w t i * share

/-- The sum of the squares. -/
def squares {n : ℕ} (s : Fin n → ℕ) (h x : Rows n) (w : Rows 1) (t : Rows n) : FVec Ideal ⟨2, ![1, 1]⟩ .f32 := fun _ =>
  ∑ r : Fin n, ∑ k, masked s h x w t (ix2 r k) * masked s h x w t (ix2 r k)

section Kernel

open Cert.LossHeadIdeal Cert.LossHeadIdeal.Gen Idealize.ShloMosaic.Pipeline

/-- The number of a tile's row in its sequence. -/
abbrev inTile (t : ℕ) (r : Fin 352) : ℕ := t % 6 * 352 + r.val

theorem live : ∀ (t : Fin 12) (r : Fin 352),
    IntOp.cmpi .sge (IntOp.addi (Scalar.muli (Scalar.remsi (BitVec.ofNat 32 t.val) 6#32) 352#32) (BitVec.ofNat 32 r.val)) 64#32
      = if 64 ≤ inTile t.val r then 1#1 else 0#1 := by decide +kernel

theorem pay8_eq (i : grid0.Coords) (w : Rows 1) (x h t : Rows 352) :
    k0_pay8 (F := Ideal) i w x h t = masked (inTile (i 0).val) h x w t := by
  funext y
  pointwise [k0_pay8, k0_pay7, k0_pay6, masked, diff, line]
  rw [live (i 0) (y 0)]
  by_cases h64 : 64 ≤ inTile (i 0).val (y 0)
  · rw [if_pos h64, if_pos h64]; rfl
  · rw [if_neg h64, if_neg h64]; rfl

theorem pay9_eq (i : grid0.Coords) (w : Rows 1) (x h t : Rows 352) :
    k0_pay9 (F := Ideal) i w x h t = grad (inTile (i 0).val) h x w t := by
  funext y
  pointwise [k0_pay9, grad, pay8_eq]

theorem pay1_eq (i : grid0.Coords) (w : Rows 1) (x h t : Rows 352) :
    k0_pay1 (F := Ideal) (k0_pay6 x) (k0_pay7 x) (k0_pay10 i w x h t) (k0_pay11 i w x h t) k0_pay12
      = back x w (grad (inTile (i 0).val) h x w t) := by
  funext y
  pointwise [k0_pay1, k0_pay12, k0_pay11, k0_pay10, k0_pay7, k0_pay6, pay9_eq, back, line]
  rfl

theorem pay2_eq (x u : Rows 352) : k0_pay2 (F := Ideal) (k0_pay7 x) u = gradW x u := by
  funext y
  pointwise [k0_pay2, k0_pay7, k0_pay6, gradW, line]
  rfl

theorem pay4_eq (s : Fin 352 → ℕ) (h x : Rows 352) (w : Rows 1) (t : Rows 352) :
    k0_pay4 (F := Ideal) (masked s h x w t) = squares s h x w t := by
  funext y
  pointwise [k0_pay4, squares]

variable (m : (ℓ : Loc nD τ sig) → Buf (Elt Ideal) ℓ) (ρ : Dev nD → PrngReg)

theorem coord : ∀ t : Fin cfg0.N, (grid0.coords t 0).val = t.val := (by decide +kernel : ∀ t : Fin grid0.N, _)

/-- The windows of rows are at the point's tile, the others at their only block. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem at_h (c : Dev nD) (t : Fin cfg0.N) (r : Fin 352) (k : Fin 1024) (h : t.val * 352 + r.val < 4224) :
    iblk m c 0 t (ix2 r k) = (m ((c : Thread nD τ).loc main_arg0) : Rows 4224) (ix2 ⟨t.val * 352 + r.val, h⟩ k) := by
  blk_ext! [iblk, V, idx0 t]

theorem at_x (c : Dev nD) (t : Fin cfg0.N) (r : Fin 352) (k : Fin 1024) (h : t.val * 352 + r.val < 4224) :
    iblk m c 1 t (ix2 r k) = (m ((c : Thread nD τ).loc main_arg1) : Rows 4224) (ix2 ⟨t.val * 352 + r.val, h⟩ k) := by
  blk_ext! [iblk, V, idx1 t]

theorem at_t (c : Dev nD) (t : Fin cfg0.N) (r : Fin 352) (k : Fin 1024) (h : t.val * 352 + r.val < 4224) :
    iblk m c 3 t (ix2 r k) = (m ((c : Thread nD τ).loc main_arg3) : Rows 4224) (ix2 ⟨t.val * 352 + r.val, h⟩ k) := by
  blk_ext! [iblk, V, idx3 t]

theorem at_w (c : Dev nD) (t : Fin cfg0.N) (k : Fin 1024) :
    iblk m c 2 t (ix2 0 k) = (m ((c : Thread nD τ).loc main_arg2) : Rows 1) (ix2 0 k) := by
  blk_ext! [iblk, V, idx2 t]

theorem line_x (c : Dev nD) (t : Fin cfg0.N) (r : Fin 352) (h : t.val * 352 + r.val < 4224) :
    line (iblk m c 1 t) r = line (m ((c : Thread nD τ).loc main_arg1) : Rows 4224) ⟨t.val * 352 + r.val, h⟩ :=
  funext fun k => at_x m c t r k h

/-- The masked differences of a tile's rows, and of all rows; their gradient; the gradient of the block's output. -/
abbrev maskT (c : Dev nD) (t : Fin cfg0.N) : Rows 352 :=
  masked (inTile t.val) (iblk m c 0 t) (iblk m c 1 t) (iblk m c 2 t) (iblk m c 3 t)
abbrev gradT (c : Dev nD) (t : Fin cfg0.N) : Rows 352 :=
  grad (inTile t.val) (iblk m c 0 t) (iblk m c 1 t) (iblk m c 2 t) (iblk m c 3 t)
abbrev maskA (c : Dev nD) : Rows 4224 := masked (fun r => r.val % 2112) (m ((c : Thread nD τ).loc main_arg0))
  (m ((c : Thread nD τ).loc main_arg1)) (m ((c : Thread nD τ).loc main_arg2)) (m ((c : Thread nD τ).loc main_arg3))
abbrev gradA (c : Dev nD) : Rows 4224 := grad (fun r => r.val % 2112) (m ((c : Thread nD τ).loc main_arg0))
  (m ((c : Thread nD τ).loc main_arg1)) (m ((c : Thread nD τ).loc main_arg2)) (m ((c : Thread nD τ).loc main_arg3))
abbrev backT (c : Dev nD) (t : Fin cfg0.N) : Rows 352 := back (iblk m c 1 t) (iblk m c 2 t) (gradT m c t)
abbrev backA (c : Dev nD) : Rows 4224 :=
  back (m ((c : Thread nD τ).loc main_arg1)) (m ((c : Thread nD τ).loc main_arg2)) (gradA m c)

theorem tile_mask (c : Dev nD) (t : Fin cfg0.N) (r : Fin 352) (k : Fin 1024) (h : t.val * 352 + r.val < 4224) :
    maskT m c t (ix2 r k) = maskA m c (ix2 ⟨t.val * 352 + r.val, h⟩ k) := by
  have e : inTile t.val r = (t.val * 352 + r.val) % 2112 := by have := r.isLt; dsimp only [inTile]; omega
  by_cases h64 : 64 ≤ inTile t.val r
  · refine (if_pos h64).trans (Eq.trans ?_ (if_pos (show 64 ≤ (t.val * 352 + r.val) % 2112 from e ▸ h64)).symm)
    simp only [diff, ix2_0, ix2_1, line_x m c t r h, at_h m c t r _ h, at_x m c t r _ h, at_w, at_t m c t r _ h]
  · exact (if_neg h64).trans (if_neg (show ¬64 ≤ (t.val * 352 + r.val) % 2112 from e ▸ h64)).symm

theorem tile_grad (c : Dev nD) (t : Fin cfg0.N) (r : Fin 352) (k : Fin 1024) (h : t.val * 352 + r.val < 4224) :
    gradT m c t (ix2 r k) = gradA m c (ix2 ⟨t.val * 352 + r.val, h⟩ k) :=
  congrArg (· * share) (tile_mask m c t r k h)

theorem tile_back (c : Dev nD) (t : Fin cfg0.N) (r : Fin 352) (k : Fin 1024) (h : t.val * 352 + r.val < 4224) :
    backT m c t (ix2 r k) = backA m c (ix2 ⟨t.val * 352 + r.val, h⟩ k) := by
  simp only [backT, backA, back, ix2_0, ix2_1, line_x m c t r h, at_x m c t r _ h, at_w, tile_grad m c t r _ h]

/-- What a point leaves of the gradients of rows. -/
theorem left_grad (c : Dev nD) (t : Fin cfg0.N) : (outsAt0 m c t.val t.isLt).1 = gradT m c t := by
  have hN : t.val < 12 := lt_of_lt_of_eq t.isLt N_0
  funext y
  by_cases h0 : t.val % 12 = 0
  · rw [outsAt0_A m c t h0 (by omega) h0 (by omega)]; frame_out; rw [pay9_eq, coord]
  · rw [outsAt0_B m c t h0 (by omega) h0 (by omega)]; frame_out; rw [pay9_eq, coord]

theorem left_back (c : Dev nD) (t : Fin cfg0.N) : (outsAt0 m c t.val t.isLt).2.1 = backT m c t := by
  have hN : t.val < 12 := lt_of_lt_of_eq t.isLt N_0
  funext y
  by_cases h0 : t.val % 12 = 0
  · rw [outsAt0_A m c t h0 (by omega) h0 (by omega)]; frame_out; rw [pay1_eq, coord]
  · rw [outsAt0_B m c t h0 (by omega) h0 (by omega)]; frame_out; rw [pay1_eq, coord]

theorem arr_grad (c : Dev nD) : (dats m 0 c).arrAt 4 cfg0.N = gradA m c := by
  refine (dats m 0 c).arrAt_eq_of_covers 4 _ (by decide +kernel) fun t hf y => ?_
  blk_simp
  rw [after0_4, left_grad]
  have hN : t.val < 12 := lt_of_lt_of_eq t.isLt N_0
  have hy : (y 0).val < 352 := (y 0).isLt
  have h : t.val * 352 + (y 0).val < 4224 := by omega
  refine (congrArg _ (ix2_eta (n0 := 352) (n1 := 1024) y).symm).trans ((tile_grad m c t (y 0) (y 1) h).trans (congrArg _ ?_))
  blk_ext [idx4 t]

theorem arr_back (c : Dev nD) : (dats m 0 c).arrAt 5 cfg0.N = backA m c := by
  refine (dats m 0 c).arrAt_eq_of_covers 5 _ (by decide +kernel) fun t hf y => ?_
  blk_simp
  rw [after0_5, left_back]
  have hN : t.val < 12 := lt_of_lt_of_eq t.isLt N_0
  have hy : (y 0).val < 352 := (y 0).isLt
  have h : t.val * 352 + (y 0).val < 4224 := by omega
  refine (congrArg _ (ix2_eta (n0 := 352) (n1 := 1024) y).symm).trans ((tile_back m c t (y 0) (y 1) h).trans (congrArg _ ?_))
  blk_ext [idx5 t]

/-- The kernel's gradient of the weight and its sum of squares: the points' sums, added up. -/
theorem arr_weight (c : Dev nD) : (dats m 0 c).arrAt 6 cfg0.N = gradW (m ((c : Thread nD τ).loc main_arg1)) (gradA m c) := by
  refine (dats m 0 c).arrAt_eq_of_after_last 6 t0_11 (by decide +kernel) _ fun j => ?_
  blk_simp
  rw [after0_6, Pipeline.eq_sum_fin_of_reset_step_apply_last (fun n h => (outsAt0 m c n h).2.2.1) 12 (fun _ => (0 : EReal))
    (fun t j => gradW (iblk m c 1 t) (gradT m c t) j)
    (fun t h j => by
      have hN : t.val < 12 := lt_of_lt_of_eq t.isLt N_0
      rw [outsAt0_A m c t h (by omega) h (by omega)]; frame_out; rw [pay9_eq, coord, pay2_eq, zero_add])
    (fun t h j => by
      have hN : t.val < 12 := lt_of_lt_of_eq t.isLt N_0
      rw [outsAt0_B m c t h (by omega) h (by omega)]; frame_out; rw [pay9_eq, coord]; pointwise [k0_pay3, pay2_eq])
    (le_of_eq N_0) t0_11 rfl j]
  rw [zero_add]
  refine Fin.sum_mul_add_congr (S := 12) (n := 352) fun t r h => ?_
  exact congrArg₂ (· * ·) (tile_grad m c t r (j 1) h) (congrArg₂ (· * ·) (at_x m c t r (j 1) h) (congrArg inv (line_x m c t r h)))

theorem arr_squares (c : Dev nD) : (dats m 0 c).arrAt 7 cfg0.N = squares (fun r => r.val % 2112)
    (m ((c : Thread nD τ).loc main_arg0)) (m ((c : Thread nD τ).loc main_arg1)) (m ((c : Thread nD τ).loc main_arg2))
    (m ((c : Thread nD τ).loc main_arg3)) := by
  refine (dats m 0 c).arrAt_eq_of_after_last 7 t0_11 (by decide +kernel) _ fun j => ?_
  blk_simp
  rw [after0_7, Pipeline.eq_sum_fin_of_reset_step_apply_last (fun n h => (outsAt0 m c n h).2.2.2) 12 (fun _ => (0 : EReal))
    (fun t j => squares (inTile t.val) (iblk m c 0 t) (iblk m c 1 t) (iblk m c 2 t) (iblk m c 3 t) j)
    (fun t h j => by
      have hN : t.val < 12 := lt_of_lt_of_eq t.isLt N_0
      rw [outsAt0_A m c t h (by omega) h (by omega)]; frame_out; rw [pay8_eq, coord, pay4_eq, zero_add])
    (fun t h j => by
      have hN : t.val < 12 := lt_of_lt_of_eq t.isLt N_0
      rw [outsAt0_B m c t h (by omega) h (by omega)]; frame_out; rw [pay8_eq, coord]; pointwise [k0_pay5, pay4_eq])
    (le_of_eq N_0) t0_11 rfl j]
  rw [zero_add]
  refine Fin.sum_mul_add_congr (M := EReal) (S := 12) (n := 352) fun t r h => ?_
  exact Finset.sum_congr rfl fun k _ => congrArg₂ (· * ·) (tile_mask m c t r k h) (tile_mask m c t r k h)

theorem frame : Cert.quiescent_LossHead := fun m ρ _ => Cert.LossHead.Gen.frame m ρ

theorem frameIdeal : Cert.quiescent_LossHeadIdeal := fun m ρ _ => Cert.LossHeadIdeal.Gen.frame (F := Ideal) m ρ

end Kernel

section Reference

open Cert.LossHeadRefIdeal Cert.LossHeadRefIdeal.Gen Cert.LossHeadRefIdeal.Value

/-- The tokens' differences, as the reference writes them. -/
def tokens (h x : Rows 4224) (w : Rows 1) (t : Rows 4224) : FVec Ideal S2x2048x1024 .f32 :=
  subf (extractStridedSlice S2x2048x1024 ![0, 64, 0] (shapeCast _ (addf h (mulf (mulf x (broadcastInDim S4224x1024 ![0, 1] bcast_S4224x1_S4224x1024_0_1 (Host.rsqrt (meanSq x)))) (broadcastInDim S4224x1024 ![0, 1] bcast_S1x1024_S4224x1024_0_1 w))) shapeCasts_S4224x1024_S2x2112x1024) slices_S2x2112x1024_S2x2048x1024_0_64_0) (extractStridedSlice S2x2048x1024 ![0, 64, 0] (shapeCast _ t shapeCasts_S4224x1024_S2x2112x1024) slices_S2x2112x1024_S2x2048x1024_0_64_0)

theorem tokens_at (h x : Rows 4224) (w : Rows 1) (t : Rows 4224) (i : S2x2048x1024.Idx)
    (hr : (i 0).val * 2112 + (64 + (i 1).val) < 4224) :
    tokens h x w t i = diff h x w t (ix2 ⟨(i 0).val * 2112 + (64 + (i 1).val), hr⟩ (i 2)) := by
  pointwise [tokens, meanSq_at, diff, line]
  rfl

/-- A half of twice a value, over 1024. -/
theorem scaled (y : EReal) : Ideal.div (Ideal.ofBits .f32 0x3F000000#32) len * (Ideal.ofBits .f32 0x40000000#32 * y) = y * share := by
  have e1 : Ideal.ofBits .f32 0x3F000000#32 = ((1 / 2 : ℝ) : EReal) := by simp [Ideal.ofBits, Ideal.ieee, -EReal.coe_mul]; norm_num
  have e2 : Ideal.ofBits .f32 0x40000000#32 = ((2 : ℝ) : EReal) := by simp [Ideal.ofBits, Ideal.ieee, -EReal.coe_mul]; norm_num
  have e3 : share = ((1 / 1024 : ℝ) : EReal) := by simp [share, Ideal.ofBits, Ideal.ieee, -EReal.coe_mul]; norm_num
  rw [div_len, e1, e2, e3, ← EReal.coe_mul, ← mul_assoc, ← EReal.coe_mul, mul_comm y]
  norm_num

/-- The gradient of the block's output, as the reference writes it. -/
theorem grad_eq (h x : Rows 4224) (w : Rows 1) (t : Rows 4224) :
    shapeCast _ (pad S2x2112x1024 ![0, 64, 0] ![0, 0, 0] ![0, 0, 0] (mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (tokens h x w t))) (constant (F := Ideal) S_ .f32 0x00000000#32) pads_S2x2048x1024_S2x2112x1024_000_6400_000 h_S_) shapeCasts_S2x2112x1024_S4224x1024
      = grad (fun r => r.val % 2112) h x w t := by
  funext i
  pointwise [grad, masked]
  have hi : (i 0).val < 4224 := (i 0).isLt
  by_cases h64 : 64 ≤ (i 0).val % 2112
  · rw [dif_pos ⟨by omega, h64, by omega⟩, if_pos h64, tokens_at _ _ _ _ _ (by dsimp only [ix3]; omega)]
    refine (scaled _).trans (congrArg (fun j => diff h x w t j * share) ?_)
    refine Eq.trans ?_ (ix2_eta (n0 := 4224) (n1 := 1024) i)
    exact congrArg₂ ix2 (Fin.ext (by show _ / 2112 * 2112 + (64 + (_ % 2112 - 64)) = _; omega)) rfl
  · rw [dif_neg (by omega), if_neg h64, zero_mul]

theorem squares_eq (h x : Rows 4224) (w : Rows 1) (t : Rows 4224) :
    shapeCast _ (Host.reduceAdd (mulf (tokens h x w t) (tokens h x w t)) (constant S_ .f32 0x00000000#32) reducesTo_S2x2048x1024_S_d0_1_2 h_S_) shapeCasts_S_S1x1
      = squares (fun r => r.val % 2112) h x w t := by
  funext i
  pointwise [squares]
  refine Eq.trans ?_ (Fin.sum_mul_add_congr (S := 2) (n := 2112)
    (L := 4224) (F := fun (b : Fin 2) (q : Fin 2112) => ∑ k : Fin 1024, masked (fun r => r.val % 2112) h x w t (ix2 ⟨b.val * 2112 + q.val, by have := b.isLt; have := q.isLt; omega⟩ k)
      * masked (fun r => r.val % 2112) h x w t (ix2 ⟨b.val * 2112 + q.val, by have := b.isLt; have := q.isLt; omega⟩ k))
    fun b q hb => rfl)
  refine Finset.sum_congr rfl fun b _ => ?_
  refine Eq.trans ?_ (Fin.sum_univ_add (a := 64) (b := 2048) _).symm
  refine (zero_add _).symm.trans (congrArg₂ (· + ·) (Finset.sum_eq_zero fun q _ => ?_).symm ?_)
  · have hq : q.val < 64 := q.isLt
    refine Finset.sum_eq_zero fun k _ => ?_
    have e : masked (fun r => r.val % 2112) h x w t (ix2 ⟨b.val * 2112 + q.val, by have := b.isLt; omega⟩ k) = 0 :=
      if_neg (show ¬64 ≤ (b.val * 2112 + q.val) % 2112 by omega)
    exact (congrArg₂ (· * ·) e e).trans (mul_zero _)
  · refine Finset.sum_congr rfl fun q _ => Finset.sum_congr rfl fun k _ => ?_
    have hb : b.val < 2 := b.isLt
    have hq : q.val < 2048 := q.isLt
    have e : tokens h x w t (ix3 b q k) = masked (fun r => r.val % 2112) h x w t (ix2 ⟨b.val * 2112 + (64 + q.val), by omega⟩ k) :=
      (tokens_at h x w t (ix3 b q k) (by dsimp only [ix3]; omega)).trans
        (if_pos (show 64 ≤ (b.val * 2112 + (64 + q.val)) % 2112 by omega)).symm
    rw [e]; rfl

variable (m : (ℓ : Loc nD τ sig) → Buf (Elt Ideal) ℓ) (c : Dev nD)

theorem out0 : shapeCast _ (pad S2x2112x1024 ![0, 64, 0] ![0, 0, 0] ![0, 0, 0] (mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (subf (extractStridedSlice S2x2048x1024 ![0, 64, 0] (shapeCast _ (addf (m ((c.tc : Thread nD τ).loc main_arg0)) (mulf (mulf (m ((c.tc : Thread nD τ).loc main_arg1)) (broadcastInDim S4224x1024 ![0, 1] bcast_S4224x1_S4224x1024_0_1 (Host.rsqrt (addf (Host.divf (broadcastInDim S4224x1 ![0] bcast_S4224_S4224x1_0 (Host.reduceAdd (mulf (m ((c.tc : Thread nD τ).loc main_arg1)) (m ((c.tc : Thread nD τ).loc main_arg1))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (m ((c.tc : Thread nD τ).loc main_arg2))))) shapeCasts_S4224x1024_S2x2112x1024) slices_S2x2112x1024_S2x2048x1024_0_64_0) (extractStridedSlice S2x2048x1024 ![0, 64, 0] (shapeCast _ (m ((c.tc : Thread nD τ).loc main_arg3)) shapeCasts_S4224x1024_S2x2112x1024) slices_S2x2112x1024_S2x2048x1024_0_64_0)))) (constant S_ .f32 0x00000000#32) pads_S2x2048x1024_S2x2112x1024_000_6400_000 h_S_) shapeCasts_S2x2112x1024_S4224x1024 = grad (fun r => r.val % 2112) (m ((c.tc : Thread nD τ).loc main_arg0)) (m ((c.tc : Thread nD τ).loc main_arg1)) (m ((c.tc : Thread nD τ).loc main_arg2)) (m ((c.tc : Thread nD τ).loc main_arg3)) :=
  grad_eq (m ((c.tc : Thread nD τ).loc main_arg0)) (m ((c.tc : Thread nD τ).loc main_arg1)) (m ((c.tc : Thread nD τ).loc main_arg2)) (m ((c.tc : Thread nD τ).loc main_arg3))

theorem out1 : res_main_v58 m c = back (m ((c.tc : Thread nD τ).loc main_arg1)) (m ((c.tc : Thread nD τ).loc main_arg2)) (grad (fun r => r.val % 2112) (m ((c.tc : Thread nD τ).loc main_arg0)) (m ((c.tc : Thread nD τ).loc main_arg1)) (m ((c.tc : Thread nD τ).loc main_arg2)) (m ((c.tc : Thread nD τ).loc main_arg3))) :=
  (back_eq (m ((c.tc : Thread nD τ).loc main_arg1)) (m ((c.tc : Thread nD τ).loc main_arg2)) _).trans (congrArg _ (grad_eq (m ((c.tc : Thread nD τ).loc main_arg0)) (m ((c.tc : Thread nD τ).loc main_arg1)) (m ((c.tc : Thread nD τ).loc main_arg2)) (m ((c.tc : Thread nD τ).loc main_arg3))))

theorem out2 : shapeCast _ (Host.reduceAdd (mulf (mulf (m ((c.tc : Thread nD τ).loc main_arg1)) (broadcastInDim S4224x1024 ![0, 1] bcast_S4224x1_S4224x1024_0_1 (Host.rsqrt (addf (Host.divf (broadcastInDim S4224x1 ![0] bcast_S4224_S4224x1_0 (Host.reduceAdd (mulf (m ((c.tc : Thread nD τ).loc main_arg1)) (m ((c.tc : Thread nD τ).loc main_arg1))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (shapeCast _ (pad S2x2112x1024 ![0, 64, 0] ![0, 0, 0] ![0, 0, 0] (mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (subf (extractStridedSlice S2x2048x1024 ![0, 64, 0] (shapeCast _ (addf (m ((c.tc : Thread nD τ).loc main_arg0)) (mulf (mulf (m ((c.tc : Thread nD τ).loc main_arg1)) (broadcastInDim S4224x1024 ![0, 1] bcast_S4224x1_S4224x1024_0_1 (Host.rsqrt (addf (Host.divf (broadcastInDim S4224x1 ![0] bcast_S4224_S4224x1_0 (Host.reduceAdd (mulf (m ((c.tc : Thread nD τ).loc main_arg1)) (m ((c.tc : Thread nD τ).loc main_arg1))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (m ((c.tc : Thread nD τ).loc main_arg2))))) shapeCasts_S4224x1024_S2x2112x1024) slices_S2x2112x1024_S2x2048x1024_0_64_0) (extractStridedSlice S2x2048x1024 ![0, 64, 0] (shapeCast _ (m ((c.tc : Thread nD τ).loc main_arg3)) shapeCasts_S4224x1024_S2x2112x1024) slices_S2x2112x1024_S2x2048x1024_0_64_0)))) (constant S_ .f32 0x00000000#32) pads_S2x2048x1024_S2x2112x1024_000_6400_000 h_S_) shapeCasts_S2x2112x1024_S4224x1024)) (constant S_ .f32 0x00000000#32) reducesTo_S4224x1024_S1024_d0 h_S_) shapeCasts_S1024_S1x1024 = gradW (m ((c.tc : Thread nD τ).loc main_arg1)) (grad (fun r => r.val % 2112) (m ((c.tc : Thread nD τ).loc main_arg0)) (m ((c.tc : Thread nD τ).loc main_arg1)) (m ((c.tc : Thread nD τ).loc main_arg2)) (m ((c.tc : Thread nD τ).loc main_arg3))) :=
  (weight_eq (m ((c.tc : Thread nD τ).loc main_arg1)) _).trans (congrArg _ (grad_eq (m ((c.tc : Thread nD τ).loc main_arg0)) (m ((c.tc : Thread nD τ).loc main_arg1)) (m ((c.tc : Thread nD τ).loc main_arg2)) (m ((c.tc : Thread nD τ).loc main_arg3))))

theorem out3 : shapeCast _ (Host.reduceAdd (mulf (subf (extractStridedSlice S2x2048x1024 ![0, 64, 0] (shapeCast _ (addf (m ((c.tc : Thread nD τ).loc main_arg0)) (mulf (mulf (m ((c.tc : Thread nD τ).loc main_arg1)) (broadcastInDim S4224x1024 ![0, 1] bcast_S4224x1_S4224x1024_0_1 (Host.rsqrt (addf (Host.divf (broadcastInDim S4224x1 ![0] bcast_S4224_S4224x1_0 (Host.reduceAdd (mulf (m ((c.tc : Thread nD τ).loc main_arg1)) (m ((c.tc : Thread nD τ).loc main_arg1))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (m ((c.tc : Thread nD τ).loc main_arg2))))) shapeCasts_S4224x1024_S2x2112x1024) slices_S2x2112x1024_S2x2048x1024_0_64_0) (extractStridedSlice S2x2048x1024 ![0, 64, 0] (shapeCast _ (m ((c.tc : Thread nD τ).loc main_arg3)) shapeCasts_S4224x1024_S2x2112x1024) slices_S2x2112x1024_S2x2048x1024_0_64_0)) (subf (extractStridedSlice S2x2048x1024 ![0, 64, 0] (shapeCast _ (addf (m ((c.tc : Thread nD τ).loc main_arg0)) (mulf (mulf (m ((c.tc : Thread nD τ).loc main_arg1)) (broadcastInDim S4224x1024 ![0, 1] bcast_S4224x1_S4224x1024_0_1 (Host.rsqrt (addf (Host.divf (broadcastInDim S4224x1 ![0] bcast_S4224_S4224x1_0 (Host.reduceAdd (mulf (m ((c.tc : Thread nD τ).loc main_arg1)) (m ((c.tc : Thread nD τ).loc main_arg1))) (constant S_ .f32 0x00000000#32) reducesTo_S4224x1024_S4224_d1 h_S_)) (broadcastInDim S4224x1 ![] bcast_S_S4224x1 (constant S_ .f32 0x44800000#32))) (broadcastInDim S4224x1 ![] bcast_S_S4224x1 (constant S_ .f32 0x358637BD#32)))))) (broadcastInDim S4224x1024 ![0, 1] bcast_S1x1024_S4224x1024_0_1 (m ((c.tc : Thread nD τ).loc main_arg2))))) shapeCasts_S4224x1024_S2x2112x1024) slices_S2x2112x1024_S2x2048x1024_0_64_0) (extractStridedSlice S2x2048x1024 ![0, 64, 0] (shapeCast _ (m ((c.tc : Thread nD τ).loc main_arg3)) shapeCasts_S4224x1024_S2x2112x1024) slices_S2x2112x1024_S2x2048x1024_0_64_0))) (constant S_ .f32 0x00000000#32) reducesTo_S2x2048x1024_S_d0_1_2 h_S_) shapeCasts_S_S1x1 = squares (fun r => r.val % 2112) (m ((c.tc : Thread nD τ).loc main_arg0)) (m ((c.tc : Thread nD τ).loc main_arg1)) (m ((c.tc : Thread nD τ).loc main_arg2)) (m ((c.tc : Thread nD τ).loc main_arg3)) :=
  squares_eq (m ((c.tc : Thread nD τ).loc main_arg0)) (m ((c.tc : Thread nD τ).loc main_arg1)) (m ((c.tc : Thread nD τ).loc main_arg2)) (m ((c.tc : Thread nD τ).loc main_arg3))

theorem frameRef : Cert.quiescent_LossHeadRefIdeal := fun m ρ _ =>
  (θ_run Cert.LossHeadRefIdeal.defs _ _).mono (fun r h => ⟨fun c => (h c).2.2.2.2, sem_eq_zero_of_no_sems rfl r.2⟩)
    (Cert.LossHeadRefIdeal.Value.run (F := Ideal) m ρ)

end Reference

/-- The reference's results in its arguments are the kernel's in its own, where those are the same. -/
theorem same (m : (ℓ : Loc Cert.LossHeadIdeal.nD Cert.LossHeadIdeal.τ Cert.LossHeadIdeal.sig) → Buf (Elt Ideal) ℓ)
    (c : Dev Cert.LossHeadIdeal.nD) (h x : Rows 4224) (w : Rows 1) (t : Rows 4224)
    (e0 : h = m ((c : Thread Cert.LossHeadIdeal.nD Cert.LossHeadIdeal.τ).loc Cert.LossHeadIdeal.main_arg0))
    (e1 : x = m ((c : Thread Cert.LossHeadIdeal.nD Cert.LossHeadIdeal.τ).loc Cert.LossHeadIdeal.main_arg1))
    (e2 : w = m ((c : Thread Cert.LossHeadIdeal.nD Cert.LossHeadIdeal.τ).loc Cert.LossHeadIdeal.main_arg2))
    (e3 : t = m ((c : Thread Cert.LossHeadIdeal.nD Cert.LossHeadIdeal.τ).loc Cert.LossHeadIdeal.main_arg3)) :
    grad (fun r => r.val % 2112) h x w t = gradA m c ∧ back x w (grad (fun r => r.val % 2112) h x w t) = backA m c
      ∧ gradW x (grad (fun r => r.val % 2112) h x w t) = gradW (m ((c : Thread Cert.LossHeadIdeal.nD Cert.LossHeadIdeal.τ).loc Cert.LossHeadIdeal.main_arg1)) (gradA m c)
      ∧ squares (fun r => r.val % 2112) h x w t = squares (fun r => r.val % 2112) (m ((c : Thread Cert.LossHeadIdeal.nD Cert.LossHeadIdeal.τ).loc Cert.LossHeadIdeal.main_arg0))
        (m ((c : Thread Cert.LossHeadIdeal.nD Cert.LossHeadIdeal.τ).loc Cert.LossHeadIdeal.main_arg1))
        (m ((c : Thread Cert.LossHeadIdeal.nD Cert.LossHeadIdeal.τ).loc Cert.LossHeadIdeal.main_arg2))
        (m ((c : Thread Cert.LossHeadIdeal.nD Cert.LossHeadIdeal.τ).loc Cert.LossHeadIdeal.main_arg3)) := by
  subst e0 e1 e2 e3
  exact ⟨rfl, rfl, rfl, rfl⟩

theorem algebraic : Cert.algebraic_LossHeadIdeal_LossHeadRefIdeal := fun m ρ m' ρ' _ h =>
  ⟨_, _, _, _, (θ_run Cert.LossHeadIdeal.defs _ _).mono
      (fun _ r c => ⟨(r c).1.trans (arr_grad m c), (r c).2.1.trans (arr_back m c), (r c).2.2.1.trans (arr_weight m c),
        (r c).2.2.2.1.trans (arr_squares m c), (r c).2.2.2.2⟩)
      (Cert.LossHeadIdeal.Value.run_blocks (F := Ideal) m ρ),
    (θ_run Cert.LossHeadRefIdeal.defs _ _).mono
      (fun _ r c =>
        have s := same m c _ _ _ _ (h c).1 (h c).2.1 (h c).2.2.1 (h c).2.2.2
        ⟨(r c).1.trans ((out0 m' c).trans s.1), (r c).2.1.trans ((out1 m' c).trans s.2.1),
          (r c).2.2.1.trans ((out2 m' c).trans s.2.2.1), (r c).2.2.2.1.trans ((out3 m' c).trans s.2.2.2), (r c).2.2.2.2⟩)
      (Cert.LossHeadRefIdeal.Value.run (F := Ideal) m' ρ')⟩

end Cert.Proof.LossHead
-- ==== Proof.Product.lean ====
/-
  Products of two matrices, either of them turned over or neither, entry by entry.
-/
module

public import proofs.«01_k».proof.Defs
public import Idealize.ShloMosaic.Lib.Pipeline.ValueKit.Point
public import Idealize.ShloMosaic.Lib.Quiescent

@[expose] public section

noncomputable section

namespace Cert.Proof.Product

open Idealize.ShloMosaic Idealize.ShloMosaic.TcCoe

/-- A matrix as the products read it, and as they leave it. -/
abbrev Mat (p q : ℕ) := FVec Ideal ⟨2, ![p, q]⟩ .bf16
abbrev Res (p q : ℕ) := FVec Ideal ⟨2, ![p, q]⟩ .f32

/-- The product. -/
def mul {p q n : ℕ} (a : Mat p n) (b : Mat n q) : Res p q := fun i => ∑ k : Fin n, a (ix2 (i 0) k) * b (ix2 k (i 1))

/-- The product with the second matrix turned over. -/
def mulT {p q n : ℕ} (a : Mat p n) (b : Mat q n) : Res p q := fun i => ∑ k : Fin n, a (ix2 (i 0) k) * b (ix2 (i 1) k)

/-- The product with the first matrix turned over. -/
def tMul {p q n : ℕ} (a : Mat n p) (b : Mat n q) : Res p q := fun i => ∑ k : Fin n, a (ix2 k (i 0)) * b (ix2 k (i 1))

end Cert.Proof.Product
-- ==== Proof.MmProj.lean ====
/-
  The mixers' input projection: the kernel's result, tile by tile, is the reference's product.
-/
module

public import proofs.«01_k».proof.Proof.Product
public import proofs.«01_k».proof.Proof.Gen.MmProj.Frame
public import proofs.«01_k».proof.Proof.Gen.MmProjIdeal.Value
public import proofs.«01_k».proof.Proof.Gen.MmProjRefIdeal.Run

@[expose] public section

noncomputable section

namespace Cert.Proof.MmProj

open Idealize.ShloMosaic Idealize.ShloMosaic.TcCoe Idealize.SL.Sem Idealize.SL Idealize.SL.RA
open Cert.Proof.Product

section Kernel

open Cert.MmProjIdeal Cert.MmProjIdeal.Gen Idealize.ShloMosaic.Pipeline

theorem pay1_eq (a : Mat 1056 1024) (b : Mat 1024 1280) : k0_pay1 (F := Ideal) a b = mul a b := by
  funext y
  pointwise [k0_pay1, mul]

variable (m : (ℓ : Loc nD τ sig) → Buf (Elt Ideal) ℓ) (ρ : Dev nD → PrngReg)

theorem idx0 : ∀ t : Fin cfg0.N, win0_0.index t = ![t.val / 3, 0] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

theorem at_a (c : Dev nD) (t : Fin cfg0.N) (r : Fin 1056) (k : Fin 1024) (h0 : t.val / 3 * 1056 + r.val < 4224) :
    iblk m c 0 t (ix2 r k) = (m ((c : Thread nD τ).loc main_arg0) : Mat 4224 1024) (ix2 ⟨t.val / 3 * 1056 + r.val, h0⟩ k) := by
  blk_ext! [iblk, V, idx0 t]

theorem at_b (c : Dev nD) (t : Fin cfg0.N) (r : Fin 1024) (k : Fin 1280) (h1 : t.val % 3 * 1280 + k.val < 3840) :
    iblk m c 1 t (ix2 r k) = (m ((c : Thread nD τ).loc main_arg1) : Mat 1024 3840) (ix2 r ⟨t.val % 3 * 1280 + k.val, h1⟩) := by
  blk_ext! [iblk, V, idx1 t]

theorem tile (c : Dev nD) (t : Fin cfg0.N) (r : Fin 1056) (l : Fin 1280) (h0 : t.val / 3 * 1056 + r.val < 4224) (h1 : t.val % 3 * 1280 + l.val < 3840) :
    mul (iblk m c 0 t) (iblk m c 1 t) (ix2 r l)
      = mul (m ((c : Thread nD τ).loc main_arg0)) (m ((c : Thread nD τ).loc main_arg1)) (ix2 ⟨t.val / 3 * 1056 + r.val, h0⟩ ⟨t.val % 3 * 1280 + l.val, h1⟩) :=
  Finset.sum_congr rfl fun k _ => congrArg₂ (· * ·) (at_a m c t r k h0) (at_b m c t k l h1)

theorem left (c : Dev nD) (t : Fin cfg0.N) : outsAt0 m c t = mul (iblk m c 0 t) (iblk m c 1 t) := by
  funext y
  rw [outsAt0]
  frame_out
  pointwise [k0_pay2, k0_pay3]
  exact congrFun (pay1_eq _ _) y

/-- The kernel's product. -/
theorem arr (c : Dev nD) : (dats m 0 c).arrAt 2 cfg0.N
    = mul (m ((c : Thread nD τ).loc main_arg0)) (m ((c : Thread nD τ).loc main_arg1)) := by
  refine (dats m 0 c).arrAt_eq_of_covers 2 _ (by decide +kernel) fun t hf y => ?_
  blk_simp
  have hN : t.val < 12 := lt_of_lt_of_eq t.isLt N_0
  have hy0 : (y 0).val < 1056 := (y 0).isLt
  have hy1 : (y 1).val < 1280 := (y 1).isLt
  have h0 : t.val / 3 * 1056 + (y 0).val < 4224 := by omega
  have h1 : t.val % 3 * 1280 + (y 1).val < 3840 := by omega
  rw [after0_2, left]
  refine (congrArg _ (ix2_eta (n0 := 1056) (n1 := 1280) y).symm).trans ((tile m c t (y 0) (y 1) h0 h1).trans (congrArg _ ?_))
  blk_ext [idx2 t]

theorem frame : Cert.quiescent_MmProj := fun m ρ _ => Cert.MmProj.Gen.frame m ρ

theorem frameIdeal : Cert.quiescent_MmProjIdeal := fun m ρ _ => Cert.MmProjIdeal.Gen.frame (F := Ideal) m ρ

end Kernel

section Reference

open Cert.MmProjRefIdeal Cert.MmProjRefIdeal.Gen

/-- The reference's product. -/
theorem ref_eq (a : Mat 4224 1024) (b : Mat 1024 3840) :
    Host.dotGeneral dot_S4224x1024_S1024x3840_S4224x3840_1_0_0_1_n_n none (extf .f32 a bitsLt_bf16_f32) (extf .f32 b bitsLt_bf16_f32) = mul a b := by
  funext i
  pointwise [mul]

theorem frameRef : Cert.quiescent_MmProjRefIdeal := fun m ρ _ =>
  (θ_run Cert.MmProjRefIdeal.defs _ _).mono (fun r h => ⟨fun c => (h c).2, sem_eq_zero_of_no_sems rfl r.2⟩)
    (Cert.MmProjRefIdeal.Value.run (F := Ideal) m ρ)

end Reference

theorem algebraic : Cert.algebraic_MmProjIdeal_MmProjRefIdeal := fun m ρ m' ρ' _ h =>
  ⟨_, (θ_run Cert.MmProjIdeal.defs _ _).mono (fun _ r c => ⟨(r c).1.trans (arr m c), (r c).2⟩)
      (Cert.MmProjIdeal.Value.run_blocks (F := Ideal) m ρ),
    (θ_run Cert.MmProjRefIdeal.defs _ _).mono
      (fun _ r c => ⟨(r c).1.trans (by rw [(h c).1, (h c).2]; exact ref_eq _ _), (r c).2⟩)
      (Cert.MmProjRefIdeal.Value.run (F := Ideal) m' ρ')⟩

end Cert.Proof.MmProj
-- ==== Proof.MmMix.lean ====
/-
  The mixers' output projection: the kernel's result, tile by tile, is the reference's product.
-/
module

public import proofs.«01_k».proof.Proof.Product
public import proofs.«01_k».proof.Proof.Gen.MmMix.Frame
public import proofs.«01_k».proof.Proof.Gen.MmMixIdeal.Value
public import proofs.«01_k».proof.Proof.Gen.MmMixRefIdeal.Run

@[expose] public section

noncomputable section

namespace Cert.Proof.MmMix

open Idealize.ShloMosaic Idealize.ShloMosaic.TcCoe Idealize.SL.Sem Idealize.SL Idealize.SL.RA
open Cert.Proof.Product

section Kernel

open Cert.MmMixIdeal Cert.MmMixIdeal.Gen Idealize.ShloMosaic.Pipeline

theorem pay1_eq (a : Mat 1056 1024) (b : Mat 1024 1024) : k0_pay1 (F := Ideal) a b = mul a b := by
  funext y
  pointwise [k0_pay1, mul]

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_a (c : Dev nD) (t : Fin cfg0.N) (r : Fin 1056) (k : Fin 1024) (h0 : t.val * 1056 + r.val < 4224) :
    iblk m c 0 t (ix2 r k) = (m ((c : Thread nD τ).loc main_arg0) : Mat 4224 1024) (ix2 ⟨t.val * 1056 + r.val, h0⟩ k) := by
  blk_ext! [iblk, V, idx0 t]

theorem at_b (c : Dev nD) (t : Fin cfg0.N) (r : Fin 1024) (k : Fin 1024) :
    iblk m c 1 t (ix2 r k) = (m ((c : Thread nD τ).loc main_arg1) : Mat 1024 1024) (ix2 r k) := by
  blk_ext! [iblk, V, idx1 t]

theorem tile (c : Dev nD) (t : Fin cfg0.N) (r : Fin 1056) (l : Fin 1024) (h0 : t.val * 1056 + r.val < 4224) :
    mul (iblk m c 0 t) (iblk m c 1 t) (ix2 r l)
      = mul (m ((c : Thread nD τ).loc main_arg0)) (m ((c : Thread nD τ).loc main_arg1)) (ix2 ⟨t.val * 1056 + r.val, h0⟩ l) :=
  Finset.sum_congr rfl fun k _ => congrArg₂ (· * ·) (at_a m c t r k h0) (at_b m c t k l)

theorem left (c : Dev nD) (t : Fin cfg0.N) : outsAt0 m c t = mul (iblk m c 0 t) (iblk m c 1 t) := by
  funext y
  rw [outsAt0]
  frame_out
  pointwise [k0_pay2, k0_pay3]
  exact congrFun (pay1_eq _ _) y

/-- The kernel's product. -/
theorem arr (c : Dev nD) : (dats m 0 c).arrAt 2 cfg0.N
    = mul (m ((c : Thread nD τ).loc main_arg0)) (m ((c : Thread nD τ).loc main_arg1)) := by
  refine (dats m 0 c).arrAt_eq_of_covers 2 _ (by decide +kernel) fun t hf y => ?_
  blk_simp
  have hN : t.val < 4 := lt_of_lt_of_eq t.isLt N_0
  have hy0 : (y 0).val < 1056 := (y 0).isLt
  have hy1 : (y 1).val < 1024 := (y 1).isLt
  have h0 : t.val * 1056 + (y 0).val < 4224 := by omega
  rw [after0_2, left]
  refine (congrArg _ (ix2_eta (n0 := 1056) (n1 := 1024) y).symm).trans ((tile m c t (y 0) (y 1) h0).trans (congrArg _ ?_))
  blk_ext [idx2 t]

theorem frame : Cert.quiescent_MmMix := fun m ρ _ => Cert.MmMix.Gen.frame m ρ

theorem frameIdeal : Cert.quiescent_MmMixIdeal := fun m ρ _ => Cert.MmMixIdeal.Gen.frame (F := Ideal) m ρ

end Kernel

section Reference

open Cert.MmMixRefIdeal Cert.MmMixRefIdeal.Gen

/-- The reference's product. -/
theorem ref_eq (a : Mat 4224 1024) (b : Mat 1024 1024) :
    Host.dotGeneral dot_S4224x1024_S1024x1024_S4224x1024_1_0_0_1_n_n none (extf .f32 a bitsLt_bf16_f32) (extf .f32 b bitsLt_bf16_f32) = mul a b := by
  funext i
  pointwise [mul]

theorem frameRef : Cert.quiescent_MmMixRefIdeal := fun m ρ _ =>
  (θ_run Cert.MmMixRefIdeal.defs _ _).mono (fun r h => ⟨fun c => (h c).2, sem_eq_zero_of_no_sems rfl r.2⟩)
    (Cert.MmMixRefIdeal.Value.run (F := Ideal) m ρ)

end Reference

theorem algebraic : Cert.algebraic_MmMixIdeal_MmMixRefIdeal := fun m ρ m' ρ' _ h =>
  ⟨_, (θ_run Cert.MmMixIdeal.defs _ _).mono (fun _ r c => ⟨(r c).1.trans (arr m c), (r c).2⟩)
      (Cert.MmMixIdeal.Value.run_blocks (F := Ideal) m ρ),
    (θ_run Cert.MmMixRefIdeal.defs _ _).mono
      (fun _ r c => ⟨(r c).1.trans (by rw [(h c).1, (h c).2]; exact ref_eq _ _), (r c).2⟩)
      (Cert.MmMixRefIdeal.Value.run (F := Ideal) m' ρ')⟩

end Cert.Proof.MmMix
-- ==== Proof.MmGateUp.lean ====
/-
  The hidden layer's two input products: the kernel's result, tile by tile, is the reference's product.
-/
module

public import proofs.«01_k».proof.Proof.Product
public import proofs.«01_k».proof.Proof.Gen.MmGateUp.Frame
public import proofs.«01_k».proof.Proof.Gen.MmGateUpIdeal.Value
public import proofs.«01_k».proof.Proof.Gen.MmGateUpRefIdeal.Run

@[expose] public section

noncomputable section

namespace Cert.Proof.MmGateUp

open Idealize.ShloMosaic Idealize.ShloMosaic.TcCoe Idealize.SL.Sem Idealize.SL Idealize.SL.RA
open Cert.Proof.Product

section Kernel

open Cert.MmGateUpIdeal Cert.MmGateUpIdeal.Gen Idealize.ShloMosaic.Pipeline

theorem pay1_eq (a : Mat 1056 1024) (b : Mat 1024 1408) : k0_pay1 (F := Ideal) a b = mul a b := by
  funext y
  pointwise [k0_pay1, mul]

variable (m : (ℓ : Loc nD τ sig) → Buf (Elt Ideal) ℓ) (ρ : Dev nD → PrngReg)

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

theorem at_a (c : Dev nD) (t : Fin cfg0.N) (r : Fin 1056) (k : Fin 1024) (h0 : t.val / 4 * 1056 + r.val < 4224) :
    iblk m c 0 t (ix2 r k) = (m ((c : Thread nD τ).loc main_arg0) : Mat 4224 1024) (ix2 ⟨t.val / 4 * 1056 + r.val, h0⟩ k) := by
  blk_ext! [iblk, V, idx0 t]

theorem at_b (c : Dev nD) (t : Fin cfg0.N) (r : Fin 1024) (k : Fin 1408) (h1 : t.val % 4 * 1408 + k.val < 5632) :
    iblk m c 1 t (ix2 r k) = (m ((c : Thread nD τ).loc main_arg1) : Mat 1024 5632) (ix2 r ⟨t.val % 4 * 1408 + k.val, h1⟩) := by
  blk_ext! [iblk, V, idx1 t]

theorem tile (c : Dev nD) (t : Fin cfg0.N) (r : Fin 1056) (l : Fin 1408) (h0 : t.val / 4 * 1056 + r.val < 4224) (h1 : t.val % 4 * 1408 + l.val < 5632) :
    mul (iblk m c 0 t) (iblk m c 1 t) (ix2 r l)
      = mul (m ((c : Thread nD τ).loc main_arg0)) (m ((c : Thread nD τ).loc main_arg1)) (ix2 ⟨t.val / 4 * 1056 + r.val, h0⟩ ⟨t.val % 4 * 1408 + l.val, h1⟩) :=
  Finset.sum_congr rfl fun k _ => congrArg₂ (· * ·) (at_a m c t r k h0) (at_b m c t k l h1)

theorem left (c : Dev nD) (t : Fin cfg0.N) : outsAt0 m c t = mul (iblk m c 0 t) (iblk m c 1 t) := by
  funext y
  rw [outsAt0]
  frame_out
  pointwise [k0_pay2, k0_pay3]
  exact congrFun (pay1_eq _ _) y

/-- The kernel's product. -/
theorem arr (c : Dev nD) : (dats m 0 c).arrAt 2 cfg0.N
    = mul (m ((c : Thread nD τ).loc main_arg0)) (m ((c : Thread nD τ).loc main_arg1)) := by
  refine (dats m 0 c).arrAt_eq_of_covers 2 _ (by decide +kernel) fun t hf y => ?_
  blk_simp
  have hN : t.val < 16 := lt_of_lt_of_eq t.isLt N_0
  have hy0 : (y 0).val < 1056 := (y 0).isLt
  have hy1 : (y 1).val < 1408 := (y 1).isLt
  have h0 : t.val / 4 * 1056 + (y 0).val < 4224 := by omega
  have h1 : t.val % 4 * 1408 + (y 1).val < 5632 := by omega
  rw [after0_2, left]
  refine (congrArg _ (ix2_eta (n0 := 1056) (n1 := 1408) y).symm).trans ((tile m c t (y 0) (y 1) h0 h1).trans (congrArg _ ?_))
  blk_ext [idx2 t]

theorem frame : Cert.quiescent_MmGateUp := fun m ρ _ => Cert.MmGateUp.Gen.frame m ρ

theorem frameIdeal : Cert.quiescent_MmGateUpIdeal := fun m ρ _ => Cert.MmGateUpIdeal.Gen.frame (F := Ideal) m ρ

end Kernel

section Reference

open Cert.MmGateUpRefIdeal Cert.MmGateUpRefIdeal.Gen

/-- The reference's product. -/
theorem ref_eq (a : Mat 4224 1024) (b : Mat 1024 5632) :
    Host.dotGeneral dot_S4224x1024_S1024x5632_S4224x5632_1_0_0_1_n_n none (extf .f32 a bitsLt_bf16_f32) (extf .f32 b bitsLt_bf16_f32) = mul a b := by
  funext i
  pointwise [mul]

theorem frameRef : Cert.quiescent_MmGateUpRefIdeal := fun m ρ _ =>
  (θ_run Cert.MmGateUpRefIdeal.defs _ _).mono (fun r h => ⟨fun c => (h c).2, sem_eq_zero_of_no_sems rfl r.2⟩)
    (Cert.MmGateUpRefIdeal.Value.run (F := Ideal) m ρ)

end Reference

theorem algebraic : Cert.algebraic_MmGateUpIdeal_MmGateUpRefIdeal := fun m ρ m' ρ' _ h =>
  ⟨_, (θ_run Cert.MmGateUpIdeal.defs _ _).mono (fun _ r c => ⟨(r c).1.trans (arr m c), (r c).2⟩)
      (Cert.MmGateUpIdeal.Value.run_blocks (F := Ideal) m ρ),
    (θ_run Cert.MmGateUpRefIdeal.defs _ _).mono
      (fun _ r c => ⟨(r c).1.trans (by rw [(h c).1, (h c).2]; exact ref_eq _ _), (r c).2⟩)
      (Cert.MmGateUpRefIdeal.Value.run (F := Ideal) m' ρ')⟩

end Cert.Proof.MmGateUp
-- ==== Proof.MmDown.lean ====
/-
  The hidden layer's output product: the kernel's result, tile by tile, is the reference's product.
-/
module

public import proofs.«01_k».proof.Proof.Product
public import proofs.«01_k».proof.Proof.Gen.MmDown.Frame
public import proofs.«01_k».proof.Proof.Gen.MmDownIdeal.Value
public import proofs.«01_k».proof.Proof.Gen.MmDownRefIdeal.Run

@[expose] public section

noncomputable section

namespace Cert.Proof.MmDown

open Idealize.ShloMosaic Idealize.ShloMosaic.TcCoe Idealize.SL.Sem Idealize.SL Idealize.SL.RA
open Cert.Proof.Product

section Kernel

open Cert.MmDownIdeal Cert.MmDownIdeal.Gen Idealize.ShloMosaic.Pipeline

theorem pay1_eq (a : Mat 1056 1408) (b : Mat 1408 1024) : k0_pay1 (F := Ideal) a b = mul a b := by
  funext y
  pointwise [k0_pay1, mul]

variable (m : (ℓ : Loc nD τ sig) → Buf (Elt Ideal) ℓ) (ρ : Dev nD → PrngReg)

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

theorem at_a (c : Dev nD) (t : Fin cfg0.N) (r : Fin 1056) (k : Fin 1408) (h0 : t.val / 2 * 1056 + r.val < 4224) (h1 : t.val % 2 * 1408 + k.val < 2816) :
    iblk m c 0 t (ix2 r k) = (m ((c : Thread nD τ).loc main_arg0) : Mat 4224 2816) (ix2 ⟨t.val / 2 * 1056 + r.val, h0⟩ ⟨t.val % 2 * 1408 + k.val, h1⟩) := by
  blk_ext! [iblk, V, idx0 t]

theorem at_b (c : Dev nD) (t : Fin cfg0.N) (r : Fin 1408) (k : Fin 1024) (h0 : t.val % 2 * 1408 + r.val < 2816) :
    iblk m c 1 t (ix2 r k) = (m ((c : Thread nD τ).loc main_arg1) : Mat 2816 1024) (ix2 ⟨t.val % 2 * 1408 + r.val, h0⟩ k) := by
  blk_ext! [iblk, V, idx1 t]

/-- The sum the kernel keeps: what the first point of a tile leaves, what the others add, and that the last one writes it. -/
theorem first (c : Dev nD) (t : Fin cfg0.N) (h : t.val % 2 = 0) (j : S1056x1024.Idx) :
    (outsAt0 m c t.val t.isLt).2 j = (0 : EReal) + mul (iblk m c 0 t) (iblk m c 1 t) j := by
  rw [outsAt0_A m c t h (by omega) (by omega), zero_add]
  frame_out
  pointwise [k0_pay2, k0_pay3]
  exact congrFun (pay1_eq _ _) j

theorem next (c : Dev nD) (t : Fin cfg0.N) (h : ¬t.val % 2 = 0) (j : S1056x1024.Idx) :
    (outsAt0 m c t.val t.isLt).2 j
      = (outsAt0 m c (t.val - 1) (Nat.lt_of_le_of_lt (Nat.sub_le _ _) t.isLt)).2 j + mul (iblk m c 0 t) (iblk m c 1 t) j := by
  rw [outsAt0_B m c t h (by omega) (by omega)]; frame_out; pointwise [k0_pay2, k0_pay3]; exact congrArg₂ (· + ·) (congrFun (Memref.IsWhole.read_unread _ _) j) (congrFun (pay1_eq _ _) j)

theorem last (c : Dev nD) (t : Fin cfg0.N) (h : t.val % 2 = 1) :
    (outsAt0 m c t.val t.isLt).1 = (outsAt0 m c t.val t.isLt).2 := by
  funext j
  rw [outsAt0_B m c t (by omega) (by omega) h]
  frame_out

/-- The kernel's product. -/
theorem arr (c : Dev nD) : (dats m 0 c).arrAt 2 cfg0.N
    = mul (m ((c : Thread nD τ).loc main_arg0)) (m ((c : Thread nD τ).loc main_arg1)) := by
  refine (dats m 0 c).arrAt_eq_of_covers 2 _ (by decide +kernel) fun t hf y => ?_
  blk_simp
  have hN : t.val < 8 := lt_of_lt_of_eq t.isLt N_0
  have hy0 : (y 0).val < 1056 := (y 0).isLt
  have hy1 : (y 1).val < 1024 := (y 1).isLt
  have h0 : t.val / 2 * 1056 + (y 0).val < 4224 := by omega
  rw [after0_2, last m c t ((flush0_2 t).mp hf),
    Pipeline.eq_sum_fin_of_reset_step_apply_of_flush (fun n h => (outsAt0 m c n h).2) 2 (fun _ => (0 : EReal))
      (fun t j => mul (iblk m c 0 t) (iblk m c 1 t) j) (first m c) (next m c) t ((flush0_2 t).mp hf) _, zero_add]
  refine Fin.sum_mul_add_congr (S := 2) (n := 1408) fun s k h => ?_
  have hs : s.val < 2 := s.isLt
  have hk : k.val < 1408 := k.isLt
  have hm : t.val % 2 = 1 := (flush0_2 t).mp hf
  refine congrArg₂ (· * ·) ((at_a m c _ (y 0) k (by dsimp only; omega) (by dsimp only; omega)).trans (congrArg _ ?_))
    ((at_b m c _ k (y 1) (by dsimp only; omega)).trans (congrArg _ ?_))
  · blk_ext [idx2 t]
  · blk_ext [idx2 t]

theorem frame : Cert.quiescent_MmDown := fun m ρ _ => Cert.MmDown.Gen.frame m ρ

theorem frameIdeal : Cert.quiescent_MmDownIdeal := fun m ρ _ => Cert.MmDownIdeal.Gen.frame (F := Ideal) m ρ

end Kernel

section Reference

open Cert.MmDownRefIdeal Cert.MmDownRefIdeal.Gen

/-- The reference's product. -/
theorem ref_eq (a : Mat 4224 2816) (b : Mat 2816 1024) :
    Host.dotGeneral dot_S4224x2816_S2816x1024_S4224x1024_1_0_0_1_n_n none (extf .f32 a bitsLt_bf16_f32) (extf .f32 b bitsLt_bf16_f32) = mul a b := by
  funext i
  pointwise [mul]

theorem frameRef : Cert.quiescent_MmDownRefIdeal := fun m ρ _ =>
  (θ_run Cert.MmDownRefIdeal.defs _ _).mono (fun r h => ⟨fun c => (h c).2, sem_eq_zero_of_no_sems rfl r.2⟩)
    (Cert.MmDownRefIdeal.Value.run (F := Ideal) m ρ)

end Reference

theorem algebraic : Cert.algebraic_MmDownIdeal_MmDownRefIdeal := fun m ρ m' ρ' _ h =>
  ⟨_, (θ_run Cert.MmDownIdeal.defs _ _).mono (fun _ r c => ⟨(r c).1.trans (arr m c), (r c).2⟩)
      (Cert.MmDownIdeal.Value.run_blocks (F := Ideal) m ρ),
    (θ_run Cert.MmDownRefIdeal.defs _ _).mono
      (fun _ r c => ⟨(r c).1.trans (by rw [(h c).1, (h c).2]; exact ref_eq _ _), (r c).2⟩)
      (Cert.MmDownRefIdeal.Value.run (F := Ideal) m' ρ')⟩

end Cert.Proof.MmDown
-- ==== Proof.MmDact.lean ====
/-
  The gradient of the hidden layer's activation: the kernel's result, tile by tile, is the reference's product.
-/
module

public import proofs.«01_k».proof.Proof.Product
public import proofs.«01_k».proof.Proof.Gen.MmDact.Frame
public import proofs.«01_k».proof.Proof.Gen.MmDactIdeal.Value
public import proofs.«01_k».proof.Proof.Gen.MmDactRefIdeal.Run

@[expose] public section

noncomputable section

namespace Cert.Proof.MmDact

open Idealize.ShloMosaic Idealize.ShloMosaic.TcCoe Idealize.SL.Sem Idealize.SL Idealize.SL.RA
open Cert.Proof.Product

section Kernel

open Cert.MmDactIdeal Cert.MmDactIdeal.Gen Idealize.ShloMosaic.Pipeline

theorem pay1_eq (a : Mat 1056 1024) (b : Mat 1408 1024) : k0_pay1 (F := Ideal) a b = mulT a b := by
  funext y
  pointwise [k0_pay1, mulT]

variable (m : (ℓ : Loc nD τ sig) → Buf (Elt Ideal) ℓ) (ρ : Dev nD → PrngReg)

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem at_a (c : Dev nD) (t : Fin cfg0.N) (r : Fin 1056) (k : Fin 1024) (h0 : t.val / 2 * 1056 + r.val < 4224) :
    iblk m c 0 t (ix2 r k) = (m ((c : Thread nD τ).loc main_arg0) : Mat 4224 1024) (ix2 ⟨t.val / 2 * 1056 + r.val, h0⟩ k) := by
  blk_ext! [iblk, V, idx0 t]

theorem at_b (c : Dev nD) (t : Fin cfg0.N) (r : Fin 1408) (k : Fin 1024) (h0 : t.val % 2 * 1408 + r.val < 2816) :
    iblk m c 1 t (ix2 r k) = (m ((c : Thread nD τ).loc main_arg1) : Mat 2816 1024) (ix2 ⟨t.val % 2 * 1408 + r.val, h0⟩ k) := by
  blk_ext! [iblk, V, idx1 t]

theorem tile (c : Dev nD) (t : Fin cfg0.N) (r : Fin 1056) (l : Fin 1408) (h0 : t.val / 2 * 1056 + r.val < 4224) (h1 : t.val % 2 * 1408 + l.val < 2816) :
    mulT (iblk m c 0 t) (iblk m c 1 t) (ix2 r l)
      = mulT (m ((c : Thread nD τ).loc main_arg0)) (m ((c : Thread nD τ).loc main_arg1)) (ix2 ⟨t.val / 2 * 1056 + r.val, h0⟩ ⟨t.val % 2 * 1408 + l.val, h1⟩) :=
  Finset.sum_congr rfl fun k _ => congrArg₂ (· * ·) (at_a m c t r k h0) (at_b m c t l k h1)

theorem left (c : Dev nD) (t : Fin cfg0.N) : outsAt0 m c t = mulT (iblk m c 0 t) (iblk m c 1 t) := by
  funext y
  rw [outsAt0]
  frame_out
  pointwise [k0_pay2, k0_pay3]
  exact congrFun (pay1_eq _ _) y

/-- The kernel's product. -/
theorem arr (c : Dev nD) : (dats m 0 c).arrAt 2 cfg0.N
    = mulT (m ((c : Thread nD τ).loc main_arg0)) (m ((c : Thread nD τ).loc main_arg1)) := by
  refine (dats m 0 c).arrAt_eq_of_covers 2 _ (by decide +kernel) fun t hf y => ?_
  blk_simp
  have hN : t.val < 8 := lt_of_lt_of_eq t.isLt N_0
  have hy0 : (y 0).val < 1056 := (y 0).isLt
  have hy1 : (y 1).val < 1408 := (y 1).isLt
  have h0 : t.val / 2 * 1056 + (y 0).val < 4224 := by omega
  have h1 : t.val % 2 * 1408 + (y 1).val < 2816 := by omega
  rw [after0_2, left]
  refine (congrArg _ (ix2_eta (n0 := 1056) (n1 := 1408) y).symm).trans ((tile m c t (y 0) (y 1) h0 h1).trans (congrArg _ ?_))
  blk_ext [idx2 t]

theorem frame : Cert.quiescent_MmDact := fun m ρ _ => Cert.MmDact.Gen.frame m ρ

theorem frameIdeal : Cert.quiescent_MmDactIdeal := fun m ρ _ => Cert.MmDactIdeal.Gen.frame (F := Ideal) m ρ

end Kernel

section Reference

open Cert.MmDactRefIdeal Cert.MmDactRefIdeal.Gen

/-- The reference's product. -/
theorem ref_eq (a : Mat 4224 1024) (b : Mat 2816 1024) :
    Host.dotGeneral dot_S4224x1024_S1024x2816_S4224x2816_1_0_0_1_n_n none (extf .f32 a bitsLt_bf16_f32) (transpose S1024x2816 [1, 0] (extf .f32 b bitsLt_bf16_f32) transposes_S2816x1024_S1024x2816_1_0) = mulT a b := by
  funext i
  pointwise [mulT]

theorem frameRef : Cert.quiescent_MmDactRefIdeal := fun m ρ _ =>
  (θ_run Cert.MmDactRefIdeal.defs _ _).mono (fun r h => ⟨fun c => (h c).2, sem_eq_zero_of_no_sems rfl r.2⟩)
    (Cert.MmDactRefIdeal.Value.run (F := Ideal) m ρ)

end Reference

theorem algebraic : Cert.algebraic_MmDactIdeal_MmDactRefIdeal := fun m ρ m' ρ' _ h =>
  ⟨_, (θ_run Cert.MmDactIdeal.defs _ _).mono (fun _ r c => ⟨(r c).1.trans (arr m c), (r c).2⟩)
      (Cert.MmDactIdeal.Value.run_blocks (F := Ideal) m ρ),
    (θ_run Cert.MmDactRefIdeal.defs _ _).mono
      (fun _ r c => ⟨(r c).1.trans (by rw [(h c).1, (h c).2]; exact ref_eq _ _), (r c).2⟩)
      (Cert.MmDactRefIdeal.Value.run (F := Ideal) m' ρ')⟩

end Cert.Proof.MmDact
-- ==== Proof.MmDwDown.lean ====
/-
  The gradient of the hidden layer's output weight: the kernel's result, tile by tile, is the reference's product.
-/
module

public import proofs.«01_k».proof.Proof.Product
public import proofs.«01_k».proof.Proof.Gen.MmDwDown.Frame
public import proofs.«01_k».proof.Proof.Gen.MmDwDownIdeal.Value
public import proofs.«01_k».proof.Proof.Gen.MmDwDownRefIdeal.Run

@[expose] public section

noncomputable section

namespace Cert.Proof.MmDwDown

open Idealize.ShloMosaic Idealize.ShloMosaic.TcCoe Idealize.SL.Sem Idealize.SL Idealize.SL.RA
open Cert.Proof.Product

section Kernel

open Cert.MmDwDownIdeal Cert.MmDwDownIdeal.Gen Idealize.ShloMosaic.Pipeline

theorem pay1_eq (a : Mat 1408 1408) (b : Mat 1408 1024) : k0_pay1 (F := Ideal) a b = tMul a b := by
  funext y
  pointwise [k0_pay1, tMul]

variable (m : (ℓ : Loc nD τ sig) → Buf (Elt Ideal) ℓ) (ρ : Dev nD → PrngReg)

theorem idx0 : ∀ t : Fin cfg0.N, win0_0.index t = ![t.val % 3, t.val / 3] := (by decide +kernel : ∀ t : Fin grid0.N, _)
theorem idx1 : ∀ t : Fin cfg0.N, win0_1.index t = ![t.val % 3, 0] := (by decide +kernel : ∀ t : Fin grid0.N, _)
theorem idx2 : ∀ t : Fin cfg0.N, win0_2.index t = ![t.val / 3, 0] := (by decide +kernel : ∀ t : Fin grid0.N, _)

theorem at_a (c : Dev nD) (t : Fin cfg0.N) (r : Fin 1408) (k : Fin 1408) (h0 : t.val % 3 * 1408 + r.val < 4224) (h1 : t.val / 3 * 1408 + k.val < 2816) :
    iblk m c 0 t (ix2 r k) = (m ((c : Thread nD τ).loc main_arg0) : Mat 4224 2816) (ix2 ⟨t.val % 3 * 1408 + r.val, h0⟩ ⟨t.val / 3 * 1408 + k.val, h1⟩) := by
  blk_ext! [iblk, V, idx0 t]

theorem at_b (c : Dev nD) (t : Fin cfg0.N) (r : Fin 1408) (k : Fin 1024) (h0 : t.val % 3 * 1408 + r.val < 4224) :
    iblk m c 1 t (ix2 r k) = (m ((c : Thread nD τ).loc main_arg1) : Mat 4224 1024) (ix2 ⟨t.val % 3 * 1408 + r.val, h0⟩ k) := by
  blk_ext! [iblk, V, idx1 t]

/-- The sum the kernel keeps: what the first point of a tile leaves, what the others add, and that the last one writes it. -/
theorem first (c : Dev nD) (t : Fin cfg0.N) (h : t.val % 3 = 0) (j : S1408x1024.Idx) :
    (outsAt0 m c t.val t.isLt).2 j = (0 : EReal) + tMul (iblk m c 0 t) (iblk m c 1 t) j := by
  rw [outsAt0_A m c t h (by omega) (by omega), zero_add]
  frame_out
  pointwise [k0_pay2, k0_pay3]
  exact congrFun (pay1_eq _ _) j

theorem next (c : Dev nD) (t : Fin cfg0.N) (h : ¬t.val % 3 = 0) (j : S1408x1024.Idx) :
    (outsAt0 m c t.val t.isLt).2 j
      = (outsAt0 m c (t.val - 1) (Nat.lt_of_le_of_lt (Nat.sub_le _ _) t.isLt)).2 j + tMul (iblk m c 0 t) (iblk m c 1 t) j := by
  by_cases h2 : t.val % 3 = 2
  · rw [outsAt0_C m c t h (by omega) h2]; frame_out; pointwise [k0_pay2, k0_pay3]; exact congrArg₂ (· + ·) (congrFun (Memref.IsWhole.read_unread _ _) j) (congrFun (pay1_eq _ _) j)
  · rw [outsAt0_B m c t h (by omega) h2]; frame_out; pointwise [k0_pay2, k0_pay3]; exact congrArg₂ (· + ·) (congrFun (Memref.IsWhole.read_unread _ _) j) (congrFun (pay1_eq _ _) j)

theorem last (c : Dev nD) (t : Fin cfg0.N) (h : t.val % 3 = 2) :
    (outsAt0 m c t.val t.isLt).1 = (outsAt0 m c t.val t.isLt).2 := by
  funext j
  rw [outsAt0_C m c t (by omega) (by omega) h]
  frame_out

/-- The kernel's product. -/
theorem arr (c : Dev nD) : (dats m 0 c).arrAt 2 cfg0.N
    = tMul (m ((c : Thread nD τ).loc main_arg0)) (m ((c : Thread nD τ).loc main_arg1)) := by
  refine (dats m 0 c).arrAt_eq_of_covers 2 _ (by decide +kernel) fun t hf y => ?_
  blk_simp
  have hN : t.val < 6 := lt_of_lt_of_eq t.isLt N_0
  have hy0 : (y 0).val < 1408 := (y 0).isLt
  have hy1 : (y 1).val < 1024 := (y 1).isLt
  have h0 : t.val / 3 * 1408 + (y 0).val < 2816 := by omega
  rw [after0_2, last m c t ((flush0_2 t).mp hf),
    Pipeline.eq_sum_fin_of_reset_step_apply_of_flush (fun n h => (outsAt0 m c n h).2) 3 (fun _ => (0 : EReal))
      (fun t j => tMul (iblk m c 0 t) (iblk m c 1 t) j) (first m c) (next m c) t ((flush0_2 t).mp hf) _, zero_add]
  refine Fin.sum_mul_add_congr (S := 3) (n := 1408) fun s k h => ?_
  have hs : s.val < 3 := s.isLt
  have hk : k.val < 1408 := k.isLt
  have hm : t.val % 3 = 2 := (flush0_2 t).mp hf
  refine congrArg₂ (· * ·) ((at_a m c _ k (y 0) (by dsimp only; omega) (by dsimp only; omega)).trans (congrArg _ ?_))
    ((at_b m c _ k (y 1) (by dsimp only; omega)).trans (congrArg _ ?_))
  · blk_ext [idx2 t]
  · blk_ext [idx2 t]

theorem frame : Cert.quiescent_MmDwDown := fun m ρ _ => Cert.MmDwDown.Gen.frame m ρ

theorem frameIdeal : Cert.quiescent_MmDwDownIdeal := fun m ρ _ => Cert.MmDwDownIdeal.Gen.frame (F := Ideal) m ρ

end Kernel

section Reference

open Cert.MmDwDownRefIdeal Cert.MmDwDownRefIdeal.Gen

/-- The reference's product. -/
theorem ref_eq (a : Mat 4224 2816) (b : Mat 4224 1024) :
    Host.dotGeneral dot_S2816x4224_S4224x1024_S2816x1024_1_0_0_1_n_n none (transpose S2816x4224 [1, 0] (extf .f32 a bitsLt_bf16_f32) transposes_S4224x2816_S2816x4224_1_0) (extf .f32 b bitsLt_bf16_f32) = tMul a b := by
  funext i
  pointwise [tMul]

theorem frameRef : Cert.quiescent_MmDwDownRefIdeal := fun m ρ _ =>
  (θ_run Cert.MmDwDownRefIdeal.defs _ _).mono (fun r h => ⟨fun c => (h c).2, sem_eq_zero_of_no_sems rfl r.2⟩)
    (Cert.MmDwDownRefIdeal.Value.run (F := Ideal) m ρ)

end Reference

theorem algebraic : Cert.algebraic_MmDwDownIdeal_MmDwDownRefIdeal := fun m ρ m' ρ' _ h =>
  ⟨_, (θ_run Cert.MmDwDownIdeal.defs _ _).mono (fun _ r c => ⟨(r c).1.trans (arr m c), (r c).2⟩)
      (Cert.MmDwDownIdeal.Value.run_blocks (F := Ideal) m ρ),
    (θ_run Cert.MmDwDownRefIdeal.defs _ _).mono
      (fun _ r c => ⟨(r c).1.trans (by rw [(h c).1, (h c).2]; exact ref_eq _ _), (r c).2⟩)
      (Cert.MmDwDownRefIdeal.Value.run (F := Ideal) m' ρ')⟩

end Cert.Proof.MmDwDown
-- ==== Proof.MmDwGateUp.lean ====
/-
  The gradient of the hidden layer's input weights: the kernel's result, tile by tile, is the reference's product.
-/
module

public import proofs.«01_k».proof.Proof.Product
public import proofs.«01_k».proof.Proof.Gen.MmDwGateUp.Frame
public import proofs.«01_k».proof.Proof.Gen.MmDwGateUpIdeal.Value
public import proofs.«01_k».proof.Proof.Gen.MmDwGateUpRefIdeal.Run

@[expose] public section

noncomputable section

namespace Cert.Proof.MmDwGateUp

open Idealize.ShloMosaic Idealize.ShloMosaic.TcCoe Idealize.SL.Sem Idealize.SL Idealize.SL.RA
open Cert.Proof.Product

section Kernel

open Cert.MmDwGateUpIdeal Cert.MmDwGateUpIdeal.Gen Idealize.ShloMosaic.Pipeline

theorem pay1_eq (a : Mat 1408 1024) (b : Mat 1408 1408) : k0_pay1 (F := Ideal) a b = tMul a b := by
  funext y
  pointwise [k0_pay1, tMul]

variable (m : (ℓ : Loc nD τ sig) → Buf (Elt Ideal) ℓ) (ρ : Dev nD → PrngReg)

theorem idx0 : ∀ t : Fin cfg0.N, win0_0.index t = ![t.val % 3, t.val / 12] := (by decide +kernel : ∀ t : Fin grid0.N, _)
theorem idx1 : ∀ t : Fin cfg0.N, win0_1.index t = ![t.val % 3, t.val / 3 % 4] := (by decide +kernel : ∀ t : Fin grid0.N, _)
theorem idx2 : ∀ t : Fin cfg0.N, win0_2.index t = ![t.val / 12, t.val / 3 % 4] := (by decide +kernel : ∀ t : Fin grid0.N, _)

theorem at_a (c : Dev nD) (t : Fin cfg0.N) (r : Fin 1408) (k : Fin 1024) (h0 : t.val % 3 * 1408 + r.val < 4224) (h1 : t.val / 12 * 1024 + k.val < 1024) :
    iblk m c 0 t (ix2 r k) = (m ((c : Thread nD τ).loc main_arg0) : Mat 4224 1024) (ix2 ⟨t.val % 3 * 1408 + r.val, h0⟩ ⟨t.val / 12 * 1024 + k.val, h1⟩) := by
  blk_ext! [iblk, V, idx0 t]

theorem at_b (c : Dev nD) (t : Fin cfg0.N) (r : Fin 1408) (k : Fin 1408) (h0 : t.val % 3 * 1408 + r.val < 4224) (h1 : t.val / 3 % 4 * 1408 + k.val < 5632) :
    iblk m c 1 t (ix2 r k) = (m ((c : Thread nD τ).loc main_arg1) : Mat 4224 5632) (ix2 ⟨t.val % 3 * 1408 + r.val, h0⟩ ⟨t.val / 3 % 4 * 1408 + k.val, h1⟩) := by
  blk_ext! [iblk, V, idx1 t]

/-- The sum the kernel keeps: what the first point of a tile leaves, what the others add, and that the last one writes it. -/
theorem first (c : Dev nD) (t : Fin cfg0.N) (h : t.val % 3 = 0) (j : S1024x1408.Idx) :
    (outsAt0 m c t.val t.isLt).2 j = (0 : EReal) + tMul (iblk m c 0 t) (iblk m c 1 t) j := by
  rw [outsAt0_A m c t h (by omega) (by omega), zero_add]
  frame_out
  pointwise [k0_pay2, k0_pay3]
  exact congrFun (pay1_eq _ _) j

theorem next (c : Dev nD) (t : Fin cfg0.N) (h : ¬t.val % 3 = 0) (j : S1024x1408.Idx) :
    (outsAt0 m c t.val t.isLt).2 j
      = (outsAt0 m c (t.val - 1) (Nat.lt_of_le_of_lt (Nat.sub_le _ _) t.isLt)).2 j + tMul (iblk m c 0 t) (iblk m c 1 t) j := by
  by_cases h2 : t.val % 3 = 2
  · rw [outsAt0_C m c t h (by omega) h2]; frame_out; pointwise [k0_pay2, k0_pay3]; exact congrArg₂ (· + ·) (congrFun (Memref.IsWhole.read_unread _ _) j) (congrFun (pay1_eq _ _) j)
  · rw [outsAt0_B m c t h (by omega) h2]; frame_out; pointwise [k0_pay2, k0_pay3]; exact congrArg₂ (· + ·) (congrFun (Memref.IsWhole.read_unread _ _) j) (congrFun (pay1_eq _ _) j)

theorem last (c : Dev nD) (t : Fin cfg0.N) (h : t.val % 3 = 2) :
    (outsAt0 m c t.val t.isLt).1 = (outsAt0 m c t.val t.isLt).2 := by
  funext j
  rw [outsAt0_C m c t (by omega) (by omega) h]
  frame_out

/-- The kernel's product. -/
theorem arr (c : Dev nD) : (dats m 0 c).arrAt 2 cfg0.N
    = tMul (m ((c : Thread nD τ).loc main_arg0)) (m ((c : Thread nD τ).loc main_arg1)) := by
  refine (dats m 0 c).arrAt_eq_of_covers 2 _ (by decide +kernel) fun t hf y => ?_
  blk_simp
  have hN : t.val < 12 := lt_of_lt_of_eq t.isLt N_0
  have hy0 : (y 0).val < 1024 := (y 0).isLt
  have hy1 : (y 1).val < 1408 := (y 1).isLt
  have h0 : t.val / 12 * 1024 + (y 0).val < 1024 := by omega
  have h1 : t.val / 3 % 4 * 1408 + (y 1).val < 5632 := by omega
  rw [after0_2, last m c t ((flush0_2 t).mp hf),
    Pipeline.eq_sum_fin_of_reset_step_apply_of_flush (fun n h => (outsAt0 m c n h).2) 3 (fun _ => (0 : EReal))
      (fun t j => tMul (iblk m c 0 t) (iblk m c 1 t) j) (first m c) (next m c) t ((flush0_2 t).mp hf) _, zero_add]
  refine Fin.sum_mul_add_congr (S := 3) (n := 1408) fun s k h => ?_
  have hs : s.val < 3 := s.isLt
  have hk : k.val < 1408 := k.isLt
  have hm : t.val % 3 = 2 := (flush0_2 t).mp hf
  refine congrArg₂ (· * ·) ((at_a m c _ k (y 0) (by dsimp only; omega) (by dsimp only; omega)).trans (congrArg _ ?_))
    ((at_b m c _ k (y 1) (by dsimp only; omega) (by dsimp only; omega)).trans (congrArg _ ?_))
  · blk_ext [idx2 t]
  · blk_ext [idx2 t]

theorem frame : Cert.quiescent_MmDwGateUp := fun m ρ _ => Cert.MmDwGateUp.Gen.frame m ρ

theorem frameIdeal : Cert.quiescent_MmDwGateUpIdeal := fun m ρ _ => Cert.MmDwGateUpIdeal.Gen.frame (F := Ideal) m ρ

end Kernel

section Reference

open Cert.MmDwGateUpRefIdeal Cert.MmDwGateUpRefIdeal.Gen

/-- The reference's product. -/
theorem ref_eq (a : Mat 4224 1024) (b : Mat 4224 5632) :
    Host.dotGeneral dot_S1024x4224_S4224x5632_S1024x5632_1_0_0_1_n_n none (transpose S1024x4224 [1, 0] (extf .f32 a bitsLt_bf16_f32) transposes_S4224x1024_S1024x4224_1_0) (extf .f32 b bitsLt_bf16_f32) = tMul a b := by
  funext i
  pointwise [tMul]

theorem frameRef : Cert.quiescent_MmDwGateUpRefIdeal := fun m ρ _ =>
  (θ_run Cert.MmDwGateUpRefIdeal.defs _ _).mono (fun r h => ⟨fun c => (h c).2, sem_eq_zero_of_no_sems rfl r.2⟩)
    (Cert.MmDwGateUpRefIdeal.Value.run (F := Ideal) m ρ)

end Reference

theorem algebraic : Cert.algebraic_MmDwGateUpIdeal_MmDwGateUpRefIdeal := fun m ρ m' ρ' _ h =>
  ⟨_, (θ_run Cert.MmDwGateUpIdeal.defs _ _).mono (fun _ r c => ⟨(r c).1.trans (arr m c), (r c).2⟩)
      (Cert.MmDwGateUpIdeal.Value.run_blocks (F := Ideal) m ρ),
    (θ_run Cert.MmDwGateUpRefIdeal.defs _ _).mono
      (fun _ r c => ⟨(r c).1.trans (by rw [(h c).1, (h c).2]; exact ref_eq _ _), (r c).2⟩)
      (Cert.MmDwGateUpRefIdeal.Value.run (F := Ideal) m' ρ')⟩

end Cert.Proof.MmDwGateUp
-- ==== Proof.MmDu2.lean ====
/-
  The gradient of the hidden layer's input: the kernel's result, tile by tile, is the reference's product.
-/
module

public import proofs.«01_k».proof.Proof.Product
public import proofs.«01_k».proof.Proof.Gen.MmDu2.Frame
public import proofs.«01_k».proof.Proof.Gen.MmDu2Ideal.Value
public import proofs.«01_k».proof.Proof.Gen.MmDu2RefIdeal.Run

@[expose] public section

noncomputable section

namespace Cert.Proof.MmDu2

open Idealize.ShloMosaic Idealize.ShloMosaic.TcCoe Idealize.SL.Sem Idealize.SL Idealize.SL.RA
open Cert.Proof.Product

section Kernel

open Cert.MmDu2Ideal Cert.MmDu2Ideal.Gen Idealize.ShloMosaic.Pipeline

theorem pay1_eq (a : Mat 1056 1408) (b : Mat 1024 1408) : k0_pay1 (F := Ideal) a b = mulT a b := by
  funext y
  pointwise [k0_pay1, mulT]

variable (m : (ℓ : Loc nD τ sig) → Buf (Elt Ideal) ℓ) (ρ : Dev nD → PrngReg)

theorem idx0 : ∀ t : Fin cfg0.N, win0_0.index t = ![t.val / 4, t.val % 4] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)

theorem at_a (c : Dev nD) (t : Fin cfg0.N) (r : Fin 1056) (k : Fin 1408) (h0 : t.val / 4 * 1056 + r.val < 4224) (h1 : t.val % 4 * 1408 + k.val < 5632) :
    iblk m c 0 t (ix2 r k) = (m ((c : Thread nD τ).loc main_arg0) : Mat 4224 5632) (ix2 ⟨t.val / 4 * 1056 + r.val, h0⟩ ⟨t.val % 4 * 1408 + k.val, h1⟩) := by
  blk_ext! [iblk, V, idx0 t]

theorem at_b (c : Dev nD) (t : Fin cfg0.N) (r : Fin 1024) (k : Fin 1408) (h1 : t.val % 4 * 1408 + k.val < 5632) :
    iblk m c 1 t (ix2 r k) = (m ((c : Thread nD τ).loc main_arg1) : Mat 1024 5632) (ix2 r ⟨t.val % 4 * 1408 + k.val, h1⟩) := by
  blk_ext! [iblk, V, idx1 t]

/-- The sum the kernel keeps: what the first point of a tile leaves, what the others add, and that the last one writes it. -/
theorem first (c : Dev nD) (t : Fin cfg0.N) (h : t.val % 4 = 0) (j : S1056x1024.Idx) :
    (outsAt0 m c t.val t.isLt).2 j = (0 : EReal) + mulT (iblk m c 0 t) (iblk m c 1 t) j := by
  rw [outsAt0_A m c t h (by omega) (by omega), zero_add]
  frame_out
  pointwise [k0_pay2, k0_pay3]
  exact congrFun (pay1_eq _ _) j

theorem next (c : Dev nD) (t : Fin cfg0.N) (h : ¬t.val % 4 = 0) (j : S1056x1024.Idx) :
    (outsAt0 m c t.val t.isLt).2 j
      = (outsAt0 m c (t.val - 1) (Nat.lt_of_le_of_lt (Nat.sub_le _ _) t.isLt)).2 j + mulT (iblk m c 0 t) (iblk m c 1 t) j := by
  by_cases h2 : t.val % 4 = 3
  · rw [outsAt0_C m c t h (by omega) h2]; frame_out; pointwise [k0_pay2, k0_pay3]; exact congrArg₂ (· + ·) (congrFun (Memref.IsWhole.read_unread _ _) j) (congrFun (pay1_eq _ _) j)
  · rw [outsAt0_B m c t h (by omega) h2]; frame_out; pointwise [k0_pay2, k0_pay3]; exact congrArg₂ (· + ·) (congrFun (Memref.IsWhole.read_unread _ _) j) (congrFun (pay1_eq _ _) j)

theorem last (c : Dev nD) (t : Fin cfg0.N) (h : t.val % 4 = 3) :
    (outsAt0 m c t.val t.isLt).1 = (outsAt0 m c t.val t.isLt).2 := by
  funext j
  rw [outsAt0_C m c t (by omega) (by omega) h]
  frame_out

/-- The kernel's product. -/
theorem arr (c : Dev nD) : (dats m 0 c).arrAt 2 cfg0.N
    = mulT (m ((c : Thread nD τ).loc main_arg0)) (m ((c : Thread nD τ).loc main_arg1)) := by
  refine (dats m 0 c).arrAt_eq_of_covers 2 _ (by decide +kernel) fun t hf y => ?_
  blk_simp
  have hN : t.val < 16 := lt_of_lt_of_eq t.isLt N_0
  have hy0 : (y 0).val < 1056 := (y 0).isLt
  have hy1 : (y 1).val < 1024 := (y 1).isLt
  have h0 : t.val / 4 * 1056 + (y 0).val < 4224 := by omega
  rw [after0_2, last m c t ((flush0_2 t).mp hf),
    Pipeline.eq_sum_fin_of_reset_step_apply_of_flush (fun n h => (outsAt0 m c n h).2) 4 (fun _ => (0 : EReal))
      (fun t j => mulT (iblk m c 0 t) (iblk m c 1 t) j) (first m c) (next m c) t ((flush0_2 t).mp hf) _, zero_add]
  refine Fin.sum_mul_add_congr (S := 4) (n := 1408) fun s k h => ?_
  have hs : s.val < 4 := s.isLt
  have hk : k.val < 1408 := k.isLt
  have hm : t.val % 4 = 3 := (flush0_2 t).mp hf
  refine congrArg₂ (· * ·) ((at_a m c _ (y 0) k (by dsimp only; omega) (by dsimp only; omega)).trans (congrArg _ ?_))
    ((at_b m c _ (y 1) k (by dsimp only; omega)).trans (congrArg _ ?_))
  · blk_ext [idx2 t]
  · blk_ext [idx2 t]

theorem frame : Cert.quiescent_MmDu2 := fun m ρ _ => Cert.MmDu2.Gen.frame m ρ

theorem frameIdeal : Cert.quiescent_MmDu2Ideal := fun m ρ _ => Cert.MmDu2Ideal.Gen.frame (F := Ideal) m ρ

end Kernel

section Reference

open Cert.MmDu2RefIdeal Cert.MmDu2RefIdeal.Gen

/-- The reference's product. -/
theorem ref_eq (a : Mat 4224 5632) (b : Mat 1024 5632) :
    Host.dotGeneral dot_S4224x5632_S5632x1024_S4224x1024_1_0_0_1_n_n none (extf .f32 a bitsLt_bf16_f32) (transpose S5632x1024 [1, 0] (extf .f32 b bitsLt_bf16_f32) transposes_S1024x5632_S5632x1024_1_0) = mulT a b := by
  funext i
  pointwise [mulT]

theorem frameRef : Cert.quiescent_MmDu2RefIdeal := fun m ρ _ =>
  (θ_run Cert.MmDu2RefIdeal.defs _ _).mono (fun r h => ⟨fun c => (h c).2, sem_eq_zero_of_no_sems rfl r.2⟩)
    (Cert.MmDu2RefIdeal.Value.run (F := Ideal) m ρ)

end Reference

theorem algebraic : Cert.algebraic_MmDu2Ideal_MmDu2RefIdeal := fun m ρ m' ρ' _ h =>
  ⟨_, (θ_run Cert.MmDu2Ideal.defs _ _).mono (fun _ r c => ⟨(r c).1.trans (arr m c), (r c).2⟩)
      (Cert.MmDu2Ideal.Value.run_blocks (F := Ideal) m ρ),
    (θ_run Cert.MmDu2RefIdeal.defs _ _).mono
      (fun _ r c => ⟨(r c).1.trans (by rw [(h c).1, (h c).2]; exact ref_eq _ _), (r c).2⟩)
      (Cert.MmDu2RefIdeal.Value.run (F := Ideal) m' ρ')⟩

end Cert.Proof.MmDu2
-- ==== Proof.MmDcat.lean ====
/-
  The gradient of the two mixers' outputs: the kernel's result, tile by tile, is the reference's product.
-/
module

public import proofs.«01_k».proof.Proof.Product
public import proofs.«01_k».proof.Proof.Gen.MmDcat.Frame
public import proofs.«01_k».proof.Proof.Gen.MmDcatIdeal.Value
public import proofs.«01_k».proof.Proof.Gen.MmDcatRefIdeal.Run

@[expose] public section

noncomputable section

namespace Cert.Proof.MmDcat

open Idealize.ShloMosaic Idealize.ShloMosaic.TcCoe Idealize.SL.Sem Idealize.SL Idealize.SL.RA
open Cert.Proof.Product

section Kernel

open Cert.MmDcatIdeal Cert.MmDcatIdeal.Gen Idealize.ShloMosaic.Pipeline

theorem pay1_eq (a : Mat 1056 1024) (b : Mat 1024 1024) : k0_pay1 (F := Ideal) a b = mulT a b := by
  funext y
  pointwise [k0_pay1, mulT]

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem at_a (c : Dev nD) (t : Fin cfg0.N) (r : Fin 1056) (k : Fin 1024) (h0 : t.val * 1056 + r.val < 4224) :
    iblk m c 0 t (ix2 r k) = (m ((c : Thread nD τ).loc main_arg0) : Mat 4224 1024) (ix2 ⟨t.val * 1056 + r.val, h0⟩ k) := by
  blk_ext! [iblk, V, idx0 t]

theorem at_b (c : Dev nD) (t : Fin cfg0.N) (r : Fin 1024) (k : Fin 1024) :
    iblk m c 1 t (ix2 r k) = (m ((c : Thread nD τ).loc main_arg1) : Mat 1024 1024) (ix2 r k) := by
  blk_ext! [iblk, V, idx1 t]

theorem tile (c : Dev nD) (t : Fin cfg0.N) (r : Fin 1056) (l : Fin 1024) (h0 : t.val * 1056 + r.val < 4224) :
    mulT (iblk m c 0 t) (iblk m c 1 t) (ix2 r l)
      = mulT (m ((c : Thread nD τ).loc main_arg0)) (m ((c : Thread nD τ).loc main_arg1)) (ix2 ⟨t.val * 1056 + r.val, h0⟩ l) :=
  Finset.sum_congr rfl fun k _ => congrArg₂ (· * ·) (at_a m c t r k h0) (at_b m c t l k)

theorem left (c : Dev nD) (t : Fin cfg0.N) : outsAt0 m c t = mulT (iblk m c 0 t) (iblk m c 1 t) := by
  funext y
  rw [outsAt0]
  frame_out
  pointwise [k0_pay2, k0_pay3]
  exact congrFun (pay1_eq _ _) y

/-- The kernel's product. -/
theorem arr (c : Dev nD) : (dats m 0 c).arrAt 2 cfg0.N
    = mulT (m ((c : Thread nD τ).loc main_arg0)) (m ((c : Thread nD τ).loc main_arg1)) := by
  refine (dats m 0 c).arrAt_eq_of_covers 2 _ (by decide +kernel) fun t hf y => ?_
  blk_simp
  have hN : t.val < 4 := lt_of_lt_of_eq t.isLt N_0
  have hy0 : (y 0).val < 1056 := (y 0).isLt
  have hy1 : (y 1).val < 1024 := (y 1).isLt
  have h0 : t.val * 1056 + (y 0).val < 4224 := by omega
  rw [after0_2, left]
  refine (congrArg _ (ix2_eta (n0 := 1056) (n1 := 1024) y).symm).trans ((tile m c t (y 0) (y 1) h0).trans (congrArg _ ?_))
  blk_ext [idx2 t]

theorem frame : Cert.quiescent_MmDcat := fun m ρ _ => Cert.MmDcat.Gen.frame m ρ

theorem frameIdeal : Cert.quiescent_MmDcatIdeal := fun m ρ _ => Cert.MmDcatIdeal.Gen.frame (F := Ideal) m ρ

end Kernel

section Reference

open Cert.MmDcatRefIdeal Cert.MmDcatRefIdeal.Gen

/-- The reference's product. -/
theorem ref_eq (a : Mat 4224 1024) (b : Mat 1024 1024) :
    Host.dotGeneral dot_S4224x1024_S1024x1024_S4224x1024_1_0_0_1_n_n none (extf .f32 a bitsLt_bf16_f32) (transpose S1024x1024 [1, 0] (extf .f32 b bitsLt_bf16_f32) transposes_S1024x1024_S1024x1024_1_0) = mulT a b := by
  funext i
  pointwise [mulT]

theorem frameRef : Cert.quiescent_MmDcatRefIdeal := fun m ρ _ =>
  (θ_run Cert.MmDcatRefIdeal.defs _ _).mono (fun r h => ⟨fun c => (h c).2, sem_eq_zero_of_no_sems rfl r.2⟩)
    (Cert.MmDcatRefIdeal.Value.run (F := Ideal) m ρ)

end Reference

theorem algebraic : Cert.algebraic_MmDcatIdeal_MmDcatRefIdeal := fun m ρ m' ρ' _ h =>
  ⟨_, (θ_run Cert.MmDcatIdeal.defs _ _).mono (fun _ r c => ⟨(r c).1.trans (arr m c), (r c).2⟩)
      (Cert.MmDcatIdeal.Value.run_blocks (F := Ideal) m ρ),
    (θ_run Cert.MmDcatRefIdeal.defs _ _).mono
      (fun _ r c => ⟨(r c).1.trans (by rw [(h c).1, (h c).2]; exact ref_eq _ _), (r c).2⟩)
      (Cert.MmDcatRefIdeal.Value.run (F := Ideal) m' ρ')⟩

end Cert.Proof.MmDcat
-- ==== Proof.MmDwOut.lean ====
/-
  The gradient of the mixers' output weight: the kernel's result, tile by tile, is the reference's product.
-/
module

public import proofs.«01_k».proof.Proof.Product
public import proofs.«01_k».proof.Proof.Gen.MmDwOut.Frame
public import proofs.«01_k».proof.Proof.Gen.MmDwOutIdeal.Value
public import proofs.«01_k».proof.Proof.Gen.MmDwOutRefIdeal.Run

@[expose] public section

noncomputable section

namespace Cert.Proof.MmDwOut

open Idealize.ShloMosaic Idealize.ShloMosaic.TcCoe Idealize.SL.Sem Idealize.SL Idealize.SL.RA
open Cert.Proof.Product

section Kernel

open Cert.MmDwOutIdeal Cert.MmDwOutIdeal.Gen Idealize.ShloMosaic.Pipeline

theorem pay1_eq (a : Mat 1408 1024) (b : Mat 1408 1024) : k0_pay1 (F := Ideal) a b = tMul a b := by
  funext y
  pointwise [k0_pay1, tMul]

variable (m : (ℓ : Loc nD τ sig) → Buf (Elt Ideal) ℓ) (ρ : Dev nD → PrngReg)

theorem idx0 : ∀ t : Fin cfg0.N, win0_0.index t = ![t.val % 3, t.val / 3] := (by decide +kernel : ∀ t : Fin grid0.N, _)
theorem idx1 : ∀ t : Fin cfg0.N, win0_1.index t = ![t.val % 3, 0] := (by decide +kernel : ∀ t : Fin grid0.N, _)
theorem idx2 : ∀ t : Fin cfg0.N, win0_2.index t = ![t.val / 3, 0] := (by decide +kernel : ∀ t : Fin grid0.N, _)

theorem at_a (c : Dev nD) (t : Fin cfg0.N) (r : Fin 1408) (k : Fin 1024) (h0 : t.val % 3 * 1408 + r.val < 4224) (h1 : t.val / 3 * 1024 + k.val < 1024) :
    iblk m c 0 t (ix2 r k) = (m ((c : Thread nD τ).loc main_arg0) : Mat 4224 1024) (ix2 ⟨t.val % 3 * 1408 + r.val, h0⟩ ⟨t.val / 3 * 1024 + k.val, h1⟩) := by
  blk_ext! [iblk, V, idx0 t]

theorem at_b (c : Dev nD) (t : Fin cfg0.N) (r : Fin 1408) (k : Fin 1024) (h0 : t.val % 3 * 1408 + r.val < 4224) :
    iblk m c 1 t (ix2 r k) = (m ((c : Thread nD τ).loc main_arg1) : Mat 4224 1024) (ix2 ⟨t.val % 3 * 1408 + r.val, h0⟩ k) := by
  blk_ext! [iblk, V, idx1 t]

/-- The sum the kernel keeps: what the first point of a tile leaves, what the others add, and that the last one writes it. -/
theorem first (c : Dev nD) (t : Fin cfg0.N) (h : t.val % 3 = 0) (j : S1024x1024.Idx) :
    (outsAt0 m c t.val t.isLt).2 j = (0 : EReal) + tMul (iblk m c 0 t) (iblk m c 1 t) j := by
  have hN : t.val < 3 := lt_of_lt_of_eq t.isLt N_0
  rw [outsAt0_A m c t h (by omega) (by omega), zero_add]
  frame_out
  pointwise [k0_pay2, k0_pay3]
  exact congrFun (pay1_eq _ _) j

theorem next (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + tMul (iblk m c 0 t) (iblk m c 1 t) j := by
  by_cases h2 : t.val % 3 = 2
  · rw [outsAt0_C m c t h (by omega) h2]; frame_out; pointwise [k0_pay2, k0_pay3]; exact congrArg₂ (· + ·) (congrFun (Memref.IsWhole.read_unread _ _) j) (congrFun (pay1_eq _ _) j)
  · rw [outsAt0_B m c t h (by omega) h2]; frame_out; pointwise [k0_pay2, k0_pay3]; exact congrArg₂ (· + ·) (congrFun (Memref.IsWhole.read_unread _ _) j) (congrFun (pay1_eq _ _) j)

theorem last (c : Dev nD) (t : Fin cfg0.N) (h : t.val % 3 = 2) :
    (outsAt0 m c t.val t.isLt).1 = (outsAt0 m c t.val t.isLt).2 := by
  funext j
  rw [outsAt0_C m c t (by omega) (by omega) h]
  frame_out

/-- The kernel's product. -/
theorem arr (c : Dev nD) : (dats m 0 c).arrAt 2 cfg0.N
    = tMul (m ((c : Thread nD τ).loc main_arg0)) (m ((c : Thread nD τ).loc main_arg1)) := by
  refine (dats m 0 c).arrAt_eq_of_covers 2 _ (by decide +kernel) fun t hf y => ?_
  blk_simp
  have hN : t.val < 3 := lt_of_lt_of_eq t.isLt N_0
  have hy0 : (y 0).val < 1024 := (y 0).isLt
  have hy1 : (y 1).val < 1024 := (y 1).isLt
  have h0 : t.val / 3 * 1024 + (y 0).val < 1024 := by omega
  rw [after0_2, last m c t ((flush0_2 t).mp hf),
    Pipeline.eq_sum_fin_of_reset_step_apply_of_flush (fun n h => (outsAt0 m c n h).2) 3 (fun _ => (0 : EReal))
      (fun t j => tMul (iblk m c 0 t) (iblk m c 1 t) j) (first m c) (next m c) t ((flush0_2 t).mp hf) _, zero_add]
  refine Fin.sum_mul_add_congr (S := 3) (n := 1408) fun s k h => ?_
  have hs : s.val < 3 := s.isLt
  have hk : k.val < 1408 := k.isLt
  have hm : t.val % 3 = 2 := (flush0_2 t).mp hf
  refine congrArg₂ (· * ·) ((at_a m c _ k (y 0) (by dsimp only; omega) (by dsimp only; omega)).trans (congrArg _ ?_))
    ((at_b m c _ k (y 1) (by dsimp only; omega)).trans (congrArg _ ?_))
  · blk_ext [idx2 t]
  · blk_ext [idx2 t]

theorem frame : Cert.quiescent_MmDwOut := fun m ρ _ => Cert.MmDwOut.Gen.frame m ρ

theorem frameIdeal : Cert.quiescent_MmDwOutIdeal := fun m ρ _ => Cert.MmDwOutIdeal.Gen.frame (F := Ideal) m ρ

end Kernel

section Reference

open Cert.MmDwOutRefIdeal Cert.MmDwOutRefIdeal.Gen

/-- The reference's product. -/
theorem ref_eq (a : Mat 4224 1024) (b : Mat 4224 1024) :
    Host.dotGeneral dot_S1024x4224_S4224x1024_S1024x1024_1_0_0_1_n_n none (transpose S1024x4224 [1, 0] (extf .f32 a bitsLt_bf16_f32) transposes_S4224x1024_S1024x4224_1_0) (extf .f32 b bitsLt_bf16_f32) = tMul a b := by
  funext i
  pointwise [tMul]

theorem frameRef : Cert.quiescent_MmDwOutRefIdeal := fun m ρ _ =>
  (θ_run Cert.MmDwOutRefIdeal.defs _ _).mono (fun r h => ⟨fun c => (h c).2, sem_eq_zero_of_no_sems rfl r.2⟩)
    (Cert.MmDwOutRefIdeal.Value.run (F := Ideal) m ρ)

end Reference

theorem algebraic : Cert.algebraic_MmDwOutIdeal_MmDwOutRefIdeal := fun m ρ m' ρ' _ h =>
  ⟨_, (θ_run Cert.MmDwOutIdeal.defs _ _).mono (fun _ r c => ⟨(r c).1.trans (arr m c), (r c).2⟩)
      (Cert.MmDwOutIdeal.Value.run_blocks (F := Ideal) m ρ),
    (θ_run Cert.MmDwOutRefIdeal.defs _ _).mono
      (fun _ r c => ⟨(r c).1.trans (by rw [(h c).1, (h c).2]; exact ref_eq _ _), (r c).2⟩)
      (Cert.MmDwOutRefIdeal.Value.run (F := Ideal) m' ρ')⟩

end Cert.Proof.MmDwOut
-- ==== Proof.MmDwIn.lean ====
/-
  The gradient of the mixers' input weight: the kernel's result, tile by tile, is the reference's product.
-/
module

public import proofs.«01_k».proof.Proof.Product
public import proofs.«01_k».proof.Proof.Gen.MmDwIn.Frame
public import proofs.«01_k».proof.Proof.Gen.MmDwInIdeal.Value
public import proofs.«01_k».proof.Proof.Gen.MmDwInRefIdeal.Run

@[expose] public section

noncomputable section

namespace Cert.Proof.MmDwIn

open Idealize.ShloMosaic Idealize.ShloMosaic.TcCoe Idealize.SL.Sem Idealize.SL Idealize.SL.RA
open Cert.Proof.Product

section Kernel

open Cert.MmDwInIdeal Cert.MmDwInIdeal.Gen Idealize.ShloMosaic.Pipeline

theorem pay1_eq (a : Mat 1408 1024) (b : Mat 1408 1280) : k0_pay1 (F := Ideal) a b = tMul a b := by
  funext y
  pointwise [k0_pay1, tMul]

variable (m : (ℓ : Loc nD τ sig) → Buf (Elt Ideal) ℓ) (ρ : Dev nD → PrngReg)

theorem idx0 : ∀ t : Fin cfg0.N, win0_0.index t = ![t.val % 3, t.val / 9] := (by decide +kernel : ∀ t : Fin grid0.N, _)
theorem idx1 : ∀ t : Fin cfg0.N, win0_1.index t = ![t.val % 3, t.val / 3 % 3] := (by decide +kernel : ∀ t : Fin grid0.N, _)
theorem idx2 : ∀ t : Fin cfg0.N, win0_2.index t = ![t.val / 9, t.val / 3 % 3] := (by decide +kernel : ∀ t : Fin grid0.N, _)

theorem at_a (c : Dev nD) (t : Fin cfg0.N) (r : Fin 1408) (k : Fin 1024) (h0 : t.val % 3 * 1408 + r.val < 4224) (h1 : t.val / 9 * 1024 + k.val < 1024) :
    iblk m c 0 t (ix2 r k) = (m ((c : Thread nD τ).loc main_arg0) : Mat 4224 1024) (ix2 ⟨t.val % 3 * 1408 + r.val, h0⟩ ⟨t.val / 9 * 1024 + k.val, h1⟩) := by
  blk_ext! [iblk, V, idx0 t]

theorem at_b (c : Dev nD) (t : Fin cfg0.N) (r : Fin 1408) (k : Fin 1280) (h0 : t.val % 3 * 1408 + r.val < 4224) (h1 : t.val / 3 % 3 * 1280 + k.val < 3840) :
    iblk m c 1 t (ix2 r k) = (m ((c : Thread nD τ).loc main_arg1) : Mat 4224 3840) (ix2 ⟨t.val % 3 * 1408 + r.val, h0⟩ ⟨t.val / 3 % 3 * 1280 + k.val, h1⟩) := by
  blk_ext! [iblk, V, idx1 t]

/-- The sum the kernel keeps: what the first point of a tile leaves, what the others add, and that the last one writes it. -/
theorem first (c : Dev nD) (t : Fin cfg0.N) (h : t.val % 3 = 0) (j : S1024x1280.Idx) :
    (outsAt0 m c t.val t.isLt).2 j = (0 : EReal) + tMul (iblk m c 0 t) (iblk m c 1 t) j := by
  rw [outsAt0_A m c t h (by omega) (by omega), zero_add]
  frame_out
  pointwise [k0_pay2, k0_pay3]
  exact congrFun (pay1_eq _ _) j

theorem next (c : Dev nD) (t : Fin cfg0.N) (h : ¬t.val % 3 = 0) (j : S1024x1280.Idx) :
    (outsAt0 m c t.val t.isLt).2 j
      = (outsAt0 m c (t.val - 1) (Nat.lt_of_le_of_lt (Nat.sub_le _ _) t.isLt)).2 j + tMul (iblk m c 0 t) (iblk m c 1 t) j := by
  by_cases h2 : t.val % 3 = 2
  · rw [outsAt0_C m c t h (by omega) h2]; frame_out; pointwise [k0_pay2, k0_pay3]; exact congrArg₂ (· + ·) (congrFun (Memref.IsWhole.read_unread _ _) j) (congrFun (pay1_eq _ _) j)
  · rw [outsAt0_B m c t h (by omega) h2]; frame_out; pointwise [k0_pay2, k0_pay3]; exact congrArg₂ (· + ·) (congrFun (Memref.IsWhole.read_unread _ _) j) (congrFun (pay1_eq _ _) j)

theorem last (c : Dev nD) (t : Fin cfg0.N) (h : t.val % 3 = 2) :
    (outsAt0 m c t.val t.isLt).1 = (outsAt0 m c t.val t.isLt).2 := by
  funext j
  rw [outsAt0_C m c t (by omega) (by omega) h]
  frame_out

/-- The kernel's product. -/
theorem arr (c : Dev nD) : (dats m 0 c).arrAt 2 cfg0.N
    = tMul (m ((c : Thread nD τ).loc main_arg0)) (m ((c : Thread nD τ).loc main_arg1)) := by
  refine (dats m 0 c).arrAt_eq_of_covers 2 _ (by decide +kernel) fun t hf y => ?_
  blk_simp
  have hN : t.val < 9 := lt_of_lt_of_eq t.isLt N_0
  have hy0 : (y 0).val < 1024 := (y 0).isLt
  have hy1 : (y 1).val < 1280 := (y 1).isLt
  have h0 : t.val / 9 * 1024 + (y 0).val < 1024 := by omega
  have h1 : t.val / 3 % 3 * 1280 + (y 1).val < 3840 := by omega
  rw [after0_2, last m c t ((flush0_2 t).mp hf),
    Pipeline.eq_sum_fin_of_reset_step_apply_of_flush (fun n h => (outsAt0 m c n h).2) 3 (fun _ => (0 : EReal))
      (fun t j => tMul (iblk m c 0 t) (iblk m c 1 t) j) (first m c) (next m c) t ((flush0_2 t).mp hf) _, zero_add]
  refine Fin.sum_mul_add_congr (S := 3) (n := 1408) fun s k h => ?_
  have hs : s.val < 3 := s.isLt
  have hk : k.val < 1408 := k.isLt
  have hm : t.val % 3 = 2 := (flush0_2 t).mp hf
  refine congrArg₂ (· * ·) ((at_a m c _ k (y 0) (by dsimp only; omega) (by dsimp only; omega)).trans (congrArg _ ?_))
    ((at_b m c _ k (y 1) (by dsimp only; omega) (by dsimp only; omega)).trans (congrArg _ ?_))
  · blk_ext [idx2 t]
  · blk_ext [idx2 t]

theorem frame : Cert.quiescent_MmDwIn := fun m ρ _ => Cert.MmDwIn.Gen.frame m ρ

theorem frameIdeal : Cert.quiescent_MmDwInIdeal := fun m ρ _ => Cert.MmDwInIdeal.Gen.frame (F := Ideal) m ρ

end Kernel

section Reference

open Cert.MmDwInRefIdeal Cert.MmDwInRefIdeal.Gen

/-- The reference's product. -/
theorem ref_eq (a : Mat 4224 1024) (b : Mat 4224 3840) :
    Host.dotGeneral dot_S1024x4224_S4224x3840_S1024x3840_1_0_0_1_n_n none (transpose S1024x4224 [1, 0] (extf .f32 a bitsLt_bf16_f32) transposes_S4224x1024_S1024x4224_1_0) (extf .f32 b bitsLt_bf16_f32) = tMul a b := by
  funext i
  pointwise [tMul]

theorem frameRef : Cert.quiescent_MmDwInRefIdeal := fun m ρ _ =>
  (θ_run Cert.MmDwInRefIdeal.defs _ _).mono (fun r h => ⟨fun c => (h c).2, sem_eq_zero_of_no_sems rfl r.2⟩)
    (Cert.MmDwInRefIdeal.Value.run (F := Ideal) m ρ)

end Reference

theorem algebraic : Cert.algebraic_MmDwInIdeal_MmDwInRefIdeal := fun m ρ m' ρ' _ h =>
  ⟨_, (θ_run Cert.MmDwInIdeal.defs _ _).mono (fun _ r c => ⟨(r c).1.trans (arr m c), (r c).2⟩)
      (Cert.MmDwInIdeal.Value.run_blocks (F := Ideal) m ρ),
    (θ_run Cert.MmDwInRefIdeal.defs _ _).mono
      (fun _ r c => ⟨(r c).1.trans (by rw [(h c).1, (h c).2]; exact ref_eq _ _), (r c).2⟩)
      (Cert.MmDwInRefIdeal.Value.run (F := Ideal) m' ρ')⟩

end Cert.Proof.MmDwIn
-- ==== Proof.MmDu1.lean ====
/-
  The gradient of the mixers' input: the kernel's result, tile by tile, is the reference's product.
-/
module

public import proofs.«01_k».proof.Proof.Product
public import proofs.«01_k».proof.Proof.Gen.MmDu1.Frame
public import proofs.«01_k».proof.Proof.Gen.MmDu1Ideal.Value
public import proofs.«01_k».proof.Proof.Gen.MmDu1RefIdeal.Run

@[expose] public section

noncomputable section

namespace Cert.Proof.MmDu1

open Idealize.ShloMosaic Idealize.ShloMosaic.TcCoe Idealize.SL.Sem Idealize.SL Idealize.SL.RA
open Cert.Proof.Product

section Kernel

open Cert.MmDu1Ideal Cert.MmDu1Ideal.Gen Idealize.ShloMosaic.Pipeline

theorem pay1_eq (a : Mat 1056 1280) (b : Mat 1024 1280) : k0_pay1 (F := Ideal) a b = mulT a b := by
  funext y
  pointwise [k0_pay1, mulT]

variable (m : (ℓ : Loc nD τ sig) → Buf (Elt Ideal) ℓ) (ρ : Dev nD → PrngReg)

theorem idx0 : ∀ t : Fin cfg0.N, win0_0.index t = ![t.val / 3, t.val % 3] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, 0] := (by decide +kernel : ∀ t : Fin grid0.N, _)

theorem at_a (c : Dev nD) (t : Fin cfg0.N) (r : Fin 1056) (k : Fin 1280) (h0 : t.val / 3 * 1056 + r.val < 4224) (h1 : t.val % 3 * 1280 + k.val < 3840) :
    iblk m c 0 t (ix2 r k) = (m ((c : Thread nD τ).loc main_arg0) : Mat 4224 3840) (ix2 ⟨t.val / 3 * 1056 + r.val, h0⟩ ⟨t.val % 3 * 1280 + k.val, h1⟩) := by
  blk_ext! [iblk, V, idx0 t]

theorem at_b (c : Dev nD) (t : Fin cfg0.N) (r : Fin 1024) (k : Fin 1280) (h1 : t.val % 3 * 1280 + k.val < 3840) :
    iblk m c 1 t (ix2 r k) = (m ((c : Thread nD τ).loc main_arg1) : Mat 1024 3840) (ix2 r ⟨t.val % 3 * 1280 + k.val, h1⟩) := by
  blk_ext! [iblk, V, idx1 t]

/-- The sum the kernel keeps: what the first point of a tile leaves, what the others add, and that the last one writes it. -/
theorem first (c : Dev nD) (t : Fin cfg0.N) (h : t.val % 3 = 0) (j : S1056x1024.Idx) :
    (outsAt0 m c t.val t.isLt).2 j = (0 : EReal) + mulT (iblk m c 0 t) (iblk m c 1 t) j := by
  rw [outsAt0_A m c t h (by omega) (by omega), zero_add]
  frame_out
  pointwise [k0_pay2, k0_pay3]
  exact congrFun (pay1_eq _ _) j

theorem next (c : Dev nD) (t : Fin cfg0.N) (h : ¬t.val % 3 = 0) (j : S1056x1024.Idx) :
    (outsAt0 m c t.val t.isLt).2 j
      = (outsAt0 m c (t.val - 1) (Nat.lt_of_le_of_lt (Nat.sub_le _ _) t.isLt)).2 j + mulT (iblk m c 0 t) (iblk m c 1 t) j := by
  by_cases h2 : t.val % 3 = 2
  · rw [outsAt0_C m c t h (by omega) h2]; frame_out; pointwise [k0_pay2, k0_pay3]; exact congrArg₂ (· + ·) (congrFun (Memref.IsWhole.read_unread _ _) j) (congrFun (pay1_eq _ _) j)
  · rw [outsAt0_B m c t h (by omega) h2]; frame_out; pointwise [k0_pay2, k0_pay3]; exact congrArg₂ (· + ·) (congrFun (Memref.IsWhole.read_unread _ _) j) (congrFun (pay1_eq _ _) j)

theorem last (c : Dev nD) (t : Fin cfg0.N) (h : t.val % 3 = 2) :
    (outsAt0 m c t.val t.isLt).1 = (outsAt0 m c t.val t.isLt).2 := by
  funext j
  rw [outsAt0_C m c t (by omega) (by omega) h]
  frame_out

/-- The kernel's product. -/
theorem arr (c : Dev nD) : (dats m 0 c).arrAt 2 cfg0.N
    = mulT (m ((c : Thread nD τ).loc main_arg0)) (m ((c : Thread nD τ).loc main_arg1)) := by
  refine (dats m 0 c).arrAt_eq_of_covers 2 _ (by decide +kernel) fun t hf y => ?_
  blk_simp
  have hN : t.val < 12 := lt_of_lt_of_eq t.isLt N_0
  have hy0 : (y 0).val < 1056 := (y 0).isLt
  have hy1 : (y 1).val < 1024 := (y 1).isLt
  have h0 : t.val / 3 * 1056 + (y 0).val < 4224 := by omega
  rw [after0_2, last m c t ((flush0_2 t).mp hf),
    Pipeline.eq_sum_fin_of_reset_step_apply_of_flush (fun n h => (outsAt0 m c n h).2) 3 (fun _ => (0 : EReal))
      (fun t j => mulT (iblk m c 0 t) (iblk m c 1 t) j) (first m c) (next m c) t ((flush0_2 t).mp hf) _, zero_add]
  refine Fin.sum_mul_add_congr (S := 3) (n := 1280) fun s k h => ?_
  have hs : s.val < 3 := s.isLt
  have hk : k.val < 1280 := k.isLt
  have hm : t.val % 3 = 2 := (flush0_2 t).mp hf
  refine congrArg₂ (· * ·) ((at_a m c _ (y 0) k (by dsimp only; omega) (by dsimp only; omega)).trans (congrArg _ ?_))
    ((at_b m c _ (y 1) k (by dsimp only; omega)).trans (congrArg _ ?_))
  · blk_ext [idx2 t]
  · blk_ext [idx2 t]

theorem frame : Cert.quiescent_MmDu1 := fun m ρ _ => Cert.MmDu1.Gen.frame m ρ

theorem frameIdeal : Cert.quiescent_MmDu1Ideal := fun m ρ _ => Cert.MmDu1Ideal.Gen.frame (F := Ideal) m ρ

end Kernel

section Reference

open Cert.MmDu1RefIdeal Cert.MmDu1RefIdeal.Gen

/-- The reference's product. -/
theorem ref_eq (a : Mat 4224 3840) (b : Mat 1024 3840) :
    Host.dotGeneral dot_S4224x3840_S3840x1024_S4224x1024_1_0_0_1_n_n none (extf .f32 a bitsLt_bf16_f32) (transpose S3840x1024 [1, 0] (extf .f32 b bitsLt_bf16_f32) transposes_S1024x3840_S3840x1024_1_0) = mulT a b := by
  funext i
  pointwise [mulT]

theorem frameRef : Cert.quiescent_MmDu1RefIdeal := fun m ρ _ =>
  (θ_run Cert.MmDu1RefIdeal.defs _ _).mono (fun r h => ⟨fun c => (h c).2, sem_eq_zero_of_no_sems rfl r.2⟩)
    (Cert.MmDu1RefIdeal.Value.run (F := Ideal) m ρ)

end Reference

theorem algebraic : Cert.algebraic_MmDu1Ideal_MmDu1RefIdeal := fun m ρ m' ρ' _ h =>
  ⟨_, (θ_run Cert.MmDu1Ideal.defs _ _).mono (fun _ r c => ⟨(r c).1.trans (arr m c), (r c).2⟩)
      (Cert.MmDu1Ideal.Value.run_blocks (F := Ideal) m ρ),
    (θ_run Cert.MmDu1RefIdeal.defs _ _).mono
      (fun _ r c => ⟨(r c).1.trans (by rw [(h c).1, (h c).2]; exact ref_eq _ _), (r c).2⟩)
      (Cert.MmDu1RefIdeal.Value.run (F := Ideal) m' ρ')⟩

end Cert.Proof.MmDu1
-- ==== Proof.SwigluGrad.lean ====
/-
  The gradients of the gated hidden layer's inputs: the kernel's entries are the reference's.
-/
module

public import proofs.«01_k».proof.Defs
public import proofs.«01_k».proof.Proof.Gen.SwigluGrad.Frame
public import proofs.«01_k».proof.Proof.Gen.SwigluGradIdeal.Value
public import proofs.«01_k».proof.Proof.Gen.SwigluGradRefIdeal.Run
public import Idealize.ShloMosaic.Lib.Pipeline.ValueKit.Point
public import Idealize.ShloMosaic.Lib.Quiescent
public import Mathlib.Tactic.Ring

@[expose] public section

noncomputable section

namespace Cert.Proof.SwigluGrad

open Idealize.ShloMosaic Idealize.ShloMosaic.TcCoe Idealize.SL.Sem Idealize.SL Idealize.SL.RA

/-- Rows of gates, with the rows they multiply beside them, and their gradients; rows of the results' gradients. -/
abbrev Pairs (n : ℕ) := FVec Ideal ⟨2, ![n, 5632]⟩ .f32
abbrev Grads (n : ℕ) := FVec Ideal ⟨2, ![n, 5632]⟩ .bf16
abbrev Outs (n : ℕ) := FVec Ideal ⟨2, ![n, 2816]⟩ .f32

/-- A gate's share of its own entry, and the slope of their product. -/
def share (g : EReal) : EReal := Ideal.div 1 (1 + Ideal.exp (-g))
def slope (g : EReal) : EReal := share g * (1 + g * (1 - share g))

/-- The slope as the sum rule gives it. -/
theorem slope_eq (g : EReal) : 1 * share g + g * 1 * (share g * (1 - share g)) = slope g := by
  induction g using EReal.rec with
  | bot =>
    have e : Ideal.exp (-(⊥ : EReal)) = ⊤ := by rw [EReal.neg_bot]; rfl
    have h : share ⊥ = 0 := by
      rw [share, e, show (1 : EReal) + ⊤ = ⊤ from EReal.coe_add_top 1]
      simp [Ideal.div]
    simp [slope, h]
  | top =>
    have e : Ideal.exp (-(⊤ : EReal)) = 0 := by rw [EReal.neg_top]; rfl
    have h : share ⊤ = 1 := by
      rw [share, e]
      simp [Ideal.div]
    simp only [slope, h]
    norm_num
  | coe r =>
    obtain ⟨a, h⟩ : ∃ a : ℝ, share r = a := by
      refine ⟨(1 + Real.exp (-r))⁻¹, ?_⟩
      have h0 : (1 + Real.exp (-r)) ≠ 0 := (add_pos one_pos (Real.exp_pos _)).ne'
      have e : (1 : EReal) + Ideal.exp (-(r : EReal)) = ((1 + Real.exp (-r) : ℝ) : EReal) := rfl
      rw [share, e, Ideal.div, if_neg (by exact_mod_cast h0), one_mul, EReal.coe_inv]
    rw [slope, h]
    norm_cast
    ring

variable {n : ℕ}

/-- The gradients of the gates, and of what they multiply. -/
def gateGrad (x : Pairs n) (d : Outs n) : FVec Ideal ⟨2, ![n, 2816]⟩ .bf16 := fun i =>
  d i * x (ix2 (i 0) ⟨2816 + (i 1).val, Nat.add_lt_add_left (i 1).isLt 2816⟩)
    * slope (x (ix2 (i 0) ⟨(i 1).val, lt_trans (i 1).isLt (by decide : 2816 < 5632)⟩))
def upGrad (x : Pairs n) (d : Outs n) : FVec Ideal ⟨2, ![n, 2816]⟩ .bf16 := fun i =>
  d i * x (ix2 (i 0) ⟨(i 1).val, lt_trans (i 1).isLt (by decide : 2816 < 5632)⟩)
    * share (x (ix2 (i 0) ⟨(i 1).val, lt_trans (i 1).isLt (by decide : 2816 < 5632)⟩))

/-- Both side by side. -/
def grads (x : Pairs n) (d : Outs n) : Grads n := fun i =>
  if h : (i 1).val < 2816 then gateGrad x d (ix2 (i 0) ⟨(i 1).val, h⟩)
  else upGrad x d (ix2 (i 0) ⟨(i 1).val - 2816, Nat.sub_lt_left_of_lt_add (not_lt.1 h) (i 1).isLt⟩)

section Kernel

open Cert.SwigluGradIdeal Cert.SwigluGradIdeal.Gen Idealize.ShloMosaic.Pipeline

theorem pay1_at (g : FVec Ideal S176x2816 .f32) (y : S176x2816.Idx) : k0_pay1 (F := Ideal) g y = share (g y) := by
  pointwise [k0_pay1]
  rw [zero_sub]
  rfl

theorem pay2_at (g u d : FVec Ideal S176x2816 .f32) (y : S176x2816.Idx) :
    k0_pay2 (F := Ideal) g u d y = d y * u y * slope (g y) := by
  pointwise [k0_pay2, pay1_at]
  rfl

theorem pay3_at (g d : FVec Ideal S176x2816 .f32) (y : S176x2816.Idx) :
    k0_pay3 (F := Ideal) g d y = d y * g y * share (g y) := by
  pointwise [k0_pay3, pay1_at]

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

theorem at_x (c : Dev nD) (t : Fin cfg0.N) (r : Fin 176) (k : Fin 5632) (h : t.val * 176 + r.val < 4224) :
    iblk m c 0 t (ix2 r k) = (m ((c : Thread nD τ).loc main_arg0) : Pairs 4224) (ix2 ⟨t.val * 176 + r.val, h⟩ k) := by
  blk_ext! [iblk, V, idx0 t]

theorem at_d (c : Dev nD) (t : Fin cfg0.N) (r : Fin 176) (k : Fin 2816) (h : t.val * 176 + r.val < 4224) :
    iblk m c 1 t (ix2 r k) = (m ((c : Thread nD τ).loc main_arg1) : Outs 4224) (ix2 ⟨t.val * 176 + r.val, h⟩ k) := by
  blk_ext! [iblk, V, idx1 t]

theorem tile (c : Dev nD) (t : Fin cfg0.N) (r : Fin 176) (k : Fin 5632) (h : t.val * 176 + r.val < 4224) :
    grads (iblk m c 0 t) (iblk m c 1 t) (ix2 r k)
      = grads (m ((c : Thread nD τ).loc main_arg0)) (m ((c : Thread nD τ).loc main_arg1)) (ix2 ⟨t.val * 176 + r.val, h⟩ k) := by
  by_cases hk : k.val < 2816
  · refine (dif_pos hk).trans (Eq.trans ?_ (dif_pos hk).symm)
    simp only [gateGrad, ix2_0, ix2_1, at_x m c t r _ h, at_d m c t r _ h]
  · refine (dif_neg hk).trans (Eq.trans ?_ (dif_neg hk).symm)
    simp only [upGrad, ix2_0, ix2_1, at_x m c t r _ h, at_d m c t r _ h]

theorem not_mem (y : S176x5632.Idx) (h : (y 1).val < 2816) : y ∉ r0_1.set := fun hm => by
  have h1 : 2816 ≤ (y 1).val := (Rect.mem_set_unit.1 hm 1).1
  omega

theorem emb_left (y : S176x2816.Idx) : r0_0.emb y = ix2 (y 0) ⟨(y 1).val, lt_trans (y 1).isLt (by decide : 2816 < 5632)⟩ := by
  refine funext (Fin.forall_fin_two.2 ⟨Fin.ext ?_, Fin.ext ?_⟩)
  · exact (congrArg (0 + ·) (one_mul _)).trans (zero_add _)
  · exact (congrArg (0 + ·) (one_mul _)).trans (zero_add _)

theorem emb_right (y : S176x2816.Idx) : r0_1.emb y = ix2 (y 0) ⟨2816 + (y 1).val, Nat.add_lt_add_left (y 1).isLt 2816⟩ := by
  refine funext (Fin.forall_fin_two.2 ⟨Fin.ext ?_, Fin.ext ?_⟩)
  · exact (congrArg (0 + ·) (one_mul _)).trans (zero_add _)
  · exact congrArg (2816 + ·) (one_mul _)

/-- Both halves as they are left. -/
theorem canon_at (p q : Vec Ideal S176x2816 .bf16) (y : S176x5632.Idx) :
    View.canon (Val := Elt Ideal) [⟨r0_1, p⟩, ⟨r0_0, q⟩] y
      = if h : (y 1).val < 2816 then q (ix2 (y 0) ⟨(y 1).val, h⟩)
        else p (ix2 (y 0) ⟨(y 1).val - 2816, Nat.sub_lt_left_of_lt_add (not_lt.1 h) (y 1).isLt⟩) := by
  by_cases h : (y 1).val < 2816
  · have e1 : y = ix2 (n0 := 176) (n1 := 5632) (y 0) ⟨(y 1).val, (y 1).isLt⟩ := (ix2_eta (n0 := 176) (n1 := 5632) y).symm
    have e : y = r0_0.emb (ix2 (n0 := 176) (n1 := 2816) (y 0) ⟨(y 1).val, h⟩) := e1.trans (emb_left (ix2 (n0 := 176) (n1 := 2816) (y 0) ⟨(y 1).val, h⟩)).symm
    refine (View.canon_cons_of_not_mem (⟨r0_1, p⟩ : View.Piece (Elt Ideal) S176x5632 .bf16) [⟨r0_0, q⟩] (not_mem y h)).trans ?_
    rw [dif_pos h]
    exact (congrArg _ e).trans (View.canon_cons_emb r0_0 q [] _)
  · have h1 : (y 1).val - 2816 < 2816 := Nat.sub_lt_left_of_lt_add (not_lt.1 h) (y 1).isLt
    have e1 : y = ix2 (n0 := 176) (n1 := 5632) (y 0) ⟨2816 + ((y 1).val - 2816), by omega⟩ :=
      (ix2_eta (n0 := 176) (n1 := 5632) y).symm.trans (congrArg (ix2 (n0 := 176) (n1 := 5632) (y 0)) (Fin.ext (Nat.add_sub_of_le (not_lt.1 h)).symm))
    have e1 : y = ix2 (n0 := 176) (n1 := 5632) (y 0) ⟨2816 + ((y 1).val - 2816), Nat.add_lt_add_left h1 2816⟩ :=
      (ix2_eta (n0 := 176) (n1 := 5632) y).symm.trans (congrArg (ix2 (n0 := 176) (n1 := 5632) (y 0)) (Fin.ext (Nat.add_sub_of_le (not_lt.1 h)).symm))
    have e1 : y = ix2 (n0 := 176) (n1 := 5632) (y 0) ⟨2816 + ((y 1).val - 2816), Nat.add_lt_add_left h1 2816⟩ :=
      (ix2_eta (n0 := 176) (n1 := 5632) y).symm.trans (congrArg (ix2 (n0 := 176) (n1 := 5632) (y 0)) (Fin.ext (Nat.add_sub_of_le (not_lt.1 h)).symm))
    have e : y = r0_1.emb (ix2 (n0 := 176) (n1 := 2816) (y 0) ⟨(y 1).val - 2816, h1⟩) := e1.trans (emb_right (ix2 (n0 := 176) (n1 := 2816) (y 0) ⟨(y 1).val - 2816, h1⟩)).symm
    rw [dif_neg h]
    exact (congrArg _ e).trans (View.canon_cons_emb _ _ _ _)

theorem left (c : Dev nD) (t : Fin cfg0.N) : out0_2 (iblk m c 0 t) (iblk m c 1 t) = grads (iblk m c 0 t) (iblk m c 1 t) := by
  funext y
  refine (canon_at _ _ y).trans ?_
  have l0 : ∀ i : S176x2816.Idx, View.ld (iblk m c 0 t) r0_0 i = (iblk m c 0 t : Pairs 176) (ix2 (i 0) ⟨(i 1).val, lt_trans (i 1).isLt (by decide : 2816 < 5632)⟩) :=
    fun i => View.ld_unit_apply_of _ _ _ _ _ _ (Fin.forall_fin_two.2 ⟨(Nat.zero_add _).symm, (Nat.zero_add _).symm⟩)
  have l1 : ∀ i : S176x2816.Idx, View.ld (iblk m c 0 t) r0_1 i = (iblk m c 0 t : Pairs 176) (ix2 (i 0) ⟨2816 + (i 1).val, Nat.add_lt_add_left (i 1).isLt 2816⟩) :=
    fun i => View.ld_unit_apply_of _ _ _ _ _ _ (Fin.forall_fin_two.2 ⟨(Nat.zero_add _).symm, rfl⟩)
  have l2 : ∀ i : S176x2816.Idx, View.ld (iblk m c 1 t) r0_2 i = (iblk m c 1 t : Outs 176) i :=
    fun i => View.ld_unit_apply_of _ _ _ _ _ _ (Fin.forall_fin_two.2 ⟨(Nat.zero_add _).symm, (Nat.zero_add _).symm⟩)
  simp only [grads, pay2_at, pay3_at, l0, l1, l2, gateGrad, upGrad]

/-- The kernel's result. -/
theorem arr (c : Dev nD) : (dats m 0 c).arrAt 2 cfg0.N
    = grads (m ((c : Thread nD τ).loc main_arg0)) (m ((c : Thread nD τ).loc main_arg1)) := by
  refine (dats m 0 c).arrAt_eq_of_covers 2 _ (by decide +kernel) fun t hf y => ?_
  blk_simp
  rw [after0_2, left]
  have hN : t.val < 24 := lt_of_lt_of_eq t.isLt N_0
  have hy : (y 0).val < 176 := (y 0).isLt
  have h : t.val * 176 + (y 0).val < 4224 := by omega
  refine (congrArg _ (ix2_eta (n0 := 176) (n1 := 5632) y).symm).trans ((tile m c t (y 0) (y 1) h).trans (congrArg _ ?_))
  blk_ext [idx2 t]

theorem frame : Cert.quiescent_SwigluGrad := fun m ρ _ => Cert.SwigluGrad.Gen.frame m ρ

theorem frameIdeal : Cert.quiescent_SwigluGradIdeal := fun m ρ _ => Cert.SwigluGradIdeal.Gen.frame (F := Ideal) m ρ

end Kernel

section Reference

open Cert.SwigluGradRefIdeal Cert.SwigluGradRefIdeal.Gen

/-- The reference's result. -/
theorem grads_eq (x : Pairs 4224) (d : Outs 4224) :
    truncf .bf16 (concatenate S4224x5632 1 [⟨S4224x2816, (mulf (mulf d (extractStridedSlice S4224x2816 ![0, 2816] x slices_S4224x5632_S4224x2816_0_2816)) (addf (mulf (broadcastInDim S4224x2816 ![] bcast_S_S4224x2816 (constant S_ .f32 0x3F800000#32)) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] x slices_S4224x5632_S4224x2816_0_0)))))) (mulf (mulf (extractStridedSlice S4224x2816 ![0, 0] x slices_S4224x5632_S4224x2816_0_0) (broadcastInDim S4224x2816 ![] bcast_S_S4224x2816 (constant S_ .f32 0x3F800000#32))) (mulf (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] x slices_S4224x5632_S4224x2816_0_0))))) (subf (broadcastInDim S4224x2816 ![] bcast_S_S4224x2816 (constant S_ .f32 0x3F800000#32)) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] x slices_S4224x5632_S4224x2816_0_0))))))))))⟩, ⟨S4224x2816, (mulf d (mulf (extractStridedSlice S4224x2816 ![0, 0] x slices_S4224x5632_S4224x2816_0_0) (Host.divf (broadcastInDim S4224x2816 ![] bcast_S_S4224x2816 (constant S_ .f32 0x3F800000#32)) (addf (broadcastInDim S4224x2816 ![] bcast_S_S4224x2816 (constant S_ .f32 0x3F800000#32)) (Host.exp (Host.negf (extractStridedSlice S4224x2816 ![0, 0] x slices_S4224x5632_S4224x2816_0_0)))))))⟩] concatenates_S4224x2816_S4224x2816_S4224x5632_d1) bitsLt_bf16_f32 = grads x d := by
  funext i
  pointwise [grads, gateGrad, upGrad, ← slope_eq, share]
  split <;> simp only [mul_assoc]

theorem frameRef : Cert.quiescent_SwigluGradRefIdeal := fun m ρ _ =>
  (θ_run Cert.SwigluGradRefIdeal.defs _ _).mono (fun r h => ⟨fun c => (h c).2, sem_eq_zero_of_no_sems rfl r.2⟩)
    (Cert.SwigluGradRefIdeal.Value.run (F := Ideal) m ρ)

end Reference

theorem algebraic : Cert.algebraic_SwigluGradIdeal_SwigluGradRefIdeal := fun m ρ m' ρ' _ h =>
  ⟨_, (θ_run Cert.SwigluGradIdeal.defs _ _).mono (fun _ r c => ⟨(r c).1.trans (arr m c), (r c).2⟩)
      (Cert.SwigluGradIdeal.Value.run_blocks (F := Ideal) m ρ),
    (θ_run Cert.SwigluGradRefIdeal.defs _ _).mono
      (fun _ r c => ⟨(r c).1.trans (by rw [(h c).1, (h c).2]; exact grads_eq _ _), (r c).2⟩)
      (Cert.SwigluGradRefIdeal.Value.run (F := Ideal) m' ρ')⟩

end Cert.Proof.SwigluGrad
-- ==== Proof.Gated.lean ====
/-
  The heads' outputs, normed and gated: the kernel's entries are the reference's.
-/
module

public import proofs.«01_k».proof.Defs
public import proofs.«01_k».proof.Proof.Gen.Gated.Frame
public import proofs.«01_k».proof.Proof.Gen.GatedIdeal.Value
public import proofs.«01_k».proof.Proof.Gen.GatedRefIdeal.Run
public import Idealize.ShloMosaic.Lib.Pipeline.ValueKit.Point
public import Idealize.ShloMosaic.Lib.Quiescent

@[expose] public section

noncomputable section

namespace Cert.Proof.Gated

open Idealize.ShloMosaic Idealize.ShloMosaic.TcCoe Idealize.SL.Sem Idealize.SL Idealize.SL.RA

/-- Rows of `k` columns, and of the results. -/
abbrev Rows (n k : ℕ) := FVec Ideal ⟨2, ![n, k]⟩ .f32
abbrev Outs (n k : ℕ) := FVec Ideal ⟨2, ![n, k]⟩ .bf16

/-- A head's length and the small constant of its norm. -/
abbrev len : EReal := Ideal.ofBits .f32 0x43000000#32
abbrev eps : EReal := Ideal.ofBits .f32 0x358637BD#32

/-- An entry of a head: its share of the head's norm, weighed, times the gate at `z`. -/
def entry (o w : Fin 128 → EReal) (z : EReal) (l : Fin 128) : EReal :=
  o l * Ideal.rsqrt (Ideal.div (∑ k, o k * o k) len + eps) * w l * (z * Ideal.div 1 (1 + Ideal.exp (-z)))

theorem col (i : Fin 512) (l : Fin 128) : i.val / 128 * 128 + l.val < 512 := by omega

/-- All the entries: a head is 128 columns, its gates lie 1536 columns on. -/
def gated (o : Rows 4224 512) (p : Rows 4224 3840) (w : Rows 1 128) : Outs 4224 512 := fun i =>
  entry (fun l => o (ix2 (i 0) ⟨(i 1).val / 128 * 128 + l.val, col (i 1) l⟩)) (fun l => w (ix2 0 l))
    (p (ix2 (i 0) ⟨1536 + (i 1).val, lt_trans (Nat.add_lt_add_left (i 1).isLt 1536) (by decide)⟩))
    ⟨(i 1).val % 128, Nat.mod_lt _ (by decide)⟩

section Kernel

open Cert.GatedIdeal Cert.GatedIdeal.Gen Idealize.ShloMosaic.Pipeline

theorem pay1_at (z o : Rows 2112 128) (w : Rows 1 128) (y : S2112x128.Idx) :
    k0_pay1 (F := Ideal) z o w y = entry (fun l => o (ix2 (y 0) l)) (fun l => w (ix2 0 l)) (z y) (y 1) := by
  pointwise [k0_pay1, entry]
  rw [zero_sub, mul_assoc]

variable (m : (ℓ : Loc nD τ sig) → Buf (Elt Ideal) ℓ) (ρ : Dev nD → PrngReg)

theorem idx0 : ∀ t : Fin cfg0.N, win0_0.index t = ![t.val % 2, t.val / 2] := (by decide +kernel : ∀ t : Fin grid0.N, _)
theorem idx1 : ∀ t : Fin cfg0.N, win0_1.index t = ![t.val % 2, 12 + t.val / 2] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val % 2, t.val / 2] := (by decide +kernel : ∀ t : Fin grid0.N, _)

theorem at_o (c : Dev nD) (t : Fin cfg0.N) (r : Fin 2112) (l : Fin 128) (h : t.val % 2 * 2112 + r.val < 4224)
    (h' : t.val / 2 * 128 + l.val < 512) :
    iblk m c 0 t (ix2 r l) = (m ((c : Thread nD τ).loc main_arg0) : Rows 4224 512) (ix2 ⟨t.val % 2 * 2112 + r.val, h⟩ ⟨t.val / 2 * 128 + l.val, h'⟩) := by
  blk_ext! [iblk, V, idx0 t]

theorem at_p (c : Dev nD) (t : Fin cfg0.N) (r : Fin 2112) (l : Fin 128) (h : t.val % 2 * 2112 + r.val < 4224)
    (h' : 1536 + (t.val / 2 * 128 + l.val) < 3840) :
    iblk m c 1 t (ix2 r l) = (m ((c : Thread nD τ).loc main_arg1) : Rows 4224 3840) (ix2 ⟨t.val % 2 * 2112 + r.val, h⟩ ⟨1536 + (t.val / 2 * 128 + l.val), h'⟩) := by
  blk_ext! [iblk, V, idx1 t]

theorem at_w (c : Dev nD) (t : Fin cfg0.N) (k : Fin 128) :
    iblk m c 2 t (ix2 0 k) = (m ((c : Thread nD τ).loc main_arg2) : Rows 1 128) (ix2 0 k) := by
  blk_ext! [iblk, V, idx2 t]

theorem tile (c : Dev nD) (t : Fin cfg0.N) (r : Fin 2112) (l : Fin 128) (h : t.val % 2 * 2112 + r.val < 4224)
    (h' : t.val / 2 * 128 + l.val < 512) :
    out0_3 (iblk m c 0 t) (iblk m c 1 t) (iblk m c 2 t) (ix2 r l)
      = gated (m ((c : Thread nD τ).loc main_arg0)) (m ((c : Thread nD τ).loc main_arg1)) (m ((c : Thread nD τ).loc main_arg2))
          (ix2 ⟨t.val % 2 * 2112 + r.val, h⟩ ⟨t.val / 2 * 128 + l.val, h'⟩) := by
  frame_out
  refine (pay1_at _ _ _ _).trans ?_
  have hd : (t.val / 2 * 128 + l.val) / 128 = t.val / 2 := by omega
  have hm : (t.val / 2 * 128 + l.val) % 128 = l.val := by omega
  have hl : ∀ k : Fin 128, t.val / 2 * 128 + k.val < 512 := fun k => by omega
  simp only [gated, ix2_0, ix2_1, hd, hm, at_o m c t r _ h (hl _), at_p m c t r l h (by omega), at_w m c t]

/-- The kernel's result. -/
theorem arr (c : Dev nD) : (dats m 0 c).arrAt 3 cfg0.N
    = gated (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hN : t.val < 8 := lt_of_lt_of_eq t.isLt N_0
  have hy : (y 0).val < 2112 := (y 0).isLt
  have hz : (y 1).val < 128 := (y 1).isLt
  have h : t.val % 2 * 2112 + (y 0).val < 4224 := by omega
  have h' : t.val / 2 * 128 + (y 1).val < 512 := by omega
  refine (congrArg _ (ix2_eta (n0 := 2112) (n1 := 128) y).symm).trans ((tile m c t (y 0) (y 1) h h').trans (congrArg _ ?_))
  blk_ext [idx3 t]

theorem frame : Cert.quiescent_Gated := fun m ρ _ => Cert.Gated.Gen.frame m ρ

theorem frameIdeal : Cert.quiescent_GatedIdeal := fun m ρ _ => Cert.GatedIdeal.Gen.frame (F := Ideal) m ρ

end Kernel

section Reference

open Cert.GatedRefIdeal Cert.GatedRefIdeal.Gen

/-- The reference's result. -/
theorem gated_eq (o : Rows 4224 512) (p : Rows 4224 3840) (w : Rows 1 128) :
    truncf .bf16 (shapeCast _ (mulf (mulf (mulf (shapeCast _ o shapeCasts_S4224x512_S4224x4x128) (broadcastInDim S4224x4x128 ![0, 1, 2] bcast_S4224x4x1_S4224x4x128_0_1_2 (Host.rsqrt (addf (Host.divf (broadcastInDim S4224x4x1 ![0, 1] bcast_S4224x4_S4224x4x1_0_1 (Host.reduceAdd (mulf (shapeCast _ o shapeCasts_S4224x512_S4224x4x128) (shapeCast _ o shapeCasts_S4224x512_S4224x4x128)) (constant S_ .f32 0x00000000#32) reducesTo_S4224x4x128_S4224x4_d2 h_S_)) (broadcastInDim S4224x4x1 ![] bcast_S_S4224x4x1 (constant S_ .f32 0x43000000#32))) (broadcastInDim S4224x4x1 ![] bcast_S_S4224x4x1 (constant S_ .f32 0x358637BD#32)))))) (broadcastInDim S4224x4x128 ![0, 1, 2] bcast_S1x1x128_S4224x4x128_0_1_2 (broadcastInDim S1x1x128 ![2] bcast_S128_S1x1x128_2 (shapeCast _ w shapeCasts_S1x128_S128)))) (shapeCast _ (mulf (extractStridedSlice S4224x512 ![0, 1536] p slices_S4224x3840_S4224x512_0_1536) (Host.divf (broadcastInDim S4224x512 ![] bcast_S_S4224x512 (constant S_ .f32 0x3F800000#32)) (addf (broadcastInDim S4224x512 ![] bcast_S_S4224x512 (constant S_ .f32 0x3F800000#32)) (Host.exp (Host.negf (extractStridedSlice S4224x512 ![0, 1536] p slices_S4224x3840_S4224x512_0_1536)))))) shapeCasts_S4224x512_S4224x4x128)) shapeCasts_S4224x4x128_S4224x512) bitsLt_bf16_f32 = gated o p w := by
  funext i
  have e : i = ix2 (n0 := 4224) (n1 := 512) (i 0) ⟨(i 1).val / 128 * 128 + (i 1).val % 128, col (i 1) ⟨_, Nat.mod_lt _ (by decide)⟩⟩ :=
    (ix2_eta (n0 := 4224) (n1 := 512) i).symm.trans
      (congrArg (ix2 (n0 := 4224) (n1 := 512) (i 0)) (Fin.ext (Nat.div_add_mod' (i 1).val 128).symm))
  pointwise [gated, entry]
  rw [show o i = _ from congrArg o e]

theorem frameRef : Cert.quiescent_GatedRefIdeal := fun m ρ _ =>
  (θ_run Cert.GatedRefIdeal.defs _ _).mono (fun r h => ⟨fun c => (h c).2, sem_eq_zero_of_no_sems rfl r.2⟩)
    (Cert.GatedRefIdeal.Value.run (F := Ideal) m ρ)

end Reference

theorem algebraic : Cert.algebraic_GatedIdeal_GatedRefIdeal := fun m ρ m' ρ' _ h =>
  ⟨_, (θ_run Cert.GatedIdeal.defs _ _).mono (fun _ r c => ⟨(r c).1.trans (arr m c), (r c).2⟩)
      (Cert.GatedIdeal.Value.run_blocks (F := Ideal) m ρ),
    (θ_run Cert.GatedRefIdeal.defs _ _).mono
      (fun _ r c => ⟨(r c).1.trans (by rw [(h c).1, (h c).2.1, (h c).2.2]; exact gated_eq _ _ _), (r c).2⟩)
      (Cert.GatedRefIdeal.Value.run (F := Ideal) m' ρ')⟩

end Cert.Proof.Gated
-- ==== Proof.Gates.lean ====
/-
  The gates of the heads: the kernel's entries are the reference's.
-/
module

public import proofs.«01_k».proof.Defs
public import proofs.«01_k».proof.Proof.Gen.Gates.Frame
public import proofs.«01_k».proof.Proof.Gen.GatesIdeal.Value
public import proofs.«01_k».proof.Proof.Gen.GatesRefIdeal.Run
public import Idealize.ShloMosaic.Lib.Pipeline.ValueKit.Point
public import Idealize.ShloMosaic.Lib.Quiescent
public import Idealize.ShloMosaic.Lib.KernelVsHost

@[expose] public section

noncomputable section

namespace Cert.Proof.Gates

open Idealize.ShloMosaic Idealize.ShloMosaic.TcCoe Idealize.SL.Sem Idealize.SL Idealize.SL.RA

/-- Rows of `k` columns. -/
abbrev Rows (n k : ℕ) := FVec Ideal ⟨2, ![n, k]⟩ .f32

/-- The logistic of `z`. -/
abbrev logistic (z : EReal) : EReal := Ideal.div 1 (1 + Ideal.exp (-z))

/-- The logarithm of one and the exponential of `z`. -/
abbrev softplus (z : EReal) : EReal := max z 0 + Ideal.log (1 + Ideal.exp (-FloatOps.absf (F := Ideal) (φ := .f32) z))

/-- An entry of the gates in the column `l`: the logistic in the first four, the decay's logarithm in the next four. -/
def entry (z a b : EReal) (l : ℕ) : EReal :=
  if l < 4 then logistic z else if l < 8 then -Ideal.exp a * softplus (z + b) else 0

/-- All the entries, zero in the first 48 rows of each sequence. -/
def gates (p : Rows 4224 3840) (a b : Rows 1 128) : Rows 4224 128 := fun i =>
  if 48 ≤ (i 0).val % 2112 then
    entry (p (ix2 (i 0) ⟨3584 + (i 1).val, lt_trans (Nat.add_lt_add_left (i 1).isLt 3584) (by decide)⟩)) (a (ix2 0 (i 1)))
      (b (ix2 0 (i 1))) (i 1).val
  else 0

section Kernel

open Cert.GatesIdeal Cert.GatesIdeal.Gen Idealize.ShloMosaic.Pipeline

theorem live : ∀ (t : Fin 12) (r : Fin 352),
    IntOp.cmpi .sge (IntOp.addi (Scalar.muli (Scalar.remsi (BitVec.ofNat 32 t.val) 6#32) 352#32) (BitVec.ofNat 32 r.val)) 48#32
      = if 48 ≤ t.val % 6 * 352 + r.val then 1#1 else 0#1 := by decide +kernel

theorem first : ∀ l : Fin 128, IntOp.andi (IntOp.cmpi .sge (BitVec.ofNat 32 l.val) 0#32) (IntOp.cmpi .slt (BitVec.ofNat 32 l.val) 4#32)
    = if l.val < 4 then 1#1 else 0#1 := by decide +kernel

theorem second : ∀ l : Fin 128, IntOp.andi (IntOp.cmpi .sge (BitVec.ofNat 32 l.val) 4#32) (IntOp.cmpi .slt (BitVec.ofNat 32 l.val) 8#32)
    = if ¬ l.val < 4 ∧ l.val < 8 then 1#1 else 0#1 := by decide +kernel

theorem pay1_row (i : grid0.Coords) (x : Rows 352 128) (a b : Rows 1 128) (r : Fin 352) (l : Fin 128) :
    k0_pay1 (F := Ideal) (k0_pay2 i) (k0_pay3 x a b) k0_pay4 (k0_pay5 x) (iota .tc S1x128 32 [1] iota_S1x128_d1_w32) k0_pay6 (ix2 r l)
      = if 48 ≤ (i 0).val % 6 * 352 + r.val then entry (x (ix2 r l)) (a (ix2 0 l)) (b (ix2 0 l)) l.val else 0 := by
  pointwise [k0_pay1, k0_pay2, k0_pay3, k0_pay4, k0_pay5, k0_pay6, entry]
  rw [live (i 0) r, first l, second l]
  by_cases h : 48 ≤ (i 0).val % 6 * 352 + r.val
  · rw [if_pos h, if_pos h]
    by_cases h4 : l.val < 4
    · rw [if_pos h4, if_pos h4, zero_sub]; rfl
    · rw [if_neg h4, if_neg h4]
      by_cases h8 : l.val < 8
      · rw [if_pos ⟨h4, h8⟩, if_pos h8, zero_sub, zero_sub, zero_sub]; rfl
      · rw [if_neg (fun h' => h8 h'.2), if_neg h8]; rfl
  · rw [if_neg h, if_neg h]; rfl

variable (m : (ℓ : Loc nD τ sig) → Buf (Elt Ideal) ℓ) (ρ : Dev nD → PrngReg)

theorem coord : ∀ t : Fin cfg0.N, ((grid0.coords t) 0).val = t.val := (by decide +kernel : ∀ t : Fin grid0.N, _)
theorem idx0 : ∀ t : Fin cfg0.N, win0_0.index t = ![t.val, 28] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

abbrev ps (c : Dev nD) : Rows 4224 3840 := m ((c : Thread nD τ).loc main_arg0)
abbrev av (c : Dev nD) : Rows 1 128 := m ((c : Thread nD τ).loc main_arg1)
abbrev bs (c : Dev nD) : Rows 1 128 := m ((c : Thread nD τ).loc main_arg2)

theorem at_p (c : Dev nD) (t : Fin cfg0.N) (r : Fin 352) (l : Fin 128) (hn : t.val * 352 + r.val < 4224) (hq : 3584 + l.val < 3840) :
    iblk m c 0 t (ix2 r l) = ps m c (ix2 ⟨t.val * 352 + r.val, hn⟩ ⟨3584 + l.val, hq⟩) := by
  blk_ext! [iblk, V, idx0 t]

theorem at_a (c : Dev nD) (t : Fin cfg0.N) (l : Fin 128) : iblk m c 1 t (ix2 0 l) = av m c (ix2 0 l) := by
  blk_ext! [iblk, V, idx1 t]

theorem at_b (c : Dev nD) (t : Fin cfg0.N) (l : Fin 128) : iblk m c 2 t (ix2 0 l) = bs m c (ix2 0 l) := by
  blk_ext! [iblk, V, idx2 t]

theorem tile (c : Dev nD) (t : Fin cfg0.N) (r : Fin 352) (l : Fin 128) (hn : t.val * 352 + r.val < 4224) :
    out0_3 (grid0.coords t) (iblk m c 0 t) (iblk m c 1 t) (iblk m c 2 t) (ix2 r l)
      = gates (ps m c) (av m c) (bs m c) (ix2 ⟨t.val * 352 + r.val, hn⟩ l) := by
  frame_out
  refine (pay1_row _ _ _ _ r l).trans ?_
  have hr : r.val < 352 := r.isLt
  have hm : (t.val * 352 + r.val) % 2112 = t.val % 6 * 352 + r.val := by omega
  have hc : ((grid0.coords t) 0).val % 6 * 352 + r.val = t.val % 6 * 352 + r.val := by rw [coord t]
  by_cases h : 48 ≤ t.val % 6 * 352 + r.val
  · refine (if_pos (h.trans_eq hc.symm)).trans (Eq.trans ?_ (if_pos (h.trans_eq hm.symm)).symm)
    rw [at_p m c t r l hn (by omega), at_a m c t l, at_b m c t l]
    rfl
  · exact (if_neg (fun h' => h (h'.trans_eq hc))).trans (if_neg (fun h' => h (h'.trans_eq hm))).symm

/-- The kernel's result. -/
theorem arr (c : Dev nD) : (dats m 0 c).arrAt 3 cfg0.N = gates (ps m c) (av m c) (bs m c) := by
  refine (dats m 0 c).arrAt_eq_of_covers 3 _ (by decide +kernel) fun t hf y => ?_
  blk_simp
  rw [after0_3]
  have hN : t.val < 12 := lt_of_lt_of_eq t.isLt N_0
  have hy : (y 0).val < 352 := (y 0).isLt
  have h : t.val * 352 + (y 0).val < 4224 := by omega
  refine (congrArg _ (ix2_eta (n0 := 352) (n1 := 128) y).symm).trans ((tile m c t (y 0) (y 1) h).trans (congrArg _ ?_))
  blk_ext [idx3 t]

theorem frame : Cert.quiescent_Gates := fun m ρ _ => Cert.Gates.Gen.frame m ρ

theorem frameIdeal : Cert.quiescent_GatesIdeal := fun m ρ _ => Cert.GatesIdeal.Gen.frame (F := Ideal) m ρ

end Kernel

section Reference

open Cert.GatesRefIdeal Cert.GatesRefIdeal.Gen

theorem inside (i : Fin 4224) (q : Fin 128) (h : 48 ≤ i.val % 2112) (hq : q.val < 8) :
    i.val / 2112 < 2 ∧ (48 ≤ i.val % 2112 ∧ i.val % 2112 - 48 < 2064) ∧ q.val < 8 := by omega

theorem at_row (i : Fin 4224) (h : 48 ≤ i.val % 2112) : i.val / 2112 * 2112 + (48 + (i.val % 2112 - 48)) = i.val := by omega

theorem cell {n k : ℕ} (x : Rows n k) (r : Fin n) (q : Fin k) {a c : ℕ} {ha : a < n} {hc : c < k} (h : a = r.val) (h' : c = q.val) :
    x (ix2 ⟨a, ha⟩ ⟨c, hc⟩) = x (ix2 r q) := by subst h; subst h'; rfl

theorem column {n k : ℕ} (x : Rows n k) (r : Fin n) (q : Fin k) {c : ℕ} {hc : c < k} (h : c = q.val) :
    x (ix2 r ⟨c, hc⟩) = x (ix2 r q) := by subst h; rfl

theorem high {z z' a a' b b' : EReal} [d : Decidable (z + b ≠ z + b)] (hz : z = z') (ha : a = a') (hb : b = b') :
    -Ideal.exp a * (if z + b ≠ z + b then z + b
        else max (z + b) 0 + Ideal.log1p (Ideal.exp (-FloatOps.absf (F := Ideal) (φ := .f32) (z + b))))
      = -Ideal.exp a' * softplus (z' + b') := by
  subst hz; subst ha; subst hb
  rw [if_neg (not_not.2 rfl)]
  rfl

theorem gates_eq (p : Rows 4224 3840) (a b : Rows 1 128) :
    shapeCast _ (pad S2x2112x128 ![0, 48, 0] ![0, 0, 120] ![0, 0, 0] (extractStridedSlice S2x2064x8 ![0, 48, 0] (shapeCast _ (concatenate S4224x8 1 [⟨S4224x4, (Host.divf (broadcastInDim S4224x4 ![] bcast_S_S4224x4 (constant S_ .f32 0x3F800000#32)) (addf (broadcastInDim S4224x4 ![] bcast_S_S4224x4 (constant S_ .f32 0x3F800000#32)) (Host.exp (Host.negf (extractStridedSlice S4224x4 ![0, 0] (extractStridedSlice S4224x8 ![0, 3584] p slices_S4224x3840_S4224x8_0_3584) slices_S4224x8_S4224x4_0_0)))))⟩, ⟨S4224x4, (mulf (broadcastInDim S4224x4 ![0, 1] bcast_S1x4_S4224x4_0_1 (Host.negf (Host.exp (extractStridedSlice S1x4 ![0, 4] a slices_S1x128_S1x4_0_4)))) (select (cmpf .une (subf (addf (extractStridedSlice S4224x4 ![0, 4] (extractStridedSlice S4224x8 ![0, 3584] p slices_S4224x3840_S4224x8_0_3584) slices_S4224x8_S4224x4_0_4) (broadcastInDim S4224x4 ![0, 1] bcast_S1x4_S4224x4_0_1 (extractStridedSlice S1x4 ![0, 4] b slices_S1x128_S1x4_0_4))) (broadcastInDim S4224x4 ![] bcast_S_S4224x4 (constant S_ .f32 0x00000000#32))) (subf (addf (extractStridedSlice S4224x4 ![0, 4] (extractStridedSlice S4224x8 ![0, 3584] p slices_S4224x3840_S4224x8_0_3584) slices_S4224x8_S4224x4_0_4) (broadcastInDim S4224x4 ![0, 1] bcast_S1x4_S4224x4_0_1 (extractStridedSlice S1x4 ![0, 4] b slices_S1x128_S1x4_0_4))) (broadcastInDim S4224x4 ![] bcast_S_S4224x4 (constant S_ .f32 0x00000000#32)))) (addf (addf (extractStridedSlice S4224x4 ![0, 4] (extractStridedSlice S4224x8 ![0, 3584] p slices_S4224x3840_S4224x8_0_3584) slices_S4224x8_S4224x4_0_4) (broadcastInDim S4224x4 ![0, 1] bcast_S1x4_S4224x4_0_1 (extractStridedSlice S1x4 ![0, 4] b slices_S1x128_S1x4_0_4))) (broadcastInDim S4224x4 ![] bcast_S_S4224x4 (constant S_ .f32 0x00000000#32))) (addf (maximumf (addf (extractStridedSlice S4224x4 ![0, 4] (extractStridedSlice S4224x8 ![0, 3584] p slices_S4224x3840_S4224x8_0_3584) slices_S4224x8_S4224x4_0_4) (broadcastInDim S4224x4 ![0, 1] bcast_S1x4_S4224x4_0_1 (extractStridedSlice S1x4 ![0, 4] b slices_S1x128_S1x4_0_4))) (broadcastInDim S4224x4 ![] bcast_S_S4224x4 (constant S_ .f32 0x00000000#32))) (Host.log1p (Host.exp (Host.negf (Host.absf (subf (addf (extractStridedSlice S4224x4 ![0, 4] (extractStridedSlice S4224x8 ![0, 3584] p slices_S4224x3840_S4224x8_0_3584) slices_S4224x8_S4224x4_0_4) (broadcastInDim S4224x4 ![0, 1] bcast_S1x4_S4224x4_0_1 (extractStridedSlice S1x4 ![0, 4] b slices_S1x128_S1x4_0_4))) (broadcastInDim S4224x4 ![] bcast_S_S4224x4 (constant S_ .f32 0x00000000#32))))))))))⟩] concatenates_S4224x4_S4224x4_S4224x8_d1) shapeCasts_S4224x8_S2x2112x8) slices_S2x2112x8_S2x2064x8_0_48_0) (sitofp .f32 (constantI S_ 32 0#32)) pads_S2x2064x8_S2x2112x128_000_4800_01200 h_S_) shapeCasts_S2x2112x128_S4224x128 = gates p a b := by
  funext i
  have hi : (i 0).val < 4224 := (i 0).isLt
  have hj : (i 1).val < 128 := (i 1).isLt
  pointwise [gates, entry]
  by_cases h : 48 ≤ (i 0).val % 2112
  · by_cases h4 : (i 1).val < 4
    · refine (dif_pos (inside (i 0) (i 1) h (by omega))).trans ((dif_pos h4).trans (Eq.trans ?_ ((if_pos h).trans (if_pos h4)).symm))
      exact congrArg logistic (cell p (i 0) ⟨3584 + (i 1).val, lt_trans (Nat.add_lt_add_left (i 1).isLt 3584) (by decide)⟩ (at_row (i 0) h) rfl)
    · by_cases h8 : (i 1).val < 8
      · refine (dif_pos (inside (i 0) (i 1) h h8)).trans ((dif_neg h4).trans (Eq.trans ?_ ((if_pos h).trans ((if_neg h4).trans (if_pos h8))).symm))
        exact high (cell p (i 0) ⟨3584 + (i 1).val, lt_trans (Nat.add_lt_add_left (i 1).isLt 3584) (by decide)⟩ (at_row (i 0) h) (by show 3584 + (4 + ((i 1).val - 4)) = 3584 + (i 1).val; omega))
          (column a 0 (i 1) (by omega)) (column b 0 (i 1) (by omega))
      · exact (dif_neg (fun h' => h8 h'.2.2)).trans (sitofp_zero.trans ((if_pos h).trans ((if_neg h4).trans (if_neg h8))).symm)
  · exact (dif_neg (fun h' => h h'.2.1.1)).trans (sitofp_zero.trans (if_neg h).symm)

theorem frameRef : Cert.quiescent_GatesRefIdeal := fun m ρ _ =>
  (θ_run Cert.GatesRefIdeal.defs _ _).mono (fun r h => ⟨fun c => (h c).2, sem_eq_zero_of_no_sems rfl r.2⟩)
    (Cert.GatesRefIdeal.Value.run (F := Ideal) m ρ)

end Reference

theorem algebraic : Cert.algebraic_GatesIdeal_GatesRefIdeal := fun m ρ m' ρ' _ h =>
  ⟨_, (θ_run Cert.GatesIdeal.defs _ _).mono (fun _ r c => ⟨(r c).1.trans (arr m c), (r c).2⟩)
      (Cert.GatesIdeal.Value.run_blocks (F := Ideal) m ρ),
    (θ_run Cert.GatesRefIdeal.defs _ _).mono
      (fun _ r c => ⟨(r c).1.trans ((gates_eq _ _ _).trans (by rw [(h c).1, (h c).2.1, (h c).2.2])), (r c).2⟩)
      (Cert.GatesRefIdeal.Value.run (F := Ideal) m' ρ')⟩

end Cert.Proof.Gates
-- ==== Proof.ConvV.lean ====
/-
  The convolutions of the values: the kernel's entries are the reference's.
-/
module

public import proofs.«01_k».proof.Defs
public import proofs.«01_k».proof.Proof.Gen.ConvV.Frame
public import proofs.«01_k».proof.Proof.Gen.ConvVIdeal.Value
public import proofs.«01_k».proof.Proof.Gen.ConvVRefIdeal.Run
public import Idealize.ShloMosaic.Lib.Pipeline.ValueKit.Point
public import Idealize.ShloMosaic.Lib.Quiescent
public import Idealize.ShloMosaic.Lib.KernelVsHost

@[expose] public section

noncomputable section

namespace Cert.Proof.ConvV

open Idealize.ShloMosaic Idealize.ShloMosaic.TcCoe Idealize.SL.Sem Idealize.SL Idealize.SL.RA

/-- Rows of `k` columns. -/
abbrev Rows (n k : ℕ) := FVec Ideal ⟨2, ![n, k]⟩ .f32

/-- A head's columns of a row. -/
abbrev Line := Fin 128 → EReal

/-- Four rows, each weighed, added. -/
def taps (x w : Fin 4 → Line) : Line := fun l => w 3 l * x 3 l + w 0 l * x 0 l + w 1 l * x 1 l + w 2 l * x 2 l

/-- Their activation. -/
def act (x w : Fin 4 → Line) : Line := fun l => taps x w l * Ideal.div 1 (1 + Ideal.exp (-taps x w l))

theorem up {n : ℕ} (r : Fin n) (j : Fin 4) : r.val + j.val - 3 < n := by omega

/-- `f` of each row of a block and the three before it, zero in the first 48 rows. -/
def block (f : (Fin 4 → Line) → (Fin 4 → Line) → Line) (x : Rows 2112 128) (w : Rows 4 128) : Rows 2112 128 := fun y =>
  if 48 ≤ (y 0).val then
    f (fun j l => x (ix2 ⟨(y 0).val + j.val - 3, up (n := 2112) (y 0) j⟩ l)) (fun j l => w (ix2 j l)) (y 1)
  else 0

/-- The columns from `o` on. -/
def cols {n k : ℕ} (o : ℕ) (h : o + 512 ≤ k) (x : Rows n k) : Rows n 512 := fun i =>
  x (ix2 (i 0) ⟨o + (i 1).val, lt_of_lt_of_le (Nat.add_lt_add_left (i 1).isLt o) h⟩)

theorem col (j : Fin 4) (l : Fin 128) : j.val * 128 + l.val < 512 := by omega

/-- A head's columns of a row and the three before it, and of the four weights. -/
def lines (x : Rows 4224 512) (n : Fin 4224) (j : Fin 4) : Fin 4 → Line := fun i l => x (ix2 ⟨n.val + i.val - 3, up n i⟩ ⟨j.val * 128 + l.val, col j l⟩)
def weights (u : Rows 4 512) (j : Fin 4) : Fin 4 → Line := fun i l => u (ix2 i ⟨j.val * 128 + l.val, col j l⟩)

/-- The head of a column. -/
abbrev headOf (q : Fin 512) : Fin 4 := ⟨q.val / 128, by omega⟩

/-- `f` of all rows and heads. -/
def whole (f : (Fin 4 → Line) → (Fin 4 → Line) → Line) (x : Rows 4224 512) (u : Rows 4 512) : Rows 4224 512 := fun i =>
  if 48 ≤ (i 0).val % 2112 then
    f (lines x (i 0) (headOf (i 1))) (weights u (headOf (i 1))) ⟨(i 1).val % 128, Nat.mod_lt _ (by decide)⟩
  else 0

theorem live : ∀ r : Fin 2112, IntOp.cmpi .sge (BitVec.ofNat 32 r.val) 48#32 = if 48 ≤ r.val then 1#1 else 0#1 := by
  decide +kernel

theorem same {n k : ℕ} (x : Rows n k) (q : Fin k) {a b : ℕ} (h : a = b) {ha : a < n} {hb : b < n} :
    x (ix2 ⟨a, ha⟩ q) = x (ix2 ⟨b, hb⟩ q) := by subst h; rfl

/-- The taps of a row of a block, the rows before it found from the end. -/
theorem wrapped (x : Rows 2112 128) (w : Rows 4 128) (r : Fin 2112) (h : 48 ≤ r.val) (l : Fin 128) :
    w (ix2 3 l) * x (ix2 r l) + w (ix2 0 l) * x (ix2 ⟨(r.val + 2112 - 3) % 2112, Nat.mod_lt _ (by decide)⟩ l)
        + w (ix2 1 l) * x (ix2 ⟨(r.val + 2112 - 2) % 2112, Nat.mod_lt _ (by decide)⟩ l)
        + w (ix2 2 l) * x (ix2 ⟨(r.val + 2112 - 1) % 2112, Nat.mod_lt _ (by decide)⟩ l)
      = taps (fun j l => x (ix2 ⟨r.val + j.val - 3, up (n := 2112) r j⟩ l)) (fun j l => w (ix2 j l)) l := by
  have hr : r.val < 2112 := r.isLt
  rw [same x l (show (r.val + 2112 - 3) % 2112 = r.val - 3 by omega) (hb := by omega),
    same x l (show (r.val + 2112 - 2) % 2112 = r.val + 1 - 3 by omega) (hb := by omega),
    same x l (show (r.val + 2112 - 1) % 2112 = r.val + 2 - 3 by omega) (hb := by omega)]
  rfl

theorem chosen (a b : EReal) : Scalar.select (1#1 : BitVec 1) a b = a := rfl

section Kernel

open Cert.ConvVIdeal Cert.ConvVIdeal.Gen Idealize.ShloMosaic.Pipeline

theorem pay1_row (x : Rows 2112 128) (w : Rows 4 128) (r : Fin 2112) (l : Fin 128) :
    k0_pay1 (F := Ideal) x w (ix2 r l) = block act x w (ix2 r l) := by
  have hy : r.val < 2112 := r.isLt
  pointwise [k0_pay1, block]
  rw [live r]
  by_cases h : 48 ≤ r.val
  · have e := wrapped x w r h
    simp only [e, if_pos h, chosen, zero_sub, act]
  · simp only [if_neg h]
    rfl

theorem pay1_at (x : Rows 2112 128) (w : Rows 4 128) (y : S2112x128.Idx) : k0_pay1 (F := Ideal) x w y = block act x w y :=
  (congrArg (k0_pay1 (F := Ideal) x w) (ix2_eta (n0 := 2112) (n1 := 128) y).symm).trans
    ((pay1_row x w (y 0) (y 1)).trans (congrArg (block act x w) (ix2_eta (n0 := 2112) (n1 := 128) y)))

variable (m : (ℓ : Loc nD τ sig) → Buf (Elt Ideal) ℓ) (ρ : Dev nD → PrngReg)

theorem idx0 : ∀ t : Fin cfg0.N, win0_0.index t = ![t.val % 2, 8 + t.val / 2] := (by decide +kernel : ∀ t : Fin grid0.N, _)
theorem idx1 : ∀ t : Fin cfg0.N, win0_1.index t = ![0, 8 + t.val / 2] := (by decide +kernel : ∀ t : Fin grid0.N, _)
theorem idx2 : ∀ t : Fin cfg0.N, win0_2.index t = ![t.val % 2, t.val / 2] := (by decide +kernel : ∀ t : Fin grid0.N, _)

/-- The arguments' columns that the call reads. -/
abbrev xs (c : Dev nD) : Rows 4224 512 := cols (k := 3840) 1024 (by decide) (m ((c : Thread nD τ).loc main_arg0) : Rows 4224 3840)
abbrev ws (c : Dev nD) : Rows 4 512 := cols (k := 1536) 1024 (by decide) (m ((c : Thread nD τ).loc main_arg1) : Rows 4 1536)

theorem at_x (c : Dev nD) (t : Fin cfg0.N) (r : Fin 2112) (l : Fin 128) (n : Fin 4224) (q : Fin 512)
    (hn : t.val % 2 * 2112 + r.val = n.val) (hq : t.val / 2 * 128 + l.val = q.val) :
    iblk m c 0 t (ix2 r l) = xs m c (ix2 n q) := by
  blk_ext! [iblk, V, idx0 t, xs, cols]

theorem at_w (c : Dev nD) (t : Fin cfg0.N) (i : Fin 4) (l : Fin 128) (q : Fin 512) (hq : t.val / 2 * 128 + l.val = q.val) :
    iblk m c 1 t (ix2 i l) = ws m c (ix2 i q) := by
  blk_ext! [iblk, V, idx1 t, ws, cols]

theorem tile (c : Dev nD) (t : Fin cfg0.N) (r : Fin 2112) (l : Fin 128) (hn : t.val % 2 * 2112 + r.val < 4224)
    (hq : t.val / 2 * 128 + l.val < 512) :
    out0_2 (iblk m c 0 t) (iblk m c 1 t) (ix2 r l)
      = whole act (xs m c) (ws m c) (ix2 ⟨t.val % 2 * 2112 + r.val, hn⟩ ⟨t.val / 2 * 128 + l.val, hq⟩) := by
  frame_out
  refine (pay1_at _ _ _).trans ?_
  have hr : r.val < 2112 := r.isLt
  have hl : l.val < 128 := l.isLt
  have hm : (t.val % 2 * 2112 + r.val) % 2112 = r.val := by omega
  by_cases h : 48 ≤ r.val
  · refine (if_pos h).trans (Eq.trans ?_ (if_pos (h.trans_eq hm.symm)).symm)
    have e0 : (fun (j : Fin 4) (k : Fin 128) => (iblk m c 0 t : Rows 2112 128) (ix2 ⟨r.val + j.val - 3, up (n := 2112) r j⟩ k))
        = lines (xs m c) ⟨t.val % 2 * 2112 + r.val, hn⟩ (headOf ⟨t.val / 2 * 128 + l.val, hq⟩) :=
      funext fun j => funext fun k => at_x m c t _ k _ _
        (by show t.val % 2 * 2112 + (r.val + j.val - 3) = t.val % 2 * 2112 + r.val + j.val - 3; omega)
        (by show t.val / 2 * 128 + k.val = (t.val / 2 * 128 + l.val) / 128 * 128 + k.val; omega)
    have e1 : (fun (j : Fin 4) (k : Fin 128) => (iblk m c 1 t : Rows 4 128) (ix2 j k))
        = weights (ws m c) (headOf ⟨t.val / 2 * 128 + l.val, hq⟩) :=
      funext fun j => funext fun k => at_w m c t j k _
        (by show t.val / 2 * 128 + k.val = (t.val / 2 * 128 + l.val) / 128 * 128 + k.val; omega)
    have e2 : l = ⟨(t.val / 2 * 128 + l.val) % 128, Nat.mod_lt _ (by decide)⟩ :=
      Fin.ext (by show l.val = (t.val / 2 * 128 + l.val) % 128; omega)
    exact (congrArg₂ (fun a b => act a b l) e0 e1).trans (congrArg _ e2)
  · exact (if_neg h).trans (if_neg (fun h' => h (h'.trans_eq hm))).symm

/-- The kernel's result. -/
theorem arr (c : Dev nD) : (dats m 0 c).arrAt 2 cfg0.N = whole act (xs m c) (ws m c) := by
  refine (dats m 0 c).arrAt_eq_of_covers 2 _ (by decide +kernel) fun t hf y => ?_
  blk_simp
  rw [after0_2]
  have hN : t.val < 8 := lt_of_lt_of_eq t.isLt N_0
  have hy : (y 0).val < 2112 := (y 0).isLt
  have hz : (y 1).val < 128 := (y 1).isLt
  have h : t.val % 2 * 2112 + (y 0).val < 4224 := by omega
  have h' : t.val / 2 * 128 + (y 1).val < 512 := by omega
  refine (congrArg _ (ix2_eta (n0 := 2112) (n1 := 128) y).symm).trans ((tile m c t (y 0) (y 1) h h').trans (congrArg _ ?_))
  blk_ext [idx2 t]

theorem frame : Cert.quiescent_ConvV := fun m ρ _ => Cert.ConvV.Gen.frame m ρ

theorem frameIdeal : Cert.quiescent_ConvVIdeal := fun m ρ _ => Cert.ConvVIdeal.Gen.frame (F := Ideal) m ρ

end Kernel

section Reference

open Cert.ConvVRefIdeal Cert.ConvVRefIdeal.Gen

/-- The weighed rows, the rows before a sequence's first being zero. -/
def weighed (x : Rows 4224 512) (u : Rows 4 512) : FVec Ideal S2x2112x512 .f32 :=
  addf (addf (addf (addf (broadcastInDim S2x2112x512 ![] bcast_S_S2x2112x512 (constant S_ .f32 0x00000000#32)) (mulf (extractStridedSlice S2x2112x512 ![0, 0, 0] (pad S2x2115x512 ![0, 3, 0] ![0, 0, 0] ![0, 0, 0] (shapeCast _ x shapeCasts_S4224x512_S2x2112x512) (sitofp .f32 (constantI S_ 32 0#32)) pads_S2x2112x512_S2x2115x512_000_300_000 h_S_) slices_S2x2115x512_S2x2112x512_0_0_0) (broadcastInDim S2x2112x512 ![0, 1, 2] bcast_S1x1x512_S2x2112x512_0_1_2 (broadcastInDim S1x1x512 ![2] bcast_S512_S1x1x512_2 (shapeCast _ (extractStridedSlice S1x512 ![0, 0] u slices_S4x512_S1x512_0_0) shapeCasts_S1x512_S512))))) (mulf (extractStridedSlice S2x2112x512 ![0, 1, 0] (pad S2x2115x512 ![0, 3, 0] ![0, 0, 0] ![0, 0, 0] (shapeCast _ x shapeCasts_S4224x512_S2x2112x512) (sitofp .f32 (constantI S_ 32 0#32)) pads_S2x2112x512_S2x2115x512_000_300_000 h_S_) slices_S2x2115x512_S2x2112x512_0_1_0) (broadcastInDim S2x2112x512 ![0, 1, 2] bcast_S1x1x512_S2x2112x512_0_1_2 (broadcastInDim S1x1x512 ![2] bcast_S512_S1x1x512_2 (shapeCast _ (extractStridedSlice S1x512 ![1, 0] u slices_S4x512_S1x512_1_0) shapeCasts_S1x512_S512))))) (mulf (extractStridedSlice S2x2112x512 ![0, 2, 0] (pad S2x2115x512 ![0, 3, 0] ![0, 0, 0] ![0, 0, 0] (shapeCast _ x shapeCasts_S4224x512_S2x2112x512) (sitofp .f32 (constantI S_ 32 0#32)) pads_S2x2112x512_S2x2115x512_000_300_000 h_S_) slices_S2x2115x512_S2x2112x512_0_2_0) (broadcastInDim S2x2112x512 ![0, 1, 2] bcast_S1x1x512_S2x2112x512_0_1_2 (broadcastInDim S1x1x512 ![2] bcast_S512_S1x1x512_2 (shapeCast _ (extractStridedSlice S1x512 ![2, 0] u slices_S4x512_S1x512_2_0) shapeCasts_S1x512_S512))))) (mulf (extractStridedSlice S2x2112x512 ![0, 3, 0] (pad S2x2115x512 ![0, 3, 0] ![0, 0, 0] ![0, 0, 0] (shapeCast _ x shapeCasts_S4224x512_S2x2112x512) (sitofp .f32 (constantI S_ 32 0#32)) pads_S2x2112x512_S2x2115x512_000_300_000 h_S_) slices_S2x2115x512_S2x2112x512_0_3_0) (broadcastInDim S2x2112x512 ![0, 1, 2] bcast_S1x1x512_S2x2112x512_0_1_2 (broadcastInDim S1x1x512 ![2] bcast_S512_S1x1x512_2 (shapeCast _ (extractStridedSlice S1x512 ![3, 0] u slices_S4x512_S1x512_3_0) shapeCasts_S1x512_S512))))

/-- The activation, and its rows after the first 48 of each sequence by heads. -/
def silu (y : FVec Ideal S2x2112x512 .f32) : FVec Ideal S2x2112x512 .f32 :=
  mulf y (Host.divf (broadcastInDim S2x2112x512 ![] bcast_S_S2x2112x512 (constant S_ .f32 0x3F800000#32)) (addf (broadcastInDim S2x2112x512 ![] bcast_S_S2x2112x512 (constant S_ .f32 0x3F800000#32)) (Host.exp (Host.negf y))))
def heads (x : Rows 4224 512) (u : Rows 4 512) : FVec Ideal S2x2064x4x128 .f32 :=
  shapeCast _ (extractStridedSlice S2x2064x512 ![0, 48, 0] (silu (weighed x u)) slices_S2x2112x512_S2x2064x512_0_48_0) shapeCasts_S2x2064x512_S2x2064x4x128

theorem silu_at (y : FVec Ideal S2x2112x512 .f32) (i : S2x2112x512.Idx) : silu y i = y i * Ideal.div 1 (1 + Ideal.exp (-y i)) := by
  pointwise [silu]

theorem reorder (a b c d e f g h : EReal) : a * b + c * d + e * f + g * h = h * g + b * a + d * c + f * e := by
  rw [mul_comm a, mul_comm c, mul_comm e, mul_comm g, add_comm _ (h * g), ← add_assoc, ← add_assoc]

theorem weighed_at (x : Rows 4224 512) (u : Rows 4 512) (b : Fin 2) (r : Fin 2112) (j : Fin 4) (l : Fin 128) (h : 48 ≤ r.val)
    (hn : b.val * 2112 + r.val < 4224) :
    weighed x u (ix3 b r ⟨j.val * 128 + l.val, col j l⟩) = taps (lines x ⟨b.val * 2112 + r.val, hn⟩ j) (weights u j) l := by
  have hr : r.val < 2112 := r.isLt
  have c0 : 3 ≤ r.val ∧ r.val - 3 < 2112 := by omega
  have c1 : 3 ≤ 1 + r.val ∧ 1 + r.val - 3 < 2112 := by omega
  have c2 : 3 ≤ 2 + r.val ∧ 2 + r.val - 3 < 2112 := by omega
  pointwise [weighed, taps, lines, weights]
  rw [dif_pos ⟨c0, col j l⟩, dif_pos ⟨c1, col j l⟩, dif_pos ⟨c2, col j l⟩, dif_pos (col j l)]
  rw [same x _ (show b.val * 2112 + (r.val - 3) = b.val * 2112 + r.val - 3 by omega) (hb := by omega),
    same x _ (show b.val * 2112 + (1 + r.val - 3) = b.val * 2112 + r.val + 1 - 3 by omega) (hb := by omega),
    same x _ (show b.val * 2112 + (2 + r.val - 3) = b.val * 2112 + r.val + 2 - 3 by omega) (hb := by omega)]
  exact reorder _ _ _ _ _ _ _ _

theorem row (b : Fin 2) (r : Fin 2064) : b.val * 2112 + (48 + r.val) < 4224 := by omega

theorem heads_at (x : Rows 4224 512) (u : Rows 4 512) (i : S2x2064x4x128.Idx) :
    heads x u i = act (lines x ⟨(i 0).val * 2112 + (48 + (i 1).val), row (i 0) (i 1)⟩ (i 2)) (weights u (i 2)) (i 3) := by
  have e := weighed_at x u (i 0) ⟨48 + (i 1).val, Nat.add_lt_add_left (i 1).isLt 48⟩ (i 2) (i 3) (Nat.le_add_right _ _) (row (i 0) (i 1))
  pointwise [heads, silu_at]
  rw [e]
  rfl

theorem at_row (i : Fin 4224) (h : 48 ≤ i.val % 2112) (hn : i.val / 2112 * 2112 + (48 + (i.val % 2112 - 48)) < 4224) :
    (⟨i.val / 2112 * 2112 + (48 + (i.val % 2112 - 48)), hn⟩ : Fin 4224) = i := Fin.ext (by show i.val / 2112 * 2112 + (48 + (i.val % 2112 - 48)) = i.val; omega)

theorem inside (i : Fin 4224) (q : Fin 512) (h : 48 ≤ i.val % 2112) :
    i.val / 2112 < 2 ∧ (48 ≤ i.val % 2112 ∧ i.val % 2112 - 48 < 2064) ∧ q.val / 128 < 4 ∧ q.val % 128 < 128 := by omega

/-- The reference's result, of the columns it reads. -/
theorem conv_eq (x : Rows 4224 512) (u : Rows 4 512) :
    shapeCast _ (pad S2x2112x4x128 ![0, 48, 0, 0] ![0, 0, 0, 0] ![0, 0, 0, 0] (heads x u) (sitofp .f32 (constantI S_ 32 0#32)) pads_S2x2064x4x128_S2x2112x4x128_000_4800_000_000 h_S_) shapeCasts_S2x2112x4x128_S4224x512 = whole act x u := by
  funext i
  pointwise [heads_at, whole]
  by_cases h : 48 ≤ (i 0).val % 2112
  · refine (dif_pos (inside (i 0) (i 1) h)).trans (Eq.trans ?_ (if_pos h).symm)
    exact congrArg (fun n => act (lines x n (headOf (i 1))) (weights u (headOf (i 1))) ⟨(i 1).val % 128, Nat.mod_lt _ (by decide)⟩) (at_row (i 0) h _)
  · exact (dif_neg (fun h' => h h'.2.1.1)).trans (sitofp_zero.trans (if_neg h).symm)

theorem cols_x (p : Rows 4224 3840) : extractStridedSlice S4224x512 ![0, 1024] p slices_S4224x3840_S4224x512_0_1024 = cols 1024 (by decide) p := by
  funext i
  pointwise [cols]

theorem cols_w (w : Rows 4 1536) : extractStridedSlice S4x512 ![0, 1024] w slices_S4x1536_S4x512_0_1024 = cols 1024 (by decide) w := by
  funext i
  pointwise [cols]

theorem result (p : Rows 4224 3840) (w : Rows 4 1536) :
    shapeCast _ (pad S2x2112x4x128 ![0, 48, 0, 0] ![0, 0, 0, 0] ![0, 0, 0, 0] (heads (extractStridedSlice S4224x512 ![0, 1024] p slices_S4224x3840_S4224x512_0_1024) (extractStridedSlice S4x512 ![0, 1024] w slices_S4x1536_S4x512_0_1024)) (sitofp .f32 (constantI S_ 32 0#32)) pads_S2x2064x4x128_S2x2112x4x128_000_4800_000_000 h_S_) shapeCasts_S2x2112x4x128_S4224x512
      = whole act (cols 1024 (by decide) p) (cols 1024 (by decide) w) := by
  rw [← cols_x, ← cols_w]
  exact conv_eq _ _

theorem frameRef : Cert.quiescent_ConvVRefIdeal := fun m ρ _ =>
  (θ_run Cert.ConvVRefIdeal.defs _ _).mono (fun r h => ⟨fun c => (h c).2, sem_eq_zero_of_no_sems rfl r.2⟩)
    (Cert.ConvVRefIdeal.Value.run (F := Ideal) m ρ)

end Reference

theorem algebraic : Cert.algebraic_ConvVIdeal_ConvVRefIdeal := fun m ρ m' ρ' _ h =>
  ⟨_, (θ_run Cert.ConvVIdeal.defs _ _).mono (fun _ r c => ⟨(r c).1.trans (arr m c), (r c).2⟩)
      (Cert.ConvVIdeal.Value.run_blocks (F := Ideal) m ρ),
    (θ_run Cert.ConvVRefIdeal.defs _ _).mono
      (fun _ r c => ⟨(r c).1.trans ((result _ _).trans (by rw [(h c).1, (h c).2])), (r c).2⟩)
      (Cert.ConvVRefIdeal.Value.run (F := Ideal) m' ρ')⟩

end Cert.Proof.ConvV
-- ==== Proof.ConvK.lean ====
/-
  The convolutions of the keys: the kernel's entries are the reference's.
-/
module

public import proofs.«01_k».proof.Proof.ConvV
public import proofs.«01_k».proof.Proof.Gen.ConvK.Frame
public import proofs.«01_k».proof.Proof.Gen.ConvKIdeal.Value
public import proofs.«01_k».proof.Proof.Gen.ConvKRefIdeal.Run
public import Idealize.ShloMosaic.Lib.Pipeline.ValueKit.Point
public import Idealize.ShloMosaic.Lib.Quiescent
public import Idealize.ShloMosaic.Lib.KernelVsHost

@[expose] public section

noncomputable section

namespace Cert.Proof.ConvK

open Idealize.ShloMosaic Idealize.ShloMosaic.TcCoe Idealize.SL.Sem Idealize.SL Idealize.SL.RA
open Cert.Proof.ConvV

/-- The small constant of the length. -/
abbrev eps : EReal := Ideal.ofBits .f32 0x358637BD#32

/-- The activation at length one. -/
def unit (x w : Fin 4 → Line) : Line := fun l => act x w l * Ideal.rsqrt ((∑ k, act x w k * act x w k) + eps)

section Kernel

open Cert.ConvKIdeal Cert.ConvKIdeal.Gen Idealize.ShloMosaic.Pipeline

theorem pay1_row (x : Rows 2112 128) (w : Rows 4 128) (r : Fin 2112) (l : Fin 128) :
    k0_pay1 (F := Ideal) x w (ix2 r l) = block unit x w (ix2 r l) := by
  have hy : r.val < 2112 := r.isLt
  pointwise [k0_pay1, block]
  rw [live r]
  by_cases h : 48 ≤ r.val
  · have e := wrapped x w r h
    simp only [e, if_pos h, chosen, zero_sub, unit, act, ix2_0, ix2_1]
  · simp only [if_neg h]
    rfl

theorem pay1_at (x : Rows 2112 128) (w : Rows 4 128) (y : S2112x128.Idx) : k0_pay1 (F := Ideal) x w y = block unit x w y :=
  (congrArg (k0_pay1 (F := Ideal) x w) (ix2_eta (n0 := 2112) (n1 := 128) y).symm).trans
    ((pay1_row x w (y 0) (y 1)).trans (congrArg (block unit x w) (ix2_eta (n0 := 2112) (n1 := 128) y)))

variable (m : (ℓ : Loc nD τ sig) → Buf (Elt Ideal) ℓ) (ρ : Dev nD → PrngReg)

theorem idx0 : ∀ t : Fin cfg0.N, win0_0.index t = ![t.val % 2, 4 + t.val / 2] := (by decide +kernel : ∀ t : Fin grid0.N, _)
theorem idx1 : ∀ t : Fin cfg0.N, win0_1.index t = ![0, 4 + t.val / 2] := (by decide +kernel : ∀ t : Fin grid0.N, _)
theorem idx2 : ∀ t : Fin cfg0.N, win0_2.index t = ![t.val % 2, t.val / 2] := (by decide +kernel : ∀ t : Fin grid0.N, _)

/-- The arguments' columns that the call reads. -/
abbrev xs (c : Dev nD) : Rows 4224 512 := cols (k := 3840) 512 (by decide) (m ((c : Thread nD τ).loc main_arg0) : Rows 4224 3840)
abbrev ws (c : Dev nD) : Rows 4 512 := cols (k := 1536) 512 (by decide) (m ((c : Thread nD τ).loc main_arg1) : Rows 4 1536)

theorem at_x (c : Dev nD) (t : Fin cfg0.N) (r : Fin 2112) (l : Fin 128) (n : Fin 4224) (q : Fin 512)
    (hn : t.val % 2 * 2112 + r.val = n.val) (hq : t.val / 2 * 128 + l.val = q.val) :
    iblk m c 0 t (ix2 r l) = xs m c (ix2 n q) := by
  blk_ext! [iblk, V, idx0 t, xs, cols]

theorem at_w (c : Dev nD) (t : Fin cfg0.N) (i : Fin 4) (l : Fin 128) (q : Fin 512) (hq : t.val / 2 * 128 + l.val = q.val) :
    iblk m c 1 t (ix2 i l) = ws m c (ix2 i q) := by
  blk_ext! [iblk, V, idx1 t, ws, cols]

theorem tile (c : Dev nD) (t : Fin cfg0.N) (r : Fin 2112) (l : Fin 128) (hn : t.val % 2 * 2112 + r.val < 4224)
    (hq : t.val / 2 * 128 + l.val < 512) :
    out0_2 (iblk m c 0 t) (iblk m c 1 t) (ix2 r l)
      = whole unit (xs m c) (ws m c) (ix2 ⟨t.val % 2 * 2112 + r.val, hn⟩ ⟨t.val / 2 * 128 + l.val, hq⟩) := by
  frame_out
  refine (pay1_at _ _ _).trans ?_
  have hr : r.val < 2112 := r.isLt
  have hl : l.val < 128 := l.isLt
  have hm : (t.val % 2 * 2112 + r.val) % 2112 = r.val := by omega
  by_cases h : 48 ≤ r.val
  · refine (if_pos h).trans (Eq.trans ?_ (if_pos (h.trans_eq hm.symm)).symm)
    have e0 : (fun (j : Fin 4) (k : Fin 128) => (iblk m c 0 t : Rows 2112 128) (ix2 ⟨r.val + j.val - 3, up (n := 2112) r j⟩ k))
        = lines (xs m c) ⟨t.val % 2 * 2112 + r.val, hn⟩ (headOf ⟨t.val / 2 * 128 + l.val, hq⟩) :=
      funext fun j => funext fun k => at_x m c t _ k _ _
        (by show t.val % 2 * 2112 + (r.val + j.val - 3) = t.val % 2 * 2112 + r.val + j.val - 3; omega)
        (by show t.val / 2 * 128 + k.val = (t.val / 2 * 128 + l.val) / 128 * 128 + k.val; omega)
    have e1 : (fun (j : Fin 4) (k : Fin 128) => (iblk m c 1 t : Rows 4 128) (ix2 j k))
        = weights (ws m c) (headOf ⟨t.val / 2 * 128 + l.val, hq⟩) :=
      funext fun j => funext fun k => at_w m c t j k _
        (by show t.val / 2 * 128 + k.val = (t.val / 2 * 128 + l.val) / 128 * 128 + k.val; omega)
    have e2 : l = ⟨(t.val / 2 * 128 + l.val) % 128, Nat.mod_lt _ (by decide)⟩ :=
      Fin.ext (by show l.val = (t.val / 2 * 128 + l.val) % 128; omega)
    exact (congrArg₂ (fun a b => unit a b l) e0 e1).trans (congrArg _ e2)
  · exact (if_neg h).trans (if_neg (fun h' => h (h'.trans_eq hm))).symm

/-- The kernel's result. -/
theorem arr (c : Dev nD) : (dats m 0 c).arrAt 2 cfg0.N = whole unit (xs m c) (ws m c) := by
  refine (dats m 0 c).arrAt_eq_of_covers 2 _ (by decide +kernel) fun t hf y => ?_
  blk_simp
  rw [after0_2]
  have hN : t.val < 8 := lt_of_lt_of_eq t.isLt N_0
  have hy : (y 0).val < 2112 := (y 0).isLt
  have hz : (y 1).val < 128 := (y 1).isLt
  have h : t.val % 2 * 2112 + (y 0).val < 4224 := by omega
  have h' : t.val / 2 * 128 + (y 1).val < 512 := by omega
  refine (congrArg _ (ix2_eta (n0 := 2112) (n1 := 128) y).symm).trans ((tile m c t (y 0) (y 1) h h').trans (congrArg _ ?_))
  blk_ext [idx2 t]

theorem frame : Cert.quiescent_ConvK := fun m ρ _ => Cert.ConvK.Gen.frame m ρ

theorem frameIdeal : Cert.quiescent_ConvKIdeal := fun m ρ _ => Cert.ConvKIdeal.Gen.frame (F := Ideal) m ρ

end Kernel

section Reference

open Cert.ConvKRefIdeal Cert.ConvKRefIdeal.Gen

/-- The reference's result, of the columns it reads. -/
theorem conv_eq (x : Rows 4224 512) (u : Rows 4 512) :
    shapeCast _ (pad S2x2112x4x128 ![0, 48, 0, 0] ![0, 0, 0, 0] ![0, 0, 0, 0] (mulf (heads x u) (broadcastInDim S2x2064x4x128 ![0, 1, 2, 3] bcast_S2x2064x4x1_S2x2064x4x128_0_1_2_3 (Host.rsqrt (addf (broadcastInDim S2x2064x4x1 ![0, 1, 2] bcast_S2x2064x4_S2x2064x4x1_0_1_2 (Host.reduceAdd (mulf (heads x u) (heads x u)) (constant S_ .f32 0x00000000#32) reducesTo_S2x2064x4x128_S2x2064x4_d3 h_S_)) (broadcastInDim S2x2064x4x1 ![] bcast_S_S2x2064x4x1 (constant S_ .f32 0x358637BD#32)))))) (sitofp .f32 (constantI S_ 32 0#32)) pads_S2x2064x4x128_S2x2112x4x128_000_4800_000_000 h_S_) shapeCasts_S2x2112x4x128_S4224x512 = whole unit x u := by
  funext i
  pointwise [heads_at, whole]
  by_cases h : 48 ≤ (i 0).val % 2112
  · refine (dif_pos (inside (i 0) (i 1) h)).trans (Eq.trans ?_ (if_pos h).symm)
    exact congrArg (fun n => unit (lines x n (headOf (i 1))) (weights u (headOf (i 1))) ⟨(i 1).val % 128, Nat.mod_lt _ (by decide)⟩) (at_row (i 0) h _)
  · exact (dif_neg (fun h' => h h'.2.1.1)).trans (sitofp_zero.trans (if_neg h).symm)

theorem cols_x (p : Rows 4224 3840) : extractStridedSlice S4224x512 ![0, 512] p slices_S4224x3840_S4224x512_0_512 = cols 512 (by decide) p := by
  funext i
  pointwise [cols]

theorem cols_w (w : Rows 4 1536) : extractStridedSlice S4x512 ![0, 512] w slices_S4x1536_S4x512_0_512 = cols 512 (by decide) w := by
  funext i
  pointwise [cols]

theorem result (p : Rows 4224 3840) (w : Rows 4 1536) :
    shapeCast _ (pad S2x2112x4x128 ![0, 48, 0, 0] ![0, 0, 0, 0] ![0, 0, 0, 0] (mulf (heads (extractStridedSlice S4224x512 ![0, 512] p slices_S4224x3840_S4224x512_0_512) (extractStridedSlice S4x512 ![0, 512] w slices_S4x1536_S4x512_0_512)) (broadcastInDim S2x2064x4x128 ![0, 1, 2, 3] bcast_S2x2064x4x1_S2x2064x4x128_0_1_2_3 (Host.rsqrt (addf (broadcastInDim S2x2064x4x1 ![0, 1, 2] bcast_S2x2064x4_S2x2064x4x1_0_1_2 (Host.reduceAdd (mulf (heads (extractStridedSlice S4224x512 ![0, 512] p slices_S4224x3840_S4224x512_0_512) (extractStridedSlice S4x512 ![0, 512] w slices_S4x1536_S4x512_0_512)) (heads (extractStridedSlice S4224x512 ![0, 512] p slices_S4224x3840_S4224x512_0_512) (extractStridedSlice S4x512 ![0, 512] w slices_S4x1536_S4x512_0_512))) (constant S_ .f32 0x00000000#32) reducesTo_S2x2064x4x128_S2x2064x4_d3 h_S_)) (broadcastInDim S2x2064x4x1 ![] bcast_S_S2x2064x4x1 (constant S_ .f32 0x358637BD#32)))))) (sitofp .f32 (constantI S_ 32 0#32)) pads_S2x2064x4x128_S2x2112x4x128_000_4800_000_000 h_S_) shapeCasts_S2x2112x4x128_S4224x512
      = whole unit (cols 512 (by decide) p) (cols 512 (by decide) w) := by
  rw [← cols_x, ← cols_w]
  exact conv_eq _ _

theorem frameRef : Cert.quiescent_ConvKRefIdeal := fun m ρ _ =>
  (θ_run Cert.ConvKRefIdeal.defs _ _).mono (fun r h => ⟨fun c => (h c).2, sem_eq_zero_of_no_sems rfl r.2⟩)
    (Cert.ConvKRefIdeal.Value.run (F := Ideal) m ρ)

end Reference

theorem algebraic : Cert.algebraic_ConvKIdeal_ConvKRefIdeal := fun m ρ m' ρ' _ h =>
  ⟨_, (θ_run Cert.ConvKIdeal.defs _ _).mono (fun _ r c => ⟨(r c).1.trans (arr m c), (r c).2⟩)
      (Cert.ConvKIdeal.Value.run_blocks (F := Ideal) m ρ),
    (θ_run Cert.ConvKRefIdeal.defs _ _).mono
      (fun _ r c => ⟨(r c).1.trans ((result _ _).trans (by rw [(h c).1, (h c).2])), (r c).2⟩)
      (Cert.ConvKRefIdeal.Value.run (F := Ideal) m' ρ')⟩

end Cert.Proof.ConvK
-- ==== Proof.ConvQ.lean ====
/-
  The convolutions of the queries: the kernel's entries are the reference's.
-/
module

public import proofs.«01_k».proof.Proof.ConvK
public import proofs.«01_k».proof.Proof.Gen.ConvQ.Frame
public import proofs.«01_k».proof.Proof.Gen.ConvQIdeal.Value
public import proofs.«01_k».proof.Proof.Gen.ConvQRefIdeal.Run
public import Idealize.ShloMosaic.Lib.Pipeline.ValueKit.Point
public import Idealize.ShloMosaic.Lib.Quiescent
public import Idealize.ShloMosaic.Lib.KernelVsHost

@[expose] public section

noncomputable section

namespace Cert.Proof.ConvQ

open Idealize.ShloMosaic Idealize.ShloMosaic.TcCoe Idealize.SL.Sem Idealize.SL Idealize.SL.RA
open Cert.Proof.ConvV
open Cert.Proof.ConvK (unit)

/-- The unit keys' activation, scaled. -/
def query (x w : Fin 4 → Line) : Line := fun l => unit x w l * Ideal.ofBits .f32 0x3DB504F3#32

section Kernel

open Cert.ConvQIdeal Cert.ConvQIdeal.Gen Idealize.ShloMosaic.Pipeline

theorem pay1_row (x : Rows 2112 128) (w : Rows 4 128) (r : Fin 2112) (l : Fin 128) :
    k0_pay1 (F := Ideal) (k0_pay2 x w) (Scalar.ofBits .f32 0x00000000#32) k0_pay3 (ix2 r l) = block query x w (ix2 r l) := by
  have hy : r.val < 2112 := r.isLt
  pointwise [k0_pay1, k0_pay2, k0_pay3, block]
  rw [live r]
  by_cases h : 48 ≤ r.val
  · have e := wrapped x w r h
    simp only [e, if_pos h, chosen, zero_sub, query, unit, act, ix2_0, ix2_1]
  · simp only [if_neg h]
    rfl

theorem pay1_at (x : Rows 2112 128) (w : Rows 4 128) (y : S2112x128.Idx) : k0_pay1 (F := Ideal) (k0_pay2 x w) (Scalar.ofBits .f32 0x00000000#32) k0_pay3 y = block query x w y :=
  (congrArg (k0_pay1 (F := Ideal) (k0_pay2 x w) (Scalar.ofBits .f32 0x00000000#32) k0_pay3) (ix2_eta (n0 := 2112) (n1 := 128) y).symm).trans
    ((pay1_row x w (y 0) (y 1)).trans (congrArg (block query x w) (ix2_eta (n0 := 2112) (n1 := 128) y)))

variable (m : (ℓ : Loc nD τ sig) → Buf (Elt Ideal) ℓ) (ρ : Dev nD → PrngReg)

theorem idx0 : ∀ t : Fin cfg0.N, win0_0.index t = ![t.val % 2, 0 + t.val / 2] := (by decide +kernel : ∀ t : Fin grid0.N, _)
theorem idx1 : ∀ t : Fin cfg0.N, win0_1.index t = ![0, 0 + t.val / 2] := (by decide +kernel : ∀ t : Fin grid0.N, _)
theorem idx2 : ∀ t : Fin cfg0.N, win0_2.index t = ![t.val % 2, t.val / 2] := (by decide +kernel : ∀ t : Fin grid0.N, _)

/-- The arguments' columns that the call reads. -/
abbrev xs (c : Dev nD) : Rows 4224 512 := cols (k := 3840) 0 (by decide) (m ((c : Thread nD τ).loc main_arg0) : Rows 4224 3840)
abbrev ws (c : Dev nD) : Rows 4 512 := cols (k := 1536) 0 (by decide) (m ((c : Thread nD τ).loc main_arg1) : Rows 4 1536)

theorem at_x (c : Dev nD) (t : Fin cfg0.N) (r : Fin 2112) (l : Fin 128) (n : Fin 4224) (q : Fin 512)
    (hn : t.val % 2 * 2112 + r.val = n.val) (hq : t.val / 2 * 128 + l.val = q.val) :
    iblk m c 0 t (ix2 r l) = xs m c (ix2 n q) := by
  blk_ext! [iblk, V, idx0 t, xs, cols]

theorem at_w (c : Dev nD) (t : Fin cfg0.N) (i : Fin 4) (l : Fin 128) (q : Fin 512) (hq : t.val / 2 * 128 + l.val = q.val) :
    iblk m c 1 t (ix2 i l) = ws m c (ix2 i q) := by
  blk_ext! [iblk, V, idx1 t, ws, cols]

theorem tile (c : Dev nD) (t : Fin cfg0.N) (r : Fin 2112) (l : Fin 128) (hn : t.val % 2 * 2112 + r.val < 4224)
    (hq : t.val / 2 * 128 + l.val < 512) :
    out0_2 (iblk m c 0 t) (iblk m c 1 t) (ix2 r l)
      = whole query (xs m c) (ws m c) (ix2 ⟨t.val % 2 * 2112 + r.val, hn⟩ ⟨t.val / 2 * 128 + l.val, hq⟩) := by
  frame_out
  refine (pay1_at _ _ _).trans ?_
  have hr : r.val < 2112 := r.isLt
  have hl : l.val < 128 := l.isLt
  have hm : (t.val % 2 * 2112 + r.val) % 2112 = r.val := by omega
  by_cases h : 48 ≤ r.val
  · refine (if_pos h).trans (Eq.trans ?_ (if_pos (h.trans_eq hm.symm)).symm)
    have e0 : (fun (j : Fin 4) (k : Fin 128) => (iblk m c 0 t : Rows 2112 128) (ix2 ⟨r.val + j.val - 3, up (n := 2112) r j⟩ k))
        = lines (xs m c) ⟨t.val % 2 * 2112 + r.val, hn⟩ (headOf ⟨t.val / 2 * 128 + l.val, hq⟩) :=
      funext fun j => funext fun k => at_x m c t _ k _ _
        (by show t.val % 2 * 2112 + (r.val + j.val - 3) = t.val % 2 * 2112 + r.val + j.val - 3; omega)
        (by show t.val / 2 * 128 + k.val = (t.val / 2 * 128 + l.val) / 128 * 128 + k.val; omega)
    have e1 : (fun (j : Fin 4) (k : Fin 128) => (iblk m c 1 t : Rows 4 128) (ix2 j k))
        = weights (ws m c) (headOf ⟨t.val / 2 * 128 + l.val, hq⟩) :=
      funext fun j => funext fun k => at_w m c t j k _
        (by show t.val / 2 * 128 + k.val = (t.val / 2 * 128 + l.val) / 128 * 128 + k.val; omega)
    have e2 : l = ⟨(t.val / 2 * 128 + l.val) % 128, Nat.mod_lt _ (by decide)⟩ :=
      Fin.ext (by show l.val = (t.val / 2 * 128 + l.val) % 128; omega)
    exact (congrArg₂ (fun a b => query a b l) e0 e1).trans (congrArg _ e2)
  · exact (if_neg h).trans (if_neg (fun h' => h (h'.trans_eq hm))).symm

/-- The kernel's result. -/
theorem arr (c : Dev nD) : (dats m 0 c).arrAt 2 cfg0.N = whole query (xs m c) (ws m c) := by
  refine (dats m 0 c).arrAt_eq_of_covers 2 _ (by decide +kernel) fun t hf y => ?_
  blk_simp
  rw [after0_2]
  have hN : t.val < 8 := lt_of_lt_of_eq t.isLt N_0
  have hy : (y 0).val < 2112 := (y 0).isLt
  have hz : (y 1).val < 128 := (y 1).isLt
  have h : t.val % 2 * 2112 + (y 0).val < 4224 := by omega
  have h' : t.val / 2 * 128 + (y 1).val < 512 := by omega
  refine (congrArg _ (ix2_eta (n0 := 2112) (n1 := 128) y).symm).trans ((tile m c t (y 0) (y 1) h h').trans (congrArg _ ?_))
  blk_ext [idx2 t]

theorem frame : Cert.quiescent_ConvQ := fun m ρ _ => Cert.ConvQ.Gen.frame m ρ

theorem frameIdeal : Cert.quiescent_ConvQIdeal := fun m ρ _ => Cert.ConvQIdeal.Gen.frame (F := Ideal) m ρ

end Kernel

section Reference

open Cert.ConvQRefIdeal Cert.ConvQRefIdeal.Gen

/-- The reference's result, of the columns it reads. -/
theorem conv_eq (x : Rows 4224 512) (u : Rows 4 512) :
    shapeCast _ (pad S2x2112x4x128 ![0, 48, 0, 0] ![0, 0, 0, 0] ![0, 0, 0, 0] (mulf (mulf (heads x u) (broadcastInDim S2x2064x4x128 ![0, 1, 2, 3] bcast_S2x2064x4x1_S2x2064x4x128_0_1_2_3 (Host.rsqrt (addf (broadcastInDim S2x2064x4x1 ![0, 1, 2] bcast_S2x2064x4_S2x2064x4x1_0_1_2 (Host.reduceAdd (mulf (heads x u) (heads x u)) (constant S_ .f32 0x00000000#32) reducesTo_S2x2064x4x128_S2x2064x4_d3 h_S_)) (broadcastInDim S2x2064x4x1 ![] bcast_S_S2x2064x4x1 (constant S_ .f32 0x358637BD#32)))))) (broadcastInDim S2x2064x4x128 ![] bcast_S_S2x2064x4x128 (constant S_ .f32 0x3DB504F3#32))) (sitofp .f32 (constantI S_ 32 0#32)) pads_S2x2064x4x128_S2x2112x4x128_000_4800_000_000 h_S_) shapeCasts_S2x2112x4x128_S4224x512 = whole query x u := by
  funext i
  pointwise [heads_at, whole]
  by_cases h : 48 ≤ (i 0).val % 2112
  · refine (dif_pos (inside (i 0) (i 1) h)).trans (Eq.trans ?_ (if_pos h).symm)
    exact congrArg (fun n => query (lines x n (headOf (i 1))) (weights u (headOf (i 1))) ⟨(i 1).val % 128, Nat.mod_lt _ (by decide)⟩) (at_row (i 0) h _)
  · exact (dif_neg (fun h' => h h'.2.1.1)).trans (sitofp_zero.trans (if_neg h).symm)

theorem cols_x (p : Rows 4224 3840) : extractStridedSlice S4224x512 ![0, 0] p slices_S4224x3840_S4224x512_0_0 = cols 0 (by decide) p := by
  funext i
  pointwise [cols]

theorem cols_w (w : Rows 4 1536) : extractStridedSlice S4x512 ![0, 0] w slices_S4x1536_S4x512_0_0 = cols 0 (by decide) w := by
  funext i
  pointwise [cols]

theorem result (p : Rows 4224 3840) (w : Rows 4 1536) :
    shapeCast _ (pad S2x2112x4x128 ![0, 48, 0, 0] ![0, 0, 0, 0] ![0, 0, 0, 0] (mulf (mulf (heads (extractStridedSlice S4224x512 ![0, 0] p slices_S4224x3840_S4224x512_0_0) (extractStridedSlice S4x512 ![0, 0] w slices_S4x1536_S4x512_0_0)) (broadcastInDim S2x2064x4x128 ![0, 1, 2, 3] bcast_S2x2064x4x1_S2x2064x4x128_0_1_2_3 (Host.rsqrt (addf (broadcastInDim S2x2064x4x1 ![0, 1, 2] bcast_S2x2064x4_S2x2064x4x1_0_1_2 (Host.reduceAdd (mulf (heads (extractStridedSlice S4224x512 ![0, 0] p slices_S4224x3840_S4224x512_0_0) (extractStridedSlice S4x512 ![0, 0] w slices_S4x1536_S4x512_0_0)) (heads (extractStridedSlice S4224x512 ![0, 0] p slices_S4224x3840_S4224x512_0_0) (extractStridedSlice S4x512 ![0, 0] w slices_S4x1536_S4x512_0_0))) (constant S_ .f32 0x00000000#32) reducesTo_S2x2064x4x128_S2x2064x4_d3 h_S_)) (broadcastInDim S2x2064x4x1 ![] bcast_S_S2x2064x4x1 (constant S_ .f32 0x358637BD#32)))))) (broadcastInDim S2x2064x4x128 ![] bcast_S_S2x2064x4x128 (constant S_ .f32 0x3DB504F3#32))) (sitofp .f32 (constantI S_ 32 0#32)) pads_S2x2064x4x128_S2x2112x4x128_000_4800_000_000 h_S_) shapeCasts_S2x2112x4x128_S4224x512
      = whole query (cols 0 (by decide) p) (cols 0 (by decide) w) := by
  rw [← cols_x, ← cols_w]
  exact conv_eq _ _

theorem frameRef : Cert.quiescent_ConvQRefIdeal := fun m ρ _ =>
  (θ_run Cert.ConvQRefIdeal.defs _ _).mono (fun r h => ⟨fun c => (h c).2, sem_eq_zero_of_no_sems rfl r.2⟩)
    (Cert.ConvQRefIdeal.Value.run (F := Ideal) m ρ)

end Reference

theorem algebraic : Cert.algebraic_ConvQIdeal_ConvQRefIdeal := fun m ρ m' ρ' _ h =>
  ⟨_, (θ_run Cert.ConvQIdeal.defs _ _).mono (fun _ r c => ⟨(r c).1.trans (arr m c), (r c).2⟩)
      (Cert.ConvQIdeal.Value.run_blocks (F := Ideal) m ρ),
    (θ_run Cert.ConvQRefIdeal.defs _ _).mono
      (fun _ r c => ⟨(r c).1.trans ((result _ _).trans (by rw [(h c).1, (h c).2])), (r c).2⟩)
      (Cert.ConvQRefIdeal.Value.run (F := Ideal) m' ρ')⟩

end Cert.Proof.ConvQ
-- ==== Proof.lean ====
module

public import proofs.«01_k».proof.Defs
public import proofs.«01_k».proof.Proof.Gen.ShareHalves
public import proofs.«01_k».proof.Proof.Gen.ShareHalves.Skeleton
public import proofs.«01_k».proof.Proof.Gen.ShareHalves.Launch
public import proofs.«01_k».proof.Proof.Gen.ShareHalves.Points
public import proofs.«01_k».proof.Proof.Gen.ShareHalves.Frame
public import proofs.«01_k».proof.Proof.Gen.ShareHalvesIdeal
public import proofs.«01_k».proof.Proof.Gen.ShareHalvesIdeal.Skeleton
public import proofs.«01_k».proof.Proof.Gen.ShareHalvesIdeal.Launch
public import proofs.«01_k».proof.Proof.Gen.ShareHalvesIdeal.Points
public import proofs.«01_k».proof.Proof.Gen.ShareHalvesIdeal.Frame
public import proofs.«01_k».proof.Proof.Gen.ShareHalvesRefIdeal
public import proofs.«01_k».proof.Proof.Gen.ShareHalvesRefIdeal.Run
public import proofs.«01_k».proof.Proof.Gen.ShareHalvesRef
public import proofs.«01_k».proof.Proof.Gen.ShareHalvesRef.Run
public import proofs.«01_k».proof.Proof.Gen.ExchangeChips
public import proofs.«01_k».proof.Proof.Gen.ExchangeChips.Skeleton
public import proofs.«01_k».proof.Proof.Gen.ExchangeChips.Launch
public import proofs.«01_k».proof.Proof.Gen.ExchangeChips.Points
public import proofs.«01_k».proof.Proof.Gen.ExchangeChips.Frame
public import proofs.«01_k».proof.Proof.Gen.ExchangeChipsIdeal
public import proofs.«01_k».proof.Proof.Gen.ExchangeChipsIdeal.Skeleton
public import proofs.«01_k».proof.Proof.Gen.ExchangeChipsIdeal.Launch
public import proofs.«01_k».proof.Proof.Gen.ExchangeChipsIdeal.Points
public import proofs.«01_k».proof.Proof.Gen.ExchangeChipsIdeal.Frame
public import proofs.«01_k».proof.Proof.Gen.ExchangeChipsRefIdeal
public import proofs.«01_k».proof.Proof.Gen.ExchangeChipsRefIdeal.Run
public import proofs.«01_k».proof.Proof.Gen.ExchangeChipsRef
public import proofs.«01_k».proof.Proof.Gen.ExchangeChipsRef.Run
public import proofs.«01_k».proof.Proof.Gen.ExchangeSiblings
public import proofs.«01_k».proof.Proof.Gen.ExchangeSiblings.Skeleton
public import proofs.«01_k».proof.Proof.Gen.ExchangeSiblings.Launch
public import proofs.«01_k».proof.Proof.Gen.ExchangeSiblings.Points
public import proofs.«01_k».proof.Proof.Gen.ExchangeSiblings.Frame
public import proofs.«01_k».proof.Proof.Gen.ExchangeSiblingsIdeal
public import proofs.«01_k».proof.Proof.Gen.ExchangeSiblingsIdeal.Skeleton
public import proofs.«01_k».proof.Proof.Gen.ExchangeSiblingsIdeal.Launch
public import proofs.«01_k».proof.Proof.Gen.ExchangeSiblingsIdeal.Points
public import proofs.«01_k».proof.Proof.Gen.ExchangeSiblingsIdeal.Frame
public import proofs.«01_k».proof.Proof.Gen.ExchangeSiblingsRefIdeal
public import proofs.«01_k».proof.Proof.Gen.ExchangeSiblingsRefIdeal.Run
public import proofs.«01_k».proof.Proof.Gen.ExchangeSiblingsRef
public import proofs.«01_k».proof.Proof.Gen.ExchangeSiblingsRef.Run
public import proofs.«01_k».proof.Proof.Gen.GatherWeights
public import proofs.«01_k».proof.Proof.Gen.GatherWeights.Skeleton
public import proofs.«01_k».proof.Proof.Gen.GatherWeights.Launch
public import proofs.«01_k».proof.Proof.Gen.GatherWeights.Points
public import proofs.«01_k».proof.Proof.Gen.GatherWeights.Frame
public import proofs.«01_k».proof.Proof.Gen.GatherWeightsIdeal
public import proofs.«01_k».proof.Proof.Gen.GatherWeightsIdeal.Skeleton
public import proofs.«01_k».proof.Proof.Gen.GatherWeightsIdeal.Launch
public import proofs.«01_k».proof.Proof.Gen.GatherWeightsIdeal.Points
public import proofs.«01_k».proof.Proof.Gen.GatherWeightsIdeal.Frame
public import proofs.«01_k».proof.Proof.Gen.GatherWeightsRefIdeal
public import proofs.«01_k».proof.Proof.Gen.GatherWeightsRefIdeal.Run
public import proofs.«01_k».proof.Proof.Gen.GatherWeightsRef
public import proofs.«01_k».proof.Proof.Gen.GatherWeightsRef.Run
public import proofs.«01_k».proof.Proof.Gen.SharePieces
public import proofs.«01_k».proof.Proof.Gen.SharePieces.Skeleton
public import proofs.«01_k».proof.Proof.Gen.SharePieces.Launch
public import proofs.«01_k».proof.Proof.Gen.SharePieces.Points
public import proofs.«01_k».proof.Proof.Gen.SharePieces.Frame
public import proofs.«01_k».proof.Proof.Gen.SharePiecesIdeal
public import proofs.«01_k».proof.Proof.Gen.SharePiecesIdeal.Skeleton
public import proofs.«01_k».proof.Proof.Gen.SharePiecesIdeal.Launch
public import proofs.«01_k».proof.Proof.Gen.SharePiecesIdeal.Points
public import proofs.«01_k».proof.Proof.Gen.SharePiecesIdeal.Frame
public import proofs.«01_k».proof.Proof.Gen.SharePiecesRefIdeal
public import proofs.«01_k».proof.Proof.Gen.SharePiecesRefIdeal.Run
public import proofs.«01_k».proof.Proof.ShareHalves
public import proofs.«01_k».proof.Proof.Gen.ReduceSmall
public import proofs.«01_k».proof.Proof.Gen.ReduceSmall.Skeleton
public import proofs.«01_k».proof.Proof.Gen.ReduceSmall.Launch
public import proofs.«01_k».proof.Proof.Gen.ReduceSmall.Points
public import proofs.«01_k».proof.Proof.Gen.ReduceSmall.Regions
public import proofs.«01_k».proof.Proof.Gen.ReduceSmallIdeal
public import proofs.«01_k».proof.Proof.Gen.ReduceSmallIdeal.Skeleton
public import proofs.«01_k».proof.Proof.Gen.ReduceSmallIdeal.Launch
public import proofs.«01_k».proof.Proof.Gen.ReduceSmallIdeal.Points
public import proofs.«01_k».proof.Proof.Gen.ReduceSmallIdeal.Regions
public import proofs.«01_k».proof.Proof.Gen.ReduceSmallRefIdeal
public import proofs.«01_k».proof.Proof.Gen.ReduceSmallRefIdeal.Run
public import proofs.«01_k».proof.Proof.Gen.InputGrad
public import proofs.«01_k».proof.Proof.Gen.InputGrad.Frame
public import proofs.«01_k».proof.Proof.Gen.InputGradIdeal
public import proofs.«01_k».proof.Proof.Gen.InputGradIdeal.Frame
public import proofs.«01_k».proof.Proof.Gen.InputGradIdeal.Value
public import proofs.«01_k».proof.Proof.Gen.InputGradRefIdeal
public import proofs.«01_k».proof.Proof.Gen.InputGradRefIdeal.Run
public import proofs.«01_k».proof.Proof.InputGrad
public import proofs.«01_k».proof.Proof.SharePieces
public import proofs.«01_k».proof.Proof.SmallPlain
public import proofs.«01_k».proof.Proof.ChipsValue
public import proofs.«01_k».proof.Proof.SiblingsValue
public import proofs.«01_k».proof.Proof.GatherWeights
public import proofs.«01_k».proof.Proof.Steps
public import Idealize.ShloMosaic.Lib.Quiescent
public import Idealize.ShloMosaic.Adequacy
public import Idealize.ShloMosaic.Init
public import proofs.«01_k».proof.Proof.Gen.MidGrad
public import proofs.«01_k».proof.Proof.Gen.MidGrad.Frame
public import proofs.«01_k».proof.Proof.Gen.MidGradIdeal
public import proofs.«01_k».proof.Proof.Gen.MidGradIdeal.Frame
public import proofs.«01_k».proof.Proof.Gen.MidGradIdeal.Value
public import proofs.«01_k».proof.Proof.Gen.MidGradRefIdeal
public import proofs.«01_k».proof.Proof.Gen.MidGradRefIdeal.Run
public import proofs.«01_k».proof.Proof.MidGrad
public import proofs.«01_k».proof.Proof.Gen.FirstNorm
public import proofs.«01_k».proof.Proof.Gen.FirstNorm.Frame
public import proofs.«01_k».proof.Proof.Gen.FirstNormIdeal
public import proofs.«01_k».proof.Proof.Gen.FirstNormIdeal.Frame
public import proofs.«01_k».proof.Proof.Gen.FirstNormIdeal.Value
public import proofs.«01_k».proof.Proof.Gen.FirstNormRefIdeal
public import proofs.«01_k».proof.Proof.Gen.FirstNormRefIdeal.Run
public import proofs.«01_k».proof.Proof.FirstNorm
public import proofs.«01_k».proof.Proof.Gen.Residual
public import proofs.«01_k».proof.Proof.Gen.Residual.Frame
public import proofs.«01_k».proof.Proof.Gen.ResidualIdeal
public import proofs.«01_k».proof.Proof.Gen.ResidualIdeal.Frame
public import proofs.«01_k».proof.Proof.Gen.ResidualIdeal.Value
public import proofs.«01_k».proof.Proof.Gen.ResidualRefIdeal
public import proofs.«01_k».proof.Proof.Gen.ResidualRefIdeal.Run
public import proofs.«01_k».proof.Proof.Residual
public import proofs.«01_k».proof.Proof.Gen.Swiglu
public import proofs.«01_k».proof.Proof.Gen.Swiglu.Frame
public import proofs.«01_k».proof.Proof.Gen.SwigluIdeal
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Swiglu
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.LossHead
public import proofs.«01_k».proof.Proof.Gen.MmProj
public import proofs.«01_k».proof.Proof.Gen.MmProj.Frame
public import proofs.«01_k».proof.Proof.Gen.MmProjIdeal
public import proofs.«01_k».proof.Proof.Gen.MmProjIdeal.Frame
public import proofs.«01_k».proof.Proof.Gen.MmProjIdeal.Value
public import proofs.«01_k».proof.Proof.Gen.MmProjRefIdeal
public import proofs.«01_k».proof.Proof.Gen.MmProjRefIdeal.Run
public import proofs.«01_k».proof.Proof.MmProj
public import proofs.«01_k».proof.Proof.Gen.MmMix
public import proofs.«01_k».proof.Proof.Gen.MmMix.Frame
public import proofs.«01_k».proof.Proof.Gen.MmMixIdeal
public import proofs.«01_k».proof.Proof.Gen.MmMixIdeal.Frame
public import proofs.«01_k».proof.Proof.Gen.MmMixIdeal.Value
public import proofs.«01_k».proof.Proof.Gen.MmMixRefIdeal
public import proofs.«01_k».proof.Proof.Gen.MmMixRefIdeal.Run
public import proofs.«01_k».proof.Proof.MmMix
public import proofs.«01_k».proof.Proof.Gen.MmGateUp
public import proofs.«01_k».proof.Proof.Gen.MmGateUp.Frame
public import proofs.«01_k».proof.Proof.Gen.MmGateUpIdeal
public import proofs.«01_k».proof.Proof.Gen.MmGateUpIdeal.Frame
public import proofs.«01_k».proof.Proof.Gen.MmGateUpIdeal.Value
public import proofs.«01_k».proof.Proof.Gen.MmGateUpRefIdeal
public import proofs.«01_k».proof.Proof.Gen.MmGateUpRefIdeal.Run
public import proofs.«01_k».proof.Proof.MmGateUp
public import proofs.«01_k».proof.Proof.Gen.MmDown
public import proofs.«01_k».proof.Proof.Gen.MmDown.Frame
public import proofs.«01_k».proof.Proof.Gen.MmDownIdeal
public import proofs.«01_k».proof.Proof.Gen.MmDownIdeal.Frame
public import proofs.«01_k».proof.Proof.Gen.MmDownIdeal.Value
public import proofs.«01_k».proof.Proof.Gen.MmDownRefIdeal
public import proofs.«01_k».proof.Proof.Gen.MmDownRefIdeal.Run
public import proofs.«01_k».proof.Proof.MmDown
public import proofs.«01_k».proof.Proof.Gen.MmDact
public import proofs.«01_k».proof.Proof.Gen.MmDact.Frame
public import proofs.«01_k».proof.Proof.Gen.MmDactIdeal
public import proofs.«01_k».proof.Proof.Gen.MmDactIdeal.Frame
public import proofs.«01_k».proof.Proof.Gen.MmDactIdeal.Value
public import proofs.«01_k».proof.Proof.Gen.MmDactRefIdeal
public import proofs.«01_k».proof.Proof.Gen.MmDactRefIdeal.Run
public import proofs.«01_k».proof.Proof.MmDact
public import proofs.«01_k».proof.Proof.Gen.MmDwDown
public import proofs.«01_k».proof.Proof.Gen.MmDwDown.Frame
public import proofs.«01_k».proof.Proof.Gen.MmDwDownIdeal
public import proofs.«01_k».proof.Proof.Gen.MmDwDownIdeal.Frame
public import proofs.«01_k».proof.Proof.Gen.MmDwDownIdeal.Value
public import proofs.«01_k».proof.Proof.Gen.MmDwDownRefIdeal
public import proofs.«01_k».proof.Proof.Gen.MmDwDownRefIdeal.Run
public import proofs.«01_k».proof.Proof.MmDwDown
public import proofs.«01_k».proof.Proof.Gen.MmDwGateUp
public import proofs.«01_k».proof.Proof.Gen.MmDwGateUp.Frame
public import proofs.«01_k».proof.Proof.Gen.MmDwGateUpIdeal
public import proofs.«01_k».proof.Proof.Gen.MmDwGateUpIdeal.Frame
public import proofs.«01_k».proof.Proof.Gen.MmDwGateUpIdeal.Value
public import proofs.«01_k».proof.Proof.Gen.MmDwGateUpRefIdeal
public import proofs.«01_k».proof.Proof.Gen.MmDwGateUpRefIdeal.Run
public import proofs.«01_k».proof.Proof.MmDwGateUp
public import proofs.«01_k».proof.Proof.Gen.MmDu2
public import proofs.«01_k».proof.Proof.Gen.MmDu2.Frame
public import proofs.«01_k».proof.Proof.Gen.MmDu2Ideal
public import proofs.«01_k».proof.Proof.Gen.MmDu2Ideal.Frame
public import proofs.«01_k».proof.Proof.Gen.MmDu2Ideal.Value
public import proofs.«01_k».proof.Proof.Gen.MmDu2RefIdeal
public import proofs.«01_k».proof.Proof.Gen.MmDu2RefIdeal.Run
public import proofs.«01_k».proof.Proof.MmDu2
public import proofs.«01_k».proof.Proof.Gen.MmDcat
public import proofs.«01_k».proof.Proof.Gen.MmDcat.Frame
public import proofs.«01_k».proof.Proof.Gen.MmDcatIdeal
public import proofs.«01_k».proof.Proof.Gen.MmDcatIdeal.Frame
public import proofs.«01_k».proof.Proof.Gen.MmDcatIdeal.Value
public import proofs.«01_k».proof.Proof.Gen.MmDcatRefIdeal
public import proofs.«01_k».proof.Proof.Gen.MmDcatRefIdeal.Run
public import proofs.«01_k».proof.Proof.MmDcat
public import proofs.«01_k».proof.Proof.Gen.MmDwOut
public import proofs.«01_k».proof.Proof.Gen.MmDwOut.Frame
public import proofs.«01_k».proof.Proof.Gen.MmDwOutIdeal
public import proofs.«01_k».proof.Proof.Gen.MmDwOutIdeal.Frame
public import proofs.«01_k».proof.Proof.Gen.MmDwOutIdeal.Value
public import proofs.«01_k».proof.Proof.Gen.MmDwOutRefIdeal
public import proofs.«01_k».proof.Proof.Gen.MmDwOutRefIdeal.Run
public import proofs.«01_k».proof.Proof.MmDwOut
public import proofs.«01_k».proof.Proof.Gen.MmDwIn
public import proofs.«01_k».proof.Proof.Gen.MmDwIn.Frame
public import proofs.«01_k».proof.Proof.Gen.MmDwInIdeal
public import proofs.«01_k».proof.Proof.Gen.MmDwInIdeal.Frame
public import proofs.«01_k».proof.Proof.Gen.MmDwInIdeal.Value
public import proofs.«01_k».proof.Proof.Gen.MmDwInRefIdeal
public import proofs.«01_k».proof.Proof.Gen.MmDwInRefIdeal.Run
public import proofs.«01_k».proof.Proof.MmDwIn
public import proofs.«01_k».proof.Proof.Gen.MmDu1
public import proofs.«01_k».proof.Proof.Gen.MmDu1.Frame
public import proofs.«01_k».proof.Proof.Gen.MmDu1Ideal
public import proofs.«01_k».proof.Proof.Gen.MmDu1Ideal.Frame
public import proofs.«01_k».proof.Proof.Gen.MmDu1Ideal.Value
public import proofs.«01_k».proof.Proof.Gen.MmDu1RefIdeal
public import proofs.«01_k».proof.Proof.Gen.MmDu1RefIdeal.Run
public import proofs.«01_k».proof.Proof.MmDu1
public import proofs.«01_k».proof.Proof.Gen.SwigluGrad
public import proofs.«01_k».proof.Proof.Gen.SwigluGrad.Frame
public import proofs.«01_k».proof.Proof.Gen.SwigluGradIdeal
public import proofs.«01_k».proof.Proof.Gen.SwigluGradIdeal.Frame
public import proofs.«01_k».proof.Proof.Gen.SwigluGradIdeal.Value
public import proofs.«01_k».proof.Proof.Gen.SwigluGradRefIdeal
public import proofs.«01_k».proof.Proof.Gen.SwigluGradRefIdeal.Run
public import proofs.«01_k».proof.Proof.SwigluGrad
public import proofs.«01_k».proof.Proof.Gen.Gated
public import proofs.«01_k».proof.Proof.Gen.Gated.Frame
public import proofs.«01_k».proof.Proof.Gen.GatedIdeal
public import proofs.«01_k».proof.Proof.Gen.GatedIdeal.Frame
public import proofs.«01_k».proof.Proof.Gen.GatedIdeal.Value
public import proofs.«01_k».proof.Proof.Gen.GatedRefIdeal
public import proofs.«01_k».proof.Proof.Gen.GatedRefIdeal.Run
public import proofs.«01_k».proof.Proof.Gated
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.Gates
public import proofs.«01_k».proof.Proof.Gen.ConvV
public import proofs.«01_k».proof.Proof.Gen.ConvV.Frame
public import proofs.«01_k».proof.Proof.Gen.ConvVIdeal
public import proofs.«01_k».proof.Proof.Gen.ConvVIdeal.Frame
public import proofs.«01_k».proof.Proof.Gen.ConvVIdeal.Value
public import proofs.«01_k».proof.Proof.Gen.ConvVRefIdeal
public import proofs.«01_k».proof.Proof.Gen.ConvVRefIdeal.Run
public import proofs.«01_k».proof.Proof.ConvV
public import proofs.«01_k».proof.Proof.Gen.ConvK
public import proofs.«01_k».proof.Proof.Gen.ConvK.Frame
public import proofs.«01_k».proof.Proof.Gen.ConvKIdeal
public import proofs.«01_k».proof.Proof.Gen.ConvKIdeal.Frame
public import proofs.«01_k».proof.Proof.Gen.ConvKIdeal.Value
public import proofs.«01_k».proof.Proof.Gen.ConvKRefIdeal
public import proofs.«01_k».proof.Proof.Gen.ConvKRefIdeal.Run
public import proofs.«01_k».proof.Proof.ConvK
public import proofs.«01_k».proof.Proof.Gen.ConvQ
public import proofs.«01_k».proof.Proof.Gen.ConvQ.Frame
public import proofs.«01_k».proof.Proof.Gen.ConvQIdeal
public import proofs.«01_k».proof.Proof.Gen.ConvQIdeal.Frame
public import proofs.«01_k».proof.Proof.Gen.ConvQIdeal.Value
public import proofs.«01_k».proof.Proof.Gen.ConvQRefIdeal
public import proofs.«01_k».proof.Proof.Gen.ConvQRefIdeal.Run
public import proofs.«01_k».proof.Proof.ConvQ

@[expose] public section

noncomputable section

-- Every claim of how a program runs also says that every semaphore counter ends at zero; the proofs show that too.

namespace Cert.Proof

open Idealize.ShloMosaic Idealize.ShloMosaic.TcCoe Idealize.SL.Sem

/-! ## The exchange of the halves -/

theorem frame_halves : Cert.quiescent_ShareHalves := fun m ρ _ =>
  (θ_run Cert.ShareHalvesIdeal.defs _ _).mono (fun _ h => ⟨fun c => (h.1 c).2, h.2⟩) (HalvesProof.run_main (F := Bits) m ρ)

theorem frame_halvesIdeal : Cert.quiescent_ShareHalvesIdeal := fun m ρ _ =>
  (θ_run Cert.ShareHalvesIdeal.defs _ _).mono (fun _ h => ⟨fun c => (h.1 c).2, h.2⟩) (HalvesProof.run_main (F := Ideal) m ρ)

theorem frame_halvesRefIdeal : Cert.quiescent_ShareHalvesRefIdeal := fun m ρ _ =>
  (θ_run Cert.ShareHalvesRefIdeal.defs _ _).mono (fun r h => ⟨fun c => (h c).2, sem_eq_zero_of_no_sems rfl r.2⟩)
    (Cert.ShareHalvesRefIdeal.Value.run (F := Ideal) m ρ)

theorem frame_halvesRef : Cert.quiescent_ShareHalvesRef := fun m ρ _ =>
  (θ_run Cert.ShareHalvesRef.defs _ _).mono (fun r h => ⟨fun c => (h c).2, sem_eq_zero_of_no_sems rfl r.2⟩)
    (Cert.ShareHalvesRef.Value.run (F := Bits) m ρ)

theorem algebraic_halves : Cert.algebraic_ShareHalvesIdeal_ShareHalvesRefIdeal := fun m ρ m' ρ' _ h =>
  ⟨_, (θ_run Cert.ShareHalvesIdeal.defs _ _).mono (fun _ r c => ⟨(r.1 c).1.trans (HalvesProof.fin_eq m _ _ h c), (r.1 c).2⟩)
      (HalvesProof.run_main (F := Ideal) m ρ),
    (θ_run Cert.ShareHalvesRefIdeal.defs _ _).mono (fun _ r => r 0) (Cert.ShareHalvesRefIdeal.Value.run (F := Ideal) m' ρ')⟩

theorem bitexact_halves : Cert.bitexact_ShareHalves_ShareHalvesRef := fun m ρ m' ρ' _ h =>
  ⟨_, (θ_run Cert.ShareHalvesIdeal.defs _ _).mono (fun _ r c => ⟨(r.1 c).1.trans (HalvesProof.fin_eq m _ _ h c), (r.1 c).2⟩)
      (HalvesProof.run_main (F := Bits) m ρ),
    (θ_run Cert.ShareHalvesRef.defs _ _).mono (fun _ r => r 0) (Cert.ShareHalvesRef.Value.run (F := Bits) m' ρ')⟩

/-! ## The exchange between the chips -/

theorem frame_chips : Cert.quiescent_ExchangeChips := fun m ρ _ =>
  (θ_run Cert.ExchangeChipsIdeal.defs _ _).mono (fun _ h => ⟨fun c => (h.1 c).2, h.2⟩) (ChipsProof.run_main (F := Bits) m ρ)

theorem frame_chipsIdeal : Cert.quiescent_ExchangeChipsIdeal := fun m ρ _ =>
  (θ_run Cert.ExchangeChipsIdeal.defs _ _).mono (fun _ h => ⟨fun c => (h.1 c).2, h.2⟩) (ChipsProof.run_main (F := Ideal) m ρ)

theorem frame_chipsRefIdeal : Cert.quiescent_ExchangeChipsRefIdeal := fun m ρ _ =>
  (θ_run Cert.ExchangeChipsRefIdeal.defs _ _).mono (fun r h => ⟨fun c => (h c).2, sem_eq_zero_of_no_sems rfl r.2⟩)
    (Cert.ExchangeChipsRefIdeal.Value.run (F := Ideal) m ρ)

theorem frame_chipsRef : Cert.quiescent_ExchangeChipsRef := fun m ρ _ =>
  (θ_run Cert.ExchangeChipsRef.defs _ _).mono (fun r h => ⟨fun c => (h c).2, sem_eq_zero_of_no_sems rfl r.2⟩)
    (Cert.ExchangeChipsRef.Value.run (F := Bits) m ρ)

theorem algebraic_chips : Cert.algebraic_ExchangeChipsIdeal_ExchangeChipsRefIdeal := fun m ρ m' ρ' _ h =>
  ⟨_, (θ_run Cert.ExchangeChipsIdeal.defs _ _).mono (fun _ r c => ⟨(r.1 c).1.trans (ChipsProof.fin_eq m _ _ (fun r p q => ChipsProof.stack_apply m' 0 r p q) h c), (r.1 c).2⟩)
      (ChipsProof.run_main (F := Ideal) m ρ),
    (θ_run Cert.ExchangeChipsRefIdeal.defs _ _).mono (fun _ r => r 0) (Cert.ExchangeChipsRefIdeal.Value.run (F := Ideal) m' ρ')⟩

theorem bitexact_chips : Cert.bitexact_ExchangeChips_ExchangeChipsRef := fun m ρ m' ρ' _ h =>
  ⟨_, (θ_run Cert.ExchangeChipsIdeal.defs _ _).mono (fun _ r c => ⟨(r.1 c).1.trans (ChipsProof.fin_eq m _ _ (fun r p q => ChipsProof.stack_apply m' 0 r p q) h c), (r.1 c).2⟩)
      (ChipsProof.run_main (F := Bits) m ρ),
    (θ_run Cert.ExchangeChipsRef.defs _ _).mono (fun _ r => r 0) (Cert.ExchangeChipsRef.Value.run (F := Bits) m' ρ')⟩

/-! ## The exchange between the siblings -/

theorem frame_siblings : Cert.quiescent_ExchangeSiblings := fun m ρ _ =>
  (θ_run Cert.ExchangeSiblingsIdeal.defs _ _).mono (fun _ h => ⟨fun c => (h.1 c).2, h.2⟩) (SiblingsProof.run_main (F := Bits) m ρ)

theorem frame_siblingsIdeal : Cert.quiescent_ExchangeSiblingsIdeal := fun m ρ _ =>
  (θ_run Cert.ExchangeSiblingsIdeal.defs _ _).mono (fun _ h => ⟨fun c => (h.1 c).2, h.2⟩) (SiblingsProof.run_main (F := Ideal) m ρ)

theorem frame_siblingsRefIdeal : Cert.quiescent_ExchangeSiblingsRefIdeal := fun m ρ _ =>
  (θ_run Cert.ExchangeSiblingsRefIdeal.defs _ _).mono (fun r h => ⟨fun c => (h c).2.2, sem_eq_zero_of_no_sems rfl r.2⟩)
    (Cert.ExchangeSiblingsRefIdeal.Value.run (F := Ideal) m ρ)

theorem frame_siblingsRef : Cert.quiescent_ExchangeSiblingsRef := fun m ρ _ =>
  (θ_run Cert.ExchangeSiblingsRef.defs _ _).mono (fun r h => ⟨fun c => (h c).2.2, sem_eq_zero_of_no_sems rfl r.2⟩)
    (Cert.ExchangeSiblingsRef.Value.run (F := Bits) m ρ)

theorem algebraic_siblings : Cert.algebraic_ExchangeSiblingsIdeal_ExchangeSiblingsRefIdeal := fun m ρ m' ρ' _ h =>
  ⟨_, _, (θ_run Cert.ExchangeSiblingsIdeal.defs _ _).mono (fun _ r c => ⟨(r.1 c).1.1.trans (SiblingsProof.got_eq m _ _ _ (fun r o p q => SiblingsProof.stack_apply _ r o p q) (fun c => (h c).1) c),
      (r.1 c).1.2.trans (SiblingsProof.all_eq m _ _ (fun c => (h c).2) c), (r.1 c).2⟩) (SiblingsProof.run_main (F := Ideal) m ρ),
    (θ_run Cert.ExchangeSiblingsRefIdeal.defs _ _).mono (fun _ r => r 0) (Cert.ExchangeSiblingsRefIdeal.Value.run (F := Ideal) m' ρ')⟩

theorem bitexact_siblings : Cert.bitexact_ExchangeSiblings_ExchangeSiblingsRef := fun m ρ m' ρ' _ h =>
  ⟨_, _, (θ_run Cert.ExchangeSiblingsIdeal.defs _ _).mono (fun _ r c => ⟨(r.1 c).1.1.trans (SiblingsProof.got_eq m _ _ _ (fun r o p q => SiblingsProof.stack_apply _ r o p q) (fun c => (h c).1) c),
      (r.1 c).1.2.trans (SiblingsProof.all_eq m _ _ (fun c => (h c).2) c), (r.1 c).2⟩) (SiblingsProof.run_main (F := Bits) m ρ),
    (θ_run Cert.ExchangeSiblingsRef.defs _ _).mono (fun _ r => r 0) (Cert.ExchangeSiblingsRef.Value.run (F := Bits) m' ρ')⟩

/-! ## The gathering of the weights -/

theorem frame_weights : Cert.quiescent_GatherWeights := fun m ρ _ =>
  (θ_run Cert.GatherWeightsIdeal.defs _ _).mono (fun _ h => ⟨fun c => (h.1 c).2, h.2⟩) (WeightsProof.run_main (F := Bits) m ρ)

theorem frame_weightsIdeal : Cert.quiescent_GatherWeightsIdeal := fun m ρ _ =>
  (θ_run Cert.GatherWeightsIdeal.defs _ _).mono (fun _ h => ⟨fun c => (h.1 c).2, h.2⟩) (WeightsProof.run_main (F := Ideal) m ρ)

theorem frame_weightsRefIdeal : Cert.quiescent_GatherWeightsRefIdeal := fun m ρ _ =>
  (θ_run Cert.GatherWeightsRefIdeal.defs _ _).mono (fun r h => ⟨fun c => (h c).2.2, sem_eq_zero_of_no_sems rfl r.2⟩)
    (Cert.GatherWeightsRefIdeal.Value.run (F := Ideal) m ρ)

theorem frame_weightsRef : Cert.quiescent_GatherWeightsRef := fun m ρ _ =>
  (θ_run Cert.GatherWeightsRef.defs _ _).mono (fun r h => ⟨fun c => (h c).2.2, sem_eq_zero_of_no_sems rfl r.2⟩)
    (Cert.GatherWeightsRef.Value.run (F := Bits) m ρ)

theorem algebraic_weights : Cert.algebraic_GatherWeightsIdeal_GatherWeightsRefIdeal := fun m ρ m' ρ' _ h =>
  ⟨_, _, (θ_run Cert.GatherWeightsIdeal.defs _ _).mono (fun _ r c => ⟨(r.1 c).1.1.trans (WeightsProof.w_eq m _ _ (fun c => (h c).1) c),
      (r.1 c).1.2.trans (WeightsProof.s_eq m _ _ (fun c => (h c).2) c), (r.1 c).2⟩) (WeightsProof.run_main (F := Ideal) m ρ),
    (θ_run Cert.GatherWeightsRefIdeal.defs _ _).mono (fun _ r => r 0) (Cert.GatherWeightsRefIdeal.Value.run (F := Ideal) m' ρ')⟩

theorem bitexact_weights : Cert.bitexact_GatherWeights_GatherWeightsRef := fun m ρ m' ρ' _ h =>
  ⟨_, _, (θ_run Cert.GatherWeightsIdeal.defs _ _).mono (fun _ r c => ⟨(r.1 c).1.1.trans (WeightsProof.w_eq m _ _ (fun c => (h c).1) c),
      (r.1 c).1.2.trans (WeightsProof.s_eq m _ _ (fun c => (h c).2) c), (r.1 c).2⟩) (WeightsProof.run_main (F := Bits) m ρ),
    (θ_run Cert.GatherWeightsRef.defs _ _).mono (fun _ r => r 0) (Cert.GatherWeightsRef.Value.run (F := Bits) m' ρ')⟩

/-! ## The exchange of the halves, cut into the pieces -/

theorem frame_pieces : Cert.quiescent_SharePieces := fun m ρ _ =>
  (θ_run Cert.SharePiecesIdeal.defs _ _).mono (fun _ h => ⟨fun c => (h.1 c).2.2.2.2.2, h.2⟩) (PiecesProof.run_main (F := Bits) m ρ)

theorem frame_piecesIdeal : Cert.quiescent_SharePiecesIdeal := fun m ρ _ =>
  (θ_run Cert.SharePiecesIdeal.defs _ _).mono (fun _ h => ⟨fun c => (h.1 c).2.2.2.2.2, h.2⟩) (PiecesProof.run_main (F := Ideal) m ρ)

theorem frame_piecesRefIdeal : Cert.quiescent_SharePiecesRefIdeal := fun m ρ _ =>
  (θ_run Cert.SharePiecesRefIdeal.defs _ _).mono (fun r h => ⟨fun c => (h c).2.2.2.2.2, sem_eq_zero_of_no_sems rfl r.2⟩)
    (Cert.SharePiecesRefIdeal.Value.run (F := Ideal) m ρ)

theorem algebraic_pieces : Cert.algebraic_SharePiecesIdeal_SharePiecesRefIdeal := fun m ρ m' ρ' _ h =>
  ⟨_, _, _, _, _, (θ_run Cert.SharePiecesIdeal.defs _ _).mono (fun _ r c =>
      ⟨(r.1 c).1.trans (PiecesProof.cols_eq m 0 rfl rfl (by decide) _ h _ _ _ _ _ _ _ c _),
       (r.1 c).2.1.trans (PiecesProof.rows_eq m 919552 rfl rfl (by decide) _ h _ _ _ _ _ c _),
       (r.1 c).2.2.1.trans (PiecesProof.cols_eq m 1181696 rfl rfl (by decide) _ h _ _ _ _ _ _ _ c _),
       (r.1 c).2.2.2.1.trans (PiecesProof.cols_eq m 1902592 rfl rfl (by decide) _ h _ _ _ _ _ _ _ c _),
       (r.1 c).2.2.2.2.1.trans (PiecesProof.rows_eq m 2623488 rfl rfl (by decide) _ h _ _ _ _ _ c _),
       (r.1 c).2.2.2.2.2⟩)
      (PiecesProof.run_main (F := Ideal) m ρ),
    (θ_run Cert.SharePiecesRefIdeal.defs _ _).mono (fun _ r => r 0) (Cert.SharePiecesRefIdeal.Value.run (F := Ideal) m' ρ')⟩

/-! ## The sum of the small arrays -/

theorem frame_small : Cert.quiescent_ReduceSmall := fun m ρ _ => SmallProof.run_plain (F := Bits) m ρ

theorem frame_smallIdeal : Cert.quiescent_ReduceSmallIdeal := fun m ρ _ =>
  (θ_run Cert.ReduceSmallIdeal.defs _ _).mono (fun _ h => ⟨fun c => (h.1 c).2.2.2.2.2.2.2.2.2.2.2, h.2⟩) (SmallProof.run_main (F := Ideal) m ρ)

theorem frame_smallRefIdeal : Cert.quiescent_ReduceSmallRefIdeal := fun m ρ _ =>
  (θ_run Cert.ReduceSmallRefIdeal.defs _ _).mono (fun r h => ⟨fun c => (h c).2.2.2.2.2.2.2.2.2.2.2, sem_eq_zero_of_no_sems rfl r.2⟩)
    (Cert.ReduceSmallRefIdeal.Value.run (F := Ideal) m ρ)

theorem algebraic_small : Cert.algebraic_ReduceSmallIdeal_ReduceSmallRefIdeal := fun m ρ m' ρ' _ h => by
  have h₁ := fun c => (h c).2
  refine ⟨_, _, _, _, _, _, _, _, _, _, _, ?_,
    (θ_run Cert.ReduceSmallRefIdeal.defs _ _).mono (fun _ r => r 0) (Cert.ReduceSmallRefIdeal.Value.run (F := Ideal) m' ρ')⟩
  refine (θ_run Cert.ReduceSmallIdeal.defs _ _).mono (fun _ r c => ?_) (SmallProof.run_main (F := Ideal) m ρ)
  obtain ⟨r₀, r₁, r₂, r₃, r₄, r₅, r₆, r₇, r₈, r₉, r₁₀, rA, rB⟩ := r.1 c
  refine ⟨r₀.trans ((SmallProof.loss_eq _).trans (congrArg (fun x => Host.divf (mulf (constant _ .f32 0x3F000000#32) x) (constant _ .f32 0x44800000#32)) ?_)),
    r₁.trans ?_, r₂.trans ?_, r₃.trans ?_, r₄.trans ?_, r₅.trans ?_, r₆.trans ?_, r₇.trans ?_,
    r₈.trans ((SmallProof.cols_at _ _ c (SmallProof.start_convQkv c) rfl _ _).trans (congrArg (fun x => Layout.blockN _ _ _ x _) ?_)),
    r₉.trans ((SmallProof.cols_at _ _ c (SmallProof.start_convSc c) rfl _ _).trans (congrArg (fun x => Layout.blockN _ _ _ x _) ?_)),
    r₁₀.trans ((SmallProof.cols_at _ _ c (SmallProof.start_meta c) rfl _ _).trans (congrArg (fun x => Layout.blockN _ _ _ x _) ?_)), rA, rB⟩
  all_goals exact SmallProof.piece_eq m _ _ _ _ h₁ _ _ _ c

theorem claim : Cert.Claim := ⟨Cert.ShareHalves.Gen.facts, Cert.ShareHalvesIdeal.Gen.facts, Cert.ShareHalvesRefIdeal.Gen.facts, Cert.ShareHalvesRef.Gen.facts, Cert.ExchangeChips.Gen.facts, Cert.ExchangeChipsIdeal.Gen.facts, Cert.ExchangeChipsRefIdeal.Gen.facts, Cert.ExchangeChipsRef.Gen.facts, Cert.ExchangeSiblings.Gen.facts, Cert.ExchangeSiblingsIdeal.Gen.facts, Cert.ExchangeSiblingsRefIdeal.Gen.facts, Cert.ExchangeSiblingsRef.Gen.facts, Cert.GatherWeights.Gen.facts, Cert.GatherWeightsIdeal.Gen.facts, Cert.GatherWeightsRefIdeal.Gen.facts, Cert.GatherWeightsRef.Gen.facts,
  Cert.SharePieces.Gen.facts, Cert.SharePiecesIdeal.Gen.facts, Cert.SharePiecesRefIdeal.Gen.facts,
  Cert.ReduceSmall.Gen.facts, Cert.ReduceSmallIdeal.Gen.facts, Cert.ReduceSmallRefIdeal.Gen.facts,
  Cert.MetaStep.Gen.facts, Cert.MetaStepIdeal.Gen.facts, Cert.MetaStepRefIdeal.Gen.facts, Cert.NormStep.Gen.facts, Cert.NormStepIdeal.Gen.facts, Cert.NormStepRefIdeal.Gen.facts, Cert.WInStep.Gen.facts, Cert.WInStepIdeal.Gen.facts, Cert.WInStepRefIdeal.Gen.facts, Cert.ConvQkvStep.Gen.facts, Cert.ConvQkvStepIdeal.Gen.facts, Cert.ConvQkvStepRefIdeal.Gen.facts, Cert.ALogStep.Gen.facts, Cert.ALogStepIdeal.Gen.facts, Cert.ALogStepRefIdeal.Gen.facts, Cert.GdnNormStep.Gen.facts, Cert.GdnNormStepIdeal.Gen.facts, Cert.GdnNormStepRefIdeal.Gen.facts, Cert.ConvScStep.Gen.facts, Cert.ConvScStepIdeal.Gen.facts, Cert.ConvScStepRefIdeal.Gen.facts, Cert.WOutStep.Gen.facts, Cert.WOutStepIdeal.Gen.facts, Cert.WOutStepRefIdeal.Gen.facts, Cert.WGateStep.Gen.facts, Cert.WGateStepIdeal.Gen.facts, Cert.WGateStepRefIdeal.Gen.facts, Cert.WDownStep.Gen.facts, Cert.WDownStepIdeal.Gen.facts, Cert.WDownStepRefIdeal.Gen.facts,
  Cert.InputGrad.Gen.facts, Cert.InputGradIdeal.Gen.facts, Cert.InputGradRefIdeal.Gen.facts,
  Cert.MidGrad.Gen.facts, Cert.MidGradIdeal.Gen.facts, Cert.MidGradRefIdeal.Gen.facts,
  Cert.FirstNorm.Gen.facts, Cert.FirstNormIdeal.Gen.facts, Cert.FirstNormRefIdeal.Gen.facts,
  Cert.Residual.Gen.facts, Cert.ResidualIdeal.Gen.facts, Cert.ResidualRefIdeal.Gen.facts,
  Cert.Swiglu.Gen.facts, Cert.SwigluIdeal.Gen.facts, Cert.SwigluRefIdeal.Gen.facts,
  Cert.LossHead.Gen.facts, Cert.LossHeadIdeal.Gen.facts, Cert.LossHeadRefIdeal.Gen.facts,
  Cert.SwigluGrad.Gen.facts, Cert.SwigluGradIdeal.Gen.facts, Cert.SwigluGradRefIdeal.Gen.facts,
  Cert.Gated.Gen.facts, Cert.GatedIdeal.Gen.facts, Cert.GatedRefIdeal.Gen.facts,
  Cert.Gates.Gen.facts, Cert.GatesIdeal.Gen.facts, Cert.GatesRefIdeal.Gen.facts,
  Cert.ConvV.Gen.facts, Cert.ConvVIdeal.Gen.facts, Cert.ConvVRefIdeal.Gen.facts,
  Cert.ConvK.Gen.facts, Cert.ConvKIdeal.Gen.facts, Cert.ConvKRefIdeal.Gen.facts,
  Cert.ConvQ.Gen.facts, Cert.ConvQIdeal.Gen.facts, Cert.ConvQRefIdeal.Gen.facts,
  Cert.MmProj.Gen.facts, Cert.MmProjIdeal.Gen.facts, Cert.MmProjRefIdeal.Gen.facts,
  Cert.MmMix.Gen.facts, Cert.MmMixIdeal.Gen.facts, Cert.MmMixRefIdeal.Gen.facts,
  Cert.MmGateUp.Gen.facts, Cert.MmGateUpIdeal.Gen.facts, Cert.MmGateUpRefIdeal.Gen.facts,
  Cert.MmDown.Gen.facts, Cert.MmDownIdeal.Gen.facts, Cert.MmDownRefIdeal.Gen.facts,
  Cert.MmDact.Gen.facts, Cert.MmDactIdeal.Gen.facts, Cert.MmDactRefIdeal.Gen.facts,
  Cert.MmDwDown.Gen.facts, Cert.MmDwDownIdeal.Gen.facts, Cert.MmDwDownRefIdeal.Gen.facts,
  Cert.MmDwGateUp.Gen.facts, Cert.MmDwGateUpIdeal.Gen.facts, Cert.MmDwGateUpRefIdeal.Gen.facts,
  Cert.MmDu2.Gen.facts, Cert.MmDu2Ideal.Gen.facts, Cert.MmDu2RefIdeal.Gen.facts,
  Cert.MmDcat.Gen.facts, Cert.MmDcatIdeal.Gen.facts, Cert.MmDcatRefIdeal.Gen.facts,
  Cert.MmDwOut.Gen.facts, Cert.MmDwOutIdeal.Gen.facts, Cert.MmDwOutRefIdeal.Gen.facts,
  Cert.MmDwIn.Gen.facts, Cert.MmDwInIdeal.Gen.facts, Cert.MmDwInRefIdeal.Gen.facts,
  Cert.MmDu1.Gen.facts, Cert.MmDu1Ideal.Gen.facts, Cert.MmDu1RefIdeal.Gen.facts,
  frame_halves, frame_halvesIdeal, frame_halvesRefIdeal, frame_halvesRef, frame_chips, frame_chipsIdeal, frame_chipsRefIdeal, frame_chipsRef, frame_siblings, frame_siblingsIdeal, frame_siblingsRefIdeal, frame_siblingsRef, frame_weights, frame_weightsIdeal, frame_weightsRefIdeal, frame_weightsRef,
  frame_pieces, frame_piecesIdeal, frame_piecesRefIdeal,
  frame_small, frame_smallIdeal, frame_smallRefIdeal,
  Steps.frame_meta, Steps.frame_metaIdeal, Steps.frame_metaRefIdeal,
  Steps.frame_norm, Steps.frame_normIdeal, Steps.frame_normRefIdeal,
  Steps.frame_wIn, Steps.frame_wInIdeal, Steps.frame_wInRefIdeal,
  Steps.frame_convQkv, Steps.frame_convQkvIdeal, Steps.frame_convQkvRefIdeal,
  Steps.frame_aLog, Steps.frame_aLogIdeal, Steps.frame_aLogRefIdeal,
  Steps.frame_gdnNorm, Steps.frame_gdnNormIdeal, Steps.frame_gdnNormRefIdeal,
  Steps.frame_convSc, Steps.frame_convScIdeal, Steps.frame_convScRefIdeal,
  Steps.frame_wOut, Steps.frame_wOutIdeal, Steps.frame_wOutRefIdeal,
  Steps.frame_wGate, Steps.frame_wGateIdeal, Steps.frame_wGateRefIdeal,
  Steps.frame_wDown, Steps.frame_wDownIdeal, Steps.frame_wDownRefIdeal,
  InputGrad.frame, InputGrad.frameIdeal, InputGrad.frameRef,
  MidGrad.frame, MidGrad.frameIdeal, MidGrad.frameRef,
  FirstNorm.frame, FirstNorm.frameIdeal, FirstNorm.frameRef,
  Residual.frame, Residual.frameIdeal, Residual.frameRef,
  Swiglu.frame, Swiglu.frameIdeal, Swiglu.frameRef,
  LossHead.frame, LossHead.frameIdeal, LossHead.frameRef,
  SwigluGrad.frame, SwigluGrad.frameIdeal, SwigluGrad.frameRef,
  Gated.frame, Gated.frameIdeal, Gated.frameRef,
  Gates.frame, Gates.frameIdeal, Gates.frameRef,
  ConvV.frame, ConvV.frameIdeal, ConvV.frameRef,
  ConvK.frame, ConvK.frameIdeal, ConvK.frameRef,
  ConvQ.frame, ConvQ.frameIdeal, ConvQ.frameRef,
  MmProj.frame, MmProj.frameIdeal, MmProj.frameRef,
  MmMix.frame, MmMix.frameIdeal, MmMix.frameRef,
  MmGateUp.frame, MmGateUp.frameIdeal, MmGateUp.frameRef,
  MmDown.frame, MmDown.frameIdeal, MmDown.frameRef,
  MmDact.frame, MmDact.frameIdeal, MmDact.frameRef,
  MmDwDown.frame, MmDwDown.frameIdeal, MmDwDown.frameRef,
  MmDwGateUp.frame, MmDwGateUp.frameIdeal, MmDwGateUp.frameRef,
  MmDu2.frame, MmDu2.frameIdeal, MmDu2.frameRef,
  MmDcat.frame, MmDcat.frameIdeal, MmDcat.frameRef,
  MmDwOut.frame, MmDwOut.frameIdeal, MmDwOut.frameRef,
  MmDwIn.frame, MmDwIn.frameIdeal, MmDwIn.frameRef,
  MmDu1.frame, MmDu1.frameIdeal, MmDu1.frameRef,
  trivial, algebraic_halves, bitexact_halves, trivial, algebraic_chips, bitexact_chips, trivial, algebraic_siblings, bitexact_siblings, trivial, algebraic_weights, bitexact_weights,
  trivial, algebraic_pieces,
  trivial, algebraic_small,
  trivial, Steps.algebraic_meta,
  trivial, Steps.algebraic_norm,
  trivial, Steps.algebraic_wIn,
  trivial, Steps.algebraic_convQkv,
  trivial, Steps.algebraic_aLog,
  trivial, Steps.algebraic_gdnNorm,
  trivial, Steps.algebraic_convSc,
  trivial, Steps.algebraic_wOut,
  trivial, Steps.algebraic_wGate,
  trivial, Steps.algebraic_wDown,
  trivial, InputGrad.algebraic,
  trivial, MidGrad.algebraic,
  trivial, FirstNorm.algebraic,
  trivial, Residual.algebraic,
  trivial, Swiglu.algebraic,
  trivial, LossHead.algebraic,
  trivial, SwigluGrad.algebraic,
  trivial, Gated.algebraic,
  trivial, Gates.algebraic,
  trivial, ConvV.algebraic,
  trivial, ConvK.algebraic,
  trivial, ConvQ.algebraic,
  trivial, MmProj.algebraic,
  trivial, MmMix.algebraic,
  trivial, MmGateUp.algebraic,
  trivial, MmDown.algebraic,
  trivial, MmDact.algebraic,
  trivial, MmDwDown.algebraic,
  trivial, MmDwGateUp.algebraic,
  trivial, MmDu2.algebraic,
  trivial, MmDcat.algebraic,
  trivial, MmDwOut.algebraic,
  trivial, MmDwIn.algebraic,
  trivial, MmDu1.algebraic⟩

end Cert.Proof

end
